-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_scores_finite [hPre_scores_finite : Cert.Pre_scores_finite.Facts] (m : (ℓ : Loc Cert.MixerIdeal.nD Cert.MixerIdeal.τ Cert.MixerIdeal.sig) → Buf (Elt Ideal) ℓ) : Prop :=
  ∀ c : Dev Cert.MixerIdeal.nD,
    (Cert.Pre_scores_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_scores_finite [hPre_scores_finite : Cert.Pre_scores_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_scores_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15))) = (fun _ => 1#1)

def Pre_TailSample (m : (ℓ : Loc Cert.TailSample.nD Cert.TailSample.τ Cert.TailSample.sig) → Buf (Elt Bits) ℓ) : Prop :=
  True

def Pre_TailSampleIdeal (m : (ℓ : Loc Cert.TailSampleIdeal.nD Cert.TailSampleIdeal.τ Cert.TailSampleIdeal.sig) → Buf (Elt Ideal) ℓ) : Prop :=
  True

def Pre_TailSampleRefIdeal (m : (ℓ : Loc Cert.TailSampleRefIdeal.nD Cert.TailSampleRefIdeal.τ Cert.TailSampleRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_FrontPrompt (m : (ℓ : Loc Cert.FrontPrompt.nD Cert.FrontPrompt.τ Cert.FrontPrompt.sig) → Buf (Elt Bits) ℓ) : Prop :=
  True

def Pre_FrontPromptIdeal (m : (ℓ : Loc Cert.FrontPromptIdeal.nD Cert.FrontPromptIdeal.τ Cert.FrontPromptIdeal.sig) → Buf (Elt Ideal) ℓ) : Prop :=
  True

def Pre_FrontPromptRefIdeal (m : (ℓ : Loc Cert.FrontPromptRefIdeal.nD Cert.FrontPromptRefIdeal.τ Cert.FrontPromptRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ r.2.sem = fun _ => 0)

def quiescent_MixerIdeal_pre_scores_finite [hMixerIdeal : Cert.MixerIdeal.Facts] [hPre_scores_finite : Cert.Pre_scores_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_scores_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15))
      ∧ r.2.sem = fun _ => 0)

def quiescent_MixerRefIdeal_pre_scores_finite [hMixerRefIdeal : Cert.MixerRefIdeal.Facts] [hPre_scores_finite : Cert.Pre_scores_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_scores_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15))
      ∧ r.2.sem = fun _ => 0)

def quiescent_TailSample [hTailSample : Cert.TailSample.Facts] : Prop :=
  ∀ (m : (ℓ : Loc Cert.TailSample.nD Cert.TailSample.τ Cert.TailSample.sig) → Buf (Elt Bits) ℓ) (g : Dev Cert.TailSample.nD → PrngReg), Pre_TailSample m →
    θ_run (Cert.TailSample.defs (F := Bits)) (onTc (τ := Cert.TailSample.τ) (Cert.TailSample.main (F := Bits))) ⟨m, fun _ => 0, g⟩ (fun r => (∀ c : Dev Cert.TailSample.nD,
      r.2.mem ((c.tc : Thread Cert.TailSample.nD Cert.TailSample.τ).loc Cert.TailSample.main_arg0) = m ((c.tc : Thread Cert.TailSample.nD Cert.TailSample.τ).loc Cert.TailSample.main_arg0)
      ∧ r.2.mem ((c.tc : Thread Cert.TailSample.nD Cert.TailSample.τ).loc Cert.TailSample.main_arg1) = m ((c.tc : Thread Cert.TailSample.nD Cert.TailSample.τ).loc Cert.TailSample.main_arg1)
      ∧ r.2.mem ((c.tc : Thread Cert.TailSample.nD Cert.TailSample.τ).loc Cert.TailSample.main_arg2) = m ((c.tc : Thread Cert.TailSample.nD Cert.TailSample.τ).loc Cert.TailSample.main_arg2)
      ∧ r.2.mem ((c.tc : Thread Cert.TailSample.nD Cert.TailSample.τ).loc Cert.TailSample.main_arg3) = m ((c.tc : Thread Cert.TailSample.nD Cert.TailSample.τ).loc Cert.TailSample.main_arg3)
      ∧ r.2.mem ((c.tc : Thread Cert.TailSample.nD Cert.TailSample.τ).loc Cert.TailSample.main_arg4) = m ((c.tc : Thread Cert.TailSample.nD Cert.TailSample.τ).loc Cert.TailSample.main_arg4)
      ∧ r.2.mem ((c.tc : Thread Cert.TailSample.nD Cert.TailSample.τ).loc Cert.TailSample.main_arg5) = m ((c.tc : Thread Cert.TailSample.nD Cert.TailSample.τ).loc Cert.TailSample.main_arg5)
      ∧ r.2.mem ((c.tc : Thread Cert.TailSample.nD Cert.TailSample.τ).loc Cert.TailSample.main_arg6) = m ((c.tc : Thread Cert.TailSample.nD Cert.TailSample.τ).loc Cert.TailSample.main_arg6)
      ∧ r.2.mem ((c.tc : Thread Cert.TailSample.nD Cert.TailSample.τ).loc Cert.TailSample.main_arg7) = m ((c.tc : Thread Cert.TailSample.nD Cert.TailSample.τ).loc Cert.TailSample.main_arg7)
      ∧ r.2.mem ((c.tc : Thread Cert.TailSample.nD Cert.TailSample.τ).loc Cert.TailSample.main_arg8) = m ((c.tc : Thread Cert.TailSample.nD Cert.TailSample.τ).loc Cert.TailSample.main_arg8)
      ∧ r.2.mem ((c.tc : Thread Cert.TailSample.nD Cert.TailSample.τ).loc Cert.TailSample.main_arg9) = m ((c.tc : Thread Cert.TailSample.nD Cert.TailSample.τ).loc Cert.TailSample.main_arg9)
      ∧ r.2.mem ((c.tc : Thread Cert.TailSample.nD Cert.TailSample.τ).loc Cert.TailSample.main_arg10) = m ((c.tc : Thread Cert.TailSample.nD Cert.TailSample.τ).loc Cert.TailSample.main_arg10)
      ∧ r.2.mem ((c.tc : Thread Cert.TailSample.nD Cert.TailSample.τ).loc Cert.TailSample.main_arg11) = m ((c.tc : Thread Cert.TailSample.nD Cert.TailSample.τ).loc Cert.TailSample.main_arg11)
      ∧ r.2.mem ((c.tc : Thread Cert.TailSample.nD Cert.TailSample.τ).loc Cert.TailSample.main_arg12) = m ((c.tc : Thread Cert.TailSample.nD Cert.TailSample.τ).loc Cert.TailSample.main_arg12)
      ∧ r.2.mem ((c.tc : Thread Cert.TailSample.nD Cert.TailSample.τ).loc Cert.TailSample.main_arg13) = m ((c.tc : Thread Cert.TailSample.nD Cert.TailSample.τ).loc Cert.TailSample.main_arg13))
      ∧ r.2.sem = fun _ => 0)

def quiescent_TailSampleIdeal [hTailSampleIdeal : Cert.TailSampleIdeal.Facts] : Prop :=
  ∀ (m : (ℓ : Loc Cert.TailSampleIdeal.nD Cert.TailSampleIdeal.τ Cert.TailSampleIdeal.sig) → Buf (Elt Ideal) ℓ) (g : Dev Cert.TailSampleIdeal.nD → PrngReg), Pre_TailSampleIdeal m →
    θ_run (Cert.TailSampleIdeal.defs (F := Ideal)) (onTc (τ := Cert.TailSampleIdeal.τ) (Cert.TailSampleIdeal.main (F := Ideal))) ⟨m, fun _ => 0, g⟩ (fun r => (∀ c : Dev Cert.TailSampleIdeal.nD,
      r.2.mem ((c.tc : Thread Cert.TailSampleIdeal.nD Cert.TailSampleIdeal.τ).loc Cert.TailSampleIdeal.main_arg0) = m ((c.tc : Thread Cert.TailSampleIdeal.nD Cert.TailSampleIdeal.τ).loc Cert.TailSampleIdeal.main_arg0)
      ∧ r.2.mem ((c.tc : Thread Cert.TailSampleIdeal.nD Cert.TailSampleIdeal.τ).loc Cert.TailSampleIdeal.main_arg1) = m ((c.tc : Thread Cert.TailSampleIdeal.nD Cert.TailSampleIdeal.τ).loc Cert.TailSampleIdeal.main_arg1)
      ∧ r.2.mem ((c.tc : Thread Cert.TailSampleIdeal.nD Cert.TailSampleIdeal.τ).loc Cert.TailSampleIdeal.main_arg2) = m ((c.tc : Thread Cert.TailSampleIdeal.nD Cert.TailSampleIdeal.τ).loc Cert.TailSampleIdeal.main_arg2)
      ∧ r.2.mem ((c.tc : Thread Cert.TailSampleIdeal.nD Cert.TailSampleIdeal.τ).loc Cert.TailSampleIdeal.main_arg3) = m ((c.tc : Thread Cert.TailSampleIdeal.nD Cert.TailSampleIdeal.τ).loc Cert.TailSampleIdeal.main_arg3)
      ∧ r.2.mem ((c.tc : Thread Cert.TailSampleIdeal.nD Cert.TailSampleIdeal.τ).loc Cert.TailSampleIdeal.main_arg4) = m ((c.tc : Thread Cert.TailSampleIdeal.nD Cert.TailSampleIdeal.τ).loc Cert.TailSampleIdeal.main_arg4)
      ∧ r.2.mem ((c.tc : Thread Cert.TailSampleIdeal.nD Cert.TailSampleIdeal.τ).loc Cert.TailSampleIdeal.main_arg5) = m ((c.tc : Thread Cert.TailSampleIdeal.nD Cert.TailSampleIdeal.τ).loc Cert.TailSampleIdeal.main_arg5)
      ∧ r.2.mem ((c.tc : Thread Cert.TailSampleIdeal.nD Cert.TailSampleIdeal.τ).loc Cert.TailSampleIdeal.main_arg6) = m ((c.tc : Thread Cert.TailSampleIdeal.nD Cert.TailSampleIdeal.τ).loc Cert.TailSampleIdeal.main_arg6)
      ∧ r.2.mem ((c.tc : Thread Cert.TailSampleIdeal.nD Cert.TailSampleIdeal.τ).loc Cert.TailSampleIdeal.main_arg7) = m ((c.tc : Thread Cert.TailSampleIdeal.nD Cert.TailSampleIdeal.τ).loc Cert.TailSampleIdeal.main_arg7)
      ∧ r.2.mem ((c.tc : Thread Cert.TailSampleIdeal.nD Cert.TailSampleIdeal.τ).loc Cert.TailSampleIdeal.main_arg8) = m ((c.tc : Thread Cert.TailSampleIdeal.nD Cert.TailSampleIdeal.τ).loc Cert.TailSampleIdeal.main_arg8)
      ∧ r.2.mem ((c.tc : Thread Cert.TailSampleIdeal.nD Cert.TailSampleIdeal.τ).loc Cert.TailSampleIdeal.main_arg9) = m ((c.tc : Thread Cert.TailSampleIdeal.nD Cert.TailSampleIdeal.τ).loc Cert.TailSampleIdeal.main_arg9)
      ∧ r.2.mem ((c.tc : Thread Cert.TailSampleIdeal.nD Cert.TailSampleIdeal.τ).loc Cert.TailSampleIdeal.main_arg10) = m ((c.tc : Thread Cert.TailSampleIdeal.nD Cert.TailSampleIdeal.τ).loc Cert.TailSampleIdeal.main_arg10)
      ∧ r.2.mem ((c.tc : Thread Cert.TailSampleIdeal.nD Cert.TailSampleIdeal.τ).loc Cert.TailSampleIdeal.main_arg11) = m ((c.tc : Thread Cert.TailSampleIdeal.nD Cert.TailSampleIdeal.τ).loc Cert.TailSampleIdeal.main_arg11)
      ∧ r.2.mem ((c.tc : Thread Cert.TailSampleIdeal.nD Cert.TailSampleIdeal.τ).loc Cert.TailSampleIdeal.main_arg12) = m ((c.tc : Thread Cert.TailSampleIdeal.nD Cert.TailSampleIdeal.τ).loc Cert.TailSampleIdeal.main_arg12)
      ∧ r.2.mem ((c.tc : Thread Cert.TailSampleIdeal.nD Cert.TailSampleIdeal.τ).loc Cert.TailSampleIdeal.main_arg13) = m ((c.tc : Thread Cert.TailSampleIdeal.nD Cert.TailSampleIdeal.τ).loc Cert.TailSampleIdeal.main_arg13))
      ∧ r.2.sem = fun _ => 0)

def quiescent_TailSampleRefIdeal [hTailSampleRefIdeal : Cert.TailSampleRefIdeal.Facts] : Prop :=
  ∀ (m : (ℓ : Loc Cert.TailSampleRefIdeal.nD Cert.TailSampleRefIdeal.τ Cert.TailSampleRefIdeal.sig) → Buf (Elt Ideal) ℓ) (g : Dev Cert.TailSampleRefIdeal.nD → PrngReg), Pre_TailSampleRefIdeal m →
    θ_run (Cert.TailSampleRefIdeal.defs (F := Ideal)) (onTc (τ := Cert.TailSampleRefIdeal.τ) (Cert.TailSampleRefIdeal.main (F := Ideal))) ⟨m, fun _ => 0, g⟩ (fun r => (∀ c : Dev Cert.TailSampleRefIdeal.nD,
      r.2.mem ((c.tc : Thread Cert.TailSampleRefIdeal.nD Cert.TailSampleRefIdeal.τ).loc Cert.TailSampleRefIdeal.main_arg0) = m ((c.tc : Thread Cert.TailSampleRefIdeal.nD Cert.TailSampleRefIdeal.τ).loc Cert.TailSampleRefIdeal.main_arg0)
      ∧ r.2.mem ((c.tc : Thread Cert.TailSampleRefIdeal.nD Cert.TailSampleRefIdeal.τ).loc Cert.TailSampleRefIdeal.main_arg1) = m ((c.tc : Thread Cert.TailSampleRefIdeal.nD Cert.TailSampleRefIdeal.τ).loc Cert.TailSampleRefIdeal.main_arg1)
      ∧ r.2.mem ((c.tc : Thread Cert.TailSampleRefIdeal.nD Cert.TailSampleRefIdeal.τ).loc Cert.TailSampleRefIdeal.main_arg2) = m ((c.tc : Thread Cert.TailSampleRefIdeal.nD Cert.TailSampleRefIdeal.τ).loc Cert.TailSampleRefIdeal.main_arg2)
      ∧ r.2.mem ((c.tc : Thread Cert.TailSampleRefIdeal.nD Cert.TailSampleRefIdeal.τ).loc Cert.TailSampleRefIdeal.main_arg3) = m ((c.tc : Thread Cert.TailSampleRefIdeal.nD Cert.TailSampleRefIdeal.τ).loc Cert.TailSampleRefIdeal.main_arg3)
      ∧ r.2.mem ((c.tc : Thread Cert.TailSampleRefIdeal.nD Cert.TailSampleRefIdeal.τ).loc Cert.TailSampleRefIdeal.main_arg4) = m ((c.tc : Thread Cert.TailSampleRefIdeal.nD Cert.TailSampleRefIdeal.τ).loc Cert.TailSampleRefIdeal.main_arg4)
      ∧ r.2.mem ((c.tc : Thread Cert.TailSampleRefIdeal.nD Cert.TailSampleRefIdeal.τ).loc Cert.TailSampleRefIdeal.main_arg5) = m ((c.tc : Thread Cert.TailSampleRefIdeal.nD Cert.TailSampleRefIdeal.τ).loc Cert.TailSampleRefIdeal.main_arg5)
      ∧ r.2.mem ((c.tc : Thread Cert.TailSampleRefIdeal.nD Cert.TailSampleRefIdeal.τ).loc Cert.TailSampleRefIdeal.main_arg6) = m ((c.tc : Thread Cert.TailSampleRefIdeal.nD Cert.TailSampleRefIdeal.τ).loc Cert.TailSampleRefIdeal.main_arg6)
      ∧ r.2.mem ((c.tc : Thread Cert.TailSampleRefIdeal.nD Cert.TailSampleRefIdeal.τ).loc Cert.TailSampleRefIdeal.main_arg7) = m ((c.tc : Thread Cert.TailSampleRefIdeal.nD Cert.TailSampleRefIdeal.τ).loc Cert.TailSampleRefIdeal.main_arg7)
      ∧ r.2.mem ((c.tc : Thread Cert.TailSampleRefIdeal.nD Cert.TailSampleRefIdeal.τ).loc Cert.TailSampleRefIdeal.main_arg8) = m ((c.tc : Thread Cert.TailSampleRefIdeal.nD Cert.TailSampleRefIdeal.τ).loc Cert.TailSampleRefIdeal.main_arg8)
      ∧ r.2.mem ((c.tc : Thread Cert.TailSampleRefIdeal.nD Cert.TailSampleRefIdeal.τ).loc Cert.TailSampleRefIdeal.main_arg9) = m ((c.tc : Thread Cert.TailSampleRefIdeal.nD Cert.TailSampleRefIdeal.τ).loc Cert.TailSampleRefIdeal.main_arg9)
      ∧ r.2.mem ((c.tc : Thread Cert.TailSampleRefIdeal.nD Cert.TailSampleRefIdeal.τ).loc Cert.TailSampleRefIdeal.main_arg10) = m ((c.tc : Thread Cert.TailSampleRefIdeal.nD Cert.TailSampleRefIdeal.τ).loc Cert.TailSampleRefIdeal.main_arg10)
      ∧ r.2.mem ((c.tc : Thread Cert.TailSampleRefIdeal.nD Cert.TailSampleRefIdeal.τ).loc Cert.TailSampleRefIdeal.main_arg11) = m ((c.tc : Thread Cert.TailSampleRefIdeal.nD Cert.TailSampleRefIdeal.τ).loc Cert.TailSampleRefIdeal.main_arg11)
      ∧ r.2.mem ((c.tc : Thread Cert.TailSampleRefIdeal.nD Cert.TailSampleRefIdeal.τ).loc Cert.TailSampleRefIdeal.main_arg12) = m ((c.tc : Thread Cert.TailSampleRefIdeal.nD Cert.TailSampleRefIdeal.τ).loc Cert.TailSampleRefIdeal.main_arg12)
      ∧ r.2.mem ((c.tc : Thread Cert.TailSampleRefIdeal.nD Cert.TailSampleRefIdeal.τ).loc Cert.TailSampleRefIdeal.main_arg13) = m ((c.tc : Thread Cert.TailSampleRefIdeal.nD Cert.TailSampleRefIdeal.τ).loc Cert.TailSampleRefIdeal.main_arg13))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6))
      ∧ r.2.sem = fun _ => 0)

def quiescent_FrontPrompt [hFrontPrompt : Cert.FrontPrompt.Facts] : Prop :=
  ∀ (m : (ℓ : Loc Cert.FrontPrompt.nD Cert.FrontPrompt.τ Cert.FrontPrompt.sig) → Buf (Elt Bits) ℓ) (g : Dev Cert.FrontPrompt.nD → PrngReg), Pre_FrontPrompt m →
    θ_run (Cert.FrontPrompt.defs (F := Bits)) (onTc (τ := Cert.FrontPrompt.τ) (Cert.FrontPrompt.main (F := Bits))) ⟨m, fun _ => 0, g⟩ (fun r => (∀ c : Dev Cert.FrontPrompt.nD,
      r.2.mem ((c.tc : Thread Cert.FrontPrompt.nD Cert.FrontPrompt.τ).loc Cert.FrontPrompt.main_arg0) = m ((c.tc : Thread Cert.FrontPrompt.nD Cert.FrontPrompt.τ).loc Cert.FrontPrompt.main_arg0)
      ∧ r.2.mem ((c.tc : Thread Cert.FrontPrompt.nD Cert.FrontPrompt.τ).loc Cert.FrontPrompt.main_arg1) = m ((c.tc : Thread Cert.FrontPrompt.nD Cert.FrontPrompt.τ).loc Cert.FrontPrompt.main_arg1)
      ∧ r.2.mem ((c.tc : Thread Cert.FrontPrompt.nD Cert.FrontPrompt.τ).loc Cert.FrontPrompt.main_arg2) = m ((c.tc : Thread Cert.FrontPrompt.nD Cert.FrontPrompt.τ).loc Cert.FrontPrompt.main_arg2)
      ∧ r.2.mem ((c.tc : Thread Cert.FrontPrompt.nD Cert.FrontPrompt.τ).loc Cert.FrontPrompt.main_arg3) = m ((c.tc : Thread Cert.FrontPrompt.nD Cert.FrontPrompt.τ).loc Cert.FrontPrompt.main_arg3)
      ∧ r.2.mem ((c.tc : Thread Cert.FrontPrompt.nD Cert.FrontPrompt.τ).loc Cert.FrontPrompt.main_arg4) = m ((c.tc : Thread Cert.FrontPrompt.nD Cert.FrontPrompt.τ).loc Cert.FrontPrompt.main_arg4)
      ∧ r.2.mem ((c.tc : Thread Cert.FrontPrompt.nD Cert.FrontPrompt.τ).loc Cert.FrontPrompt.main_arg5) = m ((c.tc : Thread Cert.FrontPrompt.nD Cert.FrontPrompt.τ).loc Cert.FrontPrompt.main_arg5)
      ∧ r.2.mem ((c.tc : Thread Cert.FrontPrompt.nD Cert.FrontPrompt.τ).loc Cert.FrontPrompt.main_arg6) = m ((c.tc : Thread Cert.FrontPrompt.nD Cert.FrontPrompt.τ).loc Cert.FrontPrompt.main_arg6))
      ∧ r.2.sem = fun _ => 0)

def quiescent_FrontPromptIdeal [hFrontPromptIdeal : Cert.FrontPromptIdeal.Facts] : Prop :=
  ∀ (m : (ℓ : Loc Cert.FrontPromptIdeal.nD Cert.FrontPromptIdeal.τ Cert.FrontPromptIdeal.sig) → Buf (Elt Ideal) ℓ) (g : Dev Cert.FrontPromptIdeal.nD → PrngReg), Pre_FrontPromptIdeal m →
    θ_run (Cert.FrontPromptIdeal.defs (F := Ideal)) (onTc (τ := Cert.FrontPromptIdeal.τ) (Cert.FrontPromptIdeal.main (F := Ideal))) ⟨m, fun _ => 0, g⟩ (fun r => (∀ c : Dev Cert.FrontPromptIdeal.nD,
      r.2.mem ((c.tc : Thread Cert.FrontPromptIdeal.nD Cert.FrontPromptIdeal.τ).loc Cert.FrontPromptIdeal.main_arg0) = m ((c.tc : Thread Cert.FrontPromptIdeal.nD Cert.FrontPromptIdeal.τ).loc Cert.FrontPromptIdeal.main_arg0)
      ∧ r.2.mem ((c.tc : Thread Cert.FrontPromptIdeal.nD Cert.FrontPromptIdeal.τ).loc Cert.FrontPromptIdeal.main_arg1) = m ((c.tc : Thread Cert.FrontPromptIdeal.nD Cert.FrontPromptIdeal.τ).loc Cert.FrontPromptIdeal.main_arg1)
      ∧ r.2.mem ((c.tc : Thread Cert.FrontPromptIdeal.nD Cert.FrontPromptIdeal.τ).loc Cert.FrontPromptIdeal.main_arg2) = m ((c.tc : Thread Cert.FrontPromptIdeal.nD Cert.FrontPromptIdeal.τ).loc Cert.FrontPromptIdeal.main_arg2)
      ∧ r.2.mem ((c.tc : Thread Cert.FrontPromptIdeal.nD Cert.FrontPromptIdeal.τ).loc Cert.FrontPromptIdeal.main_arg3) = m ((c.tc : Thread Cert.FrontPromptIdeal.nD Cert.FrontPromptIdeal.τ).loc Cert.FrontPromptIdeal.main_arg3)
      ∧ r.2.mem ((c.tc : Thread Cert.FrontPromptIdeal.nD Cert.FrontPromptIdeal.τ).loc Cert.FrontPromptIdeal.main_arg4) = m ((c.tc : Thread Cert.FrontPromptIdeal.nD Cert.FrontPromptIdeal.τ).loc Cert.FrontPromptIdeal.main_arg4)
      ∧ r.2.mem ((c.tc : Thread Cert.FrontPromptIdeal.nD Cert.FrontPromptIdeal.τ).loc Cert.FrontPromptIdeal.main_arg5) = m ((c.tc : Thread Cert.FrontPromptIdeal.nD Cert.FrontPromptIdeal.τ).loc Cert.FrontPromptIdeal.main_arg5)
      ∧ r.2.mem ((c.tc : Thread Cert.FrontPromptIdeal.nD Cert.FrontPromptIdeal.τ).loc Cert.FrontPromptIdeal.main_arg6) = m ((c.tc : Thread Cert.FrontPromptIdeal.nD Cert.FrontPromptIdeal.τ).loc Cert.FrontPromptIdeal.main_arg6))
      ∧ r.2.sem = fun _ => 0)

def quiescent_FrontPromptRefIdeal [hFrontPromptRefIdeal : Cert.FrontPromptRefIdeal.Facts] : Prop :=
  ∀ (m : (ℓ : Loc Cert.FrontPromptRefIdeal.nD Cert.FrontPromptRefIdeal.τ Cert.FrontPromptRefIdeal.sig) → Buf (Elt Ideal) ℓ) (g : Dev Cert.FrontPromptRefIdeal.nD → PrngReg), Pre_FrontPromptRefIdeal m →
    θ_run (Cert.FrontPromptRefIdeal.defs (F := Ideal)) (onTc (τ := Cert.FrontPromptRefIdeal.τ) (Cert.FrontPromptRefIdeal.main (F := Ideal))) ⟨m, fun _ => 0, g⟩ (fun r => (∀ c : Dev Cert.FrontPromptRefIdeal.nD,
      r.2.mem ((c.tc : Thread Cert.FrontPromptRefIdeal.nD Cert.FrontPromptRefIdeal.τ).loc Cert.FrontPromptRefIdeal.main_arg0) = m ((c.tc : Thread Cert.FrontPromptRefIdeal.nD Cert.FrontPromptRefIdeal.τ).loc Cert.FrontPromptRefIdeal.main_arg0)
      ∧ r.2.mem ((c.tc : Thread Cert.FrontPromptRefIdeal.nD Cert.FrontPromptRefIdeal.τ).loc Cert.FrontPromptRefIdeal.main_arg1) = m ((c.tc : Thread Cert.FrontPromptRefIdeal.nD Cert.FrontPromptRefIdeal.τ).loc Cert.FrontPromptRefIdeal.main_arg1)
      ∧ r.2.mem ((c.tc : Thread Cert.FrontPromptRefIdeal.nD Cert.FrontPromptRefIdeal.τ).loc Cert.FrontPromptRefIdeal.main_arg2) = m ((c.tc : Thread Cert.FrontPromptRefIdeal.nD Cert.FrontPromptRefIdeal.τ).loc Cert.FrontPromptRefIdeal.main_arg2)
      ∧ r.2.mem ((c.tc : Thread Cert.FrontPromptRefIdeal.nD Cert.FrontPromptRefIdeal.τ).loc Cert.FrontPromptRefIdeal.main_arg3) = m ((c.tc : Thread Cert.FrontPromptRefIdeal.nD Cert.FrontPromptRefIdeal.τ).loc Cert.FrontPromptRefIdeal.main_arg3)
      ∧ r.2.mem ((c.tc : Thread Cert.FrontPromptRefIdeal.nD Cert.FrontPromptRefIdeal.τ).loc Cert.FrontPromptRefIdeal.main_arg4) = m ((c.tc : Thread Cert.FrontPromptRefIdeal.nD Cert.FrontPromptRefIdeal.τ).loc Cert.FrontPromptRefIdeal.main_arg4)
      ∧ r.2.mem ((c.tc : Thread Cert.FrontPromptRefIdeal.nD Cert.FrontPromptRefIdeal.τ).loc Cert.FrontPromptRefIdeal.main_arg5) = m ((c.tc : Thread Cert.FrontPromptRefIdeal.nD Cert.FrontPromptRefIdeal.τ).loc Cert.FrontPromptRefIdeal.main_arg5)
      ∧ r.2.mem ((c.tc : Thread Cert.FrontPromptRefIdeal.nD Cert.FrontPromptRefIdeal.τ).loc Cert.FrontPromptRefIdeal.main_arg6) = m ((c.tc : Thread Cert.FrontPromptRefIdeal.nD Cert.FrontPromptRefIdeal.τ).loc Cert.FrontPromptRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Mixer_MixerIdeal : Prop :=
  True

def algebraic_MixerIdeal_MixerRefIdeal_pre_scores_finite [hMixerIdeal : Cert.MixerIdeal.Facts] [hMixerRefIdeal : Cert.MixerRefIdeal.Facts] [hPre_scores_finite : Cert.Pre_scores_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_scores_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)) →
    ∃ (v0 : (c : Dev Cert.MixerIdeal.nD) → Buf (Elt Ideal) ((c.tc : Thread Cert.MixerIdeal.nD Cert.MixerIdeal.τ).loc Cert.MixerIdeal.main_v27_2)) (v1 : (c : Dev Cert.MixerIdeal.nD) → Buf (Elt Ideal) ((c.tc : Thread Cert.MixerIdeal.nD Cert.MixerIdeal.τ).loc Cert.MixerIdeal.main_v27_3)) (v2 : (c : Dev Cert.MixerIdeal.nD) → Buf (Elt Ideal) ((c.tc : Thread Cert.MixerIdeal.nD Cert.MixerIdeal.τ).loc Cert.MixerIdeal.main_v27_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v27_2) = v0 c
          ∧ r.2.mem ((c.tc : Thread Cert.MixerIdeal.nD Cert.MixerIdeal.τ).loc Cert.MixerIdeal.main_v27_3) = v1 c
          ∧ r.2.mem ((c.tc : Thread Cert.MixerIdeal.nD Cert.MixerIdeal.τ).loc Cert.MixerIdeal.main_v27_4) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v47) = v0 c
          ∧ r.2.mem ((c.tc : Thread Cert.MixerRefIdeal.nD Cert.MixerRefIdeal.τ).loc Cert.MixerRefIdeal.main_v52) = v1 c
          ∧ r.2.mem ((c.tc : Thread Cert.MixerRefIdeal.nD Cert.MixerRefIdeal.τ).loc Cert.MixerRefIdeal.main_v57) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15))

def preserves_TailSample_TailSampleIdeal : Prop :=
  True

def algebraic_TailSampleIdeal_TailSampleRefIdeal [hTailSampleIdeal : Cert.TailSampleIdeal.Facts] [hTailSampleRefIdeal : Cert.TailSampleRefIdeal.Facts] : Prop :=
  ∀ (m : (ℓ : Loc Cert.TailSampleIdeal.nD Cert.TailSampleIdeal.τ Cert.TailSampleIdeal.sig) → Buf (Elt Ideal) ℓ) (g : Dev Cert.TailSampleIdeal.nD → PrngReg)
    (m' : (ℓ : Loc Cert.TailSampleRefIdeal.nD Cert.TailSampleRefIdeal.τ Cert.TailSampleRefIdeal.sig) → Buf (Elt Ideal) ℓ) (g' : Dev Cert.TailSampleRefIdeal.nD → PrngReg), Pre_TailSampleIdeal m →
    (∀ c : Dev Cert.TailSampleIdeal.nD,
      m' ((c.tc : Thread Cert.TailSampleRefIdeal.nD Cert.TailSampleRefIdeal.τ).loc Cert.TailSampleRefIdeal.main_arg0) = m ((c.tc : Thread Cert.TailSampleIdeal.nD Cert.TailSampleIdeal.τ).loc Cert.TailSampleIdeal.main_arg0)
      ∧ m' ((c.tc : Thread Cert.TailSampleRefIdeal.nD Cert.TailSampleRefIdeal.τ).loc Cert.TailSampleRefIdeal.main_arg1) = m ((c.tc : Thread Cert.TailSampleIdeal.nD Cert.TailSampleIdeal.τ).loc Cert.TailSampleIdeal.main_arg1)
      ∧ m' ((c.tc : Thread Cert.TailSampleRefIdeal.nD Cert.TailSampleRefIdeal.τ).loc Cert.TailSampleRefIdeal.main_arg2) = m ((c.tc : Thread Cert.TailSampleIdeal.nD Cert.TailSampleIdeal.τ).loc Cert.TailSampleIdeal.main_arg2)
      ∧ m' ((c.tc : Thread Cert.TailSampleRefIdeal.nD Cert.TailSampleRefIdeal.τ).loc Cert.TailSampleRefIdeal.main_arg3) = m ((c.tc : Thread Cert.TailSampleIdeal.nD Cert.TailSampleIdeal.τ).loc Cert.TailSampleIdeal.main_arg3)
      ∧ m' ((c.tc : Thread Cert.TailSampleRefIdeal.nD Cert.TailSampleRefIdeal.τ).loc Cert.TailSampleRefIdeal.main_arg4) = m ((c.tc : Thread Cert.TailSampleIdeal.nD Cert.TailSampleIdeal.τ).loc Cert.TailSampleIdeal.main_arg4)
      ∧ m' ((c.tc : Thread Cert.TailSampleRefIdeal.nD Cert.TailSampleRefIdeal.τ).loc Cert.TailSampleRefIdeal.main_arg5) = m ((c.tc : Thread Cert.TailSampleIdeal.nD Cert.TailSampleIdeal.τ).loc Cert.TailSampleIdeal.main_arg5)
      ∧ m' ((c.tc : Thread Cert.TailSampleRefIdeal.nD Cert.TailSampleRefIdeal.τ).loc Cert.TailSampleRefIdeal.main_arg6) = m ((c.tc : Thread Cert.TailSampleIdeal.nD Cert.TailSampleIdeal.τ).loc Cert.TailSampleIdeal.main_arg6)
      ∧ m' ((c.tc : Thread Cert.TailSampleRefIdeal.nD Cert.TailSampleRefIdeal.τ).loc Cert.TailSampleRefIdeal.main_arg7) = m ((c.tc : Thread Cert.TailSampleIdeal.nD Cert.TailSampleIdeal.τ).loc Cert.TailSampleIdeal.main_arg7)
      ∧ m' ((c.tc : Thread Cert.TailSampleRefIdeal.nD Cert.TailSampleRefIdeal.τ).loc Cert.TailSampleRefIdeal.main_arg8) = m ((c.tc : Thread Cert.TailSampleIdeal.nD Cert.TailSampleIdeal.τ).loc Cert.TailSampleIdeal.main_arg8)
      ∧ m' ((c.tc : Thread Cert.TailSampleRefIdeal.nD Cert.TailSampleRefIdeal.τ).loc Cert.TailSampleRefIdeal.main_arg9) = m ((c.tc : Thread Cert.TailSampleIdeal.nD Cert.TailSampleIdeal.τ).loc Cert.TailSampleIdeal.main_arg9)
      ∧ m' ((c.tc : Thread Cert.TailSampleRefIdeal.nD Cert.TailSampleRefIdeal.τ).loc Cert.TailSampleRefIdeal.main_arg10) = m ((c.tc : Thread Cert.TailSampleIdeal.nD Cert.TailSampleIdeal.τ).loc Cert.TailSampleIdeal.main_arg10)
      ∧ m' ((c.tc : Thread Cert.TailSampleRefIdeal.nD Cert.TailSampleRefIdeal.τ).loc Cert.TailSampleRefIdeal.main_arg11) = m ((c.tc : Thread Cert.TailSampleIdeal.nD Cert.TailSampleIdeal.τ).loc Cert.TailSampleIdeal.main_arg11)
      ∧ m' ((c.tc : Thread Cert.TailSampleRefIdeal.nD Cert.TailSampleRefIdeal.τ).loc Cert.TailSampleRefIdeal.main_arg12) = m ((c.tc : Thread Cert.TailSampleIdeal.nD Cert.TailSampleIdeal.τ).loc Cert.TailSampleIdeal.main_arg12)
      ∧ m' ((c.tc : Thread Cert.TailSampleRefIdeal.nD Cert.TailSampleRefIdeal.τ).loc Cert.TailSampleRefIdeal.main_arg13) = m ((c.tc : Thread Cert.TailSampleIdeal.nD Cert.TailSampleIdeal.τ).loc Cert.TailSampleIdeal.main_arg13)) →
    ∃ (v0 : (c : Dev Cert.TailSampleIdeal.nD) → Buf (Elt Ideal) ((c.tc : Thread Cert.TailSampleIdeal.nD Cert.TailSampleIdeal.τ).loc Cert.TailSampleIdeal.main_v20)),
      θ_run (Cert.TailSampleIdeal.defs (F := Ideal)) (onTc (τ := Cert.TailSampleIdeal.τ) (Cert.TailSampleIdeal.main (F := Ideal))) ⟨m, fun _ => 0, g⟩ (fun r => ∀ c : Dev Cert.TailSampleIdeal.nD,
          r.2.mem ((c.tc : Thread Cert.TailSampleIdeal.nD Cert.TailSampleIdeal.τ).loc Cert.TailSampleIdeal.main_v20) = v0 c
          ∧ r.2.mem ((c.tc : Thread Cert.TailSampleIdeal.nD Cert.TailSampleIdeal.τ).loc Cert.TailSampleIdeal.main_arg0) = m ((c.tc : Thread Cert.TailSampleIdeal.nD Cert.TailSampleIdeal.τ).loc Cert.TailSampleIdeal.main_arg0)
          ∧ r.2.mem ((c.tc : Thread Cert.TailSampleIdeal.nD Cert.TailSampleIdeal.τ).loc Cert.TailSampleIdeal.main_arg1) = m ((c.tc : Thread Cert.TailSampleIdeal.nD Cert.TailSampleIdeal.τ).loc Cert.TailSampleIdeal.main_arg1)
          ∧ r.2.mem ((c.tc : Thread Cert.TailSampleIdeal.nD Cert.TailSampleIdeal.τ).loc Cert.TailSampleIdeal.main_arg2) = m ((c.tc : Thread Cert.TailSampleIdeal.nD Cert.TailSampleIdeal.τ).loc Cert.TailSampleIdeal.main_arg2)
          ∧ r.2.mem ((c.tc : Thread Cert.TailSampleIdeal.nD Cert.TailSampleIdeal.τ).loc Cert.TailSampleIdeal.main_arg3) = m ((c.tc : Thread Cert.TailSampleIdeal.nD Cert.TailSampleIdeal.τ).loc Cert.TailSampleIdeal.main_arg3)
          ∧ r.2.mem ((c.tc : Thread Cert.TailSampleIdeal.nD Cert.TailSampleIdeal.τ).loc Cert.TailSampleIdeal.main_arg4) = m ((c.tc : Thread Cert.TailSampleIdeal.nD Cert.TailSampleIdeal.τ).loc Cert.TailSampleIdeal.main_arg4)
          ∧ r.2.mem ((c.tc : Thread Cert.TailSampleIdeal.nD Cert.TailSampleIdeal.τ).loc Cert.TailSampleIdeal.main_arg5) = m ((c.tc : Thread Cert.TailSampleIdeal.nD Cert.TailSampleIdeal.τ).loc Cert.TailSampleIdeal.main_arg5)
          ∧ r.2.mem ((c.tc : Thread Cert.TailSampleIdeal.nD Cert.TailSampleIdeal.τ).loc Cert.TailSampleIdeal.main_arg6) = m ((c.tc : Thread Cert.TailSampleIdeal.nD Cert.TailSampleIdeal.τ).loc Cert.TailSampleIdeal.main_arg6)
          ∧ r.2.mem ((c.tc : Thread Cert.TailSampleIdeal.nD Cert.TailSampleIdeal.τ).loc Cert.TailSampleIdeal.main_arg7) = m ((c.tc : Thread Cert.TailSampleIdeal.nD Cert.TailSampleIdeal.τ).loc Cert.TailSampleIdeal.main_arg7)
          ∧ r.2.mem ((c.tc : Thread Cert.TailSampleIdeal.nD Cert.TailSampleIdeal.τ).loc Cert.TailSampleIdeal.main_arg8) = m ((c.tc : Thread Cert.TailSampleIdeal.nD Cert.TailSampleIdeal.τ).loc Cert.TailSampleIdeal.main_arg8)
          ∧ r.2.mem ((c.tc : Thread Cert.TailSampleIdeal.nD Cert.TailSampleIdeal.τ).loc Cert.TailSampleIdeal.main_arg9) = m ((c.tc : Thread Cert.TailSampleIdeal.nD Cert.TailSampleIdeal.τ).loc Cert.TailSampleIdeal.main_arg9)
          ∧ r.2.mem ((c.tc : Thread Cert.TailSampleIdeal.nD Cert.TailSampleIdeal.τ).loc Cert.TailSampleIdeal.main_arg10) = m ((c.tc : Thread Cert.TailSampleIdeal.nD Cert.TailSampleIdeal.τ).loc Cert.TailSampleIdeal.main_arg10)
          ∧ r.2.mem ((c.tc : Thread Cert.TailSampleIdeal.nD Cert.TailSampleIdeal.τ).loc Cert.TailSampleIdeal.main_arg11) = m ((c.tc : Thread Cert.TailSampleIdeal.nD Cert.TailSampleIdeal.τ).loc Cert.TailSampleIdeal.main_arg11)
          ∧ r.2.mem ((c.tc : Thread Cert.TailSampleIdeal.nD Cert.TailSampleIdeal.τ).loc Cert.TailSampleIdeal.main_arg12) = m ((c.tc : Thread Cert.TailSampleIdeal.nD Cert.TailSampleIdeal.τ).loc Cert.TailSampleIdeal.main_arg12)
          ∧ r.2.mem ((c.tc : Thread Cert.TailSampleIdeal.nD Cert.TailSampleIdeal.τ).loc Cert.TailSampleIdeal.main_arg13) = m ((c.tc : Thread Cert.TailSampleIdeal.nD Cert.TailSampleIdeal.τ).loc Cert.TailSampleIdeal.main_arg13))
      ∧ θ_run (Cert.TailSampleRefIdeal.defs (F := Ideal)) (onTc (τ := Cert.TailSampleRefIdeal.τ) (Cert.TailSampleRefIdeal.main (F := Ideal))) ⟨m', fun _ => 0, g'⟩ (fun r => ∀ c : Dev Cert.TailSampleRefIdeal.nD,
          r.2.mem ((c.tc : Thread Cert.TailSampleRefIdeal.nD Cert.TailSampleRefIdeal.τ).loc Cert.TailSampleRefIdeal.main_v100) = v0 c
          ∧ r.2.mem ((c.tc : Thread Cert.TailSampleRefIdeal.nD Cert.TailSampleRefIdeal.τ).loc Cert.TailSampleRefIdeal.main_arg0) = m' ((c.tc : Thread Cert.TailSampleRefIdeal.nD Cert.TailSampleRefIdeal.τ).loc Cert.TailSampleRefIdeal.main_arg0)
          ∧ r.2.mem ((c.tc : Thread Cert.TailSampleRefIdeal.nD Cert.TailSampleRefIdeal.τ).loc Cert.TailSampleRefIdeal.main_arg1) = m' ((c.tc : Thread Cert.TailSampleRefIdeal.nD Cert.TailSampleRefIdeal.τ).loc Cert.TailSampleRefIdeal.main_arg1)
          ∧ r.2.mem ((c.tc : Thread Cert.TailSampleRefIdeal.nD Cert.TailSampleRefIdeal.τ).loc Cert.TailSampleRefIdeal.main_arg2) = m' ((c.tc : Thread Cert.TailSampleRefIdeal.nD Cert.TailSampleRefIdeal.τ).loc Cert.TailSampleRefIdeal.main_arg2)
          ∧ r.2.mem ((c.tc : Thread Cert.TailSampleRefIdeal.nD Cert.TailSampleRefIdeal.τ).loc Cert.TailSampleRefIdeal.main_arg3) = m' ((c.tc : Thread Cert.TailSampleRefIdeal.nD Cert.TailSampleRefIdeal.τ).loc Cert.TailSampleRefIdeal.main_arg3)
          ∧ r.2.mem ((c.tc : Thread Cert.TailSampleRefIdeal.nD Cert.TailSampleRefIdeal.τ).loc Cert.TailSampleRefIdeal.main_arg4) = m' ((c.tc : Thread Cert.TailSampleRefIdeal.nD Cert.TailSampleRefIdeal.τ).loc Cert.TailSampleRefIdeal.main_arg4)
          ∧ r.2.mem ((c.tc : Thread Cert.TailSampleRefIdeal.nD Cert.TailSampleRefIdeal.τ).loc Cert.TailSampleRefIdeal.main_arg5) = m' ((c.tc : Thread Cert.TailSampleRefIdeal.nD Cert.TailSampleRefIdeal.τ).loc Cert.TailSampleRefIdeal.main_arg5)
          ∧ r.2.mem ((c.tc : Thread Cert.TailSampleRefIdeal.nD Cert.TailSampleRefIdeal.τ).loc Cert.TailSampleRefIdeal.main_arg6) = m' ((c.tc : Thread Cert.TailSampleRefIdeal.nD Cert.TailSampleRefIdeal.τ).loc Cert.TailSampleRefIdeal.main_arg6)
          ∧ r.2.mem ((c.tc : Thread Cert.TailSampleRefIdeal.nD Cert.TailSampleRefIdeal.τ).loc Cert.TailSampleRefIdeal.main_arg7) = m' ((c.tc : Thread Cert.TailSampleRefIdeal.nD Cert.TailSampleRefIdeal.τ).loc Cert.TailSampleRefIdeal.main_arg7)
          ∧ r.2.mem ((c.tc : Thread Cert.TailSampleRefIdeal.nD Cert.TailSampleRefIdeal.τ).loc Cert.TailSampleRefIdeal.main_arg8) = m' ((c.tc : Thread Cert.TailSampleRefIdeal.nD Cert.TailSampleRefIdeal.τ).loc Cert.TailSampleRefIdeal.main_arg8)
          ∧ r.2.mem ((c.tc : Thread Cert.TailSampleRefIdeal.nD Cert.TailSampleRefIdeal.τ).loc Cert.TailSampleRefIdeal.main_arg9) = m' ((c.tc : Thread Cert.TailSampleRefIdeal.nD Cert.TailSampleRefIdeal.τ).loc Cert.TailSampleRefIdeal.main_arg9)
          ∧ r.2.mem ((c.tc : Thread Cert.TailSampleRefIdeal.nD Cert.TailSampleRefIdeal.τ).loc Cert.TailSampleRefIdeal.main_arg10) = m' ((c.tc : Thread Cert.TailSampleRefIdeal.nD Cert.TailSampleRefIdeal.τ).loc Cert.TailSampleRefIdeal.main_arg10)
          ∧ r.2.mem ((c.tc : Thread Cert.TailSampleRefIdeal.nD Cert.TailSampleRefIdeal.τ).loc Cert.TailSampleRefIdeal.main_arg11) = m' ((c.tc : Thread Cert.TailSampleRefIdeal.nD Cert.TailSampleRefIdeal.τ).loc Cert.TailSampleRefIdeal.main_arg11)
          ∧ r.2.mem ((c.tc : Thread Cert.TailSampleRefIdeal.nD Cert.TailSampleRefIdeal.τ).loc Cert.TailSampleRefIdeal.main_arg12) = m' ((c.tc : Thread Cert.TailSampleRefIdeal.nD Cert.TailSampleRefIdeal.τ).loc Cert.TailSampleRefIdeal.main_arg12)
          ∧ r.2.mem ((c.tc : Thread Cert.TailSampleRefIdeal.nD Cert.TailSampleRefIdeal.τ).loc Cert.TailSampleRefIdeal.main_arg13) = m' ((c.tc : Thread Cert.TailSampleRefIdeal.nD Cert.TailSampleRefIdeal.τ).loc Cert.TailSampleRefIdeal.main_arg13))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)) →
    ∃ (v0 : (c : Dev Cert.FrontIdeal.nD) → Buf (Elt Ideal) ((c.tc : Thread Cert.FrontIdeal.nD Cert.FrontIdeal.τ).loc Cert.FrontIdeal.main_v25_0)) (v1 : (c : Dev Cert.FrontIdeal.nD) → Buf (Elt Ideal) ((c.tc : Thread Cert.FrontIdeal.nD Cert.FrontIdeal.τ).loc Cert.FrontIdeal.main_v25_1)) (v2 : (c : Dev Cert.FrontIdeal.nD) → Buf (Elt Ideal) ((c.tc : Thread Cert.FrontIdeal.nD Cert.FrontIdeal.τ).loc Cert.FrontIdeal.main_v25_2)) (v3 : (c : Dev Cert.FrontIdeal.nD) → Buf (Elt Ideal) ((c.tc : Thread Cert.FrontIdeal.nD Cert.FrontIdeal.τ).loc Cert.FrontIdeal.main_v25_3)) (v4 : (c : Dev Cert.FrontIdeal.nD) → Buf (Elt Ideal) ((c.tc : Thread Cert.FrontIdeal.nD Cert.FrontIdeal.τ).loc Cert.FrontIdeal.main_v25_4)) (v5 : (c : Dev Cert.FrontIdeal.nD) → Buf (Elt Ideal) ((c.tc : Thread Cert.FrontIdeal.nD Cert.FrontIdeal.τ).loc Cert.FrontIdeal.main_v25_5)) (v6 : (c : Dev Cert.FrontIdeal.nD) → Buf (Elt Ideal) ((c.tc : Thread Cert.FrontIdeal.nD Cert.FrontIdeal.τ).loc Cert.FrontIdeal.main_v25_6)) (v7 : (c : Dev Cert.FrontIdeal.nD) → Buf (Elt Ideal) ((c.tc : Thread Cert.FrontIdeal.nD Cert.FrontIdeal.τ).loc Cert.FrontIdeal.main_v25_7)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v25_0) = v0 c
          ∧ r.2.mem ((c.tc : Thread Cert.FrontIdeal.nD Cert.FrontIdeal.τ).loc Cert.FrontIdeal.main_v25_1) = v1 c
          ∧ r.2.mem ((c.tc : Thread Cert.FrontIdeal.nD Cert.FrontIdeal.τ).loc Cert.FrontIdeal.main_v25_2) = v2 c
          ∧ r.2.mem ((c.tc : Thread Cert.FrontIdeal.nD Cert.FrontIdeal.τ).loc Cert.FrontIdeal.main_v25_3) = v3 c
          ∧ r.2.mem ((c.tc : Thread Cert.FrontIdeal.nD Cert.FrontIdeal.τ).loc Cert.FrontIdeal.main_v25_4) = v4 c
          ∧ r.2.mem ((c.tc : Thread Cert.FrontIdeal.nD Cert.FrontIdeal.τ).loc Cert.FrontIdeal.main_v25_5) = v5 c
          ∧ r.2.mem ((c.tc : Thread Cert.FrontIdeal.nD Cert.FrontIdeal.τ).loc Cert.FrontIdeal.main_v25_6) = v6 c
          ∧ r.2.mem ((c.tc : Thread Cert.FrontIdeal.nD Cert.FrontIdeal.τ).loc Cert.FrontIdeal.main_v25_7) = v7 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v53) = v0 c
          ∧ r.2.mem ((c.tc : Thread Cert.FrontRefIdeal.nD Cert.FrontRefIdeal.τ).loc Cert.FrontRefIdeal.main_v14) = v1 c
          ∧ r.2.mem ((c.tc : Thread Cert.FrontRefIdeal.nD Cert.FrontRefIdeal.τ).loc Cert.FrontRefIdeal.main_v75) = v2 c
          ∧ r.2.mem ((c.tc : Thread Cert.FrontRefIdeal.nD Cert.FrontRefIdeal.τ).loc Cert.FrontRefIdeal.main_v78) = v3 c
          ∧ r.2.mem ((c.tc : Thread Cert.FrontRefIdeal.nD Cert.FrontRefIdeal.τ).loc Cert.FrontRefIdeal.main_v18) = v4 c
          ∧ r.2.mem ((c.tc : Thread Cert.FrontRefIdeal.nD Cert.FrontRefIdeal.τ).loc Cert.FrontRefIdeal.main_v19) = v5 c
          ∧ r.2.mem ((c.tc : Thread Cert.FrontRefIdeal.nD Cert.FrontRefIdeal.τ).loc Cert.FrontRefIdeal.main_v84) = v6 c
          ∧ r.2.mem ((c.tc : Thread Cert.FrontRefIdeal.nD Cert.FrontRefIdeal.τ).loc Cert.FrontRefIdeal.main_v54) = v7 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6))

def preserves_FrontPrompt_FrontPromptIdeal : Prop :=
  True

def algebraic_FrontPromptIdeal_FrontPromptRefIdeal [hFrontPromptIdeal : Cert.FrontPromptIdeal.Facts] [hFrontPromptRefIdeal : Cert.FrontPromptRefIdeal.Facts] : Prop :=
  ∀ (m : (ℓ : Loc Cert.FrontPromptIdeal.nD Cert.FrontPromptIdeal.τ Cert.FrontPromptIdeal.sig) → Buf (Elt Ideal) ℓ) (g : Dev Cert.FrontPromptIdeal.nD → PrngReg)
    (m' : (ℓ : Loc Cert.FrontPromptRefIdeal.nD Cert.FrontPromptRefIdeal.τ Cert.FrontPromptRefIdeal.sig) → Buf (Elt Ideal) ℓ) (g' : Dev Cert.FrontPromptRefIdeal.nD → PrngReg), Pre_FrontPromptIdeal m →
    (∀ c : Dev Cert.FrontPromptIdeal.nD,
      m' ((c.tc : Thread Cert.FrontPromptRefIdeal.nD Cert.FrontPromptRefIdeal.τ).loc Cert.FrontPromptRefIdeal.main_arg0) = m ((c.tc : Thread Cert.FrontPromptIdeal.nD Cert.FrontPromptIdeal.τ).loc Cert.FrontPromptIdeal.main_arg0)
      ∧ m' ((c.tc : Thread Cert.FrontPromptRefIdeal.nD Cert.FrontPromptRefIdeal.τ).loc Cert.FrontPromptRefIdeal.main_arg1) = m ((c.tc : Thread Cert.FrontPromptIdeal.nD Cert.FrontPromptIdeal.τ).loc Cert.FrontPromptIdeal.main_arg1)
      ∧ m' ((c.tc : Thread Cert.FrontPromptRefIdeal.nD Cert.FrontPromptRefIdeal.τ).loc Cert.FrontPromptRefIdeal.main_arg2) = m ((c.tc : Thread Cert.FrontPromptIdeal.nD Cert.FrontPromptIdeal.τ).loc Cert.FrontPromptIdeal.main_arg2)
      ∧ m' ((c.tc : Thread Cert.FrontPromptRefIdeal.nD Cert.FrontPromptRefIdeal.τ).loc Cert.FrontPromptRefIdeal.main_arg3) = m ((c.tc : Thread Cert.FrontPromptIdeal.nD Cert.FrontPromptIdeal.τ).loc Cert.FrontPromptIdeal.main_arg3)
      ∧ m' ((c.tc : Thread Cert.FrontPromptRefIdeal.nD Cert.FrontPromptRefIdeal.τ).loc Cert.FrontPromptRefIdeal.main_arg4) = m ((c.tc : Thread Cert.FrontPromptIdeal.nD Cert.FrontPromptIdeal.τ).loc Cert.FrontPromptIdeal.main_arg4)
      ∧ m' ((c.tc : Thread Cert.FrontPromptRefIdeal.nD Cert.FrontPromptRefIdeal.τ).loc Cert.FrontPromptRefIdeal.main_arg5) = m ((c.tc : Thread Cert.FrontPromptIdeal.nD Cert.FrontPromptIdeal.τ).loc Cert.FrontPromptIdeal.main_arg5)
      ∧ m' ((c.tc : Thread Cert.FrontPromptRefIdeal.nD Cert.FrontPromptRefIdeal.τ).loc Cert.FrontPromptRefIdeal.main_arg6) = m ((c.tc : Thread Cert.FrontPromptIdeal.nD Cert.FrontPromptIdeal.τ).loc Cert.FrontPromptIdeal.main_arg6)) →
    ∃ (v0 : (c : Dev Cert.FrontPromptIdeal.nD) → Buf (Elt Ideal) ((c.tc : Thread Cert.FrontPromptIdeal.nD Cert.FrontPromptIdeal.τ).loc Cert.FrontPromptIdeal.main_v25_1)) (v1 : (c : Dev Cert.FrontPromptIdeal.nD) → Buf (Elt Ideal) ((c.tc : Thread Cert.FrontPromptIdeal.nD Cert.FrontPromptIdeal.τ).loc Cert.FrontPromptIdeal.main_v25_2)) (v2 : (c : Dev Cert.FrontPromptIdeal.nD) → Buf (Elt Ideal) ((c.tc : Thread Cert.FrontPromptIdeal.nD Cert.FrontPromptIdeal.τ).loc Cert.FrontPromptIdeal.main_v25_3)) (v3 : (c : Dev Cert.FrontPromptIdeal.nD) → Buf (Elt Ideal) ((c.tc : Thread Cert.FrontPromptIdeal.nD Cert.FrontPromptIdeal.τ).loc Cert.FrontPromptIdeal.main_v25_4)) (v4 : (c : Dev Cert.FrontPromptIdeal.nD) → Buf (Elt Ideal) ((c.tc : Thread Cert.FrontPromptIdeal.nD Cert.FrontPromptIdeal.τ).loc Cert.FrontPromptIdeal.main_v25_5)) (v5 : (c : Dev Cert.FrontPromptIdeal.nD) → Buf (Elt Ideal) ((c.tc : Thread Cert.FrontPromptIdeal.nD Cert.FrontPromptIdeal.τ).loc Cert.FrontPromptIdeal.main_v25_6)) (v6 : (c : Dev Cert.FrontPromptIdeal.nD) → Buf (Elt Ideal) ((c.tc : Thread Cert.FrontPromptIdeal.nD Cert.FrontPromptIdeal.τ).loc Cert.FrontPromptIdeal.main_v25_7)),
      θ_run (Cert.FrontPromptIdeal.defs (F := Ideal)) (onTc (τ := Cert.FrontPromptIdeal.τ) (Cert.FrontPromptIdeal.main (F := Ideal))) ⟨m, fun _ => 0, g⟩ (fun r => ∀ c : Dev Cert.FrontPromptIdeal.nD,
          r.2.mem ((c.tc : Thread Cert.FrontPromptIdeal.nD Cert.FrontPromptIdeal.τ).loc Cert.FrontPromptIdeal.main_v25_1) = v0 c
          ∧ r.2.mem ((c.tc : Thread Cert.FrontPromptIdeal.nD Cert.FrontPromptIdeal.τ).loc Cert.FrontPromptIdeal.main_v25_2) = v1 c
          ∧ r.2.mem ((c.tc : Thread Cert.FrontPromptIdeal.nD Cert.FrontPromptIdeal.τ).loc Cert.FrontPromptIdeal.main_v25_3) = v2 c
          ∧ r.2.mem ((c.tc : Thread Cert.FrontPromptIdeal.nD Cert.FrontPromptIdeal.τ).loc Cert.FrontPromptIdeal.main_v25_4) = v3 c
          ∧ r.2.mem ((c.tc : Thread Cert.FrontPromptIdeal.nD Cert.FrontPromptIdeal.τ).loc Cert.FrontPromptIdeal.main_v25_5) = v4 c
          ∧ r.2.mem ((c.tc : Thread Cert.FrontPromptIdeal.nD Cert.FrontPromptIdeal.τ).loc Cert.FrontPromptIdeal.main_v25_6) = v5 c
          ∧ r.2.mem ((c.tc : Thread Cert.FrontPromptIdeal.nD Cert.FrontPromptIdeal.τ).loc Cert.FrontPromptIdeal.main_v25_7) = v6 c
          ∧ r.2.mem ((c.tc : Thread Cert.FrontPromptIdeal.nD Cert.FrontPromptIdeal.τ).loc Cert.FrontPromptIdeal.main_arg0) = m ((c.tc : Thread Cert.FrontPromptIdeal.nD Cert.FrontPromptIdeal.τ).loc Cert.FrontPromptIdeal.main_arg0)
          ∧ r.2.mem ((c.tc : Thread Cert.FrontPromptIdeal.nD Cert.FrontPromptIdeal.τ).loc Cert.FrontPromptIdeal.main_arg1) = m ((c.tc : Thread Cert.FrontPromptIdeal.nD Cert.FrontPromptIdeal.τ).loc Cert.FrontPromptIdeal.main_arg1)
          ∧ r.2.mem ((c.tc : Thread Cert.FrontPromptIdeal.nD Cert.FrontPromptIdeal.τ).loc Cert.FrontPromptIdeal.main_arg2) = m ((c.tc : Thread Cert.FrontPromptIdeal.nD Cert.FrontPromptIdeal.τ).loc Cert.FrontPromptIdeal.main_arg2)
          ∧ r.2.mem ((c.tc : Thread Cert.FrontPromptIdeal.nD Cert.FrontPromptIdeal.τ).loc Cert.FrontPromptIdeal.main_arg3) = m ((c.tc : Thread Cert.FrontPromptIdeal.nD Cert.FrontPromptIdeal.τ).loc Cert.FrontPromptIdeal.main_arg3)
          ∧ r.2.mem ((c.tc : Thread Cert.FrontPromptIdeal.nD Cert.FrontPromptIdeal.τ).loc Cert.FrontPromptIdeal.main_arg4) = m ((c.tc : Thread Cert.FrontPromptIdeal.nD Cert.FrontPromptIdeal.τ).loc Cert.FrontPromptIdeal.main_arg4)
          ∧ r.2.mem ((c.tc : Thread Cert.FrontPromptIdeal.nD Cert.FrontPromptIdeal.τ).loc Cert.FrontPromptIdeal.main_arg5) = m ((c.tc : Thread Cert.FrontPromptIdeal.nD Cert.FrontPromptIdeal.τ).loc Cert.FrontPromptIdeal.main_arg5)
          ∧ r.2.mem ((c.tc : Thread Cert.FrontPromptIdeal.nD Cert.FrontPromptIdeal.τ).loc Cert.FrontPromptIdeal.main_arg6) = m ((c.tc : Thread Cert.FrontPromptIdeal.nD Cert.FrontPromptIdeal.τ).loc Cert.FrontPromptIdeal.main_arg6))
      ∧ θ_run (Cert.FrontPromptRefIdeal.defs (F := Ideal)) (onTc (τ := Cert.FrontPromptRefIdeal.τ) (Cert.FrontPromptRefIdeal.main (F := Ideal))) ⟨m', fun _ => 0, g'⟩ (fun r => ∀ c : Dev Cert.FrontPromptRefIdeal.nD,
          r.2.mem ((c.tc : Thread Cert.FrontPromptRefIdeal.nD Cert.FrontPromptRefIdeal.τ).loc Cert.FrontPromptRefIdeal.main_v85) = v0 c
          ∧ r.2.mem ((c.tc : Thread Cert.FrontPromptRefIdeal.nD Cert.FrontPromptRefIdeal.τ).loc Cert.FrontPromptRefIdeal.main_v75) = v1 c
          ∧ r.2.mem ((c.tc : Thread Cert.FrontPromptRefIdeal.nD Cert.FrontPromptRefIdeal.τ).loc Cert.FrontPromptRefIdeal.main_v78) = v2 c
          ∧ r.2.mem ((c.tc : Thread Cert.FrontPromptRefIdeal.nD Cert.FrontPromptRefIdeal.τ).loc Cert.FrontPromptRefIdeal.main_v18) = v3 c
          ∧ r.2.mem ((c.tc : Thread Cert.FrontPromptRefIdeal.nD Cert.FrontPromptRefIdeal.τ).loc Cert.FrontPromptRefIdeal.main_v19) = v4 c
          ∧ r.2.mem ((c.tc : Thread Cert.FrontPromptRefIdeal.nD Cert.FrontPromptRefIdeal.τ).loc Cert.FrontPromptRefIdeal.main_v86) = v5 c
          ∧ r.2.mem ((c.tc : Thread Cert.FrontPromptRefIdeal.nD Cert.FrontPromptRefIdeal.τ).loc Cert.FrontPromptRefIdeal.main_v54) = v6 c
          ∧ r.2.mem ((c.tc : Thread Cert.FrontPromptRefIdeal.nD Cert.FrontPromptRefIdeal.τ).loc Cert.FrontPromptRefIdeal.main_arg0) = m' ((c.tc : Thread Cert.FrontPromptRefIdeal.nD Cert.FrontPromptRefIdeal.τ).loc Cert.FrontPromptRefIdeal.main_arg0)
          ∧ r.2.mem ((c.tc : Thread Cert.FrontPromptRefIdeal.nD Cert.FrontPromptRefIdeal.τ).loc Cert.FrontPromptRefIdeal.main_arg1) = m' ((c.tc : Thread Cert.FrontPromptRefIdeal.nD Cert.FrontPromptRefIdeal.τ).loc Cert.FrontPromptRefIdeal.main_arg1)
          ∧ r.2.mem ((c.tc : Thread Cert.FrontPromptRefIdeal.nD Cert.FrontPromptRefIdeal.τ).loc Cert.FrontPromptRefIdeal.main_arg2) = m' ((c.tc : Thread Cert.FrontPromptRefIdeal.nD Cert.FrontPromptRefIdeal.τ).loc Cert.FrontPromptRefIdeal.main_arg2)
          ∧ r.2.mem ((c.tc : Thread Cert.FrontPromptRefIdeal.nD Cert.FrontPromptRefIdeal.τ).loc Cert.FrontPromptRefIdeal.main_arg3) = m' ((c.tc : Thread Cert.FrontPromptRefIdeal.nD Cert.FrontPromptRefIdeal.τ).loc Cert.FrontPromptRefIdeal.main_arg3)
          ∧ r.2.mem ((c.tc : Thread Cert.FrontPromptRefIdeal.nD Cert.FrontPromptRefIdeal.τ).loc Cert.FrontPromptRefIdeal.main_arg4) = m' ((c.tc : Thread Cert.FrontPromptRefIdeal.nD Cert.FrontPromptRefIdeal.τ).loc Cert.FrontPromptRefIdeal.main_arg4)
          ∧ r.2.mem ((c.tc : Thread Cert.FrontPromptRefIdeal.nD Cert.FrontPromptRefIdeal.τ).loc Cert.FrontPromptRefIdeal.main_arg5) = m' ((c.tc : Thread Cert.FrontPromptRefIdeal.nD Cert.FrontPromptRefIdeal.τ).loc Cert.FrontPromptRefIdeal.main_arg5)
          ∧ r.2.mem ((c.tc : Thread Cert.FrontPromptRefIdeal.nD Cert.FrontPromptRefIdeal.τ).loc Cert.FrontPromptRefIdeal.main_arg6) = m' ((c.tc : Thread Cert.FrontPromptRefIdeal.nD Cert.FrontPromptRefIdeal.τ).loc Cert.FrontPromptRefIdeal.main_arg6))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerRefIdeal : Cert.MixerRefIdeal.Facts) (hTailSample : Cert.TailSample.Facts) (hTailSampleIdeal : Cert.TailSampleIdeal.Facts) (hTailSampleRefIdeal : Cert.TailSampleRefIdeal.Facts) (hFront : Cert.Front.Facts) (hFrontIdeal : Cert.FrontIdeal.Facts) (hFrontRefIdeal : Cert.FrontRefIdeal.Facts) (hFrontPrompt : Cert.FrontPrompt.Facts) (hFrontPromptIdeal : Cert.FrontPromptIdeal.Facts) (hFrontPromptRefIdeal : Cert.FrontPromptRefIdeal.Facts) (hPre_scores_finite : Cert.Pre_scores_finite.Facts),
    quiescent_Kernel (hKernel := hKernel)
    ∧ quiescent_KernelIdeal (hKernelIdeal := hKernelIdeal)
    ∧ quiescent_ReferenceIdeal (hReferenceIdeal := hReferenceIdeal)
    ∧ quiescent_Mixer (hMixer := hMixer)
    ∧ quiescent_MixerIdeal (hMixerIdeal := hMixerIdeal)
    ∧ quiescent_MixerIdeal_pre_scores_finite (hMixerIdeal := hMixerIdeal) (hPre_scores_finite := hPre_scores_finite)
    ∧ quiescent_MixerRefIdeal (hMixerRefIdeal := hMixerRefIdeal)
    ∧ quiescent_MixerRefIdeal_pre_scores_finite (hMixerRefIdeal := hMixerRefIdeal) (hPre_scores_finite := hPre_scores_finite)
    ∧ quiescent_TailSample (hTailSample := hTailSample)
    ∧ quiescent_TailSampleIdeal (hTailSampleIdeal := hTailSampleIdeal)
    ∧ quiescent_TailSampleRefIdeal (hTailSampleRefIdeal := hTailSampleRefIdeal)
    ∧ quiescent_Front (hFront := hFront)
    ∧ quiescent_FrontIdeal (hFrontIdeal := hFrontIdeal)
    ∧ quiescent_FrontRefIdeal (hFrontRefIdeal := hFrontRefIdeal)
    ∧ quiescent_FrontPrompt (hFrontPrompt := hFrontPrompt)
    ∧ quiescent_FrontPromptIdeal (hFrontPromptIdeal := hFrontPromptIdeal)
    ∧ quiescent_FrontPromptRefIdeal (hFrontPromptRefIdeal := hFrontPromptRefIdeal)
    ∧ preserves_Kernel_KernelIdeal
    ∧ algebraic_KernelIdeal_ReferenceIdeal (hKernelIdeal := hKernelIdeal) (hReferenceIdeal := hReferenceIdeal)
    ∧ preserves_Mixer_MixerIdeal
    ∧ algebraic_MixerIdeal_MixerRefIdeal_pre_scores_finite (hMixerIdeal := hMixerIdeal) (hMixerRefIdeal := hMixerRefIdeal) (hPre_scores_finite := hPre_scores_finite)
    ∧ preserves_TailSample_TailSampleIdeal
    ∧ algebraic_TailSampleIdeal_TailSampleRefIdeal (hTailSampleIdeal := hTailSampleIdeal) (hTailSampleRefIdeal := hTailSampleRefIdeal)
    ∧ preserves_Front_FrontIdeal
    ∧ algebraic_FrontIdeal_FrontRefIdeal (hFrontIdeal := hFrontIdeal) (hFrontRefIdeal := hFrontRefIdeal)
    ∧ preserves_FrontPrompt_FrontPromptIdeal
    ∧ algebraic_FrontPromptIdeal_FrontPromptRefIdeal (hFrontPromptIdeal := hFrontPromptIdeal) (hFrontPromptRefIdeal := hFrontPromptRefIdeal)
-- ==== Pre_scores_finite.lean ====
abbrev S128x8x3072 : Shape := ⟨3, ![128, 8, 3072]⟩
abbrev S128x8x1024 : Shape := ⟨3, ![128, 8, 1024]⟩
abbrev S128x8x8 : Shape := ⟨3, ![128, 8, 8]⟩
abbrev S2x128 : Shape := ⟨2, ![2, 128]⟩
abbrev S2x128x8x128x128 : Shape := ⟨5, ![2, 128, 8, 128, 128]⟩
abbrev S128x8x256 : Shape := ⟨3, ![128, 8, 256]⟩
abbrev S2x128x128x4x64 : Shape := ⟨5, ![2, 128, 128, 4, 64]⟩
abbrev S32x16 : Shape := ⟨2, ![32, 16]⟩
abbrev S2x16 : Shape := ⟨2, ![2, 16]⟩
abbrev S2x128x128x256 : Shape := ⟨4, ![2, 128, 128, 256]⟩
abbrev S_ : Shape := ⟨0, ![]⟩
abbrev S1x128x128x4x64 : Shape := ⟨5, ![1, 128, 128, 4, 64]⟩
abbrev S128x128x4x64 : Shape := ⟨4, ![128, 128, 4, 64]⟩
abbrev S1x16 : Shape := ⟨2, ![1, 16]⟩
abbrev S16 : Shape := ⟨1, ![16]⟩

class Facts : Prop where
  bcast_S_S128x8x1024 : S_.BroadcastsInDim S128x8x1024 (![] : Fin 0 → Fin S128x8x1024.rank)
  reducesTo_S128x8x1024_S_d0_1_2 : S128x8x1024.ReducesTo [0, 1, 2] S_
  h_S_ : 0 < S_.numel
  bcast_S_S128x8x256 : S_.BroadcastsInDim S128x8x256 (![] : Fin 0 → Fin S128x8x256.rank)
  reducesTo_S128x8x256_S_d0_1_2 : S128x8x256.ReducesTo [0, 1, 2] S_
  slices_S2x128x128x4x64_S1x128x128x4x64_1_0_0_0_0 : S2x128x128x4x64.Slices ![1, 0, 0, 0, 0] S1x128x128x4x64
  shapeCasts_S1x128x128x4x64_S128x128x4x64 : S1x128x128x4x64.ShapeCasts S128x128x4x64
  bcast_S_S128x128x4x64 : S_.BroadcastsInDim S128x128x4x64 (![] : Fin 0 → Fin S128x128x4x64.rank)
  reducesTo_S128x128x4x64_S_d0_1_2_3 : S128x128x4x64.ReducesTo [0, 1, 2, 3] S_
  bcast_S_S32x16 : S_.BroadcastsInDim S32x16 (![] : Fin 0 → Fin S32x16.rank)
  reducesTo_S32x16_S_d0_1 : S32x16.ReducesTo [0, 1] S_
  slices_S2x16_S1x16_1_0 : S2x16.Slices ![1, 0] S1x16
  shapeCasts_S1x16_S16 : S1x16.ShapeCasts S16
  bcast_S_S16 : S_.BroadcastsInDim S16 (![] : Fin 0 → Fin S16.rank)
  reducesTo_S16_S_d0 : S16.ReducesTo [0] S_

variable [Facts]

def fn_part1 {F : FTy → Type} [FloatOps F] (main_arg12 : FVec F S2x16 .f32) (main_v15 : IVec S_ 1) (main_v16 : FVec F S32x16 .f32) (main_cst_4 : FVec F S_ .f32) : IVec S_ 1 :=
  let main_v17 : FVec F S32x16 .f32 := broadcastInDim S32x16 ![] bcast_S_S32x16 main_cst_4
  let main_v18 : IVec S32x16 1 := cmpf .olt main_v16 main_v17
  let main_c_5 : IVec S_ 1 := constantI S_ 1 1#1
  let main_v19 : IVec S_ 1 := (fun x v => Host.reduce IntOp.andi x v reducesTo_S32x16_S_d0_1 h_S_) main_v18 main_c_5
  let main_v20 : IVec S_ 1 := andi main_v15 main_v19
  let main_v21 : FVec F S1x16 .f32 := (extractStridedSlice S1x16 ![1, 0] · slices_S2x16_S1x16_1_0) main_arg12
  let main_v22 : FVec F S16 .f32 := shapeCast S16 main_v21 shapeCasts_S1x16_S16
  let main_v23 : FVec F S16 .f32 := Host.absf main_v22
  let main_cst_6 : FVec F S_ .f32 := constant S_ .f32 0x7F800000#32
  let main_v24 : FVec F S16 .f32 := broadcastInDim S16 ![] bcast_S_S16 main_cst_6
  let main_v25 : IVec S16 1 := cmpf .olt main_v23 main_v24
  let main_c_7 : IVec S_ 1 := constantI S_ 1 1#1
  let main_v26 : IVec S_ 1 := (fun x v => Host.reduce IntOp.andi x v reducesTo_S16_S_d0 h_S_) main_v25 main_c_7
  let main_v27 : IVec S_ 1 := andi main_v20 main_v26
  main_v27

def fn {F : FTy → Type} [FloatOps F] (main_arg0 : FVec F S128x8x3072 .f32) (main_arg1 : FVec F S128x8x1024 .f32) (main_arg2 : FVec F S128x8x8 .f32) (main_arg3 : FVec F S128x8x8 .f32) (main_arg4 : FVec F S2x128 .f32) (main_arg5 : FVec F S2x128x8x128x128 .f32) (main_arg6 : FVec F S128x8x1024 .f32) (main_arg7 : FVec F S128x8x256 .f32) (main_arg8 : FVec F S128x8x256 .f32) (main_arg9 : FVec F S2x128x128x4x64 .f32) (main_arg10 : FVec F S2x128x128x4x64 .f32) (main_arg11 : FVec F S32x16 .f32) (main_arg12 : FVec F S2x16 .f32) (main_arg13 : FVec F S2x128x8x128x128 .f32) (main_arg14 : FVec F S2x128x128x256 .f32) (main_arg15 : FVec F S2x128x128x256 .f32) : IVec S_ 1 :=
  let main_v0 : FVec F S128x8x1024 .f32 := Host.absf main_arg6
  let main_cst : FVec F S_ .f32 := constant S_ .f32 0x7F800000#32
  let main_v1 : FVec F S128x8x1024 .f32 := broadcastInDim S128x8x1024 ![] bcast_S_S128x8x1024 main_cst
  let main_v2 : IVec S128x8x1024 1 := cmpf .olt main_v0 main_v1
  let main_c : IVec S_ 1 := constantI S_ 1 1#1
  let main_v3 : IVec S_ 1 := (fun x v => Host.reduce IntOp.andi x v reducesTo_S128x8x1024_S_d0_1_2 h_S_) main_v2 main_c
  let main_v4 : FVec F S128x8x256 .f32 := Host.absf main_arg7
  let main_cst_0 : FVec F S_ .f32 := constant S_ .f32 0x7F800000#32
  let main_v5 : FVec F S128x8x256 .f32 := broadcastInDim S128x8x256 ![] bcast_S_S128x8x256 main_cst_0
  let main_v6 : IVec S128x8x256 1 := cmpf .olt main_v4 main_v5
  let main_c_1 : IVec S_ 1 := constantI S_ 1 1#1
  let main_v7 : IVec S_ 1 := (fun x v => Host.reduce IntOp.andi x v reducesTo_S128x8x256_S_d0_1_2 h_S_) main_v6 main_c_1
  let main_v8 : IVec S_ 1 := andi main_v3 main_v7
  let main_v9 : FVec F S1x128x128x4x64 .f32 := (extractStridedSlice S1x128x128x4x64 ![1, 0, 0, 0, 0] · slices_S2x128x128x4x64_S1x128x128x4x64_1_0_0_0_0) main_arg9
  let main_v10 : FVec F S128x128x4x64 .f32 := shapeCast S128x128x4x64 main_v9 shapeCasts_S1x128x128x4x64_S128x128x4x64
  let main_v11 : FVec F S128x128x4x64 .f32 := Host.absf main_v10
  let main_cst_2 : FVec F S_ .f32 := constant S_ .f32 0x7F800000#32
  let main_v12 : FVec F S128x128x4x64 .f32 := broadcastInDim S128x128x4x64 ![] bcast_S_S128x128x4x64 main_cst_2
  let main_v13 : IVec S128x128x4x64 1 := cmpf .olt main_v11 main_v12
  let main_c_3 : IVec S_ 1 := constantI S_ 1 1#1
  let main_v14 : IVec S_ 1 := (fun x v => Host.reduce IntOp.andi x v reducesTo_S128x128x4x64_S_d0_1_2_3 h_S_) main_v13 main_c_3
  let main_v15 : IVec S_ 1 := andi main_v8 main_v14
  let main_v16 : FVec F S32x16 .f32 := Host.absf main_arg11
  let main_cst_4 : FVec F S_ .f32 := constant S_ .f32 0x7F800000#32
  fn_part1 (F := F) main_arg12 main_v15 main_v16 main_cst_4
-- ==== Kernel.lean ====
abbrev S8x2048x1024 : Shape := ⟨3, ![8, 2048, 1024]⟩
abbrev S8x2048x2048 : Shape := ⟨3, ![8, 2048, 2048]⟩
abbrev S8x6144 : Shape := ⟨2, ![8, 6144]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S8x1x6144 : Shape := ⟨3, ![8, 1, 6144]⟩
abbrev S1x512x1024 : Shape := ⟨3, ![1, 512, 1024]⟩
abbrev S1x512x2048 : Shape := ⟨3, ![1, 512, 2048]⟩
abbrev S1x1x6144 : Shape := ⟨3, ![1, 1, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S256x1024 : Shape := ⟨2, ![256, 1024]⟩
abbrev S1024x1024 : Shape := ⟨2, ![1024, 1024]⟩
abbrev S1x1x1024 : Shape := ⟨3, ![1, 1, 1024]⟩
abbrev S1x256 : Shape := ⟨2, ![1, 256]⟩
abbrev S1x256x1 : Shape := ⟨3, ![1, 256, 1]⟩

abbrev nBuf : Space → Nat
  | .hbm => 35
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .bf16⟩
  | .hbm, ⟨4, _⟩ => ⟨S8x6144, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S2x1024x4096, .f32⟩
  | .hbm, ⟨11, _⟩ => ⟨S2x4096x1024, .f32⟩
  | .hbm, ⟨12, _⟩ => ⟨S2x1024, .f32⟩
  | .hbm, ⟨13, _⟩ => ⟨S2x1024, .f32⟩
  | .hbm, ⟨14, _⟩ => ⟨S2x1024x1024, .bf16⟩
  | .hbm, ⟨15, _⟩ => ⟨S2x1024x1024, .bf16⟩
  | .hbm, ⟨16, _⟩ => ⟨S2x1024x1024, .bf16⟩
  | .hbm, ⟨17, _⟩ => ⟨S2x1024x4096, .bf16⟩
  | .hbm, ⟨18, _⟩ => ⟨S2x4096x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8x2048x1024, .bf16⟩
  | .hbm, ⟨32, _⟩ => ⟨S8x2048x1024, .bf16⟩
  | .hbm, ⟨33, _⟩ => ⟨S8x1x6144, .f32⟩
  | .hbm, ⟨34, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x1x6144, .f32⟩
  | .local _ .vmem, ⟨9, _⟩ => ⟨S1x1x6144, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024x4096, .bf16⟩
  | .local _ .vmem, ⟨16, _⟩ => ⟨S1x4096x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
abbrev S8x2048x1024 : Shape := ⟨3, ![8, 2048, 1024]⟩
abbrev S8x2048x2048 : Shape := ⟨3, ![8, 2048, 2048]⟩
abbrev S8x6144 : Shape := ⟨2, ![8, 6144]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S8x1x6144 : Shape := ⟨3, ![8, 1, 6144]⟩
abbrev S1x512x1024 : Shape := ⟨3, ![1, 512, 1024]⟩
abbrev S1x512x2048 : Shape := ⟨3, ![1, 512, 2048]⟩
abbrev S1x1x6144 : Shape := ⟨3, ![1, 1, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S256x1024 : Shape := ⟨2, ![256, 1024]⟩
abbrev S1024x1024 : Shape := ⟨2, ![1024, 1024]⟩
abbrev S1x1x1024 : Shape := ⟨3, ![1, 1, 1024]⟩
abbrev S1x256 : Shape := ⟨2, ![1, 256]⟩
abbrev S1x256x1 : Shape := ⟨3, ![1, 256, 1]⟩

abbrev nBuf : Space → Nat
  | .hbm => 35
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .bf16⟩
  | .hbm, ⟨4, _⟩ => ⟨S8x6144, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S2x1024x4096, .f32⟩
  | .hbm, ⟨11, _⟩ => ⟨S2x4096x1024, .f32⟩
  | .hbm, ⟨12, _⟩ => ⟨S2x1024, .f32⟩
  | .hbm, ⟨13, _⟩ => ⟨S2x1024, .f32⟩
  | .hbm, ⟨14, _⟩ => ⟨S2x1024x1024, .bf16⟩
  | .hbm, ⟨15, _⟩ => ⟨S2x1024x1024, .bf16⟩
  | .hbm, ⟨16, _⟩ => ⟨S2x1024x1024, .bf16⟩
  | .hbm, ⟨17, _⟩ => ⟨S2x1024x4096, .bf16⟩
  | .hbm, ⟨18, _⟩ => ⟨S2x4096x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8x2048x1024, .bf16⟩
  | .hbm, ⟨32, _⟩ => ⟨S8x2048x1024, .bf16⟩
  | .hbm, ⟨33, _⟩ => ⟨S8x1x6144, .f32⟩
  | .hbm, ⟨34, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x1x6144, .f32⟩
  | .local _ .vmem, ⟨9, _⟩ => ⟨S1x1x6144, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024x4096, .bf16⟩
  | .local _ .vmem, ⟨16, _⟩ => ⟨S1x4096x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x2048x1024 : Shape := ⟨3, ![8, 2048, 1024]⟩
abbrev S8x2048x2048 : Shape := ⟨3, ![8, 2048, 2048]⟩
abbrev S8x6144 : Shape := ⟨2, ![8, 6144]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S8x1x6144 : Shape := ⟨3, ![8, 1, 6144]⟩
abbrev S8x1x1024 : Shape := ⟨3, ![8, 1, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 131
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S8x2048x1024, .f32⟩
  | 3 => ⟨S8x2048x2048, .bf16⟩
  | 4 => ⟨S8x6144, .f32⟩
  | 5 => ⟨S2x1024x1024, .f32⟩
  | 6 => ⟨S2x1024x1024, .f32⟩
  | 7 => ⟨S2x1024x1024, .f32⟩
  | 8 => ⟨S2x1024, .f32⟩
  | 9 => ⟨S2x1024, .f32⟩
  | 10 => ⟨S2x1024x4096, .f32⟩
  | 11 => ⟨S2x4096x1024, .f32⟩
  | 12 => ⟨S2x1024, .f32⟩
  | 13 => ⟨S2x1024, .f32⟩
  | 14 => ⟨S8x2048x2048, .f32⟩
  | 15 => ⟨S8x1x6144, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x2048x1024, .f32⟩
  | 23 => ⟨S8x2048x1024, .f32⟩
  | 24 => ⟨S1x1024x1024, .f32⟩
  | 25 => ⟨S1024x1024, .f32⟩
  | 26 => ⟨S8x2048x1024, .f32⟩
  | 27 => ⟨S8x2048x1024, .f32⟩
  | 28 => ⟨S1x1024x1024, .f32⟩
  | 29 => ⟨S1024x1024, .f32⟩
  | 30 => ⟨S8x2048x1024, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S1x1024x1024, .f32⟩
  | 37 => ⟨S1024x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S1x1024, .f32⟩
  | 43 => ⟨S1024, .f32⟩
  | 44 => ⟨S1x1024, .f32⟩
  | 45 => ⟨S1024, .f32⟩
  | 46 => ⟨S_, .f32⟩
  | 47 => ⟨S8x2048, .f32⟩
  | 48 => ⟨S8x2048x1, .f32⟩
  | 49 => ⟨S_, .f32⟩
  | 50 => ⟨S8x2048x1, .f32⟩
  | 51 => ⟨S8x2048x1, .f32⟩
  | 52 => ⟨S8x2048x1024, .f32⟩
  | 53 => ⟨S8x2048x1024, .f32⟩
  | 54 => ⟨S8x2048x1024, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S8x2048x1024, .f32⟩
  | 62 => ⟨S8x2048x1024, .f32⟩
  | 63 => ⟨S_, .f32⟩
  | 64 => ⟨S8x2048x1, .f32⟩
  | 65 => ⟨S8x2048x1, .f32⟩
  | 66 => ⟨S8x2048x1, .f32⟩
  | 67 => ⟨S8x2048x1024, .f32⟩
  | 68 => ⟨S8x2048x1024, .f32⟩
  | 69 => ⟨S1x1x1024, .f32⟩
  | 70 => ⟨S8x2048x1024, .f32⟩
  | 71 => ⟨S8x2048x1024, .f32⟩
  | 72 => ⟨S1x1x1024, .f32⟩
  | 73 => ⟨S8x2048x1024, .f32⟩
  | 74 => ⟨S8x2048x1024, .f32⟩
  | 75 => ⟨S_, .f32⟩
  | 76 => ⟨S8x1x1024, .f32⟩
  | 77 => ⟨S8x1x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S1x1024x4096, .f32⟩
  | 83 => ⟨S1024x4096, .f32⟩
  | 84 => ⟨S8x2048x4096, .f32⟩
  | 85 => ⟨S_, .f32⟩
  | 86 => ⟨S8x2048x4096, .f32⟩
  | 87 => ⟨S8x2048x4096, .f32⟩
  | 88 => ⟨S8x2048x4096, .f32⟩
  | 89 => ⟨S1x4096x1024, .f32⟩
  | 90 => ⟨S4096x1024, .f32⟩
  | 91 => ⟨S8x2048x1024, .f32⟩
  | 92 => ⟨S_, .f32⟩
  | 93 => ⟨S8x2048x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S1x1024, .f32⟩
  | 99 => ⟨S1024, .f32⟩
  | 100 => ⟨S1x1024, .f32⟩
  | 101 => ⟨S1024, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .f32⟩
  | 108 => ⟨S8x2048x1024, .f32⟩
  | 109 => ⟨S8x2048x1024, .f32⟩
  | 110 => ⟨S8x2048x1024, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S8x2048x1024, .f32⟩
  | 118 => ⟨S8x2048x1024, .f32⟩
  | 119 => ⟨S_, .f32⟩
  | 120 => ⟨S8x2048x1, .f32⟩
  | 121 => ⟨S8x2048x1, .f32⟩
  | 122 => ⟨S8x2048x1, .f32⟩
  | 123 => ⟨S8x2048x1024, .f32⟩
  | 124 => ⟨S8x2048x1024, .f32⟩
  | 125 => ⟨S1x1x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S1x1x1024, .f32⟩
  | 1 => ⟨S8x2048x1024, .f32⟩
  | 2 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_0 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call0_cst : Ref sig .tc := ⟨.hbm, 85, rfl⟩
abbrev main_call0_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_7 : Ref sig .tc := ⟨.hbm, 102, rfl⟩
abbrev main_v78 : Ref sig .tc := ⟨.hbm, 103, rfl⟩
abbrev main_v79 : Ref sig .tc := ⟨.hbm, 104, rfl⟩
abbrev main_cst_8 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_9 : Ref sig .tc := ⟨.hbm, 111, rfl⟩
abbrev main_v85 : Ref sig .tc := ⟨.hbm, 112, rfl⟩
abbrev main_v86 : Ref sig .tc := ⟨.hbm, 113, rfl⟩
abbrev main_cst_10 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_11 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Mixer.lean ====
abbrev S128x8x3072 : Shape := ⟨3, ![128, 8, 3072]⟩
abbrev S128x8x1024 : Shape := ⟨3, ![128, 8, 1024]⟩
abbrev S128x8x8 : Shape := ⟨3, ![128, 8, 8]⟩
abbrev S2x128 : Shape := ⟨2, ![2, 128]⟩
abbrev S2x128x8x128x128 : Shape := ⟨5, ![2, 128, 8, 128, 128]⟩
abbrev S128x8x256 : Shape := ⟨3, ![128, 8, 256]⟩
abbrev S2x128x128x4x64 : Shape := ⟨5, ![2, 128, 128, 4, 64]⟩
abbrev S32x16 : Shape := ⟨2, ![32, 16]⟩
abbrev S2x16 : Shape := ⟨2, ![2, 16]⟩
abbrev S2x128x128x256 : Shape := ⟨4, ![2, 128, 128, 256]⟩
abbrev S8x136 : Shape := ⟨2, ![8, 136]⟩
abbrev S1x8x136 : Shape := ⟨3, ![1, 8, 136]⟩
abbrev S_ : Shape := ⟨0, ![]⟩
abbrev S128x8x112 : Shape := ⟨3, ![128, 8, 112]⟩
abbrev S128x8x128 : Shape := ⟨3, ![128, 8, 128]⟩
abbrev S16x32 : Shape := ⟨2, ![16, 32]⟩
abbrev S8x136x1 : Shape := ⟨3, ![8, 136, 1]⟩
abbrev S16x8x136 : Shape := ⟨3, ![16, 8, 136]⟩
abbrev S136 : Shape := ⟨1, ![136]⟩
abbrev S1x1x136 : Shape := ⟨3, ![1, 1, 136]⟩
abbrev S1x16 : Shape := ⟨2, ![1, 16]⟩
abbrev S16 : Shape := ⟨1, ![16]⟩
abbrev S16x1x1 : Shape := ⟨3, ![16, 1, 1]⟩
abbrev S4x32x136 : Shape := ⟨3, ![4, 32, 136]⟩
abbrev S4x136x32 : Shape := ⟨3, ![4, 136, 32]⟩
abbrev S1x128 : Shape := ⟨2, ![1, 128]⟩
abbrev S128 : Shape := ⟨1, ![128]⟩
abbrev S8x8x3072 : Shape := ⟨3, ![8, 8, 3072]⟩
abbrev S8x8x1024 : Shape := ⟨3, ![8, 8, 1024]⟩
abbrev S8x8x128 : Shape := ⟨3, ![8, 8, 128]⟩
abbrev S1x8x8x128x128 : Shape := ⟨5, ![1, 8, 8, 128, 128]⟩
abbrev S8x8x256 : Shape := ⟨3, ![8, 8, 256]⟩
abbrev S1x8x128x256 : Shape := ⟨4, ![1, 8, 128, 256]⟩
abbrev S64x64 : Shape := ⟨2, ![64, 64]⟩
abbrev S1x1x128x256 : Shape := ⟨4, ![1, 1, 128, 256]⟩
abbrev S128x256 : Shape := ⟨2, ![128, 256]⟩
abbrev S1x8x256 : Shape := ⟨3, ![1, 8, 256]⟩
abbrev S8x256 : Shape := ⟨2, ![8, 256]⟩
abbrev S136x256 : Shape := ⟨2, ![136, 256]⟩
abbrev S1x8x1024 : Shape := ⟨3, ![1, 8, 1024]⟩
abbrev S8x1024 : Shape := ⟨2, ![8, 1024]⟩
abbrev S136x64 : Shape := ⟨2, ![136, 64]⟩
abbrev S8x64 : Shape := ⟨2, ![8, 64]⟩
abbrev S32x64 : Shape := ⟨2, ![32, 64]⟩
abbrev S136x32 : Shape := ⟨2, ![136, 32]⟩
abbrev S1x136x32 : Shape := ⟨3, ![1, 136, 32]⟩
abbrev S32 : Shape := ⟨1, ![32]⟩
abbrev S1x32 : Shape := ⟨2, ![1, 32]⟩
abbrev S1x8x3072 : Shape := ⟨3, ![1, 8, 3072]⟩
abbrev S8x3072 : Shape := ⟨2, ![8, 3072]⟩
abbrev S1x8x128 : Shape := ⟨3, ![1, 8, 128]⟩
abbrev S8x128 : Shape := ⟨2, ![8, 128]⟩
abbrev S8x1 : Shape := ⟨2, ![8, 1]⟩
abbrev S64x128 : Shape := ⟨2, ![64, 128]⟩
abbrev S128x64 : Shape := ⟨2, ![128, 64]⟩
abbrev S64 : Shape := ⟨1, ![64]⟩
abbrev S64x1 : Shape := ⟨2, ![64, 1]⟩
abbrev S128x128 : Shape := ⟨2, ![128, 128]⟩
abbrev S64x256 : Shape := ⟨2, ![64, 256]⟩
abbrev S16x128 : Shape := ⟨2, ![16, 128]⟩
abbrev S1x1x1x128x128 : Shape := ⟨5, ![1, 1, 1, 128, 128]⟩
abbrev S8 : Shape := ⟨1, ![8]⟩
abbrev S1x8x64 : Shape := ⟨3, ![1, 8, 64]⟩

abbrev nBuf : Space → Nat
  | .hbm => 61
  | .vmem => 30
  | .smem => 0
  | _ => 0

abbrev bufTy : (tb : Table) → Fin (tcTables nBuf tb) → BufTy
  | .hbm, ⟨0, _⟩ => ⟨S128x8x3072, .f32⟩
  | .hbm, ⟨1, _⟩ => ⟨S128x8x1024, .f32⟩
  | .hbm, ⟨2, _⟩ => ⟨S128x8x8, .f32⟩
  | .hbm, ⟨3, _⟩ => ⟨S128x8x8, .f32⟩
  | .hbm, ⟨4, _⟩ => ⟨S2x128, .f32⟩
  | .hbm, ⟨5, _⟩ => ⟨S2x128x8x128x128, .f32⟩
  | .hbm, ⟨6, _⟩ => ⟨S128x8x1024, .f32⟩
  | .hbm, ⟨7, _⟩ => ⟨S128x8x256, .f32⟩
  | .hbm, ⟨8, _⟩ => ⟨S128x8x256, .f32⟩
  | .hbm, ⟨9, _⟩ => ⟨S2x128x128x4x64, .f32⟩
  | .hbm, ⟨10, _⟩ => ⟨S2x128x128x4x64, .f32⟩
  | .hbm, ⟨11, _⟩ => ⟨S32x16, .f32⟩
  | .hbm, ⟨12, _⟩ => ⟨S2x16, .f32⟩
  | .hbm, ⟨13, _⟩ => ⟨S2x128x8x128x128, .f32⟩
  | .hbm, ⟨14, _⟩ => ⟨S2x128x128x256, .f32⟩
  | .hbm, ⟨15, _⟩ => ⟨S2x128x128x256, .f32⟩
  | .hbm, ⟨16, _⟩ => ⟨S8x136, .i32⟩
  | .hbm, ⟨17, _⟩ => ⟨S8x136, .i1⟩
  | .hbm, ⟨18, _⟩ => ⟨S1x8x136, .i1⟩
  | .hbm, ⟨19, _⟩ => ⟨S_, .f32⟩
  | .hbm, ⟨20, _⟩ => ⟨S128x8x112, .f32⟩
  | .hbm, ⟨21, _⟩ => ⟨S128x8x128, .f32⟩
  | .hbm, ⟨22, _⟩ => ⟨S16x32, .f32⟩
  | .hbm, ⟨23, _⟩ => ⟨S_, .i32⟩
  | .hbm, ⟨24, _⟩ => ⟨S8x136, .i32⟩
  | .hbm, ⟨25, _⟩ => ⟨S8x136, .i32⟩
  | .hbm, ⟨26, _⟩ => ⟨S8x136, .i32⟩
  | .hbm, ⟨27, _⟩ => ⟨S8x136x1, .i32⟩
  | .hbm, ⟨28, _⟩ => ⟨S16x8x136, .f32⟩
  | .hbm, ⟨29, _⟩ => ⟨S_, .f32⟩
  | .hbm, ⟨30, _⟩ => ⟨S_, .f32⟩
  | .hbm, ⟨31, _⟩ => ⟨S16x8x136, .i1⟩
  | .hbm, ⟨32, _⟩ => ⟨S16x8x136, .f32⟩
  | .hbm, ⟨33, _⟩ => ⟨S16x8x136, .f32⟩
  | .hbm, ⟨34, _⟩ => ⟨S136, .i32⟩
  | .hbm, ⟨35, _⟩ => ⟨S1x1x136, .i32⟩
  | .hbm, ⟨36, _⟩ => ⟨S_, .i32⟩
  | .hbm, ⟨37, _⟩ => ⟨S1x1x136, .i32⟩
  | .hbm, ⟨38, _⟩ => ⟨S1x1x136, .i1⟩
  | .hbm, ⟨39, _⟩ => ⟨S1x16, .f32⟩
  | .hbm, ⟨40, _⟩ => ⟨S16, .f32⟩
  | .hbm, ⟨41, _⟩ => ⟨S16x1x1, .f32⟩
  | .hbm, ⟨42, _⟩ => ⟨S16x8x136, .i1⟩
  | .hbm, ⟨43, _⟩ => ⟨S16x8x136, .f32⟩
  | .hbm, ⟨44, _⟩ => ⟨S16x8x136, .f32⟩
  | .hbm, ⟨45, _⟩ => ⟨S4x32x136, .f32⟩
  | .hbm, ⟨46, _⟩ => ⟨S4x136x32, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S_, .f32⟩
  | .hbm, ⟨51, _⟩ => ⟨S128x8x1024, .f32⟩
  | .hbm, ⟨52, _⟩ => ⟨S128x8x1024, .f32⟩
  | .hbm, ⟨53, _⟩ => ⟨S128x8x1024, .bf16⟩
  | .hbm, ⟨54, _⟩ => ⟨S2x128x128x256, .f32⟩
  | .hbm, ⟨55, _⟩ => ⟨S2x128x128x256, .f32⟩
  | .hbm, ⟨56, _⟩ => ⟨S128x8x1024, .bf16⟩
  | .hbm, ⟨57, _⟩ => ⟨S2x128x8x128x128, .f32⟩
  | .hbm, ⟨58, _⟩ => ⟨S128x8x1024, .bf16⟩
  | .hbm, ⟨59, _⟩ => ⟨S2x128x128x256, .f32⟩
  | .hbm, ⟨60, _⟩ => ⟨S2x128x128x256, .f32⟩
  | .local _ .vmem, ⟨0, _⟩ => ⟨S8x8x3072, .f32⟩
  | .local _ .vmem, ⟨1, _⟩ => ⟨S8x8x3072, .f32⟩
  | .local _ .vmem, ⟨2, _⟩ => ⟨S8x8x1024, .f32⟩
  | .local _ .vmem, ⟨3, _⟩ => ⟨S8x8x1024, .f32⟩
  | .local _ .vmem, ⟨4, _⟩ => ⟨S8x8x128, .f32⟩
  | .local _ .vmem, ⟨5, _⟩ => ⟨S8x8x128, .f32⟩
  | .local _ .vmem, ⟨6, _⟩ => ⟨S1x128, .f32⟩
  | .local _ .vmem, ⟨7, _⟩ => ⟨S1x8x8x128x128, .f32⟩
  | .local _ .vmem, ⟨8, _⟩ => ⟨S1x8x8x128x128, .f32⟩
  | .local _ .vmem, ⟨9, _⟩ => ⟨S8x8x1024, .bf16⟩
  | .local _ .vmem, ⟨10, _⟩ => ⟨S8x8x1024, .bf16⟩
  | .local _ .vmem, ⟨11, _⟩ => ⟨S8x8x256, .f32⟩
  | .local _ .vmem, ⟨12, _⟩ => ⟨S8x8x256, .f32⟩
  | .local _ .vmem, ⟨13, _⟩ => ⟨S8x8x256, .f32⟩
  | .local _ .vmem, ⟨14, _⟩ => ⟨S8x8x256, .f32⟩
  | .local _ .vmem, ⟨15, _⟩ => ⟨S1x8x128x256, .f32⟩
  | .local _ .vmem, ⟨16, _⟩ => ⟨S1x8x128x256, .f32⟩
  | .local _ .vmem, ⟨17, _⟩ => ⟨S1x8x128x256, .f32⟩
  | .local _ .vmem, ⟨18, _⟩ => ⟨S1x8x128x256, .f32⟩
  | .local _ .vmem, ⟨19, _⟩ => ⟨S4x136x32, .f32⟩
  | .local _ .vmem, ⟨20, _⟩ => ⟨S8x8x1024, .bf16⟩
  | .local _ .vmem, ⟨21, _⟩ => ⟨S8x8x1024, .bf16⟩
  | .local _ .vmem, ⟨22, _⟩ => ⟨S1x8x8x128x128, .f32⟩
  | .local _ .vmem, ⟨23, _⟩ => ⟨S1x8x8x128x128, .f32⟩
  | .local _ .vmem, ⟨24, _⟩ => ⟨S8x8x1024, .bf16⟩
  | .local _ .vmem, ⟨25, _⟩ => ⟨S8x8x1024, .bf16⟩
  | .local _ .vmem, ⟨26, _⟩ => ⟨S1x8x128x256, .f32⟩
  | .local _ .vmem, ⟨27, _⟩ => ⟨S1x8x128x256, .f32⟩
  | .local _ .vmem, ⟨28, _⟩ => ⟨S1x8x128x256, .f32⟩
  | .local _ .vmem, ⟨29, _⟩ => ⟨S1x8x128x256, .f32⟩
  | _, _ => ⟨S128x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c_2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call1_v0 : Ref sig .tc := ⟨.hbm, 42, rfl⟩
abbrev main_call1_v1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev main_v27_3 : Ref sig .tc := ⟨.hbm, 59, rfl⟩
abbrev main_v27_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_10 : BitVec 32 := 0#32
  let c2_i32_11 : BitVec 32 := 2#32
  let v49 : BitVec 32 := Scalar.addi c0_i32_10 c2_i32_11
  let c1_i32_12 : BitVec 32 := 1#32
  ⟨c0_i32_10, v49, c1_i32_12⟩
def k0_off1 (k0_t1 : Fin k0_t1_loop.trips) (c0_i32_14 : BitVec 32) : Fin 4 → Nat :=
  let c0 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v58 : Index := Scalar.indexCast v51
  let c0_21 : Index := 0#32
  let c0_22 : Index := 0#32
  ![0, v58.toNat, 0, 0]
def k0_off2 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v61 : Index := Scalar.indexCast v51
  let c0_23 : Index := 0#32
  let c0_24 : Index := 0#32
  ![v61.toNat, 0, 0]
def k0_off3 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v202 : Index := Scalar.indexCast v51
  let c0_99 : Index := 0#32
  let c0_100 : Index := 0#32
  ![v202.toNat, 0, 0]
def k0_off4 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v534 : Index := Scalar.indexCast v51
  let c0_200 : Index := 0#32
  let c0_201 : Index := 0#32
  ![v534.toNat, 0, 0]
def k0_off5 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v537 : Index := Scalar.indexCast v51
  let c0_202 : Index := 0#32
  let c0_203 : Index := 0#32
  ![v537.toNat, 0, 0]
def k0_off6 (k0_t1 : Fin k0_t1_loop.trips) (c0_i32_14 : BitVec 32) : Fin 5 → Nat :=
  let c0_304 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1277 : Index := Scalar.indexCast v51
  let c0_305 : Index := 0#32
  let c0_306 : Index := 0#32
  let c0_307 : Index := 0#32
  ![0, v1277.toNat, 0, 0, 0]
def k0_off7 (k0_t1 : Fin k0_t1_loop.trips) (c0_i32_14 : BitVec 32) : Fin 5 → Nat :=
  let c0_309 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1285 : Index := Scalar.indexCast v51
  let c1_310 : Index := 1#32
  let c0_311 : Index := 0#32
  let c0_312 : Index := 0#32
  ![0, v1285.toNat, 1, 0, 0]
def k0_off8 (k0_t1 : Fin k0_t1_loop.trips) (c0_i32_14 : BitVec 32) : Fin 5 → Nat :=
  let c0_314 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1293 : Index := Scalar.indexCast v51
  let c2_315 : Index := 2#32
  let c0_316 : Index := 0#32
  let c0_317 : Index := 0#32
  ![0, v1293.toNat, 2, 0, 0]
def k0_off9 (k0_t1 : Fin k0_t1_loop.trips) (c0_i32_14 : BitVec 32) : Fin 5 → Nat :=
  let c0_319 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1301 : Index := Scalar.indexCast v51
  let c3_320 : Index := 3#32
  let c0_321 : Index := 0#32
  let c0_322 : Index := 0#32
  ![0, v1301.toNat, 3, 0, 0]
def k0_off10 (k0_t1 : Fin k0_t1_loop.trips) (c0_i32_14 : BitVec 32) : Fin 5 → Nat :=
  let c0_324 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1309 : Index := Scalar.indexCast v51
  let c4 : Index := 4#32
  let c0_325 : Index := 0#32
  let c0_326 : Index := 0#32
  ![0, v1309.toNat, 4, 0, 0]
def k0_off11 (k0_t1 : Fin k0_t1_loop.trips) (c0_i32_14 : BitVec 32) : Fin 5 → Nat :=
  let c0_328 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1317 : Index := Scalar.indexCast v51
  let c5 : Index := 5#32
  let c0_329 : Index := 0#32
  let c0_330 : Index := 0#32
  ![0, v1317.toNat, 5, 0, 0]
def k0_off12 (k0_t1 : Fin k0_t1_loop.trips) (c0_i32_14 : BitVec 32) : Fin 5 → Nat :=
  let c0_332 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1325 : Index := Scalar.indexCast v51
  let c6 : Index := 6#32
  let c0_333 : Index := 0#32
  let c0_334 : Index := 0#32
  ![0, v1325.toNat, 6, 0, 0]
def k0_off13 (k0_t1 : Fin k0_t1_loop.trips) (c0_i32_14 : BitVec 32) : Fin 5 → Nat :=
  let c0_336 : Index := 0#32
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1333 : Index := Scalar.indexCast v51
  let c7 : Index := 7#32
  let c0_337 : Index := 0#32
  let c0_338 : Index := 0#32
  ![0, v1333.toNat, 7, 0, 0]
def k0_off14 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1748 : Index := Scalar.indexCast v51
  let c0_530 : Index := 0#32
  let c0_531 : Index := 0#32
  ![v1748.toNat, 0, 0]
def k0_off15 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1791 : Index := Scalar.indexCast v51
  let c0_548 : Index := 0#32
  let c128 : Index := 128#32
  ![v1791.toNat, 0, 128]
def k0_off16 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1834 : Index := Scalar.indexCast v51
  let c0_565 : Index := 0#32
  let c256 : Index := 256#32
  ![v1834.toNat, 0, 256]
def k0_off17 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1877 : Index := Scalar.indexCast v51
  let c0_582 : Index := 0#32
  let c384 : Index := 384#32
  ![v1877.toNat, 0, 384]
def k0_off18 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1920 : Index := Scalar.indexCast v51
  let c0_599 : Index := 0#32
  let c512 : Index := 512#32
  ![v1920.toNat, 0, 512]
def k0_off19 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v1963 : Index := Scalar.indexCast v51
  let c0_616 : Index := 0#32
  let c640 : Index := 640#32
  ![v1963.toNat, 0, 640]
def k0_off20 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2006 : Index := Scalar.indexCast v51
  let c0_633 : Index := 0#32
  let c768 : Index := 768#32
  ![v2006.toNat, 0, 768]
def k0_off21 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2049 : Index := Scalar.indexCast v51
  let c0_650 : Index := 0#32
  let c896 : Index := 896#32
  ![v2049.toNat, 0, 896]
def k0_off22 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2055 : Index := Scalar.indexCast v51
  let c0_651 : Index := 0#32
  let c0_652 : Index := 0#32
  ![v2055.toNat, 0, 0]
def k0_off23 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2061 : Index := Scalar.indexCast v51
  let c0_653 : Index := 0#32
  let c64 : Index := 64#32
  ![v2061.toNat, 0, 64]
def k0_off24 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2067 : Index := Scalar.indexCast v51
  let c0_654 : Index := 0#32
  let c128_655 : Index := 128#32
  ![v2067.toNat, 0, 128]
def k0_off25 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2073 : Index := Scalar.indexCast v51
  let c0_656 : Index := 0#32
  let c192 : Index := 192#32
  ![v2073.toNat, 0, 192]
def k0_off26 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2079 : Index := Scalar.indexCast v51
  let c0_657 : Index := 0#32
  let c256_658 : Index := 256#32
  ![v2079.toNat, 0, 256]
def k0_off27 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2085 : Index := Scalar.indexCast v51
  let c0_659 : Index := 0#32
  let c320 : Index := 320#32
  ![v2085.toNat, 0, 320]
def k0_off28 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2091 : Index := Scalar.indexCast v51
  let c0_660 : Index := 0#32
  let c384_661 : Index := 384#32
  ![v2091.toNat, 0, 384]
def k0_off29 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2097 : Index := Scalar.indexCast v51
  let c0_662 : Index := 0#32
  let c448 : Index := 448#32
  ![v2097.toNat, 0, 448]
def k0_off30 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2103 : Index := Scalar.indexCast v51
  let c0_663 : Index := 0#32
  let c512_664 : Index := 512#32
  ![v2103.toNat, 0, 512]
def k0_off31 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2109 : Index := Scalar.indexCast v51
  let c0_665 : Index := 0#32
  let c576 : Index := 576#32
  ![v2109.toNat, 0, 576]
def k0_off32 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2115 : Index := Scalar.indexCast v51
  let c0_666 : Index := 0#32
  let c640_667 : Index := 640#32
  ![v2115.toNat, 0, 640]
def k0_off33 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2121 : Index := Scalar.indexCast v51
  let c0_668 : Index := 0#32
  let c704 : Index := 704#32
  ![v2121.toNat, 0, 704]
def k0_off34 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2127 : Index := Scalar.indexCast v51
  let c0_669 : Index := 0#32
  let c768_670 : Index := 768#32
  ![v2127.toNat, 0, 768]
def k0_off35 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2133 : Index := Scalar.indexCast v51
  let c0_671 : Index := 0#32
  let c832 : Index := 832#32
  ![v2133.toNat, 0, 832]
def k0_off36 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2139 : Index := Scalar.indexCast v51
  let c0_672 : Index := 0#32
  let c896_673 : Index := 896#32
  ![v2139.toNat, 0, 896]
def k0_off37 (k0_t1 : Fin k0_t1_loop.trips) (c0_i32_14 : BitVec 32) : Fin 3 → Nat :=
  let c0_i32_10 : BitVec 32 := 0#32
  let c1_i32_12 : BitVec 32 := 1#32
  let arg20 : BitVec 32 := Scf.iv c0_i32_10 c1_i32_12 k0_t1
  let c4_i32 : BitVec 32 := 4#32
  let v50 : BitVec 32 := Scalar.muli arg20 c4_i32
  let v51 : BitVec 32 := Scalar.addi v50 c0_i32_14
  let v2145 : Index := Scalar.indexCast v51
  let c0_674 : Index := 0#32
  let c960 : Index := 960#32
  ![v2145.toNat, 0, 960]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_18 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S8x8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x136x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x8x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x8x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixerRefIdeal.lean ====
abbrev S128x8x3072 : Shape := ⟨3, ![128, 8, 3072]⟩
abbrev S128x8x1024 : Shape := ⟨3, ![128, 8, 1024]⟩
abbrev S128x8x8 : Shape := ⟨3, ![128, 8, 8]⟩
abbrev S2x128 : Shape := ⟨2, ![2, 128]⟩
abbrev S2x128x8x128x128 : Shape := ⟨5, ![2, 128, 8, 128, 128]⟩
abbrev S128x8x256 : Shape := ⟨3, ![128, 8, 256]⟩
abbrev S2x128x128x4x64 : Shape := ⟨5, ![2, 128, 128, 4, 64]⟩
abbrev S32x16 : Shape := ⟨2, ![32, 16]⟩
abbrev S2x16 : Shape := ⟨2, ![2, 16]⟩
abbrev S2x128x128x256 : Shape := ⟨4, ![2, 128, 128, 256]⟩
abbrev S8x136 : Shape := ⟨2, ![8, 136]⟩
abbrev S1x128x128x4x64 : Shape := ⟨5, ![1, 128, 128, 4, 64]⟩
abbrev S128x128x4x64 : Shape := ⟨4, ![128, 128, 4, 64]⟩
abbrev S128x8x4x64 : Shape := ⟨4, ![128, 8, 4, 64]⟩
abbrev S128x136x4x64 : Shape := ⟨4, ![128, 136, 4, 64]⟩
abbrev S128x8x4x4x64 : Shape := ⟨5, ![128, 8, 4, 4, 64]⟩
abbrev S1x16 : Shape := ⟨2, ![1, 16]⟩
abbrev S16 : Shape := ⟨1, ![16]⟩
abbrev S16x32 : Shape := ⟨2, ![16, 32]⟩
abbrev S_ : Shape := ⟨0, ![]⟩
abbrev S8x136x1 : Shape := ⟨3, ![8, 136, 1]⟩
abbrev S16x8x136 : Shape := ⟨3, ![16, 8, 136]⟩
abbrev S4x4x8x136 : Shape := ⟨4, ![4, 4, 8, 136]⟩
abbrev S128x4x136x8x4 : Shape := ⟨5, ![128, 4, 136, 8, 4]⟩
abbrev S128x4x4x8x136 : Shape := ⟨5, ![128, 4, 4, 8, 136]⟩
abbrev S1x4x4x8x136 : Shape := ⟨5, ![1, 4, 4, 8, 136]⟩
abbrev S4x4x1x1 : Shape := ⟨4, ![4, 4, 1, 1]⟩
abbrev S128x4x4x8 : Shape := ⟨4, ![128, 4, 4, 8]⟩
abbrev S128x4x4x8x1 : Shape := ⟨5, ![128, 4, 4, 8, 1]⟩
abbrev S1x4x4x1x1 : Shape := ⟨5, ![1, 4, 4, 1, 1]⟩
abbrev S128x4x64x4x8 : Shape := ⟨5, ![128, 4, 64, 4, 8]⟩
abbrev S128x128x256 : Shape := ⟨3, ![128, 128, 256]⟩
abbrev S1x128x128x256 : Shape := ⟨4, ![1, 128, 128, 256]⟩

abbrev nBuf : Space → Nat
  | .hbm => 85
  | .vmem => 0
  | .smem => 0
  | _ => 0

abbrev bufTy : (tb : Table) → Fin (tcTables nBuf tb) → BufTy
  | .hbm, ⟨0, _⟩ => ⟨S128x8x3072, .f32⟩
  | .hbm, ⟨1, _⟩ => ⟨S128x8x1024, .f32⟩
  | .hbm, ⟨2, _⟩ => ⟨S128x8x8, .f32⟩
  | .hbm, ⟨3, _⟩ => ⟨S128x8x8, .f32⟩
  | .hbm, ⟨4, _⟩ => ⟨S2x128, .f32⟩
  | .hbm, ⟨5, _⟩ => ⟨S2x128x8x128x128, .f32⟩
  | .hbm, ⟨6, _⟩ => ⟨S128x8x1024, .f32⟩
  | .hbm, ⟨7, _⟩ => ⟨S128x8x256, .f32⟩
  | .hbm, ⟨8, _⟩ => ⟨S128x8x256, .f32⟩
  | .hbm, ⟨9, _⟩ => ⟨S2x128x128x4x64, .f32⟩
  | .hbm, ⟨10, _⟩ => ⟨S2x128x128x4x64, .f32⟩
  | .hbm, ⟨11, _⟩ => ⟨S32x16, .f32⟩
  | .hbm, ⟨12, _⟩ => ⟨S2x16, .f32⟩
  | .hbm, ⟨13, _⟩ => ⟨S2x128x8x128x128, .f32⟩
  | .hbm, ⟨14, _⟩ => ⟨S2x128x128x256, .f32⟩
  | .hbm, ⟨15, _⟩ => ⟨S2x128x128x256, .f32⟩
  | .hbm, ⟨16, _⟩ => ⟨S8x136, .i32⟩
  | .hbm, ⟨17, _⟩ => ⟨S8x136, .i1⟩
  | .hbm, ⟨18, _⟩ => ⟨S8x136, .i1⟩
  | .hbm, ⟨19, _⟩ => ⟨S1x128x128x4x64, .f32⟩
  | .hbm, ⟨20, _⟩ => ⟨S128x128x4x64, .f32⟩
  | .hbm, ⟨21, _⟩ => ⟨S128x8x4x64, .f32⟩
  | .hbm, ⟨22, _⟩ => ⟨S128x136x4x64, .f32⟩
  | .hbm, ⟨23, _⟩ => ⟨S1x128x128x4x64, .f32⟩
  | .hbm, ⟨24, _⟩ => ⟨S128x128x4x64, .f32⟩
  | .hbm, ⟨25, _⟩ => ⟨S128x8x4x64, .f32⟩
  | .hbm, ⟨26, _⟩ => ⟨S128x136x4x64, .f32⟩
  | .hbm, ⟨27, _⟩ => ⟨S128x8x4x4x64, .f32⟩
  | .hbm, ⟨28, _⟩ => ⟨S1x16, .f32⟩
  | .hbm, ⟨29, _⟩ => ⟨S16, .f32⟩
  | .hbm, ⟨30, _⟩ => ⟨S16x32, .f32⟩
  | .hbm, ⟨31, _⟩ => ⟨S_, .i32⟩
  | .hbm, ⟨32, _⟩ => ⟨S8x136, .i32⟩
  | .hbm, ⟨33, _⟩ => ⟨S8x136, .i32⟩
  | .hbm, ⟨34, _⟩ => ⟨S8x136, .i32⟩
  | .hbm, ⟨35, _⟩ => ⟨S8x136x1, .i32⟩
  | .hbm, ⟨36, _⟩ => ⟨S16x8x136, .f32⟩
  | .hbm, ⟨37, _⟩ => ⟨S4x4x8x136, .f32⟩
  | .hbm, ⟨38, _⟩ => ⟨S128x4x136x8x4, .f32⟩
  | .hbm, ⟨39, _⟩ => ⟨S128x4x4x8x136, .f32⟩
  | .hbm, ⟨40, _⟩ => ⟨S_, .f32⟩
  | .hbm, ⟨41, _⟩ => ⟨S128x4x4x8x136, .f32⟩
  | .hbm, ⟨42, _⟩ => ⟨S128x4x4x8x136, .f32⟩
  | .hbm, ⟨43, _⟩ => ⟨S1x4x4x8x136, .f32⟩
  | .hbm, ⟨44, _⟩ => ⟨S128x4x4x8x136, .f32⟩
  | .hbm, ⟨45, _⟩ => ⟨S128x4x4x8x136, .f32⟩
  | .hbm, ⟨46, _⟩ => ⟨S_, .f32⟩
  | .hbm, ⟨47, _⟩ => ⟨S_, .f32⟩
  | .hbm, ⟨48, _⟩ => ⟨S128x4x4x8x136, .i1⟩
  | .hbm, ⟨49, _⟩ => ⟨S128x4x4x8x136, .f32⟩
  | .hbm, ⟨50, _⟩ => ⟨S128x4x4x8x136, .f32⟩
  | .hbm, ⟨51, _⟩ => ⟨S4x4x1x1, .f32⟩
  | .hbm, ⟨52, _⟩ => ⟨S_, .f32⟩
  | .hbm, ⟨53, _⟩ => ⟨S128x4x4x8, .f32⟩
  | .hbm, ⟨54, _⟩ => ⟨S128x4x4x8x1, .f32⟩
  | .hbm, ⟨55, _⟩ => ⟨S1x4x4x1x1, .f32⟩
  | .hbm, ⟨56, _⟩ => ⟨S128x4x4x8x1, .f32⟩
  | .hbm, ⟨57, _⟩ => ⟨S128x4x4x8x1, .f32⟩
  | .hbm, ⟨58, _⟩ => ⟨S128x4x4x8x136, .f32⟩
  | .hbm, ⟨59, _⟩ => ⟨S128x4x4x8x136, .f32⟩
  | .hbm, ⟨60, _⟩ => ⟨S128x4x4x8x136, .f32⟩
  | .hbm, ⟨61, _⟩ => ⟨S_, .f32⟩
  | .hbm, ⟨62, _⟩ => ⟨S128x4x4x8, .f32⟩
  | .hbm, ⟨63, _⟩ => ⟨S128x4x4x8x1, .f32⟩
  | .hbm, ⟨64, _⟩ => ⟨S1x4x4x1x1, .f32⟩
  | .hbm, ⟨65, _⟩ => ⟨S128x4x4x8x1, .f32⟩
  | .hbm, ⟨66, _⟩ => ⟨S128x4x4x8x1, .f32⟩
  | .hbm, ⟨67, _⟩ => ⟨S128x4x4x8x1, .f32⟩
  | .hbm, ⟨68, _⟩ => ⟨S128x4x4x8x1, .f32⟩
  | .hbm, ⟨69, _⟩ => ⟨S128x4x4x8x136, .f32⟩
  | .hbm, ⟨70, _⟩ => ⟨S128x4x4x8x136, .f32⟩
  | .hbm, ⟨71, _⟩ => ⟨S128x4x64x4x8, .f32⟩
  | .hbm, ⟨72, _⟩ => ⟨S128x8x4x4x64, .f32⟩
  | .hbm, ⟨73, _⟩ => ⟨S128x8x1024, .f32⟩
  | .hbm, ⟨74, _⟩ => ⟨S128x8x1024, .bf16⟩
  | .hbm, ⟨75, _⟩ => ⟨S128x128x4x64, .f32⟩
  | .hbm, ⟨76, _⟩ => ⟨S128x128x256, .f32⟩
  | .hbm, ⟨77, _⟩ => ⟨S1x128x128x256, .f32⟩
  | .hbm, ⟨78, _⟩ => ⟨S1x128x128x256, .f32⟩
  | .hbm, ⟨79, _⟩ => ⟨S2x128x128x256, .f32⟩
  | .hbm, ⟨80, _⟩ => ⟨S128x128x4x64, .f32⟩
  | .hbm, ⟨81, _⟩ => ⟨S128x128x256, .f32⟩
  | .hbm, ⟨82, _⟩ => ⟨S1x128x128x256, .f32⟩
  | .hbm, ⟨83, _⟩ => ⟨S1x128x128x256, .f32⟩
  | .hbm, ⟨84, _⟩ => ⟨S2x128x128x256, .f32⟩
  | _, _ => ⟨S128x8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== TailSample.lean ====
abbrev S128x8x1024 : Shape := ⟨3, ![128, 8, 1024]⟩
abbrev S128x8x2048 : Shape := ⟨3, ![128, 8, 2048]⟩
abbrev S128x6144 : Shape := ⟨2, ![128, 6144]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S128x1x6144 : Shape := ⟨3, ![128, 1, 6144]⟩
abbrev S64x8x1024 : Shape := ⟨3, ![64, 8, 1024]⟩
abbrev S64x8x2048 : Shape := ⟨3, ![64, 8, 2048]⟩
abbrev S64x1x6144 : Shape := ⟨3, ![64, 1, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S128x1024 : Shape := ⟨2, ![128, 1024]⟩
abbrev S64x1x1024 : Shape := ⟨3, ![64, 1, 1024]⟩
abbrev S64x8 : Shape := ⟨2, ![64, 8]⟩
abbrev S64x8x1 : Shape := ⟨3, ![64, 8, 1]⟩
abbrev S1x1x1024 : Shape := ⟨3, ![1, 1, 1024]⟩

abbrev nBuf : Space → Nat
  | .hbm => 35
  | .vmem => 21
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S128x8x1024, .f32⟩
  | .hbm, ⟨3, _⟩ => ⟨S128x8x2048, .f32⟩
  | .hbm, ⟨4, _⟩ => ⟨S128x6144, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S2x1024x4096, .f32⟩
  | .hbm, ⟨11, _⟩ => ⟨S2x4096x1024, .f32⟩
  | .hbm, ⟨12, _⟩ => ⟨S2x1024, .f32⟩
  | .hbm, ⟨13, _⟩ => ⟨S2x1024, .f32⟩
  | .hbm, ⟨14, _⟩ => ⟨S2x1024x1024, .bf16⟩
  | .hbm, ⟨15, _⟩ => ⟨S2x1024x1024, .bf16⟩
  | .hbm, ⟨16, _⟩ => ⟨S2x1024x1024, .bf16⟩
  | .hbm, ⟨17, _⟩ => ⟨S2x1024x4096, .bf16⟩
  | .hbm, ⟨18, _⟩ => ⟨S2x4096x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S128x8x1024, .bf16⟩
  | .hbm, ⟨32, _⟩ => ⟨S128x8x1024, .bf16⟩
  | .hbm, ⟨33, _⟩ => ⟨S128x1x6144, .f32⟩
  | .hbm, ⟨34, _⟩ => ⟨S128x8x1024, .f32⟩
  | .local _ .vmem, ⟨0, _⟩ => ⟨S64x8x1024, .f32⟩
  | .local _ .vmem, ⟨1, _⟩ => ⟨S64x8x1024, .f32⟩
  | .local _ .vmem, ⟨2, _⟩ => ⟨S64x8x1024, .bf16⟩
  | .local _ .vmem, ⟨3, _⟩ => ⟨S64x8x1024, .bf16⟩
  | .local _ .vmem, ⟨4, _⟩ => ⟨S64x8x1024, .bf16⟩
  | .local _ .vmem, ⟨5, _⟩ => ⟨S64x8x1024, .bf16⟩
  | .local _ .vmem, ⟨6, _⟩ => ⟨S64x8x2048, .f32⟩
  | .local _ .vmem, ⟨7, _⟩ => ⟨S64x8x2048, .f32⟩
  | .local _ .vmem, ⟨8, _⟩ => ⟨S64x1x6144, .f32⟩
  | .local _ .vmem, ⟨9, _⟩ => ⟨S64x1x6144, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024x4096, .bf16⟩
  | .local _ .vmem, ⟨16, _⟩ => ⟨S1x4096x1024, .bf16⟩
  | .local _ .vmem, ⟨17, _⟩ => ⟨S1x1024, .f32⟩
  | .local _ .vmem, ⟨18, _⟩ => ⟨S1x1024, .f32⟩
  | .local _ .vmem, ⟨19, _⟩ => ⟨S64x8x1024, .f32⟩
  | .local _ .vmem, ⟨20, _⟩ => ⟨S64x8x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== TailSampleRefIdeal.lean ====
abbrev S128x8x1024 : Shape := ⟨3, ![128, 8, 1024]⟩
abbrev S128x8x2048 : Shape := ⟨3, ![128, 8, 2048]⟩
abbrev S128x6144 : Shape := ⟨2, ![128, 6144]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S128x1x6144 : Shape := ⟨3, ![128, 1, 6144]⟩
abbrev S128x1x1024 : Shape := ⟨3, ![128, 1, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S128x8 : Shape := ⟨2, ![128, 8]⟩
abbrev S128x8x1 : Shape := ⟨3, ![128, 8, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S128x8x4096 : Shape := ⟨3, ![128, 8, 4096]⟩
abbrev S1x4096x1024 : Shape := ⟨3, ![1, 4096, 1024]⟩
abbrev S4096x1024 : Shape := ⟨2, ![4096, 1024]⟩

abbrev nBuf : Space → Nat
  | .hbm => 130
  | .vmem => 0
  | .smem => 0
  | _ => 0

abbrev hbmTy0_0 (i : Nat) : BufTy := match i % 128 with
  | 0 => ⟨S128x8x1024, .f32⟩
  | 1 => ⟨S128x8x1024, .f32⟩
  | 2 => ⟨S128x8x1024, .f32⟩
  | 3 => ⟨S128x8x2048, .f32⟩
  | 4 => ⟨S128x6144, .f32⟩
  | 5 => ⟨S2x1024x1024, .f32⟩
  | 6 => ⟨S2x1024x1024, .f32⟩
  | 7 => ⟨S2x1024x1024, .f32⟩
  | 8 => ⟨S2x1024, .f32⟩
  | 9 => ⟨S2x1024, .f32⟩
  | 10 => ⟨S2x1024x4096, .f32⟩
  | 11 => ⟨S2x4096x1024, .f32⟩
  | 12 => ⟨S2x1024, .f32⟩
  | 13 => ⟨S2x1024, .f32⟩
  | 14 => ⟨S128x1x6144, .f32⟩
  | 15 => ⟨S128x1x1024, .f32⟩
  | 16 => ⟨S128x1x1024, .f32⟩
  | 17 => ⟨S128x1x1024, .f32⟩
  | 18 => ⟨S128x1x1024, .f32⟩
  | 19 => ⟨S128x1x1024, .f32⟩
  | 20 => ⟨S128x1x1024, .f32⟩
  | 21 => ⟨S128x8x1024, .f32⟩
  | 22 => ⟨S128x8x1024, .f32⟩
  | 23 => ⟨S1x1024x1024, .f32⟩
  | 24 => ⟨S1024x1024, .f32⟩
  | 25 => ⟨S128x8x1024, .f32⟩
  | 26 => ⟨S128x8x1024, .f32⟩
  | 27 => ⟨S1x1024x1024, .f32⟩
  | 28 => ⟨S1024x1024, .f32⟩
  | 29 => ⟨S128x8x1024, .f32⟩
  | 30 => ⟨S128x8x1024, .f32⟩
  | 31 => ⟨S128x8x1024, .f32⟩
  | 32 => ⟨S_, .f32⟩
  | 33 => ⟨S128x8x1024, .f32⟩
  | 34 => ⟨S128x8x1024, .f32⟩
  | 35 => ⟨S1x1024x1024, .f32⟩
  | 36 => ⟨S1024x1024, .f32⟩
  | 37 => ⟨S128x8x1024, .f32⟩
  | 38 => ⟨S128x8x1024, .f32⟩
  | 39 => ⟨S128x8x1024, .f32⟩
  | 40 => ⟨S128x8x1024, .f32⟩
  | 41 => ⟨S1x1024, .f32⟩
  | 42 => ⟨S1024, .f32⟩
  | 43 => ⟨S1x1024, .f32⟩
  | 44 => ⟨S1024, .f32⟩
  | 45 => ⟨S_, .f32⟩
  | 46 => ⟨S128x8, .f32⟩
  | 47 => ⟨S128x8x1, .f32⟩
  | 48 => ⟨S_, .f32⟩
  | 49 => ⟨S128x8x1, .f32⟩
  | 50 => ⟨S128x8x1, .f32⟩
  | 51 => ⟨S128x8x1024, .f32⟩
  | 52 => ⟨S128x8x1024, .f32⟩
  | 53 => ⟨S128x8x1024, .f32⟩
  | 54 => ⟨S_, .f32⟩
  | 55 => ⟨S128x8, .f32⟩
  | 56 => ⟨S128x8x1, .f32⟩
  | 57 => ⟨S_, .f32⟩
  | 58 => ⟨S128x8x1, .f32⟩
  | 59 => ⟨S128x8x1, .f32⟩
  | 60 => ⟨S128x8x1024, .f32⟩
  | 61 => ⟨S128x8x1024, .f32⟩
  | 62 => ⟨S_, .f32⟩
  | 63 => ⟨S128x8x1, .f32⟩
  | 64 => ⟨S128x8x1, .f32⟩
  | 65 => ⟨S128x8x1, .f32⟩
  | 66 => ⟨S128x8x1024, .f32⟩
  | 67 => ⟨S128x8x1024, .f32⟩
  | 68 => ⟨S1x1x1024, .f32⟩
  | 69 => ⟨S128x8x1024, .f32⟩
  | 70 => ⟨S128x8x1024, .f32⟩
  | 71 => ⟨S1x1x1024, .f32⟩
  | 72 => ⟨S128x8x1024, .f32⟩
  | 73 => ⟨S128x8x1024, .f32⟩
  | 74 => ⟨S_, .f32⟩
  | 75 => ⟨S128x1x1024, .f32⟩
  | 76 => ⟨S128x1x1024, .f32⟩
  | 77 => ⟨S128x8x1024, .f32⟩
  | 78 => ⟨S128x8x1024, .f32⟩
  | 79 => ⟨S128x8x1024, .f32⟩
  | 80 => ⟨S128x8x1024, .f32⟩
  | 81 => ⟨S1x1024x4096, .f32⟩
  | 82 => ⟨S1024x4096, .f32⟩
  | 83 => ⟨S128x8x4096, .f32⟩
  | 84 => ⟨S_, .f32⟩
  | 85 => ⟨S128x8x4096, .f32⟩
  | 86 => ⟨S128x8x4096, .f32⟩
  | 87 => ⟨S128x8x4096, .f32⟩
  | 88 => ⟨S1x4096x1024, .f32⟩
  | 89 => ⟨S4096x1024, .f32⟩
  | 90 => ⟨S128x8x1024, .f32⟩
  | 91 => ⟨S_, .f32⟩
  | 92 => ⟨S128x8x1024, .f32⟩
  | 93 => ⟨S128x8x1024, .f32⟩
  | 94 => ⟨S128x8x1024, .f32⟩
  | 95 => ⟨S128x8x1024, .f32⟩
  | 96 => ⟨S128x8x1024, .f32⟩
  | 97 => ⟨S1x1024, .f32⟩
  | 98 => ⟨S1024, .f32⟩
  | 99 => ⟨S1x1024, .f32⟩
  | 100 => ⟨S1024, .f32⟩
  | 101 => ⟨S_, .f32⟩
  | 102 => ⟨S128x8, .f32⟩
  | 103 => ⟨S128x8x1, .f32⟩
  | 104 => ⟨S_, .f32⟩
  | 105 => ⟨S128x8x1, .f32⟩
  | 106 => ⟨S128x8x1, .f32⟩
  | 107 => ⟨S128x8x1024, .f32⟩
  | 108 => ⟨S128x8x1024, .f32⟩
  | 109 => ⟨S128x8x1024, .f32⟩
  | 110 => ⟨S_, .f32⟩
  | 111 => ⟨S128x8, .f32⟩
  | 112 => ⟨S128x8x1, .f32⟩
  | 113 => ⟨S_, .f32⟩
  | 114 => ⟨S128x8x1, .f32⟩
  | 115 => ⟨S128x8x1, .f32⟩
  | 116 => ⟨S128x8x1024, .f32⟩
  | 117 => ⟨S128x8x1024, .f32⟩
  | 118 => ⟨S_, .f32⟩
  | 119 => ⟨S128x8x1, .f32⟩
  | 120 => ⟨S128x8x1, .f32⟩
  | 121 => ⟨S128x8x1, .f32⟩
  | 122 => ⟨S128x8x1024, .f32⟩
  | 123 => ⟨S128x8x1024, .f32⟩
  | 124 => ⟨S1x1x1024, .f32⟩
  | 125 => ⟨S128x8x1024, .f32⟩
  | 126 => ⟨S128x8x1024, .f32⟩
  | 127 => ⟨S1x1x1024, .f32⟩
  | _ => ⟨S128x8x1024, .f32⟩

abbrev hbmTy0_1 (i : Nat) : BufTy := match i % 128 with
  | 0 => ⟨S128x8x1024, .f32⟩
  | 1 => ⟨S128x8x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call0_cst : Ref sig .tc := ⟨.hbm, 84, rfl⟩
abbrev main_call0_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_6 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_7 : Ref sig .tc := ⟨.hbm, 101, rfl⟩
abbrev main_v77 : Ref sig .tc := ⟨.hbm, 102, rfl⟩
abbrev main_v78 : Ref sig .tc := ⟨.hbm, 103, rfl⟩
abbrev main_cst_8 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_9 : Ref sig .tc := ⟨.hbm, 110, rfl⟩
abbrev main_v84 : Ref sig .tc := ⟨.hbm, 111, rfl⟩
abbrev main_v85 : Ref sig .tc := ⟨.hbm, 112, rfl⟩
abbrev main_cst_10 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_11 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Front.lean ====
abbrev S128x8x1024 : Shape := ⟨3, ![128, 8, 1024]⟩
abbrev S128x6144 : Shape := ⟨2, ![128, 6144]⟩
abbrev S128x3x3072 : Shape := ⟨3, ![128, 3, 3072]⟩
abbrev S2x1024x7696 : Shape := ⟨3, ![2, 1024, 7696]⟩
abbrev S2x4x3072 : Shape := ⟨3, ![2, 4, 3072]⟩
abbrev S2x8 : Shape := ⟨2, ![2, 8]⟩
abbrev S2x1024x4096 : Shape := ⟨3, ![2, 1024, 4096]⟩
abbrev S2x1024x3584 : Shape := ⟨3, ![2, 1024, 3584]⟩
abbrev S2x1024x7680 : Shape := ⟨3, ![2, 1024, 7680]⟩
abbrev S2x1024x16 : Shape := ⟨3, ![2, 1024, 16]⟩
abbrev S_ : Shape := ⟨0, ![]⟩
abbrev S2x1024x128 : Shape := ⟨3, ![2, 1024, 128]⟩
abbrev S2x128 : Shape := ⟨2, ![2, 128]⟩
abbrev S1x8 : Shape := ⟨2, ![1, 8]⟩
abbrev S8 : Shape := ⟨1, ![8]⟩
abbrev S1 : Shape := ⟨1, ![1]⟩
abbrev S2 : Shape := ⟨1, ![2]⟩
abbrev S1x4x3072 : Shape := ⟨3, ![1, 4, 3072]⟩
abbrev S4x3072 : Shape := ⟨2, ![4, 3072]⟩
abbrev S128x1x6144 : Shape := ⟨3, ![128, 1, 6144]⟩
abbrev S128x8x3072 : Shape := ⟨3, ![128, 8, 3072]⟩
abbrev S128x8x128 : Shape := ⟨3, ![128, 8, 128]⟩
abbrev S128x8x256 : Shape := ⟨3, ![128, 8, 256]⟩
abbrev S128x8x2048 : Shape := ⟨3, ![128, 8, 2048]⟩
abbrev S32x8x1024 : Shape := ⟨3, ![32, 8, 1024]⟩
abbrev S32x1x6144 : Shape := ⟨3, ![32, 1, 6144]⟩
abbrev S32x3x3072 : Shape := ⟨3, ![32, 3, 3072]⟩
abbrev S1x1024x7680 : Shape := ⟨3, ![1, 1024, 7680]⟩
abbrev S1x1024x128 : Shape := ⟨3, ![1, 1024, 128]⟩
abbrev S32x8x3072 : Shape := ⟨3, ![32, 8, 3072]⟩
abbrev S32x8x128 : Shape := ⟨3, ![32, 8, 128]⟩
abbrev S32x8x256 : Shape := ⟨3, ![32, 8, 256]⟩
abbrev S32x8x2048 : Shape := ⟨3, ![32, 8, 2048]⟩
abbrev S32x16x3072 : Shape := ⟨3, ![32, 16, 3072]⟩
abbrev S32x1x1024 : Shape := ⟨3, ![32, 1, 1024]⟩
abbrev S256x1024 : Shape := ⟨2, ![256, 1024]⟩
abbrev S1x1024x512 : Shape := ⟨3, ![1, 1024, 512]⟩
abbrev S1024x512 : Shape := ⟨2, ![1024, 512]⟩
abbrev S128x1024 : Shape := ⟨2, ![128, 1024]⟩
abbrev S128x512 : Shape := ⟨2, ![128, 512]⟩
abbrev S256x512 : Shape := ⟨2, ![256, 512]⟩
abbrev S32x8x512 : Shape := ⟨3, ![32, 8, 512]⟩
abbrev S32x16x512 : Shape := ⟨3, ![32, 16, 512]⟩
abbrev S1x512 : Shape := ⟨2, ![1, 512]⟩
abbrev S1x1x512 : Shape := ⟨3, ![1, 1, 512]⟩
abbrev S256x256 : Shape := ⟨2, ![256, 256]⟩
abbrev S1024x128 : Shape := ⟨2, ![1024, 128]⟩
abbrev S256x128 : Shape := ⟨2, ![256, 128]⟩
abbrev S1x128 : Shape := ⟨2, ![1, 128]⟩

abbrev nBuf : Space → Nat
  | .hbm => 47
  | .vmem => 27
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S128x3x3072, .f32⟩
  | .hbm, ⟨3, _⟩ => ⟨S2x1024x7696, .f32⟩
  | .hbm, ⟨4, _⟩ => ⟨S2x4x3072, .f32⟩
  | .hbm, ⟨5, _⟩ => ⟨S2x8, .f32⟩
  | .hbm, ⟨6, _⟩ => ⟨S2x8, .f32⟩
  | .hbm, ⟨7, _⟩ => ⟨S2x1024x4096, .f32⟩
  | .hbm, ⟨8, _⟩ => ⟨S2x1024x3584, .f32⟩
  | .hbm, ⟨9, _⟩ => ⟨S2x1024x7680, .f32⟩
  | .hbm, ⟨10, _⟩ => ⟨S2x1024x7680, .bf16⟩
  | .hbm, ⟨11, _⟩ => ⟨S2x1024x16, .f32⟩
  | .hbm, ⟨12, _⟩ => ⟨S_, .i32⟩
  | .hbm, ⟨13, _⟩ => ⟨S_, .f32⟩
  | .hbm, ⟨14, _⟩ => ⟨S2x1024x128, .f32⟩
  | .hbm, ⟨15, _⟩ => ⟨S2x1024x128, .bf16⟩
  | .hbm, ⟨16, _⟩ => ⟨S_, .f32⟩
  | .hbm, ⟨17, _⟩ => ⟨S2x128, .f32⟩
  | .hbm, ⟨18, _⟩ => ⟨S1x8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S2x128, .f32⟩
  | .hbm, ⟨28, _⟩ => ⟨S1x8, .f32⟩
  | .hbm, ⟨29, _⟩ => ⟨S8, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S2x128, .f32⟩
  | .hbm, ⟨36, _⟩ => ⟨S1x4x3072, .f32⟩
  | .hbm, ⟨37, _⟩ => ⟨S4x3072, .f32⟩
  | .hbm, ⟨38, _⟩ => ⟨S128x1x6144, .f32⟩
  | .hbm, ⟨39, _⟩ => ⟨S128x8x3072, .f32⟩
  | .hbm, ⟨40, _⟩ => ⟨S128x8x1024, .f32⟩
  | .hbm, ⟨41, _⟩ => ⟨S128x8x128, .f32⟩
  | .hbm, ⟨42, _⟩ => ⟨S128x8x1024, .bf16⟩
  | .hbm, ⟨43, _⟩ => ⟨S128x8x256, .f32⟩
  | .hbm, ⟨44, _⟩ => ⟨S128x8x256, .f32⟩
  | .hbm, ⟨45, _⟩ => ⟨S128x8x2048, .f32⟩
  | .hbm, ⟨46, _⟩ => ⟨S128x3x3072, .f32⟩
  | .local _ .vmem, ⟨0, _⟩ => ⟨S32x8x1024, .f32⟩
  | .local _ .vmem, ⟨1, _⟩ => ⟨S32x8x1024, .f32⟩
  | .local _ .vmem, ⟨2, _⟩ => ⟨S32x1x6144, .f32⟩
  | .local _ .vmem, ⟨3, _⟩ => ⟨S32x1x6144, .f32⟩
  | .local _ .vmem, ⟨4, _⟩ => ⟨S32x3x3072, .f32⟩
  | .local _ .vmem, ⟨5, _⟩ => ⟨S32x3x3072, .f32⟩
  | .local _ .vmem, ⟨6, _⟩ => ⟨S1x1024x7680, .bf16⟩
  | .local _ .vmem, ⟨7, _⟩ => ⟨S1x1024x128, .bf16⟩
  | .local _ .vmem, ⟨8, _⟩ => ⟨S4x3072, .f32⟩
  | .local _ .vmem, ⟨9, _⟩ => ⟨S2x128, .f32⟩
  | .local _ .vmem, ⟨10, _⟩ => ⟨S32x8x3072, .f32⟩
  | .local _ .vmem, ⟨11, _⟩ => ⟨S32x8x3072, .f32⟩
  | .local _ .vmem, ⟨12, _⟩ => ⟨S32x8x1024, .f32⟩
  | .local _ .vmem, ⟨13, _⟩ => ⟨S32x8x1024, .f32⟩
  | .local _ .vmem, ⟨14, _⟩ => ⟨S32x8x128, .f32⟩
  | .local _ .vmem, ⟨15, _⟩ => ⟨S32x8x128, .f32⟩
  | .local _ .vmem, ⟨16, _⟩ => ⟨S32x8x1024, .bf16⟩
  | .local _ .vmem, ⟨17, _⟩ => ⟨S32x8x1024, .bf16⟩
  | .local _ .vmem, ⟨18, _⟩ => ⟨S32x8x256, .f32⟩
  | .local _ .vmem, ⟨19, _⟩ => ⟨S32x8x256, .f32⟩
  | .local _ .vmem, ⟨20, _⟩ => ⟨S32x8x256, .f32⟩
  | .local _ .vmem, ⟨21, _⟩ => ⟨S32x8x256, .f32⟩
  | .local _ .vmem, ⟨22, _⟩ => ⟨S32x8x2048, .f32⟩
  | .local _ .vmem, ⟨23, _⟩ => ⟨S32x8x2048, .f32⟩
  | .local _ .vmem, ⟨24, _⟩ => ⟨S32x3x3072, .f32⟩
  | .local _ .vmem, ⟨25, _⟩ => ⟨S32x3x3072, .f32⟩
  | .local _ .vmem, ⟨26, _⟩ => ⟨S32x16x3072, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_v25_5 : Ref sig .tc := ⟨.hbm, 44, rfl⟩
abbrev main_v25_6 : Ref sig .tc := ⟨.hbm, 45, rfl⟩
abbrev main_v25_7 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x3x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x7680 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x8x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x8x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x8x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x3x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FrontRefIdeal.lean ====
abbrev S128x8x1024 : Shape := ⟨3, ![128, 8, 1024]⟩
abbrev S128x6144 : Shape := ⟨2, ![128, 6144]⟩
abbrev S128x3x3072 : Shape := ⟨3, ![128, 3, 3072]⟩
abbrev S2x1024x7696 : Shape := ⟨3, ![2, 1024, 7696]⟩
abbrev S2x4x3072 : Shape := ⟨3, ![2, 4, 3072]⟩
abbrev S2x8 : Shape := ⟨2, ![2, 8]⟩
abbrev S128x1024 : Shape := ⟨2, ![128, 1024]⟩
abbrev S128x1x1024 : Shape := ⟨3, ![128, 1, 1024]⟩
abbrev S_ : Shape := ⟨0, ![]⟩
abbrev S1x1024x7696 : Shape := ⟨3, ![1, 1024, 7696]⟩
abbrev S1024x7696 : Shape := ⟨2, ![1024, 7696]⟩
abbrev S128x8x7696 : Shape := ⟨3, ![128, 8, 7696]⟩
abbrev S128x8x3072 : Shape := ⟨3, ![128, 8, 3072]⟩
abbrev S128x8x8 : Shape := ⟨3, ![128, 8, 8]⟩
abbrev S128x8x256 : Shape := ⟨3, ![128, 8, 256]⟩
abbrev S128x8x2048 : Shape := ⟨3, ![128, 8, 2048]⟩
abbrev S1x4x3072 : Shape := ⟨3, ![1, 4, 3072]⟩
abbrev S4x3072 : Shape := ⟨2, ![4, 3072]⟩
abbrev S128x11x3072 : Shape := ⟨3, ![128, 11, 3072]⟩
abbrev S1x3072 : Shape := ⟨2, ![1, 3072]⟩
abbrev S3072 : Shape := ⟨1, ![3072]⟩
abbrev S1x1x3072 : Shape := ⟨3, ![1, 1, 3072]⟩
abbrev S1x8 : Shape := ⟨2, ![1, 8]⟩
abbrev S8 : Shape := ⟨1, ![8]⟩
abbrev S1x1x8 : Shape := ⟨3, ![1, 1, 8]⟩
abbrev S128x8x112 : Shape := ⟨3, ![128, 8, 112]⟩
abbrev S128x8x128 : Shape := ⟨3, ![128, 8, 128]⟩

abbrev nBuf : Space → Nat
  | .hbm => 121
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S128x3x3072, .f32⟩
  | .hbm, ⟨3, _⟩ => ⟨S2x1024x7696, .f32⟩
  | .hbm, ⟨4, _⟩ => ⟨S2x4x3072, .f32⟩
  | .hbm, ⟨5, _⟩ => ⟨S2x8, .f32⟩
  | .hbm, ⟨6, _⟩ => ⟨S2x8, .f32⟩
  | .hbm, ⟨7, _⟩ => ⟨S128x1024, .f32⟩
  | .hbm, ⟨8, _⟩ => ⟨S128x1x1024, .f32⟩
  | .hbm, ⟨9, _⟩ => ⟨S128x1024, .f32⟩
  | .hbm, ⟨10, _⟩ => ⟨S128x1x1024, .f32⟩
  | .hbm, ⟨11, _⟩ => ⟨S_, .f32⟩
  | .hbm, ⟨12, _⟩ => ⟨S128x1x1024, .f32⟩
  | .hbm, ⟨13, _⟩ => ⟨S128x1x1024, .f32⟩
  | .hbm, ⟨14, _⟩ => ⟨S128x8x1024, .f32⟩
  | .hbm, ⟨15, _⟩ => ⟨S128x8x1024, .f32⟩
  | .hbm, ⟨16, _⟩ => ⟨S128x8x1024, .f32⟩
  | .hbm, ⟨17, _⟩ => ⟨S128x8x1024, .f32⟩
  | .hbm, ⟨18, _⟩ => ⟨S1x1024x7696, .f32⟩
  | .hbm, ⟨19, _⟩ => ⟨S1024x7696, .f32⟩
  | .hbm, ⟨20, _⟩ => ⟨S128x8x7696, .f32⟩
  | .hbm, ⟨21, _⟩ => ⟨S128x8x3072, .f32⟩
  | .hbm, ⟨22, _⟩ => ⟨S128x8x1024, .f32⟩
  | .hbm, ⟨23, _⟩ => ⟨S128x8x8, .f32⟩
  | .hbm, ⟨24, _⟩ => ⟨S128x8x8, .f32⟩
  | .hbm, ⟨25, _⟩ => ⟨S128x8x1024, .f32⟩
  | .hbm, ⟨26, _⟩ => ⟨S128x8x256, .f32⟩
  | .hbm, ⟨27, _⟩ => ⟨S128x8x256, .f32⟩
  | .hbm, ⟨28, _⟩ => ⟨S128x8x2048, .f32⟩
  | .hbm, ⟨29, _⟩ => ⟨S1x4x3072, .f32⟩
  | .hbm, ⟨30, _⟩ => ⟨S4x3072, .f32⟩
  | .hbm, ⟨31, _⟩ => ⟨S128x11x3072, .f32⟩
  | .hbm, ⟨32, _⟩ => ⟨S128x8x3072, .f32⟩
  | .hbm, ⟨33, _⟩ => ⟨S1x3072, .f32⟩
  | .hbm, ⟨34, _⟩ => ⟨S3072, .f32⟩
  | .hbm, ⟨35, _⟩ => ⟨S1x1x3072, .f32⟩
  | .hbm, ⟨36, _⟩ => ⟨S128x8x3072, .f32⟩
  | .hbm, ⟨37, _⟩ => ⟨S128x8x3072, .f32⟩
  | .hbm, ⟨38, _⟩ => ⟨S_, .f32⟩
  | .hbm, ⟨39, _⟩ => ⟨S128x8x3072, .f32⟩
  | .hbm, ⟨40, _⟩ => ⟨S128x8x3072, .f32⟩
  | .hbm, ⟨41, _⟩ => ⟨S128x8x3072, .f32⟩
  | .hbm, ⟨42, _⟩ => ⟨S1x3072, .f32⟩
  | .hbm, ⟨43, _⟩ => ⟨S3072, .f32⟩
  | .hbm, ⟨44, _⟩ => ⟨S1x1x3072, .f32⟩
  | .hbm, ⟨45, _⟩ => ⟨S128x8x3072, .f32⟩
  | .hbm, ⟨46, _⟩ => ⟨S128x8x3072, .f32⟩
  | .hbm, ⟨47, _⟩ => ⟨S128x8x3072, .f32⟩
  | .hbm, ⟨48, _⟩ => ⟨S128x8x3072, .f32⟩
  | .hbm, ⟨49, _⟩ => ⟨S1x3072, .f32⟩
  | .hbm, ⟨50, _⟩ => ⟨S3072, .f32⟩
  | .hbm, ⟨51, _⟩ => ⟨S1x1x3072, .f32⟩
  | .hbm, ⟨52, _⟩ => ⟨S128x8x3072, .f32⟩
  | .hbm, ⟨53, _⟩ => ⟨S128x8x3072, .f32⟩
  | .hbm, ⟨54, _⟩ => ⟨S128x8x3072, .f32⟩
  | .hbm, ⟨55, _⟩ => ⟨S128x8x3072, .f32⟩
  | .hbm, ⟨56, _⟩ => ⟨S1x3072, .f32⟩
  | .hbm, ⟨57, _⟩ => ⟨S3072, .f32⟩
  | .hbm, ⟨58, _⟩ => ⟨S1x1x3072, .f32⟩
  | .hbm, ⟨59, _⟩ => ⟨S128x8x3072, .f32⟩
  | .hbm, ⟨60, _⟩ => ⟨S128x8x3072, .f32⟩
  | .hbm, ⟨61, _⟩ => ⟨S128x8x3072, .f32⟩
  | .hbm, ⟨62, _⟩ => ⟨S128x8x3072, .f32⟩
  | .hbm, ⟨63, _⟩ => ⟨S128x8x3072, .f32⟩
  | .hbm, ⟨64, _⟩ => ⟨S_, .f32⟩
  | .hbm, ⟨65, _⟩ => ⟨S128x8x3072, .f32⟩
  | .hbm, ⟨66, _⟩ => ⟨S128x8x3072, .f32⟩
  | .hbm, ⟨67, _⟩ => ⟨S_, .f32⟩
  | .hbm, ⟨68, _⟩ => ⟨S128x8x3072, .f32⟩
  | .hbm, ⟨69, _⟩ => ⟨S128x8x3072, .f32⟩
  | .hbm, ⟨70, _⟩ => ⟨S128x8x3072, .f32⟩
  | .hbm, ⟨71, _⟩ => ⟨S128x3x3072, .f32⟩
  | .hbm, ⟨72, _⟩ => ⟨S1x8, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S1x8, .f32⟩
  | .hbm, ⟨77, _⟩ => ⟨S8, .f32⟩
  | .hbm, ⟨78, _⟩ => ⟨S1x1x8, .f32⟩
  | .hbm, ⟨79, _⟩ => ⟨S128x8x8, .f32⟩
  | .hbm, ⟨80, _⟩ => ⟨S128x8x8, .f32⟩
  | .hbm, ⟨81, _⟩ => ⟨S_, .f32⟩
  | .hbm, ⟨82, _⟩ => ⟨S128x8x8, .f32⟩
  | .hbm, ⟨83, _⟩ => ⟨S128x8x8, .f32⟩
  | .hbm, ⟨84, _⟩ => ⟨S128x8x8, .f32⟩
  | .hbm, ⟨85, _⟩ => ⟨S128x8x8, .f32⟩
  | .hbm, ⟨86, _⟩ => ⟨S128x8x8, .i1⟩
  | .hbm, ⟨87, _⟩ => ⟨S128x8x8, .f32⟩
  | .hbm, ⟨88, _⟩ => ⟨S128x8x8, .f32⟩
  | .hbm, ⟨89, _⟩ => ⟨S128x8x8, .f32⟩
  | .hbm, ⟨90, _⟩ => ⟨S128x8x8, .f32⟩
  | .hbm, ⟨91, _⟩ => ⟨S128x8x8, .f32⟩
  | .hbm, ⟨92, _⟩ => ⟨S128x8x8, .f32⟩
  | .hbm, ⟨93, _⟩ => ⟨S128x8x8, .f32⟩
  | .hbm, ⟨94, _⟩ => ⟨S128x8x8, .f32⟩
  | .hbm, ⟨95, _⟩ => ⟨S1x1x8, .f32⟩
  | .hbm, ⟨96, _⟩ => ⟨S128x8x8, .f32⟩
  | .hbm, ⟨97, _⟩ => ⟨S128x8x8, .f32⟩
  | .hbm, ⟨98, _⟩ => ⟨S_, .f32⟩
  | .hbm, ⟨99, _⟩ => ⟨S128x8x112, .f32⟩
  | .hbm, ⟨100, _⟩ => ⟨S128x8x8, .f32⟩
  | .hbm, ⟨101, _⟩ => ⟨S128x8x8, .f32⟩
  | .hbm, ⟨102, _⟩ => ⟨S_, .f32⟩
  | .hbm, ⟨103, _⟩ => ⟨S128x8x8, .f32⟩
  | .hbm, ⟨104, _⟩ => ⟨S128x8x8, .f32⟩
  | .hbm, ⟨105, _⟩ => ⟨S_, .f32⟩
  | .hbm, ⟨106, _⟩ => ⟨S128x8x8, .f32⟩
  | .hbm, ⟨107, _⟩ => ⟨S128x8x8, .f32⟩
  | .hbm, ⟨108, _⟩ => ⟨S128x8x128, .f32⟩
  | .hbm, ⟨109, _⟩ => ⟨S_, .f32⟩
  | .hbm, ⟨110, _⟩ => ⟨S128x8x1024, .f32⟩
  | .hbm, ⟨111, _⟩ => ⟨S128x8x1024, .f32⟩
  | .hbm, ⟨112, _⟩ => ⟨S128x8x1024, .bf16⟩
  | .hbm, ⟨113, _⟩ => ⟨S128x8x2048, .f32⟩
  | .hbm, ⟨114, _⟩ => ⟨S128x8x2048, .f32⟩
  | .hbm, ⟨115, _⟩ => ⟨S_, .f32⟩
  | .hbm, ⟨116, _⟩ => ⟨S128x8x2048, .f32⟩
  | .hbm, ⟨117, _⟩ => ⟨S128x8x2048, .f32⟩
  | .hbm, ⟨118, _⟩ => ⟨S_, .f32⟩
  | .hbm, ⟨119, _⟩ => ⟨S128x8x2048, .f32⟩
  | .hbm, ⟨120, _⟩ => ⟨S128x8x2048, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_1 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_2 : Ref sig .tc := ⟨.hbm, 102, rfl⟩
abbrev main_v71 : Ref sig .tc := ⟨.hbm, 103, rfl⟩
abbrev main_v72 : Ref sig .tc := ⟨.hbm, 104, rfl⟩
abbrev main_cst_3 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_4 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_5 : Ref sig .tc := ⟨.hbm, 115, rfl⟩
abbrev main_v81 : Ref sig .tc := ⟨.hbm, 116, rfl⟩
abbrev main_v82 : Ref sig .tc := ⟨.hbm, 117, rfl⟩
abbrev main_cst_6 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== FrontPrompt.lean ====
abbrev S8x2048x1024 : Shape := ⟨3, ![8, 2048, 1024]⟩
abbrev S8x6144 : Shape := ⟨2, ![8, 6144]⟩
abbrev S8x3x3072 : Shape := ⟨3, ![8, 3, 3072]⟩
abbrev S2x1024x7696 : Shape := ⟨3, ![2, 1024, 7696]⟩
abbrev S2x4x3072 : Shape := ⟨3, ![2, 4, 3072]⟩
abbrev S2x8 : Shape := ⟨2, ![2, 8]⟩
abbrev S2x1024x4096 : Shape := ⟨3, ![2, 1024, 4096]⟩
abbrev S2x1024x3584 : Shape := ⟨3, ![2, 1024, 3584]⟩
abbrev S2x1024x7680 : Shape := ⟨3, ![2, 1024, 7680]⟩
abbrev S2x1024x16 : Shape := ⟨3, ![2, 1024, 16]⟩
abbrev S_ : Shape := ⟨0, ![]⟩
abbrev S2x1024x128 : Shape := ⟨3, ![2, 1024, 128]⟩
abbrev S2x128 : Shape := ⟨2, ![2, 128]⟩
abbrev S1x8 : Shape := ⟨2, ![1, 8]⟩
abbrev S8 : Shape := ⟨1, ![8]⟩
abbrev S1 : Shape := ⟨1, ![1]⟩
abbrev S2 : Shape := ⟨1, ![2]⟩
abbrev S1x4x3072 : Shape := ⟨3, ![1, 4, 3072]⟩
abbrev S4x3072 : Shape := ⟨2, ![4, 3072]⟩
abbrev S8x1x6144 : Shape := ⟨3, ![8, 1, 6144]⟩
abbrev S8x2048x3072 : Shape := ⟨3, ![8, 2048, 3072]⟩
abbrev S8x2048x128 : Shape := ⟨3, ![8, 2048, 128]⟩
abbrev S8x2048x256 : Shape := ⟨3, ![8, 2048, 256]⟩
abbrev S8x2048x2048 : Shape := ⟨3, ![8, 2048, 2048]⟩
abbrev S1x512x1024 : Shape := ⟨3, ![1, 512, 1024]⟩
abbrev S1x1x6144 : Shape := ⟨3, ![1, 1, 6144]⟩
abbrev S1x3x3072 : Shape := ⟨3, ![1, 3, 3072]⟩
abbrev S1x1024x7680 : Shape := ⟨3, ![1, 1024, 7680]⟩
abbrev S1x1024x128 : Shape := ⟨3, ![1, 1024, 128]⟩
abbrev S1x512x3072 : Shape := ⟨3, ![1, 512, 3072]⟩
abbrev S1x512x128 : Shape := ⟨3, ![1, 512, 128]⟩
abbrev S1x512x256 : Shape := ⟨3, ![1, 512, 256]⟩
abbrev S1x512x2048 : Shape := ⟨3, ![1, 512, 2048]⟩
abbrev S1x520x3072 : Shape := ⟨3, ![1, 520, 3072]⟩
abbrev S1x1x1024 : Shape := ⟨3, ![1, 1, 1024]⟩
abbrev S512x1024 : Shape := ⟨2, ![512, 1024]⟩
abbrev S1x8x3072 : Shape := ⟨3, ![1, 8, 3072]⟩
abbrev S1x1024x512 : Shape := ⟨3, ![1, 1024, 512]⟩
abbrev S1024x512 : Shape := ⟨2, ![1024, 512]⟩
abbrev S128x1024 : Shape := ⟨2, ![128, 1024]⟩
abbrev S128x512 : Shape := ⟨2, ![128, 512]⟩
abbrev S512x512 : Shape := ⟨2, ![512, 512]⟩
abbrev S1x512x512 : Shape := ⟨3, ![1, 512, 512]⟩
abbrev S1x520x512 : Shape := ⟨3, ![1, 520, 512]⟩
abbrev S1x512 : Shape := ⟨2, ![1, 512]⟩
abbrev S1x1x512 : Shape := ⟨3, ![1, 1, 512]⟩
abbrev S512x256 : Shape := ⟨2, ![512, 256]⟩
abbrev S1024x128 : Shape := ⟨2, ![1024, 128]⟩
abbrev S512x128 : Shape := ⟨2, ![512, 128]⟩
abbrev S1x128 : Shape := ⟨2, ![1, 128]⟩

abbrev nBuf : Space → Nat
  | .hbm => 47
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x3x3072, .f32⟩
  | .hbm, ⟨3, _⟩ => ⟨S2x1024x7696, .f32⟩
  | .hbm, ⟨4, _⟩ => ⟨S2x4x3072, .f32⟩
  | .hbm, ⟨5, _⟩ => ⟨S2x8, .f32⟩
  | .hbm, ⟨6, _⟩ => ⟨S2x8, .f32⟩
  | .hbm, ⟨7, _⟩ => ⟨S2x1024x4096, .f32⟩
  | .hbm, ⟨8, _⟩ => ⟨S2x1024x3584, .f32⟩
  | .hbm, ⟨9, _⟩ => ⟨S2x1024x7680, .f32⟩
  | .hbm, ⟨10, _⟩ => ⟨S2x1024x7680, .bf16⟩
  | .hbm, ⟨11, _⟩ => ⟨S2x1024x16, .f32⟩
  | .hbm, ⟨12, _⟩ => ⟨S_, .i32⟩
  | .hbm, ⟨13, _⟩ => ⟨S_, .f32⟩
  | .hbm, ⟨14, _⟩ => ⟨S2x1024x128, .f32⟩
  | .hbm, ⟨15, _⟩ => ⟨S2x1024x128, .bf16⟩
  | .hbm, ⟨16, _⟩ => ⟨S_, .f32⟩
  | .hbm, ⟨17, _⟩ => ⟨S2x128, .f32⟩
  | .hbm, ⟨18, _⟩ => ⟨S1x8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S2x128, .f32⟩
  | .hbm, ⟨28, _⟩ => ⟨S1x8, .f32⟩
  | .hbm, ⟨29, _⟩ => ⟨S8, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S2x128, .f32⟩
  | .hbm, ⟨36, _⟩ => ⟨S1x4x3072, .f32⟩
  | .hbm, ⟨37, _⟩ => ⟨S4x3072, .f32⟩
  | .hbm, ⟨38, _⟩ => ⟨S8x1x6144, .f32⟩
  | .hbm, ⟨39, _⟩ => ⟨S8x2048x3072, .bf16⟩
  | .hbm, ⟨40, _⟩ => ⟨S8x2048x1024, .bf16⟩
  | .hbm, ⟨41, _⟩ => ⟨S8x2048x128, .f32⟩
  | .hbm, ⟨42, _⟩ => ⟨S8x2048x1024, .bf16⟩
  | .hbm, ⟨43, _⟩ => ⟨S8x2048x256, .f32⟩
  | .hbm, ⟨44, _⟩ => ⟨S8x2048x256, .f32⟩
  | .hbm, ⟨45, _⟩ => ⟨S8x2048x2048, .bf16⟩
  | .hbm, ⟨46, _⟩ => ⟨S8x3x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x3x3072, .f32⟩
  | .local _ .vmem, ⟨5, _⟩ => ⟨S1x3x3072, .f32⟩
  | .local _ .vmem, ⟨6, _⟩ => ⟨S1x1024x7680, .bf16⟩
  | .local _ .vmem, ⟨7, _⟩ => ⟨S1x1024x128, .bf16⟩
  | .local _ .vmem, ⟨8, _⟩ => ⟨S4x3072, .f32⟩
  | .local _ .vmem, ⟨9, _⟩ => ⟨S2x128, .f32⟩
  | .local _ .vmem, ⟨10, _⟩ => ⟨S1x512x3072, .bf16⟩
  | .local _ .vmem, ⟨11, _⟩ => ⟨S1x512x3072, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x128, .f32⟩
  | .local _ .vmem, ⟨15, _⟩ => ⟨S1x512x128, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x2048, .bf16⟩
  | .local _ .vmem, ⟨23, _⟩ => ⟨S1x512x2048, .bf16⟩
  | .local _ .vmem, ⟨24, _⟩ => ⟨S1x3x3072, .f32⟩
  | .local _ .vmem, ⟨25, _⟩ => ⟨S1x3x3072, .f32⟩
  | .local _ .vmem, ⟨26, _⟩ => ⟨S1x520x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_v25_5 : Ref sig .tc := ⟨.hbm, 44, rfl⟩
abbrev main_v25_6 : Ref sig .tc := ⟨.hbm, 45, rfl⟩
abbrev main_v25_7 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x7680 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x3x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FrontPromptRefIdeal.lean ====
abbrev S8x2048x1024 : Shape := ⟨3, ![8, 2048, 1024]⟩
abbrev S8x6144 : Shape := ⟨2, ![8, 6144]⟩
abbrev S8x3x3072 : Shape := ⟨3, ![8, 3, 3072]⟩
abbrev S2x1024x7696 : Shape := ⟨3, ![2, 1024, 7696]⟩
abbrev S2x4x3072 : Shape := ⟨3, ![2, 4, 3072]⟩
abbrev S2x8 : Shape := ⟨2, ![2, 8]⟩
abbrev S8x1024 : Shape := ⟨2, ![8, 1024]⟩
abbrev S8x1x1024 : Shape := ⟨3, ![8, 1, 1024]⟩
abbrev S_ : Shape := ⟨0, ![]⟩
abbrev S1x1024x7696 : Shape := ⟨3, ![1, 1024, 7696]⟩
abbrev S1024x7696 : Shape := ⟨2, ![1024, 7696]⟩
abbrev S8x2048x7696 : Shape := ⟨3, ![8, 2048, 7696]⟩
abbrev S8x2048x3072 : Shape := ⟨3, ![8, 2048, 3072]⟩
abbrev S8x2048x8 : Shape := ⟨3, ![8, 2048, 8]⟩
abbrev S8x2048x256 : Shape := ⟨3, ![8, 2048, 256]⟩
abbrev S8x2048x2048 : Shape := ⟨3, ![8, 2048, 2048]⟩
abbrev S1x4x3072 : Shape := ⟨3, ![1, 4, 3072]⟩
abbrev S4x3072 : Shape := ⟨2, ![4, 3072]⟩
abbrev S8x2051x3072 : Shape := ⟨3, ![8, 2051, 3072]⟩
abbrev S1x3072 : Shape := ⟨2, ![1, 3072]⟩
abbrev S3072 : Shape := ⟨1, ![3072]⟩
abbrev S1x1x3072 : Shape := ⟨3, ![1, 1, 3072]⟩
abbrev S1x8 : Shape := ⟨2, ![1, 8]⟩
abbrev S8 : Shape := ⟨1, ![8]⟩
abbrev S1x1x8 : Shape := ⟨3, ![1, 1, 8]⟩
abbrev S8x2048x112 : Shape := ⟨3, ![8, 2048, 112]⟩
abbrev S8x2048x128 : Shape := ⟨3, ![8, 2048, 128]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x3x3072, .f32⟩
  | .hbm, ⟨3, _⟩ => ⟨S2x1024x7696, .f32⟩
  | .hbm, ⟨4, _⟩ => ⟨S2x4x3072, .f32⟩
  | .hbm, ⟨5, _⟩ => ⟨S2x8, .f32⟩
  | .hbm, ⟨6, _⟩ => ⟨S2x8, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1024x7696, .f32⟩
  | .hbm, ⟨19, _⟩ => ⟨S1024x7696, .f32⟩
  | .hbm, ⟨20, _⟩ => ⟨S8x2048x7696, .f32⟩
  | .hbm, ⟨21, _⟩ => ⟨S8x2048x3072, .f32⟩
  | .hbm, ⟨22, _⟩ => ⟨S8x2048x1024, .f32⟩
  | .hbm, ⟨23, _⟩ => ⟨S8x2048x8, .f32⟩
  | .hbm, ⟨24, _⟩ => ⟨S8x2048x8, .f32⟩
  | .hbm, ⟨25, _⟩ => ⟨S8x2048x1024, .f32⟩
  | .hbm, ⟨26, _⟩ => ⟨S8x2048x256, .f32⟩
  | .hbm, ⟨27, _⟩ => ⟨S8x2048x256, .f32⟩
  | .hbm, ⟨28, _⟩ => ⟨S8x2048x2048, .f32⟩
  | .hbm, ⟨29, _⟩ => ⟨S1x4x3072, .f32⟩
  | .hbm, ⟨30, _⟩ => ⟨S4x3072, .f32⟩
  | .hbm, ⟨31, _⟩ => ⟨S8x2051x3072, .f32⟩
  | .hbm, ⟨32, _⟩ => ⟨S8x2048x3072, .f32⟩
  | .hbm, ⟨33, _⟩ => ⟨S1x3072, .f32⟩
  | .hbm, ⟨34, _⟩ => ⟨S3072, .f32⟩
  | .hbm, ⟨35, _⟩ => ⟨S1x1x3072, .f32⟩
  | .hbm, ⟨36, _⟩ => ⟨S8x2048x3072, .f32⟩
  | .hbm, ⟨37, _⟩ => ⟨S8x2048x3072, .f32⟩
  | .hbm, ⟨38, _⟩ => ⟨S_, .f32⟩
  | .hbm, ⟨39, _⟩ => ⟨S8x2048x3072, .f32⟩
  | .hbm, ⟨40, _⟩ => ⟨S8x2048x3072, .f32⟩
  | .hbm, ⟨41, _⟩ => ⟨S8x2048x3072, .f32⟩
  | .hbm, ⟨42, _⟩ => ⟨S1x3072, .f32⟩
  | .hbm, ⟨43, _⟩ => ⟨S3072, .f32⟩
  | .hbm, ⟨44, _⟩ => ⟨S1x1x3072, .f32⟩
  | .hbm, ⟨45, _⟩ => ⟨S8x2048x3072, .f32⟩
  | .hbm, ⟨46, _⟩ => ⟨S8x2048x3072, .f32⟩
  | .hbm, ⟨47, _⟩ => ⟨S8x2048x3072, .f32⟩
  | .hbm, ⟨48, _⟩ => ⟨S8x2048x3072, .f32⟩
  | .hbm, ⟨49, _⟩ => ⟨S1x3072, .f32⟩
  | .hbm, ⟨50, _⟩ => ⟨S3072, .f32⟩
  | .hbm, ⟨51, _⟩ => ⟨S1x1x3072, .f32⟩
  | .hbm, ⟨52, _⟩ => ⟨S8x2048x3072, .f32⟩
  | .hbm, ⟨53, _⟩ => ⟨S8x2048x3072, .f32⟩
  | .hbm, ⟨54, _⟩ => ⟨S8x2048x3072, .f32⟩
  | .hbm, ⟨55, _⟩ => ⟨S8x2048x3072, .f32⟩
  | .hbm, ⟨56, _⟩ => ⟨S1x3072, .f32⟩
  | .hbm, ⟨57, _⟩ => ⟨S3072, .f32⟩
  | .hbm, ⟨58, _⟩ => ⟨S1x1x3072, .f32⟩
  | .hbm, ⟨59, _⟩ => ⟨S8x2048x3072, .f32⟩
  | .hbm, ⟨60, _⟩ => ⟨S8x2048x3072, .f32⟩
  | .hbm, ⟨61, _⟩ => ⟨S8x2048x3072, .f32⟩
  | .hbm, ⟨62, _⟩ => ⟨S8x2048x3072, .f32⟩
  | .hbm, ⟨63, _⟩ => ⟨S8x2048x3072, .f32⟩
  | .hbm, ⟨64, _⟩ => ⟨S_, .f32⟩
  | .hbm, ⟨65, _⟩ => ⟨S8x2048x3072, .f32⟩
  | .hbm, ⟨66, _⟩ => ⟨S8x2048x3072, .f32⟩
  | .hbm, ⟨67, _⟩ => ⟨S_, .f32⟩
  | .hbm, ⟨68, _⟩ => ⟨S8x2048x3072, .f32⟩
  | .hbm, ⟨69, _⟩ => ⟨S8x2048x3072, .f32⟩
  | .hbm, ⟨70, _⟩ => ⟨S8x2048x3072, .f32⟩
  | .hbm, ⟨71, _⟩ => ⟨S8x3x3072, .f32⟩
  | .hbm, ⟨72, _⟩ => ⟨S1x8, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S1x8, .f32⟩
  | .hbm, ⟨77, _⟩ => ⟨S8, .f32⟩
  | .hbm, ⟨78, _⟩ => ⟨S1x1x8, .f32⟩
  | .hbm, ⟨79, _⟩ => ⟨S8x2048x8, .f32⟩
  | .hbm, ⟨80, _⟩ => ⟨S8x2048x8, .f32⟩
  | .hbm, ⟨81, _⟩ => ⟨S_, .f32⟩
  | .hbm, ⟨82, _⟩ => ⟨S8x2048x8, .f32⟩
  | .hbm, ⟨83, _⟩ => ⟨S8x2048x8, .f32⟩
  | .hbm, ⟨84, _⟩ => ⟨S8x2048x8, .f32⟩
  | .hbm, ⟨85, _⟩ => ⟨S8x2048x8, .f32⟩
  | .hbm, ⟨86, _⟩ => ⟨S8x2048x8, .i1⟩
  | .hbm, ⟨87, _⟩ => ⟨S8x2048x8, .f32⟩
  | .hbm, ⟨88, _⟩ => ⟨S8x2048x8, .f32⟩
  | .hbm, ⟨89, _⟩ => ⟨S8x2048x8, .f32⟩
  | .hbm, ⟨90, _⟩ => ⟨S8x2048x8, .f32⟩
  | .hbm, ⟨91, _⟩ => ⟨S8x2048x8, .f32⟩
  | .hbm, ⟨92, _⟩ => ⟨S8x2048x8, .f32⟩
  | .hbm, ⟨93, _⟩ => ⟨S8x2048x8, .f32⟩
  | .hbm, ⟨94, _⟩ => ⟨S8x2048x8, .f32⟩
  | .hbm, ⟨95, _⟩ => ⟨S1x1x8, .f32⟩
  | .hbm, ⟨96, _⟩ => ⟨S8x2048x8, .f32⟩
  | .hbm, ⟨97, _⟩ => ⟨S8x2048x8, .f32⟩
  | .hbm, ⟨98, _⟩ => ⟨S_, .f32⟩
  | .hbm, ⟨99, _⟩ => ⟨S8x2048x112, .f32⟩
  | .hbm, ⟨100, _⟩ => ⟨S8x2048x8, .f32⟩
  | .hbm, ⟨101, _⟩ => ⟨S8x2048x8, .f32⟩
  | .hbm, ⟨102, _⟩ => ⟨S_, .f32⟩
  | .hbm, ⟨103, _⟩ => ⟨S8x2048x8, .f32⟩
  | .hbm, ⟨104, _⟩ => ⟨S8x2048x8, .f32⟩
  | .hbm, ⟨105, _⟩ => ⟨S_, .f32⟩
  | .hbm, ⟨106, _⟩ => ⟨S8x2048x8, .f32⟩
  | .hbm, ⟨107, _⟩ => ⟨S8x2048x8, .f32⟩
  | .hbm, ⟨108, _⟩ => ⟨S8x2048x128, .f32⟩
  | .hbm, ⟨109, _⟩ => ⟨S_, .f32⟩
  | .hbm, ⟨110, _⟩ => ⟨S8x2048x1024, .f32⟩
  | .hbm, ⟨111, _⟩ => ⟨S8x2048x1024, .f32⟩
  | .hbm, ⟨112, _⟩ => ⟨S8x2048x1024, .bf16⟩
  | .hbm, ⟨113, _⟩ => ⟨S8x2048x2048, .f32⟩
  | .hbm, ⟨114, _⟩ => ⟨S8x2048x2048, .f32⟩
  | .hbm, ⟨115, _⟩ => ⟨S_, .f32⟩
  | .hbm, ⟨116, _⟩ => ⟨S8x2048x2048, .f32⟩
  | .hbm, ⟨117, _⟩ => ⟨S8x2048x2048, .f32⟩
  | .hbm, ⟨118, _⟩ => ⟨S_, .f32⟩
  | .hbm, ⟨119, _⟩ => ⟨S8x2048x2048, .f32⟩
  | .hbm, ⟨120, _⟩ => ⟨S8x2048x2048, .f32⟩
  | .hbm, ⟨121, _⟩ => ⟨S8x2048x1024, .bf16⟩
  | .hbm, ⟨122, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_1 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_2 : Ref sig .tc := ⟨.hbm, 102, rfl⟩
abbrev main_v71 : Ref sig .tc := ⟨.hbm, 103, rfl⟩
abbrev main_v72 : Ref sig .tc := ⟨.hbm, 104, rfl⟩
abbrev main_cst_3 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_4 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_5 : Ref sig .tc := ⟨.hbm, 115, rfl⟩
abbrev main_v81 : Ref sig .tc := ⟨.hbm, 116, rfl⟩
abbrev main_v82 : Ref sig .tc := ⟨.hbm, 117, rfl⟩
abbrev main_cst_6 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== Proof.FrontSpec.lean ====
/- The mathematics of the input projection with its short convolution and gates, for one sequence: what every element of
   its results is, over the extended reals. -/
module

public import Idealize.ShloMosaic.Lib.Pipeline.ValueKit
public import Idealize.ShloMosaic.Lib.IdealHost

@[expose] public section

noncomputable section

namespace Cert.FrontSpec

open Idealize.ShloMosaic

/-- The weights as the kernel packs them: the main columns, the columns of the beta and decay gates (padded to 128 lanes),
    the taps of the short convolution, and the two rows of gate parameters. -/
structure Weights where
  wm : Fin 1024 → Fin 7680 → EReal
  wba : Fin 1024 → Fin 128 → EReal
  taps : Fin 4 → Fin 3072 → EReal
  gp : Fin 2 → Fin 128 → EReal

/-- One sequence: its 8 tokens, its modulation row and the 3 rows the convolution carries. -/
structure Seq where
  x : Fin 8 → Fin 1024 → EReal
  mod : Fin 6144 → EReal
  st : Fin 3 → Fin 3072 → EReal

variable (W : Weights) (S : Seq)

/-- The modulated token. -/
def hid (t : Fin 8) (k : Fin 1024) : EReal := S.x t k * (1 + S.mod ⟨1024 + k.val, by omega⟩) + S.mod ⟨k.val, by omega⟩

/-- A main column of the projection. -/
def main (t : Fin 8) (n : Fin 7680) : EReal := ∑ k : Fin 1024, hid S t k * W.wm k n

/-- A gate column of the projection. -/
def ba (t : Fin 8) (n : Fin 128) : EReal := ∑ k : Fin 1024, hid S t k * W.wba k n

/-- The convolution's input, as 16 rows: five empty ones, the three carried ones, the eight tokens. -/
def buf (s : Fin 16) (n : Fin 3072) : EReal :=
  if s.val < 5 then 0 else if h : s.val < 8 then S.st ⟨s.val - 5, by omega⟩ n
  else main W S ⟨s.val - 8, by omega⟩ ⟨n.val, by omega⟩

/-- The logistic function. -/
def sig (y : EReal) : EReal := Ideal.div 1 (1 + Ideal.exp (0 - y))

/-- The short convolution at a token. -/
def conv (t : Fin 8) (n : Fin 3072) : EReal :=
  (buf W S ⟨t.val + 8, by omega⟩ n * W.taps 3 n + buf W S ⟨t.val + 7, by omega⟩ n * W.taps 2 n)
    + (buf W S ⟨t.val + 6, by omega⟩ n * W.taps 1 n + buf W S ⟨t.val + 5, by omega⟩ n * W.taps 0 n)

/-- The convolution's result. -/
def cs (t : Fin 8) (n : Fin 3072) : EReal := conv W S t n * sig (conv W S t n)

/-- The softplus, in its stable form. -/
def softplus (y : EReal) : EReal := max y 0 + Ideal.log (1 + Ideal.exp (0 - max y (-y)))

/-- The packed gates: beta in the first 8 lanes, the decay's logarithm after. -/
def gb (t : Fin 8) (l : Fin 128) : EReal :=
  if l.val < 8 then sig (ba W S t l) else W.gp 0 l * softplus (ba W S t l + W.gp 1 l)

end Cert.FrontSpec

end
-- ==== Proof.FrontPromptSpec.lean ====
/- The mathematics of the input projection and its gates for one token: what the elements of a row of its results are,
   over the extended reals. -/
module

public import proofs.«01_k».proof.Proof.FrontSpec

@[expose] public section

noncomputable section

namespace Cert.FrontRow

open Idealize.ShloMosaic Cert.FrontSpec

/-- One token and the modulation row of its sequence. -/
structure Row where
  x : Fin 1024 → EReal
  mod : Fin 6144 → EReal

variable (W : Weights) (R : Row)

/-- The modulated token. -/
def hid (k : Fin 1024) : EReal := R.x k * (1 + R.mod ⟨1024 + k.val, by omega⟩) + R.mod ⟨k.val, by omega⟩

/-- A main column of the projection. -/
def main (n : Fin 7680) : EReal := ∑ k : Fin 1024, hid R k * W.wm k n

/-- A gate column of the projection. -/
def ba (n : Fin 128) : EReal := ∑ k : Fin 1024, hid R k * W.wba k n

/-- The packed gates: beta in the first 8 lanes, the decay's logarithm after. -/
def gb (l : Fin 128) : EReal :=
  if l.val < 8 then sig (ba W R l) else W.gp 0 l * softplus (ba W R l + W.gp 1 l)

end Cert.FrontRow

end
-- ==== Proof.FrontPromptKernel.lean ====
/- The front kernel's body on the prompt batch: every value it computes over a block of 512 tokens, read at one token, is
   the value that the mathematics of FrontPromptSpec gives for that token. -/
module

public import proofs.«01_k».proof.Proof.Gen.FrontPromptIdeal.Frame
public import proofs.«01_k».proof.Proof.FrontPromptSpec
public import Idealize.ShloMosaic.Lib.Pipeline.ValueKit

@[expose] public section

set_option maxRecDepth 16384

noncomputable section

namespace Cert.FrontPromptKernel

open Cert.FrontPromptIdeal Cert.FrontPromptIdeal.Gen Idealize.ShloMosaic Cert.FrontRow
open Cert.FrontSpec hiding hid main ba gb

variable (x0 : Vec Ideal S1x512x1024 .f32) (x1 : Vec Ideal S1x1x6144 .f32) (x2 : Vec Ideal S1x3x3072 .f32) (x3 : Vec Ideal S1x1024x7680 .bf16) (x4 : Vec Ideal S1x1024x128 .bf16) (x5 : Vec Ideal S4x3072 .f32) (x6 : Vec Ideal S2x128 .f32)

/-- The weights that the kernel holds in its blocks. -/
def wts : Weights where
  wm k n := x3 (ix3 0 k n)
  wba k n := x4 (ix3 0 k n)
  taps j n := x5 (ix2 j n)
  gp j n := x6 (ix2 j n)

/-- Token `t` of the block. -/
def row (t : Fin 512) : Row where
  x k := x0 (ix3 0 t k)
  mod k := x1 (ix3 0 0 k)

/-! ## Loads of a part of a block -/

theorem ld_wm (off : ℕ) (inb) (k : Fin 1024) (n : Fin 512) (h : off + n.val < 7680) :
    View.ld x3 (Rect.unit ![0, 0, off] S1x1024x512.size inb) (ix3 0 k n) = x3 (ix3 0 k ⟨off + n.val, h⟩) :=
  View.ld_unit_apply_of _ _ _ _ _ _ (fun a => by fin_cases a <;> simp [ix3])

/-! ## Products in four blocks of rows -/

/-- The product of 512 rows with a matrix. -/
def rows (h : FVec Ideal S512x1024 .bf16) (w : FVec Ideal S1024x512 .bf16) : FVec Ideal S512x512 .f32 :=
  fun i => ∑ k : Fin 1024, h (ix2 (i 0) k) * w (ix2 k (i 1))

theorem rows_apply (h : FVec Ideal S512x1024 .bf16) (w : FVec Ideal S1024x512 .bf16) (p : Fin 512) (l : Fin 512) :
    rows h w (ix2 p l) = ∑ k : Fin 1024, h (ix2 p k) * w (ix2 k l) := rfl

/-- The four products of 128 rows each, one under another, are the product of all rows. -/
theorem rows_eq (h : FVec Ideal S512x1024 .bf16) (w : FVec Ideal S1024x512 .bf16) :
    concatenate S512x512 0 [⟨S128x512, matmul dot_S128x1024_S1024x512_S128x512_1_0_0_1_n_n none (extractStridedSlice S128x1024 ![0, 0] h slices_S512x1024_o0_0_S128x1024) w (constant S128x512 .f32 0x00000000#32)⟩, ⟨S128x512, matmul dot_S128x1024_S1024x512_S128x512_1_0_0_1_n_n none (extractStridedSlice S128x1024 ![128, 0] h slices_S512x1024_o128_0_S128x1024) w (constant S128x512 .f32 0x00000000#32)⟩, ⟨S128x512, matmul dot_S128x1024_S1024x512_S128x512_1_0_0_1_n_n none (extractStridedSlice S128x1024 ![256, 0] h slices_S512x1024_o256_0_S128x1024) w (constant S128x512 .f32 0x00000000#32)⟩, ⟨S128x512, matmul dot_S128x1024_S1024x512_S128x512_1_0_0_1_n_n none (extractStridedSlice S128x1024 ![384, 0] h slices_S512x1024_o384_0_S128x1024) w (constant S128x512 .f32 0x00000000#32)⟩] concatenates_S128x512_S128x512_S128x512_S128x512_S512x512_d0 = rows h w := by
  funext i
  obtain ⟨p, l, rfl⟩ : ∃ (p : Fin 512) (l : Fin 512), i = ix2 p l := ⟨i 0, i 1, by blk_ext⟩
  rw [rows_apply]
  have key : ∀ q : Fin 512, q = p → ∑ k : Fin 1024, h (ix2 q k) * w (ix2 k l) = ∑ k : Fin 1024, h (ix2 p k) * w (ix2 k l) := fun q e => by rw [e]
  pointwise
  split_ifs
  all_goals first
    | exact key _ (Fin.ext rfl)
    | (refine key _ (Fin.ext ?_); dsimp only; omega)

/-! ## The projection -/

/-- The rows the kernel multiplies. -/
def hmat : FVec Ideal S512x1024 .bf16 :=
  k0_pay2 (View.ld x1 (Rect.unit ![0, 0, 0] S1x1x1024.size inb_S1x1x6144_S1x1x1024_0_0_0))
    (View.ld x1 (Rect.unit ![0, 0, 1024] S1x1x1024.size inb_S1x1x6144_S1x1x1024_0_0_1024))
    (View.ld x0 (Rect.unit ![0, 0, 0] S1x512x1024.size inb_S1x512x1024_S1x512x1024_0_0_0))

theorem hmat_apply (p : Fin 512) (k : Fin 1024) : hmat x0 x1 (ix2 p k) = hid (row x0 x1 p) k := by
  pointwise [hmat, k0_pay2]
  rfl

/-- The next columns. -/
theorem proj_1 (off : ℕ) (inb) (t : Fin 512) (n : Fin 512) (h : off + n.val < 7680) :
    k0_pay10 (hmat x0 x1) (View.ld x3 (Rect.unit ![0, 0, off] S1x1024x512.size inb)) (ix3 0 t n)
      = main (wts x3 x4 x5 x6) (row x0 x1 t) ⟨off + n.val, h⟩ := by
  unfold k0_pay10
  simp only [rows_eq]
  pointwise
  simp only [rows_apply]
  pointwise
  simp only [hmat_apply, ld_wm x3 off inb _ _ h]
  rfl

/-- The first columns. -/
theorem proj_0 (off : ℕ) (inb) (t : Fin 512) (n : Fin 512) (h : off + n.val < 7680) :
    k0_pay5 (View.ld x1 (Rect.unit ![0, 0, 0] S1x1x1024.size inb_S1x1x6144_S1x1x1024_0_0_0))
      (View.ld x1 (Rect.unit ![0, 0, 1024] S1x1x1024.size inb_S1x1x6144_S1x1x1024_0_0_1024))
      (View.ld x0 (Rect.unit ![0, 0, 0] S1x512x1024.size inb_S1x512x1024_S1x512x1024_0_0_0)) (View.ld x3 (Rect.unit ![0, 0, off] S1x1024x512.size inb)) (ix3 0 t n)
      = main (wts x3 x4 x5 x6) (row x0 x1 t) ⟨off + n.val, h⟩ :=
  proj_1 x0 x1 x3 x4 x5 x6 off inb t n h

/-- Columns whose product is started apart. -/
theorem proj_4 (off : ℕ) (inb) (t : Fin 512) (n : Fin 512) (h : off + n.val < 7680) :
    k0_pay34 (hmat x0 x1) (k0_pay31 (View.ld x3 (Rect.unit ![0, 0, off] S1x1024x512.size inb))) (k0_pay32 (hmat x0 x1) (View.ld x3 (Rect.unit ![0, 0, off] S1x1024x512.size inb))) (k0_pay33 (hmat x0 x1) (View.ld x3 (Rect.unit ![0, 0, off] S1x1024x512.size inb))) (ix3 0 t n)
      = main (wts x3 x4 x5 x6) (row x0 x1 t) ⟨off + n.val, h⟩ := by
  unfold k0_pay34 k0_pay33 k0_pay32 k0_pay31
  simp only [rows_eq]
  pointwise
  simp only [rows_apply]
  pointwise
  simp only [hmat_apply, ld_wm x3 off inb _ _ h]
  rfl

theorem proj_2 (off : ℕ) (inb) (t : Fin 512) (n : Fin 512) (h : off + n.val < 7680) :
    k0_pay17 (hmat x0 x1) (View.ld x3 (Rect.unit ![0, 0, off] S1x1024x512.size inb)) (ix3 0 t n) = main (wts x3 x4 x5 x6) (row x0 x1 t) ⟨off + n.val, h⟩ :=
  proj_1 x0 x1 x3 x4 x5 x6 off inb t n h

theorem proj_3 (off : ℕ) (inb) (t : Fin 512) (n : Fin 512) (h : off + n.val < 7680) :
    k0_pay25 (hmat x0 x1) (View.ld x3 (Rect.unit ![0, 0, off] S1x1024x512.size inb)) (ix3 0 t n) = main (wts x3 x4 x5 x6) (row x0 x1 t) ⟨off + n.val, h⟩ :=
  proj_1 x0 x1 x3 x4 x5 x6 off inb t n h

theorem proj_5 (off : ℕ) (inb) (t : Fin 512) (n : Fin 512) (h : off + n.val < 7680) :
    k0_pay47 (hmat x0 x1) (View.ld x3 (Rect.unit ![0, 0, off] S1x1024x512.size inb)) (ix3 0 t n) = main (wts x3 x4 x5 x6) (row x0 x1 t) ⟨off + n.val, h⟩ :=
  proj_1 x0 x1 x3 x4 x5 x6 off inb t n h

/-- The output gate, first half. -/
theorem outGate_0 (off : ℕ) (inb) (t : Fin 512) (n : Fin 512) (h : off + n.val < 7680) :
    k0_pay9 (hmat x0 x1) (k0_pay7 (View.ld x3 (Rect.unit ![0, 0, off] S1x1024x512.size inb))) (k0_pay8 (hmat x0 x1)) (ix3 0 t n)
      = main (wts x3 x4 x5 x6) (row x0 x1 t) ⟨off + n.val, h⟩ := by
  unfold k0_pay9 k0_pay8 k0_pay7
  simp only [rows_eq]
  pointwise
  simp only [rows_apply]
  pointwise
  simp only [hmat_apply, ld_wm x3 off inb _ _ h]
  rfl

/-- The output gate, second half. -/
theorem outGate_1 (off : ℕ) (inb) (t : Fin 512) (n : Fin 512) (h : off + n.val < 7680) :
    k0_pay16 (k0_pay15 (hmat x0 x1) (View.ld x3 (Rect.unit ![0, 0, off] S1x1024x512.size inb))) (ix3 0 t n)
      = main (wts x3 x4 x5 x6) (row x0 x1 t) ⟨off + n.val, h⟩ := by
  unfold k0_pay16 k0_pay15
  simp only [rows_eq]
  pointwise
  simp only [rows_apply]
  pointwise
  simp only [hmat_apply, ld_wm x3 off inb _ _ h]
  rfl

/-- The queries, scaled. -/
theorem query_0 (off : ℕ) (inb) (t : Fin 512) (n : Fin 512) (h : off + n.val < 7680) :
    k0_pay24 (hmat x0 x1) (View.ld x3 (Rect.unit ![0, 0, off] S1x1024x512.size inb)) (ix3 0 t n)
      = main (wts x3 x4 x5 x6) (row x0 x1 t) ⟨off + n.val, h⟩ * Ideal.ofBits .f32 0x3E000000#32 := by
  unfold k0_pay24
  simp only [rows_eq]
  pointwise
  simp only [rows_apply]
  pointwise
  simp only [hmat_apply, ld_wm x3 off inb _ _ h]
  rfl

theorem query_1 (off : ℕ) (inb) (t : Fin 512) (n : Fin 512) (h : off + n.val < 7680) :
    k0_pay30 (hmat x0 x1) (View.ld x3 (Rect.unit ![0, 0, off] S1x1024x512.size inb)) (ix3 0 t n) = main (wts x3 x4 x5 x6) (row x0 x1 t) ⟨off + n.val, h⟩ * Ideal.ofBits .f32 0x3E000000#32 :=
  query_0 x0 x1 x3 x4 x5 x6 off inb t n h

/-- The gates of the branches. -/
theorem gate_0 (off : ℕ) (inb) (t : Fin 512) (n : Fin 512) (h : off + n.val < 7680) :
    k0_pay46 (k0_pay41 (View.ld x3 (Rect.unit ![0, 0, off] S1x1024x512.size inb))) (k0_pay42 (hmat x0 x1) (View.ld x3 (Rect.unit ![0, 0, off] S1x1024x512.size inb))) (k0_pay43 (hmat x0 x1) (View.ld x3 (Rect.unit ![0, 0, off] S1x1024x512.size inb))) (k0_pay44 (hmat x0 x1) (View.ld x3 (Rect.unit ![0, 0, off] S1x1024x512.size inb))) (k0_pay45 (hmat x0 x1)) (constant S128x512 .f32 0x00000000#32) (ix3 0 t n)
      = sig (main (wts x3 x4 x5 x6) (row x0 x1 t) ⟨off + n.val, h⟩) := by
  unfold k0_pay46 k0_pay45 k0_pay44 k0_pay43 k0_pay42 k0_pay41
  simp only [rows_eq]
  pointwise
  simp only [rows_apply]
  pointwise
  simp only [hmat_apply, ld_wm x3 off inb _ _ h]
  rfl

/-- The second quarter of them. -/
theorem gate_1 (off : ℕ) (inb) (t : Fin 512) (n : Fin 512) (h : off + n.val < 7680) :
    k0_pay53 (k0_pay52 (hmat x0 x1) (View.ld x3 (Rect.unit ![0, 0, off] S1x1024x512.size inb))) (ix3 0 t n)
      = sig (main (wts x3 x4 x5 x6) (row x0 x1 t) ⟨off + n.val, h⟩) := by
  unfold k0_pay53 k0_pay52
  simp only [rows_eq]
  pointwise
  simp only [rows_apply]
  pointwise
  simp only [hmat_apply, ld_wm x3 off inb _ _ h]
  rfl

/-- The third quarter. -/
theorem gate_2 (off : ℕ) (inb) (t : Fin 512) (n : Fin 512) (h : off + n.val < 7680) :
    k0_pay54 (hmat x0 x1) (View.ld x3 (Rect.unit ![0, 0, off] S1x1024x512.size inb)) (ix3 0 t n)
      = sig (main (wts x3 x4 x5 x6) (row x0 x1 t) ⟨off + n.val, h⟩) := by
  unfold k0_pay54
  simp only [rows_eq]
  pointwise
  simp only [rows_apply]
  pointwise
  simp only [hmat_apply, ld_wm x3 off inb _ _ h]
  rfl

/-- The last quarter. -/
theorem gate_3 (off : ℕ) (inb) (t : Fin 512) (n : Fin 512) (h : off + n.val < 7680) :
    k0_pay57 (hmat x0 x1) (k0_pay55 (View.ld x3 (Rect.unit ![0, 0, off] S1x1024x512.size inb))) (k0_pay56 (hmat x0 x1) (View.ld x3 (Rect.unit ![0, 0, off] S1x1024x512.size inb))) (ix3 0 t n)
      = sig (main (wts x3 x4 x5 x6) (row x0 x1 t) ⟨off + n.val, h⟩) := by
  unfold k0_pay57 k0_pay56 k0_pay55
  simp only [rows_eq]
  pointwise
  simp only [rows_apply]
  pointwise
  simp only [hmat_apply, ld_wm x3 off inb _ _ h]
  rfl

/-- The keys. -/
theorem key_apply (inb) (t : Fin 512) (n : Fin 256) :
    k0_pay39 (hmat x0 x1) (View.ld x3 (Rect.unit ![0, 0, 5120] S1x1024x512.size inb)) (ix3 0 t n)
      = main (wts x3 x4 x5 x6) (row x0 x1 t) ⟨5120 + n.val, by omega⟩ := by
  have e : ∀ k, View.ld x3 (Rect.unit ![0, 0, 5120] S1x1024x512.size inb) (ix3 0 k ⟨n.val, by omega⟩) = x3 (ix3 0 k ⟨5120 + n.val, by omega⟩) :=
    fun k => ld_wm x3 5120 inb k ⟨n.val, by omega⟩ _
  unfold k0_pay39 k0_pay38
  simp only [rows_eq]
  pointwise
  simp only [rows_apply]
  pointwise
  simp only [hmat_apply, e]
  rfl

/-- The values. -/
theorem value_apply (inb) (t : Fin 512) (n : Fin 256) :
    k0_pay40 (hmat x0 x1) (View.ld x3 (Rect.unit ![0, 0, 5120] S1x1024x512.size inb)) (ix3 0 t n)
      = main (wts x3 x4 x5 x6) (row x0 x1 t) ⟨5376 + n.val, by omega⟩ := by
  have e : ∀ k h, x3 (ix3 0 k (⟨5120 + (256 + n.val), h⟩ : Fin 7680)) = x3 (ix3 0 k ⟨5376 + n.val, by omega⟩) :=
    fun k h => congrArg x3 (congrArg (ix3 0 k) (Fin.ext (by dsimp only; omega)))
  unfold k0_pay40 k0_pay38
  simp only [rows_eq]
  pointwise
  simp only [rows_apply]
  pointwise
  simp only [hmat_apply, e]
  rfl

/-! ## The gates -/

/-- The first eight lanes. -/
theorem low_lanes : ∀ l : Fin 128, IntOp.cmpi CmpIPredicate.slt (BitVec.ofNat 32 l.val) 8#32 = if l.val < 8 then 1#1 else 0#1 := by
  decide +kernel

theorem gb_apply (t : Fin 512) (l : Fin 128) :
    k0_pay1 (k0_pay59 (hmat x0 x1) (View.ld x4 (Rect.unit ![0, 0, 0] S1x1024x128.size inb_S1x1024x128_S1x1024x128_0_0_0)))
      (k0_pay61 (hmat x0 x1) (View.ld x4 (Rect.unit ![0, 0, 0] S1x1024x128.size inb_S1x1024x128_S1x1024x128_0_0_0))
        (View.ld x6 (Rect.unit ![1, 0] S1x128.size inb_S2x128_S1x128_1_0)))
      (k0_pay62 (hmat x0 x1) (View.ld x4 (Rect.unit ![0, 0, 0] S1x1024x128.size inb_S1x1024x128_S1x1024x128_0_0_0))
        (View.ld x6 (Rect.unit ![1, 0] S1x128.size inb_S2x128_S1x128_1_0)))
      (View.ld x6 (Rect.unit ![0, 0] S1x128.size inb_S2x128_S1x128_0_0)) (ix3 0 t l)
      = gb (wts x3 x4 x5 x6) (row x0 x1 t) l := by
  have e4 : ∀ k l, View.ld x4 (Rect.unit ![0, 0, 0] S1x1024x128.size inb_S1x1024x128_S1x1024x128_0_0_0) (ix3 0 k l) = x4 (ix3 0 k l) :=
    fun k l => View.ld_unit_apply_of _ _ _ _ _ _ (fun a => by fin_cases a <;> simp [ix3])
  have e1 : View.ld x6 (Rect.unit ![1, 0] S1x128.size inb_S2x128_S1x128_1_0) (ix2 0 l) = x6 (ix2 1 l) :=
    View.ld_unit_apply_of _ _ _ _ _ _ (fun a => by fin_cases a <;> simp [ix2])
  have e0 : View.ld x6 (Rect.unit ![0, 0] S1x128.size inb_S2x128_S1x128_0_0) (ix2 0 l) = x6 (ix2 0 l) :=
    View.ld_unit_apply_of _ _ _ _ _ _ (fun a => by fin_cases a <;> simp [ix2])
  pointwise [k0_pay1, k0_pay59, k0_pay60, k0_pay61, k0_pay62]
  simp only [hmat_apply, e4, e1, e0]
  rw [low_lanes]
  unfold gb
  split_ifs <;> rfl

end Cert.FrontPromptKernel

end
-- ==== Proof.FrontPromptPieces.lean ====
/- The front kernel's stores on the prompt batch: what each output block holds after the body. -/
module

public import proofs.«01_k».proof.Proof.FrontPromptKernel

@[expose] public section

set_option maxRecDepth 16384

noncomputable section

namespace Cert.FrontPromptKernel

open Cert.FrontPromptIdeal Cert.FrontPromptIdeal.Gen Idealize.ShloMosaic Cert.FrontRow
open Cert.FrontSpec hiding hid main ba gb

/-! ## A store of a box -/

section box

variable {d : Fin 3 → ℕ} {e : EltTy}

/-- Inside the box of the last store, its payload. -/
theorem canon_hit (off size : Fin 3 → ℕ) (inb) (p : (Rect.unit (s := ⟨3, d⟩) off size inb).shape.Idx → Elt Ideal e)
    (L : List (View.Piece (Elt Ideal) ⟨3, d⟩ e)) (y : (⟨3, d⟩ : Shape).Idx) (x : (Rect.unit (s := ⟨3, d⟩) off size inb).shape.Idx)
    (h : ∀ a, off a + (x a).val = (y a).val) : View.canon (⟨Rect.unit off size inb, p⟩ :: L) y = p x := by
  have e : y = (Rect.unit (s := ⟨3, d⟩) off size inb).emb x := funext fun a => Fin.ext ((h a).symm.trans (ValueKit.rect_emb_unit_val off size inb x a).symm)
  rw [e]
  exact View.canon_cons_emb _ p L x

/-- Outside it, what was there before. -/
theorem canon_skip (off size : Fin 3 → ℕ) (inb) (p : (Rect.unit (s := ⟨3, d⟩) off size inb).shape.Idx → Elt Ideal e)
    (L : List (View.Piece (Elt Ideal) ⟨3, d⟩ e)) (y : (⟨3, d⟩ : Shape).Idx) (a : Fin 3)
    (h : (y a).val < off a ∨ off a + size a ≤ (y a).val) : View.canon (⟨Rect.unit off size inb, p⟩ :: L) y = View.canon L y := by
  refine View.canon_cons_of_not_mem ⟨Rect.unit off size inb, p⟩ L fun hm => ?_
  have := (Rect.mem_set_unit (inb := inb)).mp hm a
  omega

/-- Columns below `n` of a block whose 512 token rows stand from row `r` on hold `f`. -/
def Cols {T D : ℕ} {e : EltTy} (r : ℕ) (hr : r + 512 ≤ T) (f : Fin 512 → Fin D → Elt Ideal e) (L : List (View.Piece (Elt Ideal) ⟨3, ![1, T, D]⟩ e)) (n : ℕ) : Prop :=
  ∀ (t : Fin 512) (l : Fin D), l.val < n → View.canon L (ix3 0 ⟨r + t.val, by omega⟩ l) = f t l

theorem Cols.apply {D : ℕ} {e : EltTy} {f : Fin 512 → Fin D → Elt Ideal e} {L : List (View.Piece (Elt Ideal) ⟨3, ![1, 512, D]⟩ e)} (h : Cols 0 (le_refl _) f L D) (t : Fin 512) (l : Fin D) :
    View.canon L (ix3 0 t l) = f t l :=
  (congrArg (fun q => View.canon L (ix3 0 q l)) (Fin.ext (Nat.zero_add _).symm)).trans (h t l l.isLt)

theorem cols_none {T D : ℕ} {e : EltTy} (r : ℕ) (hr : r + 512 ≤ T) (f : Fin 512 → Fin D → Elt Ideal e) (L : List (View.Piece (Elt Ideal) ⟨3, ![1, T, D]⟩ e)) :
    Cols r hr f L 0 := fun _ l h => absurd h (by omega)

/-- One more store, of the next `w` columns. -/
theorem cols_cons {T D : ℕ} {e : EltTy} (r : ℕ) (hr : r + 512 ≤ T) (f : Fin 512 → Fin D → Elt Ideal e) (L : List (View.Piece (Elt Ideal) ⟨3, ![1, T, D]⟩ e)) (off w : ℕ)
    (inb) (p : (Rect.unit (s := ⟨3, ![1, T, D]⟩) ![0, r, off] ![1, 512, w] inb).shape.Idx → Elt Ideal e)
    (hp : ∀ (t : Fin 512) (l : Fin w) (h : off + l.val < D), p (ix3 0 t l) = f t ⟨off + l.val, h⟩)
    (hL : Cols r hr f L off) : Cols r hr f (⟨Rect.unit ![0, r, off] ![1, 512, w] inb, p⟩ :: L) (off + w) := by
  intro t l hl
  by_cases h : l.val < off
  · exact (canon_skip _ _ _ _ _ _ 2 (Or.inl h)).trans (hL t l h)
  refine (canon_hit _ _ _ _ _ _ (ix3 0 t (⟨l.val - off, by omega⟩ : Fin w)) (fun a => by fin_cases a <;> simp [ix3] <;> omega)).trans ?_
  refine (hp t _ (by dsimp only; omega)).trans ?_
  exact congrArg (f t) (Fin.ext (by dsimp only; omega))

end box

/-! ## The stores of a grid point that opens a sequence -/

section caseA

variable (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x3x3072 .f32) (harg4 : arg4.IsWhole) (arg5 : Memref sig .tc .vmem S1x1024x7680 .bf16) (harg5 : arg5.IsWhole) (arg6 : Memref sig .tc .vmem S1x1024x128 .bf16) (harg6 : arg6.IsWhole) (arg7 : Memref sig .tc .vmem S4x3072 .f32) (harg7 : arg7.IsWhole) (arg8 : Memref sig .tc .vmem S2x128 .f32) (harg8 : arg8.IsWhole) (arg9 : Memref sig .tc .vmem S1x512x3072 .bf16) (harg9 : arg9.IsWhole) (arg10 : Memref sig .tc .vmem S1x512x1024 .bf16) (harg10 : arg10.IsWhole) (arg11 : Memref sig .tc .vmem S1x512x128 .f32) (harg11 : arg11.IsWhole) (arg12 : Memref sig .tc .vmem S1x512x1024 .bf16) (harg12 : arg12.IsWhole) (arg13 : Memref sig .tc .vmem S1x512x256 .f32) (harg13 : arg13.IsWhole) (arg14 : Memref sig .tc .vmem S1x512x256 .f32) (harg14 : arg14.IsWhole) (arg15 : Memref sig .tc .vmem S1x512x2048 .bf16) (harg15 : arg15.IsWhole) (arg16 : Memref sig .tc .vmem S1x3x3072 .f32) (harg16 : arg16.IsWhole) (arg17 : Memref sig .tc .vmem S1x520x3072 .f32) (harg17 : arg17.IsWhole) (hc0 : cond0_0 i)
    (x0 : Vec Ideal S1x512x1024 .f32) (x1 : Vec Ideal S1x1x6144 .f32) (x2 : Vec Ideal S1x3x3072 .f32) (x3 : Vec Ideal S1x1024x7680 .bf16) (x4 : Vec Ideal S1x1024x128 .bf16) (x5 : Vec Ideal S4x3072 .f32) (x6 : Vec Ideal S2x128 .f32)

/-- The rows, as the run names them. -/
theorem hmat_eqA : kernelRun0_A.sl.r c arg2 harg2 arg3 harg3 x0 x1 = hmat x0 x1 := by
  unfold kernelRun0_A.sl.r hmat
  simp only [View.readAt_eq_ld, harg2.read_unread, harg3.read_unread]

theorem piecesA8 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.1 = [⟨Rect.unit ![0, 0, 512] S1x512x512.size inb_S1x512x1024_S1x512x512_0_0_512, k0_pay16 (k0_pay15 (hmat x0 x1) (View.ld x3 (Rect.unit ![0, 0, 3584] S1x1024x512.size inb_S1x1024x7680_S1x1024x512_0_0_3584)))⟩, ⟨Rect.unit ![0, 0, 0] S1x512x512.size inb_S1x512x1024_S1x512x512_0_0_0, k0_pay9 (hmat x0 x1) (k0_pay7 (View.ld x3 (Rect.unit ![0, 0, 3072] S1x1024x512.size inb_S1x1024x7680_S1x1024x512_0_0_3072))) (k0_pay8 (hmat x0 x1))⟩] := by
  unfold kernelRun0_A
  dsimp only
  simp only [hmat_eqA, kernelRun0_A.sl.cst_199, kernelRun0_A.sl.r_1, kernelRun0_A.sl.r_14, kernelRun0_A.sl.r_15, kernelRun0_A.sl.r_16, kernelRun0_A.sl.r_19, kernelRun0_A.sl.r_2, kernelRun0_A.sl.r_20, kernelRun0_A.sl.r_21, kernelRun0_A.sl.r_22, kernelRun0_A.sl.r_23, kernelRun0_A.sl.r_27, kernelRun0_A.sl.r_28, kernelRun0_A.sl.r_29, kernelRun0_A.sl.r_30, kernelRun0_A.sl.r_31, kernelRun0_A.sl.r_32, kernelRun0_A.sl.r_6, View.readAt_eq_ld, harg2.read_unread, harg3.read_unread, harg5.read_unread, harg6.read_unread, harg8.read_unread]
  try rfl

/-- Output 8: the output gate. -/
theorem outA8_apply (t : Fin 512) (l : Fin 1024) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 t l) = main (wts x3 x4 x5 x6) (row x0 x1 t) ⟨3072 + l.val, by omega⟩ := by
  unfold out0_A_8
  rw [View.read_writes_junk_eq_canon, piecesA8]
  refine Cols.apply (e := .bf16) (f := fun t l => main (wts x3 x4 x5 x6) (row x0 x1 t) ⟨3072 + l.val, by omega⟩) ?_ t l
  refine cols_cons _ _ _ _ 512 512 _ _ (fun t l h => ?_) ?_
  · exact (outGate_1 x0 x1 x3 x4 x5 x6 3584 _ t l (by omega)).trans (congrArg (main _ _) (Fin.ext (by dsimp only; omega)))
  refine cols_cons _ _ _ _ 0 512 _ _ (fun t l h => ?_) ?_
  · exact (outGate_0 x0 x1 x3 x4 x5 x6 3072 _ t l (by omega)).trans (congrArg (main _ _) (Fin.ext (by dsimp only; omega)))
  exact cols_none _ _ _ _

theorem piecesA9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.1 = [⟨Rect.unit ![0, 0, 0] ![1, 512, 128] inb_S1x512x128_S1x512x128_0_0_0, k0_pay1 (k0_pay59 (hmat x0 x1) (View.ld x4 (Rect.unit ![0, 0, 0] S1x1024x128.size inb_S1x1024x128_S1x1024x128_0_0_0))) (k0_pay61 (hmat x0 x1) (View.ld x4 (Rect.unit ![0, 0, 0] S1x1024x128.size inb_S1x1024x128_S1x1024x128_0_0_0)) (View.ld x6 (Rect.unit ![1, 0] S1x128.size inb_S2x128_S1x128_1_0))) (k0_pay62 (hmat x0 x1) (View.ld x4 (Rect.unit ![0, 0, 0] S1x1024x128.size inb_S1x1024x128_S1x1024x128_0_0_0)) (View.ld x6 (Rect.unit ![1, 0] S1x128.size inb_S2x128_S1x128_1_0))) (View.ld x6 (Rect.unit ![0, 0] S1x128.size inb_S2x128_S1x128_0_0))⟩] := by
  unfold kernelRun0_A
  dsimp only
  simp only [hmat_eqA, kernelRun0_A.sl.cst_199, kernelRun0_A.sl.r_1, kernelRun0_A.sl.r_14, kernelRun0_A.sl.r_15, kernelRun0_A.sl.r_16, kernelRun0_A.sl.r_19, kernelRun0_A.sl.r_2, kernelRun0_A.sl.r_20, kernelRun0_A.sl.r_21, kernelRun0_A.sl.r_22, kernelRun0_A.sl.r_23, kernelRun0_A.sl.r_27, kernelRun0_A.sl.r_28, kernelRun0_A.sl.r_29, kernelRun0_A.sl.r_30, kernelRun0_A.sl.r_31, kernelRun0_A.sl.r_32, kernelRun0_A.sl.r_6, View.readAt_eq_ld, harg2.read_unread, harg3.read_unread, harg5.read_unread, harg6.read_unread, harg8.read_unread]
  try rfl

/-- Output 9: the packed gates. -/
theorem outA9_apply (t : Fin 512) (l : Fin 128) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 t l) = gb (wts x3 x4 x5 x6) (row x0 x1 t) l := by
  unfold out0_A_9
  rw [View.read_writes_junk_eq_canon, piecesA9]
  refine Cols.apply (e := .f32) (f := fun t l => gb (wts x3 x4 x5 x6) (row x0 x1 t) l) ?_ t l
  refine cols_cons _ _ _ _ 0 128 _ _ (fun t l h => ?_) ?_
  · exact (gb_apply x0 x1 x3 x4 x5 x6 t l).trans (congrArg (gb _ _) (Fin.ext (by dsimp only; omega)))
  exact cols_none _ _ _ _

theorem piecesA10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.1 = [⟨Rect.unit ![0, 0, 512] S1x512x512.size inb_S1x512x1024_S1x512x512_0_0_512, k0_pay30 (hmat x0 x1) (View.ld x3 (Rect.unit ![0, 0, 4608] S1x1024x512.size inb_S1x1024x7680_S1x1024x512_0_0_4608))⟩, ⟨Rect.unit ![0, 0, 0] S1x512x512.size inb_S1x512x1024_S1x512x512_0_0_0, k0_pay24 (hmat x0 x1) (View.ld x3 (Rect.unit ![0, 0, 4096] S1x1024x512.size inb_S1x1024x7680_S1x1024x512_0_0_4096))⟩] := by
  unfold kernelRun0_A
  dsimp only
  simp only [hmat_eqA, kernelRun0_A.sl.cst_199, kernelRun0_A.sl.r_1, kernelRun0_A.sl.r_14, kernelRun0_A.sl.r_15, kernelRun0_A.sl.r_16, kernelRun0_A.sl.r_19, kernelRun0_A.sl.r_2, kernelRun0_A.sl.r_20, kernelRun0_A.sl.r_21, kernelRun0_A.sl.r_22, kernelRun0_A.sl.r_23, kernelRun0_A.sl.r_27, kernelRun0_A.sl.r_28, kernelRun0_A.sl.r_29, kernelRun0_A.sl.r_30, kernelRun0_A.sl.r_31, kernelRun0_A.sl.r_32, kernelRun0_A.sl.r_6, View.readAt_eq_ld, harg2.read_unread, harg3.read_unread, harg5.read_unread, harg6.read_unread, harg8.read_unread]
  try rfl

/-- Output 10: the queries, scaled. -/
theorem outA10_apply (t : Fin 512) (l : Fin 1024) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 t l) = main (wts x3 x4 x5 x6) (row x0 x1 t) ⟨4096 + l.val, by omega⟩ * Ideal.ofBits .f32 0x3E000000#32 := by
  unfold out0_A_10
  rw [View.read_writes_junk_eq_canon, piecesA10]
  refine Cols.apply (e := .bf16) (f := fun t l => main (wts x3 x4 x5 x6) (row x0 x1 t) ⟨4096 + l.val, by omega⟩ * Ideal.ofBits .f32 0x3E000000#32) ?_ t l
  refine cols_cons _ _ _ _ 512 512 _ _ (fun t l h => ?_) ?_
  · exact (query_1 x0 x1 x3 x4 x5 x6 4608 _ t l (by omega)).trans (congrArg (fun n => main _ _ n * _) (Fin.ext (by dsimp only; omega)))
  refine cols_cons _ _ _ _ 0 512 _ _ (fun t l h => ?_) ?_
  · exact (query_0 x0 x1 x3 x4 x5 x6 4096 _ t l (by omega)).trans (congrArg (fun n => main _ _ n * _) (Fin.ext (by dsimp only; omega)))
  exact cols_none _ _ _ _

theorem piecesA11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.1 = [⟨Rect.unit ![0, 0, 0] ![1, 512, 256] inb_S1x512x256_S1x512x256_0_0_0, k0_pay39 (hmat x0 x1) (View.ld x3 (Rect.unit ![0, 0, 5120] S1x1024x512.size inb_S1x1024x7680_S1x1024x512_0_0_5120))⟩] := by
  unfold kernelRun0_A
  dsimp only
  simp only [hmat_eqA, kernelRun0_A.sl.cst_199, kernelRun0_A.sl.r_1, kernelRun0_A.sl.r_14, kernelRun0_A.sl.r_15, kernelRun0_A.sl.r_16, kernelRun0_A.sl.r_19, kernelRun0_A.sl.r_2, kernelRun0_A.sl.r_20, kernelRun0_A.sl.r_21, kernelRun0_A.sl.r_22, kernelRun0_A.sl.r_23, kernelRun0_A.sl.r_27, kernelRun0_A.sl.r_28, kernelRun0_A.sl.r_29, kernelRun0_A.sl.r_30, kernelRun0_A.sl.r_31, kernelRun0_A.sl.r_32, kernelRun0_A.sl.r_6, View.readAt_eq_ld, harg2.read_unread, harg3.read_unread, harg5.read_unread, harg6.read_unread, harg8.read_unread]
  try rfl

/-- Output 11: the keys. -/
theorem outA11_apply (t : Fin 512) (l : Fin 256) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 t l) = main (wts x3 x4 x5 x6) (row x0 x1 t) ⟨5120 + l.val, by omega⟩ := by
  unfold out0_A_11
  rw [View.read_writes_junk_eq_canon, piecesA11]
  refine Cols.apply (e := .f32) (f := fun t l => main (wts x3 x4 x5 x6) (row x0 x1 t) ⟨5120 + l.val, by omega⟩) ?_ t l
  refine cols_cons _ _ _ _ 0 256 _ _ (fun t l h => ?_) ?_
  · exact (key_apply x0 x1 x3 x4 x5 x6 _ t l).trans (congrArg (main _ _) (Fin.ext (by dsimp only; omega)))
  exact cols_none _ _ _ _

theorem piecesA12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.2.1 = [⟨Rect.unit ![0, 0, 0] ![1, 512, 256] inb_S1x512x256_S1x512x256_0_0_0, k0_pay40 (hmat x0 x1) (View.ld x3 (Rect.unit ![0, 0, 5120] S1x1024x512.size inb_S1x1024x7680_S1x1024x512_0_0_5120))⟩] := by
  unfold kernelRun0_A
  dsimp only
  simp only [hmat_eqA, kernelRun0_A.sl.cst_199, kernelRun0_A.sl.r_1, kernelRun0_A.sl.r_14, kernelRun0_A.sl.r_15, kernelRun0_A.sl.r_16, kernelRun0_A.sl.r_19, kernelRun0_A.sl.r_2, kernelRun0_A.sl.r_20, kernelRun0_A.sl.r_21, kernelRun0_A.sl.r_22, kernelRun0_A.sl.r_23, kernelRun0_A.sl.r_27, kernelRun0_A.sl.r_28, kernelRun0_A.sl.r_29, kernelRun0_A.sl.r_30, kernelRun0_A.sl.r_31, kernelRun0_A.sl.r_32, kernelRun0_A.sl.r_6, View.readAt_eq_ld, harg2.read_unread, harg3.read_unread, harg5.read_unread, harg6.read_unread, harg8.read_unread]
  try rfl

/-- Output 12: the values. -/
theorem outA12_apply (t : Fin 512) (l : Fin 256) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 t l) = main (wts x3 x4 x5 x6) (row x0 x1 t) ⟨5376 + l.val, by omega⟩ := by
  unfold out0_A_12
  rw [View.read_writes_junk_eq_canon, piecesA12]
  refine Cols.apply (e := .f32) (f := fun t l => main (wts x3 x4 x5 x6) (row x0 x1 t) ⟨5376 + l.val, by omega⟩) ?_ t l
  refine cols_cons _ _ _ _ 0 256 _ _ (fun t l h => ?_) ?_
  · exact (value_apply x0 x1 x3 x4 x5 x6 _ t l).trans (congrArg (main _ _) (Fin.ext (by dsimp only; omega)))
  exact cols_none _ _ _ _

theorem piecesA13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.2.2.1 = [⟨Rect.unit ![0, 0, 1536] S1x512x512.size inb_S1x512x2048_S1x512x512_0_0_1536, k0_pay57 (hmat x0 x1) (k0_pay55 (View.ld x3 (Rect.unit ![0, 0, 7168] S1x1024x512.size inb_S1x1024x7680_S1x1024x512_0_0_7168))) (k0_pay56 (hmat x0 x1) (View.ld x3 (Rect.unit ![0, 0, 7168] S1x1024x512.size inb_S1x1024x7680_S1x1024x512_0_0_7168)))⟩, ⟨Rect.unit ![0, 0, 1024] S1x512x512.size inb_S1x512x2048_S1x512x512_0_0_1024, k0_pay54 (hmat x0 x1) (View.ld x3 (Rect.unit ![0, 0, 6656] S1x1024x512.size inb_S1x1024x7680_S1x1024x512_0_0_6656))⟩, ⟨Rect.unit ![0, 0, 512] S1x512x512.size inb_S1x512x2048_S1x512x512_0_0_512, k0_pay53 (k0_pay52 (hmat x0 x1) (View.ld x3 (Rect.unit ![0, 0, 6144] S1x1024x512.size inb_S1x1024x7680_S1x1024x512_0_0_6144)))⟩, ⟨Rect.unit ![0, 0, 0] S1x512x512.size inb_S1x512x2048_S1x512x512_0_0_0, k0_pay46 (k0_pay41 (View.ld x3 (Rect.unit ![0, 0, 5632] S1x1024x512.size inb_S1x1024x7680_S1x1024x512_0_0_5632))) (k0_pay42 (hmat x0 x1) (View.ld x3 (Rect.unit ![0, 0, 5632] S1x1024x512.size inb_S1x1024x7680_S1x1024x512_0_0_5632))) (k0_pay43 (hmat x0 x1) (View.ld x3 (Rect.unit ![0, 0, 5632] S1x1024x512.size inb_S1x1024x7680_S1x1024x512_0_0_5632))) (k0_pay44 (hmat x0 x1) (View.ld x3 (Rect.unit ![0, 0, 5632] S1x1024x512.size inb_S1x1024x7680_S1x1024x512_0_0_5632))) (k0_pay45 (hmat x0 x1)) (constant S128x512 .f32 0x00000000#32)⟩] := by
  unfold kernelRun0_A
  dsimp only
  simp only [hmat_eqA, kernelRun0_A.sl.cst_199, kernelRun0_A.sl.r_1, kernelRun0_A.sl.r_14, kernelRun0_A.sl.r_15, kernelRun0_A.sl.r_16, kernelRun0_A.sl.r_19, kernelRun0_A.sl.r_2, kernelRun0_A.sl.r_20, kernelRun0_A.sl.r_21, kernelRun0_A.sl.r_22, kernelRun0_A.sl.r_23, kernelRun0_A.sl.r_27, kernelRun0_A.sl.r_28, kernelRun0_A.sl.r_29, kernelRun0_A.sl.r_30, kernelRun0_A.sl.r_31, kernelRun0_A.sl.r_32, kernelRun0_A.sl.r_6, View.readAt_eq_ld, harg2.read_unread, harg3.read_unread, harg5.read_unread, harg6.read_unread, harg8.read_unread]
  try rfl

/-- Output 13: the gates of the two branches. -/
theorem outA13_apply (t : Fin 512) (l : Fin 2048) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 t l) = sig (main (wts x3 x4 x5 x6) (row x0 x1 t) ⟨5632 + l.val, by omega⟩) := by
  unfold out0_A_13
  rw [View.read_writes_junk_eq_canon, piecesA13]
  refine Cols.apply (e := .bf16) (f := fun t l => sig (main (wts x3 x4 x5 x6) (row x0 x1 t) ⟨5632 + l.val, by omega⟩)) ?_ t l
  refine cols_cons _ _ _ _ 1536 512 _ _ (fun t l h => ?_) ?_
  · exact (gate_3 x0 x1 x3 x4 x5 x6 7168 _ t l (by omega)).trans (congrArg (fun n => sig (main _ _ n)) (Fin.ext (by dsimp only; omega)))
  refine cols_cons _ _ _ _ 1024 512 _ _ (fun t l h => ?_) ?_
  · exact (gate_2 x0 x1 x3 x4 x5 x6 6656 _ t l (by omega)).trans (congrArg (fun n => sig (main _ _ n)) (Fin.ext (by dsimp only; omega)))
  refine cols_cons _ _ _ _ 512 512 _ _ (fun t l h => ?_) ?_
  · exact (gate_1 x0 x1 x3 x4 x5 x6 6144 _ t l (by omega)).trans (congrArg (fun n => sig (main _ _ n)) (Fin.ext (by dsimp only; omega)))
  refine cols_cons _ _ _ _ 0 512 _ _ (fun t l h => ?_) ?_
  · exact (gate_0 x0 x1 x3 x4 x5 x6 5632 _ t l (by omega)).trans (congrArg (fun n => sig (main _ _ n)) (Fin.ext (by dsimp only; omega)))
  exact cols_none _ _ _ _

/-- The scratch's token rows after 512 columns of the projection. -/
theorem scrA0 : Cols (e := .f32) 8 (by omega) (fun t l => main (wts x3 x4 x5 x6) (row x0 x1 t) ⟨l.val, by omega⟩) (kernelRun0_A.sl.HS0_3 c arg2 harg2 arg3 harg3 arg4 harg4 arg5 harg5 x0 x1 x2 x3) 512 := by
  unfold kernelRun0_A.sl.HS0_3
  refine cols_cons _ _ _ _ 0 512 _ _ (fun t l h => ?_) (cols_none _ _ _ _)
  simp only [hmat_eqA, View.readAt_eq_ld, harg2.read_unread, harg3.read_unread, harg5.read_unread]
  exact (proj_0 x0 x1 x3 x4 x5 x6 0 _ t l (by omega)).trans (congrArg (main _ _) (Fin.ext (by dsimp only)))

/-- The scratch's token rows after 1024 columns of the projection. -/
theorem scrA1 : Cols (e := .f32) 8 (by omega) (fun t l => main (wts x3 x4 x5 x6) (row x0 x1 t) ⟨l.val, by omega⟩) (kernelRun0_A.sl.HS0_4 c arg2 harg2 arg3 harg3 arg4 harg4 arg5 harg5 x0 x1 x2 x3) 1024 := by
  unfold kernelRun0_A.sl.HS0_4
  refine cols_cons _ _ _ _ 512 512 _ _ (fun t l h => ?_) (scrA0 c arg2 harg2 arg3 harg3 arg4 harg4 arg5 harg5 x0 x1 x2 x3 x4 x5 x6)
  simp only [hmat_eqA, View.readAt_eq_ld, harg2.read_unread, harg3.read_unread, harg5.read_unread]
  exact (proj_1 x0 x1 x3 x4 x5 x6 512 _ t l (by omega)).trans (congrArg (main _ _) (Fin.ext (by dsimp only)))

/-- The scratch's token rows after 1536 columns of the projection. -/
theorem scrA2 : Cols (e := .f32) 8 (by omega) (fun t l => main (wts x3 x4 x5 x6) (row x0 x1 t) ⟨l.val, by omega⟩) (kernelRun0_A.sl.HS0_5 c arg2 harg2 arg3 harg3 arg4 harg4 arg5 harg5 x0 x1 x2 x3) 1536 := by
  unfold kernelRun0_A.sl.HS0_5
  refine cols_cons _ _ _ _ 1024 512 _ _ (fun t l h => ?_) (scrA1 c arg2 harg2 arg3 harg3 arg4 harg4 arg5 harg5 x0 x1 x2 x3 x4 x5 x6)
  simp only [hmat_eqA, View.readAt_eq_ld, harg2.read_unread, harg3.read_unread, harg5.read_unread]
  exact (proj_2 x0 x1 x3 x4 x5 x6 1024 _ t l (by omega)).trans (congrArg (main _ _) (Fin.ext (by dsimp only)))

/-- The scratch's token rows after 2048 columns of the projection. -/
theorem scrA3 : Cols (e := .f32) 8 (by omega) (fun t l => main (wts x3 x4 x5 x6) (row x0 x1 t) ⟨l.val, by omega⟩) (kernelRun0_A.sl.HS0_6 c arg2 harg2 arg3 harg3 arg4 harg4 arg5 harg5 x0 x1 x2 x3) 2048 := by
  unfold kernelRun0_A.sl.HS0_6
  refine cols_cons _ _ _ _ 1536 512 _ _ (fun t l h => ?_) (scrA2 c arg2 harg2 arg3 harg3 arg4 harg4 arg5 harg5 x0 x1 x2 x3 x4 x5 x6)
  simp only [hmat_eqA, View.readAt_eq_ld, harg2.read_unread, harg3.read_unread, harg5.read_unread]
  exact (proj_3 x0 x1 x3 x4 x5 x6 1536 _ t l (by omega)).trans (congrArg (main _ _) (Fin.ext (by dsimp only)))

/-- The scratch's token rows after 2560 columns of the projection. -/
theorem scrA4 : Cols (e := .f32) 8 (by omega) (fun t l => main (wts x3 x4 x5 x6) (row x0 x1 t) ⟨l.val, by omega⟩) (kernelRun0_A.sl.HS0_7 c arg2 harg2 arg3 harg3 arg4 harg4 arg5 harg5 x0 x1 x2 x3) 2560 := by
  unfold kernelRun0_A.sl.HS0_7
  refine cols_cons _ _ _ _ 2048 512 _ _ (fun t l h => ?_) (scrA3 c arg2 harg2 arg3 harg3 arg4 harg4 arg5 harg5 x0 x1 x2 x3 x4 x5 x6)
  simp only [kernelRun0_A.sl.r_14, kernelRun0_A.sl.r_15, kernelRun0_A.sl.r_16, hmat_eqA, View.readAt_eq_ld, harg2.read_unread, harg3.read_unread, harg5.read_unread]
  exact (proj_4 x0 x1 x3 x4 x5 x6 2048 _ t l (by omega)).trans (congrArg (main _ _) (Fin.ext (by dsimp only)))

/-- The scratch's token rows after 3072 columns of the projection. -/
theorem scrA5 : Cols (e := .f32) 8 (by omega) (fun t l => main (wts x3 x4 x5 x6) (row x0 x1 t) ⟨l.val, by omega⟩) (kernelRun0_A.sl.HS0_8 c arg2 harg2 arg3 harg3 arg4 harg4 arg5 harg5 x0 x1 x2 x3) 3072 := by
  unfold kernelRun0_A.sl.HS0_8
  refine cols_cons _ _ _ _ 2560 512 _ _ (fun t l h => ?_) (scrA4 c arg2 harg2 arg3 harg3 arg4 harg4 arg5 harg5 x0 x1 x2 x3 x4 x5 x6)
  simp only [hmat_eqA, View.readAt_eq_ld, harg2.read_unread, harg3.read_unread, harg5.read_unread]
  exact (proj_5 x0 x1 x3 x4 x5 x6 2560 _ t l (by omega)).trans (congrArg (main _ _) (Fin.ext (by dsimp only)))

/-- The rows the convolution carries on, read back from the scratch. -/
theorem carryA_apply (j : Fin 3) (l : Fin 3072) :
    kernelRun0_A.sl.v489 c arg2 harg2 arg3 harg3 arg4 harg4 arg5 harg5 arg17 x0 x1 x2 x3 (ix3 0 j l) = main (wts x3 x4 x5 x6) (row x0 x1 ⟨509 + j.val, by omega⟩) ⟨l.val, by omega⟩ := by
  unfold kernelRun0_A.sl.v489
  rw [View.readCov_eq_canon']
  have e : (Rect.unit (s := S1x520x3072) ![0, 517, 0] S1x3x3072.size inb_S1x520x3072_S1x3x3072_0_517_0).toLoadRect.idx (ix3 0 j l) = ix3 0 ⟨8 + (⟨509 + j.val, by omega⟩ : Fin 512).val, by dsimp only; omega⟩ l := by
    funext a
    fin_cases a <;> refine Fin.ext ?_ <;> simp [Rect.idx_unit_val, ix3] <;> omega
  refine (congrArg _ e).trans ?_
  exact scrA5 c arg2 harg2 arg3 harg3 arg4 harg4 arg5 harg5 x0 x1 x2 x3 x4 x5 x6 ⟨509 + j.val, by omega⟩ l (by have := l.isLt; omega)

/-- Output 14: the rows the convolution carries on. -/
theorem outA14_apply (j : Fin 3) (l : Fin 3072) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 j l) = main (wts x3 x4 x5 x6) (row x0 x1 ⟨509 + j.val, by omega⟩) ⟨l.val, by omega⟩ := by
  unfold out0_A_14
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.2.2.2.1 = [⟨Rect.unit ![0, 0, 0] S1x3x3072.size inb_S1x3x3072_S1x3x3072_0_0_0, kernelRun0_A.sl.v489 c arg2 harg2 arg3 harg3 arg4 harg4 arg5 harg5 arg17 x0 x1 x2 x3⟩] := by
    unfold kernelRun0_A
    rfl
  rw [e]
  exact (canon_hit _ _ _ _ _ _ (ix3 0 j l) (fun a => by fin_cases a <;> simp [ix3])).trans (carryA_apply c arg2 harg2 arg3 harg3 arg4 harg4 arg5 harg5 arg17 x0 x1 x2 x3 x4 x5 x6 j l)

end caseA

/-! ## The stores of a grid point inside a sequence -/

section caseB

variable (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x3x3072 .f32) (harg4 : arg4.IsWhole) (arg5 : Memref sig .tc .vmem S1x1024x7680 .bf16) (harg5 : arg5.IsWhole) (arg6 : Memref sig .tc .vmem S1x1024x128 .bf16) (harg6 : arg6.IsWhole) (arg7 : Memref sig .tc .vmem S4x3072 .f32) (harg7 : arg7.IsWhole) (arg8 : Memref sig .tc .vmem S2x128 .f32) (harg8 : arg8.IsWhole) (arg9 : Memref sig .tc .vmem S1x512x3072 .bf16) (harg9 : arg9.IsWhole) (arg10 : Memref sig .tc .vmem S1x512x1024 .bf16) (harg10 : arg10.IsWhole) (arg11 : Memref sig .tc .vmem S1x512x128 .f32) (harg11 : arg11.IsWhole) (arg12 : Memref sig .tc .vmem S1x512x1024 .bf16) (harg12 : arg12.IsWhole) (arg13 : Memref sig .tc .vmem S1x512x256 .f32) (harg13 : arg13.IsWhole) (arg14 : Memref sig .tc .vmem S1x512x256 .f32) (harg14 : arg14.IsWhole) (arg15 : Memref sig .tc .vmem S1x512x2048 .bf16) (harg15 : arg15.IsWhole) (arg16 : Memref sig .tc .vmem S1x3x3072 .f32) (harg16 : arg16.IsWhole) (arg17 : Memref sig .tc .vmem S1x520x3072 .f32) (harg17 : arg17.IsWhole) (hc0 : ¬cond0_0 i)
    (x0 : Vec Ideal S1x512x1024 .f32) (x1 : Vec Ideal S1x1x6144 .f32) (x2 : Vec Ideal S1x3x3072 .f32) (x3 : Vec Ideal S1x1024x7680 .bf16) (x4 : Vec Ideal S1x1024x128 .bf16) (x5 : Vec Ideal S4x3072 .f32) (x6 : Vec Ideal S2x128 .f32) (xs0 : Vec Ideal S1x520x3072 .f32)

/-- The rows, as the run names them. -/
theorem hmat_eqB : kernelRun0_B.sl.r c arg2 harg2 arg3 harg3 x0 x1 = hmat x0 x1 := by
  unfold kernelRun0_B.sl.r hmat
  simp only [View.readAt_eq_ld, harg2.read_unread, harg3.read_unread]

theorem piecesB8 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0).2.1 = [⟨Rect.unit ![0, 0, 512] S1x512x512.size inb_S1x512x1024_S1x512x512_0_0_512, k0_pay16 (k0_pay15 (hmat x0 x1) (View.ld x3 (Rect.unit ![0, 0, 3584] S1x1024x512.size inb_S1x1024x7680_S1x1024x512_0_0_3584)))⟩, ⟨Rect.unit ![0, 0, 0] S1x512x512.size inb_S1x512x1024_S1x512x512_0_0_0, k0_pay9 (hmat x0 x1) (k0_pay7 (View.ld x3 (Rect.unit ![0, 0, 3072] S1x1024x512.size inb_S1x1024x7680_S1x1024x512_0_0_3072))) (k0_pay8 (hmat x0 x1))⟩] := by
  unfold kernelRun0_B
  dsimp only
  simp only [hmat_eqB, kernelRun0_B.sl.cst_199, kernelRun0_B.sl.r_1, kernelRun0_B.sl.r_14, kernelRun0_B.sl.r_15, kernelRun0_B.sl.r_16, kernelRun0_B.sl.r_19, kernelRun0_B.sl.r_2, kernelRun0_B.sl.r_20, kernelRun0_B.sl.r_21, kernelRun0_B.sl.r_22, kernelRun0_B.sl.r_23, kernelRun0_B.sl.r_27, kernelRun0_B.sl.r_28, kernelRun0_B.sl.r_29, kernelRun0_B.sl.r_30, kernelRun0_B.sl.r_31, kernelRun0_B.sl.r_32, kernelRun0_B.sl.r_6, View.readAt_eq_ld, harg2.read_unread, harg3.read_unread, harg5.read_unread, harg6.read_unread, harg8.read_unread]
  try rfl

/-- Output 8: the output gate. -/
theorem outB8_apply (t : Fin 512) (l : Fin 1024) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 (ix3 0 t l) = main (wts x3 x4 x5 x6) (row x0 x1 t) ⟨3072 + l.val, by omega⟩ := by
  unfold out0_B_8
  rw [View.read_writes_junk_eq_canon, piecesB8]
  refine Cols.apply (e := .bf16) (f := fun t l => main (wts x3 x4 x5 x6) (row x0 x1 t) ⟨3072 + l.val, by omega⟩) ?_ t l
  refine cols_cons _ _ _ _ 512 512 _ _ (fun t l h => ?_) ?_
  · exact (outGate_1 x0 x1 x3 x4 x5 x6 3584 _ t l (by omega)).trans (congrArg (main _ _) (Fin.ext (by dsimp only; omega)))
  refine cols_cons _ _ _ _ 0 512 _ _ (fun t l h => ?_) ?_
  · exact (outGate_0 x0 x1 x3 x4 x5 x6 3072 _ t l (by omega)).trans (congrArg (main _ _) (Fin.ext (by dsimp only; omega)))
  exact cols_none _ _ _ _

theorem piecesB9 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0).2.2.1 = [⟨Rect.unit ![0, 0, 0] ![1, 512, 128] inb_S1x512x128_S1x512x128_0_0_0, k0_pay1 (k0_pay59 (hmat x0 x1) (View.ld x4 (Rect.unit ![0, 0, 0] S1x1024x128.size inb_S1x1024x128_S1x1024x128_0_0_0))) (k0_pay61 (hmat x0 x1) (View.ld x4 (Rect.unit ![0, 0, 0] S1x1024x128.size inb_S1x1024x128_S1x1024x128_0_0_0)) (View.ld x6 (Rect.unit ![1, 0] S1x128.size inb_S2x128_S1x128_1_0))) (k0_pay62 (hmat x0 x1) (View.ld x4 (Rect.unit ![0, 0, 0] S1x1024x128.size inb_S1x1024x128_S1x1024x128_0_0_0)) (View.ld x6 (Rect.unit ![1, 0] S1x128.size inb_S2x128_S1x128_1_0))) (View.ld x6 (Rect.unit ![0, 0] S1x128.size inb_S2x128_S1x128_0_0))⟩] := by
  unfold kernelRun0_B
  dsimp only
  simp only [hmat_eqB, kernelRun0_B.sl.cst_199, kernelRun0_B.sl.r_1, kernelRun0_B.sl.r_14, kernelRun0_B.sl.r_15, kernelRun0_B.sl.r_16, kernelRun0_B.sl.r_19, kernelRun0_B.sl.r_2, kernelRun0_B.sl.r_20, kernelRun0_B.sl.r_21, kernelRun0_B.sl.r_22, kernelRun0_B.sl.r_23, kernelRun0_B.sl.r_27, kernelRun0_B.sl.r_28, kernelRun0_B.sl.r_29, kernelRun0_B.sl.r_30, kernelRun0_B.sl.r_31, kernelRun0_B.sl.r_32, kernelRun0_B.sl.r_6, View.readAt_eq_ld, harg2.read_unread, harg3.read_unread, harg5.read_unread, harg6.read_unread, harg8.read_unread]
  try rfl

/-- Output 9: the packed gates. -/
theorem outB9_apply (t : Fin 512) (l : Fin 128) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 (ix3 0 t l) = gb (wts x3 x4 x5 x6) (row x0 x1 t) l := by
  unfold out0_B_9
  rw [View.read_writes_junk_eq_canon, piecesB9]
  refine Cols.apply (e := .f32) (f := fun t l => gb (wts x3 x4 x5 x6) (row x0 x1 t) l) ?_ t l
  refine cols_cons _ _ _ _ 0 128 _ _ (fun t l h => ?_) ?_
  · exact (gb_apply x0 x1 x3 x4 x5 x6 t l).trans (congrArg (gb _ _) (Fin.ext (by dsimp only; omega)))
  exact cols_none _ _ _ _

theorem piecesB10 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0).2.2.2.1 = [⟨Rect.unit ![0, 0, 512] S1x512x512.size inb_S1x512x1024_S1x512x512_0_0_512, k0_pay30 (hmat x0 x1) (View.ld x3 (Rect.unit ![0, 0, 4608] S1x1024x512.size inb_S1x1024x7680_S1x1024x512_0_0_4608))⟩, ⟨Rect.unit ![0, 0, 0] S1x512x512.size inb_S1x512x1024_S1x512x512_0_0_0, k0_pay24 (hmat x0 x1) (View.ld x3 (Rect.unit ![0, 0, 4096] S1x1024x512.size inb_S1x1024x7680_S1x1024x512_0_0_4096))⟩] := by
  unfold kernelRun0_B
  dsimp only
  simp only [hmat_eqB, kernelRun0_B.sl.cst_199, kernelRun0_B.sl.r_1, kernelRun0_B.sl.r_14, kernelRun0_B.sl.r_15, kernelRun0_B.sl.r_16, kernelRun0_B.sl.r_19, kernelRun0_B.sl.r_2, kernelRun0_B.sl.r_20, kernelRun0_B.sl.r_21, kernelRun0_B.sl.r_22, kernelRun0_B.sl.r_23, kernelRun0_B.sl.r_27, kernelRun0_B.sl.r_28, kernelRun0_B.sl.r_29, kernelRun0_B.sl.r_30, kernelRun0_B.sl.r_31, kernelRun0_B.sl.r_32, kernelRun0_B.sl.r_6, View.readAt_eq_ld, harg2.read_unread, harg3.read_unread, harg5.read_unread, harg6.read_unread, harg8.read_unread]
  try rfl

/-- Output 10: the queries, scaled. -/
theorem outB10_apply (t : Fin 512) (l : Fin 1024) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 (ix3 0 t l) = main (wts x3 x4 x5 x6) (row x0 x1 t) ⟨4096 + l.val, by omega⟩ * Ideal.ofBits .f32 0x3E000000#32 := by
  unfold out0_B_10
  rw [View.read_writes_junk_eq_canon, piecesB10]
  refine Cols.apply (e := .bf16) (f := fun t l => main (wts x3 x4 x5 x6) (row x0 x1 t) ⟨4096 + l.val, by omega⟩ * Ideal.ofBits .f32 0x3E000000#32) ?_ t l
  refine cols_cons _ _ _ _ 512 512 _ _ (fun t l h => ?_) ?_
  · exact (query_1 x0 x1 x3 x4 x5 x6 4608 _ t l (by omega)).trans (congrArg (fun n => main _ _ n * _) (Fin.ext (by dsimp only; omega)))
  refine cols_cons _ _ _ _ 0 512 _ _ (fun t l h => ?_) ?_
  · exact (query_0 x0 x1 x3 x4 x5 x6 4096 _ t l (by omega)).trans (congrArg (fun n => main _ _ n * _) (Fin.ext (by dsimp only; omega)))
  exact cols_none _ _ _ _

theorem piecesB11 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0).2.2.2.2.1 = [⟨Rect.unit ![0, 0, 0] ![1, 512, 256] inb_S1x512x256_S1x512x256_0_0_0, k0_pay39 (hmat x0 x1) (View.ld x3 (Rect.unit ![0, 0, 5120] S1x1024x512.size inb_S1x1024x7680_S1x1024x512_0_0_5120))⟩] := by
  unfold kernelRun0_B
  dsimp only
  simp only [hmat_eqB, kernelRun0_B.sl.cst_199, kernelRun0_B.sl.r_1, kernelRun0_B.sl.r_14, kernelRun0_B.sl.r_15, kernelRun0_B.sl.r_16, kernelRun0_B.sl.r_19, kernelRun0_B.sl.r_2, kernelRun0_B.sl.r_20, kernelRun0_B.sl.r_21, kernelRun0_B.sl.r_22, kernelRun0_B.sl.r_23, kernelRun0_B.sl.r_27, kernelRun0_B.sl.r_28, kernelRun0_B.sl.r_29, kernelRun0_B.sl.r_30, kernelRun0_B.sl.r_31, kernelRun0_B.sl.r_32, kernelRun0_B.sl.r_6, View.readAt_eq_ld, harg2.read_unread, harg3.read_unread, harg5.read_unread, harg6.read_unread, harg8.read_unread]
  try rfl

/-- Output 11: the keys. -/
theorem outB11_apply (t : Fin 512) (l : Fin 256) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 (ix3 0 t l) = main (wts x3 x4 x5 x6) (row x0 x1 t) ⟨5120 + l.val, by omega⟩ := by
  unfold out0_B_11
  rw [View.read_writes_junk_eq_canon, piecesB11]
  refine Cols.apply (e := .f32) (f := fun t l => main (wts x3 x4 x5 x6) (row x0 x1 t) ⟨5120 + l.val, by omega⟩) ?_ t l
  refine cols_cons _ _ _ _ 0 256 _ _ (fun t l h => ?_) ?_
  · exact (key_apply x0 x1 x3 x4 x5 x6 _ t l).trans (congrArg (main _ _) (Fin.ext (by dsimp only; omega)))
  exact cols_none _ _ _ _

theorem piecesB12 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0).2.2.2.2.2.1 = [⟨Rect.unit ![0, 0, 0] ![1, 512, 256] inb_S1x512x256_S1x512x256_0_0_0, k0_pay40 (hmat x0 x1) (View.ld x3 (Rect.unit ![0, 0, 5120] S1x1024x512.size inb_S1x1024x7680_S1x1024x512_0_0_5120))⟩] := by
  unfold kernelRun0_B
  dsimp only
  simp only [hmat_eqB, kernelRun0_B.sl.cst_199, kernelRun0_B.sl.r_1, kernelRun0_B.sl.r_14, kernelRun0_B.sl.r_15, kernelRun0_B.sl.r_16, kernelRun0_B.sl.r_19, kernelRun0_B.sl.r_2, kernelRun0_B.sl.r_20, kernelRun0_B.sl.r_21, kernelRun0_B.sl.r_22, kernelRun0_B.sl.r_23, kernelRun0_B.sl.r_27, kernelRun0_B.sl.r_28, kernelRun0_B.sl.r_29, kernelRun0_B.sl.r_30, kernelRun0_B.sl.r_31, kernelRun0_B.sl.r_32, kernelRun0_B.sl.r_6, View.readAt_eq_ld, harg2.read_unread, harg3.read_unread, harg5.read_unread, harg6.read_unread, harg8.read_unread]
  try rfl

/-- Output 12: the values. -/
theorem outB12_apply (t : Fin 512) (l : Fin 256) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 (ix3 0 t l) = main (wts x3 x4 x5 x6) (row x0 x1 t) ⟨5376 + l.val, by omega⟩ := by
  unfold out0_B_12
  rw [View.read_writes_junk_eq_canon, piecesB12]
  refine Cols.apply (e := .f32) (f := fun t l => main (wts x3 x4 x5 x6) (row x0 x1 t) ⟨5376 + l.val, by omega⟩) ?_ t l
  refine cols_cons _ _ _ _ 0 256 _ _ (fun t l h => ?_) ?_
  · exact (value_apply x0 x1 x3 x4 x5 x6 _ t l).trans (congrArg (main _ _) (Fin.ext (by dsimp only; omega)))
  exact cols_none _ _ _ _

theorem piecesB13 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0).2.2.2.2.2.2.1 = [⟨Rect.unit ![0, 0, 1536] S1x512x512.size inb_S1x512x2048_S1x512x512_0_0_1536, k0_pay57 (hmat x0 x1) (k0_pay55 (View.ld x3 (Rect.unit ![0, 0, 7168] S1x1024x512.size inb_S1x1024x7680_S1x1024x512_0_0_7168))) (k0_pay56 (hmat x0 x1) (View.ld x3 (Rect.unit ![0, 0, 7168] S1x1024x512.size inb_S1x1024x7680_S1x1024x512_0_0_7168)))⟩, ⟨Rect.unit ![0, 0, 1024] S1x512x512.size inb_S1x512x2048_S1x512x512_0_0_1024, k0_pay54 (hmat x0 x1) (View.ld x3 (Rect.unit ![0, 0, 6656] S1x1024x512.size inb_S1x1024x7680_S1x1024x512_0_0_6656))⟩, ⟨Rect.unit ![0, 0, 512] S1x512x512.size inb_S1x512x2048_S1x512x512_0_0_512, k0_pay53 (k0_pay52 (hmat x0 x1) (View.ld x3 (Rect.unit ![0, 0, 6144] S1x1024x512.size inb_S1x1024x7680_S1x1024x512_0_0_6144)))⟩, ⟨Rect.unit ![0, 0, 0] S1x512x512.size inb_S1x512x2048_S1x512x512_0_0_0, k0_pay46 (k0_pay41 (View.ld x3 (Rect.unit ![0, 0, 5632] S1x1024x512.size inb_S1x1024x7680_S1x1024x512_0_0_5632))) (k0_pay42 (hmat x0 x1) (View.ld x3 (Rect.unit ![0, 0, 5632] S1x1024x512.size inb_S1x1024x7680_S1x1024x512_0_0_5632))) (k0_pay43 (hmat x0 x1) (View.ld x3 (Rect.unit ![0, 0, 5632] S1x1024x512.size inb_S1x1024x7680_S1x1024x512_0_0_5632))) (k0_pay44 (hmat x0 x1) (View.ld x3 (Rect.unit ![0, 0, 5632] S1x1024x512.size inb_S1x1024x7680_S1x1024x512_0_0_5632))) (k0_pay45 (hmat x0 x1)) (constant S128x512 .f32 0x00000000#32)⟩] := by
  unfold kernelRun0_B
  dsimp only
  simp only [hmat_eqB, kernelRun0_B.sl.cst_199, kernelRun0_B.sl.r_1, kernelRun0_B.sl.r_14, kernelRun0_B.sl.r_15, kernelRun0_B.sl.r_16, kernelRun0_B.sl.r_19, kernelRun0_B.sl.r_2, kernelRun0_B.sl.r_20, kernelRun0_B.sl.r_21, kernelRun0_B.sl.r_22, kernelRun0_B.sl.r_23, kernelRun0_B.sl.r_27, kernelRun0_B.sl.r_28, kernelRun0_B.sl.r_29, kernelRun0_B.sl.r_30, kernelRun0_B.sl.r_31, kernelRun0_B.sl.r_32, kernelRun0_B.sl.r_6, View.readAt_eq_ld, harg2.read_unread, harg3.read_unread, harg5.read_unread, harg6.read_unread, harg8.read_unread]
  try rfl

/-- Output 13: the gates of the two branches. -/
theorem outB13_apply (t : Fin 512) (l : Fin 2048) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 (ix3 0 t l) = sig (main (wts x3 x4 x5 x6) (row x0 x1 t) ⟨5632 + l.val, by omega⟩) := by
  unfold out0_B_13
  rw [View.read_writes_junk_eq_canon, piecesB13]
  refine Cols.apply (e := .bf16) (f := fun t l => sig (main (wts x3 x4 x5 x6) (row x0 x1 t) ⟨5632 + l.val, by omega⟩)) ?_ t l
  refine cols_cons _ _ _ _ 1536 512 _ _ (fun t l h => ?_) ?_
  · exact (gate_3 x0 x1 x3 x4 x5 x6 7168 _ t l (by omega)).trans (congrArg (fun n => sig (main _ _ n)) (Fin.ext (by dsimp only; omega)))
  refine cols_cons _ _ _ _ 1024 512 _ _ (fun t l h => ?_) ?_
  · exact (gate_2 x0 x1 x3 x4 x5 x6 6656 _ t l (by omega)).trans (congrArg (fun n => sig (main _ _ n)) (Fin.ext (by dsimp only; omega)))
  refine cols_cons _ _ _ _ 512 512 _ _ (fun t l h => ?_) ?_
  · exact (gate_1 x0 x1 x3 x4 x5 x6 6144 _ t l (by omega)).trans (congrArg (fun n => sig (main _ _ n)) (Fin.ext (by dsimp only; omega)))
  refine cols_cons _ _ _ _ 0 512 _ _ (fun t l h => ?_) ?_
  · exact (gate_0 x0 x1 x3 x4 x5 x6 5632 _ t l (by omega)).trans (congrArg (fun n => sig (main _ _ n)) (Fin.ext (by dsimp only; omega)))
  exact cols_none _ _ _ _

/-- The scratch's token rows after 512 columns of the projection. -/
theorem scrB0 : Cols (e := .f32) 8 (by omega) (fun t l => main (wts x3 x4 x5 x6) (row x0 x1 t) ⟨l.val, by omega⟩) (kernelRun0_B.sl.HS0_1 c arg2 harg2 arg3 harg3 arg5 harg5 x0 x1 x3) 512 := by
  unfold kernelRun0_B.sl.HS0_1
  refine cols_cons _ _ _ _ 0 512 _ _ (fun t l h => ?_) (cols_none _ _ _ _)
  simp only [hmat_eqB, View.readAt_eq_ld, harg2.read_unread, harg3.read_unread, harg5.read_unread]
  exact (proj_0 x0 x1 x3 x4 x5 x6 0 _ t l (by omega)).trans (congrArg (main _ _) (Fin.ext (by dsimp only)))

/-- The scratch's token rows after 1024 columns of the projection. -/
theorem scrB1 : Cols (e := .f32) 8 (by omega) (fun t l => main (wts x3 x4 x5 x6) (row x0 x1 t) ⟨l.val, by omega⟩) (kernelRun0_B.sl.HS0_2 c arg2 harg2 arg3 harg3 arg5 harg5 x0 x1 x3) 1024 := by
  unfold kernelRun0_B.sl.HS0_2
  refine cols_cons _ _ _ _ 512 512 _ _ (fun t l h => ?_) (scrB0 c arg2 harg2 arg3 harg3 arg5 harg5 x0 x1 x3 x4 x5 x6)
  simp only [hmat_eqB, View.readAt_eq_ld, harg2.read_unread, harg3.read_unread, harg5.read_unread]
  exact (proj_1 x0 x1 x3 x4 x5 x6 512 _ t l (by omega)).trans (congrArg (main _ _) (Fin.ext (by dsimp only)))

/-- The scratch's token rows after 1536 columns of the projection. -/
theorem scrB2 : Cols (e := .f32) 8 (by omega) (fun t l => main (wts x3 x4 x5 x6) (row x0 x1 t) ⟨l.val, by omega⟩) (kernelRun0_B.sl.HS0_3 c arg2 harg2 arg3 harg3 arg5 harg5 x0 x1 x3) 1536 := by
  unfold kernelRun0_B.sl.HS0_3
  refine cols_cons _ _ _ _ 1024 512 _ _ (fun t l h => ?_) (scrB1 c arg2 harg2 arg3 harg3 arg5 harg5 x0 x1 x3 x4 x5 x6)
  simp only [hmat_eqB, View.readAt_eq_ld, harg2.read_unread, harg3.read_unread, harg5.read_unread]
  exact (proj_2 x0 x1 x3 x4 x5 x6 1024 _ t l (by omega)).trans (congrArg (main _ _) (Fin.ext (by dsimp only)))

/-- The scratch's token rows after 2048 columns of the projection. -/
theorem scrB3 : Cols (e := .f32) 8 (by omega) (fun t l => main (wts x3 x4 x5 x6) (row x0 x1 t) ⟨l.val, by omega⟩) (kernelRun0_B.sl.HS0_4 c arg2 harg2 arg3 harg3 arg5 harg5 x0 x1 x3) 2048 := by
  unfold kernelRun0_B.sl.HS0_4
  refine cols_cons _ _ _ _ 1536 512 _ _ (fun t l h => ?_) (scrB2 c arg2 harg2 arg3 harg3 arg5 harg5 x0 x1 x3 x4 x5 x6)
  simp only [hmat_eqB, View.readAt_eq_ld, harg2.read_unread, harg3.read_unread, harg5.read_unread]
  exact (proj_3 x0 x1 x3 x4 x5 x6 1536 _ t l (by omega)).trans (congrArg (main _ _) (Fin.ext (by dsimp only)))

/-- The scratch's token rows after 2560 columns of the projection. -/
theorem scrB4 : Cols (e := .f32) 8 (by omega) (fun t l => main (wts x3 x4 x5 x6) (row x0 x1 t) ⟨l.val, by omega⟩) (kernelRun0_B.sl.HS0_5 c arg2 harg2 arg3 harg3 arg5 harg5 x0 x1 x3) 2560 := by
  unfold kernelRun0_B.sl.HS0_5
  refine cols_cons _ _ _ _ 2048 512 _ _ (fun t l h => ?_) (scrB3 c arg2 harg2 arg3 harg3 arg5 harg5 x0 x1 x3 x4 x5 x6)
  simp only [kernelRun0_B.sl.r_14, kernelRun0_B.sl.r_15, kernelRun0_B.sl.r_16, hmat_eqB, View.readAt_eq_ld, harg2.read_unread, harg3.read_unread, harg5.read_unread]
  exact (proj_4 x0 x1 x3 x4 x5 x6 2048 _ t l (by omega)).trans (congrArg (main _ _) (Fin.ext (by dsimp only)))

/-- The scratch's token rows after 3072 columns of the projection. -/
theorem scrB5 : Cols (e := .f32) 8 (by omega) (fun t l => main (wts x3 x4 x5 x6) (row x0 x1 t) ⟨l.val, by omega⟩) (kernelRun0_B.sl.HS0_6 c arg2 harg2 arg3 harg3 arg5 harg5 x0 x1 x3) 3072 := by
  unfold kernelRun0_B.sl.HS0_6
  refine cols_cons _ _ _ _ 2560 512 _ _ (fun t l h => ?_) (scrB4 c arg2 harg2 arg3 harg3 arg5 harg5 x0 x1 x3 x4 x5 x6)
  simp only [hmat_eqB, View.readAt_eq_ld, harg2.read_unread, harg3.read_unread, harg5.read_unread]
  exact (proj_5 x0 x1 x3 x4 x5 x6 2560 _ t l (by omega)).trans (congrArg (main _ _) (Fin.ext (by dsimp only)))

/-- The rows the convolution carries on, read back from the scratch. -/
theorem carryB_apply (j : Fin 3) (l : Fin 3072) :
    kernelRun0_B.sl.v489 c arg2 harg2 arg3 harg3 arg5 harg5 arg17 x0 x1 x3 (ix3 0 j l) = main (wts x3 x4 x5 x6) (row x0 x1 ⟨509 + j.val, by omega⟩) ⟨l.val, by omega⟩ := by
  unfold kernelRun0_B.sl.v489
  rw [View.readCov_eq_canon']
  have e : (Rect.unit (s := S1x520x3072) ![0, 517, 0] S1x3x3072.size inb_S1x520x3072_S1x3x3072_0_517_0).toLoadRect.idx (ix3 0 j l) = ix3 0 ⟨8 + (⟨509 + j.val, by omega⟩ : Fin 512).val, by dsimp only; omega⟩ l := by
    funext a
    fin_cases a <;> refine Fin.ext ?_ <;> simp [Rect.idx_unit_val, ix3] <;> omega
  refine (congrArg _ e).trans ?_
  exact scrB5 c arg2 harg2 arg3 harg3 arg5 harg5 x0 x1 x3 x4 x5 x6 ⟨509 + j.val, by omega⟩ l (by have := l.isLt; omega)

/-- Output 14: the rows the convolution carries on. -/
theorem outB14_apply (j : Fin 3) (l : Fin 3072) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 (ix3 0 j l) = main (wts x3 x4 x5 x6) (row x0 x1 ⟨509 + j.val, by omega⟩) ⟨l.val, by omega⟩ := by
  unfold out0_B_14
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0).2.2.2.2.2.2.2.1 = [⟨Rect.unit ![0, 0, 0] S1x3x3072.size inb_S1x3x3072_S1x3x3072_0_0_0, kernelRun0_B.sl.v489 c arg2 harg2 arg3 harg3 arg5 harg5 arg17 x0 x1 x3⟩] := by
    unfold kernelRun0_B
    rfl
  rw [e]
  exact (canon_hit _ _ _ _ _ _ (ix3 0 j l) (fun a => by fin_cases a <;> simp [ix3])).trans (carryB_apply c arg2 harg2 arg3 harg3 arg5 harg5 arg17 x0 x1 x3 x4 x5 x6 j l)

end caseB

end Cert.FrontPromptKernel

end
-- ==== Proof.FrontPromptArray.lean ====
/- The front kernel's result arrays on the prompt batch: what the grid points write back, put together. -/
module

public import proofs.«01_k».proof.Proof.Gen.FrontPromptIdeal.Value
public import proofs.«01_k».proof.Proof.FrontPromptPieces
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.FrontPromptKernel

open Cert.FrontPromptIdeal Cert.FrontPromptIdeal.Gen Idealize.ShloMosaic Idealize.ShloMosaic.TcCoe Cert.FrontRow
open Cert.FrontSpec hiding hid main ba gb

/-- Setting lanes 8 to 15 of row `r` to a vector. -/
def setRow (x0 : S2x128.Idx → EReal) (r : Fin 2) (u : S8.Idx → EReal) (j : Fin 2) (n : Fin 128) : EReal :=
  if h : j = r ∧ 8 ≤ n.val ∧ n.val < 16 then u (ix1 ⟨n.val - 8, by omega⟩) else x0 (ix2 j n)

/-- Where an update of the scatter lands. -/
theorem lands (w : IVec S2 32) (r : Fin 2) (h0 : (w (ix1 0)).toInt = r.val) (h1 : (w (ix1 1)).toInt = 8) (k : Fin 8) (j : Fin 2) (n : Fin 128) :
    scatter_S2x128_S2_S8_0_0_01_0.resultIdx? (ix1 k) w = some (ix2 j n) ↔ j = r ∧ n.val = 8 + k.val := by
  rw [Routing.resultIdx?_eq_some]
  have s0 : scatter_S2x128_S2_S8_0_0_01_0.start (ix1 k) w 0 = (w (ix1 0)).toInt := by
    unfold ScatterDims.start
    rw [dif_pos (by decide)]
    exact congrArg (fun q => (w q).toInt) (by blk_ext; rfl)
  have s1 : scatter_S2x128_S2_S8_0_0_01_0.start (ix1 k) w 1 = (w (ix1 1)).toInt := by
    unfold ScatterDims.start
    rw [dif_pos (by decide)]
    exact congrArg (fun q => (w q).toInt) (by blk_ext; rfl)
  have w0 : scatter_S2x128_S2_S8_0_0_01_0.window (ix1 k) 0 = 0 := by
    unfold ScatterDims.window
    rw [dif_neg (by decide)]
  have w1 : scatter_S2x128_S2_S8_0_0_01_0.window (ix1 k) 1 = k.val := by
    unfold ScatterDims.window
    rw [dif_pos (by decide)]
    rfl
  have e : (∀ a : Fin S2x128.rank, scatter_S2x128_S2_S8_0_0_01_0.start (ix1 k) w a + (scatter_S2x128_S2_S8_0_0_01_0.window (ix1 k) a : Int)
      = (((ix2 j n : S2x128.Idx) a).val : Int)) ↔ (r.val : Int) + ((0 : Nat) : Int) = (j.val : Int) ∧ (8 : Int) + (k.val : Int) = (n.val : Int) := by
    constructor
    · intro h
      have a0 := h 0
      have a1 := h 1
      rw [s0, h0, w0] at a0
      rw [s1, h1, w1] at a1
      exact ⟨a0, a1⟩
    · rintro ⟨a0, a1⟩
      refine Fin.forall_fin_two.2 ⟨?_, ?_⟩
      · rw [s0, h0, w0]; exact a0
      · rw [s1, h1, w1]; exact a1
  rw [e]
  have := j.isLt
  have := r.isLt
  constructor
  · rintro ⟨a, b⟩; exact ⟨Fin.ext (by omega), by omega⟩
  · rintro ⟨rfl, b⟩; exact ⟨by omega, by omega⟩

theorem scatter_apply (x0 : S2x128.Idx → EReal) (w : IVec S2 32) (r : Fin 2) (h0 : (w (ix1 0)).toInt = r.val) (h1 : (w (ix1 1)).toInt = 8)
    (u : S8.Idx → EReal) (j : Fin 2) (n : Fin 128) :
    Host.scatter scatter_S2x128_S2_S8_0_0_01_0 (fun _ b => b) x0 w u (ix2 j n) = setRow x0 r u j n := by
  unfold setRow
  split_ifs with h
  · obtain ⟨hj, h8, h16⟩ := h
    refine Routing.scatter_set_hit _ _ _ _ _ _ (fun k hk => ?_) (ix1 ⟨n.val - 8, by omega⟩) ?_
    · obtain ⟨k, rfl⟩ : ∃ k' : Fin 8, k = ix1 k' := ⟨k 0, by blk_ext⟩
      rw [lands w r h0 h1] at hk
      exact congrArg (fun q => u (ix1 q)) (Fin.ext (by show k.val = n.val - 8; omega))
    · rw [lands w r h0 h1]
      exact ⟨hj, by show n.val = 8 + (n.val - 8); omega⟩
  · refine Routing.scatter_set_miss _ _ _ _ _ (fun k hk => h ?_)
    obtain ⟨k, rfl⟩ : ∃ k' : Fin 8, k = ix1 k' := ⟨k 0, by blk_ext⟩
    rw [lands w r h0 h1] at hk
    have := k.isLt
    exact ⟨hk.1, by omega, by omega⟩

section array

variable (m : (ℓ : Loc nD τ sig) → Buf (Elt Ideal) ℓ) (c : Dev nD)

/-- The layer's weights, read from the argument arrays: the gate columns lie behind the first 4096. -/
def argWts : Weights where
  wm k n := if n.val < 4096 then m ((c : Thread nD τ).loc main_arg3) (ix3 0 k ⟨n.val, by omega⟩)
    else m ((c : Thread nD τ).loc main_arg3) (ix3 0 k ⟨n.val + 16, by omega⟩)
  wba k l := if h : l.val < 16 then m ((c : Thread nD τ).loc main_arg3) (ix3 0 k ⟨4096 + l.val, by omega⟩) else (0 : EReal)
  taps j n := m ((c : Thread nD τ).loc main_arg4) (ix3 0 j n)
  gp j l := if h : 8 ≤ l.val ∧ l.val < 16 then
      (if j.val = 0 then -Ideal.exp (m ((c : Thread nD τ).loc main_arg5) (ix2 0 ⟨l.val - 8, by omega⟩))
        else m ((c : Thread nD τ).loc main_arg6) (ix2 0 ⟨l.val - 8, by omega⟩)) else (0 : EReal)

/-- Token `t` of sequence `b`, read from the argument arrays. -/
def argRow (b : Fin 8) (t : Fin 2048) : Row where
  x k := m ((c : Thread nD τ).loc main_arg0) (ix3 b t k)
  mod k := m ((c : Thread nD τ).loc main_arg1) (ix2 b k)

/-- Where each window's block stands at a grid point. -/
theorem idx : ∀ t : Fin cfg0.N,
    win0_0.index t = ![t.val / 4, t.val % 4, 0] ∧ win0_1.index t = ![t.val / 4, 0, 0] ∧ win0_2.index t = ![t.val / 4, 0, 0]
    ∧ win0_3.index t = ![0, 0, 0] ∧ win0_4.index t = ![0, 0, 0] ∧ win0_5.index t = ![0, 0] ∧ win0_6.index t = ![0, 0]
    ∧ win0_7.index t = ![t.val / 4, t.val % 4, 0] ∧ win0_8.index t = ![t.val / 4, t.val % 4, 0] ∧ win0_9.index t = ![t.val / 4, t.val % 4, 0]
    ∧ win0_10.index t = ![t.val / 4, t.val % 4, 0] ∧ win0_11.index t = ![t.val / 4, t.val % 4, 0] ∧ win0_12.index t = ![t.val / 4, t.val % 4, 0]
    ∧ win0_13.index t = ![t.val / 4, t.val % 4, 0] ∧ win0_14.index t = ![t.val / 4, 0, 0] :=
  (by decide +kernel : ∀ t : Fin grid0.N, _)

/-- The sequence of a grid point. -/
def seqOf (t : Fin cfg0.N) : Fin 8 := ⟨t.val / 4, by have := t.isLt; have : cfg0.N = 32 := rfl; omega⟩

/-- The token that row `q` of a grid point's block is. -/
def tokOf (t : Fin cfg0.N) (q : Fin 512) : Fin 2048 := ⟨t.val % 4 * 512 + q.val, by omega⟩

section operands

set_option maxHeartbeats 4000000 in
theorem v3_apply (k : Fin 1024) (n : Fin 7680) : V m c main_v3 (ix3 0 k n) = (argWts m c).wm k n := by
  unfold argWts
  simp only [V, List.flatten_cons, List.flatten_nil, List.append_nil, hostOps0, hostOps0_1, hostOps0_2, List.cons_append, List.nil_append]
  entry_read
  pointwise
  show (if h : n.val < 4096 then _ else _) = (if n.val < 4096 then _ else _)
  by_cases h : n.val < 4096
  · rw [dif_pos h, if_pos h]
  · rw [dif_neg h, if_neg h]
    exact congrArg (fun q => m (c, Proc.tc.devRef main_arg3) (ix3 0 k q)) (Fin.ext (by show 4112 + (n.val - 4096) = n.val + 16; omega))

set_option maxHeartbeats 4000000 in
theorem v6_apply (k : Fin 1024) (n : Fin 128) : V m c main_v6 (ix3 0 k n) = (argWts m c).wba k n := by
  unfold argWts
  simp only [V, List.flatten_cons, List.flatten_nil, List.append_nil, hostOps0, hostOps0_1, hostOps0_2, List.cons_append, List.nil_append]
  entry_read
  simp only [StableHlo.TRef.toBuf, StableHlo.TRef.ofBuf, cast_eq]
  pointwise
  have e : FloatOps.sitofp (F := Ideal) FTy.f32 0#32 = (0 : EReal) := by
    show (((0#32).toInt : ℝ) : EReal) = 0
    simp
  rw [e]

set_option maxHeartbeats 4000000 in
theorem v23_apply (j : Fin 4) (n : Fin 3072) : V m c main_v23 (ix2 j n) = (argWts m c).taps j n := by
  unfold argWts
  simp only [V, List.flatten_cons, List.flatten_nil, List.append_nil, hostOps0, hostOps0_1, hostOps0_2, List.cons_append, List.nil_append]
  entry_read
  pointwise

set_option maxHeartbeats 4000000 in
theorem v24_apply (b : Fin 8) (n : Fin 6144) : V m c main_v24 (ix3 b 0 n) = m ((c : Thread nD τ).loc main_arg1) (ix2 b n) := by
  simp only [V, List.flatten_cons, List.flatten_nil, List.append_nil, hostOps0, hostOps0_1, hostOps0_2, List.cons_append, List.nil_append]
  entry_read
  pointwise

set_option maxHeartbeats 4000000 in
theorem v21_apply (j : Fin 2) (n : Fin 128) : V m c main_v21 (ix2 j n) = (argWts m c).gp j n := by
  unfold argWts
  simp only [V, List.flatten_cons, List.flatten_nil, List.append_nil, hostOps0, hostOps0_1, hostOps0_2, List.cons_append, List.nil_append]
  entry_read
  refine (scatter_apply _ _ 1 ?_ ?_ _ j n).trans ?_
  · pointwise; rfl
  · pointwise; rfl
  · simp only [setRow]
    by_cases h : 8 ≤ n.val ∧ n.val < 16
    · rw [dif_pos h]
      by_cases hj : j.val = 0
      · obtain rfl : j = 0 := Fin.ext hj
        rw [dif_neg (by simp), if_pos hj]
        refine (scatter_apply _ _ 0 (by pointwise; rfl) (by pointwise; rfl) _ 0 n).trans ?_
        rw [setRow, dif_pos ⟨rfl, h⟩]
        pointwise
      · obtain rfl : j = 1 := Fin.ext (by have := j.isLt; show j.val = 1; omega)
        rw [dif_pos ⟨rfl, h⟩, if_neg hj]
        pointwise
    · rw [dif_neg (fun q => h q.2), dif_neg h]
      refine (scatter_apply _ _ 0 (by pointwise; rfl) (by pointwise; rfl) _ j n).trans ?_
      rw [setRow, dif_neg (fun q => h q.2)]
      pointwise

/-- The weights a grid point holds are the layer's, whatever the point. -/
theorem wts_eq (t : Fin cfg0.N) : wts (iblk m c 3 t) (iblk m c 4 t) (iblk m c 5 t) (iblk m c 6 t) = argWts m c := by
  have e3 (k : Fin 1024) (n : Fin 7680) : iblk m c 3 t (ix3 0 k n) = (argWts m c).wm k n := by
    have e : (win0_3.blk t).view.emb (ix3 0 k n) = ix3 0 k n := by blk_ext [idx t]
    show V m c main_v3 ((win0_3.blk t).view.emb (ix3 0 k n)) = _
    rw [e, v3_apply]
  have e4 (k : Fin 1024) (n : Fin 128) : iblk m c 4 t (ix3 0 k n) = (argWts m c).wba k n := by
    have e : (win0_4.blk t).view.emb (ix3 0 k n) = ix3 0 k n := by blk_ext [idx t]
    show V m c main_v6 ((win0_4.blk t).view.emb (ix3 0 k n)) = _
    rw [e, v6_apply]
  have e5 (k : Fin 4) (n : Fin 3072) : iblk m c 5 t (ix2 k n) = (argWts m c).taps k n := by
    have e : (win0_5.blk t).view.emb (ix2 k n) = ix2 k n := by blk_ext [idx t]
    show V m c main_v23 ((win0_5.blk t).view.emb (ix2 k n)) = _
    rw [e, v23_apply]
  have e6 (k : Fin 2) (n : Fin 128) : iblk m c 6 t (ix2 k n) = (argWts m c).gp k n := by
    have e : (win0_6.blk t).view.emb (ix2 k n) = ix2 k n := by blk_ext [idx t]
    show V m c main_v21 ((win0_6.blk t).view.emb (ix2 k n)) = _
    rw [e, v21_apply]
  exact congr (congr (congr (congrArg Weights.mk (funext fun a => funext (e3 a))) (funext fun a => funext (e4 a))) (funext fun a => funext (e5 a))) (funext fun a => funext (e6 a))

set_option maxHeartbeats 4000000 in
/-- The tokens a grid point holds. -/
theorem row_eq (t : Fin cfg0.N) (q : Fin 512) : row (iblk m c 0 t) (iblk m c 1 t) q = argRow m c (seqOf t) (tokOf t q) := by
  have e1 (n : Fin 6144) : iblk m c 1 t (ix3 0 0 n) = (argRow m c (seqOf t) (tokOf t q)).mod n := by
    have e : (win0_1.blk t).view.emb (ix3 0 0 n) = ix3 (seqOf t) 0 n := by unfold seqOf; blk_ext [idx t]
    show V m c main_v24 ((win0_1.blk t).view.emb (ix3 0 0 n)) = _
    rw [e, v24_apply]
    rfl
  have e0 (k : Fin 1024) : iblk m c 0 t (ix3 0 q k) = (argRow m c (seqOf t) (tokOf t q)).x k := by
    unfold argRow seqOf tokOf; blk_ext! [iblk, V, idx t]
  unfold row
  exact congr (congrArg Row.mk (funext e0)) (funext e1)

end operands

section arrays

/-- What window 8 writes, at a token of sequence `b`. -/
def res8 (b : Fin 8) (t : Fin 2048) (l : Fin 1024) : EReal := main (argWts m c) (argRow m c b t) ⟨3072 + l.val, by omega⟩

/-- What the body leaves in block 8 at a grid point. -/
theorem left8 (t : Fin cfg0.N) (q : Fin 512) (l : Fin 1024) :
    (outsAt0 m c t.val t.isLt).2.1 (ix3 0 q l) = res8 m c (seqOf t) (tokOf t q) l := by
  unfold res8
  by_cases h : t.val % 4 = 0
  · rw [outsAt0_A m c t h]
    dsimp only
    refine (outA8_apply (t := q) (l := l) ..).trans ?_
    rw [wts_eq, row_eq]
  · rw [outsAt0_B m c t h]
    dsimp only
    refine (outB8_apply (t := q) (l := l) ..).trans ?_
    rw [wts_eq, row_eq]

set_option maxHeartbeats 4000000 in
theorem array8 : (dats m 0 c).arrAt 8 cfg0.N = fun i : S8x2048x1024.Idx => res8 m c (i 0) (i 1) (i 2) := by
  refine (dats m 0 c).arrAt_eq_of_covers 8 _ (by decide +kernel) fun t hf y => ?_
  blk_simp
  rw [after0_8]
  have hy : y = ix3 (0 : Fin 1) (⟨(y 1).val, (y 1).isLt⟩ : Fin 512) (⟨(y 2).val, (y 2).isLt⟩ : Fin 1024) := by blk_ext
  have e0 : (win0_8.blk t).view.emb (ix3 (0 : Fin 1) (⟨(y 1).val, (y 1).isLt⟩ : Fin 512) (⟨(y 2).val, (y 2).isLt⟩ : Fin 1024))
      = ix3 (seqOf t) (tokOf t ⟨(y 1).val, (y 1).isLt⟩) (⟨(y 2).val, (y 2).isLt⟩ : Fin 1024) := by
    unfold seqOf tokOf
    blk_ext [idx t]
  rw [hy, e0]
  exact left8 m c t _ _

/-- What window 9 writes, at a token of sequence `b`. -/
def res9 (b : Fin 8) (t : Fin 2048) (l : Fin 128) : EReal := gb (argWts m c) (argRow m c b t) l

/-- What the body leaves in block 9 at a grid point. -/
theorem left9 (t : Fin cfg0.N) (q : Fin 512) (l : Fin 128) :
    (outsAt0 m c t.val t.isLt).2.2.1 (ix3 0 q l) = res9 m c (seqOf t) (tokOf t q) l := by
  unfold res9
  by_cases h : t.val % 4 = 0
  · rw [outsAt0_A m c t h]
    dsimp only
    refine (outA9_apply (t := q) (l := l) ..).trans ?_
    rw [wts_eq, row_eq]
  · rw [outsAt0_B m c t h]
    dsimp only
    refine (outB9_apply (t := q) (l := l) ..).trans ?_
    rw [wts_eq, row_eq]

set_option maxHeartbeats 4000000 in
theorem array9 : (dats m 0 c).arrAt 9 cfg0.N = fun i : S8x2048x128.Idx => res9 m c (i 0) (i 1) (i 2) := by
  refine (dats m 0 c).arrAt_eq_of_covers 9 _ (by decide +kernel) fun t hf y => ?_
  blk_simp
  rw [after0_9]
  have hy : y = ix3 (0 : Fin 1) (⟨(y 1).val, (y 1).isLt⟩ : Fin 512) (⟨(y 2).val, (y 2).isLt⟩ : Fin 128) := by blk_ext
  have e0 : (win0_9.blk t).view.emb (ix3 (0 : Fin 1) (⟨(y 1).val, (y 1).isLt⟩ : Fin 512) (⟨(y 2).val, (y 2).isLt⟩ : Fin 128))
      = ix3 (seqOf t) (tokOf t ⟨(y 1).val, (y 1).isLt⟩) (⟨(y 2).val, (y 2).isLt⟩ : Fin 128) := by
    unfold seqOf tokOf
    blk_ext [idx t]
  rw [hy, e0]
  exact left9 m c t _ _

/-- What window 10 writes, at a token of sequence `b`. -/
def res10 (b : Fin 8) (t : Fin 2048) (l : Fin 1024) : EReal := main (argWts m c) (argRow m c b t) ⟨4096 + l.val, by omega⟩ * Ideal.ofBits .f32 0x3E000000#32

/-- What the body leaves in block 10 at a grid point. -/
theorem left10 (t : Fin cfg0.N) (q : Fin 512) (l : Fin 1024) :
    (outsAt0 m c t.val t.isLt).2.2.2.1 (ix3 0 q l) = res10 m c (seqOf t) (tokOf t q) l := by
  unfold res10
  by_cases h : t.val % 4 = 0
  · rw [outsAt0_A m c t h]
    dsimp only
    refine (outA10_apply (t := q) (l := l) ..).trans ?_
    rw [wts_eq, row_eq]
  · rw [outsAt0_B m c t h]
    dsimp only
    refine (outB10_apply (t := q) (l := l) ..).trans ?_
    rw [wts_eq, row_eq]

set_option maxHeartbeats 4000000 in
theorem array10 : (dats m 0 c).arrAt 10 cfg0.N = fun i : S8x2048x1024.Idx => res10 m c (i 0) (i 1) (i 2) := by
  refine (dats m 0 c).arrAt_eq_of_covers 10 _ (by decide +kernel) fun t hf y => ?_
  blk_simp
  rw [after0_10]
  have hy : y = ix3 (0 : Fin 1) (⟨(y 1).val, (y 1).isLt⟩ : Fin 512) (⟨(y 2).val, (y 2).isLt⟩ : Fin 1024) := by blk_ext
  have e0 : (win0_10.blk t).view.emb (ix3 (0 : Fin 1) (⟨(y 1).val, (y 1).isLt⟩ : Fin 512) (⟨(y 2).val, (y 2).isLt⟩ : Fin 1024))
      = ix3 (seqOf t) (tokOf t ⟨(y 1).val, (y 1).isLt⟩) (⟨(y 2).val, (y 2).isLt⟩ : Fin 1024) := by
    unfold seqOf tokOf
    blk_ext [idx t]
  rw [hy, e0]
  exact left10 m c t _ _

/-- What window 11 writes, at a token of sequence `b`. -/
def res11 (b : Fin 8) (t : Fin 2048) (l : Fin 256) : EReal := main (argWts m c) (argRow m c b t) ⟨5120 + l.val, by omega⟩

/-- What the body leaves in block 11 at a grid point. -/
theorem left11 (t : Fin cfg0.N) (q : Fin 512) (l : Fin 256) :
    (outsAt0 m c t.val t.isLt).2.2.2.2.1 (ix3 0 q l) = res11 m c (seqOf t) (tokOf t q) l := by
  unfold res11
  by_cases h : t.val % 4 = 0
  · rw [outsAt0_A m c t h]
    dsimp only
    refine (outA11_apply (t := q) (l := l) ..).trans ?_
    rw [wts_eq, row_eq]
  · rw [outsAt0_B m c t h]
    dsimp only
    refine (outB11_apply (t := q) (l := l) ..).trans ?_
    rw [wts_eq, row_eq]

set_option maxHeartbeats 4000000 in
theorem array11 : (dats m 0 c).arrAt 11 cfg0.N = fun i : S8x2048x256.Idx => res11 m c (i 0) (i 1) (i 2) := by
  refine (dats m 0 c).arrAt_eq_of_covers 11 _ (by decide +kernel) fun t hf y => ?_
  blk_simp
  rw [after0_11]
  have hy : y = ix3 (0 : Fin 1) (⟨(y 1).val, (y 1).isLt⟩ : Fin 512) (⟨(y 2).val, (y 2).isLt⟩ : Fin 256) := by blk_ext
  have e0 : (win0_11.blk t).view.emb (ix3 (0 : Fin 1) (⟨(y 1).val, (y 1).isLt⟩ : Fin 512) (⟨(y 2).val, (y 2).isLt⟩ : Fin 256))
      = ix3 (seqOf t) (tokOf t ⟨(y 1).val, (y 1).isLt⟩) (⟨(y 2).val, (y 2).isLt⟩ : Fin 256) := by
    unfold seqOf tokOf
    blk_ext [idx t]
  rw [hy, e0]
  exact left11 m c t _ _

/-- What window 12 writes, at a token of sequence `b`. -/
def res12 (b : Fin 8) (t : Fin 2048) (l : Fin 256) : EReal := main (argWts m c) (argRow m c b t) ⟨5376 + l.val, by omega⟩

/-- What the body leaves in block 12 at a grid point. -/
theorem left12 (t : Fin cfg0.N) (q : Fin 512) (l : Fin 256) :
    (outsAt0 m c t.val t.isLt).2.2.2.2.2.1 (ix3 0 q l) = res12 m c (seqOf t) (tokOf t q) l := by
  unfold res12
  by_cases h : t.val % 4 = 0
  · rw [outsAt0_A m c t h]
    dsimp only
    refine (outA12_apply (t := q) (l := l) ..).trans ?_
    rw [wts_eq, row_eq]
  · rw [outsAt0_B m c t h]
    dsimp only
    refine (outB12_apply (t := q) (l := l) ..).trans ?_
    rw [wts_eq, row_eq]

set_option maxHeartbeats 4000000 in
theorem array12 : (dats m 0 c).arrAt 12 cfg0.N = fun i : S8x2048x256.Idx => res12 m c (i 0) (i 1) (i 2) := by
  refine (dats m 0 c).arrAt_eq_of_covers 12 _ (by decide +kernel) fun t hf y => ?_
  blk_simp
  rw [after0_12]
  have hy : y = ix3 (0 : Fin 1) (⟨(y 1).val, (y 1).isLt⟩ : Fin 512) (⟨(y 2).val, (y 2).isLt⟩ : Fin 256) := by blk_ext
  have e0 : (win0_12.blk t).view.emb (ix3 (0 : Fin 1) (⟨(y 1).val, (y 1).isLt⟩ : Fin 512) (⟨(y 2).val, (y 2).isLt⟩ : Fin 256))
      = ix3 (seqOf t) (tokOf t ⟨(y 1).val, (y 1).isLt⟩) (⟨(y 2).val, (y 2).isLt⟩ : Fin 256) := by
    unfold seqOf tokOf
    blk_ext [idx t]
  rw [hy, e0]
  exact left12 m c t _ _

/-- What window 13 writes, at a token of sequence `b`. -/
def res13 (b : Fin 8) (t : Fin 2048) (l : Fin 2048) : EReal := sig (main (argWts m c) (argRow m c b t) ⟨5632 + l.val, by omega⟩)

/-- What the body leaves in block 13 at a grid point. -/
theorem left13 (t : Fin cfg0.N) (q : Fin 512) (l : Fin 2048) :
    (outsAt0 m c t.val t.isLt).2.2.2.2.2.2.1 (ix3 0 q l) = res13 m c (seqOf t) (tokOf t q) l := by
  unfold res13
  by_cases h : t.val % 4 = 0
  · rw [outsAt0_A m c t h]
    dsimp only
    refine (outA13_apply (t := q) (l := l) ..).trans ?_
    rw [wts_eq, row_eq]
  · rw [outsAt0_B m c t h]
    dsimp only
    refine (outB13_apply (t := q) (l := l) ..).trans ?_
    rw [wts_eq, row_eq]

set_option maxHeartbeats 4000000 in
theorem array13 : (dats m 0 c).arrAt 13 cfg0.N = fun i : S8x2048x2048.Idx => res13 m c (i 0) (i 1) (i 2) := by
  refine (dats m 0 c).arrAt_eq_of_covers 13 _ (by decide +kernel) fun t hf y => ?_
  blk_simp
  rw [after0_13]
  have hy : y = ix3 (0 : Fin 1) (⟨(y 1).val, (y 1).isLt⟩ : Fin 512) (⟨(y 2).val, (y 2).isLt⟩ : Fin 2048) := by blk_ext
  have e0 : (win0_13.blk t).view.emb (ix3 (0 : Fin 1) (⟨(y 1).val, (y 1).isLt⟩ : Fin 512) (⟨(y 2).val, (y 2).isLt⟩ : Fin 2048))
      = ix3 (seqOf t) (tokOf t ⟨(y 1).val, (y 1).isLt⟩) (⟨(y 2).val, (y 2).isLt⟩ : Fin 2048) := by
    unfold seqOf tokOf
    blk_ext [idx t]
  rw [hy, e0]
  exact left13 m c t _ _

/-- What window 14 writes, at sequence `b`: the last three tokens' columns. -/
def res14 (b : Fin 8) (j : Fin 3) (l : Fin 3072) : EReal := main (argWts m c) (argRow m c b ⟨2045 + j.val, by omega⟩) ⟨l.val, by omega⟩

/-- What the body leaves in block 14 at the last grid point of a sequence. -/
theorem left14 (t : Fin cfg0.N) (h : t.val % 4 = 3) (j : Fin 3) (l : Fin 3072) :
    (outsAt0 m c t.val t.isLt).2.2.2.2.2.2.2.1 (ix3 0 j l) = res14 m c (seqOf t) j l := by
  unfold res14
  rw [outsAt0_B m c t (by omega)]
  dsimp only
  refine (outB14_apply (j := j) (l := l) ..).trans ?_
  rw [wts_eq, row_eq]
  exact congrArg (fun q => main (argWts m c) (argRow m c (seqOf t) q) ⟨l.val, by omega⟩) (Fin.ext (by show t.val % 4 * 512 + (509 + j.val) = 2045 + j.val; omega))

set_option maxHeartbeats 4000000 in
theorem array14 : (dats m 0 c).arrAt 14 cfg0.N = fun i : S8x3x3072.Idx => res14 m c (i 0) (i 1) (i 2) := by
  refine (dats m 0 c).arrAt_eq_of_covers 14 _ (by decide +kernel) fun t hf y => ?_
  have h3 : t.val % 4 = 3 := (flush0_14 t).mp hf
  blk_simp
  rw [after0_14]
  have hy : y = ix3 (0 : Fin 1) (⟨(y 1).val, (y 1).isLt⟩ : Fin 3) (⟨(y 2).val, (y 2).isLt⟩ : Fin 3072) := by blk_ext
  have e0 : (win0_14.blk t).view.emb (ix3 (0 : Fin 1) (⟨(y 1).val, (y 1).isLt⟩ : Fin 3) (⟨(y 2).val, (y 2).isLt⟩ : Fin 3072))
      = ix3 (seqOf t) (⟨(y 1).val, (y 1).isLt⟩ : Fin 3) (⟨(y 2).val, (y 2).isLt⟩ : Fin 3072) := by
    unfold seqOf
    blk_ext [idx t]
  rw [hy, e0]
  exact left14 m c t h3 _ _

end arrays

end array

end Cert.FrontPromptKernel

end
-- ==== Proof.FrontPromptRef.lean ====
/- What the front reference's result arrays hold on the prompt batch. -/
module

public import proofs.«01_k».proof.Proof.Gen.FrontPromptRefIdeal.Run
public import proofs.«01_k».proof.Proof.FrontPromptSpec

@[expose] public section

set_option maxRecDepth 16384

noncomputable section

namespace Cert.FrontPromptRef

open Cert.FrontPromptRefIdeal Cert.FrontPromptRefIdeal.Gen Cert.FrontPromptRefIdeal.Value Idealize.ShloMosaic Idealize.ShloMosaic.TcCoe StableHlo Cert.FrontRow
open Cert.FrontSpec hiding hid main ba gb

variable (m : (ℓ : Loc nD τ sig) → Buf (Elt Ideal) ℓ) (c : Dev nD)

/-- The layer's weights, read from the argument arrays: the gate columns lie behind the first 4096. -/
def argWts : Weights where
  wm k n := if n.val < 4096 then m ((c : Thread nD τ).loc main_arg3) (ix3 0 k ⟨n.val, by omega⟩)
    else m ((c : Thread nD τ).loc main_arg3) (ix3 0 k ⟨n.val + 16, by omega⟩)
  wba k l := if h : l.val < 16 then m ((c : Thread nD τ).loc main_arg3) (ix3 0 k ⟨4096 + l.val, by omega⟩) else (0 : EReal)
  taps j n := m ((c : Thread nD τ).loc main_arg4) (ix3 0 j n)
  gp j l := if h : 8 ≤ l.val ∧ l.val < 16 then
      (if j.val = 0 then -Ideal.exp (m ((c : Thread nD τ).loc main_arg5) (ix2 0 ⟨l.val - 8, by omega⟩))
        else m ((c : Thread nD τ).loc main_arg6) (ix2 0 ⟨l.val - 8, by omega⟩)) else (0 : EReal)

/-- Token `t` of sequence `b`, read from the argument arrays. -/
def argRow (b : Fin 8) (t : Fin 2048) : Row where
  x k := m ((c : Thread nD τ).loc main_arg0) (ix3 b t k)
  mod k := m ((c : Thread nD τ).loc main_arg1) (ix2 b k)

/-- The projection of the normalised tokens, all columns. -/
def proj : FVec Ideal S8x2048x7696 .f32 :=
  Host.dotGeneral dot_S8x2048x1024_S1024x7696_S8x2048x7696_2_0_01_1_n_n (φ₂ := .f32) none (addf (mulf (m ((c.tc : Thread nD τ).loc main_arg0)) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (m ((c.tc : Thread nD τ).loc main_arg1)) slices_S8x6144_S8x1024_0_1024))))) (broadcastInDim S8x2048x1024 ![0, 1, 2] bcast_S8x1x1024_S8x2048x1024_0_1_2 (broadcastInDim S8x1x1024 ![0, 2] bcast_S8x1024_S8x1x1024_0_2 (extractStridedSlice S8x1024 ![0, 0] (m ((c.tc : Thread nD τ).loc main_arg1)) slices_S8x6144_S8x1024_0_0)))) (shapeCast _ (extractStridedSlice S1x1024x7696 ![0, 0, 0] (m ((c.tc : Thread nD τ).loc main_arg3)) slices_S2x1024x7696_S1x1024x7696_0_0_0) shapeCasts_S1x1024x7696_S1024x7696)

set_option maxHeartbeats 4000000 in
theorem proj_apply (b : Fin 8) (t : Fin 2048) (n : Fin 7696) :
    proj m c (ix3 b t n) = (∑ k, hid (argRow m c b t) k * m ((c : Thread nD τ).loc main_arg3) (ix3 0 k n) : EReal) := by
  pointwise [proj]
  rfl

/-- The gate array of the reference, over the projection. -/
def gates : FVec Ideal S8x2048x128 .f32 :=
  (concatenate S8x2048x128 2 [⟨S8x2048x8, ((Host.divf (broadcastInDim S8x2048x8 ![] bcast_S_S8x2048x8 (constant S_ .f32 0x3F800000#32)) (addf (broadcastInDim S8x2048x8 ![] bcast_S_S8x2048x8 (constant S_ .f32 0x3F800000#32)) (Host.exp (Host.negf (extractStridedSlice S8x2048x8 ![0, 0, 4096] ((proj m c)) slices_S8x2048x7696_S8x2048x8_0_0_4096))))) : (⟨S8x2048x8, .f32⟩ : BufTy).Contents (Elt Ideal))⟩, ⟨S8x2048x8, ((mulf (broadcastInDim S8x2048x8 ![0, 1, 2] bcast_S1x1x8_S8x2048x8_0_1_2 (broadcastInDim S1x1x8 ![2] bcast_S8_S1x1x8_2 (Host.negf (Host.exp (shapeCast _ (extractStridedSlice S1x8 ![0, 0] (m ((c.tc : Thread nD τ).loc main_arg5)) slices_S2x8_S1x8_0_0) shapeCasts_S1x8_S8))))) (select (cmpf .une (subf (addf (extractStridedSlice S8x2048x8 ![0, 0, 4104] ((proj m c)) slices_S8x2048x7696_S8x2048x8_0_0_4104) (broadcastInDim S8x2048x8 ![0, 1, 2] bcast_S1x1x8_S8x2048x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S8x2048x8 ![] bcast_S_S8x2048x8 (constant S_ .f32 0x00000000#32))) (subf (addf (extractStridedSlice S8x2048x8 ![0, 0, 4104] ((proj m c)) slices_S8x2048x7696_S8x2048x8_0_0_4104) (broadcastInDim S8x2048x8 ![0, 1, 2] bcast_S1x1x8_S8x2048x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S8x2048x8 ![] bcast_S_S8x2048x8 (constant S_ .f32 0x00000000#32)))) (addf (addf (extractStridedSlice S8x2048x8 ![0, 0, 4104] ((proj m c)) slices_S8x2048x7696_S8x2048x8_0_0_4104) (broadcastInDim S8x2048x8 ![0, 1, 2] bcast_S1x1x8_S8x2048x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S8x2048x8 ![] bcast_S_S8x2048x8 (constant S_ .f32 0x00000000#32))) (addf (maximumf (addf (extractStridedSlice S8x2048x8 ![0, 0, 4104] ((proj m c)) slices_S8x2048x7696_S8x2048x8_0_0_4104) (broadcastInDim S8x2048x8 ![0, 1, 2] bcast_S1x1x8_S8x2048x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S8x2048x8 ![] bcast_S_S8x2048x8 (constant S_ .f32 0x00000000#32))) (Host.log1p (Host.exp (Host.negf (Host.absf (subf (addf (extractStridedSlice S8x2048x8 ![0, 0, 4104] ((proj m c)) slices_S8x2048x7696_S8x2048x8_0_0_4104) (broadcastInDim S8x2048x8 ![0, 1, 2] bcast_S1x1x8_S8x2048x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S8x2048x8 ![] bcast_S_S8x2048x8 (constant S_ .f32 0x00000000#32)))))))))) : (⟨S8x2048x8, .f32⟩ : BufTy).Contents (Elt Ideal))⟩, ⟨S8x2048x112, ((broadcastInDim S8x2048x112 ![] bcast_S_S8x2048x112 (constant (F := Ideal) S_ .f32 0x00000000#32)) : (⟨S8x2048x112, .f32⟩ : BufTy).Contents (Elt Ideal))⟩] concatenates_S8x2048x8_S8x2048x8_S8x2048x112_S8x2048x128_d2 : (⟨S8x2048x128, .f32⟩ : BufTy).Contents (Elt Ideal))

set_option maxHeartbeats 4000000 in
theorem gates_eq : res_main_v75 m c = gates m c := rfl

/-- A column of the projection before the gates. -/
theorem main_lo (b : Fin 8) (t : Fin 2048) (n : Fin 7680) (h : n.val < 4096) :
    main (argWts m c) (argRow m c b t) n = proj m c (ix3 b t ⟨n.val, by omega⟩) := by
  rw [proj_apply]
  unfold FrontRow.main argWts
  refine Finset.sum_congr rfl fun k _ => ?_
  show _ * (if n.val < 4096 then _ else _) = _
  rw [if_pos h]

/-- A column of the projection behind the gates. -/
theorem main_hi (b : Fin 8) (t : Fin 2048) (n : Fin 7680) (h : ¬ n.val < 4096) :
    main (argWts m c) (argRow m c b t) n = proj m c (ix3 b t ⟨n.val + 16, by omega⟩) := by
  rw [proj_apply]
  unfold FrontRow.main argWts
  refine Finset.sum_congr rfl fun k _ => ?_
  show _ * (if n.val < 4096 then _ else _) = _
  rw [if_neg h]

/-- A gate column of the projection. -/
theorem ba_lo (b : Fin 8) (t : Fin 2048) (n : Fin 128) (h : n.val < 16) :
    ba (argWts m c) (argRow m c b t) n = proj m c (ix3 b t ⟨4096 + n.val, by omega⟩) := by
  rw [proj_apply]
  unfold ba argWts
  refine Finset.sum_congr rfl fun k _ => ?_
  show _ * (if h : n.val < 16 then _ else _) = _
  rw [dif_pos h]

/-- A decay lane before its activation. -/
def pre (b : Fin 8) (t : Fin 2048) (n : ℕ) (h : n - 8 < 8) : EReal :=
  proj m c (ix3 b t ⟨4104 + (n - 8), by omega⟩) + m ((c : Thread nD τ).loc main_arg6) (ix2 0 ⟨n - 8, h⟩)

set_option maxHeartbeats 1000000 in
/-- The gate array read at an index. -/
theorem gates_at (b : Fin 8) (t : Fin 2048) (n : Fin 128) :
    gates m c (ix3 b t n) = if h : n.val < 8 then Ideal.div 1 (1 + Ideal.exp (-proj m c (ix3 b t ⟨4096 + n.val, by omega⟩)))
      else if h : n.val - 8 < 8 then
        -Ideal.exp (m ((c : Thread nD τ).loc main_arg5) (ix2 0 ⟨n.val - 8, h⟩)) *
          (if pre m c b t n.val h ≠ pre m c b t n.val h then pre m c b t n.val h
          else max (pre m c b t n.val h) 0 + Ideal.log1p (Ideal.exp (-FloatOps.absf (F := Ideal) (φ := .f32) (pre m c b t n.val h))))
      else (0 : EReal) := by
  pointwise [gates]
  rfl

set_option maxHeartbeats 1000000 in
/-- The gates, 8 lanes of each, then zeros. -/
theorem gates_apply (b : Fin 8) (t : Fin 2048) (n : Fin 128) :
    gates m c (ix3 b t n) = gb (argWts m c) (argRow m c b t) n := by
  rw [gates_at]
  unfold gb
  by_cases h8 : n.val < 8
  · rw [dif_pos h8, if_pos h8, ba_lo m c b t n (by omega), FrontSpec.sig, zero_sub]
  · rw [dif_neg h8, if_neg h8]
    by_cases h16 : n.val < 16
    · rw [dif_pos (by omega), ba_lo m c b t n h16, if_neg (fun q => q rfl)]
      have en : (⟨4104 + (n.val - 8), by omega⟩ : Fin 7696) = ⟨4096 + n.val, by omega⟩ := Fin.ext (by show 4104 + (n.val - 8) = 4096 + n.val; omega)
      have g0 : (argWts m c).gp 0 n = -Ideal.exp (m ((c : Thread nD τ).loc main_arg5) (ix2 0 ⟨n.val - 8, by omega⟩)) := by
        unfold argWts
        show (if h : 8 ≤ n.val ∧ n.val < 16 then _ else _) = _
        rw [dif_pos (by omega)]
        rfl
      have g1 : (argWts m c).gp 1 n = m ((c : Thread nD τ).loc main_arg6) (ix2 0 ⟨n.val - 8, by omega⟩) := by
        unfold argWts
        show (if h : 8 ≤ n.val ∧ n.val < 16 then _ else _) = _
        rw [dif_pos (by omega)]
        rfl
      simp only [pre, en]
      rw [g0, g1, softplus, zero_sub]
      rfl
    · rw [dif_neg (by omega)]
      have g0 : (argWts m c).gp 0 n = 0 := by
        unfold argWts
        show (if h : 8 ≤ n.val ∧ n.val < 16 then _ else _) = _
        rw [dif_neg (by omega)]
      rw [g0, zero_mul]

end Cert.FrontPromptRef

end
-- ==== Proof.FrontPromptClaims.lean ====
/- The front claims on the prompt batch: the kernel and the reference leave the same arrays, and the reference its arguments. -/
module

public import proofs.«01_k».proof.Defs
public import proofs.«01_k».proof.Proof.FrontPromptArray
public import proofs.«01_k».proof.Proof.FrontPromptRef
public import Idealize.ShloMosaic.Adequacy
public import Idealize.ShloMosaic.Init

@[expose] public section

set_option maxRecDepth 16384

noncomputable section

namespace Cert.Proof.FrontPrompt

open Idealize.ShloMosaic Idealize.ShloMosaic.TcCoe Idealize.SL.Sem

set_option maxHeartbeats 4000000 in
/-- The front kernel and the plain reference leave the same seven arrays. -/
theorem algebraic : Cert.algebraic_FrontPromptIdeal_FrontPromptRefIdeal := by
  intro m ρ m' ρ' _ hagree
  refine ⟨fun c i => FrontPromptKernel.res8 m c (i 0) (i 1) (i 2),
    fun c i => FrontPromptKernel.res9 m c (i 0) (i 1) (i 2), fun c i => FrontPromptKernel.res10 m c (i 0) (i 1) (i 2),
    fun c i => FrontPromptKernel.res11 m c (i 0) (i 1) (i 2), fun c i => FrontPromptKernel.res12 m c (i 0) (i 1) (i 2),
    fun c i => FrontPromptKernel.res13 m c (i 0) (i 1) (i 2), fun c i => FrontPromptKernel.res14 m c (i 0) (i 1) (i 2), ?_, ?_⟩
  · refine (θ_run Cert.FrontPromptIdeal.defs _ _).mono (fun _ h c => ?_) (Cert.FrontPromptIdeal.Value.run_blocks (F := Ideal) m ρ)
    obtain ⟨_, h8, h9, h10, h11, h12, h13, h14, hr⟩ := h c
    exact ⟨h8.trans (FrontPromptKernel.array8 m c), h9.trans (FrontPromptKernel.array9 m c),
      h10.trans (FrontPromptKernel.array10 m c), h11.trans (FrontPromptKernel.array11 m c), h12.trans (FrontPromptKernel.array12 m c),
      h13.trans (FrontPromptKernel.array13 m c), h14.trans (FrontPromptKernel.array14 m c), hr⟩
  refine (θ_run Cert.FrontPromptRefIdeal.defs _ _).mono (fun _ h c => ?_) (Cert.FrontPromptRefIdeal.Value.run (F := Ideal) m' ρ')
  obtain ⟨e0, e1, e2, e3, e4, e5, e6⟩ := hagree c
  have hw : FrontPromptRef.argWts m' c = FrontPromptKernel.argWts m c := by
    unfold FrontPromptRef.argWts FrontPromptKernel.argWts
    simp only [← e3, ← e4, ← e5, ← e6]
  have hs : ∀ b t, FrontPromptRef.argRow m' c b t = FrontPromptKernel.argRow m c b t := by
    intro b t
    unfold FrontPromptRef.argRow FrontPromptKernel.argRow
    simp only [← e0, ← e1]
  obtain ⟨h8, h9, h10, h11, h12, h13, h14, hr⟩ := h c
  refine ⟨h8.trans ?_, h9.trans ?_, h10.trans ?_, h11.trans ?_, h12.trans ?_, h13.trans ?_, h14.trans ?_, hr⟩
  · funext i
    obtain ⟨b, t, l, rfl⟩ : ∃ (b : Fin 8) (t : Fin 2048) (l : Fin 1024), i = ix3 b t l := ⟨i 0, i 1, i 2, by blk_ext⟩
    show _ = FrontRow.main (FrontPromptKernel.argWts m c) (FrontPromptKernel.argRow m c b t) ⟨3072 + l.val, by omega⟩
    rw [← hw, ← hs, FrontPromptRef.main_lo _ _ _ _ _ (by show 3072 + l.val < 4096; omega)]
    pointwise [FrontPromptRef.proj]
  · funext i
    obtain ⟨b, t, l, rfl⟩ : ∃ (b : Fin 8) (t : Fin 2048) (l : Fin 128), i = ix3 b t l := ⟨i 0, i 1, i 2, by blk_ext⟩
    rw [FrontPromptRef.gates_eq]
    refine (FrontPromptRef.gates_apply m' c b t l).trans ?_
    rw [hw, hs]
    rfl
  · funext i
    obtain ⟨b, t, l, rfl⟩ : ∃ (b : Fin 8) (t : Fin 2048) (l : Fin 1024), i = ix3 b t l := ⟨i 0, i 1, i 2, by blk_ext⟩
    show _ = FrontRow.main (FrontPromptKernel.argWts m c) (FrontPromptKernel.argRow m c b t) ⟨4096 + l.val, by omega⟩ * Ideal.ofBits .f32 0x3E000000#32
    rw [← hw, ← hs, FrontPromptRef.main_hi _ _ _ _ _ (by show ¬ 4096 + l.val < 4096; omega)]
    have e : (⟨4096 + l.val + 16, by omega⟩ : Fin 7696) = ⟨4112 + l.val, by omega⟩ := Fin.ext (by show 4096 + l.val + 16 = 4112 + l.val; omega)
    simp only [e]
    pointwise [FrontPromptRef.proj]
  · funext i
    obtain ⟨b, t, l, rfl⟩ : ∃ (b : Fin 8) (t : Fin 2048) (l : Fin 256), i = ix3 b t l := ⟨i 0, i 1, i 2, by blk_ext⟩
    show _ = FrontRow.main (FrontPromptKernel.argWts m c) (FrontPromptKernel.argRow m c b t) ⟨5120 + l.val, by omega⟩
    rw [← hw, ← hs, FrontPromptRef.main_hi _ _ _ _ _ (by show ¬ 5120 + l.val < 4096; omega)]
    have e : (⟨5120 + l.val + 16, by omega⟩ : Fin 7696) = ⟨5136 + l.val, by omega⟩ := Fin.ext (by show 5120 + l.val + 16 = 5136 + l.val; omega)
    simp only [e]
    pointwise [FrontPromptRef.proj]
  · funext i
    obtain ⟨b, t, l, rfl⟩ : ∃ (b : Fin 8) (t : Fin 2048) (l : Fin 256), i = ix3 b t l := ⟨i 0, i 1, i 2, by blk_ext⟩
    show _ = FrontRow.main (FrontPromptKernel.argWts m c) (FrontPromptKernel.argRow m c b t) ⟨5376 + l.val, by omega⟩
    rw [← hw, ← hs, FrontPromptRef.main_hi _ _ _ _ _ (by show ¬ 5376 + l.val < 4096; omega)]
    have e : (⟨5376 + l.val + 16, by omega⟩ : Fin 7696) = ⟨5392 + l.val, by omega⟩ := Fin.ext (by show 5376 + l.val + 16 = 5392 + l.val; omega)
    simp only [e]
    pointwise [FrontPromptRef.proj]
  · funext i
    obtain ⟨b, t, l, rfl⟩ : ∃ (b : Fin 8) (t : Fin 2048) (l : Fin 2048), i = ix3 b t l := ⟨i 0, i 1, i 2, by blk_ext⟩
    show _ = FrontSpec.sig (FrontRow.main (FrontPromptKernel.argWts m c) (FrontPromptKernel.argRow m c b t) ⟨5632 + l.val, by omega⟩)
    rw [← hw, ← hs, FrontPromptRef.main_hi _ _ _ _ _ (by show ¬ 5632 + l.val < 4096; omega), FrontSpec.sig, zero_sub]
    have e : (⟨5632 + l.val + 16, by omega⟩ : Fin 7696) = ⟨5648 + l.val, by omega⟩ := Fin.ext (by show 5632 + l.val + 16 = 5648 + l.val; omega)
    simp only [e]
    pointwise [FrontPromptRef.proj]
  · funext i
    obtain ⟨b, t, l, rfl⟩ : ∃ (b : Fin 8) (t : Fin 3) (l : Fin 3072), i = ix3 b t l := ⟨i 0, i 1, i 2, by blk_ext⟩
    show _ = FrontRow.main (FrontPromptKernel.argWts m c) (FrontPromptKernel.argRow m c b ⟨2045 + t.val, by omega⟩) ⟨l.val, by omega⟩
    rw [← hw, ← hs, FrontPromptRef.main_lo _ _ _ _ _ (by show l.val < 4096; omega)]
    have e : (⟨2048 + t.val - 3, by omega⟩ : Fin 2048) = ⟨2045 + t.val, by omega⟩ := Fin.ext (by show 2048 + t.val - 3 = 2045 + t.val; omega)
    rw [← e]
    pointwise [FrontPromptRef.proj]
    rw [dif_neg (by omega)]

/-- The reference's run leaves its arguments alone; it declares no semaphore. -/
theorem frame_reference : Cert.quiescent_FrontPromptRefIdeal := fun m ρ _ =>
  (θ_run Cert.FrontPromptRefIdeal.defs _ _).mono
    (fun r h => ⟨fun c => (h c).2.2.2.2.2.2.2, sem_eq_zero_of_no_sems (by decide) r.2⟩)
    (Cert.FrontPromptRefIdeal.Value.run (F := Ideal) m ρ)

end Cert.Proof.FrontPrompt

end
-- ==== Proof.TailSpec.lean ====
/- The tail of the decoder layer, one token at a time, over the extended reals: what the tail kernel and its
   reference are both shown to compute. Nothing here mentions a program. -/
module

public import Idealize.ShloMosaic.Lib.Pointwise

@[expose] public section

noncomputable section

namespace Cert.TailSpec

open Idealize.ShloMosaic

/-- The residual scale, as the float constant the programs hold. -/
abbrev alpha : EReal := Ideal.ofBits .f32 0x3FB504F3#32
/-- The variance offset of the layer norms, as the float constant the programs hold. -/
abbrev eps : EReal := Ideal.ofBits .f32 0x3727C5AC#32
/-- The model width 1024, as the float constant the programs divide by. -/
abbrev width : EReal := Ideal.ofBits .f32 0x44800000#32
/-- The one of the modulation. -/
abbrev one : EReal := 1

/-- The layer's weights: two branch projections, the output projection, the MLP's two matrices, the layer norms' rows. -/
structure Weights where
  (pa pb out : Fin 1024 → Fin 1024 → EReal)
  (up : Fin 1024 → Fin 4096 → EReal)
  (down : Fin 4096 → Fin 1024 → EReal)
  (g1 b1 g2 b2 : Fin 1024 → EReal)

/-- One token: its residual row, the two branches' rows, its gates, its modulation row. -/
structure Token where
  (x oa ob : Fin 1024 → EReal)
  (gates : Fin 2048 → EReal)
  (mod : Fin 6144 → EReal)

/-- A row times a matrix. -/
def rowMul {K N : ℕ} (f : Fin K → EReal) (w : Fin K → Fin N → EReal) (n : Fin N) : EReal := ∑ k : Fin K, f k * w k n

/-- The mean of a row of 1024. -/
def mean (f : Fin 1024 → EReal) : EReal := Ideal.div (∑ k, f k) width

/-- Layer norm of a row with scale `g` and offset `b`. -/
def lnorm (f g b : Fin 1024 → EReal) (l : Fin 1024) : EReal :=
  (f l - mean f) * Ideal.rsqrt (mean (fun k => (f k - mean f) * (f k - mean f)) + eps) * g l + b l

variable (W : Weights) (T : Token)

/-- The gated merge of the two branches. -/
def mixed (l : Fin 1024) : EReal :=
  T.gates ⟨l, by omega⟩ * rowMul T.oa W.pa l + T.gates ⟨1024 + l, by omega⟩ * rowMul T.ob W.pb l

/-- The projected merge. -/
def attn (l : Fin 1024) : EReal := rowMul (mixed W T) W.out l

/-- The first residual sum. -/
def res1 (l : Fin 1024) : EReal := alpha * T.x l + T.mod ⟨2048 + l, by omega⟩ * attn W T l

/-- The row after the token mixer. -/
def x1 (l : Fin 1024) : EReal := lnorm (res1 W T) W.g1 W.b1 l

/-- The modulated row the MLP reads. -/
def h2 (l : Fin 1024) : EReal := x1 W T l * (one + T.mod ⟨4096 + l, by omega⟩) + T.mod ⟨3072 + l, by omega⟩

/-- The MLP's hidden row: the squared positive part. -/
def hidden (k : Fin 4096) : EReal := max (rowMul (h2 W T) W.up k) 0 * max (rowMul (h2 W T) W.up k) 0

/-- The MLP's result. -/
def ff (l : Fin 1024) : EReal := rowMul (hidden W T) W.down l

/-- The second residual sum. -/
def res2 (l : Fin 1024) : EReal := alpha * x1 W T l + T.mod ⟨5120 + l, by omega⟩ * ff W T l

/-- The token's result. -/
def result (l : Fin 1024) : EReal := lnorm (res2 W T) W.g2 W.b2 l

/-- The MLP's result as four sums over 1024 hidden columns each, added one after another. -/
theorem ff_eq_chunks (l : Fin 1024) : ff W T l =
    (((∑ k : Fin 1024, hidden W T ⟨k, by omega⟩ * W.down ⟨k, by omega⟩ l)
      + ∑ k : Fin 1024, hidden W T ⟨1024 + k, by omega⟩ * W.down ⟨1024 + k, by omega⟩ l)
      + ∑ k : Fin 1024, hidden W T ⟨2048 + k, by omega⟩ * W.down ⟨2048 + k, by omega⟩ l)
      + ∑ k : Fin 1024, hidden W T ⟨3072 + k, by omega⟩ * W.down ⟨3072 + k, by omega⟩ l := by
  unfold ff rowMul
  rw [Fin.sum_univ_tiles 4 1024 rfl, Fin.sum_univ_four]
  have e0 : ((0 : Fin 4) : ℕ) * 1024 = 0 := rfl
  have e1 : ((1 : Fin 4) : ℕ) * 1024 = 1024 := rfl
  have e2 : ((2 : Fin 4) : ℕ) * 1024 = 2048 := rfl
  have e3 : ((3 : Fin 4) : ℕ) * 1024 = 3072 := rfl
  simp only [e0, e1, e2, e3, Nat.zero_add]

end Cert.TailSpec

end
-- ==== Proof.TailKernel.lean ====
/- The tail kernel's body, row by row: every value it computes over a block of tokens, read at one row, is the value that
   the one-token mathematics of TailSpec gives for that row's token. The body works on the block in two halves of 256 rows;
   lemmas that speak of row `256 + r` are about the lower half, the others about the upper one. -/
module

public import proofs.«01_k».proof.Proof.Gen.KernelIdeal.Frame
public import proofs.«01_k».proof.Proof.TailSpec

@[expose] public section

set_option maxRecDepth 16384

noncomputable section

namespace Cert.TailKernel

open Cert.KernelIdeal Cert.KernelIdeal.Gen Idealize.ShloMosaic Cert.TailSpec

variable (x0 : Vec Ideal S1x512x1024 .f32) (x1 : Vec Ideal S1x512x1024 .bf16) (x2 : Vec Ideal S1x512x1024 .bf16) (x3 : Vec Ideal S1x512x2048 .bf16) (x4 : Vec Ideal S1x1x6144 .f32) (x5 : Vec Ideal S1x1024x1024 .bf16) (x6 : Vec Ideal S1x1024x1024 .bf16) (x7 : Vec Ideal S1x1024x1024 .bf16) (x8 : Vec Ideal S1x1024 .f32) (x9 : Vec Ideal S1x1024 .f32) (x10 : Vec Ideal S1x1024x4096 .bf16) (x11 : Vec Ideal S1x4096x1024 .bf16) (x12 : Vec Ideal S1x1024 .f32) (x13 : Vec Ideal S1x1024 .f32)

/-- The weights that the kernel holds in its blocks. -/
def wts : Weights where
  pa k n := x5 (ix3 0 k n)
  pb k n := x6 (ix3 0 k n)
  out k n := x7 (ix3 0 k n)
  up k n := x10 (ix3 0 k n)
  down k n := x11 (ix3 0 k n)
  g1 k := x8 (ix2 0 k)
  b1 k := x9 (ix2 0 k)
  g2 k := x12 (ix2 0 k)
  b2 k := x13 (ix2 0 k)

/-- The token at row `r` of the blocks. -/
def tok (r : Fin 512) : Token where
  x k := x0 (ix3 0 r k)
  oa k := x1 (ix3 0 r k)
  ob k := x2 (ix3 0 r k)
  gates k := x3 (ix3 0 r k)
  mod k := x4 (ix3 0 0 k)

/-- The projected merge of the lower half. -/
theorem pay34_apply (r : Fin 256) (l : Fin 1024) :
    k0_pay34 x0 x1 x2 x3 x4 x5 x6 x7 x8 x9 x10 x11 x12 x13 (ix2 r l) = attn (wts x5 x6 x7 x8 x9 x10 x11 x12 x13) (tok x0 x1 x2 x3 x4 ⟨256 + r, by omega⟩) l := by
  pointwise [k0_pay34, k0_pay7, k0_pay3, k0_pay5]
  simp only [attn, rowMul, mixed, wts, tok]

/-- Its first residual sum. -/
theorem pay36_apply (r : Fin 256) (l : Fin 1024) :
    k0_pay36 x0 x1 x2 x3 x4 x5 x6 x7 x8 x9 x10 x11 x12 x13 (ix3 0 r l) = res1 (wts x5 x6 x7 x8 x9 x10 x11 x12 x13) (tok x0 x1 x2 x3 x4 ⟨256 + r, by omega⟩) l := by
  pointwise [k0_pay36, k0_pay11]
  simp only [pay34_apply]
  rfl

/-- The sum of that row, of which the layer norm's mean is taken. -/
theorem pay39_apply (r : Fin 256) :
    k0_pay39 x0 x1 x2 x3 x4 x5 x6 x7 x8 x9 x10 x11 x12 x13 (ix3 0 r 0) = ∑ k, res1 (wts x5 x6 x7 x8 x9 x10 x11 x12 x13) (tok x0 x1 x2 x3 x4 ⟨256 + r, by omega⟩) k := by
  pointwise [k0_pay39, k0_pay14, k0_pay11]
  simp only [pay34_apply]
  rfl

/-- The row after the token mixer, lower half. -/
theorem pay41_apply (r : Fin 256) (l : Fin 1024) :
    k0_pay41 x0 x1 x2 x3 x4 x5 x6 x7 x8 x9 x10 x11 x12 x13 (ix3 0 r l) = TailSpec.x1 (wts x5 x6 x7 x8 x9 x10 x11 x12 x13) (tok x0 x1 x2 x3 x4 ⟨256 + r, by omega⟩) l := by
  pointwise [k0_pay41, k0_pay16, k0_pay37, k0_pay38, k0_pay12, k0_pay13, k0_pay40, k0_pay15]
  simp only [pay36_apply, pay39_apply]
  rfl

/-- The modulated row the MLP reads, lower half. -/
theorem pay43_apply (r : Fin 256) (l : Fin 1024) :
    k0_pay43 x0 x1 x2 x3 x4 x5 x6 x7 x8 x9 x10 x11 x12 x13 (ix2 r l) = h2 (wts x5 x6 x7 x8 x9 x10 x11 x12 x13) (tok x0 x1 x2 x3 x4 ⟨256 + r, by omega⟩) l := by
  pointwise [k0_pay43, k0_pay18, k0_pay16, k0_pay37, k0_pay38, k0_pay12, k0_pay13, k0_pay40, k0_pay15]
  simp only [pay36_apply, pay39_apply]
  rfl

/-- The MLP's result, lower half: four sums over 1024 hidden columns. -/
theorem pay44_apply (r : Fin 256) (l : Fin 1024) :
    k0_pay44 x0 x1 x2 x3 x4 x5 x6 x7 x8 x9 x10 x11 x12 x13 (ix2 r l) = ff (wts x5 x6 x7 x8 x9 x10 x11 x12 x13) (tok x0 x1 x2 x3 x4 ⟨256 + r, by omega⟩) l := by
  rw [ff_eq_chunks]
  pointwise [k0_pay44, k0_pay26, k0_pay23, k0_pay20, k0_pay22, k0_pay25]
  simp only [pay43_apply]
  rfl

/-- What the body stores in the lower half of its block. -/
theorem piece1_apply (r : Fin 256) (l : Fin 1024) :
    k0_pay1 (k0_pay30 (k0_pay41 x0 x1 x2 x3 x4 x5 x6 x7 x8 x9 x10 x11 x12 x13) (k0_pay44 x0 x1 x2 x3 x4 x5 x6 x7 x8 x9 x10 x11 x12 x13) (View.ld x4 r0_19)) (k0_pay31 (View.ld x12 r0_8)) (k0_pay32 (View.ld x13 r0_8)) (k0_pay33 (k0_pay41 x0 x1 x2 x3 x4 x5 x6 x7 x8 x9 x10 x11 x12 x13) (k0_pay44 x0 x1 x2 x3 x4 x5 x6 x7 x8 x9 x10 x11 x12 x13) (View.ld x4 r0_19)) (Scalar.ofBits .f32 0x44800000#32) (ix3 0 r l) = result (wts x5 x6 x7 x8 x9 x10 x11 x12 x13) (tok x0 x1 x2 x3 x4 ⟨256 + r, by omega⟩) l := by
  pointwise [k0_pay1, k0_pay30, k0_pay31, k0_pay32, k0_pay33]
  simp only [pay41_apply, pay44_apply]
  rfl

/-- The row after the token mixer, upper half. -/
theorem pay35_apply (r : Fin 256) (l : Fin 1024) :
    k0_pay35 x0 x1 x2 x3 x4 x5 x6 x7 x8 x9 x10 x11 x12 x13 (ix3 0 r l) = TailSpec.x1 (wts x5 x6 x7 x8 x9 x10 x11 x12 x13) (tok x0 x1 x2 x3 x4 ⟨r, by omega⟩) l := by
  pointwise [k0_pay35, k0_pay10, k0_pay8, k0_pay2, k0_pay4, k0_pay6, k0_pay9]
  rfl

/-- The modulated row the MLP reads, upper half. -/
theorem pay42_apply (r : Fin 256) (l : Fin 1024) :
    k0_pay42 x0 x1 x2 x3 x4 x5 x6 x7 x8 x9 x10 x11 x12 x13 (ix2 r l) = h2 (wts x5 x6 x7 x8 x9 x10 x11 x12 x13) (tok x0 x1 x2 x3 x4 ⟨r, by omega⟩) l := by
  pointwise [k0_pay42, k0_pay17]
  simp only [pay35_apply]
  rfl

/-- What the body stores in the upper half of its block. -/
theorem piece0_apply (r : Fin 256) (l : Fin 1024) :
    k0_pay29 (k0_pay27 (k0_pay35 x0 x1 x2 x3 x4 x5 x6 x7 x8 x9 x10 x11 x12 x13) (k0_pay42 x0 x1 x2 x3 x4 x5 x6 x7 x8 x9 x10 x11 x12 x13) (k0_pay24 (k0_pay42 x0 x1 x2 x3 x4 x5 x6 x7 x8 x9 x10 x11 x12 x13) (k0_pay19 (k0_pay42 x0 x1 x2 x3 x4 x5 x6 x7 x8 x9 x10 x11 x12 x13) (View.ld x10 r0_11) (View.ld x11 r0_12)) (k0_pay21 (k0_pay42 x0 x1 x2 x3 x4 x5 x6 x7 x8 x9 x10 x11 x12 x13) (View.ld x10 r0_13)) (View.ld x11 r0_14) (View.ld x10 r0_15) (View.ld x11 r0_16)) (View.ld x10 r0_17) (View.ld x11 r0_18) (View.ld x4 r0_19)) (k0_pay28 (View.ld x12 r0_8)) (View.ld x13 r0_8) (ix3 0 r l) = result (wts x5 x6 x7 x8 x9 x10 x11 x12 x13) (tok x0 x1 x2 x3 x4 ⟨r, by omega⟩) l := by
  have hf : ∀ l, _ = ff (wts x5 x6 x7 x8 x9 x10 x11 x12 x13) (tok x0 x1 x2 x3 x4 ⟨r, by omega⟩) l := fun l => (ff_eq_chunks _ _ l).symm
  pointwise [k0_pay29, k0_pay27, k0_pay24, k0_pay19, k0_pay21, k0_pay28]
  simp only [pay35_apply, pay42_apply]
  unfold result lnorm mean res2
  simp only [← hf]
  rfl

end Cert.TailKernel

end
-- ==== Proof.TailArray.lean ====
/- The tail kernel's result array: what the grid points write back, put together. -/
module

public import proofs.«01_k».proof.Proof.Gen.KernelIdeal.Value
public import proofs.«01_k».proof.Proof.TailKernel
public import Idealize.ShloMosaic.Lib.Pipeline.ValueKit

@[expose] public section

set_option maxRecDepth 16384

noncomputable section

namespace Cert.TailKernel

open Cert.KernelIdeal Cert.KernelIdeal.Gen Idealize.ShloMosaic Idealize.ShloMosaic.TcCoe Cert.TailSpec

/-- A block stored as its upper and its lower 256 rows, read at a row. -/
theorem halves_apply (p1 p0 : Vec Ideal S1x256x1024 .f32) (r : Fin 512) (l : Fin 1024) :
    View.canon (Val := Elt Ideal) (e := .f32) [⟨r0_2, p1⟩, ⟨r0_0, p0⟩] (ix3 0 r l)
      = if h : r.val < 256 then p0 (ix3 0 ⟨r.val, h⟩ l) else p1 (ix3 0 ⟨r.val - 256, by omega⟩ l) := by
  split
  next h =>
    have hn : ix3 (0 : Fin 1) r l ∉ (r0_2).set := by
      intro hm
      have h2 : 256 ≤ r.val := ((Rect.mem_set_unit.mp hm) 1).1
      omega
    have e : ix3 (0 : Fin 1) r l = (r0_0).emb (ix3 0 (⟨r.val, h⟩ : Fin 256) l) := by
      blk_ext
    refine (View.canon_cons_of_not_mem ⟨r0_2, p1⟩ _ hn).trans ?_
    rw [e]
    exact View.canon_cons_emb r0_0 p0 _ _
  next h =>
    have e : ix3 (0 : Fin 1) r l = (r0_2).emb (ix3 0 (⟨r.val - 256, by omega⟩ : Fin 256) l) := by
      blk_ext
    rw [e]
    exact View.canon_cons_emb r0_2 p1 _ _

section block

variable (x0 : Vec Ideal S1x512x1024 .f32) (x1 : Vec Ideal S1x512x1024 .bf16) (x2 : Vec Ideal S1x512x1024 .bf16) (x3 : Vec Ideal S1x512x2048 .bf16) (x4 : Vec Ideal S1x1x6144 .f32) (x5 : Vec Ideal S1x1024x1024 .bf16) (x6 : Vec Ideal S1x1024x1024 .bf16) (x7 : Vec Ideal S1x1024x1024 .bf16) (x8 : Vec Ideal S1x1024 .f32) (x9 : Vec Ideal S1x1024 .f32) (x10 : Vec Ideal S1x1024x4096 .bf16) (x11 : Vec Ideal S1x4096x1024 .bf16) (x12 : Vec Ideal S1x1024 .f32) (x13 : Vec Ideal S1x1024 .f32)

/-- What a grid point leaves in its block: row by row, the layer's tail. -/
theorem out_apply (r : Fin 512) (l : Fin 1024) :
    out0_14 x0 x1 x2 x3 x4 x5 x6 x7 x8 x9 x10 x11 x12 x13 (ix3 0 r l) = result (wts x5 x6 x7 x8 x9 x10 x11 x12 x13) (tok x0 x1 x2 x3 x4 r) l := by
  refine (halves_apply _ _ r l).trans ?_
  split
  next h => exact piece0_apply x0 x1 x2 x3 x4 x5 x6 x7 x8 x9 x10 x11 x12 x13 ⟨r.val, h⟩ l
  next h =>
    refine (piece1_apply x0 x1 x2 x3 x4 x5 x6 x7 x8 x9 x10 x11 x12 x13 ⟨r.val - 256, by omega⟩ l).trans ?_
    have e : (⟨256 + (r.val - 256), by omega⟩ : Fin 512) = r := Fin.ext (by simp only []; omega)
    exact congrArg (fun r => result (wts x5 x6 x7 x8 x9 x10 x11 x12 x13) (tok x0 x1 x2 x3 x4 r) l) e

end block

/-! ## The result array -/

section array

variable (m : (ℓ : Loc nD τ sig) → Buf (Elt Ideal) ℓ) (c : Dev nD)

/-- The layer's weights, read from the argument arrays. -/
def argWts : Weights where
  pa k n := m ((c : Thread nD τ).loc main_arg5) (ix3 0 k n)
  pb k n := m ((c : Thread nD τ).loc main_arg6) (ix3 0 k n)
  out k n := m ((c : Thread nD τ).loc main_arg7) (ix3 0 k n)
  up k n := m ((c : Thread nD τ).loc main_arg10) (ix3 0 k n)
  down k n := m ((c : Thread nD τ).loc main_arg11) (ix3 0 k n)
  g1 k := m ((c : Thread nD τ).loc main_arg8) (ix2 0 k)
  b1 k := m ((c : Thread nD τ).loc main_arg9) (ix2 0 k)
  g2 k := m ((c : Thread nD τ).loc main_arg12) (ix2 0 k)
  b2 k := m ((c : Thread nD τ).loc main_arg13) (ix2 0 k)

/-- Token `t` of sequence `b`, read from the argument arrays. -/
def argTok (b : Fin 8) (t : Fin 2048) : Token where
  x k := m ((c : Thread nD τ).loc main_arg0) (ix3 b t k)
  oa k := m ((c : Thread nD τ).loc main_arg1) (ix3 b t k)
  ob k := m ((c : Thread nD τ).loc main_arg2) (ix3 b t k)
  gates k := m ((c : Thread nD τ).loc main_arg3) (ix3 b t k)
  mod k := m ((c : Thread nD τ).loc main_arg4) (ix2 b k)

/-- Where each window's block stands at a grid point. -/
theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, 0, 0] ∧ win0_5.index t = ![0, 0, 0] ∧ win0_6.index t = ![0, 0, 0]
    ∧ win0_7.index t = ![0, 0, 0] ∧ win0_8.index t = ![0, 0] ∧ win0_9.index t = ![0, 0]
    ∧ win0_10.index t = ![0, 0, 0] ∧ win0_11.index t = ![0, 0, 0] ∧ win0_12.index t = ![0, 0]
    ∧ win0_13.index t = ![0, 0] ∧ win0_14.index t = ![t.val / 4, t.val % 4, 0] :=
  (by decide +kernel : ∀ t : Fin grid0.N, _)

/-- The sequence a grid point works on. -/
def seqOf (t : Fin cfg0.N) : Fin 8 := ⟨t.val / 4, by have := t.isLt; have : cfg0.N = 32 := rfl; omega⟩
/-- The token at row `r` of a grid point's block. -/
def tokOf (t : Fin cfg0.N) (r : Fin 512) : Fin 2048 := ⟨t.val % 4 * 512 + r.val, by omega⟩

set_option maxHeartbeats 4000000 in
/-- The weights a grid point holds are the layer's, whatever the point. -/
theorem wts_eq (t : Fin cfg0.N) :
    wts (iblk m c 5 t) (iblk m c 6 t) (iblk m c 7 t) (iblk m c 8 t) (iblk m c 9 t) (iblk m c 10 t) (iblk m c 11 t)
      (iblk m c 12 t) (iblk m c 13 t) = argWts m c := by
  unfold wts argWts
  congr 1
  · funext k n; blk_ext! [iblk, idx t]
  · funext k n; blk_ext! [iblk, idx t]
  · funext k n; blk_ext! [iblk, idx t]
  · funext k n; blk_ext! [iblk, idx t]
  · funext k n; blk_ext! [iblk, idx t]
  · funext k; blk_ext! [iblk, idx t]
  · funext k; blk_ext! [iblk, idx t]
  · funext k; blk_ext! [iblk, idx t]
  · funext k; blk_ext! [iblk, idx t]

set_option maxHeartbeats 4000000 in
/-- The tokens a grid point holds. -/
theorem tok_eq (t : Fin cfg0.N) (r : Fin 512) :
    tok (iblk m c 0 t) (iblk m c 1 t) (iblk m c 2 t) (iblk m c 3 t) (iblk m c 4 t) r
      = argTok m c (seqOf t) (tokOf t r) := by
  unfold tok argTok seqOf tokOf
  congr 1
  · funext k; blk_ext! [iblk, V, idx t]
  · funext k; blk_ext! [iblk, idx t]
  · funext k; blk_ext! [iblk, idx t]
  · funext k; blk_ext! [iblk, V, idx t]
  · funext k; blk_ext! [iblk, idx t]

/-- The kernel's result array, index by index. -/
theorem array : (dats m 0 c).arrAt 14 cfg0.N
    = fun i : S8x2048x1024.Idx => result (argWts m c) (argTok m c (i 0) (i 1)) (i 2) := by
  refine (dats m 0 c).arrAt_eq_of_covers 14 _ (by decide +kernel) fun t hf y => ?_
  blk_simp
  rw [after0_14]
  have hy : y = ix3 0 (⟨(y 1).val, (y 1).isLt⟩ : Fin 512) (⟨(y 2).val, (y 2).isLt⟩ : Fin 1024) := by blk_ext
  rw [hy, out_apply, wts_eq, tok_eq]
  have e0 : (win0_14.blk t).view.emb (ix3 0 (⟨(y 1).val, (y 1).isLt⟩ : Fin 512) (⟨(y 2).val, (y 2).isLt⟩ : Fin 1024))
      = ix3 (seqOf t) (tokOf t ⟨(y 1).val, (y 1).isLt⟩) (⟨(y 2).val, (y 2).isLt⟩ : Fin 1024) := by
    unfold seqOf tokOf
    blk_ext [idx t]
  rw [e0]
  rfl

end array

end Cert.TailKernel

end
-- ==== Proof.TailRef.lean ====
/- The tail's reference, token by token. -/
module

public import proofs.«01_k».proof.Proof.Gen.ReferenceIdeal.Run
public import proofs.«01_k».proof.Proof.TailSpec
public import Idealize.ShloMosaic.Lib.Pointwise
public import Idealize.ShloMosaic.Lib.Pipeline.ValueKit

@[expose] public section

set_option maxRecDepth 16384

noncomputable section

namespace Cert.TailRef

open Cert.ReferenceIdeal Cert.ReferenceIdeal.Value Idealize.ShloMosaic Idealize.ShloMosaic.StableHlo Cert.TailSpec

variable (L : Valuation τ sig (Elt Ideal))

/-- The layer's weights, read from the argument arrays. -/
def argWts : Weights where
  pa k n := L (Proc.devRef .tc main_arg5) (ix3 0 k n)
  pb k n := L (Proc.devRef .tc main_arg6) (ix3 0 k n)
  out k n := L (Proc.devRef .tc main_arg7) (ix3 0 k n)
  up k n := L (Proc.devRef .tc main_arg10) (ix3 0 k n)
  down k n := L (Proc.devRef .tc main_arg11) (ix3 0 k n)
  g1 k := L (Proc.devRef .tc main_arg8) (ix2 0 k)
  b1 k := L (Proc.devRef .tc main_arg9) (ix2 0 k)
  g2 k := L (Proc.devRef .tc main_arg12) (ix2 0 k)
  b2 k := L (Proc.devRef .tc main_arg13) (ix2 0 k)

/-- Token `t` of sequence `b`, read from the argument arrays. -/
def argTok (b : Fin 8) (t : Fin 2048) : Token where
  x k := L (Proc.devRef .tc main_arg0) (ix3 b t k)
  oa k := L (Proc.devRef .tc main_arg1) (ix3 b t k)
  ob k := L (Proc.devRef .tc main_arg2) (ix3 b t k)
  gates k := L (Proc.devRef .tc main_arg3) (ix3 b t k)
  mod k := L (Proc.devRef .tc main_arg4) (ix2 b k)

variable (b : Fin 8) (t : Fin 2048) (l : Fin 1024)

theorem res1_apply : (res_main_v26 L : Vec Ideal S8x2048x1024 .f32) (ix3 b t l) = res1 (argWts L) (argTok L b t) l := by
  pointwise [res_main_v26, res_main_v0, res_main_v1]
  rfl

theorem mean1_apply : (res_main_v34 L : Vec Ideal S8x2048x1 .f32) (ix3 b t 0) = mean (res1 (argWts L) (argTok L b t)) := by
  pointwise [res_main_v34]
  simp only [res1_apply]
  rfl

theorem dev1_apply : (res_main_v36 L : Vec Ideal S8x2048x1024 .f32) (ix3 b t l)
    = res1 (argWts L) (argTok L b t) l - mean (res1 (argWts L) (argTok L b t)) := by
  pointwise [res_main_v36]
  simp only [res1_apply, mean1_apply]

theorem x1_apply : (res_main_v54 L : Vec Ideal S8x2048x1024 .f32) (ix3 b t l) = TailSpec.x1 (argWts L) (argTok L b t) l := by
  pointwise [res_main_v54]
  simp only [res1_apply, mean1_apply, dev1_apply]
  rfl

theorem up_apply (k : Fin 4096) : (res_main_v64 L : Vec Ideal S8x2048x4096 .f32) (ix3 b t k)
    = max (rowMul (h2 (argWts L) (argTok L b t)) (argWts L).up k) 0 := by
  pointwise [res_main_v64, res_main_v1]
  simp only [x1_apply]
  rfl

theorem res2_apply : (res_main_v73 L : Vec Ideal S8x2048x1024 .f32) (ix3 b t l) = res2 (argWts L) (argTok L b t) l := by
  pointwise [res_main_v73, res_main_v1]
  simp only [x1_apply, up_apply]
  rfl

theorem mean2_apply : (res_main_v81 L : Vec Ideal S8x2048x1 .f32) (ix3 b t 0) = mean (res2 (argWts L) (argTok L b t)) := by
  pointwise [res_main_v81]
  simp only [res2_apply]
  rfl

theorem dev2_apply : (res_main_v83 L : Vec Ideal S8x2048x1024 .f32) (ix3 b t l)
    = res2 (argWts L) (argTok L b t) l - mean (res2 (argWts L) (argTok L b t)) := by
  pointwise [res_main_v83]
  simp only [res2_apply, mean2_apply]

end Cert.TailRef

end
-- ==== Proof.TailClaims.lean ====
/- The claims about the tail of the prompt pass: the kernel and the plain reference compute one function. -/
module

public import proofs.«01_k».proof.Defs
public import proofs.«01_k».proof.Proof.TailArray
public import proofs.«01_k».proof.Proof.TailRef
public import proofs.«01_k».proof.Proof.Gen.KernelIdeal
public import proofs.«01_k».proof.Proof.Gen.ReferenceIdeal
public import Idealize.ShloMosaic.Lib.Quiescent

@[expose] public section

set_option maxRecDepth 16384

noncomputable section

namespace Cert.Proof.Tail

open Idealize.ShloMosaic Idealize.ShloMosaic.TcCoe Idealize.SL.Sem

/-- The result array of the tail, as a function of the kernel's argument arrays. -/
abbrev out (m : (ℓ : Loc Cert.KernelIdeal.nD Cert.KernelIdeal.τ Cert.KernelIdeal.sig) → Buf (Elt Ideal) ℓ)
    (c : Dev Cert.KernelIdeal.nD) : Cert.KernelIdeal.S8x2048x1024.Idx → EReal :=
  fun i => TailSpec.result (TailKernel.argWts m c) (TailKernel.argTok m c (i 0) (i 1)) (i 2)

/-- The tail kernel and the plain reference leave one array. -/
theorem algebraic : Cert.algebraic_KernelIdeal_ReferenceIdeal := by
  intro m ρ m' ρ' _ hagree
  refine ⟨fun c => out m c, ?_, ?_⟩
  · exact (θ_run Cert.KernelIdeal.defs _ _).mono
      (fun _ h c => ⟨(h c).1.trans (TailKernel.array m c), (h c).2⟩)
      (Cert.KernelIdeal.Value.run_blocks (F := Ideal) m ρ)
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  have hw : TailRef.argWts (StableHlo.launchContents m' c) = TailKernel.argWts m c := by
    unfold TailRef.argWts TailKernel.argWts StableHlo.launchContents
    simp only [← h5, ← h6, ← h7, ← h8, ← h9, ← h10, ← h11, ← h12, ← h13]
  have ht : ∀ b t, TailRef.argTok (StableHlo.launchContents m' c) b t = TailKernel.argTok m c b t := by
    intro b t
    unfold TailRef.argTok TailKernel.argTok StableHlo.launchContents
    simp only [← h0, ← h1, ← h2, ← h3, ← h4]
  funext i
  obtain ⟨b, t, l, rfl⟩ : ∃ (b : Fin 8) (t : Fin 2048) (l : Fin 1024), i = ix3 b t l := ⟨i 0, i 1, i 2, by blk_ext⟩
  show _ = TailSpec.result (TailKernel.argWts m c) (TailKernel.argTok m c b t) l
  rw [← hw, ← ht]
  pointwise
  simp only [TailRef.res2_apply, TailRef.mean2_apply, TailRef.dev2_apply]
  rfl

/-- The reference's run leaves its arguments alone; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Tail

end
-- ==== Proof.TailSampleKernel.lean ====
/- The tail kernel's body for the sample batch, row by row: every value it computes over a block of 64 sequences of 8 tokens,
   read at one token, is the value that the one-token mathematics of TailSpec gives for that token. -/
module

public import proofs.«01_k».proof.Proof.Gen.TailSampleIdeal.Frame
public import proofs.«01_k».proof.Proof.TailSpec
public import Idealize.ShloMosaic.Lib.Pipeline.ValueKit

@[expose] public section

set_option maxRecDepth 16384

noncomputable section

namespace Cert.TailSampleKernel

open Cert.TailSampleIdeal Cert.TailSampleIdeal.Gen Idealize.ShloMosaic Cert.TailSpec

variable (x0 : Vec Ideal S64x8x1024 .f32) (x1 : Vec Ideal S64x8x1024 .bf16) (x2 : Vec Ideal S64x8x1024 .bf16) (x3 : Vec Ideal S64x8x2048 .f32) (x4 : Vec Ideal S64x1x6144 .f32) (x5 : Vec Ideal S1x1024x1024 .bf16) (x6 : Vec Ideal S1x1024x1024 .bf16) (x7 : Vec Ideal S1x1024x1024 .bf16) (x8 : Vec Ideal S1x1024 .f32) (x9 : Vec Ideal S1x1024 .f32) (x10 : Vec Ideal S1x1024x4096 .bf16) (x11 : Vec Ideal S1x4096x1024 .bf16) (x12 : Vec Ideal S1x1024 .f32) (x13 : Vec Ideal S1x1024 .f32)

/-- The weights that the kernel holds in its blocks. -/
def wts : Weights where
  pa k n := x5 (ix3 0 k n)
  pb k n := x6 (ix3 0 k n)
  out k n := x7 (ix3 0 k n)
  up k n := x10 (ix3 0 k n)
  down k n := x11 (ix3 0 k n)
  g1 k := x8 (ix2 0 k)
  b1 k := x9 (ix2 0 k)
  g2 k := x12 (ix2 0 k)
  b2 k := x13 (ix2 0 k)

/-- Token `t` of sequence `b` of the blocks. -/
def tok (b : Fin 64) (t : Fin 8) : Token where
  x k := x0 (ix3 b t k)
  oa k := x1 (ix3 b t k)
  ob k := x2 (ix3 b t k)
  gates k := x3 (ix3 b t k)
  mod k := x4 (ix3 b 0 k)

/-! ## Products in four blocks of rows -/

/-- The product of 512 rows with a matrix. -/
def rows (h : FVec Ideal S512x1024 .bf16) (w : FVec Ideal S1024x1024 .bf16) : FVec Ideal S512x1024 .f32 :=
  fun i => ∑ k : Fin 1024, h (ix2 (i 0) k) * w (ix2 k (i 1))

theorem rows_apply (h : FVec Ideal S512x1024 .bf16) (w : FVec Ideal S1024x1024 .bf16) (p : Fin 512) (l : Fin 1024) :
    rows h w (ix2 p l) = ∑ k : Fin 1024, h (ix2 p k) * w (ix2 k l) := rfl

/-- The four products of 128 rows each, one under another, are the product of all rows. -/
theorem rows_eq (h : FVec Ideal S512x1024 .bf16) (w : FVec Ideal S1024x1024 .bf16) :
    concatenate S512x1024 0 [⟨S128x1024, matmul dot_S128x1024_S1024x1024_S128x1024_1_0_0_1_n_n none (extractStridedSlice S128x1024 ![0, 0] h slices_S512x1024_o0_0_S128x1024) w (constant S128x1024 .f32 0x00000000#32)⟩, ⟨S128x1024, matmul dot_S128x1024_S1024x1024_S128x1024_1_0_0_1_n_n none (extractStridedSlice S128x1024 ![128, 0] h slices_S512x1024_o128_0_S128x1024) w (constant S128x1024 .f32 0x00000000#32)⟩, ⟨S128x1024, matmul dot_S128x1024_S1024x1024_S128x1024_1_0_0_1_n_n none (extractStridedSlice S128x1024 ![256, 0] h slices_S512x1024_o256_0_S128x1024) w (constant S128x1024 .f32 0x00000000#32)⟩, ⟨S128x1024, matmul dot_S128x1024_S1024x1024_S128x1024_1_0_0_1_n_n none (extractStridedSlice S128x1024 ![384, 0] h slices_S512x1024_o384_0_S128x1024) w (constant S128x1024 .f32 0x00000000#32)⟩] concatenates_S128x1024_S128x1024_S128x1024_S128x1024_S512x1024_d0 = rows h w := by
  funext i
  obtain ⟨p, l, rfl⟩ : ∃ (p : Fin 512) (l : Fin 1024), i = ix2 p l := ⟨i 0, i 1, by blk_ext⟩
  rw [rows_apply]
  have key : ∀ q : Fin 512, q = p → ∑ k : Fin 1024, h (ix2 q k) * w (ix2 k l) = ∑ k : Fin 1024, h (ix2 p k) * w (ix2 k l) := fun q e => by rw [e]
  pointwise
  split_ifs
  all_goals first
    | exact key _ (Fin.ext rfl)
    | (refine key _ (Fin.ext ?_); dsimp only; omega)

/-! ## The body -/

/-- The second branch's projection. -/
theorem pay21_apply (p : Fin 512) (l : Fin 1024) : k0_pay21 x0 x1 x2 x3 x4 x5 x6 x7 x8 x9 x10 x11 x12 x13 (ix2 p l) = rowMul (tok x0 x1 x2 x3 x4 ⟨p.val / 8, by omega⟩ ⟨p.val % 8, by omega⟩).ob (wts x5 x6 x7 x8 x9 x10 x11 x12 x13).pb l := by
  unfold k0_pay21 k0_pay2
  simp only [rows_eq]
  rw [rows_apply]
  pointwise
  rfl

/-- The first branch's projection by its gate. -/
theorem pay22_apply (p : Fin 512) (l : Fin 1024) : k0_pay22 x0 x1 x2 x3 x4 x5 x6 x7 x8 x9 x10 x11 x12 x13 (ix2 p l) = (tok x0 x1 x2 x3 x4 ⟨p.val / 8, by omega⟩ ⟨p.val % 8, by omega⟩).gates ⟨l, by omega⟩ * rowMul (tok x0 x1 x2 x3 x4 ⟨p.val / 8, by omega⟩ ⟨p.val % 8, by omega⟩).oa (wts x5 x6 x7 x8 x9 x10 x11 x12 x13).pa l := by
  unfold k0_pay22 k0_pay3
  simp only [rows_eq]
  pointwise
  simp only [rows_apply]
  pointwise
  rfl

/-- The first residual sum, less its mean. -/
theorem pay25_apply (b : Fin 64) (t : Fin 8) (l : Fin 1024) : k0_pay25 x0 x1 x2 x3 x4 x5 x6 x7 x8 x9 x10 x11 x12 x13 (ix3 b t l) = res1 (wts x5 x6 x7 x8 x9 x10 x11 x12 x13) (tok x0 x1 x2 x3 x4 b t) l - mean (res1 (wts x5 x6 x7 x8 x9 x10 x11 x12 x13) (tok x0 x1 x2 x3 x4 b t)) := by
  have hd : (b.val * 8 + t.val) / 8 = b.val := by omega
  have hm : (b.val * 8 + t.val) % 8 = t.val := by omega
  unfold k0_pay25 k0_pay6
  simp only [rows_eq]
  pointwise
  simp only [rows_apply]
  pointwise
  simp only [pay21_apply, pay22_apply, hd, hm, Fin.eta]
  rfl

/-- The mean of its squares times the width. -/
theorem pay26_apply (b : Fin 64) (t : Fin 8) : k0_pay26 x0 x1 x2 x3 x4 x5 x6 x7 x8 x9 x10 x11 x12 x13 (ix3 b t 0) = ∑ k, (res1 (wts x5 x6 x7 x8 x9 x10 x11 x12 x13) (tok x0 x1 x2 x3 x4 b t) k - mean (res1 (wts x5 x6 x7 x8 x9 x10 x11 x12 x13) (tok x0 x1 x2 x3 x4 b t))) * (res1 (wts x5 x6 x7 x8 x9 x10 x11 x12 x13) (tok x0 x1 x2 x3 x4 b t) k - mean (res1 (wts x5 x6 x7 x8 x9 x10 x11 x12 x13) (tok x0 x1 x2 x3 x4 b t))) := by
  have h : ∀ l, k0_pay6 (k0_pay21 x0 x1 x2 x3 x4 x5 x6 x7 x8 x9 x10 x11 x12 x13) (k0_pay22 x0 x1 x2 x3 x4 x5 x6 x7 x8 x9 x10 x11 x12 x13) (View.ld x3 r0_3) (View.ld x7 r0_1) (View.ld x0 r0_0) (View.ld x4 r0_4) (ix3 b t l) = _ := pay25_apply x0 x1 x2 x3 x4 x5 x6 x7 x8 x9 x10 x11 x12 x13 b t
  pointwise [k0_pay26, k0_pay7]
  simp only [h]

/-- The row after the token mixer. -/
theorem pay28_apply (b : Fin 64) (t : Fin 8) (l : Fin 1024) : k0_pay28 x0 x1 x2 x3 x4 x5 x6 x7 x8 x9 x10 x11 x12 x13 (ix3 b t l) = TailSpec.x1 (wts x5 x6 x7 x8 x9 x10 x11 x12 x13) (tok x0 x1 x2 x3 x4 b t) l := by
  pointwise [k0_pay28, k0_pay9, k0_pay23, k0_pay24, k0_pay4, k0_pay5, k0_pay27, k0_pay8]
  simp only [pay25_apply, pay26_apply]
  rfl

/-- The modulated row the MLP reads. -/
theorem pay29_apply (p : Fin 512) (l : Fin 1024) : k0_pay29 x0 x1 x2 x3 x4 x5 x6 x7 x8 x9 x10 x11 x12 x13 (ix2 p l) = h2 (wts x5 x6 x7 x8 x9 x10 x11 x12 x13) (tok x0 x1 x2 x3 x4 ⟨p.val / 8, by omega⟩ ⟨p.val % 8, by omega⟩) l := by
  have h : ∀ b t l, k0_pay9 (k0_pay23 x0 x1 x2 x3 x4 x5 x6 x7 x8 x9 x10 x11 x12 x13) (k0_pay24 x0 x1 x2 x3 x4 x5 x6 x7 x8 x9 x10 x11 x12 x13) (k0_pay25 x0 x1 x2 x3 x4 x5 x6 x7 x8 x9 x10 x11 x12 x13) (k0_pay26 x0 x1 x2 x3 x4 x5 x6 x7 x8 x9 x10 x11 x12 x13) (k0_pay27 x0 x1 x2 x3 x4 x5 x6 x7 x8 x9 x10 x11 x12 x13) (ix3 b t l) = _ := pay28_apply x0 x1 x2 x3 x4 x5 x6 x7 x8 x9 x10 x11 x12 x13
  pointwise [k0_pay29, k0_pay10]
  simp only [h]
  rfl

/-- Three of the MLP's four sums over 1024 hidden columns. -/
theorem pay30_apply (p : Fin 512) (l : Fin 1024) : k0_pay30 x0 x1 x2 x3 x4 x5 x6 x7 x8 x9 x10 x11 x12 x13 (ix2 p l) = ((∑ k : Fin 1024, hidden (wts x5 x6 x7 x8 x9 x10 x11 x12 x13) (tok x0 x1 x2 x3 x4 ⟨p.val / 8, by omega⟩ ⟨p.val % 8, by omega⟩) ⟨k, by omega⟩ * (wts x5 x6 x7 x8 x9 x10 x11 x12 x13).down ⟨k, by omega⟩ l)
      + ∑ k : Fin 1024, hidden (wts x5 x6 x7 x8 x9 x10 x11 x12 x13) (tok x0 x1 x2 x3 x4 ⟨p.val / 8, by omega⟩ ⟨p.val % 8, by omega⟩) ⟨1024 + k, by omega⟩ * (wts x5 x6 x7 x8 x9 x10 x11 x12 x13).down ⟨1024 + k, by omega⟩ l)
      + ∑ k : Fin 1024, hidden (wts x5 x6 x7 x8 x9 x10 x11 x12 x13) (tok x0 x1 x2 x3 x4 ⟨p.val / 8, by omega⟩ ⟨p.val % 8, by omega⟩) ⟨2048 + k, by omega⟩ * (wts x5 x6 x7 x8 x9 x10 x11 x12 x13).down ⟨2048 + k, by omega⟩ l := by
  have h : ∀ p l, k0_pay10 (k0_pay23 x0 x1 x2 x3 x4 x5 x6 x7 x8 x9 x10 x11 x12 x13) (k0_pay24 x0 x1 x2 x3 x4 x5 x6 x7 x8 x9 x10 x11 x12 x13) (k0_pay25 x0 x1 x2 x3 x4 x5 x6 x7 x8 x9 x10 x11 x12 x13) (k0_pay26 x0 x1 x2 x3 x4 x5 x6 x7 x8 x9 x10 x11 x12 x13) (k0_pay27 x0 x1 x2 x3 x4 x5 x6 x7 x8 x9 x10 x11 x12 x13) (View.ld x4 r0_6) (View.ld x4 r0_7) (ix2 p l) = _ := pay29_apply x0 x1 x2 x3 x4 x5 x6 x7 x8 x9 x10 x11 x12 x13
  unfold k0_pay30 k0_pay14 k0_pay13 k0_pay12
  simp only [rows_eq]
  pointwise [k0_pay11]
  simp only [rows_apply]
  pointwise
  simp only [rows_apply]
  pointwise
  simp only [h, pay29_apply]
  rfl

/-- The hidden columns of the fourth sum, before their positive part. -/
theorem pay31_apply (p : Fin 512) (l : Fin 1024) : k0_pay31 x0 x1 x2 x3 x4 x5 x6 x7 x8 x9 x10 x11 x12 x13 (ix2 p l) = rowMul (h2 (wts x5 x6 x7 x8 x9 x10 x11 x12 x13) (tok x0 x1 x2 x3 x4 ⟨p.val / 8, by omega⟩ ⟨p.val % 8, by omega⟩)) (wts x5 x6 x7 x8 x9 x10 x11 x12 x13).up ⟨3072 + l, by omega⟩ := by
  unfold k0_pay31 k0_pay15
  simp only [rows_eq]
  rw [rows_apply]
  pointwise
  simp only [pay29_apply]
  rfl

theorem pay19_apply (b : Fin 64) (t : Fin 8) (l : Fin 1024) : k0_pay19 (k0_pay28 x0 x1 x2 x3 x4 x5 x6 x7 x8 x9 x10 x11 x12 x13) (k0_pay30 x0 x1 x2 x3 x4 x5 x6 x7 x8 x9 x10 x11 x12 x13) (k0_pay31 x0 x1 x2 x3 x4 x5 x6 x7 x8 x9 x10 x11 x12 x13) (k0_pay32 x0 x1 x2 x3 x4 x5 x6 x7 x8 x9 x10 x11 x12 x13) (View.ld x11 r0_15) (View.ld x4 r0_16) (ix3 b t l) = res2 (wts x5 x6 x7 x8 x9 x10 x11 x12 x13) (tok x0 x1 x2 x3 x4 b t) l - mean (res2 (wts x5 x6 x7 x8 x9 x10 x11 x12 x13) (tok x0 x1 x2 x3 x4 b t)) := by
  have hd : (b.val * 8 + t.val) / 8 = b.val := by omega
  have hm : (b.val * 8 + t.val) % 8 = t.val := by omega
  have hf : ∀ l, _ = ff (wts x5 x6 x7 x8 x9 x10 x11 x12 x13) (tok x0 x1 x2 x3 x4 b t) l := fun l => (ff_eq_chunks _ _ l).symm
  unfold k0_pay19
  simp only [rows_eq]
  pointwise
  simp only [rows_apply]
  pointwise [k0_pay32, k0_pay16]
  simp only [pay28_apply, pay30_apply, pay31_apply, hd, hm, Fin.eta]
  unfold mean res2
  simp only [← hf]
  rfl

/-- What a grid point leaves in its block: token by token, the layer's tail. -/
theorem out_apply (b : Fin 64) (t : Fin 8) (l : Fin 1024) : out0_14 x0 x1 x2 x3 x4 x5 x6 x7 x8 x9 x10 x11 x12 x13 (ix3 b t l) = result (wts x5 x6 x7 x8 x9 x10 x11 x12 x13) (tok x0 x1 x2 x3 x4 b t) l := by
  have e : ix3 b t l = r0_0.emb (ix3 b t l) := by blk_ext
  unfold out0_14
  rw [e]
  refine (View.canon_cons_emb r0_0 _ _ _).trans ?_
  pointwise [k0_pay1, k0_pay17, k0_pay18, k0_pay20]
  simp only [pay19_apply]
  rfl

end Cert.TailSampleKernel

end
-- ==== Proof.TailSampleArray.lean ====
/- The tail kernel's result array for the sample batch: what the grid points write back, put together. -/
module

public import proofs.«01_k».proof.Proof.Gen.TailSampleIdeal.Value
public import proofs.«01_k».proof.Proof.TailSampleKernel
public import Idealize.ShloMosaic.Lib.Pipeline.ValueKit

@[expose] public section

set_option maxRecDepth 16384

noncomputable section

namespace Cert.TailSampleKernel

open Cert.TailSampleIdeal Cert.TailSampleIdeal.Gen Idealize.ShloMosaic Idealize.ShloMosaic.TcCoe Cert.TailSpec

section array

variable (m : (ℓ : Loc nD τ sig) → Buf (Elt Ideal) ℓ) (c : Dev nD)

/-- The layer's weights, read from the argument arrays. -/
def argWts : Weights where
  pa k n := m ((c : Thread nD τ).loc main_arg5) (ix3 0 k n)
  pb k n := m ((c : Thread nD τ).loc main_arg6) (ix3 0 k n)
  out k n := m ((c : Thread nD τ).loc main_arg7) (ix3 0 k n)
  up k n := m ((c : Thread nD τ).loc main_arg10) (ix3 0 k n)
  down k n := m ((c : Thread nD τ).loc main_arg11) (ix3 0 k n)
  g1 k := m ((c : Thread nD τ).loc main_arg8) (ix2 0 k)
  b1 k := m ((c : Thread nD τ).loc main_arg9) (ix2 0 k)
  g2 k := m ((c : Thread nD τ).loc main_arg12) (ix2 0 k)
  b2 k := m ((c : Thread nD τ).loc main_arg13) (ix2 0 k)

/-- Token `t` of sequence `b`, read from the argument arrays. -/
def argTok (b : Fin 128) (t : Fin 8) : Token where
  x k := m ((c : Thread nD τ).loc main_arg0) (ix3 b t k)
  oa k := m ((c : Thread nD τ).loc main_arg1) (ix3 b t k)
  ob k := m ((c : Thread nD τ).loc main_arg2) (ix3 b t k)
  gates k := m ((c : Thread nD τ).loc main_arg3) (ix3 b t k)
  mod k := m ((c : Thread nD τ).loc main_arg4) (ix2 b k)

/-- Where each window's block stands at a grid point. -/
theorem idx : ∀ t : Fin cfg0.N,
    win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0, 0]
    ∧ win0_6.index t = ![0, 0, 0] ∧ win0_7.index t = ![0, 0, 0] ∧ win0_8.index t = ![0, 0] ∧ win0_9.index t = ![0, 0]
    ∧ win0_10.index t = ![0, 0, 0] ∧ win0_11.index t = ![0, 0, 0] ∧ win0_12.index t = ![0, 0]
    ∧ win0_13.index t = ![0, 0] ∧ win0_14.index t = ![t.val, 0, 0] :=
  (by decide +kernel : ∀ t : Fin grid0.N, _)

/-- The sequence that row `b` of a grid point's block is. -/
def seqOf (t : Fin cfg0.N) (b : Fin 64) : Fin 128 := ⟨t.val * 64 + b.val, by have := t.isLt; have : cfg0.N = 2 := rfl; omega⟩

set_option maxHeartbeats 4000000 in
/-- The weights a grid point holds are the layer's, whatever the point. -/
theorem wts_eq (t : Fin cfg0.N) :
    wts (iblk m c 5 t) (iblk m c 6 t) (iblk m c 7 t) (iblk m c 8 t) (iblk m c 9 t) (iblk m c 10 t) (iblk m c 11 t)
      (iblk m c 12 t) (iblk m c 13 t) = argWts m c := by
  unfold wts argWts
  congr 1
  · funext k n; blk_ext! [iblk, idx t]
  · funext k n; blk_ext! [iblk, idx t]
  · funext k n; blk_ext! [iblk, idx t]
  · funext k n; blk_ext! [iblk, idx t]
  · funext k n; blk_ext! [iblk, idx t]
  · funext k; blk_ext! [iblk, idx t]
  · funext k; blk_ext! [iblk, idx t]
  · funext k; blk_ext! [iblk, idx t]
  · funext k; blk_ext! [iblk, idx t]

set_option maxHeartbeats 4000000 in
/-- The tokens a grid point holds. -/
theorem tok_eq (t : Fin cfg0.N) (b : Fin 64) (r : Fin 8) :
    tok (iblk m c 0 t) (iblk m c 1 t) (iblk m c 2 t) (iblk m c 3 t) (iblk m c 4 t) b r
      = argTok m c (seqOf t b) r := by
  unfold tok argTok seqOf
  congr 1
  · funext k; blk_ext! [iblk, V, idx t]
  · funext k; blk_ext! [iblk, idx t]
  · funext k; blk_ext! [iblk, idx t]
  · funext k; blk_ext! [iblk, V, idx t]
  · funext k; blk_ext! [iblk, idx t]

/-- The kernel's result array, index by index. -/
theorem array : (dats m 0 c).arrAt 14 cfg0.N
    = fun i : S128x8x1024.Idx => result (argWts m c) (argTok m c (i 0) (i 1)) (i 2) := by
  refine (dats m 0 c).arrAt_eq_of_covers 14 _ (by decide +kernel) fun t hf y => ?_
  blk_simp
  rw [after0_14]
  have hy : y = ix3 (⟨(y 0).val, (y 0).isLt⟩ : Fin 64) (⟨(y 1).val, (y 1).isLt⟩ : Fin 8) (⟨(y 2).val, (y 2).isLt⟩ : Fin 1024) := by blk_ext
  rw [hy, out_apply, wts_eq, tok_eq]
  have e0 : (win0_14.blk t).view.emb (ix3 (⟨(y 0).val, (y 0).isLt⟩ : Fin 64) (⟨(y 1).val, (y 1).isLt⟩ : Fin 8) (⟨(y 2).val, (y 2).isLt⟩ : Fin 1024))
      = ix3 (seqOf t ⟨(y 0).val, (y 0).isLt⟩) (⟨(y 1).val, (y 1).isLt⟩ : Fin 8) (⟨(y 2).val, (y 2).isLt⟩ : Fin 1024) := by
    unfold seqOf
    blk_ext [idx t]
  rw [e0]
  rfl

end array

end Cert.TailSampleKernel

end
-- ==== Proof.TailSampleRef.lean ====
/- The tail's reference for the sample batch, token by token. -/
module

public import proofs.«01_k».proof.Proof.Gen.TailSampleRefIdeal.Run
public import proofs.«01_k».proof.Proof.TailSpec
public import Idealize.ShloMosaic.Lib.Pointwise
public import Idealize.ShloMosaic.Lib.Pipeline.ValueKit

@[expose] public section

set_option maxRecDepth 16384

noncomputable section

namespace Cert.TailSampleRef

open Cert.TailSampleRefIdeal Cert.TailSampleRefIdeal.Value Idealize.ShloMosaic Idealize.ShloMosaic.StableHlo Cert.TailSpec

variable (L : Valuation τ sig (Elt Ideal))

/-- The layer's weights, read from the argument arrays. -/
def argWts : Weights where
  pa k n := L (Proc.devRef .tc main_arg5) (ix3 0 k n)
  pb k n := L (Proc.devRef .tc main_arg6) (ix3 0 k n)
  out k n := L (Proc.devRef .tc main_arg7) (ix3 0 k n)
  up k n := L (Proc.devRef .tc main_arg10) (ix3 0 k n)
  down k n := L (Proc.devRef .tc main_arg11) (ix3 0 k n)
  g1 k := L (Proc.devRef .tc main_arg8) (ix2 0 k)
  b1 k := L (Proc.devRef .tc main_arg9) (ix2 0 k)
  g2 k := L (Proc.devRef .tc main_arg12) (ix2 0 k)
  b2 k := L (Proc.devRef .tc main_arg13) (ix2 0 k)

/-- Token `t` of sequence `b`, read from the argument arrays. -/
def argTok (b : Fin 128) (t : Fin 8) : Token where
  x k := L (Proc.devRef .tc main_arg0) (ix3 b t k)
  oa k := L (Proc.devRef .tc main_arg1) (ix3 b t k)
  ob k := L (Proc.devRef .tc main_arg2) (ix3 b t k)
  gates k := L (Proc.devRef .tc main_arg3) (ix3 b t k)
  mod k := L (Proc.devRef .tc main_arg4) (ix2 b k)

variable (b : Fin 128) (t : Fin 8) (l : Fin 1024)

theorem res1_apply : (res_main_v25 L : Vec Ideal S128x8x1024 .f32) (ix3 b t l) = res1 (argWts L) (argTok L b t) l := by
  pointwise [res_main_v25, res_main_v0]
  rfl

theorem mean1_apply : (res_main_v33 L : Vec Ideal S128x8x1 .f32) (ix3 b t 0) = mean (res1 (argWts L) (argTok L b t)) := by
  pointwise [res_main_v33]
  simp only [res1_apply]
  rfl

theorem dev1_apply : (res_main_v35 L : Vec Ideal S128x8x1024 .f32) (ix3 b t l)
    = res1 (argWts L) (argTok L b t) l - mean (res1 (argWts L) (argTok L b t)) := by
  pointwise [res_main_v35]
  simp only [res1_apply, mean1_apply]

theorem x1_apply : (res_main_v53 L : Vec Ideal S128x8x1024 .f32) (ix3 b t l) = TailSpec.x1 (argWts L) (argTok L b t) l := by
  pointwise [res_main_v53]
  simp only [res1_apply, mean1_apply, dev1_apply]
  rfl

theorem up_apply (k : Fin 4096) : (res_main_v63 L : Vec Ideal S128x8x4096 .f32) (ix3 b t k)
    = max (rowMul (h2 (argWts L) (argTok L b t)) (argWts L).up k) 0 := by
  pointwise [res_main_v63, res_main_v0]
  simp only [x1_apply]
  rfl

theorem res2_apply : (res_main_v72 L : Vec Ideal S128x8x1024 .f32) (ix3 b t l) = res2 (argWts L) (argTok L b t) l := by
  pointwise [res_main_v72, res_main_v0]
  simp only [x1_apply, up_apply]
  rfl

theorem mean2_apply : (res_main_v80 L : Vec Ideal S128x8x1 .f32) (ix3 b t 0) = mean (res2 (argWts L) (argTok L b t)) := by
  pointwise [res_main_v80]
  simp only [res2_apply]
  rfl

theorem dev2_apply : (res_main_v82 L : Vec Ideal S128x8x1024 .f32) (ix3 b t l)
    = res2 (argWts L) (argTok L b t) l - mean (res2 (argWts L) (argTok L b t)) := by
  pointwise [res_main_v82]
  simp only [res2_apply, mean2_apply]

end Cert.TailSampleRef

end
-- ==== Proof.TailSampleClaims.lean ====
/- The claims about the tail of the sample pass: the kernel and the plain reference compute one function. -/
module

public import proofs.«01_k».proof.Defs
public import proofs.«01_k».proof.Proof.TailSampleArray
public import proofs.«01_k».proof.Proof.TailSampleRef
public import proofs.«01_k».proof.Proof.Gen.TailSampleIdeal
public import proofs.«01_k».proof.Proof.Gen.TailSampleRefIdeal
public import Idealize.ShloMosaic.Lib.Quiescent

@[expose] public section

set_option maxRecDepth 16384

noncomputable section

namespace Cert.Proof.TailSample

open Idealize.ShloMosaic Idealize.ShloMosaic.TcCoe Idealize.SL.Sem

/-- The result array of the tail, as a function of the kernel's argument arrays. -/
abbrev out (m : (ℓ : Loc Cert.TailSampleIdeal.nD Cert.TailSampleIdeal.τ Cert.TailSampleIdeal.sig) → Buf (Elt Ideal) ℓ)
    (c : Dev Cert.TailSampleIdeal.nD) : Cert.TailSampleIdeal.S128x8x1024.Idx → EReal :=
  fun i => TailSpec.result (TailSampleKernel.argWts m c) (TailSampleKernel.argTok m c (i 0) (i 1)) (i 2)

/-- The tail kernel and the plain reference leave one array. -/
theorem algebraic : Cert.algebraic_TailSampleIdeal_TailSampleRefIdeal := by
  intro m ρ m' ρ' _ hagree
  refine ⟨fun c => out m c, ?_, ?_⟩
  · exact (θ_run Cert.TailSampleIdeal.defs _ _).mono
      (fun _ h c => ⟨(h c).1.trans (TailSampleKernel.array m c), (h c).2⟩)
      (Cert.TailSampleIdeal.Value.run_blocks (F := Ideal) m ρ)
  refine (θ_run Cert.TailSampleRefIdeal.defs _ _).mono (fun _ h c => ⟨(h c).1.trans ?_, (h c).2⟩)
    (Cert.TailSampleRefIdeal.Value.run (F := Ideal) m' ρ')
  obtain ⟨h0, h1, h2, h3, h4, h5, h6, h7, h8, h9, h10, h11, h12, h13⟩ := hagree c
  have hw : TailSampleRef.argWts (StableHlo.launchContents m' c) = TailSampleKernel.argWts m c := by
    unfold TailSampleRef.argWts TailSampleKernel.argWts StableHlo.launchContents
    simp only [← h5, ← h6, ← h7, ← h8, ← h9, ← h10, ← h11, ← h12, ← h13]
  have ht : ∀ b t, TailSampleRef.argTok (StableHlo.launchContents m' c) b t = TailSampleKernel.argTok m c b t := by
    intro b t
    unfold TailSampleRef.argTok TailSampleKernel.argTok StableHlo.launchContents
    simp only [← h0, ← h1, ← h2, ← h3, ← h4]
  funext i
  obtain ⟨b, t, l, rfl⟩ : ∃ (b : Fin 128) (t : Fin 8) (l : Fin 1024), i = ix3 b t l := ⟨i 0, i 1, i 2, by blk_ext⟩
  show _ = TailSpec.result (TailSampleKernel.argWts m c) (TailSampleKernel.argTok m c b t) l
  rw [← hw, ← ht]
  pointwise
  simp only [TailSampleRef.res2_apply, TailSampleRef.mean2_apply, TailSampleRef.dev2_apply]
  rfl

/-- The reference's run leaves its arguments alone; it declares no semaphore. -/
theorem frame_reference : Cert.quiescent_TailSampleRefIdeal := fun m ρ _ =>
  (θ_run Cert.TailSampleRefIdeal.defs _ _).mono
    (fun r h => ⟨fun c => (h c).2, sem_eq_zero_of_no_sems (by decide) r.2⟩)
    (Cert.TailSampleRefIdeal.Value.run (F := Ideal) m ρ)

end Cert.Proof.TailSample

end
-- ==== Proof.FrontKernel.lean ====
/- The front kernel's body: every value it computes over a block of 32 sequences of 8 tokens, read at one token, is the
   value that the mathematics of FrontSpec gives for that sequence. -/
module

public import proofs.«01_k».proof.Proof.Gen.FrontIdeal.Frame
public import proofs.«01_k».proof.Proof.FrontSpec
public import Idealize.ShloMosaic.Lib.Pipeline.ValueKit

@[expose] public section

set_option maxRecDepth 16384

noncomputable section

namespace Cert.FrontKernel

open Cert.FrontIdeal Cert.FrontIdeal.Gen Idealize.ShloMosaic Cert.FrontSpec

variable (x0 : Vec Ideal S32x8x1024 .f32) (x1 : Vec Ideal S32x1x6144 .f32) (x2 : Vec Ideal S32x3x3072 .f32) (x3 : Vec Ideal S1x1024x7680 .bf16) (x4 : Vec Ideal S1x1024x128 .bf16) (x5 : Vec Ideal S4x3072 .f32) (x6 : Vec Ideal S2x128 .f32)

/-- The weights that the kernel holds in its blocks. -/
def wts : Weights where
  wm k n := x3 (ix3 0 k n)
  wba k n := x4 (ix3 0 k n)
  taps j n := x5 (ix2 j n)
  gp j n := x6 (ix2 j n)

/-- Sequence `b` of the blocks. -/
def seq (b : Fin 32) : Seq where
  x t k := x0 (ix3 b t k)
  mod k := x1 (ix3 b 0 k)
  st j n := x2 (ix3 b j n)

/-! ## Loads of a part of a block -/

theorem ld_wm (off : ℕ) (inb) (k : Fin 1024) (n : Fin 512) (h : off + n.val < 7680) :
    View.ld x3 (Rect.unit ![0, 0, off] S1x1024x512.size inb) (ix3 0 k n) = x3 (ix3 0 k ⟨off + n.val, h⟩) :=
  View.ld_unit_apply_of _ _ _ _ _ _ (fun a => by fin_cases a <;> simp [ix3])

/-! ## Products in two blocks of rows -/

/-- The product of 256 rows with a matrix. -/
def rows (h : FVec Ideal S256x1024 .bf16) (w : FVec Ideal S1024x512 .bf16) : FVec Ideal S256x512 .f32 :=
  fun i => ∑ k : Fin 1024, h (ix2 (i 0) k) * w (ix2 k (i 1))

theorem rows_apply (h : FVec Ideal S256x1024 .bf16) (w : FVec Ideal S1024x512 .bf16) (p : Fin 256) (l : Fin 512) :
    rows h w (ix2 p l) = ∑ k : Fin 1024, h (ix2 p k) * w (ix2 k l) := rfl

/-- The two products of 128 rows each, one under another, are the product of all rows. -/
theorem rows_eq (h : FVec Ideal S256x1024 .bf16) (w : FVec Ideal S1024x512 .bf16) :
    concatenate S256x512 0 [⟨S128x512, matmul dot_S128x1024_S1024x512_S128x512_1_0_0_1_n_n none (extractStridedSlice S128x1024 ![0, 0] h slices_S256x1024_o0_0_S128x1024) w (constant S128x512 .f32 0x00000000#32)⟩, ⟨S128x512, matmul dot_S128x1024_S1024x512_S128x512_1_0_0_1_n_n none (extractStridedSlice S128x1024 ![128, 0] h slices_S256x1024_o128_0_S128x1024) w (constant S128x512 .f32 0x00000000#32)⟩] concatenates_S128x512_S128x512_S256x512_d0 = rows h w := by
  funext i
  obtain ⟨p, l, rfl⟩ : ∃ (p : Fin 256) (l : Fin 512), i = ix2 p l := ⟨i 0, i 1, by blk_ext⟩
  rw [rows_apply]
  have key : ∀ q : Fin 256, q = p → ∑ k : Fin 1024, h (ix2 q k) * w (ix2 k l) = ∑ k : Fin 1024, h (ix2 p k) * w (ix2 k l) := fun q e => by rw [e]
  pointwise
  split_ifs
  all_goals first
    | exact key _ (Fin.ext rfl)
    | (refine key _ (Fin.ext ?_); dsimp only; omega)

/-! ## The projection -/

/-- The rows the kernel multiplies. -/
def hmat : FVec Ideal S256x1024 .bf16 :=
  k0_pay2 (View.ld x1 (Rect.unit ![0, 0, 0] S32x1x1024.size inb_S32x1x6144_S32x1x1024_0_0_0))
    (View.ld x1 (Rect.unit ![0, 0, 1024] S32x1x1024.size inb_S32x1x6144_S32x1x1024_0_0_1024))
    (View.ld x0 (Rect.unit ![0, 0, 0] S32x8x1024.size inb_S32x8x1024_S32x8x1024_0_0_0))

theorem hmat_apply (p : Fin 256) (k : Fin 1024) :
    hmat x0 x1 (ix2 p k) = hid (seq x0 x1 x2 ⟨p.val / 8, by omega⟩) ⟨p.val % 8, by omega⟩ k := by
  pointwise [hmat, k0_pay2]
  rfl

/-- Columns of the projection. -/
theorem proj_apply (off : ℕ) (inb) (b : Fin 32) (t : Fin 8) (n : Fin 512) (h : off + n.val < 7680) :
    k0_pay9 (hmat x0 x1) (View.ld x3 (Rect.unit ![0, 0, off] S1x1024x512.size inb)) (ix3 b t n)
      = main (wts x3 x4 x5 x6) (seq x0 x1 x2 b) t ⟨off + n.val, h⟩ := by
  have hd : (b.val * 8 + t.val) / 8 = b.val := by omega
  have hm : (b.val * 8 + t.val) % 8 = t.val := by omega
  unfold k0_pay9
  simp only [rows_eq]
  pointwise
  simp only [rows_apply]
  pointwise
  simp only [hmat_apply x0 x1 x2, hd, hm, Fin.eta, ld_wm x3 off inb _ _ h]
  rfl

theorem query_apply (off : ℕ) (inb) (b : Fin 32) (t : Fin 8) (n : Fin 512) (h : off + n.val < 7680) :
    k0_pay27 (hmat x0 x1) (View.ld x3 (Rect.unit ![0, 0, off] S1x1024x512.size inb)) (ix3 b t n)
      = main (wts x3 x4 x5 x6) (seq x0 x1 x2 b) t ⟨off + n.val, h⟩ * Ideal.ofBits .f32 0x3E000000#32 := by
  have hd : (b.val * 8 + t.val) / 8 = b.val := by omega
  have hm : (b.val * 8 + t.val) % 8 = t.val := by omega
  unfold k0_pay27
  simp only [rows_eq]
  pointwise
  simp only [rows_apply]
  pointwise
  simp only [hmat_apply x0 x1 x2, hd, hm, Fin.eta, ld_wm x3 off inb _ _ h]
  rfl

theorem gate_apply (off : ℕ) (inb) (b : Fin 32) (t : Fin 8) (n : Fin 512) (h : off + n.val < 7680) :
    k0_pay36 (hmat x0 x1) (View.ld x3 (Rect.unit ![0, 0, off] S1x1024x512.size inb)) (ix3 b t n)
      = sig (main (wts x3 x4 x5 x6) (seq x0 x1 x2 b) t ⟨off + n.val, h⟩) := by
  have hd : (b.val * 8 + t.val) / 8 = b.val := by omega
  have hm : (b.val * 8 + t.val) % 8 = t.val := by omega
  unfold k0_pay36
  simp only [rows_eq]
  pointwise
  simp only [rows_apply]
  pointwise
  simp only [hmat_apply x0 x1 x2, hd, hm, Fin.eta, ld_wm x3 off inb _ _ h]
  rfl

theorem key_apply (inb) (b : Fin 32) (t : Fin 8) (n : Fin 256) :
    k0_pay34 (hmat x0 x1) (View.ld x3 (Rect.unit ![0, 0, 5120] S1x1024x512.size inb)) (ix3 b t n)
      = main (wts x3 x4 x5 x6) (seq x0 x1 x2 b) t ⟨5120 + n.val, by omega⟩ := by
  have hd : (b.val * 8 + t.val) / 8 = b.val := by omega
  have hm : (b.val * 8 + t.val) % 8 = t.val := by omega
  have e : ∀ k, View.ld x3 (Rect.unit ![0, 0, 5120] S1x1024x512.size inb) (ix3 0 k ⟨n.val, by omega⟩) = x3 (ix3 0 k ⟨5120 + n.val, by omega⟩) :=
    fun k => ld_wm x3 5120 inb k ⟨n.val, by omega⟩ _
  unfold k0_pay34 k0_pay33
  simp only [rows_eq]
  pointwise
  simp only [rows_apply]
  pointwise
  simp only [hmat_apply x0 x1 x2, hd, hm, Fin.eta, e]
  rfl

theorem value_apply (inb) (b : Fin 32) (t : Fin 8) (n : Fin 256) :
    k0_pay35 (hmat x0 x1) (View.ld x3 (Rect.unit ![0, 0, 5120] S1x1024x512.size inb)) (ix3 b t n)
      = main (wts x3 x4 x5 x6) (seq x0 x1 x2 b) t ⟨5376 + n.val, by omega⟩ := by
  have hd : (b.val * 8 + t.val) / 8 = b.val := by omega
  have hm : (b.val * 8 + t.val) % 8 = t.val := by omega
  have e : ∀ k h, x3 (ix3 0 k (⟨5120 + (256 + n.val), h⟩ : Fin 7680)) = x3 (ix3 0 k ⟨5376 + n.val, by omega⟩) :=
    fun k h => congrArg x3 (congrArg (ix3 0 k) (Fin.ext (by dsimp only; omega)))
  unfold k0_pay35 k0_pay33
  simp only [rows_eq]
  pointwise
  simp only [rows_apply]
  pointwise
  simp only [hmat_apply x0 x1 x2, hd, hm, Fin.eta, e]
  rfl

/-! ## The gates -/

/-- The first eight lanes. -/
theorem low_lanes : ∀ l : Fin 128, IntOp.cmpi CmpIPredicate.slt (BitVec.ofNat 32 l.val) 8#32 = if l.val < 8 then 1#1 else 0#1 := by
  decide +kernel

theorem gb_apply (b : Fin 32) (t : Fin 8) (l : Fin 128) :
    k0_pay1 (k0_pay50 (hmat x0 x1) (View.ld x4 (Rect.unit ![0, 0, 0] S1x1024x128.size inb_S1x1024x128_S1x1024x128_0_0_0))
      (View.ld x6 (Rect.unit ![1, 0] S1x128.size inb_S2x128_S1x128_1_0))
      (View.ld x6 (Rect.unit ![0, 0] S1x128.size inb_S2x128_S1x128_0_0))) (ix3 b t l)
      = gb (wts x3 x4 x5 x6) (seq x0 x1 x2 b) t l := by
  have hd : (b.val * 8 + t.val) / 8 = b.val := by omega
  have hm : (b.val * 8 + t.val) % 8 = t.val := by omega
  have e4 : ∀ k l, View.ld x4 (Rect.unit ![0, 0, 0] S1x1024x128.size inb_S1x1024x128_S1x1024x128_0_0_0) (ix3 0 k l) = x4 (ix3 0 k l) :=
    fun k l => View.ld_unit_apply_of _ _ _ _ _ _ (fun a => by fin_cases a <;> simp [ix3])
  have e1 : View.ld x6 (Rect.unit ![1, 0] S1x128.size inb_S2x128_S1x128_1_0) (ix2 0 l) = x6 (ix2 1 l) :=
    View.ld_unit_apply_of _ _ _ _ _ _ (fun a => by fin_cases a <;> simp [ix2])
  have e0 : View.ld x6 (Rect.unit ![0, 0] S1x128.size inb_S2x128_S1x128_0_0) (ix2 0 l) = x6 (ix2 0 l) :=
    View.ld_unit_apply_of _ _ _ _ _ _ (fun a => by fin_cases a <;> simp [ix2])
  pointwise [k0_pay1, k0_pay50]
  simp only [hmat_apply x0 x1 x2, hd, hm, Fin.eta, e4, e1, e0]
  rw [low_lanes]
  unfold gb
  split_ifs <;> rfl

/-! ## The convolution -/

/-- A tile of the convolution's 16 rows. -/
def tile (off : ℕ) (ho : off + 512 ≤ 3072) : Vec Ideal S32x16x512 .f32 := fun j =>
  buf (wts x3 x4 x5 x6) (seq x0 x1 x2 (j 0)) (j 1) ⟨off + (j 2).val, by have := (j 2).isLt; change (j 2).val < 512 at this; omega⟩

theorem conv_apply (off : ℕ) (ho : off + 512 ≤ 3072) (i0 i1 i2 i3) (b : Fin 32) (t : Fin 8) (n : Fin 512) :
    k0_pay17 (tile x0 x1 x2 x3 x4 x5 x6 off ho) (View.ld x5 (Rect.unit ![0, off] S1x512.size i0))
      (View.ld x5 (Rect.unit ![1, off] S1x512.size i1)) (View.ld x5 (Rect.unit ![2, off] S1x512.size i2))
      (View.ld x5 (Rect.unit ![3, off] S1x512.size i3)) (ix3 b t n)
      = cs (wts x3 x4 x5 x6) (seq x0 x1 x2 b) t ⟨off + n.val, by omega⟩ := by
  have key : ∀ s q : Fin 16, s = q → tile x0 x1 x2 x3 x4 x5 x6 off ho (ix3 b s n)
      = buf (wts x3 x4 x5 x6) (seq x0 x1 x2 b) q ⟨off + n.val, by omega⟩ := fun s q e => by subst e; rfl
  have e8 : ∀ h, tile x0 x1 x2 x3 x4 x5 x6 off ho (ix3 b (⟨8 + t.val, h⟩ : Fin 16) n) = _ :=
    fun h => key _ ⟨t.val + 8, by omega⟩ (Fin.ext (by dsimp only; omega))
  have e7 : ∀ h, tile x0 x1 x2 x3 x4 x5 x6 off ho (ix3 b (⟨(8 + t.val + 16 - 1) % 16, h⟩ : Fin 16) n) = _ :=
    fun h => key _ ⟨t.val + 7, by omega⟩ (Fin.ext (by dsimp only; omega))
  have e6 : ∀ h, tile x0 x1 x2 x3 x4 x5 x6 off ho (ix3 b (⟨(8 + t.val + 16 - 2) % 16, h⟩ : Fin 16) n) = _ :=
    fun h => key _ ⟨t.val + 6, by omega⟩ (Fin.ext (by dsimp only; omega))
  have e5 : ∀ h, tile x0 x1 x2 x3 x4 x5 x6 off ho (ix3 b (⟨((8 + t.val + 16 - 2) % 16 + 16 - 1) % 16, h⟩ : Fin 16) n) = _ :=
    fun h => key _ ⟨t.val + 5, by omega⟩ (Fin.ext (by dsimp only; omega))
  pointwise [k0_pay17]
  simp only [e8, e7, e6, e5]
  rfl

end Cert.FrontKernel

end
-- ==== Proof.FrontPieces.lean ====
/- The front kernel's stores: what its scratch of 16 rows holds, and what each output block holds after the body. -/
module

public import proofs.«01_k».proof.Proof.FrontKernel

@[expose] public section

set_option maxRecDepth 16384

noncomputable section

namespace Cert.FrontKernel

open Cert.FrontIdeal Cert.FrontIdeal.Gen Idealize.ShloMosaic Cert.FrontSpec

/-! ## A store of a box -/

section box

variable {d : Fin 3 → ℕ} {e : EltTy}

/-- Inside the box of the last store, its payload. -/
theorem canon_hit (off size : Fin 3 → ℕ) (inb) (p : (Rect.unit (s := ⟨3, d⟩) off size inb).shape.Idx → Elt Ideal e)
    (L : List (View.Piece (Elt Ideal) ⟨3, d⟩ e)) (y : (⟨3, d⟩ : Shape).Idx) (x : (Rect.unit (s := ⟨3, d⟩) off size inb).shape.Idx)
    (h : ∀ a, off a + (x a).val = (y a).val) : View.canon (⟨Rect.unit off size inb, p⟩ :: L) y = p x := by
  have e : y = (Rect.unit (s := ⟨3, d⟩) off size inb).emb x := funext fun a => Fin.ext ((h a).symm.trans (ValueKit.rect_emb_unit_val off size inb x a).symm)
  rw [e]
  exact View.canon_cons_emb _ p L x

/-- Outside it, what was there before. -/
theorem canon_skip (off size : Fin 3 → ℕ) (inb) (p : (Rect.unit (s := ⟨3, d⟩) off size inb).shape.Idx → Elt Ideal e)
    (L : List (View.Piece (Elt Ideal) ⟨3, d⟩ e)) (y : (⟨3, d⟩ : Shape).Idx) (a : Fin 3)
    (h : (y a).val < off a ∨ off a + size a ≤ (y a).val) : View.canon (⟨Rect.unit off size inb, p⟩ :: L) y = View.canon L y := by
  refine View.canon_cons_of_not_mem ⟨Rect.unit off size inb, p⟩ L fun hm => ?_
  have := (Rect.mem_set_unit (inb := inb)).mp hm a
  omega

/-- Columns below `n` of a block of 32 sequences of 8 tokens hold `f`. -/
def Cols {D : ℕ} {e : EltTy} (f : Fin 32 → Fin 8 → Fin D → Elt Ideal e) (L : List (View.Piece (Elt Ideal) ⟨3, ![32, 8, D]⟩ e)) (n : ℕ) : Prop :=
  ∀ (b : Fin 32) (t : Fin 8) (l : Fin D), l.val < n → View.canon L (ix3 b t l) = f b t l

theorem Cols.apply {D : ℕ} {e : EltTy} {f : Fin 32 → Fin 8 → Fin D → Elt Ideal e} {L : List (View.Piece (Elt Ideal) ⟨3, ![32, 8, D]⟩ e)} (h : Cols f L D) (b : Fin 32) (t : Fin 8) (l : Fin D) :
    View.canon L (ix3 b t l) = f b t l := h b t l l.isLt

theorem cols_nil {D : ℕ} {e : EltTy} (f : Fin 32 → Fin 8 → Fin D → Elt Ideal e) : Cols f [] 0 := fun _ _ l h => absurd h (by omega)

/-- One more store, of the next `w` columns. -/
theorem cols_cons {D : ℕ} {e : EltTy} (f : Fin 32 → Fin 8 → Fin D → Elt Ideal e) (L : List (View.Piece (Elt Ideal) ⟨3, ![32, 8, D]⟩ e)) (off w : ℕ)
    (inb) (p : (Rect.unit (s := ⟨3, ![32, 8, D]⟩) ![0, 0, off] ![32, 8, w] inb).shape.Idx → Elt Ideal e)
    (hp : ∀ (b : Fin 32) (t : Fin 8) (l : Fin w) (h : off + l.val < D), p (ix3 b t l) = f b t ⟨off + l.val, h⟩)
    (hL : Cols f L off) : Cols f (⟨Rect.unit ![0, 0, off] ![32, 8, w] inb, p⟩ :: L) (off + w) := by
  intro b t l hl
  by_cases h : l.val < off
  · exact (canon_skip _ _ _ _ _ _ 2 (Or.inl h)).trans (hL b t l h)
  refine (canon_hit _ _ _ _ _ _ (ix3 b t (⟨l.val - off, by omega⟩ : Fin w)) (fun a => by fin_cases a <;> simp [ix3] <;> omega)).trans ?_
  refine (hp b t _ (by dsimp only; omega)).trans ?_
  exact congrArg (f b t) (Fin.ext (by dsimp only; omega))

end box

/-! ## The same text in other pieces -/

section same

variable (h : FVec Ideal S256x1024 .bf16) (w : Vec Ideal S1x1024x512 .bf16) (u : Vec Ideal S32x16x512 .f32) (w0 w1 w2 w3 : Vec Ideal S1x512 .f32)

theorem conv_a : k0_pay7 u (k0_pay6 u) w0 w1 w2 w3 = k0_pay17 u w0 w1 w2 w3 := rfl
theorem conv_b : k0_pay14 (k0_pay11 u w2 w3) (k0_pay12 u w1) (k0_pay13 u w0) = k0_pay17 u w0 w1 w2 w3 := rfl
theorem conv_c : k0_pay26 u (k0_pay21 u) (k0_pay22 w0) (k0_pay23 w1) (k0_pay24 w2) (k0_pay25 w3) = k0_pay17 u w0 w1 w2 w3 := rfl
theorem conv_d : k0_pay32 (k0_pay30 u w0 w1 w2 w3) (k0_pay31 u w0 w1 w2 w3) (FloatOps.ofBits .f32 1065353216#32) = k0_pay17 u w0 w1 w2 w3 := rfl
theorem conv_e : k0_pay42 (k0_pay39 u w2 w3) (k0_pay40 u w1) (k0_pay41 u w0) = k0_pay17 u w0 w1 w2 w3 := rfl
theorem proj_a : k0_pay8 h w = k0_pay9 h w := by
  unfold k0_pay8 k0_pay9
  simp only [rows_eq]
  funext i
  obtain ⟨b, t, l, rfl⟩ : ∃ (b : Fin 32) (t : Fin 8) (l : Fin 512), i = ix3 b t l := ⟨i 0, i 1, i 2, by blk_ext⟩
  pointwise
theorem proj_b : k0_pay15 h w = k0_pay9 h w := proj_a h w
theorem query_a : k0_pay19 h (k0_pay18 w) = k0_pay27 h w := rfl
theorem gate_a : k0_pay43 h w = k0_pay36 h w := rfl
theorem gate_b : k0_pay47 (k0_pay45 h w) (k0_pay46 h w) = k0_pay36 h w := rfl
theorem gate_c : k0_pay48 h w = k0_pay36 h w := rfl

end same

variable  (c : Dev nD) (i : grid0.Coords) (arg2 : Memref sig .tc .vmem S32x8x1024 .f32) (harg2 : arg2.IsWhole) (arg3 : Memref sig .tc .vmem S32x1x6144 .f32) (harg3 : arg3.IsWhole) (arg4 : Memref sig .tc .vmem S32x3x3072 .f32) (harg4 : arg4.IsWhole) (arg5 : Memref sig .tc .vmem S1x1024x7680 .bf16) (harg5 : arg5.IsWhole) (arg6 : Memref sig .tc .vmem S1x1024x128 .bf16) (harg6 : arg6.IsWhole) (arg7 : Memref sig .tc .vmem S4x3072 .f32) (harg7 : arg7.IsWhole) (arg8 : Memref sig .tc .vmem S2x128 .f32) (harg8 : arg8.IsWhole) (arg9 : Memref sig .tc .vmem S32x8x3072 .f32) (harg9 : arg9.IsWhole) (arg10 : Memref sig .tc .vmem S32x8x1024 .f32) (harg10 : arg10.IsWhole) (arg11 : Memref sig .tc .vmem S32x8x128 .f32) (harg11 : arg11.IsWhole) (arg12 : Memref sig .tc .vmem S32x8x1024 .bf16) (harg12 : arg12.IsWhole) (arg13 : Memref sig .tc .vmem S32x8x256 .f32) (harg13 : arg13.IsWhole) (arg14 : Memref sig .tc .vmem S32x8x256 .f32) (harg14 : arg14.IsWhole) (arg15 : Memref sig .tc .vmem S32x8x2048 .f32) (harg15 : arg15.IsWhole) (arg16 : Memref sig .tc .vmem S32x3x3072 .f32) (harg16 : arg16.IsWhole) (arg17 : Memref sig .tc .vmem S32x16x3072 .f32) (harg17 : arg17.IsWhole) (hc0 : cond0_0 i)
    (x0 : Vec Ideal S32x8x1024 .f32) (x1 : Vec Ideal S32x1x6144 .f32) (x2 : Vec Ideal S32x3x3072 .f32) (x3 : Vec Ideal S1x1024x7680 .bf16) (x4 : Vec Ideal S1x1024x128 .bf16) (x5 : Vec Ideal S4x3072 .f32) (x6 : Vec Ideal S2x128 .f32)

/-! ## The scratch -/

/-- What the scratch holds before the projection: empty rows, then the carried ones over the last three. -/
def base : List (View.Piece (Elt Ideal) S32x16x3072 .f32) :=
  [⟨Rect.unit ![0, 5, 0] S32x3x3072.size inb_S32x16x3072_S32x3x3072_0_5_0, k0_pay4 (View.ld x2 (Rect.unit ![0, 0, 0] S32x3x3072.size inb_S32x3x3072_S32x3x3072_0_0_0))⟩,
    ⟨Rect.unit ![0, 0, 0] S32x8x3072.size inb_S32x16x3072_S32x8x3072_0_0_0, k0_pay3 (F := Ideal)⟩]

/-- The store of 512 columns of the projection. -/
def piece (off : ℕ) (inb : ∀ a, (![0, 8, off] : Fin 3 → ℕ) a + S32x8x512.size a ≤ S32x16x3072.size a)
    (inw : ∀ a, (![0, 0, off] : Fin 3 → ℕ) a + S1x1024x512.size a ≤ S1x1024x7680.size a) : View.Piece (Elt Ideal) S32x16x3072 .f32 :=
  ⟨Rect.unit ![0, 8, off] S32x8x512.size inb, k0_pay9 (hmat x0 x1) (View.ld x3 (Rect.unit ![0, 0, off] S1x1024x512.size inw))⟩

/-- The scratch holds the carried rows, and the projection in the columns below `n`. -/
def Good (L : List (View.Piece (Elt Ideal) S32x16x3072 .f32)) (n : ℕ) : Prop :=
  ∀ (b : Fin 32) (s : Fin 16) (l : Fin 3072), (s.val < 8 ∨ l.val < n) →
    View.canon L (ix3 b s l) = buf (wts x3 x4 x5 x6) (seq x0 x1 x2 b) s l

theorem good_base : Good x0 x1 x2 x3 x4 x5 x6 (base x2) 0 := by
  intro b s l hs
  have h8 : s.val < 8 := by omega
  unfold buf base
  split_ifs with h5
  · refine (canon_skip _ _ _ _ _ _ 1 (Or.inl ?_)).trans ?_
    · show s.val < 5; exact h5
    · refine (canon_hit _ _ _ _ _ _ (ix3 b (⟨s.val, h8⟩ : Fin 8) l) (fun a => by fin_cases a <;> simp [ix3])).trans ?_
      pointwise [k0_pay3]
  · refine (canon_hit _ _ _ _ _ _ (ix3 b (⟨s.val - 5, by omega⟩ : Fin 3) l) (fun a => by fin_cases a <;> simp [ix3] <;> omega)).trans ?_
    pointwise [k0_pay4]
    rfl

theorem good_piece (L : List (View.Piece (Elt Ideal) S32x16x3072 .f32)) (off : ℕ) (inb) (inw) (hL : Good x0 x1 x2 x3 x4 x5 x6 L off) :
    Good x0 x1 x2 x3 x4 x5 x6 (piece x0 x1 x3 off inb inw :: L) (off + 512) := by
  intro b s l hs
  by_cases h8 : s.val < 8
  · exact (canon_skip _ _ _ _ _ _ 1 (Or.inl h8)).trans (hL b s l (Or.inl h8))
  by_cases hl : l.val < off
  · exact (canon_skip _ _ _ _ _ _ 2 (Or.inl hl)).trans (hL b s l (Or.inr hl))
  have hl2 : l.val < off + 512 := by omega
  refine (canon_hit _ _ _ _ _ _ (ix3 b (⟨s.val - 8, by omega⟩ : Fin 8) (⟨l.val - off, by omega⟩ : Fin 512)) (fun a => by fin_cases a <;> simp [ix3] <;> omega)).trans ?_
  refine (proj_apply x0 x1 x2 x3 x4 x5 x6 off inw b _ _ (by dsimp only; omega)).trans ?_
  unfold buf
  rw [if_neg (by omega), dif_neg h8]
  congr 1
  exact Fin.ext (by dsimp only; omega)

/-- The scratch after the columns up to 512. -/
def scr0 : List (View.Piece (Elt Ideal) S32x16x3072 .f32) :=
  piece x0 x1 x3 0 inb_S32x16x3072_S32x8x512_0_8_0 inb_S1x1024x7680_S1x1024x512_0_0_0 :: base x2

theorem good0 : Good x0 x1 x2 x3 x4 x5 x6 (scr0 x0 x1 x2 x3) 512 :=
  good_piece x0 x1 x2 x3 x4 x5 x6 _ 0 _ _ (good_base x0 x1 x2 x3 x4 x5 x6)

/-- The scratch after the columns up to 1024. -/
def scr1 : List (View.Piece (Elt Ideal) S32x16x3072 .f32) :=
  piece x0 x1 x3 512 inb_S32x16x3072_S32x8x512_0_8_512 inb_S1x1024x7680_S1x1024x512_0_0_512 :: scr0 x0 x1 x2 x3

theorem good1 : Good x0 x1 x2 x3 x4 x5 x6 (scr1 x0 x1 x2 x3) 1024 :=
  good_piece x0 x1 x2 x3 x4 x5 x6 _ 512 _ _ (good0 x0 x1 x2 x3 x4 x5 x6)

/-- The scratch after the columns up to 1536. -/
def scr2 : List (View.Piece (Elt Ideal) S32x16x3072 .f32) :=
  piece x0 x1 x3 1024 inb_S32x16x3072_S32x8x512_0_8_1024 inb_S1x1024x7680_S1x1024x512_0_0_1024 :: scr1 x0 x1 x2 x3

theorem good2 : Good x0 x1 x2 x3 x4 x5 x6 (scr2 x0 x1 x2 x3) 1536 :=
  good_piece x0 x1 x2 x3 x4 x5 x6 _ 1024 _ _ (good1 x0 x1 x2 x3 x4 x5 x6)

/-- The scratch after the columns up to 2048. -/
def scr3 : List (View.Piece (Elt Ideal) S32x16x3072 .f32) :=
  piece x0 x1 x3 1536 inb_S32x16x3072_S32x8x512_0_8_1536 inb_S1x1024x7680_S1x1024x512_0_0_1536 :: scr2 x0 x1 x2 x3

theorem good3 : Good x0 x1 x2 x3 x4 x5 x6 (scr3 x0 x1 x2 x3) 2048 :=
  good_piece x0 x1 x2 x3 x4 x5 x6 _ 1536 _ _ (good2 x0 x1 x2 x3 x4 x5 x6)

/-- The scratch after the columns up to 2560. -/
def scr4 : List (View.Piece (Elt Ideal) S32x16x3072 .f32) :=
  piece x0 x1 x3 2048 inb_S32x16x3072_S32x8x512_0_8_2048 inb_S1x1024x7680_S1x1024x512_0_0_2048 :: scr3 x0 x1 x2 x3

theorem good4 : Good x0 x1 x2 x3 x4 x5 x6 (scr4 x0 x1 x2 x3) 2560 :=
  good_piece x0 x1 x2 x3 x4 x5 x6 _ 2048 _ _ (good3 x0 x1 x2 x3 x4 x5 x6)

/-- The scratch after the columns up to 3072. -/
def scr5 : List (View.Piece (Elt Ideal) S32x16x3072 .f32) :=
  piece x0 x1 x3 2560 inb_S32x16x3072_S32x8x512_0_8_2560 inb_S1x1024x7680_S1x1024x512_0_0_2560 :: scr4 x0 x1 x2 x3

theorem good5 : Good x0 x1 x2 x3 x4 x5 x6 (scr5 x0 x1 x2 x3) 3072 :=
  good_piece x0 x1 x2 x3 x4 x5 x6 _ 2560 _ _ (good4 x0 x1 x2 x3 x4 x5 x6)

/-- A tile read back from the scratch. -/
theorem read_tile (L : List (View.Piece (Elt Ideal) S32x16x3072 .f32)) (n off : ℕ) (ho : off + 512 ≤ 3072) (hn : off + 512 ≤ n) (inb)
    (hL : Good x0 x1 x2 x3 x4 x5 x6 L n) :
    arg17.view.readCov L (Rect.unit (s := S32x16x3072) ![0, 0, off] S32x16x512.size inb).toLoadRect = tile x0 x1 x2 x3 x4 x5 x6 off ho := by
  rw [View.readCov_eq_canon']
  funext j
  obtain ⟨b, s, l, rfl⟩ : ∃ (b : Fin 32) (s : Fin 16) (l : Fin 512), j = ix3 b s l := ⟨j 0, j 1, j 2, by blk_ext⟩
  have e : (Rect.unit (s := S32x16x3072) ![0, 0, off] S32x16x512.size inb).toLoadRect.idx (ix3 b s l) = ix3 b s ⟨off + l.val, by omega⟩ := by
    funext a
    fin_cases a <;> refine Fin.ext ?_ <;> simp [Rect.idx_unit_val, ix3]
  rw [e]
  exact hL b s _ (Or.inr (by dsimp only; omega))

/-! ## The stores of each output -/

theorem list0 : kernelRun0_A.sl.HS0_3 c arg2 harg2 arg3 harg3 arg4 harg4 arg5 harg5 x0 x1 x2 x3 = scr0 x0 x1 x2 x3 := by
  unfold kernelRun0_A.sl.HS0_3 scr0 piece base
  simp only [kernelRun0_A.sl.r, kernelRun0_A.sl.r_13, View.readAt_eq_ld, harg2.read_unread, harg3.read_unread, harg4.read_unread, harg5.read_unread]
  rfl

theorem tile0 : kernelRun0_A.sl.v27 c arg2 harg2 arg3 harg3 arg4 harg4 arg5 harg5 arg17 x0 x1 x2 x3 = tile x0 x1 x2 x3 x4 x5 x6 0 (by omega) := by
  unfold kernelRun0_A.sl.v27
  rw [list0]
  exact read_tile (arg17 := arg17) (x0 := x0) (x1 := x1) (x2 := x2) (x3 := x3) (x4 := x4) (x5 := x5) (x6 := x6) (ho := by omega) (hn := le_refl _) (hL := good0 x0 x1 x2 x3 x4 x5 x6) (inb := _)

theorem list1 : kernelRun0_A.sl.HS0_4 c arg2 harg2 arg3 harg3 arg4 harg4 arg5 harg5 x0 x1 x2 x3 = scr1 x0 x1 x2 x3 := by
  unfold kernelRun0_A.sl.HS0_4 scr1 piece
  simp only [list0, kernelRun0_A.sl.r, kernelRun0_A.sl.r_13, View.readAt_eq_ld, harg2.read_unread, harg3.read_unread, harg4.read_unread, harg5.read_unread]
  rfl

theorem tile1 : kernelRun0_A.sl.v83 c arg2 harg2 arg3 harg3 arg4 harg4 arg5 harg5 arg17 x0 x1 x2 x3 = tile x0 x1 x2 x3 x4 x5 x6 512 (by omega) := by
  unfold kernelRun0_A.sl.v83
  rw [list1]
  exact read_tile (arg17 := arg17) (x0 := x0) (x1 := x1) (x2 := x2) (x3 := x3) (x4 := x4) (x5 := x5) (x6 := x6) (ho := by omega) (hn := le_refl _) (hL := good1 x0 x1 x2 x3 x4 x5 x6) (inb := _)

theorem list2 : kernelRun0_A.sl.HS0_5 c arg2 harg2 arg3 harg3 arg4 harg4 arg5 harg5 x0 x1 x2 x3 = scr2 x0 x1 x2 x3 := by
  unfold kernelRun0_A.sl.HS0_5 scr2 piece
  simp only [list1, kernelRun0_A.sl.r, kernelRun0_A.sl.r_13, View.readAt_eq_ld, harg2.read_unread, harg3.read_unread, harg4.read_unread, harg5.read_unread]
  rfl

theorem tile2 : kernelRun0_A.sl.v139 c arg2 harg2 arg3 harg3 arg4 harg4 arg5 harg5 arg17 x0 x1 x2 x3 = tile x0 x1 x2 x3 x4 x5 x6 1024 (by omega) := by
  unfold kernelRun0_A.sl.v139
  rw [list2]
  exact read_tile (arg17 := arg17) (x0 := x0) (x1 := x1) (x2 := x2) (x3 := x3) (x4 := x4) (x5 := x5) (x6 := x6) (ho := by omega) (hn := le_refl _) (hL := good2 x0 x1 x2 x3 x4 x5 x6) (inb := _)

theorem list3 : kernelRun0_A.sl.HS0_6 c arg2 harg2 arg3 harg3 arg4 harg4 arg5 harg5 x0 x1 x2 x3 = scr3 x0 x1 x2 x3 := by
  unfold kernelRun0_A.sl.HS0_6 scr3 piece
  simp only [list2, kernelRun0_A.sl.r, kernelRun0_A.sl.r_13, View.readAt_eq_ld, harg2.read_unread, harg3.read_unread, harg4.read_unread, harg5.read_unread]
  rfl

theorem tile3 : kernelRun0_A.sl.v198 c arg2 harg2 arg3 harg3 arg4 harg4 arg5 harg5 arg17 x0 x1 x2 x3 = tile x0 x1 x2 x3 x4 x5 x6 1536 (by omega) := by
  unfold kernelRun0_A.sl.v198
  rw [list3]
  exact read_tile (arg17 := arg17) (x0 := x0) (x1 := x1) (x2 := x2) (x3 := x3) (x4 := x4) (x5 := x5) (x6 := x6) (ho := by omega) (hn := le_refl _) (hL := good3 x0 x1 x2 x3 x4 x5 x6) (inb := _)

theorem list4 : kernelRun0_A.sl.HS0_7 c arg2 harg2 arg3 harg3 arg4 harg4 arg5 harg5 x0 x1 x2 x3 = scr4 x0 x1 x2 x3 := by
  unfold kernelRun0_A.sl.HS0_7 scr4 piece
  simp only [list3, kernelRun0_A.sl.r, kernelRun0_A.sl.r_13, View.readAt_eq_ld, harg2.read_unread, harg3.read_unread, harg4.read_unread, harg5.read_unread]
  rfl

theorem tile4 : kernelRun0_A.sl.v257 c arg2 harg2 arg3 harg3 arg4 harg4 arg5 harg5 arg17 x0 x1 x2 x3 = tile x0 x1 x2 x3 x4 x5 x6 2048 (by omega) := by
  unfold kernelRun0_A.sl.v257
  rw [list4]
  exact read_tile (arg17 := arg17) (x0 := x0) (x1 := x1) (x2 := x2) (x3 := x3) (x4 := x4) (x5 := x5) (x6 := x6) (ho := by omega) (hn := le_refl _) (hL := good4 x0 x1 x2 x3 x4 x5 x6) (inb := _)

theorem list5 : kernelRun0_A.sl.HS0_8 c arg2 harg2 arg3 harg3 arg4 harg4 arg5 harg5 x0 x1 x2 x3 = scr5 x0 x1 x2 x3 := by
  unfold kernelRun0_A.sl.HS0_8 scr5 piece
  simp only [list4, kernelRun0_A.sl.r, kernelRun0_A.sl.r_13, View.readAt_eq_ld, harg2.read_unread, harg3.read_unread, harg4.read_unread, harg5.read_unread]
  rfl

theorem tile5 : kernelRun0_A.sl.v333 c arg2 harg2 arg3 harg3 arg4 harg4 arg5 harg5 arg17 x0 x1 x2 x3 = tile x0 x1 x2 x3 x4 x5 x6 2560 (by omega) := by
  unfold kernelRun0_A.sl.v333
  rw [list5]
  exact read_tile (arg17 := arg17) (x0 := x0) (x1 := x1) (x2 := x2) (x3 := x3) (x4 := x4) (x5 := x5) (x6 := x6) (ho := by omega) (hn := le_refl _) (hL := good5 x0 x1 x2 x3 x4 x5 x6) (inb := _)

/-- The rows, as the run names them. -/
theorem hmat_eq : kernelRun0_A.sl.r c arg2 harg2 arg3 harg3 x0 x1 = hmat x0 x1 := by
  unfold kernelRun0_A.sl.r hmat
  simp only [View.readAt_eq_ld, harg2.read_unread, harg3.read_unread]

theorem pieces7 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).1 = [⟨Rect.unit ![0, 0, 2560] S32x8x512.size inb_S32x8x3072_S32x8x512_0_0_2560, k0_pay17 (tile x0 x1 x2 x3 x4 x5 x6 2560 (by omega)) (View.ld x5 (Rect.unit ![0, 2560] S1x512.size inb_S4x3072_S1x512_0_2560)) (View.ld x5 (Rect.unit ![1, 2560] S1x512.size inb_S4x3072_S1x512_1_2560)) (View.ld x5 (Rect.unit ![2, 2560] S1x512.size inb_S4x3072_S1x512_2_2560)) (View.ld x5 (Rect.unit ![3, 2560] S1x512.size inb_S4x3072_S1x512_3_2560))⟩, ⟨Rect.unit ![0, 0, 2048] S32x8x512.size inb_S32x8x3072_S32x8x512_0_0_2048, k0_pay17 (tile x0 x1 x2 x3 x4 x5 x6 2048 (by omega)) (View.ld x5 (Rect.unit ![0, 2048] S1x512.size inb_S4x3072_S1x512_0_2048)) (View.ld x5 (Rect.unit ![1, 2048] S1x512.size inb_S4x3072_S1x512_1_2048)) (View.ld x5 (Rect.unit ![2, 2048] S1x512.size inb_S4x3072_S1x512_2_2048)) (View.ld x5 (Rect.unit ![3, 2048] S1x512.size inb_S4x3072_S1x512_3_2048))⟩, ⟨Rect.unit ![0, 0, 1536] S32x8x512.size inb_S32x8x3072_S32x8x512_0_0_1536, k0_pay17 (tile x0 x1 x2 x3 x4 x5 x6 1536 (by omega)) (View.ld x5 (Rect.unit ![0, 1536] S1x512.size inb_S4x3072_S1x512_0_1536)) (View.ld x5 (Rect.unit ![1, 1536] S1x512.size inb_S4x3072_S1x512_1_1536)) (View.ld x5 (Rect.unit ![2, 1536] S1x512.size inb_S4x3072_S1x512_2_1536)) (View.ld x5 (Rect.unit ![3, 1536] S1x512.size inb_S4x3072_S1x512_3_1536))⟩, ⟨Rect.unit ![0, 0, 1024] S32x8x512.size inb_S32x8x3072_S32x8x512_0_0_1024, k0_pay17 (tile x0 x1 x2 x3 x4 x5 x6 1024 (by omega)) (View.ld x5 (Rect.unit ![0, 1024] S1x512.size inb_S4x3072_S1x512_0_1024)) (View.ld x5 (Rect.unit ![1, 1024] S1x512.size inb_S4x3072_S1x512_1_1024)) (View.ld x5 (Rect.unit ![2, 1024] S1x512.size inb_S4x3072_S1x512_2_1024)) (View.ld x5 (Rect.unit ![3, 1024] S1x512.size inb_S4x3072_S1x512_3_1024))⟩, ⟨Rect.unit ![0, 0, 512] S32x8x512.size inb_S32x8x3072_S32x8x512_0_0_512, k0_pay17 (tile x0 x1 x2 x3 x4 x5 x6 512 (by omega)) (View.ld x5 (Rect.unit ![0, 512] S1x512.size inb_S4x3072_S1x512_0_512)) (View.ld x5 (Rect.unit ![1, 512] S1x512.size inb_S4x3072_S1x512_1_512)) (View.ld x5 (Rect.unit ![2, 512] S1x512.size inb_S4x3072_S1x512_2_512)) (View.ld x5 (Rect.unit ![3, 512] S1x512.size inb_S4x3072_S1x512_3_512))⟩, ⟨Rect.unit ![0, 0, 0] S32x8x512.size inb_S32x8x3072_S32x8x512_0_0_0, k0_pay17 (tile x0 x1 x2 x3 x4 x5 x6 0 (by omega)) (View.ld x5 (Rect.unit ![0, 0] S1x512.size inb_S4x3072_S1x512_0_0)) (View.ld x5 (Rect.unit ![1, 0] S1x512.size inb_S4x3072_S1x512_1_0)) (View.ld x5 (Rect.unit ![2, 0] S1x512.size inb_S4x3072_S1x512_2_0)) (View.ld x5 (Rect.unit ![3, 0] S1x512.size inb_S4x3072_S1x512_3_0))⟩] := by
  unfold kernelRun0_A
  dsimp only
  simp only [hmat_eq, tile0 (x4 := x4) (x5 := x5) (x6 := x6), tile1 (x4 := x4) (x5 := x5) (x6 := x6), tile2 (x4 := x4) (x5 := x5) (x6 := x6), tile3 (x4 := x4) (x5 := x5) (x6 := x6), tile4 (x4 := x4) (x5 := x5) (x6 := x6), tile5 (x4 := x4) (x5 := x5) (x6 := x6), kernelRun0_A.sl.cst_159, kernelRun0_A.sl.cst_159, kernelRun0_A.sl.r_1, kernelRun0_A.sl.r_1, kernelRun0_A.sl.r_10, kernelRun0_A.sl.r_10, kernelRun0_A.sl.r_11, kernelRun0_A.sl.r_11, kernelRun0_A.sl.r_12, kernelRun0_A.sl.r_12, kernelRun0_A.sl.r_13, kernelRun0_A.sl.r_13, kernelRun0_A.sl.r_14, kernelRun0_A.sl.r_14, kernelRun0_A.sl.r_15, kernelRun0_A.sl.r_15, kernelRun0_A.sl.r_16, kernelRun0_A.sl.r_16, kernelRun0_A.sl.r_17, kernelRun0_A.sl.r_17, kernelRun0_A.sl.r_18, kernelRun0_A.sl.r_18, kernelRun0_A.sl.r_19, kernelRun0_A.sl.r_19, kernelRun0_A.sl.r_2, kernelRun0_A.sl.r_2, kernelRun0_A.sl.r_20, kernelRun0_A.sl.r_20, kernelRun0_A.sl.r_21, kernelRun0_A.sl.r_21, kernelRun0_A.sl.r_22, kernelRun0_A.sl.r_22, kernelRun0_A.sl.r_23, kernelRun0_A.sl.r_23, kernelRun0_A.sl.r_3, kernelRun0_A.sl.r_3, kernelRun0_A.sl.r_4, kernelRun0_A.sl.r_4, kernelRun0_A.sl.r_5, kernelRun0_A.sl.r_5, kernelRun0_A.sl.r_6, kernelRun0_A.sl.r_6, kernelRun0_A.sl.r_7, kernelRun0_A.sl.r_7, kernelRun0_A.sl.r_8, kernelRun0_A.sl.r_8, kernelRun0_A.sl.r_9, kernelRun0_A.sl.r_9, View.readAt_eq_ld, harg5.read_unread, harg6.read_unread, harg7.read_unread, harg8.read_unread, conv_a, conv_b, conv_c, conv_d, conv_e, proj_a, proj_b, query_a, gate_a, gate_b, gate_c]
  try rfl

/-- The first output: the convolved columns. -/
theorem out7_apply (b : Fin 32) (t : Fin 8) (l : Fin 3072) : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b t l) = cs (wts x3 x4 x5 x6) (seq x0 x1 x2 b) t l := by
  unfold out0_A_7
  rw [View.read_writes_junk_eq_canon, pieces7]
  refine Cols.apply (e := .f32) (f := fun b t l => cs (wts x3 x4 x5 x6) (seq x0 x1 x2 b) t l) ?_ b t l
  refine cols_cons _ _ 2560 512 _ _ (fun b t l h => ?_) ?_
  · exact conv_apply x0 x1 x2 x3 x4 x5 x6 2560 _ _ _ _ _ b t l
  refine cols_cons _ _ 2048 512 _ _ (fun b t l h => ?_) ?_
  · exact conv_apply x0 x1 x2 x3 x4 x5 x6 2048 _ _ _ _ _ b t l
  refine cols_cons _ _ 1536 512 _ _ (fun b t l h => ?_) ?_
  · exact conv_apply x0 x1 x2 x3 x4 x5 x6 1536 _ _ _ _ _ b t l
  refine cols_cons _ _ 1024 512 _ _ (fun b t l h => ?_) ?_
  · exact conv_apply x0 x1 x2 x3 x4 x5 x6 1024 _ _ _ _ _ b t l
  refine cols_cons _ _ 512 512 _ _ (fun b t l h => ?_) ?_
  · exact conv_apply x0 x1 x2 x3 x4 x5 x6 512 _ _ _ _ _ b t l
  refine cols_cons _ _ 0 512 _ _ (fun b t l h => ?_) ?_
  · exact conv_apply x0 x1 x2 x3 x4 x5 x6 0 _ _ _ _ _ b t l
  exact cols_nil _

theorem pieces8 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.1 = [⟨Rect.unit ![0, 0, 512] S32x8x512.size inb_S32x8x1024_S32x8x512_0_0_512, k0_pay9 (hmat x0 x1) (View.ld x3 (Rect.unit ![0, 0, 3584] S1x1024x512.size inb_S1x1024x7680_S1x1024x512_0_0_3584))⟩, ⟨Rect.unit ![0, 0, 0] S32x8x512.size inb_S32x8x1024_S32x8x512_0_0_0, k0_pay9 (hmat x0 x1) (View.ld x3 (Rect.unit ![0, 0, 3072] S1x1024x512.size inb_S1x1024x7680_S1x1024x512_0_0_3072))⟩] := by
  unfold kernelRun0_A
  dsimp only
  simp only [hmat_eq, tile0 (x4 := x4) (x5 := x5) (x6 := x6), tile1 (x4 := x4) (x5 := x5) (x6 := x6), tile2 (x4 := x4) (x5 := x5) (x6 := x6), tile3 (x4 := x4) (x5 := x5) (x6 := x6), tile4 (x4 := x4) (x5 := x5) (x6 := x6), tile5 (x4 := x4) (x5 := x5) (x6 := x6), kernelRun0_A.sl.cst_159, kernelRun0_A.sl.cst_159, kernelRun0_A.sl.r_1, kernelRun0_A.sl.r_1, kernelRun0_A.sl.r_10, kernelRun0_A.sl.r_10, kernelRun0_A.sl.r_11, kernelRun0_A.sl.r_11, kernelRun0_A.sl.r_12, kernelRun0_A.sl.r_12, kernelRun0_A.sl.r_13, kernelRun0_A.sl.r_13, kernelRun0_A.sl.r_14, kernelRun0_A.sl.r_14, kernelRun0_A.sl.r_15, kernelRun0_A.sl.r_15, kernelRun0_A.sl.r_16, kernelRun0_A.sl.r_16, kernelRun0_A.sl.r_17, kernelRun0_A.sl.r_17, kernelRun0_A.sl.r_18, kernelRun0_A.sl.r_18, kernelRun0_A.sl.r_19, kernelRun0_A.sl.r_19, kernelRun0_A.sl.r_2, kernelRun0_A.sl.r_2, kernelRun0_A.sl.r_20, kernelRun0_A.sl.r_20, kernelRun0_A.sl.r_21, kernelRun0_A.sl.r_21, kernelRun0_A.sl.r_22, kernelRun0_A.sl.r_22, kernelRun0_A.sl.r_23, kernelRun0_A.sl.r_23, kernelRun0_A.sl.r_3, kernelRun0_A.sl.r_3, kernelRun0_A.sl.r_4, kernelRun0_A.sl.r_4, kernelRun0_A.sl.r_5, kernelRun0_A.sl.r_5, kernelRun0_A.sl.r_6, kernelRun0_A.sl.r_6, kernelRun0_A.sl.r_7, kernelRun0_A.sl.r_7, kernelRun0_A.sl.r_8, kernelRun0_A.sl.r_8, kernelRun0_A.sl.r_9, kernelRun0_A.sl.r_9, View.readAt_eq_ld, harg5.read_unread, harg6.read_unread, harg7.read_unread, harg8.read_unread, conv_a, conv_b, conv_c, conv_d, conv_e, proj_a, proj_b, query_a, gate_a, gate_b, gate_c]
  try rfl

/-- The second output: the output gate. -/
theorem out8_apply (b : Fin 32) (t : Fin 8) (l : Fin 1024) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b t l) = main (wts x3 x4 x5 x6) (seq x0 x1 x2 b) t ⟨3072 + l.val, by omega⟩ := by
  unfold out0_A_8
  rw [View.read_writes_junk_eq_canon, pieces8]
  refine Cols.apply (e := .f32) (f := fun b t l => main (wts x3 x4 x5 x6) (seq x0 x1 x2 b) t ⟨3072 + l.val, by omega⟩) ?_ b t l
  refine cols_cons _ _ 512 512 _ _ (fun b t l h => ?_) ?_
  · refine (proj_apply x0 x1 x2 x3 x4 x5 x6 3584 _ b t l (by omega)).trans (congrArg (main _ _ t) (Fin.ext (by dsimp only; omega)))
  refine cols_cons _ _ 0 512 _ _ (fun b t l h => ?_) ?_
  · refine (proj_apply x0 x1 x2 x3 x4 x5 x6 3072 _ b t l (by omega)).trans (congrArg (main _ _ t) (Fin.ext (by dsimp only; omega)))
  exact cols_nil _

theorem pieces9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.1 = [⟨Rect.unit ![0, 0, 0] ![32, 8, 128] inb_S32x8x128_S32x8x128_0_0_0, k0_pay1 (k0_pay50 (hmat x0 x1) (View.ld x4 (Rect.unit ![0, 0, 0] S1x1024x128.size inb_S1x1024x128_S1x1024x128_0_0_0)) (View.ld x6 (Rect.unit ![1, 0] S1x128.size inb_S2x128_S1x128_1_0)) (View.ld x6 (Rect.unit ![0, 0] S1x128.size inb_S2x128_S1x128_0_0)))⟩] := by
  unfold kernelRun0_A
  dsimp only
  simp only [hmat_eq, tile0 (x4 := x4) (x5 := x5) (x6 := x6), tile1 (x4 := x4) (x5 := x5) (x6 := x6), tile2 (x4 := x4) (x5 := x5) (x6 := x6), tile3 (x4 := x4) (x5 := x5) (x6 := x6), tile4 (x4 := x4) (x5 := x5) (x6 := x6), tile5 (x4 := x4) (x5 := x5) (x6 := x6), kernelRun0_A.sl.cst_159, kernelRun0_A.sl.cst_159, kernelRun0_A.sl.r_1, kernelRun0_A.sl.r_1, kernelRun0_A.sl.r_10, kernelRun0_A.sl.r_10, kernelRun0_A.sl.r_11, kernelRun0_A.sl.r_11, kernelRun0_A.sl.r_12, kernelRun0_A.sl.r_12, kernelRun0_A.sl.r_13, kernelRun0_A.sl.r_13, kernelRun0_A.sl.r_14, kernelRun0_A.sl.r_14, kernelRun0_A.sl.r_15, kernelRun0_A.sl.r_15, kernelRun0_A.sl.r_16, kernelRun0_A.sl.r_16, kernelRun0_A.sl.r_17, kernelRun0_A.sl.r_17, kernelRun0_A.sl.r_18, kernelRun0_A.sl.r_18, kernelRun0_A.sl.r_19, kernelRun0_A.sl.r_19, kernelRun0_A.sl.r_2, kernelRun0_A.sl.r_2, kernelRun0_A.sl.r_20, kernelRun0_A.sl.r_20, kernelRun0_A.sl.r_21, kernelRun0_A.sl.r_21, kernelRun0_A.sl.r_22, kernelRun0_A.sl.r_22, kernelRun0_A.sl.r_23, kernelRun0_A.sl.r_23, kernelRun0_A.sl.r_3, kernelRun0_A.sl.r_3, kernelRun0_A.sl.r_4, kernelRun0_A.sl.r_4, kernelRun0_A.sl.r_5, kernelRun0_A.sl.r_5, kernelRun0_A.sl.r_6, kernelRun0_A.sl.r_6, kernelRun0_A.sl.r_7, kernelRun0_A.sl.r_7, kernelRun0_A.sl.r_8, kernelRun0_A.sl.r_8, kernelRun0_A.sl.r_9, kernelRun0_A.sl.r_9, View.readAt_eq_ld, harg5.read_unread, harg6.read_unread, harg7.read_unread, harg8.read_unread, conv_a, conv_b, conv_c, conv_d, conv_e, proj_a, proj_b, query_a, gate_a, gate_b, gate_c]
  try rfl

/-- The third output: the packed gates. -/
theorem out9_apply (b : Fin 32) (t : Fin 8) (l : Fin 128) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b t l) = gb (wts x3 x4 x5 x6) (seq x0 x1 x2 b) t l := by
  unfold out0_A_9
  rw [View.read_writes_junk_eq_canon, pieces9]
  refine Cols.apply (e := .f32) (f := fun b t l => gb (wts x3 x4 x5 x6) (seq x0 x1 x2 b) t l) ?_ b t l
  refine cols_cons _ _ 0 128 _ _ (fun b t l h => ?_) ?_
  · refine (gb_apply x0 x1 x2 x3 x4 x5 x6 b t l).trans (congrArg (gb _ _ t) (Fin.ext (by dsimp only; omega)))
  exact cols_nil _

theorem pieces10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.1 = [⟨Rect.unit ![0, 0, 512] S32x8x512.size inb_S32x8x1024_S32x8x512_0_0_512, k0_pay27 (hmat x0 x1) (View.ld x3 (Rect.unit ![0, 0, 4608] S1x1024x512.size inb_S1x1024x7680_S1x1024x512_0_0_4608))⟩, ⟨Rect.unit ![0, 0, 0] S32x8x512.size inb_S32x8x1024_S32x8x512_0_0_0, k0_pay27 (hmat x0 x1) (View.ld x3 (Rect.unit ![0, 0, 4096] S1x1024x512.size inb_S1x1024x7680_S1x1024x512_0_0_4096))⟩] := by
  unfold kernelRun0_A
  dsimp only
  simp only [hmat_eq, tile0 (x4 := x4) (x5 := x5) (x6 := x6), tile1 (x4 := x4) (x5 := x5) (x6 := x6), tile2 (x4 := x4) (x5 := x5) (x6 := x6), tile3 (x4 := x4) (x5 := x5) (x6 := x6), tile4 (x4 := x4) (x5 := x5) (x6 := x6), tile5 (x4 := x4) (x5 := x5) (x6 := x6), kernelRun0_A.sl.cst_159, kernelRun0_A.sl.cst_159, kernelRun0_A.sl.r_1, kernelRun0_A.sl.r_1, kernelRun0_A.sl.r_10, kernelRun0_A.sl.r_10, kernelRun0_A.sl.r_11, kernelRun0_A.sl.r_11, kernelRun0_A.sl.r_12, kernelRun0_A.sl.r_12, kernelRun0_A.sl.r_13, kernelRun0_A.sl.r_13, kernelRun0_A.sl.r_14, kernelRun0_A.sl.r_14, kernelRun0_A.sl.r_15, kernelRun0_A.sl.r_15, kernelRun0_A.sl.r_16, kernelRun0_A.sl.r_16, kernelRun0_A.sl.r_17, kernelRun0_A.sl.r_17, kernelRun0_A.sl.r_18, kernelRun0_A.sl.r_18, kernelRun0_A.sl.r_19, kernelRun0_A.sl.r_19, kernelRun0_A.sl.r_2, kernelRun0_A.sl.r_2, kernelRun0_A.sl.r_20, kernelRun0_A.sl.r_20, kernelRun0_A.sl.r_21, kernelRun0_A.sl.r_21, kernelRun0_A.sl.r_22, kernelRun0_A.sl.r_22, kernelRun0_A.sl.r_23, kernelRun0_A.sl.r_23, kernelRun0_A.sl.r_3, kernelRun0_A.sl.r_3, kernelRun0_A.sl.r_4, kernelRun0_A.sl.r_4, kernelRun0_A.sl.r_5, kernelRun0_A.sl.r_5, kernelRun0_A.sl.r_6, kernelRun0_A.sl.r_6, kernelRun0_A.sl.r_7, kernelRun0_A.sl.r_7, kernelRun0_A.sl.r_8, kernelRun0_A.sl.r_8, kernelRun0_A.sl.r_9, kernelRun0_A.sl.r_9, View.readAt_eq_ld, harg5.read_unread, harg6.read_unread, harg7.read_unread, harg8.read_unread, conv_a, conv_b, conv_c, conv_d, conv_e, proj_a, proj_b, query_a, gate_a, gate_b, gate_c]
  try rfl

/-- The fourth output: the queries, scaled. -/
theorem out10_apply (b : Fin 32) (t : Fin 8) (l : Fin 1024) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b t l) = main (wts x3 x4 x5 x6) (seq x0 x1 x2 b) t ⟨4096 + l.val, by omega⟩ * Ideal.ofBits .f32 0x3E000000#32 := by
  unfold out0_A_10
  rw [View.read_writes_junk_eq_canon, pieces10]
  refine Cols.apply (e := .bf16) (f := fun b t l => main (wts x3 x4 x5 x6) (seq x0 x1 x2 b) t ⟨4096 + l.val, by omega⟩ * Ideal.ofBits .f32 0x3E000000#32) ?_ b t l
  refine cols_cons _ _ 512 512 _ _ (fun b t l h => ?_) ?_
  · refine (query_apply x0 x1 x2 x3 x4 x5 x6 4608 _ b t l (by omega)).trans (congrArg (fun n => main _ _ t n * _) (Fin.ext (by dsimp only; omega)))
  refine cols_cons _ _ 0 512 _ _ (fun b t l h => ?_) ?_
  · refine (query_apply x0 x1 x2 x3 x4 x5 x6 4096 _ b t l (by omega)).trans (congrArg (fun n => main _ _ t n * _) (Fin.ext (by dsimp only; omega)))
  exact cols_nil _

theorem pieces11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.1 = [⟨Rect.unit ![0, 0, 0] S32x8x256.size inb_S32x8x256_S32x8x256_0_0_0, k0_pay34 (hmat x0 x1) (View.ld x3 (Rect.unit ![0, 0, 5120] S1x1024x512.size inb_S1x1024x7680_S1x1024x512_0_0_5120))⟩] := by
  unfold kernelRun0_A
  dsimp only
  simp only [hmat_eq, tile0 (x4 := x4) (x5 := x5) (x6 := x6), tile1 (x4 := x4) (x5 := x5) (x6 := x6), tile2 (x4 := x4) (x5 := x5) (x6 := x6), tile3 (x4 := x4) (x5 := x5) (x6 := x6), tile4 (x4 := x4) (x5 := x5) (x6 := x6), tile5 (x4 := x4) (x5 := x5) (x6 := x6), kernelRun0_A.sl.cst_159, kernelRun0_A.sl.cst_159, kernelRun0_A.sl.r_1, kernelRun0_A.sl.r_1, kernelRun0_A.sl.r_10, kernelRun0_A.sl.r_10, kernelRun0_A.sl.r_11, kernelRun0_A.sl.r_11, kernelRun0_A.sl.r_12, kernelRun0_A.sl.r_12, kernelRun0_A.sl.r_13, kernelRun0_A.sl.r_13, kernelRun0_A.sl.r_14, kernelRun0_A.sl.r_14, kernelRun0_A.sl.r_15, kernelRun0_A.sl.r_15, kernelRun0_A.sl.r_16, kernelRun0_A.sl.r_16, kernelRun0_A.sl.r_17, kernelRun0_A.sl.r_17, kernelRun0_A.sl.r_18, kernelRun0_A.sl.r_18, kernelRun0_A.sl.r_19, kernelRun0_A.sl.r_19, kernelRun0_A.sl.r_2, kernelRun0_A.sl.r_2, kernelRun0_A.sl.r_20, kernelRun0_A.sl.r_20, kernelRun0_A.sl.r_21, kernelRun0_A.sl.r_21, kernelRun0_A.sl.r_22, kernelRun0_A.sl.r_22, kernelRun0_A.sl.r_23, kernelRun0_A.sl.r_23, kernelRun0_A.sl.r_3, kernelRun0_A.sl.r_3, kernelRun0_A.sl.r_4, kernelRun0_A.sl.r_4, kernelRun0_A.sl.r_5, kernelRun0_A.sl.r_5, kernelRun0_A.sl.r_6, kernelRun0_A.sl.r_6, kernelRun0_A.sl.r_7, kernelRun0_A.sl.r_7, kernelRun0_A.sl.r_8, kernelRun0_A.sl.r_8, kernelRun0_A.sl.r_9, kernelRun0_A.sl.r_9, View.readAt_eq_ld, harg5.read_unread, harg6.read_unread, harg7.read_unread, harg8.read_unread, conv_a, conv_b, conv_c, conv_d, conv_e, proj_a, proj_b, query_a, gate_a, gate_b, gate_c]
  try rfl

/-- The fifth output: the keys. -/
theorem out11_apply (b : Fin 32) (t : Fin 8) (l : Fin 256) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b t l) = main (wts x3 x4 x5 x6) (seq x0 x1 x2 b) t ⟨5120 + l.val, by omega⟩ := by
  unfold out0_A_11
  rw [View.read_writes_junk_eq_canon, pieces11]
  refine Cols.apply (e := .f32) (f := fun b t l => main (wts x3 x4 x5 x6) (seq x0 x1 x2 b) t ⟨5120 + l.val, by omega⟩) ?_ b t l
  refine cols_cons _ _ 0 256 _ _ (fun b t l h => ?_) ?_
  · refine (key_apply x0 x1 x2 x3 x4 x5 x6 _ b t l).trans (congrArg (main _ _ t) (Fin.ext (by dsimp only; omega)))
  exact cols_nil _

theorem pieces12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.2.1 = [⟨Rect.unit ![0, 0, 0] S32x8x256.size inb_S32x8x256_S32x8x256_0_0_0, k0_pay35 (hmat x0 x1) (View.ld x3 (Rect.unit ![0, 0, 5120] S1x1024x512.size inb_S1x1024x7680_S1x1024x512_0_0_5120))⟩] := by
  unfold kernelRun0_A
  dsimp only
  simp only [hmat_eq, tile0 (x4 := x4) (x5 := x5) (x6 := x6), tile1 (x4 := x4) (x5 := x5) (x6 := x6), tile2 (x4 := x4) (x5 := x5) (x6 := x6), tile3 (x4 := x4) (x5 := x5) (x6 := x6), tile4 (x4 := x4) (x5 := x5) (x6 := x6), tile5 (x4 := x4) (x5 := x5) (x6 := x6), kernelRun0_A.sl.cst_159, kernelRun0_A.sl.cst_159, kernelRun0_A.sl.r_1, kernelRun0_A.sl.r_1, kernelRun0_A.sl.r_10, kernelRun0_A.sl.r_10, kernelRun0_A.sl.r_11, kernelRun0_A.sl.r_11, kernelRun0_A.sl.r_12, kernelRun0_A.sl.r_12, kernelRun0_A.sl.r_13, kernelRun0_A.sl.r_13, kernelRun0_A.sl.r_14, kernelRun0_A.sl.r_14, kernelRun0_A.sl.r_15, kernelRun0_A.sl.r_15, kernelRun0_A.sl.r_16, kernelRun0_A.sl.r_16, kernelRun0_A.sl.r_17, kernelRun0_A.sl.r_17, kernelRun0_A.sl.r_18, kernelRun0_A.sl.r_18, kernelRun0_A.sl.r_19, kernelRun0_A.sl.r_19, kernelRun0_A.sl.r_2, kernelRun0_A.sl.r_2, kernelRun0_A.sl.r_20, kernelRun0_A.sl.r_20, kernelRun0_A.sl.r_21, kernelRun0_A.sl.r_21, kernelRun0_A.sl.r_22, kernelRun0_A.sl.r_22, kernelRun0_A.sl.r_23, kernelRun0_A.sl.r_23, kernelRun0_A.sl.r_3, kernelRun0_A.sl.r_3, kernelRun0_A.sl.r_4, kernelRun0_A.sl.r_4, kernelRun0_A.sl.r_5, kernelRun0_A.sl.r_5, kernelRun0_A.sl.r_6, kernelRun0_A.sl.r_6, kernelRun0_A.sl.r_7, kernelRun0_A.sl.r_7, kernelRun0_A.sl.r_8, kernelRun0_A.sl.r_8, kernelRun0_A.sl.r_9, kernelRun0_A.sl.r_9, View.readAt_eq_ld, harg5.read_unread, harg6.read_unread, harg7.read_unread, harg8.read_unread, conv_a, conv_b, conv_c, conv_d, conv_e, proj_a, proj_b, query_a, gate_a, gate_b, gate_c]
  try rfl

/-- The sixth output: the values. -/
theorem out12_apply (b : Fin 32) (t : Fin 8) (l : Fin 256) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b t l) = main (wts x3 x4 x5 x6) (seq x0 x1 x2 b) t ⟨5376 + l.val, by omega⟩ := by
  unfold out0_A_12
  rw [View.read_writes_junk_eq_canon, pieces12]
  refine Cols.apply (e := .f32) (f := fun b t l => main (wts x3 x4 x5 x6) (seq x0 x1 x2 b) t ⟨5376 + l.val, by omega⟩) ?_ b t l
  refine cols_cons _ _ 0 256 _ _ (fun b t l h => ?_) ?_
  · refine (value_apply x0 x1 x2 x3 x4 x5 x6 _ b t l).trans (congrArg (main _ _ t) (Fin.ext (by dsimp only; omega)))
  exact cols_nil _

theorem pieces13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.2.2.1 = [⟨Rect.unit ![0, 0, 1536] S32x8x512.size inb_S32x8x2048_S32x8x512_0_0_1536, k0_pay36 (hmat x0 x1) (View.ld x3 (Rect.unit ![0, 0, 7168] S1x1024x512.size inb_S1x1024x7680_S1x1024x512_0_0_7168))⟩, ⟨Rect.unit ![0, 0, 1024] S32x8x512.size inb_S32x8x2048_S32x8x512_0_0_1024, k0_pay36 (hmat x0 x1) (View.ld x3 (Rect.unit ![0, 0, 6656] S1x1024x512.size inb_S1x1024x7680_S1x1024x512_0_0_6656))⟩, ⟨Rect.unit ![0, 0, 512] S32x8x512.size inb_S32x8x2048_S32x8x512_0_0_512, k0_pay36 (hmat x0 x1) (View.ld x3 (Rect.unit ![0, 0, 6144] S1x1024x512.size inb_S1x1024x7680_S1x1024x512_0_0_6144))⟩, ⟨Rect.unit ![0, 0, 0] S32x8x512.size inb_S32x8x2048_S32x8x512_0_0_0, k0_pay36 (hmat x0 x1) (View.ld x3 (Rect.unit ![0, 0, 5632] S1x1024x512.size inb_S1x1024x7680_S1x1024x512_0_0_5632))⟩] := by
  unfold kernelRun0_A
  dsimp only
  simp only [hmat_eq, tile0 (x4 := x4) (x5 := x5) (x6 := x6), tile1 (x4 := x4) (x5 := x5) (x6 := x6), tile2 (x4 := x4) (x5 := x5) (x6 := x6), tile3 (x4 := x4) (x5 := x5) (x6 := x6), tile4 (x4 := x4) (x5 := x5) (x6 := x6), tile5 (x4 := x4) (x5 := x5) (x6 := x6), kernelRun0_A.sl.cst_159, kernelRun0_A.sl.cst_159, kernelRun0_A.sl.r_1, kernelRun0_A.sl.r_1, kernelRun0_A.sl.r_10, kernelRun0_A.sl.r_10, kernelRun0_A.sl.r_11, kernelRun0_A.sl.r_11, kernelRun0_A.sl.r_12, kernelRun0_A.sl.r_12, kernelRun0_A.sl.r_13, kernelRun0_A.sl.r_13, kernelRun0_A.sl.r_14, kernelRun0_A.sl.r_14, kernelRun0_A.sl.r_15, kernelRun0_A.sl.r_15, kernelRun0_A.sl.r_16, kernelRun0_A.sl.r_16, kernelRun0_A.sl.r_17, kernelRun0_A.sl.r_17, kernelRun0_A.sl.r_18, kernelRun0_A.sl.r_18, kernelRun0_A.sl.r_19, kernelRun0_A.sl.r_19, kernelRun0_A.sl.r_2, kernelRun0_A.sl.r_2, kernelRun0_A.sl.r_20, kernelRun0_A.sl.r_20, kernelRun0_A.sl.r_21, kernelRun0_A.sl.r_21, kernelRun0_A.sl.r_22, kernelRun0_A.sl.r_22, kernelRun0_A.sl.r_23, kernelRun0_A.sl.r_23, kernelRun0_A.sl.r_3, kernelRun0_A.sl.r_3, kernelRun0_A.sl.r_4, kernelRun0_A.sl.r_4, kernelRun0_A.sl.r_5, kernelRun0_A.sl.r_5, kernelRun0_A.sl.r_6, kernelRun0_A.sl.r_6, kernelRun0_A.sl.r_7, kernelRun0_A.sl.r_7, kernelRun0_A.sl.r_8, kernelRun0_A.sl.r_8, kernelRun0_A.sl.r_9, kernelRun0_A.sl.r_9, View.readAt_eq_ld, harg5.read_unread, harg6.read_unread, harg7.read_unread, harg8.read_unread, conv_a, conv_b, conv_c, conv_d, conv_e, proj_a, proj_b, query_a, gate_a, gate_b, gate_c]
  try rfl

/-- The seventh output: the gates of the two branches. -/
theorem out13_apply (b : Fin 32) (t : Fin 8) (l : Fin 2048) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b t l) = sig (main (wts x3 x4 x5 x6) (seq x0 x1 x2 b) t ⟨5632 + l.val, by omega⟩) := by
  unfold out0_A_13
  rw [View.read_writes_junk_eq_canon, pieces13]
  refine Cols.apply (e := .f32) (f := fun b t l => sig (main (wts x3 x4 x5 x6) (seq x0 x1 x2 b) t ⟨5632 + l.val, by omega⟩)) ?_ b t l
  refine cols_cons _ _ 1536 512 _ _ (fun b t l h => ?_) ?_
  · refine (gate_apply x0 x1 x2 x3 x4 x5 x6 7168 _ b t l (by omega)).trans (congrArg (fun n => sig (main _ _ t n)) (Fin.ext (by dsimp only; omega)))
  refine cols_cons _ _ 1024 512 _ _ (fun b t l h => ?_) ?_
  · refine (gate_apply x0 x1 x2 x3 x4 x5 x6 6656 _ b t l (by omega)).trans (congrArg (fun n => sig (main _ _ t n)) (Fin.ext (by dsimp only; omega)))
  refine cols_cons _ _ 512 512 _ _ (fun b t l h => ?_) ?_
  · refine (gate_apply x0 x1 x2 x3 x4 x5 x6 6144 _ b t l (by omega)).trans (congrArg (fun n => sig (main _ _ t n)) (Fin.ext (by dsimp only; omega)))
  refine cols_cons _ _ 0 512 _ _ (fun b t l h => ?_) ?_
  · refine (gate_apply x0 x1 x2 x3 x4 x5 x6 5632 _ b t l (by omega)).trans (congrArg (fun n => sig (main _ _ t n)) (Fin.ext (by dsimp only; omega)))
  exact cols_nil _

/-- The rows the convolution carries on, read back from the scratch. -/
theorem carry_apply (b : Fin 32) (j : Fin 3) (l : Fin 3072) :
    kernelRun0_A.sl.v417 c arg2 harg2 arg3 harg3 arg4 harg4 arg5 harg5 arg17 x0 x1 x2 x3 (ix3 b j l) = buf (wts x3 x4 x5 x6) (seq x0 x1 x2 b) ⟨13 + j.val, by omega⟩ l := by
  unfold kernelRun0_A.sl.v417
  rw [list5, View.readCov_eq_canon']
  have e : (Rect.unit (s := S32x16x3072) ![0, 13, 0] S32x3x3072.size inb_S32x16x3072_S32x3x3072_0_13_0).toLoadRect.idx (ix3 b j l) = ix3 b ⟨13 + j.val, by omega⟩ l := by
    funext a
    fin_cases a <;> refine Fin.ext ?_ <;> simp [Rect.idx_unit_val, ix3]
  refine (congrArg _ e).trans ?_
  exact good5 x0 x1 x2 x3 x4 x5 x6 b _ _ (Or.inr (by have := l.isLt; omega))

/-- The eighth output: the rows the convolution carries on. -/
theorem out14_apply (b : Fin 32) (j : Fin 3) (l : Fin 3072) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 b j l) = buf (wts x3 x4 x5 x6) (seq x0 x1 x2 b) ⟨13 + j.val, by omega⟩ l := by
  unfold out0_A_14
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6).2.2.2.2.2.2.2.1 = [⟨Rect.unit ![0, 0, 0] S32x3x3072.size inb_S32x3x3072_S32x3x3072_0_0_0, kernelRun0_A.sl.v417 c arg2 harg2 arg3 harg3 arg4 harg4 arg5 harg5 arg17 x0 x1 x2 x3⟩] := by
    unfold kernelRun0_A
    rfl
  rw [e]
  exact (canon_hit _ _ _ _ _ _ (ix3 b j l) (fun a => by fin_cases a <;> simp [ix3])).trans (carry_apply (x4 := x4) (x5 := x5) (x6 := x6) ..)

end Cert.FrontKernel

end
-- ==== Proof.FrontArray.lean ====
/- The front kernel's result arrays: what the grid points write back, put together. -/
module

public import proofs.«01_k».proof.Proof.Gen.FrontIdeal.Value
public import proofs.«01_k».proof.Proof.FrontPieces
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.FrontKernel

open Cert.FrontIdeal Cert.FrontIdeal.Gen Idealize.ShloMosaic Idealize.ShloMosaic.TcCoe Cert.FrontSpec

/-- Setting lanes 8 to 15 of row `r` to a vector. -/
def setRow (x0 : S2x128.Idx → EReal) (r : Fin 2) (u : S8.Idx → EReal) (j : Fin 2) (n : Fin 128) : EReal :=
  if h : j = r ∧ 8 ≤ n.val ∧ n.val < 16 then u (ix1 ⟨n.val - 8, by omega⟩) else x0 (ix2 j n)

/-- Where an update of the scatter lands. -/
theorem lands (w : IVec S2 32) (r : Fin 2) (h0 : (w (ix1 0)).toInt = r.val) (h1 : (w (ix1 1)).toInt = 8) (k : Fin 8) (j : Fin 2) (n : Fin 128) :
    scatter_S2x128_S2_S8_0_0_01_0.resultIdx? (ix1 k) w = some (ix2 j n) ↔ j = r ∧ n.val = 8 + k.val := by
  rw [Routing.resultIdx?_eq_some]
  have s0 : scatter_S2x128_S2_S8_0_0_01_0.start (ix1 k) w 0 = (w (ix1 0)).toInt := by
    unfold ScatterDims.start
    rw [dif_pos (by decide)]
    exact congrArg (fun q => (w q).toInt) (by blk_ext; rfl)
  have s1 : scatter_S2x128_S2_S8_0_0_01_0.start (ix1 k) w 1 = (w (ix1 1)).toInt := by
    unfold ScatterDims.start
    rw [dif_pos (by decide)]
    exact congrArg (fun q => (w q).toInt) (by blk_ext; rfl)
  have w0 : scatter_S2x128_S2_S8_0_0_01_0.window (ix1 k) 0 = 0 := by
    unfold ScatterDims.window
    rw [dif_neg (by decide)]
  have w1 : scatter_S2x128_S2_S8_0_0_01_0.window (ix1 k) 1 = k.val := by
    unfold ScatterDims.window
    rw [dif_pos (by decide)]
    rfl
  have e : (∀ a : Fin S2x128.rank, scatter_S2x128_S2_S8_0_0_01_0.start (ix1 k) w a + (scatter_S2x128_S2_S8_0_0_01_0.window (ix1 k) a : Int)
      = (((ix2 j n : S2x128.Idx) a).val : Int)) ↔ (r.val : Int) + ((0 : Nat) : Int) = (j.val : Int) ∧ (8 : Int) + (k.val : Int) = (n.val : Int) := by
    constructor
    · intro h
      have a0 := h 0
      have a1 := h 1
      rw [s0, h0, w0] at a0
      rw [s1, h1, w1] at a1
      exact ⟨a0, a1⟩
    · rintro ⟨a0, a1⟩
      refine Fin.forall_fin_two.2 ⟨?_, ?_⟩
      · rw [s0, h0, w0]; exact a0
      · rw [s1, h1, w1]; exact a1
  rw [e]
  have := j.isLt
  have := r.isLt
  constructor
  · rintro ⟨a, b⟩; exact ⟨Fin.ext (by omega), by omega⟩
  · rintro ⟨rfl, b⟩; exact ⟨by omega, by omega⟩

theorem scatter_apply (x0 : S2x128.Idx → EReal) (w : IVec S2 32) (r : Fin 2) (h0 : (w (ix1 0)).toInt = r.val) (h1 : (w (ix1 1)).toInt = 8)
    (u : S8.Idx → EReal) (j : Fin 2) (n : Fin 128) :
    Host.scatter scatter_S2x128_S2_S8_0_0_01_0 (fun _ b => b) x0 w u (ix2 j n) = setRow x0 r u j n := by
  unfold setRow
  split_ifs with h
  · obtain ⟨hj, h8, h16⟩ := h
    refine Routing.scatter_set_hit _ _ _ _ _ _ (fun k hk => ?_) (ix1 ⟨n.val - 8, by omega⟩) ?_
    · obtain ⟨k, rfl⟩ : ∃ k' : Fin 8, k = ix1 k' := ⟨k 0, by blk_ext⟩
      rw [lands w r h0 h1] at hk
      exact congrArg (fun q => u (ix1 q)) (Fin.ext (by show k.val = n.val - 8; omega))
    · rw [lands w r h0 h1]
      exact ⟨hj, by show n.val = 8 + (n.val - 8); omega⟩
  · refine Routing.scatter_set_miss _ _ _ _ _ (fun k hk => h ?_)
    obtain ⟨k, rfl⟩ : ∃ k' : Fin 8, k = ix1 k' := ⟨k 0, by blk_ext⟩
    rw [lands w r h0 h1] at hk
    have := k.isLt
    exact ⟨hk.1, by omega, by omega⟩

section array

variable (m : (ℓ : Loc nD τ sig) → Buf (Elt Ideal) ℓ) (c : Dev nD)

/-- The layer's weights, read from the argument arrays: the gate columns lie behind the first 4096. -/
def argWts : Weights where
  wm k n := if n.val < 4096 then m ((c : Thread nD τ).loc main_arg3) (ix3 0 k ⟨n.val, by omega⟩)
    else m ((c : Thread nD τ).loc main_arg3) (ix3 0 k ⟨n.val + 16, by omega⟩)
  wba k l := if h : l.val < 16 then m ((c : Thread nD τ).loc main_arg3) (ix3 0 k ⟨4096 + l.val, by omega⟩) else (0 : EReal)
  taps j n := m ((c : Thread nD τ).loc main_arg4) (ix3 0 j n)
  gp j l := if h : 8 ≤ l.val ∧ l.val < 16 then
      (if j.val = 0 then -Ideal.exp (m ((c : Thread nD τ).loc main_arg5) (ix2 0 ⟨l.val - 8, by omega⟩))
        else m ((c : Thread nD τ).loc main_arg6) (ix2 0 ⟨l.val - 8, by omega⟩)) else (0 : EReal)

/-- Sequence `b`, read from the argument arrays. -/
def argSeq (b : Fin 128) : Seq where
  x t k := m ((c : Thread nD τ).loc main_arg0) (ix3 b t k)
  mod k := m ((c : Thread nD τ).loc main_arg1) (ix2 b k)
  st j n := m ((c : Thread nD τ).loc main_arg2) (ix3 b j n)

/-- Where each window's block stands at a grid point. -/
theorem idx : ∀ t : Fin cfg0.N,
    win0_0.index t = ![t.val, 0, 0] ∧ win0_1.index t = ![t.val, 0, 0] ∧ win0_2.index t = ![t.val, 0, 0]
    ∧ win0_3.index t = ![0, 0, 0] ∧ win0_4.index t = ![0, 0, 0] ∧ win0_5.index t = ![0, 0] ∧ win0_6.index t = ![0, 0]
    ∧ win0_7.index t = ![t.val, 0, 0] ∧ win0_8.index t = ![t.val, 0, 0] ∧ win0_9.index t = ![t.val, 0, 0]
    ∧ win0_10.index t = ![t.val, 0, 0] ∧ win0_11.index t = ![t.val, 0, 0] ∧ win0_12.index t = ![t.val, 0, 0]
    ∧ win0_13.index t = ![t.val, 0, 0] ∧ win0_14.index t = ![t.val, 0, 0] :=
  (by decide +kernel : ∀ t : Fin grid0.N, _)

/-- The sequence that row `b` of a grid point's block is. -/
def seqOf (t : Fin cfg0.N) (b : Fin 32) : Fin 128 := ⟨t.val * 32 + b.val, by have := t.isLt; have : cfg0.N = 4 := rfl; omega⟩

section operands

set_option maxHeartbeats 4000000 in
theorem v3_apply (k : Fin 1024) (n : Fin 7680) : V m c main_v3 (ix3 0 k n) = (argWts m c).wm k n := by
  unfold argWts
  simp only [V, List.flatten_cons, List.flatten_nil, List.append_nil, hostOps0, hostOps0_1, hostOps0_2, List.cons_append, List.nil_append]
  entry_read
  pointwise
  show (if h : n.val < 4096 then _ else _) = (if n.val < 4096 then _ else _)
  by_cases h : n.val < 4096
  · rw [dif_pos h, if_pos h]
  · rw [dif_neg h, if_neg h]
    exact congrArg (fun q => m (c, Proc.tc.devRef main_arg3) (ix3 0 k q)) (Fin.ext (by show 4112 + (n.val - 4096) = n.val + 16; omega))

set_option maxHeartbeats 4000000 in
theorem v6_apply (k : Fin 1024) (n : Fin 128) : V m c main_v6 (ix3 0 k n) = (argWts m c).wba k n := by
  unfold argWts
  simp only [V, List.flatten_cons, List.flatten_nil, List.append_nil, hostOps0, hostOps0_1, hostOps0_2, List.cons_append, List.nil_append]
  entry_read
  simp only [StableHlo.TRef.toBuf, StableHlo.TRef.ofBuf, cast_eq]
  pointwise
  have e : FloatOps.sitofp (F := Ideal) FTy.f32 0#32 = (0 : EReal) := by
    show (((0#32).toInt : ℝ) : EReal) = 0
    simp
  rw [e]

set_option maxHeartbeats 4000000 in
theorem v23_apply (j : Fin 4) (n : Fin 3072) : V m c main_v23 (ix2 j n) = (argWts m c).taps j n := by
  unfold argWts
  simp only [V, List.flatten_cons, List.flatten_nil, List.append_nil, hostOps0, hostOps0_1, hostOps0_2, List.cons_append, List.nil_append]
  entry_read
  pointwise

set_option maxHeartbeats 4000000 in
theorem v24_apply (b : Fin 128) (n : Fin 6144) : V m c main_v24 (ix3 b 0 n) = (argSeq m c b).mod n := by
  unfold argSeq
  simp only [V, List.flatten_cons, List.flatten_nil, List.append_nil, hostOps0, hostOps0_1, hostOps0_2, List.cons_append, List.nil_append]
  entry_read
  pointwise

set_option maxHeartbeats 4000000 in
theorem v21_apply (j : Fin 2) (n : Fin 128) : V m c main_v21 (ix2 j n) = (argWts m c).gp j n := by
  unfold argWts
  simp only [V, List.flatten_cons, List.flatten_nil, List.append_nil, hostOps0, hostOps0_1, hostOps0_2, List.cons_append, List.nil_append]
  entry_read
  refine (scatter_apply _ _ 1 ?_ ?_ _ j n).trans ?_
  · pointwise; rfl
  · pointwise; rfl
  · simp only [setRow]
    by_cases h : 8 ≤ n.val ∧ n.val < 16
    · rw [dif_pos h]
      by_cases hj : j.val = 0
      · obtain rfl : j = 0 := Fin.ext hj
        rw [dif_neg (by simp), if_pos hj]
        refine (scatter_apply _ _ 0 (by pointwise; rfl) (by pointwise; rfl) _ 0 n).trans ?_
        rw [setRow, dif_pos ⟨rfl, h⟩]
        pointwise
      · obtain rfl : j = 1 := Fin.ext (by have := j.isLt; show j.val = 1; omega)
        rw [dif_pos ⟨rfl, h⟩, if_neg hj]
        pointwise
    · rw [dif_neg (fun q => h q.2), dif_neg h]
      refine (scatter_apply _ _ 0 (by pointwise; rfl) (by pointwise; rfl) _ j n).trans ?_
      rw [setRow, dif_neg (fun q => h q.2)]
      pointwise

/-- The weights a grid point holds are the layer's, whatever the point. -/
theorem wts_eq (t : Fin cfg0.N) : wts (iblk m c 3 t) (iblk m c 4 t) (iblk m c 5 t) (iblk m c 6 t) = argWts m c := by
  have e3 (k : Fin 1024) (n : Fin 7680) : iblk m c 3 t (ix3 0 k n) = (argWts m c).wm k n := by
    have e : (win0_3.blk t).view.emb (ix3 0 k n) = ix3 0 k n := by blk_ext [idx t]
    show V m c main_v3 ((win0_3.blk t).view.emb (ix3 0 k n)) = _
    rw [e, v3_apply]
  have e4 (k : Fin 1024) (n : Fin 128) : iblk m c 4 t (ix3 0 k n) = (argWts m c).wba k n := by
    have e : (win0_4.blk t).view.emb (ix3 0 k n) = ix3 0 k n := by blk_ext [idx t]
    show V m c main_v6 ((win0_4.blk t).view.emb (ix3 0 k n)) = _
    rw [e, v6_apply]
  have e5 (k : Fin 4) (n : Fin 3072) : iblk m c 5 t (ix2 k n) = (argWts m c).taps k n := by
    have e : (win0_5.blk t).view.emb (ix2 k n) = ix2 k n := by blk_ext [idx t]
    show V m c main_v23 ((win0_5.blk t).view.emb (ix2 k n)) = _
    rw [e, v23_apply]
  have e6 (k : Fin 2) (n : Fin 128) : iblk m c 6 t (ix2 k n) = (argWts m c).gp k n := by
    have e : (win0_6.blk t).view.emb (ix2 k n) = ix2 k n := by blk_ext [idx t]
    show V m c main_v21 ((win0_6.blk t).view.emb (ix2 k n)) = _
    rw [e, v21_apply]
  exact congr (congr (congr (congrArg Weights.mk (funext fun a => funext (e3 a))) (funext fun a => funext (e4 a))) (funext fun a => funext (e5 a))) (funext fun a => funext (e6 a))

set_option maxHeartbeats 4000000 in
/-- The sequences a grid point holds. -/
theorem seq_eq (t : Fin cfg0.N) (b : Fin 32) :
    seq (iblk m c 0 t) (iblk m c 1 t) (iblk m c 2 t) b = argSeq m c (seqOf t b) := by
  have e1 (n : Fin 6144) : iblk m c 1 t (ix3 b 0 n) = (argSeq m c (seqOf t b)).mod n := by
    have e : (win0_1.blk t).view.emb (ix3 b 0 n) = ix3 (seqOf t b) 0 n := by unfold seqOf; blk_ext [idx t]
    show V m c main_v24 ((win0_1.blk t).view.emb (ix3 b 0 n)) = _
    rw [e, v24_apply]
  unfold seq
  have e0 (r : Fin 8) (k : Fin 1024) : iblk m c 0 t (ix3 b r k) = (argSeq m c (seqOf t b)).x r k := by
    unfold argSeq seqOf; blk_ext! [iblk, V, idx t]
  have e2 (r : Fin 3) (k : Fin 3072) : iblk m c 2 t (ix3 b r k) = (argSeq m c (seqOf t b)).st r k := by
    unfold argSeq seqOf; blk_ext! [iblk, V, idx t]
  exact congr (congr (congrArg Cert.FrontSpec.Seq.mk (funext fun a => funext (e0 a))) (funext e1)) (funext fun a => funext (e2 a))

end operands

section arrays

/-- What window 7 writes, at sequence `b`. -/
def res7 (b : Fin 128) (t : Fin 8) (l : Fin 3072) : EReal := cs (argWts m c) (argSeq m c b) t l

set_option maxHeartbeats 4000000 in
theorem array7 : (dats m 0 c).arrAt 7 cfg0.N = fun i : S128x8x3072.Idx => res7 m c (i 0) (i 1) (i 2) := by
  refine (dats m 0 c).arrAt_eq_of_covers 7 _ (by decide +kernel) fun t hf y => ?_
  blk_simp
  rw [after0_7]
  have hy : y = ix3 (⟨(y 0).val, (y 0).isLt⟩ : Fin 32) (⟨(y 1).val, (y 1).isLt⟩ : Fin 8) (⟨(y 2).val, (y 2).isLt⟩ : Fin 3072) := by blk_ext
  have e0 : (win0_7.blk t).view.emb (ix3 (⟨(y 0).val, (y 0).isLt⟩ : Fin 32) (⟨(y 1).val, (y 1).isLt⟩ : Fin 8) (⟨(y 2).val, (y 2).isLt⟩ : Fin 3072))
      = ix3 (seqOf t ⟨(y 0).val, (y 0).isLt⟩) (⟨(y 1).val, (y 1).isLt⟩ : Fin 8) (⟨(y 2).val, (y 2).isLt⟩ : Fin 3072) := by
    unfold seqOf
    blk_ext [idx t]
  rw [hy]
  simp only [outsAt0]
  rw [out7_apply, wts_eq, seq_eq, e0]
  rfl

/-- What window 8 writes, at sequence `b`. -/
def res8 (b : Fin 128) (t : Fin 8) (l : Fin 1024) : EReal := main (argWts m c) (argSeq m c b) t ⟨3072 + l.val, by omega⟩

set_option maxHeartbeats 4000000 in
theorem array8 : (dats m 0 c).arrAt 8 cfg0.N = fun i : S128x8x1024.Idx => res8 m c (i 0) (i 1) (i 2) := by
  refine (dats m 0 c).arrAt_eq_of_covers 8 _ (by decide +kernel) fun t hf y => ?_
  blk_simp
  rw [after0_8]
  have hy : y = ix3 (⟨(y 0).val, (y 0).isLt⟩ : Fin 32) (⟨(y 1).val, (y 1).isLt⟩ : Fin 8) (⟨(y 2).val, (y 2).isLt⟩ : Fin 1024) := by blk_ext
  have e0 : (win0_8.blk t).view.emb (ix3 (⟨(y 0).val, (y 0).isLt⟩ : Fin 32) (⟨(y 1).val, (y 1).isLt⟩ : Fin 8) (⟨(y 2).val, (y 2).isLt⟩ : Fin 1024))
      = ix3 (seqOf t ⟨(y 0).val, (y 0).isLt⟩) (⟨(y 1).val, (y 1).isLt⟩ : Fin 8) (⟨(y 2).val, (y 2).isLt⟩ : Fin 1024) := by
    unfold seqOf
    blk_ext [idx t]
  rw [hy]
  simp only [outsAt0]
  rw [out8_apply, wts_eq, seq_eq, e0]
  rfl

/-- What window 9 writes, at sequence `b`. -/
def res9 (b : Fin 128) (t : Fin 8) (l : Fin 128) : EReal := gb (argWts m c) (argSeq m c b) t l

set_option maxHeartbeats 4000000 in
theorem array9 : (dats m 0 c).arrAt 9 cfg0.N = fun i : S128x8x128.Idx => res9 m c (i 0) (i 1) (i 2) := by
  refine (dats m 0 c).arrAt_eq_of_covers 9 _ (by decide +kernel) fun t hf y => ?_
  blk_simp
  rw [after0_9]
  have hy : y = ix3 (⟨(y 0).val, (y 0).isLt⟩ : Fin 32) (⟨(y 1).val, (y 1).isLt⟩ : Fin 8) (⟨(y 2).val, (y 2).isLt⟩ : Fin 128) := by blk_ext
  have e0 : (win0_9.blk t).view.emb (ix3 (⟨(y 0).val, (y 0).isLt⟩ : Fin 32) (⟨(y 1).val, (y 1).isLt⟩ : Fin 8) (⟨(y 2).val, (y 2).isLt⟩ : Fin 128))
      = ix3 (seqOf t ⟨(y 0).val, (y 0).isLt⟩) (⟨(y 1).val, (y 1).isLt⟩ : Fin 8) (⟨(y 2).val, (y 2).isLt⟩ : Fin 128) := by
    unfold seqOf
    blk_ext [idx t]
  rw [hy]
  simp only [outsAt0]
  rw [out9_apply, wts_eq, seq_eq, e0]
  rfl

/-- What window 10 writes, at sequence `b`. -/
def res10 (b : Fin 128) (t : Fin 8) (l : Fin 1024) : EReal := main (argWts m c) (argSeq m c b) t ⟨4096 + l.val, by omega⟩ * Ideal.ofBits .f32 0x3E000000#32

set_option maxHeartbeats 4000000 in
theorem array10 : (dats m 0 c).arrAt 10 cfg0.N = fun i : S128x8x1024.Idx => res10 m c (i 0) (i 1) (i 2) := by
  refine (dats m 0 c).arrAt_eq_of_covers 10 _ (by decide +kernel) fun t hf y => ?_
  blk_simp
  rw [after0_10]
  have hy : y = ix3 (⟨(y 0).val, (y 0).isLt⟩ : Fin 32) (⟨(y 1).val, (y 1).isLt⟩ : Fin 8) (⟨(y 2).val, (y 2).isLt⟩ : Fin 1024) := by blk_ext
  have e0 : (win0_10.blk t).view.emb (ix3 (⟨(y 0).val, (y 0).isLt⟩ : Fin 32) (⟨(y 1).val, (y 1).isLt⟩ : Fin 8) (⟨(y 2).val, (y 2).isLt⟩ : Fin 1024))
      = ix3 (seqOf t ⟨(y 0).val, (y 0).isLt⟩) (⟨(y 1).val, (y 1).isLt⟩ : Fin 8) (⟨(y 2).val, (y 2).isLt⟩ : Fin 1024) := by
    unfold seqOf
    blk_ext [idx t]
  rw [hy]
  simp only [outsAt0]
  rw [out10_apply, wts_eq, seq_eq, e0]
  rfl

/-- What window 11 writes, at sequence `b`. -/
def res11 (b : Fin 128) (t : Fin 8) (l : Fin 256) : EReal := main (argWts m c) (argSeq m c b) t ⟨5120 + l.val, by omega⟩

set_option maxHeartbeats 4000000 in
theorem array11 : (dats m 0 c).arrAt 11 cfg0.N = fun i : S128x8x256.Idx => res11 m c (i 0) (i 1) (i 2) := by
  refine (dats m 0 c).arrAt_eq_of_covers 11 _ (by decide +kernel) fun t hf y => ?_
  blk_simp
  rw [after0_11]
  have hy : y = ix3 (⟨(y 0).val, (y 0).isLt⟩ : Fin 32) (⟨(y 1).val, (y 1).isLt⟩ : Fin 8) (⟨(y 2).val, (y 2).isLt⟩ : Fin 256) := by blk_ext
  have e0 : (win0_11.blk t).view.emb (ix3 (⟨(y 0).val, (y 0).isLt⟩ : Fin 32) (⟨(y 1).val, (y 1).isLt⟩ : Fin 8) (⟨(y 2).val, (y 2).isLt⟩ : Fin 256))
      = ix3 (seqOf t ⟨(y 0).val, (y 0).isLt⟩) (⟨(y 1).val, (y 1).isLt⟩ : Fin 8) (⟨(y 2).val, (y 2).isLt⟩ : Fin 256) := by
    unfold seqOf
    blk_ext [idx t]
  rw [hy]
  simp only [outsAt0]
  rw [out11_apply, wts_eq, seq_eq, e0]
  rfl

/-- What window 12 writes, at sequence `b`. -/
def res12 (b : Fin 128) (t : Fin 8) (l : Fin 256) : EReal := main (argWts m c) (argSeq m c b) t ⟨5376 + l.val, by omega⟩

set_option maxHeartbeats 4000000 in
theorem array12 : (dats m 0 c).arrAt 12 cfg0.N = fun i : S128x8x256.Idx => res12 m c (i 0) (i 1) (i 2) := by
  refine (dats m 0 c).arrAt_eq_of_covers 12 _ (by decide +kernel) fun t hf y => ?_
  blk_simp
  rw [after0_12]
  have hy : y = ix3 (⟨(y 0).val, (y 0).isLt⟩ : Fin 32) (⟨(y 1).val, (y 1).isLt⟩ : Fin 8) (⟨(y 2).val, (y 2).isLt⟩ : Fin 256) := by blk_ext
  have e0 : (win0_12.blk t).view.emb (ix3 (⟨(y 0).val, (y 0).isLt⟩ : Fin 32) (⟨(y 1).val, (y 1).isLt⟩ : Fin 8) (⟨(y 2).val, (y 2).isLt⟩ : Fin 256))
      = ix3 (seqOf t ⟨(y 0).val, (y 0).isLt⟩) (⟨(y 1).val, (y 1).isLt⟩ : Fin 8) (⟨(y 2).val, (y 2).isLt⟩ : Fin 256) := by
    unfold seqOf
    blk_ext [idx t]
  rw [hy]
  simp only [outsAt0]
  rw [out12_apply, wts_eq, seq_eq, e0]
  rfl

/-- What window 13 writes, at sequence `b`. -/
def res13 (b : Fin 128) (t : Fin 8) (l : Fin 2048) : EReal := sig (main (argWts m c) (argSeq m c b) t ⟨5632 + l.val, by omega⟩)

set_option maxHeartbeats 4000000 in
theorem array13 : (dats m 0 c).arrAt 13 cfg0.N = fun i : S128x8x2048.Idx => res13 m c (i 0) (i 1) (i 2) := by
  refine (dats m 0 c).arrAt_eq_of_covers 13 _ (by decide +kernel) fun t hf y => ?_
  blk_simp
  rw [after0_13]
  have hy : y = ix3 (⟨(y 0).val, (y 0).isLt⟩ : Fin 32) (⟨(y 1).val, (y 1).isLt⟩ : Fin 8) (⟨(y 2).val, (y 2).isLt⟩ : Fin 2048) := by blk_ext
  have e0 : (win0_13.blk t).view.emb (ix3 (⟨(y 0).val, (y 0).isLt⟩ : Fin 32) (⟨(y 1).val, (y 1).isLt⟩ : Fin 8) (⟨(y 2).val, (y 2).isLt⟩ : Fin 2048))
      = ix3 (seqOf t ⟨(y 0).val, (y 0).isLt⟩) (⟨(y 1).val, (y 1).isLt⟩ : Fin 8) (⟨(y 2).val, (y 2).isLt⟩ : Fin 2048) := by
    unfold seqOf
    blk_ext [idx t]
  rw [hy]
  simp only [outsAt0]
  rw [out13_apply, wts_eq, seq_eq, e0]
  rfl

/-- What window 14 writes, at sequence `b`. -/
def res14 (b : Fin 128) (t : Fin 3) (l : Fin 3072) : EReal := buf (argWts m c) (argSeq m c b) ⟨13 + t.val, by omega⟩ l

set_option maxHeartbeats 4000000 in
theorem array14 : (dats m 0 c).arrAt 14 cfg0.N = fun i : S128x3x3072.Idx => res14 m c (i 0) (i 1) (i 2) := by
  refine (dats m 0 c).arrAt_eq_of_covers 14 _ (by decide +kernel) fun t hf y => ?_
  blk_simp
  rw [after0_14]
  have hy : y = ix3 (⟨(y 0).val, (y 0).isLt⟩ : Fin 32) (⟨(y 1).val, (y 1).isLt⟩ : Fin 3) (⟨(y 2).val, (y 2).isLt⟩ : Fin 3072) := by blk_ext
  have e0 : (win0_14.blk t).view.emb (ix3 (⟨(y 0).val, (y 0).isLt⟩ : Fin 32) (⟨(y 1).val, (y 1).isLt⟩ : Fin 3) (⟨(y 2).val, (y 2).isLt⟩ : Fin 3072))
      = ix3 (seqOf t ⟨(y 0).val, (y 0).isLt⟩) (⟨(y 1).val, (y 1).isLt⟩ : Fin 3) (⟨(y 2).val, (y 2).isLt⟩ : Fin 3072) := by
    unfold seqOf
    blk_ext [idx t]
  rw [hy]
  simp only [outsAt0]
  rw [out14_apply, wts_eq, seq_eq, e0]
  rfl

end arrays

end array

end Cert.FrontKernel

end
-- ==== Proof.FrontRef.lean ====
/- What the front reference's result arrays hold. -/
module

public import proofs.«01_k».proof.Proof.Gen.FrontRefIdeal.Run
public import proofs.«01_k».proof.Proof.FrontSpec

@[expose] public section

set_option maxRecDepth 16384

noncomputable section

namespace Cert.FrontRef

open Cert.FrontRefIdeal Cert.FrontRefIdeal.Gen Cert.FrontRefIdeal.Value Idealize.ShloMosaic Idealize.ShloMosaic.TcCoe Cert.FrontSpec StableHlo

variable (m : (ℓ : Loc nD τ sig) → Buf (Elt Ideal) ℓ) (c : Dev nD)

/-- The layer's weights, read from the argument arrays: the gate columns lie behind the first 4096. -/
def argWts : Weights where
  wm k n := if n.val < 4096 then m ((c : Thread nD τ).loc main_arg3) (ix3 0 k ⟨n.val, by omega⟩)
    else m ((c : Thread nD τ).loc main_arg3) (ix3 0 k ⟨n.val + 16, by omega⟩)
  wba k l := if h : l.val < 16 then m ((c : Thread nD τ).loc main_arg3) (ix3 0 k ⟨4096 + l.val, by omega⟩) else (0 : EReal)
  taps j n := m ((c : Thread nD τ).loc main_arg4) (ix3 0 j n)
  gp j l := if h : 8 ≤ l.val ∧ l.val < 16 then
      (if j.val = 0 then -Ideal.exp (m ((c : Thread nD τ).loc main_arg5) (ix2 0 ⟨l.val - 8, by omega⟩))
        else m ((c : Thread nD τ).loc main_arg6) (ix2 0 ⟨l.val - 8, by omega⟩)) else (0 : EReal)

/-- Sequence `b`, read from the argument arrays. -/
def argSeq (b : Fin 128) : Seq where
  x t k := m ((c : Thread nD τ).loc main_arg0) (ix3 b t k)
  mod k := m ((c : Thread nD τ).loc main_arg1) (ix2 b k)
  st j n := m ((c : Thread nD τ).loc main_arg2) (ix3 b j n)

/-- The projection of the normalised tokens, all columns. -/
def proj : FVec Ideal S128x8x7696 .f32 :=
  Host.dotGeneral dot_S128x8x1024_S1024x7696_S128x8x7696_2_0_01_1_n_n (φ₂ := .f32) none (addf (mulf (m ((c.tc : Thread nD τ).loc main_arg0)) (broadcastInDim S128x8x1024 ![0, 1, 2] bcast_S128x1x1024_S128x8x1024_0_1_2 (addf (broadcastInDim S128x1x1024 ![] bcast_S_S128x1x1024 (constant S_ .f32 0x3F800000#32)) (broadcastInDim S128x1x1024 ![0, 2] bcast_S128x1024_S128x1x1024_0_2 (extractStridedSlice S128x1024 ![0, 1024] (m ((c.tc : Thread nD τ).loc main_arg1)) slices_S128x6144_S128x1024_0_1024))))) (broadcastInDim S128x8x1024 ![0, 1, 2] bcast_S128x1x1024_S128x8x1024_0_1_2 (broadcastInDim S128x1x1024 ![0, 2] bcast_S128x1024_S128x1x1024_0_2 (extractStridedSlice S128x1024 ![0, 0] (m ((c.tc : Thread nD τ).loc main_arg1)) slices_S128x6144_S128x1024_0_0)))) (shapeCast _ (extractStridedSlice S1x1024x7696 ![0, 0, 0] (m ((c.tc : Thread nD τ).loc main_arg3)) slices_S2x1024x7696_S1x1024x7696_0_0_0) shapeCasts_S1x1024x7696_S1024x7696)

set_option maxHeartbeats 4000000 in
theorem proj_apply (b : Fin 128) (t : Fin 8) (n : Fin 7696) :
    proj m c (ix3 b t n) = (∑ k, hid (argSeq m c b) t k * m ((c : Thread nD τ).loc main_arg3) (ix3 0 k n) : EReal) := by
  pointwise [proj]
  rfl

/-- The gate array of the reference, over the projection. -/
def gates : FVec Ideal S128x8x128 .f32 :=
  (concatenate S128x8x128 2 [⟨S128x8x8, ((Host.divf (broadcastInDim S128x8x8 ![] bcast_S_S128x8x8 (constant S_ .f32 0x3F800000#32)) (addf (broadcastInDim S128x8x8 ![] bcast_S_S128x8x8 (constant S_ .f32 0x3F800000#32)) (Host.exp (Host.negf (extractStridedSlice S128x8x8 ![0, 0, 4096] ((proj m c)) slices_S128x8x7696_S128x8x8_0_0_4096))))) : (⟨S128x8x8, .f32⟩ : BufTy).Contents (Elt Ideal))⟩, ⟨S128x8x8, ((mulf (broadcastInDim S128x8x8 ![0, 1, 2] bcast_S1x1x8_S128x8x8_0_1_2 (broadcastInDim S1x1x8 ![2] bcast_S8_S1x1x8_2 (Host.negf (Host.exp (shapeCast _ (extractStridedSlice S1x8 ![0, 0] (m ((c.tc : Thread nD τ).loc main_arg5)) slices_S2x8_S1x8_0_0) shapeCasts_S1x8_S8))))) (select (cmpf .une (subf (addf (extractStridedSlice S128x8x8 ![0, 0, 4104] ((proj m c)) slices_S128x8x7696_S128x8x8_0_0_4104) (broadcastInDim S128x8x8 ![0, 1, 2] bcast_S1x1x8_S128x8x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S128x8x8 ![] bcast_S_S128x8x8 (constant S_ .f32 0x00000000#32))) (subf (addf (extractStridedSlice S128x8x8 ![0, 0, 4104] ((proj m c)) slices_S128x8x7696_S128x8x8_0_0_4104) (broadcastInDim S128x8x8 ![0, 1, 2] bcast_S1x1x8_S128x8x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S128x8x8 ![] bcast_S_S128x8x8 (constant S_ .f32 0x00000000#32)))) (addf (addf (extractStridedSlice S128x8x8 ![0, 0, 4104] ((proj m c)) slices_S128x8x7696_S128x8x8_0_0_4104) (broadcastInDim S128x8x8 ![0, 1, 2] bcast_S1x1x8_S128x8x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S128x8x8 ![] bcast_S_S128x8x8 (constant S_ .f32 0x00000000#32))) (addf (maximumf (addf (extractStridedSlice S128x8x8 ![0, 0, 4104] ((proj m c)) slices_S128x8x7696_S128x8x8_0_0_4104) (broadcastInDim S128x8x8 ![0, 1, 2] bcast_S1x1x8_S128x8x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S128x8x8 ![] bcast_S_S128x8x8 (constant S_ .f32 0x00000000#32))) (Host.log1p (Host.exp (Host.negf (Host.absf (subf (addf (extractStridedSlice S128x8x8 ![0, 0, 4104] ((proj m c)) slices_S128x8x7696_S128x8x8_0_0_4104) (broadcastInDim S128x8x8 ![0, 1, 2] bcast_S1x1x8_S128x8x8_0_1_2 (broadcastInDim S1x1x8 ![2] bcast_S8_S1x1x8_2 (shapeCast _ (extractStridedSlice S1x8 ![0, 0] (m ((c.tc : Thread nD τ).loc main_arg6)) slices_S2x8_S1x8_0_0) shapeCasts_S1x8_S8)))) (broadcastInDim S128x8x8 ![] bcast_S_S128x8x8 (constant S_ .f32 0x00000000#32)))))))))) : (⟨S128x8x8, .f32⟩ : BufTy).Contents (Elt Ideal))⟩, ⟨S128x8x112, ((broadcastInDim S128x8x112 ![] bcast_S_S128x8x112 (constant (F := Ideal) S_ .f32 0x00000000#32)) : (⟨S128x8x112, .f32⟩ : BufTy).Contents (Elt Ideal))⟩] concatenates_S128x8x8_S128x8x8_S128x8x112_S128x8x128_d2 : (⟨S128x8x128, .f32⟩ : BufTy).Contents (Elt Ideal))

set_option maxHeartbeats 4000000 in
theorem gates_eq : res_main_v75 m c = gates m c := rfl

/-- The short convolution's result, over the projection. -/
def shortConv : FVec Ideal S128x8x3072 .f32 :=
  mulf (addf (addf (addf (addf (broadcastInDim S128x8x3072 ![] bcast_S_S128x8x3072 (constant S_ .f32 0x00000000#32)) (mulf (extractStridedSlice S128x8x3072 ![0, 0, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_0_0) (broadcastInDim S128x8x3072 ![0, 1, 2] bcast_S1x1x3072_S128x8x3072_0_1_2 (broadcastInDim S1x1x3072 ![2] bcast_S3072_S1x1x3072_2 (shapeCast _ (extractStridedSlice S1x3072 ![0, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_0_0) shapeCasts_S1x3072_S3072))))) (mulf (extractStridedSlice S128x8x3072 ![0, 1, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_1_0) (broadcastInDim S128x8x3072 ![0, 1, 2] bcast_S1x1x3072_S128x8x3072_0_1_2 (broadcastInDim S1x1x3072 ![2] bcast_S3072_S1x1x3072_2 (shapeCast _ (extractStridedSlice S1x3072 ![1, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_1_0) shapeCasts_S1x3072_S3072))))) (mulf (extractStridedSlice S128x8x3072 ![0, 2, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_2_0) (broadcastInDim S128x8x3072 ![0, 1, 2] bcast_S1x1x3072_S128x8x3072_0_1_2 (broadcastInDim S1x1x3072 ![2] bcast_S3072_S1x1x3072_2 (shapeCast _ (extractStridedSlice S1x3072 ![2, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_2_0) shapeCasts_S1x3072_S3072))))) (mulf (extractStridedSlice S128x8x3072 ![0, 3, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_3_0) (broadcastInDim S128x8x3072 ![0, 1, 2] bcast_S1x1x3072_S128x8x3072_0_1_2 (broadcastInDim S1x1x3072 ![2] bcast_S3072_S1x1x3072_2 (shapeCast _ (extractStridedSlice S1x3072 ![3, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_3_0) shapeCasts_S1x3072_S3072))))) (Host.divf (broadcastInDim S128x8x3072 ![] bcast_S_S128x8x3072 (constant S_ .f32 0x3F800000#32)) (addf (broadcastInDim S128x8x3072 ![] bcast_S_S128x8x3072 (constant S_ .f32 0x3F800000#32)) (Host.exp (Host.negf (addf (addf (addf (addf (broadcastInDim S128x8x3072 ![] bcast_S_S128x8x3072 (constant S_ .f32 0x00000000#32)) (mulf (extractStridedSlice S128x8x3072 ![0, 0, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_0_0) (broadcastInDim S128x8x3072 ![0, 1, 2] bcast_S1x1x3072_S128x8x3072_0_1_2 (broadcastInDim S1x1x3072 ![2] bcast_S3072_S1x1x3072_2 (shapeCast _ (extractStridedSlice S1x3072 ![0, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_0_0) shapeCasts_S1x3072_S3072))))) (mulf (extractStridedSlice S128x8x3072 ![0, 1, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_1_0) (broadcastInDim S128x8x3072 ![0, 1, 2] bcast_S1x1x3072_S128x8x3072_0_1_2 (broadcastInDim S1x1x3072 ![2] bcast_S3072_S1x1x3072_2 (shapeCast _ (extractStridedSlice S1x3072 ![1, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_1_0) shapeCasts_S1x3072_S3072))))) (mulf (extractStridedSlice S128x8x3072 ![0, 2, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_2_0) (broadcastInDim S128x8x3072 ![0, 1, 2] bcast_S1x1x3072_S128x8x3072_0_1_2 (broadcastInDim S1x1x3072 ![2] bcast_S3072_S1x1x3072_2 (shapeCast _ (extractStridedSlice S1x3072 ![2, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_2_0) shapeCasts_S1x3072_S3072))))) (mulf (extractStridedSlice S128x8x3072 ![0, 3, 0] (concatenate S128x11x3072 1 [⟨S128x3x3072, (m ((c.tc : Thread nD τ).loc main_arg2))⟩, ⟨S128x8x3072, (extractStridedSlice S128x8x3072 ![0, 0, 0] ((proj m c)) slices_S128x8x7696_S128x8x3072_0_0_0)⟩] concatenates_S128x3x3072_S128x8x3072_S128x11x3072_d1) slices_S128x11x3072_S128x8x3072_0_3_0) (broadcastInDim S128x8x3072 ![0, 1, 2] bcast_S1x1x3072_S128x8x3072_0_1_2 (broadcastInDim S1x1x3072 ![2] bcast_S3072_S1x1x3072_2 (shapeCast _ (extractStridedSlice S1x3072 ![3, 0] (shapeCast _ (extractStridedSlice S1x4x3072 ![0, 0, 0] (m ((c.tc : Thread nD τ).loc main_arg4)) slices_S2x4x3072_S1x4x3072_0_0_0) shapeCasts_S1x4x3072_S4x3072) slices_S4x3072_S1x3072_3_0) shapeCasts_S1x3072_S3072)))))))))

set_option maxHeartbeats 4000000 in
theorem shortConv_eq : res_main_v53 m c = shortConv m c := rfl

/-- A column of the projection before the gates. -/
theorem main_lo (b : Fin 128) (t : Fin 8) (n : Fin 7680) (h : n.val < 4096) :
    main (argWts m c) (argSeq m c b) t n = proj m c (ix3 b t ⟨n.val, by omega⟩) := by
  rw [proj_apply]
  unfold FrontSpec.main argWts
  refine Finset.sum_congr rfl fun k _ => ?_
  show _ * (if n.val < 4096 then _ else _) = _
  rw [if_pos h]

/-- A column of the projection behind the gates. -/
theorem main_hi (b : Fin 128) (t : Fin 8) (n : Fin 7680) (h : ¬ n.val < 4096) :
    main (argWts m c) (argSeq m c b) t n = proj m c (ix3 b t ⟨n.val + 16, by omega⟩) := by
  rw [proj_apply]
  unfold FrontSpec.main argWts
  refine Finset.sum_congr rfl fun k _ => ?_
  show _ * (if n.val < 4096 then _ else _) = _
  rw [if_neg h]

/-- A gate column of the projection. -/
theorem ba_lo (b : Fin 128) (t : Fin 8) (n : Fin 128) (h : n.val < 16) :
    ba (argWts m c) (argSeq m c b) t n = proj m c (ix3 b t ⟨4096 + n.val, by omega⟩) := by
  rw [proj_apply]
  unfold ba argWts
  refine Finset.sum_congr rfl fun k _ => ?_
  show _ * (if h : n.val < 16 then _ else _) = _
  rw [dif_pos h]

/-- The buffer's rows: three of the state, then the projected ones. -/
theorem buf_eq (b : Fin 128) (i : Fin 11) (n : Fin 3072) :
    (if h : i.val < 3 then (m ((c : Thread nD τ).loc main_arg2) (ix3 b ⟨i.val, h⟩ n) : EReal)
      else proj m c (ix3 b ⟨i.val - 3, by omega⟩ ⟨n.val, by omega⟩))
      = buf (argWts m c) (argSeq m c b) ⟨5 + i.val, by omega⟩ n := by
  unfold buf
  rw [if_neg (by show ¬ 5 + i.val < 5; omega)]
  by_cases h : i.val < 3
  · rw [dif_pos h, dif_pos (by show 5 + i.val < 8; omega)]
    exact congrArg (fun q => (m ((c : Thread nD τ).loc main_arg2) (ix3 b q n) : EReal)) (Fin.ext (by show i.val = 5 + i.val - 5; omega))
  · rw [dif_neg h, dif_neg (by show ¬ 5 + i.val < 8; omega), main_lo m c b _ _ (by show n.val < 4096; omega)]
    exact congrArg (fun q => proj m c (ix3 b q ⟨n.val, by omega⟩)) (Fin.ext (by show i.val - 3 = 5 + i.val - 8; omega))

/-- The short convolution with its gate. -/
theorem shortConv_apply (b : Fin 128) (t : Fin 8) (n : Fin 3072) :
    shortConv m c (ix3 b t n) = cs (argWts m c) (argSeq m c b) t n := by
  have h0 := buf_eq m c b ⟨t.val, by omega⟩ n
  have h1 := buf_eq m c b ⟨1 + t.val, by omega⟩ n
  have h2 := buf_eq m c b ⟨2 + t.val, by omega⟩ n
  have h3 := buf_eq m c b ⟨3 + t.val, by omega⟩ n
  rw [dif_neg (by show ¬ 3 + t.val < 3; omega)] at h3
  have e3 : (⟨3 + t.val - 3, by omega⟩ : Fin 8) = t := Fin.ext (by show 3 + t.val - 3 = t.val; omega)
  simp only [e3] at h0 h1 h2 h3
  pointwise [shortConv]
  simp only [h0, h1, h2, h3]
  unfold cs FrontSpec.sig conv
  rw [zero_sub]
  have a0 : (⟨t.val + 5, by omega⟩ : Fin 16) = ⟨5 + t.val, by omega⟩ := Fin.ext (by show t.val + 5 = 5 + t.val; omega)
  have a1 : (⟨t.val + 6, by omega⟩ : Fin 16) = ⟨5 + (1 + t.val), by omega⟩ := Fin.ext (by show t.val + 6 = 5 + (1 + t.val); omega)
  have a2 : (⟨t.val + 7, by omega⟩ : Fin 16) = ⟨5 + (2 + t.val), by omega⟩ := Fin.ext (by show t.val + 7 = 5 + (2 + t.val); omega)
  have a3 : (⟨t.val + 8, by omega⟩ : Fin 16) = ⟨5 + (3 + t.val), by omega⟩ := Fin.ext (by show t.val + 8 = 5 + (3 + t.val); omega)
  rw [a0, a1, a2, a3]
  have e (p q r s : EReal) : p + q + r + s = (s + r) + (q + p) := by
    rw [add_assoc (p + q), add_comm (p + q), add_comm r s, add_comm p q]
  rw [e]
  rfl

/-- A decay lane before its activation. -/
def pre (b : Fin 128) (t : Fin 8) (n : ℕ) (h : n - 8 < 8) : EReal :=
  proj m c (ix3 b t ⟨4104 + (n - 8), by omega⟩) + m ((c : Thread nD τ).loc main_arg6) (ix2 0 ⟨n - 8, h⟩)

set_option maxHeartbeats 1000000 in
/-- The gate array read at an index. -/
theorem gates_at (b : Fin 128) (t : Fin 8) (n : Fin 128) :
    gates m c (ix3 b t n) = if h : n.val < 8 then Ideal.div 1 (1 + Ideal.exp (-proj m c (ix3 b t ⟨4096 + n.val, by omega⟩)))
      else if h : n.val - 8 < 8 then
        -Ideal.exp (m ((c : Thread nD τ).loc main_arg5) (ix2 0 ⟨n.val - 8, h⟩)) *
          (if pre m c b t n.val h ≠ pre m c b t n.val h then pre m c b t n.val h
          else max (pre m c b t n.val h) 0 + Ideal.log1p (Ideal.exp (-FloatOps.absf (F := Ideal) (φ := .f32) (pre m c b t n.val h))))
      else (0 : EReal) := by
  pointwise [gates]
  rfl

set_option maxHeartbeats 1000000 in
/-- The gates, 8 lanes of each, then zeros. -/
theorem gates_apply (b : Fin 128) (t : Fin 8) (n : Fin 128) :
    gates m c (ix3 b t n) = gb (argWts m c) (argSeq m c b) t n := by
  rw [gates_at]
  unfold gb
  by_cases h8 : n.val < 8
  · rw [dif_pos h8, if_pos h8, ba_lo m c b t n (by omega), FrontSpec.sig, zero_sub]
  · rw [dif_neg h8, if_neg h8]
    by_cases h16 : n.val < 16
    · rw [dif_pos (by omega), ba_lo m c b t n h16, if_neg (fun q => q rfl)]
      have en : (⟨4104 + (n.val - 8), by omega⟩ : Fin 7696) = ⟨4096 + n.val, by omega⟩ := Fin.ext (by show 4104 + (n.val - 8) = 4096 + n.val; omega)
      have g0 : (argWts m c).gp 0 n = -Ideal.exp (m ((c : Thread nD τ).loc main_arg5) (ix2 0 ⟨n.val - 8, by omega⟩)) := by
        unfold argWts
        show (if h : 8 ≤ n.val ∧ n.val < 16 then _ else _) = _
        rw [dif_pos (by omega)]
        rfl
      have g1 : (argWts m c).gp 1 n = m ((c : Thread nD τ).loc main_arg6) (ix2 0 ⟨n.val - 8, by omega⟩) := by
        unfold argWts
        show (if h : 8 ≤ n.val ∧ n.val < 16 then _ else _) = _
        rw [dif_pos (by omega)]
        rfl
      simp only [pre, en]
      rw [g0, g1, softplus, zero_sub]
      rfl
    · rw [dif_neg (by omega)]
      have g0 : (argWts m c).gp 0 n = 0 := by
        unfold argWts
        show (if h : 8 ≤ n.val ∧ n.val < 16 then _ else _) = _
        rw [dif_neg (by omega)]
      rw [g0, zero_mul]

end Cert.FrontRef

end
-- ==== Proof.FrontClaims.lean ====
/- The front claims: the kernel and the reference leave the same arrays, and the reference its arguments. -/
module

public import proofs.«01_k».proof.Defs
public import proofs.«01_k».proof.Proof.FrontArray
public import proofs.«01_k».proof.Proof.FrontRef
public import Idealize.ShloMosaic.Adequacy
public import Idealize.ShloMosaic.Init

@[expose] public section

set_option maxRecDepth 16384

noncomputable section

namespace Cert.Proof.Front

open Idealize.ShloMosaic Idealize.ShloMosaic.TcCoe Idealize.SL.Sem

set_option maxHeartbeats 4000000 in
/-- The front kernel and the plain reference leave the same eight arrays. -/
theorem algebraic : Cert.algebraic_FrontIdeal_FrontRefIdeal := by
  intro m ρ m' ρ' _ hagree
  refine ⟨fun c i => FrontKernel.res7 m c (i 0) (i 1) (i 2), fun c i => FrontKernel.res8 m c (i 0) (i 1) (i 2),
    fun c i => FrontKernel.res9 m c (i 0) (i 1) (i 2), fun c i => FrontKernel.res10 m c (i 0) (i 1) (i 2),
    fun c i => FrontKernel.res11 m c (i 0) (i 1) (i 2), fun c i => FrontKernel.res12 m c (i 0) (i 1) (i 2),
    fun c i => FrontKernel.res13 m c (i 0) (i 1) (i 2), fun c i => FrontKernel.res14 m c (i 0) (i 1) (i 2), ?_, ?_⟩
  · refine (θ_run Cert.FrontIdeal.defs _ _).mono (fun _ h c => ?_) (Cert.FrontIdeal.Value.run_blocks (F := Ideal) m ρ)
    obtain ⟨h7, h8, h9, h10, h11, h12, h13, h14, hr⟩ := h c
    exact ⟨h7.trans (FrontKernel.array7 m c), h8.trans (FrontKernel.array8 m c), h9.trans (FrontKernel.array9 m c),
      h10.trans (FrontKernel.array10 m c), h11.trans (FrontKernel.array11 m c), h12.trans (FrontKernel.array12 m c),
      h13.trans (FrontKernel.array13 m c), h14.trans (FrontKernel.array14 m c), hr⟩
  refine (θ_run Cert.FrontRefIdeal.defs _ _).mono (fun _ h c => ?_) (Cert.FrontRefIdeal.Value.run (F := Ideal) m' ρ')
  obtain ⟨e0, e1, e2, e3, e4, e5, e6⟩ := hagree c
  have hw : FrontRef.argWts m' c = FrontKernel.argWts m c := by
    unfold FrontRef.argWts FrontKernel.argWts
    simp only [← e3, ← e4, ← e5, ← e6]
  have hs : ∀ b, FrontRef.argSeq m' c b = FrontKernel.argSeq m c b := by
    intro b
    unfold FrontRef.argSeq FrontKernel.argSeq
    simp only [← e0, ← e1, ← e2]
  obtain ⟨h7, h8, h9, h10, h11, h12, h13, h14, hr⟩ := h c
  refine ⟨h7.trans ?_, h8.trans ?_, h9.trans ?_, h10.trans ?_, h11.trans ?_, h12.trans ?_, h13.trans ?_, h14.trans ?_, hr⟩
  · funext i
    obtain ⟨b, t, l, rfl⟩ : ∃ (b : Fin 128) (t : Fin 8) (l : Fin 3072), i = ix3 b t l := ⟨i 0, i 1, i 2, by blk_ext⟩
    rw [FrontRef.shortConv_eq]
    refine (FrontRef.shortConv_apply m' c b t l).trans ?_
    rw [hw, hs]
    rfl
  · funext i
    obtain ⟨b, t, l, rfl⟩ : ∃ (b : Fin 128) (t : Fin 8) (l : Fin 1024), i = ix3 b t l := ⟨i 0, i 1, i 2, by blk_ext⟩
    show _ = FrontSpec.main (FrontKernel.argWts m c) (FrontKernel.argSeq m c b) t ⟨3072 + l.val, by omega⟩
    rw [← hw, ← hs, FrontRef.main_lo _ _ _ _ _ (by show 3072 + l.val < 4096; omega)]
    pointwise [FrontRef.proj]
  · funext i
    obtain ⟨b, t, l, rfl⟩ : ∃ (b : Fin 128) (t : Fin 8) (l : Fin 128), i = ix3 b t l := ⟨i 0, i 1, i 2, by blk_ext⟩
    rw [FrontRef.gates_eq]
    refine (FrontRef.gates_apply m' c b t l).trans ?_
    rw [hw, hs]
    rfl
  · funext i
    obtain ⟨b, t, l, rfl⟩ : ∃ (b : Fin 128) (t : Fin 8) (l : Fin 1024), i = ix3 b t l := ⟨i 0, i 1, i 2, by blk_ext⟩
    show _ = FrontSpec.main (FrontKernel.argWts m c) (FrontKernel.argSeq m c b) t ⟨4096 + l.val, by omega⟩ * Ideal.ofBits .f32 0x3E000000#32
    rw [← hw, ← hs, FrontRef.main_hi _ _ _ _ _ (by show ¬ 4096 + l.val < 4096; omega)]
    have e : (⟨4096 + l.val + 16, by omega⟩ : Fin 7696) = ⟨4112 + l.val, by omega⟩ := Fin.ext (by show 4096 + l.val + 16 = 4112 + l.val; omega)
    simp only [e]
    pointwise [FrontRef.proj]
  · funext i
    obtain ⟨b, t, l, rfl⟩ : ∃ (b : Fin 128) (t : Fin 8) (l : Fin 256), i = ix3 b t l := ⟨i 0, i 1, i 2, by blk_ext⟩
    show _ = FrontSpec.main (FrontKernel.argWts m c) (FrontKernel.argSeq m c b) t ⟨5120 + l.val, by omega⟩
    rw [← hw, ← hs, FrontRef.main_hi _ _ _ _ _ (by show ¬ 5120 + l.val < 4096; omega)]
    have e : (⟨5120 + l.val + 16, by omega⟩ : Fin 7696) = ⟨5136 + l.val, by omega⟩ := Fin.ext (by show 5120 + l.val + 16 = 5136 + l.val; omega)
    simp only [e]
    pointwise [FrontRef.proj]
  · funext i
    obtain ⟨b, t, l, rfl⟩ : ∃ (b : Fin 128) (t : Fin 8) (l : Fin 256), i = ix3 b t l := ⟨i 0, i 1, i 2, by blk_ext⟩
    show _ = FrontSpec.main (FrontKernel.argWts m c) (FrontKernel.argSeq m c b) t ⟨5376 + l.val, by omega⟩
    rw [← hw, ← hs, FrontRef.main_hi _ _ _ _ _ (by show ¬ 5376 + l.val < 4096; omega)]
    have e : (⟨5376 + l.val + 16, by omega⟩ : Fin 7696) = ⟨5392 + l.val, by omega⟩ := Fin.ext (by show 5376 + l.val + 16 = 5392 + l.val; omega)
    simp only [e]
    pointwise [FrontRef.proj]
  · funext i
    obtain ⟨b, t, l, rfl⟩ : ∃ (b : Fin 128) (t : Fin 8) (l : Fin 2048), i = ix3 b t l := ⟨i 0, i 1, i 2, by blk_ext⟩
    show _ = FrontSpec.sig (FrontSpec.main (FrontKernel.argWts m c) (FrontKernel.argSeq m c b) t ⟨5632 + l.val, by omega⟩)
    rw [← hw, ← hs, FrontRef.main_hi _ _ _ _ _ (by show ¬ 5632 + l.val < 4096; omega), FrontSpec.sig, zero_sub]
    have e : (⟨5632 + l.val + 16, by omega⟩ : Fin 7696) = ⟨5648 + l.val, by omega⟩ := Fin.ext (by show 5632 + l.val + 16 = 5648 + l.val; omega)
    simp only [e]
    pointwise [FrontRef.proj]
  · funext i
    obtain ⟨b, t, l, rfl⟩ : ∃ (b : Fin 128) (t : Fin 3) (l : Fin 3072), i = ix3 b t l := ⟨i 0, i 1, i 2, by blk_ext⟩
    show _ = FrontSpec.buf (FrontKernel.argWts m c) (FrontKernel.argSeq m c b) ⟨13 + t.val, by omega⟩ l
    have e := FrontRef.buf_eq m' c b ⟨8 + t.val, by omega⟩ l
    have e' : (⟨5 + (8 + t.val), by omega⟩ : Fin 16) = ⟨13 + t.val, by omega⟩ := Fin.ext (by show 5 + (8 + t.val) = 13 + t.val; omega)
    simp only [e'] at e
    rw [← hw, ← hs, ← e]
    pointwise [FrontRef.proj]

/-- The reference's run leaves its arguments alone; it declares no semaphore. -/
theorem frame_reference : Cert.quiescent_FrontRefIdeal := fun m ρ _ =>
  (θ_run Cert.FrontRefIdeal.defs _ _).mono
    (fun r h => ⟨fun c => (h c).2.2.2.2.2.2.2.2, sem_eq_zero_of_no_sems (by decide) r.2⟩)
    (Cert.FrontRefIdeal.Value.run (F := Ideal) m ρ)

end Cert.Proof.Front

end
-- ==== Proof.MixerStage.lean ====
/- The mixer kernel's body for one row of the batch, stage by stage. The kernel treats four rows in each of its trips; what it
   does to a row depends on nothing but what it loads of that row, so each stage is stated once, as a function of those loads,
   with the head (or the group of heads) as an argument. MixerPieces.lean ties the stages to what the kernel stores. -/
module

public import proofs.«01_k».proof.Proof.Gen.MixerIdeal.Skeleton

@[expose] public section

set_option maxRecDepth 16384

noncomputable section

namespace Cert.Mix

open Cert.MixerIdeal Cert.MixerIdeal.Facts Cert.MixerIdeal.Gen Idealize.ShloMosaic

variable {F : FTy → Type} [FloatOps F]

/-- What the kernel loads for one row of the batch. -/
structure Loads (F : FTy → Type) [FloatOps F] where
  /-- the three projected and convolved streams of branch A, side by side -/
  cs : Vec F S1x8x3072 .f32
  /-- the gate of branch A's norm -/
  z : Vec F S1x8x1024 .f32
  /-- the write strengths (8 lanes) and the log decays (8 lanes) -/
  gb : Vec F S1x8x128 .f32
  /-- the norm's weights -/
  wn : Vec F S1x128 .f32
  /-- each head's state -/
  s0 : Fin 8 → Vec F S1x1x1x128x128 .f32
  /-- branch B's queries -/
  q : Vec F S1x8x1024 .bf16
  /-- the new keys -/
  kn : Vec F S1x8x256 .f32
  /-- the new values -/
  vn : Vec F S1x8x256 .f32
  /-- the cached keys -/
  kc : Vec F S1x1x128x256 .f32
  /-- the cached values -/
  vc : Vec F S1x1x128x256 .f32
  /-- each group's bias -/
  bias : Fin 4 → Vec F S1x136x32 .f32

/-- The masks of the 64 stacked rows (eight heads of eight steps). -/
structure Masks where
  /-- the row numbers -/
  i : IVec S64x64 32
  /-- the column numbers -/
  j : IVec S64x64 32
  /-- the same head -/
  same : IVec S64x64 1
  /-- pairs within two steps -/
  l0 : IVec S64x64 1
  /-- pairs within four steps -/
  l1 : IVec S64x64 1
  /-- pairs within eight steps -/
  l2 : IVec S64x64 1
  /-- the same head, not later -/
  tri : IVec S64x64 1
  /-- the same head, earlier -/
  strict : IVec S64x64 1
  /-- later rows -/
  after : IVec S64x64 1

/-! ## Branch B: the window attention -/

/-- A window: the cached rows, then the new ones. -/
def window (c : Vec F S1x1x128x256 .f32) (n : Vec F S1x8x256 .f32) : FVec F S136x256 .f32 :=
  concatenate S136x256 0 [⟨S128x256, shapeCast S128x256 c shapeCasts_S1x1x128x256_S128x256⟩,
    ⟨S8x256, shapeCast S8x256 n shapeCasts_S1x8x256_S8x256⟩] concatenates_S128x256_S8x256_S136x256_d0

/-- The window's last 128 rows, as they are stored. -/
def windowOut (c : Vec F S1x1x128x256 .f32) (n : Vec F S1x8x256 .f32) : FVec F S1x1x128x256 .f32 :=
  shapeCast S1x1x128x256 (extractStridedSlice S128x256 ![8, 0] (window c n) slices_S136x256_o8_0_S128x256)
    shapeCasts_S128x256_S1x1x128x256

/-- The window with its oldest row cleared: the sink's place. -/
def cleared (w : FVec F S136x256 .f32) : FVec F S136x256 .bf16 :=
  truncf .bf16 (select (cmpi .eq (iota .tc S136x256 32 [0] iota_S136x256_d0_w32) (broadcast S136x256 0#32))
    (broadcast S136x256 (Scalar.ofBits .f32 0x00000000#32)) w) bitsLt_bf16_f32

/-- The columns of group `h` in a window. -/
def group (w : FVec F S136x256 .bf16) (h : Fin 4) : FVec F S136x64 .bf16 :=
  extractStridedSlice S136x64 ![0, 64 * h.val] w ((by decide : ∀ h : Fin 4, S136x256.Slices ![0, 64 * h.val] S136x64) h)

/-- The queries of one head. -/
def headQuery (q : Vec F S1x8x1024 .bf16) (h : Fin 16) : FVec F S8x64 .bf16 :=
  extractStridedSlice S8x64 ![0, 64 * h.val] (shapeCast S8x1024 q shapeCasts_S1x8x1024_S8x1024)
    ((by decide : ∀ h : Fin 16, S8x1024.Slices ![0, 64 * h.val] S8x64) h)

/-- The head `4 h + g`. -/
def headOf (h g : Fin 4) : Fin 16 := ⟨4 * h.val + g.val, by omega⟩

/-- The queries of a group's four heads, stacked. -/
def groupQuery (q : Vec F S1x8x1024 .bf16) (h : Fin 4) : FVec F S32x64 .bf16 :=
  concatenate S32x64 0 [⟨S8x64, headQuery q (headOf h 0)⟩, ⟨S8x64, headQuery q (headOf h 1)⟩,
    ⟨S8x64, headQuery q (headOf h 2)⟩, ⟨S8x64, headQuery q (headOf h 3)⟩] concatenates_S8x64_S8x64_S8x64_S8x64_S32x64_d0

/-- The group's scores with the bias, keys by queries. -/
def scores (A : Loads F) (h : Fin 4) : FVec F S136x32 .f32 :=
  addf (matmul dot_S136x64_S32x64_S136x32_1_1_0_0_n_n none (group (cleared (window A.kc A.kn)) h) (groupQuery A.q h)
    (constant S136x32 .f32 0x00000000#32)) (shapeCast S136x32 (A.bias h) shapeCasts_S1x136x32_S136x32)

/-- The exponentials of scores less the greatest score of their query. -/
def expScores (s : FVec F S136x32 .f32) : FVec F S136x32 .f32 :=
  exp (subf s (broadcastTo S136x32 (shapeCast S1x32 (multiReduction .maximumf [0] S32 s 0xFF800000#32 reduces_S136x32_S32 (.inl rfl) rfl)
    shapeCasts_S32_S1x32) broadcasts_S1x32_S136x32))

/-- The softmax over the keys. -/
def softmax (s : FVec F S136x32 .f32) : FVec F S136x32 .bf16 :=
  truncf .bf16 (divf (expScores s) (broadcastTo S136x32 (shapeCast S1x32 (multiReduction .add [0] S32 (expScores s) 0x00000000#32
    reduces_S136x32_S32 (.inl rfl) rfl) shapeCasts_S32_S1x32) broadcasts_S1x32_S136x32)) bitsLt_bf16_f32

/-- The group's attention. -/
def attend (A : Loads F) (h : Fin 4) : FVec F S32x64 .f32 :=
  matmul dot_S136x32_S136x64_S32x64_0_0_1_1_n_n none (softmax (scores A h)) (group (cleared (window A.vc A.vn)) h)
    (constant S32x64 .f32 0x00000000#32)

/-- One head of it, as it is stored. -/
def attendOut (A : Loads F) (h g : Fin 4) : FVec F S1x8x64 .bf16 :=
  shapeCast S1x8x64 (truncf .bf16 (extractStridedSlice S8x64 ![8 * g.val, 0] (attend A h)
    ((by decide : ∀ g : Fin 4, S32x64.Slices ![8 * g.val, 0] S8x64) g)) bitsLt_bf16_f32) shapeCasts_S8x64_S1x8x64

/-! ## Branch A: the gated delta rule -/

/-- Eight blocks of eight rows, stacked. -/
def stack8 (f : Fin 8 → FVec F S8x128 .f32) : FVec F S64x128 .f32 :=
  concatenate S64x128 0 [⟨S8x128, f 0⟩, ⟨S8x128, f 1⟩, ⟨S8x128, f 2⟩, ⟨S8x128, f 3⟩, ⟨S8x128, f 4⟩, ⟨S8x128, f 5⟩, ⟨S8x128, f 6⟩,
    ⟨S8x128, f 7⟩] concatenates_S8x128_S8x128_S8x128_S8x128_S8x128_S8x128_S8x128_S8x128_S64x128_d0

/-- Stream `p` (queries, keys, values) of all heads, stacked. -/
def stream (A : Loads F) (p : Fin 3) : FVec F S64x128 .f32 :=
  stack8 fun h => extractStridedSlice S8x128 ![0, 1024 * p.val + 128 * h.val] (shapeCast S8x3072 A.cs shapeCasts_S1x8x3072_S8x3072)
    ((by decide : ∀ (p : Fin 3) (h : Fin 8), S8x3072.Slices ![0, 1024 * p.val + 128 * h.val] S8x128) p h)

/-- Lanes `8 p + h` (`p = 0` the write strengths, `p = 1` the log decays) of all heads, each over a head's 128 columns. -/
def lanes (A : Loads F) (p : Fin 2) : FVec F S64x128 .f32 :=
  stack8 fun h => broadcastTo S8x128 (shapeCast S8x1 (extractStridedSlice S8x1 ![0, 8 * p.val + h.val]
    (shapeCast S8x128 A.gb shapeCasts_S1x8x128_S8x128)
    ((by decide : ∀ (p : Fin 2) (h : Fin 8), S8x128.Slices ![0, 8 * p.val + h.val] S8x1) p h)) shapeCasts_S8x1_S8x1) broadcasts_S8x1_S8x128

/-- A mask as zeros and ones. -/
def ones (b : IVec S64x64 1) : FVec F S64x64 .bf16 :=
  truncf .bf16 (sitofp .f32 (extui 32 b natLt_1_32)) bitsLt_bf16_f32

/-- The first of the three parts that the sums are taken in. -/
def high (x : FVec F S64x128 .f32) : FVec F S64x128 .bf16 := truncf .bf16 x bitsLt_bf16_f32

/-- What the first part leaves. -/
def rest (x : FVec F S64x128 .f32) : FVec F S64x128 .f32 := subf x (extf .f32 (high x) bitsLt_bf16_f32)

/-- The masked sums of the rows of `x`, in three parts. -/
def maskedSum (b : IVec S64x64 1) (x : FVec F S64x128 .f32) : FVec F S64x128 .f32 :=
  addf (addf (matmul dot_S64x64_S64x128_S64x128_1_0_0_1_n_n none (ones (F := F) b) (high x) (constant S64x128 .f32 0x00000000#32))
    (matmul dot_S64x64_S64x128_S64x128_1_0_0_1_n_n none (ones (F := F) b) (high (rest x)) (constant S64x128 .f32 0x00000000#32)))
    (matmul dot_S64x64_S64x128_S64x128_1_0_0_1_n_n none (ones (F := F) b) (high (rest (rest x))) (constant S64x128 .f32 0x00000000#32))

/-- The running sums of the log decays. -/
def run (A : Loads F) (m : Masks) : FVec F S64x128 .f32 := maskedSum m.tri (lanes A 1)

/-- The log decays still to come. -/
def left (A : Loads F) (m : Masks) : FVec F S64x128 .f32 := maskedSum (andi m.same m.after) (lanes A 1)

/-- Rows scaled to unit length. -/
def normed (x : FVec F S64x128 .f32) : FVec F S64x128 .f32 :=
  mulf x (broadcastTo S64x128 (rsqrt (addf (shapeCast S64x1 (multiReduction .add [1] S64 (mulf x x) 0x00000000#32 reduces_S64x128_S64 (.inl rfl) rfl)
    shapeCasts_S64_S64x1) (broadcast S64x1 (Scalar.ofBits .f32 0x358637BD#32)))) broadcasts_S64x1_S64x128)

/-- The queries. -/
def qn (A : Loads F) : FVec F S64x128 .f32 := mulf (normed (stream A 0)) (broadcast S64x128 (Scalar.ofBits .f32 0x3DB504F3#32))

/-- The keys. -/
def kn (A : Loads F) : FVec F S64x128 .f32 := normed (stream A 1)

/-- The keys by their write strengths. -/
def kb (A : Loads F) : FVec F S64x128 .f32 := mulf (kn A) (lanes A 0)

/-- The decay from one row to another. -/
def decay (A : Loads F) (m : Masks) : FVec F S64x64 .f32 :=
  exp (select m.tri (subf (extractStridedSlice S64x64 ![0, 0] (run A m) slices_S64x128_o0_0_S64x64)
    (extractStridedSlice S64x64 ![0, 0] (transpose S128x64 [1, 0] (run A m) transposes_S64x128_p1_0_S128x64) slices_S128x64_o0_0_S64x64))
    (broadcast S64x64 (Scalar.ofBits .f32 0xFF800000#32)))

/-- The products of keys and of queries with keys. -/
def products (A : Loads F) : FVec F S128x64 .f32 :=
  matmul dot_S128x128_S64x128_S128x64_1_1_0_0_n_n none
    (truncf .bf16 (concatenate S128x128 0 [⟨S64x128, kb A⟩, ⟨S64x128, qn A⟩] concatenates_S64x128_S64x128_S128x128_d0) bitsLt_bf16_f32)
    (truncf .bf16 (kn A) bitsLt_bf16_f32) (constant S128x64 .f32 0x00000000#32)

/-- The matrix of the linear system. -/
def sys (A : Loads F) (m : Masks) : FVec F S64x64 .f32 :=
  select m.strict (mulf (extractStridedSlice S64x64 ![0, 0] (products A) slices_S128x64_o0_0_S64x64) (decay A m))
    (broadcast S64x64 (Scalar.ofBits .f32 0x00000000#32))

/-- The decayed products of queries and keys. -/
def qk (A : Loads F) (m : Masks) : FVec F S64x64 .bf16 :=
  truncf .bf16 (mulf (extractStridedSlice S64x64 ![64, 0] (products A) slices_S128x64_o64_0_S64x64) (decay A m)) bitsLt_bf16_f32

/-- The part of a system under a mask. -/
def part (b : IVec S64x64 1) (x : FVec F S64x64 .f32) : FVec F S64x64 .f32 :=
  select b x (broadcast S64x64 (Scalar.ofBits .f32 0x00000000#32))

/-- The inverse's first level. -/
def inv0 (m : Masks) (x : FVec F S64x64 .f32) : FVec F S64x64 .f32 :=
  subf (sitofp .f32 (extui 32 (cmpi .eq m.i m.j) natLt_1_32)) (part m.l0 x)

/-- A product of two of these matrices. -/
def mul64 (x y : FVec F S64x64 .bf16) : FVec F S64x64 .f32 :=
  matmul dot_S64x64_S64x64_S64x64_1_0_0_1_n_n none x y (constant S64x64 .f32 0x00000000#32)

/-- The correction of one level. -/
def level (b : IVec S64x64 1) (x t : FVec F S64x64 .f32) : FVec F S64x64 .f32 :=
  subf t (mul64 (truncf .bf16 (mul64 (truncf .bf16 t bitsLt_bf16_f32) (truncf .bf16 (part b x) bitsLt_bf16_f32)) bitsLt_bf16_f32)
    (truncf .bf16 t bitsLt_bf16_f32))

/-- The inverse of the system. -/
def inv (A : Loads F) (m : Masks) : FVec F S64x64 .f32 := level m.l2 (sys A m) (level m.l1 (sys A m) (inv0 m (sys A m)))

/-- The right-hand sides. -/
def rhs (A : Loads F) (m : Masks) : FVec F S64x256 .bf16 :=
  truncf .bf16 (concatenate S64x256 1 [⟨S64x128, mulf (stream A 2) (lanes A 0)⟩, ⟨S64x128, mulf (kb A) (exp (run A m))⟩]
    concatenates_S64x128_S64x128_S64x256_d1) bitsLt_bf16_f32

/-- The solutions. -/
def sol (A : Loads F) (m : Masks) : FVec F S64x256 .f32 :=
  matmul dot_S64x64_S64x256_S64x256_1_0_0_1_n_n none (truncf .bf16 (inv A m) bitsLt_bf16_f32) (rhs A m) (constant S64x256 .f32 0x00000000#32)

/-- The queries by their decay. -/
def qg (A : Loads F) (m : Masks) : FVec F S64x128 .bf16 := truncf .bf16 (mulf (qn A) (exp (run A m))) bitsLt_bf16_f32

/-- The keys by the decay to come. -/
def kd (A : Loads F) (m : Masks) : FVec F S64x128 .bf16 := truncf .bf16 (mulf (kn A) (exp (left A m))) bitsLt_bf16_f32

/-- The second solution. -/
def solW (A : Loads F) (m : Masks) : FVec F S64x128 .bf16 :=
  truncf .bf16 (extractStridedSlice S64x128 ![0, 128] (sol A m) slices_S64x256_o0_128_S64x128) bitsLt_bf16_f32

/-- The eight rows of head `h`. -/
def headRows {e : FTy} (x : FVec F S64x128 e) (h : Fin 8) : FVec F S8x128 e :=
  extractStridedSlice S8x128 ![8 * h.val, 0] x ((by decide : ∀ h : Fin 8, S64x128.Slices ![8 * h.val, 0] S8x128) h)

/-- What head `h` reads of its old state: for the second solution, then for the queries. -/
def both (A : Loads F) (m : Masks) (h : Fin 8) : FVec F S16x128 .f32 :=
  matmul dot_S16x128_S128x128_S16x128_1_0_0_1_n_n none
    (concatenate S16x128 0 [⟨S8x128, headRows (solW A m) h⟩, ⟨S8x128, headRows (qg A m) h⟩] concatenates_S8x128_S8x128_S16x128_d0)
    (truncf .bf16 (shapeCast S128x128 (A.s0 h) shapeCasts_S1x1x1x128x128_S128x128) bitsLt_bf16_f32) (constant S16x128 .f32 0x00000000#32)

/-- The values that are written. -/
def vnew (A : Loads F) (m : Masks) : FVec F S64x128 .bf16 :=
  truncf .bf16 (subf (extractStridedSlice S64x128 ![0, 0] (sol A m) slices_S64x256_o0_0_S64x128)
    (stack8 fun h => extractStridedSlice S8x128 ![0, 0] (both A m h) slices_S16x128_o0_0_S8x128)) bitsLt_bf16_f32

/-- Head `h`'s new state, as it is stored. -/
def stateOut (A : Loads F) (m : Masks) (h : Fin 8) : FVec F S1x1x1x128x128 .f32 :=
  shapeCast S1x1x1x128x128 (addf (mulf (shapeCast S128x128 (A.s0 h) shapeCasts_S1x1x1x128x128_S128x128)
      (broadcastTo S128x128 (extractStridedSlice S1x128 ![8 * h.val + 7, 0] (exp (run A m))
        ((by decide : ∀ h : Fin 8, S64x128.Slices ![8 * h.val + 7, 0] S1x128) h)) broadcasts_S1x128_S128x128))
    (matmul dot_S8x128_S8x128_S128x128_0_0_1_1_n_n none (headRows (kd A m) h) (headRows (vnew A m) h) (constant S128x128 .f32 0x00000000#32)))
    shapeCasts_S128x128_S1x1x1x128x128

/-- Head `h`'s output before the norm. -/
def mixed (A : Loads F) (m : Masks) (h : Fin 8) : FVec F S8x128 .f32 :=
  addf (extractStridedSlice S8x128 ![8, 0] (both A m h) slices_S16x128_o8_0_S8x128)
    (headRows (matmul dot_S64x64_S64x128_S64x128_1_0_0_1_n_n none (qk A m) (vnew A m) (constant S64x128 .f32 0x00000000#32)) h)

/-- The norm without its weights. -/
def rms (x : FVec F S8x128 .f32) : FVec F S8x128 .f32 :=
  mulf x (broadcastTo S8x128 (rsqrt (addf (divf (shapeCast S8x1 (multiReduction .add [1] S8 (mulf x x) 0x00000000#32 reduces_S8x128_S8 (.inl rfl) rfl)
    shapeCasts_S8_S8x1) (broadcast S8x1 (Scalar.ofBits .f32 0x43000000#32))) (broadcast S8x1 (Scalar.ofBits .f32 0x358637BD#32))))
    broadcasts_S8x1_S8x128)

/-- Head `h`'s columns of the gate. -/
def gate (A : Loads F) (h : Fin 8) : FVec F S8x128 .f32 :=
  extractStridedSlice S8x128 ![0, 128 * h.val] (shapeCast S8x1024 A.z shapeCasts_S1x8x1024_S8x1024)
    ((by decide : ∀ h : Fin 8, S8x1024.Slices ![0, 128 * h.val] S8x128) h)

/-- The gate's activation. -/
def silu (x : FVec F S8x128 .f32) : FVec F S8x128 .f32 :=
  mulf x (divf (broadcast S8x128 (Scalar.ofBits .f32 0x3F800000#32)) (addf (broadcast S8x128 (Scalar.ofBits .f32 0x3F800000#32))
    (exp (subf (broadcast S8x128 (Scalar.ofBits .f32 0x00000000#32)) x))))

/-- Head `h`'s output, as it is stored. -/
def mixOut (A : Loads F) (m : Masks) (h : Fin 8) : FVec F S1x8x128 .bf16 :=
  shapeCast S1x8x128 (truncf .bf16 (mulf (mulf (rms (mixed A m h))
    (broadcastTo S8x128 (shapeCast S1x128 A.wn shapeCasts_S1x128_S1x128) broadcasts_S1x128_S8x128)) (silu (gate A h))) bitsLt_bf16_f32)
    shapeCasts_S8x128_S1x8x128

end Cert.Mix
-- ==== Proof.MixerAttend.lean ====
/- Branch B of the mixer, number by number: the window, the scores, the softmax over the keys and the attention of one query. -/
module

public import proofs.«01_k».proof.Proof.MixerStage
public import Idealize.ShloMosaic.Lib.Pipeline.ValueKit
public import Idealize.ShloMosaic.Lib.Pointwise

@[expose] public section

set_option maxRecDepth 16384

noncomputable section

namespace Cert.Mix

open Cert.MixerIdeal Cert.MixerIdeal.Facts Cert.MixerIdeal.Gen Idealize.ShloMosaic Idealize.SL.Sem

/-- A window at row `k`: the cached rows, then the new ones. -/
def windowAt (c : Vec Ideal S1x1x128x256 .f32) (n : Vec Ideal S1x8x256 .f32) (k : Fin 136) (j : Fin 256) : EReal :=
  if h : k.val < 128 then c (ix4 0 0 ⟨k.val, h⟩ j) else n (ix3 0 ⟨k.val - 128, by omega⟩ j)

theorem window_apply (c : Vec Ideal S1x1x128x256 .f32) (n : Vec Ideal S1x8x256 .f32) (k : Fin 136) (j : Fin 256) :
    window c n (ix2 k j) = windowAt c n k j := by
  unfold windowAt
  pointwise [window]

theorem windowOut_apply (c : Vec Ideal S1x1x128x256 .f32) (n : Vec Ideal S1x8x256 .f32) (k : Fin 128) (j : Fin 256) :
    windowOut c n (ix4 0 0 k j) = windowAt c n ⟨8 + k.val, by omega⟩ j := by
  pointwise [windowOut]
  rw [window_apply]

theorem select_row0 (k : Fin 136) (a b : EReal) :
    Scalar.select (IntOp.cmpi CmpIPredicate.eq (BitVec.ofNat 32 k.val) 0#32) a b = if k.val = 0 then a else b := by
  have h : IntOp.cmpi CmpIPredicate.eq (BitVec.ofNat 32 k.val) 0#32 = if k.val = 0 then 1#1 else 0#1 :=
    (by decide : ∀ k : Fin 136, IntOp.cmpi CmpIPredicate.eq (BitVec.ofNat 32 k.val) 0#32 = if k.val = 0 then 1#1 else 0#1) k
  rw [h]
  split <;> rfl

theorem cleared_apply (w : FVec Ideal S136x256 .f32) (k : Fin 136) (j : Fin 256) :
    cleared w (ix2 k j) = if k.val = 0 then 0 else w (ix2 k j) := by
  pointwise [cleared]
  exact select_row0 k _ _

theorem group_apply (w : FVec Ideal S136x256 .bf16) (h : Fin 4) (k : Fin 136) (d : Fin 64) :
    group w h (ix2 k d) = w (ix2 k ⟨64 * h.val + d.val, by omega⟩) := by
  pointwise [group]

theorem headQuery_apply (q : Vec Ideal S1x8x1024 .bf16) (h : Fin 16) (t : Fin 8) (d : Fin 64) :
    headQuery q h (ix2 t d) = q (ix3 0 t ⟨64 * h.val + d.val, by omega⟩) := by
  pointwise [headQuery]

theorem groupQuery_apply (q : Vec Ideal S1x8x1024 .bf16) (h g : Fin 4) (t : Fin 8) (d : Fin 64) :
    groupQuery q h (ix2 (⟨8 * g.val + t.val, by omega⟩ : Fin 32) d) = q (ix3 0 t ⟨64 * (headOf h g).val + d.val, by omega⟩) := by
  refine Eq.trans (concatenate_ofFn_apply (t := S32x64) (s₁ := S8x64) 0 (fun n : Fin 4 => headQuery q (headOf h n))
    concatenates_S8x64_S8x64_S8x64_S8x64_S32x64_d0 rfl 8 rfl _ g ?_ (ix2 t d) ?_ ?_) (headQuery_apply q _ t d)
  · show (8 * g.val + t.val) / 8 = g.val; omega
  · show t.val = (8 * g.val + t.val) % 8; omega
  · intro b hb
    match b with
    | ⟨0, _⟩ => exact absurd rfl hb
    | ⟨1, _⟩ => rfl

/-- The score of key `k` for query `t` of head `4 h + g`, bias included. -/
def scoreAt (A : Loads Ideal) (h g : Fin 4) (t : Fin 8) (k : Fin 136) : EReal :=
  (∑ d : Fin 64, (if k.val = 0 then 0 else windowAt A.kc A.kn k ⟨64 * h.val + d.val, by omega⟩)
      * A.q (ix3 0 t ⟨64 * (headOf h g).val + d.val, by omega⟩))
    + A.bias h (ix3 0 k ⟨8 * g.val + t.val, by omega⟩)

theorem scores_apply (A : Loads Ideal) (h g : Fin 4) (t : Fin 8) (k : Fin 136) :
    scores A h (ix2 k (⟨8 * g.val + t.val, by omega⟩ : Fin 32)) = scoreAt A h g t k := by
  pointwise [scores]
  simp only [group_apply, cleared_apply, window_apply, groupQuery_apply]
  rfl

/-- The softmax weight of one score among the scores of a query. -/
def weightAt (s : Fin 136 → EReal) (k : Fin 136) : EReal :=
  Ideal.div (Ideal.exp (s k - Finset.fold max (Ideal.ofBits FTy.f32 0xFF800000#32) s Finset.univ))
    (∑ k', Ideal.exp (s k' - Finset.fold max (Ideal.ofBits FTy.f32 0xFF800000#32) s Finset.univ))

theorem softmax_apply (s : FVec Ideal S136x32 .f32) (k : Fin 136) (j : Fin 32) :
    softmax s (ix2 k j) = weightAt (fun k => s (ix2 k j)) k := by
  have he : ∀ k, expScores s (ix2 k j) = Ideal.exp (s (ix2 k j) - Finset.fold max (Ideal.ofBits FTy.f32 0xFF800000#32) (fun k => s (ix2 k j)) Finset.univ) := by
    intro k; pointwise [expScores]
  pointwise [softmax]
  simp only [he]
  rfl

/-- The attention of query `t` of head `4 h + g`, at column `d`. -/
def attendAt (A : Loads Ideal) (h g : Fin 4) (t : Fin 8) (d : Fin 64) : EReal :=
  ∑ k, weightAt (scoreAt A h g t) k * (if k.val = 0 then 0 else windowAt A.vc A.vn k ⟨64 * h.val + d.val, by omega⟩)

theorem attend_apply (A : Loads Ideal) (h g : Fin 4) (t : Fin 8) (d : Fin 64) :
    attend A h (ix2 (⟨8 * g.val + t.val, by omega⟩ : Fin 32) d) = attendAt A h g t d := by
  pointwise [attend]
  simp only [softmax_apply, scores_apply, group_apply, cleared_apply, window_apply]
  rfl

theorem attendOut_apply (A : Loads Ideal) (h g : Fin 4) (t : Fin 8) (d : Fin 64) :
    attendOut A h g (ix3 0 t d) = attendAt A h g t d := by
  pointwise [attendOut]
  exact attend_apply A h g t d

/-! ## The sink as a key -/

theorem negInf : Ideal.ofBits FTy.f32 0xFF800000#32 = ⊥ := by simp [Ideal.ofBits, Ideal.ieee]

/-- The greatest of the scores. -/
theorem fold_max_eq (s : Fin 136 → EReal) : Finset.fold max (Ideal.ofBits FTy.f32 0xFF800000#32) s Finset.univ = Finset.univ.sup s := by
  rw [negInf]; rfl

/-- An exponential of a difference is not negative. -/
theorem exp_nonneg (x : EReal) : 0 ≤ Ideal.exp x := by
  induction x with
  | bot => simp
  | top => simp
  | coe r => simp only [Ideal.exp_coe]; exact_mod_cast (Real.exp_pos r).le

/-- The softmax whose sink is a key of value zero, and the softmax that adds the sink to the greatest score and to the
    denominator, agree where the scores are not `+∞` and the sink is finite: with the sink finite the denominator is not zero. -/
theorem sink_as_key (s s' v : Fin 136 → EReal) (hs : ∀ k, s k ≠ ⊤) (h0 : s 0 ≠ ⊥) (hb : s' 0 = ⊥) (he : ∀ k : Fin 136, k.val ≠ 0 → s' k = s k) :
    ∑ k, weightAt s k * (if k.val = 0 then 0 else v k)
      = ∑ k, Ideal.div (Ideal.exp (s' k - max (Finset.univ.sup s') (s 0)))
          ((∑ k', Ideal.exp (s' k' - max (Finset.univ.sup s') (s 0))) + Ideal.exp (s 0 - max (Finset.univ.sup s') (s 0))) * v k := by
  have hM : max (Finset.univ.sup s') (s 0) = Finset.univ.sup s := by
    apply le_antisymm
    · refine max_le (Finset.sup_le fun k _ => ?_) (Finset.le_sup (f := s) (Finset.mem_univ 0))
      by_cases hk : k.val = 0
      · rw [show k = 0 from Fin.ext hk, hb]; exact bot_le
      · rw [he k hk]; exact Finset.le_sup (f := s) (Finset.mem_univ k)
    · refine Finset.sup_le fun k _ => ?_
      by_cases hk : k.val = 0
      · rw [show k = 0 from Fin.ext hk]; exact le_max_right _ _
      · rw [← he k hk]; exact le_max_of_le_left (Finset.le_sup (f := s') (Finset.mem_univ k))
  rw [hM]
  have hMt : Finset.univ.sup s ≠ ⊤ := by
    apply ne_of_lt
    rw [Finset.sup_lt_iff (by simp)]
    exact fun k _ => lt_top_iff_ne_top.mpr (hs k)
  have hMb : Finset.univ.sup s ≠ ⊥ := fun h => h0 (le_bot_iff.mp (h ▸ Finset.le_sup (f := s) (Finset.mem_univ 0)))
  have hD : (∑ k', Ideal.exp (s' k' - Finset.univ.sup s)) + Ideal.exp (s 0 - Finset.univ.sup s) = ∑ k', Ideal.exp (s k' - Finset.univ.sup s) := by
    rw [Fin.sum_univ_succ, Fin.sum_univ_succ (fun k' => Ideal.exp (s k' - Finset.univ.sup s)), hb, EReal.bot_sub, Ideal.exp_bot, zero_add, add_comm]
    congr 1
    exact Finset.sum_congr rfl fun i _ => by rw [he i.succ (by simp)]
  have hpos : (∑ k', Ideal.exp (s k' - Finset.univ.sup s)) ≠ 0 := by
    apply ne_of_gt
    have h1 : 0 < Ideal.exp (s 0 - Finset.univ.sup s) := by
      generalize Finset.univ.sup s = M at hMt hMb
      have hst := hs 0
      generalize s 0 = a at hst h0
      lift M to ℝ using ⟨hMt, hMb⟩
      lift a to ℝ using ⟨hst, h0⟩
      rw [← EReal.coe_sub, Ideal.exp_coe]
      exact_mod_cast Real.exp_pos _
    exact lt_of_lt_of_le h1 (Finset.single_le_sum (f := fun k' => Ideal.exp (s k' - Finset.univ.sup s)) (fun k _ => exp_nonneg _) (Finset.mem_univ 0))
  rw [hD]
  refine Finset.sum_congr rfl fun k _ => ?_
  unfold weightAt
  rw [fold_max_eq]
  by_cases hk : k.val = 0
  · rw [show k = 0 from Fin.ext hk, hb, EReal.bot_sub, Ideal.exp_bot]
    unfold Ideal.div
    rw [if_neg hpos, if_neg hpos, zero_mul, if_pos (show ((0 : Fin 136)).val = 0 from rfl), mul_zero, zero_mul]
  · rw [if_neg hk, he k hk]

end Cert.Mix
-- ==== Proof.MixerHost.lean ====
/- What the host prepares for the mixer kernel: scaled queries, flat caches, and the bias of every query and key. -/
module

public import proofs.«01_k».proof.Proof.Gen.MixerIdeal.Value
public import proofs.«01_k».proof.Proof.MixerAttend
public import Idealize.ShloMosaic.Lib.Pipeline.ValueKit
public import Idealize.ShloMosaic.Lib.Pointwise

@[expose] public section

set_option maxRecDepth 16384

noncomputable section

namespace Cert.MixKernel

open Cert.MixerIdeal Cert.MixerIdeal.Facts Cert.MixerIdeal.Gen Idealize.ShloMosaic Idealize.ShloMosaic.TcCoe

variable (m : (ℓ : Loc nD τ sig) → Buf (Elt Ideal) ℓ) (c : Dev nD)

set_option maxHeartbeats 4000000 in
theorem v24_apply (b : Fin 128) (t : Fin 8) (l : Fin 1024) :
    V m c main_v24 (ix3 b t l) = id (α := EReal) (m ((c : Thread nD τ).loc main_arg6) (ix3 b t l)) * Ideal.ofBits .f32 0x3E000000#32 := by
  simp only [V, List.flatten_cons, List.flatten_nil, List.append_nil, hostOps0, hostOps0_1, hostOps0_2, hostOps0_3, hostOps0_4, List.cons_append, List.nil_append]
  entry_read
  pointwise
  rfl

set_option maxHeartbeats 4000000 in
theorem v25_apply (l : Fin 2) (b : Fin 128) (k : Fin 128) (j : Fin 256) :
    V m c main_v25 (ix4 l b k j) = m ((c : Thread nD τ).loc main_arg9) (ix5 l b k ⟨j.val / 64, by omega⟩ ⟨j.val % 64, by omega⟩) := by
  simp only [V, List.flatten_cons, List.flatten_nil, List.append_nil, hostOps0, hostOps0_1, hostOps0_2, hostOps0_3, hostOps0_4, List.cons_append, List.nil_append]
  entry_read
  pointwise

set_option maxHeartbeats 4000000 in
theorem v26_apply (l : Fin 2) (b : Fin 128) (k : Fin 128) (j : Fin 256) :
    V m c main_v26 (ix4 l b k j) = m ((c : Thread nD τ).loc main_arg10) (ix5 l b k ⟨j.val / 64, by omega⟩ ⟨j.val % 64, by omega⟩) := by
  simp only [V, List.flatten_cons, List.flatten_nil, List.append_nil, hostOps0, hostOps0_1, hostOps0_2, hostOps0_3, hostOps0_4, List.cons_append, List.nil_append]
  entry_read
  pointwise

/-- The position bias of every head, query and key, gathered from the table of buckets. -/
def gathered : S16x8x136.Idx → EReal :=
  Host.gather gather_S16x32_S8x136x1_S16x8x136_0_1_n_n_1_2_161 (transpose S16x32 [1, 0] (m ((c : Thread nD τ).loc main_arg11)) transposes_S32x16_S16x32_1_0)
    (broadcastInDim S8x136x1 ![0, 1] bcast_S8x136_S8x136x1_0_1 (select (constantI S8x136 1 0#1) (addi (fun i => lit0 (S8x136.rowMajor i)) (broadcastInDim S8x136 ![] bcast_S_S8x136 (constantI S_ 32 32#32))) (fun i => lit0 (S8x136.rowMajor i))))

set_option maxHeartbeats 4000000 in
theorem v18_read (h : Fin 4) (k : Fin 136) (j : Fin 32) :
    V m c main_v18 (ix3 h k j) = Scalar.select (IntOp.cmpi CmpIPredicate.eq (BitVec.ofNat 32 k.val) 0#32)
      (m ((c : Thread nD τ).loc main_arg12) (ix2 1 ⟨h.val * 4 + j.val / 8, by omega⟩) : EReal)
      (Scalar.select (lit1 (S1x8x136.rowMajor (ix3 0 ⟨j.val % 8, by omega⟩ k))) (gathered m c (ix3 ⟨h.val * 4 + j.val / 8, by omega⟩ ⟨j.val % 8, by omega⟩ k)) (Ideal.ofBits .f32 0xFF800000#32)) := by
  simp only [V, List.flatten_cons, List.flatten_nil, List.append_nil, hostOps0, hostOps0_1, hostOps0_2, hostOps0_3, hostOps0_4, List.cons_append, List.nil_append]
  entry_read
  simp only [StableHlo.TRef.toBuf, StableHlo.TRef.ofBuf, cast_eq]
  pointwise
  rfl

theorem lit1_eq : ∀ (t : Fin 8) (k : Fin 136), lit1 (S1x8x136.rowMajor (ix3 0 t k)) = if t.val < k.val ∧ k.val ≤ 128 + t.val then 1#1 else 0#1 := by decide +kernel

/-- The bias of a head, query and key: the sink at key 0, the gathered bias at the keys the query may read, `-∞` elsewhere. -/
theorem v18_apply (h g : Fin 4) (t : Fin 8) (k : Fin 136) :
    V m c main_v18 (ix3 h k ⟨8 * g.val + t.val, by omega⟩) = if k.val = 0 then id (α := EReal) (m ((c : Thread nD τ).loc main_arg12) (ix2 1 ⟨h.val * 4 + g.val, by omega⟩))
      else if t.val < k.val ∧ k.val ≤ 128 + t.val then gathered m c (ix3 ⟨h.val * 4 + g.val, by omega⟩ t k) else ⊥ := by
  rw [v18_read, Mix.select_row0]
  have e1 : (⟨h.val * 4 + (8 * g.val + t.val) / 8, by omega⟩ : Fin 16) = ⟨h.val * 4 + g.val, by omega⟩ := Fin.ext (by show h.val * 4 + (8 * g.val + t.val) / 8 = h.val * 4 + g.val; omega)
  have e2 : (⟨(8 * g.val + t.val) % 8, by omega⟩ : Fin 8) = t := Fin.ext (by show (8 * g.val + t.val) % 8 = t.val; omega)
  simp only [e1, e2]
  rw [lit1_eq, Mix.negInf]
  congr 1
  split_ifs <;> rfl

end Cert.MixKernel

end
-- ==== Proof.MixerSpec.lean ====
/- Sliding-window attention with sinks and a position bias, number by number, and that it is what the kernel's folded form
   computes: the scale put on the queries, the sink a key of value zero. -/
module

public import proofs.«01_k».proof.Proof.MixerAttend

@[expose] public section

set_option maxRecDepth 16384

noncomputable section

namespace Cert.Mix

open Cert.MixerIdeal Cert.MixerIdeal.Facts Cert.MixerIdeal.Gen Idealize.ShloMosaic Idealize.SL.Sem

/-- What the attention of one sequence reads. -/
structure AttArgs where
  /-- queries -/
  q : Fin 8 → Fin 1024 → EReal
  /-- the window's keys: the cached ones, then the new ones -/
  k : Fin 136 → Fin 256 → EReal
  /-- the window's values -/
  v : Fin 136 → Fin 256 → EReal
  /-- position bias by head, query and key -/
  bias : Fin 16 → Fin 8 → Fin 136 → EReal
  /-- each head's sink -/
  sink : Fin 16 → EReal

/-- The attention's scale. -/
def scale : EReal := Ideal.ofBits .f32 0x3E000000#32

/-- A query reads the 128 keys up to its own. -/
abbrev readable (t : Fin 8) (k : Fin 136) : Prop := t.val < k.val ∧ k.val ≤ 128 + t.val

/-- The masked score of a key. -/
def refScore (a : AttArgs) (h g : Fin 4) (t : Fin 8) (k : Fin 136) : EReal :=
  if readable t k then (∑ d : Fin 64, a.k k ⟨64 * h.val + d.val, by omega⟩ * a.q t ⟨64 * (headOf h g).val + d.val, by omega⟩) * scale
    + a.bias (headOf h g) t k else ⊥

/-- The attention of a query of head `4 h + g`, at column `d`. -/
def refAttend (a : AttArgs) (h g : Fin 4) (t : Fin 8) (d : Fin 64) : EReal :=
  ∑ k, Ideal.div (Ideal.exp (refScore a h g t k - max (Finset.univ.sup (refScore a h g t)) (a.sink (headOf h g))))
      ((∑ k', Ideal.exp (refScore a h g t k' - max (Finset.univ.sup (refScore a h g t)) (a.sink (headOf h g))))
        + Ideal.exp (a.sink (headOf h g) - max (Finset.univ.sup (refScore a h g t)) (a.sink (headOf h g)))) * a.v k ⟨64 * h.val + d.val, by omega⟩

/-- Neither infinity. -/
def Fin' (x : EReal) : Prop := x ≠ ⊥ ∧ x ≠ ⊤

theorem Fin'.real {x : EReal} (h : Fin' x) : ∃ r : ℝ, x = r := ⟨x.toReal, (EReal.coe_toReal h.2 h.1).symm⟩

theorem scale_real : scale = ((1 / 8 : ℝ) : EReal) := by
  unfold scale
  simp [Ideal.ofBits, Ideal.ieee]
  norm_num
  rw [← EReal.coe_mul]
  norm_num

theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- A scalar product of finite numbers with one factor scaled. -/
theorem scaled {n : ℕ} (x y : Fin n → EReal) (hx : ∀ i, Fin' (x i)) (hy : ∀ i, Fin' (y i)) :
    ∃ r : ℝ, (∑ i, x i * (y i * scale)) = r ∧ (∑ i, x i * y i) * scale = r := by
  choose u hu using fun i => (hx i).real
  choose w hw using fun i => (hy i).real
  refine ⟨(∑ i, u i * w i) * (1 / 8), ?_, ?_⟩
  · simp only [hu, hw, scale_real, ← EReal.coe_mul, coe_sum]
    rw [Finset.sum_mul]
    exact congrArg _ (Finset.sum_congr rfl fun i _ => (mul_assoc _ _ _).symm)
  · simp only [hu, hw, scale_real, ← EReal.coe_mul, coe_sum]

/-- What the scores are made of is finite. -/
structure AttArgs.Finite (a : AttArgs) : Prop where
  q : ∀ t l, Fin' (a.q t l)
  k : ∀ k j, Fin' (a.k k j)
  bias : ∀ h t k, Fin' (a.bias h t k)
  sink : ∀ h, Fin' (a.sink h)

/-- The kernel's operands for one sequence. -/
structure Holds (A : Loads Ideal) (a : AttArgs) : Prop where
  q : ∀ t l, A.q (ix3 0 t l) = a.q t l * scale
  k : ∀ k j, windowAt A.kc A.kn k j = a.k k j
  v : ∀ k j, windowAt A.vc A.vn k j = a.v k j
  bias : ∀ (h g : Fin 4) (t : Fin 8) (k : Fin 136), A.bias h (ix3 0 k ⟨8 * g.val + t.val, by omega⟩)
    = if k.val = 0 then a.sink (headOf h g) else if readable t k then a.bias (headOf h g) t k else ⊥

theorem attend_eq (A : Loads Ideal) (a : AttArgs) (hA : Holds A a) (ha : a.Finite) (h g : Fin 4) (t : Fin 8) (d : Fin 64) :
    attendAt A h g t d = refAttend a h g t d := by
  have s0 : scoreAt A h g t 0 = a.sink (headOf h g) := by
    unfold scoreAt
    rw [hA.bias]
    simp
  have sk : ∀ k : Fin 136, k.val ≠ 0 → scoreAt A h g t k = refScore a h g t k := by
    intro k hk
    unfold scoreAt refScore
    rw [hA.bias, if_neg hk]
    simp only [if_neg hk, hA.k, hA.q]
    obtain ⟨r, e1, e2⟩ := scaled (fun d : Fin 64 => a.k k ⟨64 * h.val + d.val, by omega⟩) (fun d => a.q t ⟨64 * (headOf h g).val + d.val, by omega⟩)
      (fun d => ha.k _ _) (fun d => ha.q _ _)
    rw [e1, e2]
    split_ifs
    · rfl
    · exact EReal.add_bot _
  have rt : ∀ k, refScore a h g t k ≠ ⊤ := by
    intro k
    unfold refScore
    obtain ⟨r, -, e2⟩ := scaled (fun d : Fin 64 => a.k k ⟨64 * h.val + d.val, by omega⟩) (fun d => a.q t ⟨64 * (headOf h g).val + d.val, by omega⟩)
      (fun d => ha.k _ _) (fun d => ha.q _ _)
    obtain ⟨b, hb⟩ := (ha.bias (headOf h g) t k).real
    rw [e2, hb, ← EReal.coe_add]
    split_ifs
    · exact EReal.coe_ne_top _
    · exact bot_ne_top
  have key := sink_as_key (scoreAt A h g t) (refScore a h g t) (fun k => a.v k ⟨64 * h.val + d.val, by omega⟩)
    (fun k => by
      by_cases hk : k.val = 0
      · rw [show k = 0 from Fin.ext hk, s0]; exact (ha.sink _).2
      · rw [sk k hk]; exact rt k)
    (by rw [s0]; exact (ha.sink _).1) (by unfold refScore; rw [if_neg (fun q => absurd q.1 (by simp))]) (fun k hk => (sk k hk).symm)
  rw [s0] at key
  unfold attendAt refAttend
  simp only [hA.v]
  exact key

end Cert.Mix

end
-- ==== Proof.MixerPieces.lean ====
/- What the mixer kernel loads and stores in a trip, row by row: where each piece stands, and the lists of pieces, the values being
   MixerStage.lean's stages of what is loaded of the row. -/
module

public import proofs.«01_k».proof.Proof.Gen.MixerIdeal.Loops
public import proofs.«01_k».proof.Proof.MixerStage

@[expose] public section

set_option maxRecDepth 16384

noncomputable section

namespace Cert.Mix

open Cert.MixerIdeal Cert.MixerIdeal.Facts Cert.MixerIdeal.Gen Idealize.ShloMosaic Idealize.SL.Sem

variable {F : FTy → Type} [FloatOps F]

/-- Where row `d` of trip `k` stands in a buffer of whole windows. -/
def offWin (k : Fin k0_t1_loop.trips) (d : Fin 4) : Fin 4 → Nat := k0_off1 k (BitVec.ofNat 32 d.val)

/-- Where head `h`'s state of row `d` stands. -/
def offState (k : Fin k0_t1_loop.trips) (d : Fin 4) (h : Fin 8) : Fin 5 → Nat :=
  (![k0_off6, k0_off7, k0_off8, k0_off9, k0_off10, k0_off11, k0_off12, k0_off13] h) k (BitVec.ofNat 32 d.val)

theorem offState_inb (k : Fin k0_t1_loop.trips) (d : Fin 4) (h : Fin 8) (a) :
    offState k d h a + S1x1x1x128x128.size a ≤ S1x8x8x128x128.size a :=
  match h with
  | 0 => k0_off6_inb k d a
  | 1 => k0_off7_inb k d a
  | 2 => k0_off8_inb k d a
  | 3 => k0_off9_inb k d a
  | 4 => k0_off10_inb k d a
  | 5 => k0_off11_inb k d a
  | 6 => k0_off12_inb k d a
  | 7 => k0_off13_inb k d a

/-- Where head `h`'s output of branch A of row `d` stands. -/
def offMix (k : Fin k0_t1_loop.trips) (d : Fin 4) (h : Fin 8) : Fin 3 → Nat :=
  (![k0_off14, k0_off15, k0_off16, k0_off17, k0_off18, k0_off19, k0_off20, k0_off21] h) k (BitVec.ofNat 32 d.val)

theorem offMix_inb (k : Fin k0_t1_loop.trips) (d : Fin 4) (h : Fin 8) (a) :
    offMix k d h a + S1x8x128.size a ≤ S8x8x1024.size a :=
  match h with
  | 0 => k0_off14_inb k d a
  | 1 => k0_off15_inb k d a
  | 2 => k0_off16_inb k d a
  | 3 => k0_off17_inb k d a
  | 4 => k0_off18_inb k d a
  | 5 => k0_off19_inb k d a
  | 6 => k0_off20_inb k d a
  | 7 => k0_off21_inb k d a

/-- Where head `h`'s output of branch B of row `d` stands. -/
def offAtt (k : Fin k0_t1_loop.trips) (d : Fin 4) (h : Fin 16) : Fin 3 → Nat :=
  (![k0_off22, k0_off23, k0_off24, k0_off25, k0_off26, k0_off27, k0_off28, k0_off29, k0_off30, k0_off31, k0_off32, k0_off33, k0_off34, k0_off35, k0_off36, k0_off37] h) k (BitVec.ofNat 32 d.val)

theorem offAtt_inb (k : Fin k0_t1_loop.trips) (d : Fin 4) (h : Fin 16) (a) :
    offAtt k d h a + S1x8x64.size a ≤ S8x8x1024.size a :=
  match h with
  | 0 => k0_off22_inb k d a
  | 1 => k0_off23_inb k d a
  | 2 => k0_off24_inb k d a
  | 3 => k0_off25_inb k d a
  | 4 => k0_off26_inb k d a
  | 5 => k0_off27_inb k d a
  | 6 => k0_off28_inb k d a
  | 7 => k0_off29_inb k d a
  | 8 => k0_off30_inb k d a
  | 9 => k0_off31_inb k d a
  | 10 => k0_off32_inb k d a
  | 11 => k0_off33_inb k d a
  | 12 => k0_off34_inb k d a
  | 13 => k0_off35_inb k d a
  | 14 => k0_off36_inb k d a
  | 15 => k0_off37_inb k d a
  | ⟨n + 16, hn⟩ => absurd hn (by omega)

/-- The buffers that the kernel reads, with what they hold. -/
structure Ins (F : FTy → Type) [FloatOps F] where
  a1 : Memref sig .tc .vmem S8x8x3072 .f32
  a2 : Memref sig .tc .vmem S8x8x1024 .f32
  a3 : Memref sig .tc .vmem S8x8x128 .f32
  a4 : Memref sig .tc .vmem S1x128 .f32
  a5 : Memref sig .tc .vmem S1x8x8x128x128 .f32
  a6 : Memref sig .tc .vmem S8x8x1024 .bf16
  a7 : Memref sig .tc .vmem S8x8x256 .f32
  a8 : Memref sig .tc .vmem S8x8x256 .f32
  a9 : Memref sig .tc .vmem S1x8x128x256 .f32
  a10 : Memref sig .tc .vmem S1x8x128x256 .f32
  a11 : Memref sig .tc .vmem S4x136x32 .f32
  x1 : BufTy.Contents (Elt F) a1.view.ty
  x2 : BufTy.Contents (Elt F) a2.view.ty
  x3 : BufTy.Contents (Elt F) a3.view.ty
  x4 : BufTy.Contents (Elt F) a4.view.ty
  x5 : BufTy.Contents (Elt F) a5.view.ty
  x6 : BufTy.Contents (Elt F) a6.view.ty
  x7 : BufTy.Contents (Elt F) a7.view.ty
  x8 : BufTy.Contents (Elt F) a8.view.ty
  x9 : BufTy.Contents (Elt F) a9.view.ty
  x10 : BufTy.Contents (Elt F) a10.view.ty
  x11 : BufTy.Contents (Elt F) a11.view.ty

/-- What is loaded of row `d` in trip `k`. -/
def Ins.at (I : Ins F) (k : Fin k0_t1_loop.trips) (d : Fin 4) : Loads F where
  cs := View.readAt (Elt F) I.a1.view (Rect.unit (s := S8x8x3072) (k0_off4 k (BitVec.ofNat 32 d.val)) S1x8x3072.size (k0_off4_inb k d)).toLoadRect I.x1
  z := View.readAt (Elt F) I.a2.view (Rect.unit (s := S8x8x1024) (k0_off3 k (BitVec.ofNat 32 d.val)) S1x8x1024.size (k0_off3_inb k d)).toLoadRect I.x2
  gb := View.readAt (Elt F) I.a3.view (Rect.unit (s := S8x8x128) (k0_off5 k (BitVec.ofNat 32 d.val)) S1x8x128.size (k0_off5_inb k d)).toLoadRect I.x3
  wn := View.readAt (Elt F) I.a4.view (Rect.unit (s := S1x128) ![0, 0] S1x128.size inb_S1x128_S1x128_0_0).toLoadRect I.x4
  s0 h := View.readAt (Elt F) I.a5.view (Rect.unit (s := S1x8x8x128x128) (offState k d h) S1x1x1x128x128.size (offState_inb k d h)).toLoadRect I.x5
  q := View.readAt (Elt F) I.a6.view (Rect.unit (s := S8x8x1024) (k0_off3 k (BitVec.ofNat 32 d.val)) S1x8x1024.size (k0_off3_inb k d)).toLoadRect I.x6
  kn := View.readAt (Elt F) I.a7.view (Rect.unit (s := S8x8x256) (k0_off2 k (BitVec.ofNat 32 d.val)) S1x8x256.size (k0_off2_inb k d)).toLoadRect I.x7
  vn := View.readAt (Elt F) I.a8.view (Rect.unit (s := S8x8x256) (k0_off2 k (BitVec.ofNat 32 d.val)) S1x8x256.size (k0_off2_inb k d)).toLoadRect I.x8
  kc := View.readAt (Elt F) I.a9.view (Rect.unit (s := S1x8x128x256) (offWin k d) S1x1x128x256.size (k0_off1_inb k d)).toLoadRect I.x9
  vc := View.readAt (Elt F) I.a10.view (Rect.unit (s := S1x8x128x256) (offWin k d) S1x1x128x256.size (k0_off1_inb k d)).toLoadRect I.x10
  bias h := View.readAt (Elt F) I.a11.view (Rect.unit (s := S4x136x32) ![h.val, 0, 0] S1x136x32.size
    ((by decide : ∀ (h : Fin 4) (a : Fin 3), (![h.val, 0, 0] : Fin 3 → Nat) a + S1x136x32.size a ≤ S4x136x32.size a) h)).toLoadRect I.x11

/-- The pieces of branch A's outputs that a trip stores, the last first. -/
def mixPieces (A : Fin 4 → Loads F) (m : Masks) (k : Fin k0_t1_loop.trips) : List (View.Piece (Elt F) S8x8x1024 .bf16) :=
  ([(3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)] : List (Fin 4 × Fin 8)).map fun p =>
    ⟨Rect.unit (offMix k p.1 p.2) S1x8x128.size (offMix_inb k p.1 p.2), mixOut (A p.1) m p.2⟩

/-- The pieces of the states. -/
def statePieces (A : Fin 4 → Loads F) (m : Masks) (k : Fin k0_t1_loop.trips) : List (View.Piece (Elt F) S1x8x8x128x128 .f32) :=
  ([(3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)] : List (Fin 4 × Fin 8)).map fun p =>
    ⟨Rect.unit (offState k p.1 p.2) S1x1x1x128x128.size (offState_inb k p.1 p.2), stateOut (A p.1) m p.2⟩

/-- The pieces of branch B's outputs. -/
def attPieces (A : Fin 4 → Loads F) (k : Fin k0_t1_loop.trips) : List (View.Piece (Elt F) S8x8x1024 .bf16) :=
  (([(3, 3, 3), (3, 3, 2), (3, 3, 1), (3, 3, 0), (3, 2, 3), (3, 2, 2), (3, 2, 1), (3, 2, 0), (3, 1, 3), (3, 1, 2), (3, 1, 1), (3, 1, 0), (3, 0, 3), (3, 0, 2), (3, 0, 1), (3, 0, 0), (2, 3, 3), (2, 3, 2), (2, 3, 1), (2, 3, 0), (2, 2, 3), (2, 2, 2), (2, 2, 1), (2, 2, 0), (2, 1, 3), (2, 1, 2), (2, 1, 1), (2, 1, 0), (2, 0, 3), (2, 0, 2), (2, 0, 1), (2, 0, 0), (1, 3, 3), (1, 3, 2), (1, 3, 1), (1, 3, 0), (1, 2, 3), (1, 2, 2), (1, 2, 1), (1, 2, 0), (1, 1, 3), (1, 1, 2), (1, 1, 1), (1, 1, 0), (1, 0, 3), (1, 0, 2), (1, 0, 1), (1, 0, 0), (0, 3, 3), (0, 3, 2), (0, 3, 1), (0, 3, 0), (0, 2, 3), (0, 2, 2), (0, 2, 1), (0, 2, 0), (0, 1, 3), (0, 1, 2), (0, 1, 1), (0, 1, 0), (0, 0, 3), (0, 0, 2), (0, 0, 1), (0, 0, 0)] :
    List (Fin 4 × Fin 4 × Fin 4))).map fun p =>
    ⟨Rect.unit (offAtt k p.1 (headOf p.2.1 p.2.2)) S1x8x64.size (offAtt_inb k p.1 (headOf p.2.1 p.2.2)), attendOut (A p.1) p.2.1 p.2.2⟩

/-- The pieces of the windows of keys. -/
def keyPieces (A : Fin 4 → Loads F) (k : Fin k0_t1_loop.trips) : List (View.Piece (Elt F) S1x8x128x256 .f32) :=
  ([3, 2, 1, 0] : List (Fin 4)).map fun d => ⟨Rect.unit (offWin k d) S1x1x128x256.size (k0_off1_inb k d), windowOut (A d).kc (A d).kn⟩

/-- The pieces of the windows of values. -/
def valuePieces (A : Fin 4 → Loads F) (k : Fin k0_t1_loop.trips) : List (View.Piece (Elt F) S1x8x128x256 .f32) :=
  ([3, 2, 1, 0] : List (Fin 4)).map fun d => ⟨Rect.unit (offWin k d) S1x1x128x256.size (k0_off1_inb k d), windowOut (A d).vc (A d).vn⟩

end Cert.Mix
-- ==== Proof.MixerRow0.lean ====
/- Row 0 of a trip: each word that the trip shares is a stage of what it loads of the row, and so is each value that it stores. -/
module

public import proofs.«01_k».proof.Proof.MixerPieces

@[expose] public section

set_option maxRecDepth 16384

noncomputable section

namespace Cert.Mix

open Cert.MixerIdeal Cert.MixerIdeal.Facts Cert.MixerIdeal.Gen Idealize.ShloMosaic Idealize.SL.Sem

variable {F : FTy → Type} [FloatOps F]

variable (I : Ins F) (M : Masks) (k : Fin k0_t1_loop.trips)

include I M k

theorem w56 : trip_k0_t1.sl.r_56 (F := F) I.a3 M.tri I.x3 k = run (I.at k 0) M := by
  have e : trip_k0_t1.sl.r_56 (F := F) I.a3 M.tri I.x3 k = (k0_pay77 M.tri (k0_pay74 (I.at k 0).gb)) := rfl
  rw [e]
  generalize (I.at k 0) = A
  rfl

theorem w60 : trip_k0_t1.sl.r_60 (F := F) I.a3 M.tri I.x3 k = exp (run (I.at k 0) M) := by
  have e : trip_k0_t1.sl.r_60 (F := F) I.a3 M.tri I.x3 k = (k0_pay85 (trip_k0_t1.sl.r_56 (F := F) I.a3 M.tri I.x3 k)) := rfl
  rw [e, w56 I M k]
  generalize (I.at k 0) = A
  rfl

theorem w59 : trip_k0_t1.sl.r_59 (F := F) I.a3 M.same M.after I.x3 k = left (I.at k 0) M := by
  have e : trip_k0_t1.sl.r_59 (F := F) I.a3 M.same M.after I.x3 k = (k0_pay84 (k0_pay82 (k0_pay1 M.same M.after) (k0_pay74 (I.at k 0).gb)) (k0_pay83 (k0_pay1 M.same M.after) (k0_pay74 (I.at k 0).gb))) := rfl
  rw [e]
  generalize (I.at k 0) = A
  rfl

theorem w62 : trip_k0_t1.sl.r_62 (F := F) I.a1 I.x1 k = stream (I.at k 0) 1 := by
  have e : trip_k0_t1.sl.r_62 (F := F) I.a1 I.x1 k = (k0_pay87 (k0_pay73 (I.at k 0).cs)) := rfl
  rw [e]
  generalize (I.at k 0) = A
  rfl

theorem w127 : trip_k0_t1.sl.r_127 (F := F) I.a1 I.a3 M.same M.after I.x1 I.x3 k = kd (I.at k 0) M := by
  have e : trip_k0_t1.sl.r_127 (F := F) I.a1 I.a3 M.same M.after I.x1 I.x3 k = (k0_pay162 (trip_k0_t1.sl.r_59 (F := F) I.a3 M.same M.after I.x3 k) (trip_k0_t1.sl.r_62 (F := F) I.a1 I.x1 k)) := rfl
  rw [e, w59 I M k, w62 I M k]
  generalize (I.at k 0) = A
  rfl

theorem w55 : trip_k0_t1.sl.r_55 (F := F) I.a3 I.x3 k = lanes (I.at k 0) 0 := by
  have e : trip_k0_t1.sl.r_55 (F := F) I.a3 I.x3 k = (k0_pay75 (I.at k 0).gb) := rfl
  rw [e]
  generalize (I.at k 0) = A
  rfl

theorem w63 : trip_k0_t1.sl.r_63 (F := F) I.a1 I.x1 k = stream (I.at k 0) 2 := by
  have e : trip_k0_t1.sl.r_63 (F := F) I.a1 I.x1 k = (k0_pay88 (k0_pay73 (I.at k 0).cs)) := rfl
  rw [e]
  generalize (I.at k 0) = A
  rfl

theorem w125 : trip_k0_t1.sl.r_125 (F := F) I.a1 I.a3 M.tri I.x1 I.x3 k = rhs (I.at k 0) M := by
  have e : trip_k0_t1.sl.r_125 (F := F) I.a1 I.a3 M.tri I.x1 I.x3 k = (k0_pay160 (trip_k0_t1.sl.r_55 (F := F) I.a3 I.x3 k) (trip_k0_t1.sl.r_56 (F := F) I.a3 M.tri I.x3 k) (trip_k0_t1.sl.r_62 (F := F) I.a1 I.x1 k) (trip_k0_t1.sl.r_63 (F := F) I.a1 I.x1 k)) := rfl
  rw [e, w55 I M k, w56 I M k, w62 I M k, w63 I M k]
  generalize (I.at k 0) = A
  rfl

theorem w122 : trip_k0_t1.sl.r_122 (F := F) I.a3 M.tri I.x3 k = decay (I.at k 0) M := by
  have e : trip_k0_t1.sl.r_122 (F := F) I.a3 M.tri I.x3 k = (k0_pay155 M.tri (trip_k0_t1.sl.r_56 (F := F) I.a3 M.tri I.x3 k) (k0_pay89 (trip_k0_t1.sl.r_56 (F := F) I.a3 M.tri I.x3 k))) := rfl
  rw [e, w56 I M k]
  generalize (I.at k 0) = A
  rfl

theorem w61 : trip_k0_t1.sl.r_61 (F := F) I.a1 I.x1 k = stream (I.at k 0) 0 := by
  have e : trip_k0_t1.sl.r_61 (F := F) I.a1 I.x1 k = (k0_pay86 (k0_pay73 (I.at k 0).cs)) := rfl
  rw [e]
  generalize (I.at k 0) = A
  rfl

theorem w121 : trip_k0_t1.sl.r_121 (F := F) I.a1 I.x1 k = normed (stream (I.at k 0) 0) := by
  have e : trip_k0_t1.sl.r_121 (F := F) I.a1 I.x1 k = (k0_pay152 (trip_k0_t1.sl.r_61 (F := F) I.a1 I.x1 k)) := rfl
  rw [e, w61 I M k]
  generalize (I.at k 0) = A
  rfl

theorem w152 : trip_k0_t1.sl.r_152 (F := F) I.a1 I.a3 M.tri M.strict I.x1 I.x3 k = sys (I.at k 0) M := by
  have e : trip_k0_t1.sl.r_152 (F := F) I.a1 I.a3 M.tri M.strict I.x1 I.x3 k = (k0_pay197 M.strict (trip_k0_t1.sl.r_122 (F := F) I.a3 M.tri I.x3 k) (k0_pay158 (trip_k0_t1.sl.r_55 (F := F) I.a3 I.x3 k) (trip_k0_t1.sl.r_62 (F := F) I.a1 I.x1 k) (trip_k0_t1.sl.r_121 (F := F) I.a1 I.x1 k) (trip_k0_t1.sl.cst_242 (F := F) )) (k0_pay159 (trip_k0_t1.sl.r_62 (F := F) I.a1 I.x1 k))) := rfl
  rw [e, w122 I M k, w55 I M k, w62 I M k, w121 I M k]
  generalize (I.at k 0) = A
  rfl

theorem w161 : trip_k0_t1.sl.r_161 (F := F) I.a1 I.a3 M.i M.j M.l0 M.tri M.strict I.x1 I.x3 k = inv0 M (sys (I.at k 0) M) := by
  have e : trip_k0_t1.sl.r_161 (F := F) I.a1 I.a3 M.i M.j M.l0 M.tri M.strict I.x1 I.x3 k = (k0_pay206 M.l0 (k0_pay2 M.i M.j) (trip_k0_t1.sl.r_152 (F := F) I.a1 I.a3 M.tri M.strict I.x1 I.x3 k)) := rfl
  rw [e, w152 I M k]
  generalize (I.at k 0) = A
  rfl

theorem w173 : trip_k0_t1.sl.r_173 (F := F) I.a1 I.a3 M.i M.j M.l0 M.l1 M.tri M.strict I.x1 I.x3 k = level M.l1 (sys (I.at k 0) M) (inv0 M (sys (I.at k 0) M)) := by
  have e : trip_k0_t1.sl.r_173 (F := F) I.a1 I.a3 M.i M.j M.l0 M.l1 M.tri M.strict I.x1 I.x3 k = (k0_pay218 (trip_k0_t1.sl.r_161 (F := F) I.a1 I.a3 M.i M.j M.l0 M.tri M.strict I.x1 I.x3 k) (k0_pay210 M.l0 (k0_pay2 M.i M.j) (trip_k0_t1.sl.r_152 (F := F) I.a1 I.a3 M.tri M.strict I.x1 I.x3 k)) (k0_pay217 M.l0 M.l1 (k0_pay2 M.i M.j) (trip_k0_t1.sl.r_152 (F := F) I.a1 I.a3 M.tri M.strict I.x1 I.x3 k))) := rfl
  rw [e, w161 I M k, w152 I M k]
  generalize (I.at k 0) = A
  rfl

theorem w182 : trip_k0_t1.sl.r_182 (F := F) I.a1 I.a3 M.i M.j M.l0 M.l1 M.l2 M.tri M.strict I.x1 I.x3 k = extractStridedSlice S64x128 ![0, 0] (sol (I.at k 0) M) slices_S64x256_o0_0_S64x128 := by
  have e : trip_k0_t1.sl.r_182 (F := F) I.a1 I.a3 M.i M.j M.l0 M.l1 M.l2 M.tri M.strict I.x1 I.x3 k = (k0_pay231 (trip_k0_t1.sl.r_125 (F := F) I.a1 I.a3 M.tri I.x1 I.x3 k) (trip_k0_t1.sl.r_173 (F := F) I.a1 I.a3 M.i M.j M.l0 M.l1 M.tri M.strict I.x1 I.x3 k) (k0_pay224 M.l2 (trip_k0_t1.sl.r_152 (F := F) I.a1 I.a3 M.tri M.strict I.x1 I.x3 k) (trip_k0_t1.sl.r_161 (F := F) I.a1 I.a3 M.i M.j M.l0 M.tri M.strict I.x1 I.x3 k) (k0_pay210 M.l0 (k0_pay2 M.i M.j) (trip_k0_t1.sl.r_152 (F := F) I.a1 I.a3 M.tri M.strict I.x1 I.x3 k)) (k0_pay217 M.l0 M.l1 (k0_pay2 M.i M.j) (trip_k0_t1.sl.r_152 (F := F) I.a1 I.a3 M.tri M.strict I.x1 I.x3 k)))) := rfl
  rw [e, w125 I M k, w173 I M k, w152 I M k, w161 I M k]
  generalize (I.at k 0) = A
  rfl

theorem w126 : trip_k0_t1.sl.r_126 (F := F) I.a1 I.a3 M.tri I.x1 I.x3 k = qg (I.at k 0) M := by
  have e : trip_k0_t1.sl.r_126 (F := F) I.a1 I.a3 M.tri I.x1 I.x3 k = (k0_pay161 (trip_k0_t1.sl.r_56 (F := F) I.a3 M.tri I.x3 k) (trip_k0_t1.sl.r_121 (F := F) I.a1 I.x1 k) (trip_k0_t1.sl.cst_242 (F := F) )) := rfl
  rw [e, w56 I M k, w121 I M k]
  generalize (I.at k 0) = A
  rfl

theorem w190 : trip_k0_t1.sl.r_190 (F := F) I.a1 I.a3 I.a5 M.i M.j M.l0 M.l1 M.l2 M.tri M.strict I.x1 I.x3 I.x5 k = both (I.at k 0) M 0 := by
  have e : trip_k0_t1.sl.r_190 (F := F) I.a1 I.a3 I.a5 M.i M.j M.l0 M.l1 M.l2 M.tri M.strict I.x1 I.x3 I.x5 k = (k0_pay239 (trip_k0_t1.sl.r_125 (F := F) I.a1 I.a3 M.tri I.x1 I.x3 k) (trip_k0_t1.sl.r_126 (F := F) I.a1 I.a3 M.tri I.x1 I.x3 k) (trip_k0_t1.sl.r_173 (F := F) I.a1 I.a3 M.i M.j M.l0 M.l1 M.tri M.strict I.x1 I.x3 k) (k0_pay224 M.l2 (trip_k0_t1.sl.r_152 (F := F) I.a1 I.a3 M.tri M.strict I.x1 I.x3 k) (trip_k0_t1.sl.r_161 (F := F) I.a1 I.a3 M.i M.j M.l0 M.tri M.strict I.x1 I.x3 k) (k0_pay210 M.l0 (k0_pay2 M.i M.j) (trip_k0_t1.sl.r_152 (F := F) I.a1 I.a3 M.tri M.strict I.x1 I.x3 k)) (k0_pay217 M.l0 M.l1 (k0_pay2 M.i M.j) (trip_k0_t1.sl.r_152 (F := F) I.a1 I.a3 M.tri M.strict I.x1 I.x3 k))) ((I.at k 0).s0 0)) := rfl
  rw [e, w125 I M k, w126 I M k, w173 I M k, w152 I M k, w161 I M k]
  generalize (I.at k 0) = A
  rfl

theorem w191 : trip_k0_t1.sl.r_191 (F := F) I.a1 I.a3 I.a5 M.i M.j M.l0 M.l1 M.l2 M.tri M.strict I.x1 I.x3 I.x5 k = both (I.at k 0) M 1 := by
  have e : trip_k0_t1.sl.r_191 (F := F) I.a1 I.a3 I.a5 M.i M.j M.l0 M.l1 M.l2 M.tri M.strict I.x1 I.x3 I.x5 k = (k0_pay240 (trip_k0_t1.sl.r_125 (F := F) I.a1 I.a3 M.tri I.x1 I.x3 k) (trip_k0_t1.sl.r_126 (F := F) I.a1 I.a3 M.tri I.x1 I.x3 k) (trip_k0_t1.sl.r_173 (F := F) I.a1 I.a3 M.i M.j M.l0 M.l1 M.tri M.strict I.x1 I.x3 k) (k0_pay224 M.l2 (trip_k0_t1.sl.r_152 (F := F) I.a1 I.a3 M.tri M.strict I.x1 I.x3 k) (trip_k0_t1.sl.r_161 (F := F) I.a1 I.a3 M.i M.j M.l0 M.tri M.strict I.x1 I.x3 k) (k0_pay210 M.l0 (k0_pay2 M.i M.j) (trip_k0_t1.sl.r_152 (F := F) I.a1 I.a3 M.tri M.strict I.x1 I.x3 k)) (k0_pay217 M.l0 M.l1 (k0_pay2 M.i M.j) (trip_k0_t1.sl.r_152 (F := F) I.a1 I.a3 M.tri M.strict I.x1 I.x3 k))) ((I.at k 0).s0 1)) := rfl
  rw [e, w125 I M k, w126 I M k, w173 I M k, w152 I M k, w161 I M k]
  generalize (I.at k 0) = A
  rfl

theorem w193 : trip_k0_t1.sl.r_193 (F := F) I.a1 I.a3 I.a5 M.i M.j M.l0 M.l1 M.l2 M.tri M.strict I.x1 I.x3 I.x5 k = both (I.at k 0) M 2 := by
  have e : trip_k0_t1.sl.r_193 (F := F) I.a1 I.a3 I.a5 M.i M.j M.l0 M.l1 M.l2 M.tri M.strict I.x1 I.x3 I.x5 k = (k0_pay242 (k0_pay241 (trip_k0_t1.sl.r_125 (F := F) I.a1 I.a3 M.tri I.x1 I.x3 k) (trip_k0_t1.sl.r_126 (F := F) I.a1 I.a3 M.tri I.x1 I.x3 k) (trip_k0_t1.sl.r_173 (F := F) I.a1 I.a3 M.i M.j M.l0 M.l1 M.tri M.strict I.x1 I.x3 k) (k0_pay224 M.l2 (trip_k0_t1.sl.r_152 (F := F) I.a1 I.a3 M.tri M.strict I.x1 I.x3 k) (trip_k0_t1.sl.r_161 (F := F) I.a1 I.a3 M.i M.j M.l0 M.tri M.strict I.x1 I.x3 k) (k0_pay210 M.l0 (k0_pay2 M.i M.j) (trip_k0_t1.sl.r_152 (F := F) I.a1 I.a3 M.tri M.strict I.x1 I.x3 k)) (k0_pay217 M.l0 M.l1 (k0_pay2 M.i M.j) (trip_k0_t1.sl.r_152 (F := F) I.a1 I.a3 M.tri M.strict I.x1 I.x3 k)))) ((I.at k 0).s0 2)) := rfl
  rw [e, w125 I M k, w126 I M k, w173 I M k, w152 I M k, w161 I M k]
  generalize (I.at k 0) = A
  rfl

theorem w183 : trip_k0_t1.sl.r_183 (F := F) I.a1 I.a3 M.i M.j M.l0 M.l1 M.l2 M.tri M.strict I.x1 I.x3 k = solW (I.at k 0) M := by
  have e : trip_k0_t1.sl.r_183 (F := F) I.a1 I.a3 M.i M.j M.l0 M.l1 M.l2 M.tri M.strict I.x1 I.x3 k = (k0_pay232 (trip_k0_t1.sl.r_125 (F := F) I.a1 I.a3 M.tri I.x1 I.x3 k) (trip_k0_t1.sl.r_173 (F := F) I.a1 I.a3 M.i M.j M.l0 M.l1 M.tri M.strict I.x1 I.x3 k) (k0_pay224 M.l2 (trip_k0_t1.sl.r_152 (F := F) I.a1 I.a3 M.tri M.strict I.x1 I.x3 k) (trip_k0_t1.sl.r_161 (F := F) I.a1 I.a3 M.i M.j M.l0 M.tri M.strict I.x1 I.x3 k) (k0_pay210 M.l0 (k0_pay2 M.i M.j) (trip_k0_t1.sl.r_152 (F := F) I.a1 I.a3 M.tri M.strict I.x1 I.x3 k)) (k0_pay217 M.l0 M.l1 (k0_pay2 M.i M.j) (trip_k0_t1.sl.r_152 (F := F) I.a1 I.a3 M.tri M.strict I.x1 I.x3 k)))) := rfl
  rw [e, w125 I M k, w173 I M k, w152 I M k, w161 I M k]
  generalize (I.at k 0) = A
  rfl

theorem w194 : trip_k0_t1.sl.r_194 (F := F) I.a1 I.a3 I.a5 M.i M.j M.l0 M.l1 M.l2 M.tri M.strict I.x1 I.x3 I.x5 k = both (I.at k 0) M 3 := by
  have e : trip_k0_t1.sl.r_194 (F := F) I.a1 I.a3 I.a5 M.i M.j M.l0 M.l1 M.l2 M.tri M.strict I.x1 I.x3 I.x5 k = (k0_pay243 (trip_k0_t1.sl.r_126 (F := F) I.a1 I.a3 M.tri I.x1 I.x3 k) (trip_k0_t1.sl.r_183 (F := F) I.a1 I.a3 M.i M.j M.l0 M.l1 M.l2 M.tri M.strict I.x1 I.x3 k) ((I.at k 0).s0 3)) := rfl
  rw [e, w126 I M k, w183 I M k]
  generalize (I.at k 0) = A
  rfl

theorem w195 : trip_k0_t1.sl.r_195 (F := F) I.a1 I.a3 I.a5 M.i M.j M.l0 M.l1 M.l2 M.tri M.strict I.x1 I.x3 I.x5 k = both (I.at k 0) M 4 := by
  have e : trip_k0_t1.sl.r_195 (F := F) I.a1 I.a3 I.a5 M.i M.j M.l0 M.l1 M.l2 M.tri M.strict I.x1 I.x3 I.x5 k = (k0_pay244 (trip_k0_t1.sl.r_126 (F := F) I.a1 I.a3 M.tri I.x1 I.x3 k) (trip_k0_t1.sl.r_183 (F := F) I.a1 I.a3 M.i M.j M.l0 M.l1 M.l2 M.tri M.strict I.x1 I.x3 k) ((I.at k 0).s0 4)) := rfl
  rw [e, w126 I M k, w183 I M k]
  generalize (I.at k 0) = A
  rfl

theorem w196 : trip_k0_t1.sl.r_196 (F := F) I.a1 I.a3 I.a5 M.i M.j M.l0 M.l1 M.l2 M.tri M.strict I.x1 I.x3 I.x5 k = both (I.at k 0) M 5 := by
  have e : trip_k0_t1.sl.r_196 (F := F) I.a1 I.a3 I.a5 M.i M.j M.l0 M.l1 M.l2 M.tri M.strict I.x1 I.x3 I.x5 k = (k0_pay245 (trip_k0_t1.sl.r_126 (F := F) I.a1 I.a3 M.tri I.x1 I.x3 k) (trip_k0_t1.sl.r_183 (F := F) I.a1 I.a3 M.i M.j M.l0 M.l1 M.l2 M.tri M.strict I.x1 I.x3 k) ((I.at k 0).s0 5)) := rfl
  rw [e, w126 I M k, w183 I M k]
  generalize (I.at k 0) = A
  rfl

theorem w197 : trip_k0_t1.sl.r_197 (F := F) I.a1 I.a3 I.a5 M.i M.j M.l0 M.l1 M.l2 M.tri M.strict I.x1 I.x3 I.x5 k = both (I.at k 0) M 6 := by
  have e : trip_k0_t1.sl.r_197 (F := F) I.a1 I.a3 I.a5 M.i M.j M.l0 M.l1 M.l2 M.tri M.strict I.x1 I.x3 I.x5 k = (k0_pay246 (trip_k0_t1.sl.r_126 (F := F) I.a1 I.a3 M.tri I.x1 I.x3 k) (trip_k0_t1.sl.r_183 (F := F) I.a1 I.a3 M.i M.j M.l0 M.l1 M.l2 M.tri M.strict I.x1 I.x3 k) ((I.at k 0).s0 6)) := rfl
  rw [e, w126 I M k, w183 I M k]
  generalize (I.at k 0) = A
  rfl

theorem w198 : trip_k0_t1.sl.r_198 (F := F) I.a1 I.a3 I.a5 M.i M.j M.l0 M.l1 M.l2 M.tri M.strict I.x1 I.x3 I.x5 k = both (I.at k 0) M 7 := by
  have e : trip_k0_t1.sl.r_198 (F := F) I.a1 I.a3 I.a5 M.i M.j M.l0 M.l1 M.l2 M.tri M.strict I.x1 I.x3 I.x5 k = (k0_pay247 (trip_k0_t1.sl.r_126 (F := F) I.a1 I.a3 M.tri I.x1 I.x3 k) (trip_k0_t1.sl.r_183 (F := F) I.a1 I.a3 M.i M.j M.l0 M.l1 M.l2 M.tri M.strict I.x1 I.x3 k) ((I.at k 0).s0 7)) := rfl
  rw [e, w126 I M k, w183 I M k]
  generalize (I.at k 0) = A
  rfl

theorem w229 : trip_k0_t1.sl.r_229 (F := F) I.a1 I.a3 I.a5 M.i M.j M.l0 M.l1 M.l2 M.tri M.strict I.x1 I.x3 I.x5 k = vnew (I.at k 0) M := by
  have e : trip_k0_t1.sl.r_229 (F := F) I.a1 I.a3 I.a5 M.i M.j M.l0 M.l1 M.l2 M.tri M.strict I.x1 I.x3 I.x5 k = (k0_pay278 (trip_k0_t1.sl.r_182 (F := F) I.a1 I.a3 M.i M.j M.l0 M.l1 M.l2 M.tri M.strict I.x1 I.x3 k) (trip_k0_t1.sl.r_190 (F := F) I.a1 I.a3 I.a5 M.i M.j M.l0 M.l1 M.l2 M.tri M.strict I.x1 I.x3 I.x5 k) (trip_k0_t1.sl.r_191 (F := F) I.a1 I.a3 I.a5 M.i M.j M.l0 M.l1 M.l2 M.tri M.strict I.x1 I.x3 I.x5 k) (trip_k0_t1.sl.r_193 (F := F) I.a1 I.a3 I.a5 M.i M.j M.l0 M.l1 M.l2 M.tri M.strict I.x1 I.x3 I.x5 k) (trip_k0_t1.sl.r_194 (F := F) I.a1 I.a3 I.a5 M.i M.j M.l0 M.l1 M.l2 M.tri M.strict I.x1 I.x3 I.x5 k) (trip_k0_t1.sl.r_195 (F := F) I.a1 I.a3 I.a5 M.i M.j M.l0 M.l1 M.l2 M.tri M.strict I.x1 I.x3 I.x5 k) (trip_k0_t1.sl.r_196 (F := F) I.a1 I.a3 I.a5 M.i M.j M.l0 M.l1 M.l2 M.tri M.strict I.x1 I.x3 I.x5 k) (trip_k0_t1.sl.r_197 (F := F) I.a1 I.a3 I.a5 M.i M.j M.l0 M.l1 M.l2 M.tri M.strict I.x1 I.x3 I.x5 k) (trip_k0_t1.sl.r_198 (F := F) I.a1 I.a3 I.a5 M.i M.j M.l0 M.l1 M.l2 M.tri M.strict I.x1 I.x3 I.x5 k)) := rfl
  rw [e, w182 I M k, w190 I M k, w191 I M k, w193 I M k, w194 I M k, w195 I M k, w196 I M k, w197 I M k, w198 I M k]
  generalize (I.at k 0) = A
  rfl

theorem w239 : trip_k0_t1.sl.r_239 (F := F) I.a1 I.a3 I.a5 M.i M.j M.same M.l0 M.l1 M.l2 M.tri M.strict M.after I.x1 I.x3 I.x5 k = matmul dot_S8x128_S8x128_S128x128_0_0_1_1_n_n none (headRows (kd (I.at k 0) M) 0) (headRows (vnew (I.at k 0) M) 0) (constant S128x128 .f32 0x00000000#32) := by
  have e : trip_k0_t1.sl.r_239 (F := F) I.a1 I.a3 I.a5 M.i M.j M.same M.l0 M.l1 M.l2 M.tri M.strict M.after I.x1 I.x3 I.x5 k = (k0_pay288 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w240 : trip_k0_t1.sl.r_240 (F := F) I.a1 I.a3 I.a5 M.i M.j M.same M.l0 M.l1 M.l2 M.tri M.strict M.after I.x1 I.x3 I.x5 k = matmul dot_S8x128_S8x128_S128x128_0_0_1_1_n_n none (headRows (kd (I.at k 0) M) 1) (headRows (vnew (I.at k 0) M) 1) (constant S128x128 .f32 0x00000000#32) := by
  have e : trip_k0_t1.sl.r_240 (F := F) I.a1 I.a3 I.a5 M.i M.j M.same M.l0 M.l1 M.l2 M.tri M.strict M.after I.x1 I.x3 I.x5 k = (k0_pay289 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w241 : trip_k0_t1.sl.r_241 (F := F) I.a1 I.a3 I.a5 M.i M.j M.same M.l0 M.l1 M.l2 M.tri M.strict M.after I.x1 I.x3 I.x5 k = matmul dot_S8x128_S8x128_S128x128_0_0_1_1_n_n none (headRows (kd (I.at k 0) M) 2) (headRows (vnew (I.at k 0) M) 2) (constant S128x128 .f32 0x00000000#32) := by
  have e : trip_k0_t1.sl.r_241 (F := F) I.a1 I.a3 I.a5 M.i M.j M.same M.l0 M.l1 M.l2 M.tri M.strict M.after I.x1 I.x3 I.x5 k = (k0_pay290 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w242 : trip_k0_t1.sl.r_242 (F := F) I.a1 I.a3 I.a5 M.i M.j M.same M.l0 M.l1 M.l2 M.tri M.strict M.after I.x1 I.x3 I.x5 k = matmul dot_S8x128_S8x128_S128x128_0_0_1_1_n_n none (headRows (kd (I.at k 0) M) 3) (headRows (vnew (I.at k 0) M) 3) (constant S128x128 .f32 0x00000000#32) := by
  have e : trip_k0_t1.sl.r_242 (F := F) I.a1 I.a3 I.a5 M.i M.j M.same M.l0 M.l1 M.l2 M.tri M.strict M.after I.x1 I.x3 I.x5 k = (k0_pay291 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w243 : trip_k0_t1.sl.r_243 (F := F) I.a1 I.a3 I.a5 M.i M.j M.same M.l0 M.l1 M.l2 M.tri M.strict M.after I.x1 I.x3 I.x5 k = matmul dot_S8x128_S8x128_S128x128_0_0_1_1_n_n none (headRows (kd (I.at k 0) M) 4) (headRows (vnew (I.at k 0) M) 4) (constant S128x128 .f32 0x00000000#32) := by
  have e : trip_k0_t1.sl.r_243 (F := F) I.a1 I.a3 I.a5 M.i M.j M.same M.l0 M.l1 M.l2 M.tri M.strict M.after I.x1 I.x3 I.x5 k = (k0_pay292 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w244 : trip_k0_t1.sl.r_244 (F := F) I.a1 I.a3 I.a5 M.i M.j M.same M.l0 M.l1 M.l2 M.tri M.strict M.after I.x1 I.x3 I.x5 k = matmul dot_S8x128_S8x128_S128x128_0_0_1_1_n_n none (headRows (kd (I.at k 0) M) 5) (headRows (vnew (I.at k 0) M) 5) (constant S128x128 .f32 0x00000000#32) := by
  have e : trip_k0_t1.sl.r_244 (F := F) I.a1 I.a3 I.a5 M.i M.j M.same M.l0 M.l1 M.l2 M.tri M.strict M.after I.x1 I.x3 I.x5 k = (k0_pay293 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w245 : trip_k0_t1.sl.r_245 (F := F) I.a1 I.a3 I.a5 M.i M.j M.same M.l0 M.l1 M.l2 M.tri M.strict M.after I.x1 I.x3 I.x5 k = matmul dot_S8x128_S8x128_S128x128_0_0_1_1_n_n none (headRows (kd (I.at k 0) M) 6) (headRows (vnew (I.at k 0) M) 6) (constant S128x128 .f32 0x00000000#32) := by
  have e : trip_k0_t1.sl.r_245 (F := F) I.a1 I.a3 I.a5 M.i M.j M.same M.l0 M.l1 M.l2 M.tri M.strict M.after I.x1 I.x3 I.x5 k = (k0_pay294 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w246 : trip_k0_t1.sl.r_246 (F := F) I.a1 I.a3 I.a5 M.i M.j M.same M.l0 M.l1 M.l2 M.tri M.strict M.after I.x1 I.x3 I.x5 k = matmul dot_S8x128_S8x128_S128x128_0_0_1_1_n_n none (headRows (kd (I.at k 0) M) 7) (headRows (vnew (I.at k 0) M) 7) (constant S128x128 .f32 0x00000000#32) := by
  have e : trip_k0_t1.sl.r_246 (F := F) I.a1 I.a3 I.a5 M.i M.j M.same M.l0 M.l1 M.l2 M.tri M.strict M.after I.x1 I.x3 I.x5 k = (k0_pay295 (trip_k0_t1.sl.r_127 (F := F) I.a1 I.a3 M.same M.after I.x1 I.x3 k) (trip_k0_t1.sl.r_229 (F := F) I.a1 I.a3 I.a5 M.i M.j M.l0 M.l1 M.l2 M.tri M.strict I.x1 I.x3 I.x5 k)) := rfl
  rw [e, w127 I M k, w229 I M k]
  generalize (I.at k 0) = A
  rfl

theorem w293 : trip_k0_t1.sl.r_293 (F := F) I.a2 I.x2 k = gate (I.at k 0) 0 := by
  have e : trip_k0_t1.sl.r_293 (F := F) I.a2 I.x2 k = (k0_pay343 (I.at k 0).z) := rfl
  rw [e]
  generalize (I.at k 0) = A
  rfl

theorem w148 : trip_k0_t1.sl.r_148 (F := F) I.a1 I.a3 I.x1 I.x3 k = products (I.at k 0) := by
  have e : trip_k0_t1.sl.r_148 (F := F) I.a1 I.a3 I.x1 I.x3 k = (k0_pay193 (k0_pay158 (trip_k0_t1.sl.r_55 (F := F) I.a3 I.x3 k) (trip_k0_t1.sl.r_62 (F := F) I.a1 I.x1 k) (trip_k0_t1.sl.r_121 (F := F) I.a1 I.x1 k) (trip_k0_t1.sl.cst_242 (F := F) )) (k0_pay159 (trip_k0_t1.sl.r_62 (F := F) I.a1 I.x1 k))) := rfl
  rw [e, w55 I M k, w62 I M k, w121 I M k]
  generalize (I.at k 0) = A
  rfl

theorem w157 : trip_k0_t1.sl.r_157 (F := F) I.a1 I.a3 M.tri I.x1 I.x3 k = qk (I.at k 0) M := by
  have e : trip_k0_t1.sl.r_157 (F := F) I.a1 I.a3 M.tri I.x1 I.x3 k = (k0_pay202 (trip_k0_t1.sl.r_122 (F := F) I.a3 M.tri I.x3 k) (trip_k0_t1.sl.r_148 (F := F) I.a1 I.a3 I.x1 I.x3 k)) := rfl
  rw [e, w122 I M k, w148 I M k]
  generalize (I.at k 0) = A
  rfl

theorem w235 : trip_k0_t1.sl.r_235 (F := F) I.a1 I.a3 I.a5 M.i M.j M.l0 M.l1 M.l2 M.tri M.strict I.x1 I.x3 I.x5 k = matmul dot_S64x64_S64x128_S64x128_1_0_0_1_n_n none (qk (I.at k 0) M) (vnew (I.at k 0) M) (constant S64x128 .f32 0x00000000#32) := by
  have e : trip_k0_t1.sl.r_235 (F := F) I.a1 I.a3 I.a5 M.i M.j M.l0 M.l1 M.l2 M.tri M.strict I.x1 I.x3 I.x5 k = (k0_pay284 (trip_k0_t1.sl.r_157 (F := F) I.a1 I.a3 M.tri I.x1 I.x3 k) (trip_k0_t1.sl.r_229 (F := F) I.a1 I.a3 I.a5 M.i M.j M.l0 M.l1 M.l2 M.tri M.strict I.x1 I.x3 I.x5 k)) := rfl
  rw [e, w157 I M k, w229 I M k]
  generalize (I.at k 0) = A
  rfl

theorem w294 : trip_k0_t1.sl.r_294 (F := F) I.a1 I.a3 I.a5 M.i M.j M.l0 M.l1 M.l2 M.tri M.strict I.x1 I.x3 I.x5 k = rms (mixed (I.at k 0) M 0) := by
  have e : trip_k0_t1.sl.r_294 (F := F) I.a1 I.a3 I.a5 M.i M.j M.l0 M.l1 M.l2 M.tri M.strict I.x1 I.x3 I.x5 k = (k0_pay344 (trip_k0_t1.sl.r_190 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) := rfl
  rw [e, w190 I M k, w235 I M k]
  generalize (I.at k 0) = A
  rfl

theorem w296 : trip_k0_t1.sl.r_296 (F := F) I.a1 I.a3 I.a5 M.i M.j M.l0 M.l1 M.l2 M.tri M.strict I.x1 I.x3 I.x5 k = mixed (I.at k 0) M 1 := by
  have e : trip_k0_t1.sl.r_296 (F := F) I.a1 I.a3 I.a5 M.i M.j M.l0 M.l1 M.l2 M.tri M.strict I.x1 I.x3 I.x5 k = (k0_pay348 (trip_k0_t1.sl.r_191 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) := rfl
  rw [e, w191 I M k, w235 I M k]
  generalize (I.at k 0) = A
  rfl

theorem w297 : trip_k0_t1.sl.r_297 (F := F) I.a2 I.x2 k = gate (I.at k 0) 1 := by
  have e : trip_k0_t1.sl.r_297 (F := F) I.a2 I.x2 k = (k0_pay349 (k0_pay341 (I.at k 0).z)) := rfl
  rw [e]
  generalize (I.at k 0) = A
  rfl

theorem w300 : trip_k0_t1.sl.r_300 (F := F) I.a1 I.a3 I.a5 M.i M.j M.l0 M.l1 M.l2 M.tri M.strict I.x1 I.x3 I.x5 k = mixed (I.at k 0) M 2 := by
  have e : trip_k0_t1.sl.r_300 (F := F) I.a1 I.a3 I.a5 M.i M.j M.l0 M.l1 M.l2 M.tri M.strict I.x1 I.x3 I.x5 k = (k0_pay354 (trip_k0_t1.sl.r_193 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) := rfl
  rw [e, w193 I M k, w235 I M k]
  generalize (I.at k 0) = A
  rfl

theorem w301 : trip_k0_t1.sl.r_301 (F := F) I.a2 I.x2 k = gate (I.at k 0) 2 := by
  have e : trip_k0_t1.sl.r_301 (F := F) I.a2 I.x2 k = (k0_pay355 (k0_pay341 (I.at k 0).z)) := rfl
  rw [e]
  generalize (I.at k 0) = A
  rfl

theorem w304 : trip_k0_t1.sl.r_304 (F := F) I.a1 I.a3 I.a5 M.i M.j M.l0 M.l1 M.l2 M.tri M.strict I.x1 I.x3 I.x5 k = mixed (I.at k 0) M 3 := by
  have e : trip_k0_t1.sl.r_304 (F := F) I.a1 I.a3 I.a5 M.i M.j M.l0 M.l1 M.l2 M.tri M.strict I.x1 I.x3 I.x5 k = (k0_pay360 (trip_k0_t1.sl.r_194 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) := rfl
  rw [e, w194 I M k, w235 I M k]
  generalize (I.at k 0) = A
  rfl

theorem w305 : trip_k0_t1.sl.r_305 (F := F) I.a2 I.x2 k = gate (I.at k 0) 3 := by
  have e : trip_k0_t1.sl.r_305 (F := F) I.a2 I.x2 k = (k0_pay361 (k0_pay341 (I.at k 0).z)) := rfl
  rw [e]
  generalize (I.at k 0) = A
  rfl

theorem w308 : trip_k0_t1.sl.r_308 (F := F) I.a1 I.a3 I.a5 M.i M.j M.l0 M.l1 M.l2 M.tri M.strict I.x1 I.x3 I.x5 k = mixed (I.at k 0) M 4 := by
  have e : trip_k0_t1.sl.r_308 (F := F) I.a1 I.a3 I.a5 M.i M.j M.l0 M.l1 M.l2 M.tri M.strict I.x1 I.x3 I.x5 k = (k0_pay366 (trip_k0_t1.sl.r_195 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) := rfl
  rw [e, w195 I M k, w235 I M k]
  generalize (I.at k 0) = A
  rfl

theorem w309 : trip_k0_t1.sl.r_309 (F := F) I.a2 I.x2 k = gate (I.at k 0) 4 := by
  have e : trip_k0_t1.sl.r_309 (F := F) I.a2 I.x2 k = (k0_pay367 (k0_pay341 (I.at k 0).z)) := rfl
  rw [e]
  generalize (I.at k 0) = A
  rfl

theorem w312 : trip_k0_t1.sl.r_312 (F := F) I.a1 I.a3 I.a5 M.i M.j M.l0 M.l1 M.l2 M.tri M.strict I.x1 I.x3 I.x5 k = mixed (I.at k 0) M 5 := by
  have e : trip_k0_t1.sl.r_312 (F := F) I.a1 I.a3 I.a5 M.i M.j M.l0 M.l1 M.l2 M.tri M.strict I.x1 I.x3 I.x5 k = (k0_pay372 (trip_k0_t1.sl.r_196 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) := rfl
  rw [e, w196 I M k, w235 I M k]
  generalize (I.at k 0) = A
  rfl

theorem w313 : trip_k0_t1.sl.r_313 (F := F) I.a2 I.x2 k = gate (I.at k 0) 5 := by
  have e : trip_k0_t1.sl.r_313 (F := F) I.a2 I.x2 k = (k0_pay373 (k0_pay341 (I.at k 0).z)) := rfl
  rw [e]
  generalize (I.at k 0) = A
  rfl

theorem w315 : trip_k0_t1.sl.r_315 (F := F) I.a1 I.a3 I.a5 M.i M.j M.l0 M.l1 M.l2 M.tri M.strict I.x1 I.x3 I.x5 k = mixed (I.at k 0) M 6 := by
  have e : trip_k0_t1.sl.r_315 (F := F) I.a1 I.a3 I.a5 M.i M.j M.l0 M.l1 M.l2 M.tri M.strict I.x1 I.x3 I.x5 k = (k0_pay376 (trip_k0_t1.sl.r_197 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) := rfl
  rw [e, w197 I M k, w235 I M k]
  generalize (I.at k 0) = A
  rfl

theorem w316 : trip_k0_t1.sl.r_316 (F := F) I.a2 I.x2 k = gate (I.at k 0) 6 := by
  have e : trip_k0_t1.sl.r_316 (F := F) I.a2 I.x2 k = (k0_pay377 (k0_pay341 (I.at k 0).z)) := rfl
  rw [e]
  generalize (I.at k 0) = A
  rfl

theorem s00 : (k0_pay342 (trip_k0_t1.sl.r_60 (F := F) I.a3 M.tri I.x3 k) (trip_k0_t1.sl.r_239 (F := F) I.a1 I.a3 I.a5 M.i M.j M.same M.l0 M.l1 M.l2 M.tri M.strict M.after I.x1 I.x3 I.x5 k) ((I.at k 0).s0 0)) = stateOut (I.at k 0) M 0 := by
  rw [w60 I M k, w239 I M k]
  generalize (I.at k 0) = A
  rfl

theorem s01 : (k0_pay347 (trip_k0_t1.sl.r_60 (F := F) I.a3 M.tri I.x3 k) (trip_k0_t1.sl.r_240 (F := F) I.a1 I.a3 I.a5 M.i M.j M.same M.l0 M.l1 M.l2 M.tri M.strict M.after I.x1 I.x3 I.x5 k) ((I.at k 0).s0 1)) = stateOut (I.at k 0) M 1 := by
  rw [w60 I M k, w240 I M k]
  generalize (I.at k 0) = A
  rfl

theorem s02 : (k0_pay353 (trip_k0_t1.sl.r_60 (F := F) I.a3 M.tri I.x3 k) (trip_k0_t1.sl.r_241 (F := F) I.a1 I.a3 I.a5 M.i M.j M.same M.l0 M.l1 M.l2 M.tri M.strict M.after I.x1 I.x3 I.x5 k) ((I.at k 0).s0 2)) = stateOut (I.at k 0) M 2 := by
  rw [w60 I M k, w241 I M k]
  generalize (I.at k 0) = A
  rfl

theorem s03 : (k0_pay359 (trip_k0_t1.sl.r_60 (F := F) I.a3 M.tri I.x3 k) (trip_k0_t1.sl.r_242 (F := F) I.a1 I.a3 I.a5 M.i M.j M.same M.l0 M.l1 M.l2 M.tri M.strict M.after I.x1 I.x3 I.x5 k) ((I.at k 0).s0 3)) = stateOut (I.at k 0) M 3 := by
  rw [w60 I M k, w242 I M k]
  generalize (I.at k 0) = A
  rfl

theorem s04 : (k0_pay365 (trip_k0_t1.sl.r_60 (F := F) I.a3 M.tri I.x3 k) (trip_k0_t1.sl.r_243 (F := F) I.a1 I.a3 I.a5 M.i M.j M.same M.l0 M.l1 M.l2 M.tri M.strict M.after I.x1 I.x3 I.x5 k) ((I.at k 0).s0 4)) = stateOut (I.at k 0) M 4 := by
  rw [w60 I M k, w243 I M k]
  generalize (I.at k 0) = A
  rfl

theorem s05 : (k0_pay371 (trip_k0_t1.sl.r_60 (F := F) I.a3 M.tri I.x3 k) (trip_k0_t1.sl.r_244 (F := F) I.a1 I.a3 I.a5 M.i M.j M.same M.l0 M.l1 M.l2 M.tri M.strict M.after I.x1 I.x3 I.x5 k) ((I.at k 0).s0 5)) = stateOut (I.at k 0) M 5 := by
  rw [w60 I M k, w244 I M k]
  generalize (I.at k 0) = A
  rfl

theorem s06 : (k0_pay375 (trip_k0_t1.sl.r_60 (F := F) I.a3 M.tri I.x3 k) (trip_k0_t1.sl.r_245 (F := F) I.a1 I.a3 I.a5 M.i M.j M.same M.l0 M.l1 M.l2 M.tri M.strict M.after I.x1 I.x3 I.x5 k) ((I.at k 0).s0 6)) = stateOut (I.at k 0) M 6 := by
  rw [w60 I M k, w245 I M k]
  generalize (I.at k 0) = A
  rfl

theorem s07 : (k0_pay379 (trip_k0_t1.sl.r_60 (F := F) I.a3 M.tri I.x3 k) (trip_k0_t1.sl.r_246 (F := F) I.a1 I.a3 I.a5 M.i M.j M.same M.l0 M.l1 M.l2 M.tri M.strict M.after I.x1 I.x3 I.x5 k) ((I.at k 0).s0 7)) = stateOut (I.at k 0) M 7 := by
  rw [w60 I M k, w246 I M k]
  generalize (I.at k 0) = A
  rfl

theorem o00 : (k0_pay346 (trip_k0_t1.sl.r_293 (F := F) I.a2 I.x2 k) (trip_k0_t1.sl.r_294 (F := F) I.a1 I.a3 I.a5 M.i M.j M.l0 M.l1 M.l2 M.tri M.strict I.x1 I.x3 I.x5 k) (k0_pay345 (I.at k 0).wn)) = mixOut (I.at k 0) M 0 := by
  rw [w293 I M k, w294 I M k]
  generalize (I.at k 0) = A
  rfl

theorem o01 : (k0_pay352 (trip_k0_t1.sl.r_296 (F := F) I.a1 I.a3 I.a5 M.i M.j M.l0 M.l1 M.l2 M.tri M.strict I.x1 I.x3 I.x5 k) (trip_k0_t1.sl.r_297 (F := F) I.a2 I.x2 k) (k0_pay350 (I.at k 0).wn) (k0_pay351 (trip_k0_t1.sl.r_191 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k))) = mixOut (I.at k 0) M 1 := by
  rw [w296 I M k, w297 I M k, w191 I M k, w235 I M k]
  generalize (I.at k 0) = A
  rfl

theorem o02 : (k0_pay358 (trip_k0_t1.sl.r_300 (F := F) I.a1 I.a3 I.a5 M.i M.j M.l0 M.l1 M.l2 M.tri M.strict I.x1 I.x3 I.x5 k) (trip_k0_t1.sl.r_301 (F := F) I.a2 I.x2 k) (k0_pay356 (I.at k 0).wn) (k0_pay357 (trip_k0_t1.sl.r_193 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) (trip_k0_t1.sl.cst_561 (F := F) )) = mixOut (I.at k 0) M 2 := by
  rw [w300 I M k, w301 I M k, w193 I M k, w235 I M k]
  generalize (I.at k 0) = A
  rfl

theorem o03 : (k0_pay364 (trip_k0_t1.sl.r_304 (F := F) I.a1 I.a3 I.a5 M.i M.j M.l0 M.l1 M.l2 M.tri M.strict I.x1 I.x3 I.x5 k) (trip_k0_t1.sl.r_305 (F := F) I.a2 I.x2 k) (k0_pay362 (I.at k 0).wn) (k0_pay363 (trip_k0_t1.sl.r_194 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) (trip_k0_t1.sl.cst_577 (F := F) )) = mixOut (I.at k 0) M 3 := by
  rw [w304 I M k, w305 I M k, w194 I M k, w235 I M k]
  generalize (I.at k 0) = A
  rfl

theorem o04 : (k0_pay370 (trip_k0_t1.sl.r_308 (F := F) I.a1 I.a3 I.a5 M.i M.j M.l0 M.l1 M.l2 M.tri M.strict I.x1 I.x3 I.x5 k) (trip_k0_t1.sl.r_309 (F := F) I.a2 I.x2 k) (k0_pay368 (I.at k 0).wn) (k0_pay369 (trip_k0_t1.sl.r_195 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k))) = mixOut (I.at k 0) M 4 := by
  rw [w308 I M k, w309 I M k, w195 I M k, w235 I M k]
  generalize (I.at k 0) = A
  rfl

theorem o05 : (k0_pay374 (trip_k0_t1.sl.r_312 (F := F) I.a1 I.a3 I.a5 M.i M.j M.l0 M.l1 M.l2 M.tri M.strict I.x1 I.x3 I.x5 k) (trip_k0_t1.sl.r_313 (F := F) I.a2 I.x2 k) (I.at k 0).wn) = mixOut (I.at k 0) M 5 := by
  rw [w312 I M k, w313 I M k]
  generalize (I.at k 0) = A
  rfl

theorem o06 : (k0_pay378 (trip_k0_t1.sl.r_315 (F := F) I.a1 I.a3 I.a5 M.i M.j M.l0 M.l1 M.l2 M.tri M.strict I.x1 I.x3 I.x5 k) (trip_k0_t1.sl.r_316 (F := F) I.a2 I.x2 k) (I.at k 0).wn) = mixOut (I.at k 0) M 6 := by
  rw [w315 I M k, w316 I M k]
  generalize (I.at k 0) = A
  rfl

theorem o07 : (k0_pay381 (trip_k0_t1.sl.r_235 (F := F) I.a1 I.a3 I.a5 M.i M.j M.l0 M.l1 M.l2 M.tri M.strict I.x1 I.x3 I.x5 k) (k0_pay341 (I.at k 0).z) (k0_pay380 (trip_k0_t1.sl.r_198 (F := F) I.a1 I.a3 I.a5 M.i M.j M.l0 M.l1 M.l2 M.tri M.strict I.x1 I.x3 I.x5 k)) (I.at k 0).wn) = mixOut (I.at k 0) M 7 := by
  rw [w235 I M k, w198 I M k]
  generalize (I.at k 0) = A
  rfl

end Cert.Mix
-- ==== Proof.MixerRow1.lean ====
/- Row 1 of a trip: each word that the trip shares is a stage of what it loads of the row, and so is each value that it stores. -/
module

public import proofs.«01_k».proof.Proof.MixerPieces

@[expose] public section

set_option maxRecDepth 16384

noncomputable section

namespace Cert.Mix

open Cert.MixerIdeal Cert.MixerIdeal.Facts Cert.MixerIdeal.Gen Idealize.ShloMosaic Idealize.SL.Sem

variable {F : FTy → Type} [FloatOps F]

variable (I : Ins F) (M : Masks) (k : Fin k0_t1_loop.trips)

include I M k

theorem w75 : trip_k0_t1.sl.r_75 (F := F) I.a3 M.tri I.x3 k = run (I.at k 1) M := by
  have e : trip_k0_t1.sl.r_75 (F := F) I.a3 M.tri I.x3 k = (k0_pay101 M.tri (k0_pay91 (I.at k 1).gb)) := rfl
  rw [e]
  generalize (I.at k 1) = A
  rfl

theorem w81 : trip_k0_t1.sl.r_81 (F := F) I.a3 M.tri I.x3 k = exp (run (I.at k 1) M) := by
  have e : trip_k0_t1.sl.r_81 (F := F) I.a3 M.tri I.x3 k = (k0_pay108 (trip_k0_t1.sl.r_75 (F := F) I.a3 M.tri I.x3 k)) := rfl
  rw [e, w75 I M k]
  generalize (I.at k 1) = A
  rfl

theorem w80 : trip_k0_t1.sl.r_80 (F := F) I.a3 M.same M.after I.x3 k = left (I.at k 1) M := by
  have e : trip_k0_t1.sl.r_80 (F := F) I.a3 M.same M.after I.x3 k = (k0_pay107 (k0_pay102 (k0_pay1 M.same M.after)) (k0_pay103 (k0_pay91 (I.at k 1).gb)) (k0_pay105 (k0_pay91 (I.at k 1).gb)) (k0_pay106 (k0_pay91 (I.at k 1).gb)) (trip_k0_t1.sl.cst_217 (F := F) )) := rfl
  rw [e]
  generalize (I.at k 1) = A
  rfl

theorem w83 : trip_k0_t1.sl.r_83 (F := F) I.a1 I.x1 k = stream (I.at k 1) 1 := by
  have e : trip_k0_t1.sl.r_83 (F := F) I.a1 I.x1 k = (k0_pay110 (k0_pay90 (I.at k 1).cs)) := rfl
  rw [e]
  generalize (I.at k 1) = A
  rfl

theorem w129 : trip_k0_t1.sl.r_129 (F := F) I.a1 I.x1 k = kn (I.at k 1) := by
  have e : trip_k0_t1.sl.r_129 (F := F) I.a1 I.x1 k = (k0_pay164 (trip_k0_t1.sl.r_83 (F := F) I.a1 I.x1 k)) := rfl
  rw [e, w83 I M k]
  generalize (I.at k 1) = A
  rfl

theorem w136 : trip_k0_t1.sl.r_136 (F := F) I.a1 I.a3 M.same M.after I.x1 I.x3 k = kd (I.at k 1) M := by
  have e : trip_k0_t1.sl.r_136 (F := F) I.a1 I.a3 M.same M.after I.x1 I.x3 k = (k0_pay173 (trip_k0_t1.sl.r_80 (F := F) I.a3 M.same M.after I.x3 k) (trip_k0_t1.sl.r_129 (F := F) I.a1 I.x1 k)) := rfl
  rw [e, w80 I M k, w129 I M k]
  generalize (I.at k 1) = A
  rfl

theorem w74 : trip_k0_t1.sl.r_74 (F := F) I.a3 I.x3 k = lanes (I.at k 1) 0 := by
  have e : trip_k0_t1.sl.r_74 (F := F) I.a3 I.x3 k = (k0_pay99 (k0_pay91 (I.at k 1).gb) (k0_pay92 (I.at k 1).gb) (k0_pay93 (I.at k 1).gb) (k0_pay94 (I.at k 1).gb) (k0_pay95 (I.at k 1).gb) (k0_pay96 (I.at k 1).gb) (k0_pay97 (I.at k 1).gb) (k0_pay98 (I.at k 1).gb)) := rfl
  rw [e]
  generalize (I.at k 1) = A
  rfl

theorem w84 : trip_k0_t1.sl.r_84 (F := F) I.a1 I.x1 k = stream (I.at k 1) 2 := by
  have e : trip_k0_t1.sl.r_84 (F := F) I.a1 I.x1 k = (k0_pay111 (k0_pay90 (I.at k 1).cs)) := rfl
  rw [e]
  generalize (I.at k 1) = A
  rfl

theorem w134 : trip_k0_t1.sl.r_134 (F := F) I.a1 I.a3 M.tri I.x1 I.x3 k = rhs (I.at k 1) M := by
  have e : trip_k0_t1.sl.r_134 (F := F) I.a1 I.a3 M.tri I.x1 I.x3 k = (k0_pay171 (trip_k0_t1.sl.r_74 (F := F) I.a3 I.x3 k) (trip_k0_t1.sl.r_75 (F := F) I.a3 M.tri I.x3 k) (trip_k0_t1.sl.r_84 (F := F) I.a1 I.x1 k) (trip_k0_t1.sl.r_129 (F := F) I.a1 I.x1 k)) := rfl
  rw [e, w74 I M k, w75 I M k, w84 I M k, w129 I M k]
  generalize (I.at k 1) = A
  rfl

theorem w131 : trip_k0_t1.sl.r_131 (F := F) I.a3 M.tri I.x3 k = decay (I.at k 1) M := by
  have e : trip_k0_t1.sl.r_131 (F := F) I.a3 M.tri I.x3 k = (k0_pay166 (k0_pay165 M.tri (trip_k0_t1.sl.r_75 (F := F) I.a3 M.tri I.x3 k) (k0_pay112 (trip_k0_t1.sl.r_75 (F := F) I.a3 M.tri I.x3 k)))) := rfl
  rw [e, w75 I M k]
  generalize (I.at k 1) = A
  rfl

theorem w82 : trip_k0_t1.sl.r_82 (F := F) I.a1 I.x1 k = stream (I.at k 1) 0 := by
  have e : trip_k0_t1.sl.r_82 (F := F) I.a1 I.x1 k = (k0_pay109 (k0_pay90 (I.at k 1).cs)) := rfl
  rw [e]
  generalize (I.at k 1) = A
  rfl

theorem w128 : trip_k0_t1.sl.r_128 (F := F) I.a1 I.x1 k = qn (I.at k 1) := by
  have e : trip_k0_t1.sl.r_128 (F := F) I.a1 I.x1 k = (k0_pay163 (trip_k0_t1.sl.r_82 (F := F) I.a1 I.x1 k)) := rfl
  rw [e, w82 I M k]
  generalize (I.at k 1) = A
  rfl

theorem w153 : trip_k0_t1.sl.r_153 (F := F) I.a1 I.a3 M.tri M.strict I.x1 I.x3 k = sys (I.at k 1) M := by
  have e : trip_k0_t1.sl.r_153 (F := F) I.a1 I.a3 M.tri M.strict I.x1 I.x3 k = (k0_pay198 M.strict (trip_k0_t1.sl.r_131 (F := F) I.a3 M.tri I.x3 k) (k0_pay169 (trip_k0_t1.sl.r_74 (F := F) I.a3 I.x3 k) (trip_k0_t1.sl.r_128 (F := F) I.a1 I.x1 k) (trip_k0_t1.sl.r_129 (F := F) I.a1 I.x1 k)) (k0_pay170 (trip_k0_t1.sl.r_129 (F := F) I.a1 I.x1 k))) := rfl
  rw [e, w131 I M k, w74 I M k, w128 I M k, w129 I M k]
  generalize (I.at k 1) = A
  rfl

theorem w162 : trip_k0_t1.sl.r_162 (F := F) I.a1 I.a3 M.i M.j M.l0 M.tri M.strict I.x1 I.x3 k = inv0 M (sys (I.at k 1) M) := by
  have e : trip_k0_t1.sl.r_162 (F := F) I.a1 I.a3 M.i M.j M.l0 M.tri M.strict I.x1 I.x3 k = (k0_pay207 M.l0 (k0_pay2 M.i M.j) (trip_k0_t1.sl.r_153 (F := F) I.a1 I.a3 M.tri M.strict I.x1 I.x3 k)) := rfl
  rw [e, w153 I M k]
  generalize (I.at k 1) = A
  rfl

theorem w174 : trip_k0_t1.sl.r_174 (F := F) I.a1 I.a3 M.i M.j M.l0 M.l1 M.tri M.strict I.x1 I.x3 k = level M.l1 (sys (I.at k 1) M) (inv0 M (sys (I.at k 1) M)) := by
  have e : trip_k0_t1.sl.r_174 (F := F) I.a1 I.a3 M.i M.j M.l0 M.l1 M.tri M.strict I.x1 I.x3 k = (k0_pay219 (trip_k0_t1.sl.r_162 (F := F) I.a1 I.a3 M.i M.j M.l0 M.tri M.strict I.x1 I.x3 k) (k0_pay211 M.l0 (k0_pay2 M.i M.j) (trip_k0_t1.sl.r_153 (F := F) I.a1 I.a3 M.tri M.strict I.x1 I.x3 k)) (k0_pay214 M.l1 (trip_k0_t1.sl.r_153 (F := F) I.a1 I.a3 M.tri M.strict I.x1 I.x3 k))) := rfl
  rw [e, w162 I M k, w153 I M k]
  generalize (I.at k 1) = A
  rfl

theorem w184 : trip_k0_t1.sl.r_184 (F := F) I.a1 I.a3 M.i M.j M.l0 M.l1 M.l2 M.tri M.strict I.x1 I.x3 k = extractStridedSlice S64x128 ![0, 0] (sol (I.at k 1) M) slices_S64x256_o0_0_S64x128 := by
  have e : trip_k0_t1.sl.r_184 (F := F) I.a1 I.a3 M.i M.j M.l0 M.l1 M.l2 M.tri M.strict I.x1 I.x3 k = (k0_pay233 (trip_k0_t1.sl.r_134 (F := F) I.a1 I.a3 M.tri I.x1 I.x3 k) (trip_k0_t1.sl.r_174 (F := F) I.a1 I.a3 M.i M.j M.l0 M.l1 M.tri M.strict I.x1 I.x3 k) (k0_pay225 M.l2 (trip_k0_t1.sl.r_153 (F := F) I.a1 I.a3 M.tri M.strict I.x1 I.x3 k) (trip_k0_t1.sl.r_162 (F := F) I.a1 I.a3 M.i M.j M.l0 M.tri M.strict I.x1 I.x3 k) (k0_pay211 M.l0 (k0_pay2 M.i M.j) (trip_k0_t1.sl.r_153 (F := F) I.a1 I.a3 M.tri M.strict I.x1 I.x3 k)) (k0_pay214 M.l1 (trip_k0_t1.sl.r_153 (F := F) I.a1 I.a3 M.tri M.strict I.x1 I.x3 k)))) := rfl
  rw [e, w134 I M k, w174 I M k, w153 I M k, w162 I M k]
  generalize (I.at k 1) = A
  rfl

theorem w135 : trip_k0_t1.sl.r_135 (F := F) I.a1 I.a3 M.tri I.x1 I.x3 k = qg (I.at k 1) M := by
  have e : trip_k0_t1.sl.r_135 (F := F) I.a1 I.a3 M.tri I.x1 I.x3 k = (k0_pay172 (trip_k0_t1.sl.r_75 (F := F) I.a3 M.tri I.x3 k) (trip_k0_t1.sl.r_128 (F := F) I.a1 I.x1 k)) := rfl
  rw [e, w75 I M k, w128 I M k]
  generalize (I.at k 1) = A
  rfl

theorem w185 : trip_k0_t1.sl.r_185 (F := F) I.a1 I.a3 M.i M.j M.l0 M.l1 M.l2 M.tri M.strict I.x1 I.x3 k = solW (I.at k 1) M := by
  have e : trip_k0_t1.sl.r_185 (F := F) I.a1 I.a3 M.i M.j M.l0 M.l1 M.l2 M.tri M.strict I.x1 I.x3 k = (k0_pay234 (trip_k0_t1.sl.r_134 (F := F) I.a1 I.a3 M.tri I.x1 I.x3 k) (trip_k0_t1.sl.r_174 (F := F) I.a1 I.a3 M.i M.j M.l0 M.l1 M.tri M.strict I.x1 I.x3 k) (k0_pay225 M.l2 (trip_k0_t1.sl.r_153 (F := F) I.a1 I.a3 M.tri M.strict I.x1 I.x3 k) (trip_k0_t1.sl.r_162 (F := F) I.a1 I.a3 M.i M.j M.l0 M.tri M.strict I.x1 I.x3 k) (k0_pay211 M.l0 (k0_pay2 M.i M.j) (trip_k0_t1.sl.r_153 (F := F) I.a1 I.a3 M.tri M.strict I.x1 I.x3 k)) (k0_pay214 M.l1 (trip_k0_t1.sl.r_153 (F := F) I.a1 I.a3 M.tri M.strict I.x1 I.x3 k)))) := rfl
  rw [e, w134 I M k, w174 I M k, w153 I M k, w162 I M k]
  generalize (I.at k 1) = A
  rfl

theorem w199 : trip_k0_t1.sl.r_199 (F := F) I.a1 I.a3 I.a5 M.i M.j M.l0 M.l1 M.l2 M.tri M.strict I.x1 I.x3 I.x5 k = both (I.at k 1) M 0 := by
  have e : trip_k0_t1.sl.r_199 (F := F) I.a1 I.a3 I.a5 M.i M.j M.l0 M.l1 M.l2 M.tri M.strict I.x1 I.x3 I.x5 k = (k0_pay248 (trip_k0_t1.sl.r_135 (F := F) I.a1 I.a3 M.tri I.x1 I.x3 k) (trip_k0_t1.sl.r_185 (F := F) I.a1 I.a3 M.i M.j M.l0 M.l1 M.l2 M.tri M.strict I.x1 I.x3 k) ((I.at k 1).s0 0)) := rfl
  rw [e, w135 I M k, w185 I M k]
  generalize (I.at k 1) = A
  rfl

theorem w200 : trip_k0_t1.sl.r_200 (F := F) I.a1 I.a3 I.a5 M.i M.j M.l0 M.l1 M.l2 M.tri M.strict I.x1 I.x3 I.x5 k = both (I.at k 1) M 1 := by
  have e : trip_k0_t1.sl.r_200 (F := F) I.a1 I.a3 I.a5 M.i M.j M.l0 M.l1 M.l2 M.tri M.strict I.x1 I.x3 I.x5 k = (k0_pay249 (trip_k0_t1.sl.r_135 (F := F) I.a1 I.a3 M.tri I.x1 I.x3 k) (trip_k0_t1.sl.r_185 (F := F) I.a1 I.a3 M.i M.j M.l0 M.l1 M.l2 M.tri M.strict I.x1 I.x3 k) ((I.at k 1).s0 1)) := rfl
  rw [e, w135 I M k, w185 I M k]
  generalize (I.at k 1) = A
  rfl

theorem w201 : trip_k0_t1.sl.r_201 (F := F) I.a1 I.a3 I.a5 M.i M.j M.l0 M.l1 M.l2 M.tri M.strict I.x1 I.x3 I.x5 k = both (I.at k 1) M 2 := by
  have e : trip_k0_t1.sl.r_201 (F := F) I.a1 I.a3 I.a5 M.i M.j M.l0 M.l1 M.l2 M.tri M.strict I.x1 I.x3 I.x5 k = (k0_pay250 (trip_k0_t1.sl.r_135 (F := F) I.a1 I.a3 M.tri I.x1 I.x3 k) (trip_k0_t1.sl.r_185 (F := F) I.a1 I.a3 M.i M.j M.l0 M.l1 M.l2 M.tri M.strict I.x1 I.x3 k) ((I.at k 1).s0 2)) := rfl
  rw [e, w135 I M k, w185 I M k]
  generalize (I.at k 1) = A
  rfl

theorem w203 : trip_k0_t1.sl.r_203 (F := F) I.a1 I.a3 I.a5 M.i M.j M.l0 M.l1 M.l2 M.tri M.strict I.x1 I.x3 I.x5 k = both (I.at k 1) M 3 := by
  have e : trip_k0_t1.sl.r_203 (F := F) I.a1 I.a3 I.a5 M.i M.j M.l0 M.l1 M.l2 M.tri M.strict I.x1 I.x3 I.x5 k = (k0_pay252 (k0_pay251 (trip_k0_t1.sl.r_135 (F := F) I.a1 I.a3 M.tri I.x1 I.x3 k) (trip_k0_t1.sl.r_185 (F := F) I.a1 I.a3 M.i M.j M.l0 M.l1 M.l2 M.tri M.strict I.x1 I.x3 k)) ((I.at k 1).s0 3)) := rfl
  rw [e, w135 I M k, w185 I M k]
  generalize (I.at k 1) = A
  rfl

theorem w204 : trip_k0_t1.sl.r_204 (F := F) I.a1 I.a3 I.a5 M.i M.j M.l0 M.l1 M.l2 M.tri M.strict I.x1 I.x3 I.x5 k = both (I.at k 1) M 4 := by
  have e : trip_k0_t1.sl.r_204 (F := F) I.a1 I.a3 I.a5 M.i M.j M.l0 M.l1 M.l2 M.tri M.strict I.x1 I.x3 I.x5 k = (k0_pay253 (trip_k0_t1.sl.r_135 (F := F) I.a1 I.a3 M.tri I.x1 I.x3 k) (trip_k0_t1.sl.r_185 (F := F) I.a1 I.a3 M.i M.j M.l0 M.l1 M.l2 M.tri M.strict I.x1 I.x3 k) ((I.at k 1).s0 4)) := rfl
  rw [e, w135 I M k, w185 I M k]
  generalize (I.at k 1) = A
  rfl

theorem w205 : trip_k0_t1.sl.r_205 (F := F) I.a1 I.a3 I.a5 M.i M.j M.l0 M.l1 M.l2 M.tri M.strict I.x1 I.x3 I.x5 k = both (I.at k 1) M 5 := by
  have e : trip_k0_t1.sl.r_205 (F := F) I.a1 I.a3 I.a5 M.i M.j M.l0 M.l1 M.l2 M.tri M.strict I.x1 I.x3 I.x5 k = (k0_pay254 (trip_k0_t1.sl.r_135 (F := F) I.a1 I.a3 M.tri I.x1 I.x3 k) (trip_k0_t1.sl.r_185 (F := F) I.a1 I.a3 M.i M.j M.l0 M.l1 M.l2 M.tri M.strict I.x1 I.x3 k) ((I.at k 1).s0 5)) := rfl
  rw [e, w135 I M k, w185 I M k]
  generalize (I.at k 1) = A
  rfl

theorem w206 : trip_k0_t1.sl.r_206 (F := F) I.a1 I.a3 I.a5 M.i M.j M.l0 M.l1 M.l2 M.tri M.strict I.x1 I.x3 I.x5 k = both (I.at k 1) M 6 := by
  have e : trip_k0_t1.sl.r_206 (F := F) I.a1 I.a3 I.a5 M.i M.j M.l0 M.l1 M.l2 M.tri M.strict I.x1 I.x3 I.x5 k = (k0_pay255 (trip_k0_t1.sl.r_135 (F := F) I.a1 I.a3 M.tri I.x1 I.x3 k) (trip_k0_t1.sl.r_185 (F := F) I.a1 I.a3 M.i M.j M.l0 M.l1 M.l2 M.tri M.strict I.x1 I.x3 k) ((I.at k 1).s0 6)) := rfl
  rw [e, w135 I M k, w185 I M k]
  generalize (I.at k 1) = A
  rfl

theorem w207 : trip_k0_t1.sl.r_207 (F := F) I.a1 I.a3 I.a5 M.i M.j M.l0 M.l1 M.l2 M.tri M.strict I.x1 I.x3 I.x5 k = both (I.at k 1) M 7 := by
  have e : trip_k0_t1.sl.r_207 (F := F) I.a1 I.a3 I.a5 M.i M.j M.l0 M.l1 M.l2 M.tri M.strict I.x1 I.x3 I.x5 k = (k0_pay256 (trip_k0_t1.sl.r_135 (F := F) I.a1 I.a3 M.tri I.x1 I.x3 k) (trip_k0_t1.sl.r_185 (F := F) I.a1 I.a3 M.i M.j M.l0 M.l1 M.l2 M.tri M.strict I.x1 I.x3 k) ((I.at k 1).s0 7)) := rfl
  rw [e, w135 I M k, w185 I M k]
  generalize (I.at k 1) = A
  rfl

theorem w230 : trip_k0_t1.sl.r_230 (F := F) I.a1 I.a3 I.a5 M.i M.j M.l0 M.l1 M.l2 M.tri M.strict I.x1 I.x3 I.x5 k = vnew (I.at k 1) M := by
  have e : trip_k0_t1.sl.r_230 (F := F) I.a1 I.a3 I.a5 M.i M.j M.l0 M.l1 M.l2 M.tri M.strict I.x1 I.x3 I.x5 k = (k0_pay279 (trip_k0_t1.sl.r_184 (F := F) I.a1 I.a3 M.i M.j M.l0 M.l1 M.l2 M.tri M.strict I.x1 I.x3 k) (trip_k0_t1.sl.r_199 (F := F) I.a1 I.a3 I.a5 M.i M.j M.l0 M.l1 M.l2 M.tri M.strict I.x1 I.x3 I.x5 k) (trip_k0_t1.sl.r_200 (F := F) I.a1 I.a3 I.a5 M.i M.j M.l0 M.l1 M.l2 M.tri M.strict I.x1 I.x3 I.x5 k) (trip_k0_t1.sl.r_201 (F := F) I.a1 I.a3 I.a5 M.i M.j M.l0 M.l1 M.l2 M.tri M.strict I.x1 I.x3 I.x5 k) (trip_k0_t1.sl.r_203 (F := F) I.a1 I.a3 I.a5 M.i M.j M.l0 M.l1 M.l2 M.tri M.strict I.x1 I.x3 I.x5 k) (trip_k0_t1.sl.r_204 (F := F) I.a1 I.a3 I.a5 M.i M.j M.l0 M.l1 M.l2 M.tri M.strict I.x1 I.x3 I.x5 k) (trip_k0_t1.sl.r_205 (F := F) I.a1 I.a3 I.a5 M.i M.j M.l0 M.l1 M.l2 M.tri M.strict I.x1 I.x3 I.x5 k) (trip_k0_t1.sl.r_206 (F := F) I.a1 I.a3 I.a5 M.i M.j M.l0 M.l1 M.l2 M.tri M.strict I.x1 I.x3 I.x5 k) (trip_k0_t1.sl.r_207 (F := F) I.a1 I.a3 I.a5 M.i M.j M.l0 M.l1 M.l2 M.tri M.strict I.x1 I.x3 I.x5 k)) := rfl
  rw [e, w184 I M k, w199 I M k, w200 I M k, w201 I M k, w203 I M k, w204 I M k, w205 I M k, w206 I M k, w207 I M k]
  generalize (I.at k 1) = A
  rfl

theorem w247 : trip_k0_t1.sl.r_247 (F := F) I.a1 I.a3 I.a5 M.i M.j M.same M.l0 M.l1 M.l2 M.tri M.strict M.after I.x1 I.x3 I.x5 k = matmul dot_S8x128_S8x128_S128x128_0_0_1_1_n_n none (headRows (kd (I.at k 1) M) 0) (headRows (vnew (I.at k 1) M) 0) (constant S128x128 .f32 0x00000000#32) := by
  have e : trip_k0_t1.sl.r_247 (F := F) I.a1 I.a3 I.a5 M.i M.j M.same M.l0 M.l1 M.l2 M.tri M.strict M.after I.x1 I.x3 I.x5 k = (k0_pay296 (trip_k0_t1.sl.r_136 (F := F) I.a1 I.a3 M.same M.after I.x1 I.x3 k) (trip_k0_t1.sl.r_230 (F := F) I.a1 I.a3 I.a5 M.i M.j M.l0 M.l1 M.l2 M.tri M.strict I.x1 I.x3 I.x5 k)) := rfl
  rw [e, w136 I M k, w230 I M k]
  generalize (I.at k 1) = A
  rfl

theorem w248 : trip_k0_t1.sl.r_248 (F := F) I.a1 I.a3 I.a5 M.i M.j M.same M.l0 M.l1 M.l2 M.tri M.strict M.after I.x1 I.x3 I.x5 k = matmul dot_S8x128_S8x128_S128x128_0_0_1_1_n_n none (headRows (kd (I.at k 1) M) 1) (headRows (vnew (I.at k 1) M) 1) (constant S128x128 .f32 0x00000000#32) := by
  have e : trip_k0_t1.sl.r_248 (F := F) I.a1 I.a3 I.a5 M.i M.j M.same M.l0 M.l1 M.l2 M.tri M.strict M.after I.x1 I.x3 I.x5 k = (k0_pay297 (trip_k0_t1.sl.r_136 (F := F) I.a1 I.a3 M.same M.after I.x1 I.x3 k) (trip_k0_t1.sl.r_230 (F := F) I.a1 I.a3 I.a5 M.i M.j M.l0 M.l1 M.l2 M.tri M.strict I.x1 I.x3 I.x5 k)) := rfl
  rw [e, w136 I M k, w230 I M k]
  generalize (I.at k 1) = A
  rfl

theorem w251 : trip_k0_t1.sl.r_251 (F := F) I.a1 I.a3 I.a5 M.i M.j M.same M.l0 M.l1 M.l2 M.tri M.strict M.after I.x1 I.x3 I.x5 k = matmul dot_S8x128_S8x128_S128x128_0_0_1_1_n_n none (headRows (kd (I.at k 1) M) 2) (headRows (vnew (I.at k 1) M) 2) (constant S128x128 .f32 0x00000000#32) := by
  have e : trip_k0_t1.sl.r_251 (F := F) I.a1 I.a3 I.a5 M.i M.j M.same M.l0 M.l1 M.l2 M.tri M.strict M.after I.x1 I.x3 I.x5 k = (k0_pay300 (k0_pay298 (trip_k0_t1.sl.r_136 (F := F) I.a1 I.a3 M.same M.after I.x1 I.x3 k)) (k0_pay299 (trip_k0_t1.sl.r_230 (F := F) I.a1 I.a3 I.a5 M.i M.j M.l0 M.l1 M.l2 M.tri M.strict I.x1 I.x3 I.x5 k)) (trip_k0_t1.sl.cst_474 (F := F) )) := rfl
  rw [e, w136 I M k, w230 I M k]
  generalize (I.at k 1) = A
  rfl

theorem w252 : trip_k0_t1.sl.r_252 (F := F) I.a1 I.a3 I.a5 M.i M.j M.same M.l0 M.l1 M.l2 M.tri M.strict M.after I.x1 I.x3 I.x5 k = matmul dot_S8x128_S8x128_S128x128_0_0_1_1_n_n none (headRows (kd (I.at k 1) M) 3) (headRows (vnew (I.at k 1) M) 3) (constant S128x128 .f32 0x00000000#32) := by
  have e : trip_k0_t1.sl.r_252 (F := F) I.a1 I.a3 I.a5 M.i M.j M.same M.l0 M.l1 M.l2 M.tri M.strict M.after I.x1 I.x3 I.x5 k = (k0_pay301 (trip_k0_t1.sl.r_136 (F := F) I.a1 I.a3 M.same M.after I.x1 I.x3 k) (trip_k0_t1.sl.r_230 (F := F) I.a1 I.a3 I.a5 M.i M.j M.l0 M.l1 M.l2 M.tri M.strict I.x1 I.x3 I.x5 k)) := rfl
  rw [e, w136 I M k, w230 I M k]
  generalize (I.at k 1) = A
  rfl

theorem w253 : trip_k0_t1.sl.r_253 (F := F) I.a1 I.a3 I.a5 M.i M.j M.same M.l0 M.l1 M.l2 M.tri M.strict M.after I.x1 I.x3 I.x5 k = matmul dot_S8x128_S8x128_S128x128_0_0_1_1_n_n none (headRows (kd (I.at k 1) M) 4) (headRows (vnew (I.at k 1) M) 4) (constant S128x128 .f32 0x00000000#32) := by
  have e : trip_k0_t1.sl.r_253 (F := F) I.a1 I.a3 I.a5 M.i M.j M.same M.l0 M.l1 M.l2 M.tri M.strict M.after I.x1 I.x3 I.x5 k = (k0_pay302 (trip_k0_t1.sl.r_136 (F := F) I.a1 I.a3 M.same M.after I.x1 I.x3 k) (trip_k0_t1.sl.r_230 (F := F) I.a1 I.a3 I.a5 M.i M.j M.l0 M.l1 M.l2 M.tri M.strict I.x1 I.x3 I.x5 k)) := rfl
  rw [e, w136 I M k, w230 I M k]
  generalize (I.at k 1) = A
  rfl

theorem w254 : trip_k0_t1.sl.r_254 (F := F) I.a1 I.a3 I.a5 M.i M.j M.same M.l0 M.l1 M.l2 M.tri M.strict M.after I.x1 I.x3 I.x5 k = matmul dot_S8x128_S8x128_S128x128_0_0_1_1_n_n none (headRows (kd (I.at k 1) M) 5) (headRows (vnew (I.at k 1) M) 5) (constant S128x128 .f32 0x00000000#32) := by
  have e : trip_k0_t1.sl.r_254 (F := F) I.a1 I.a3 I.a5 M.i M.j M.same M.l0 M.l1 M.l2 M.tri M.strict M.after I.x1 I.x3 I.x5 k = (k0_pay303 (trip_k0_t1.sl.r_136 (F := F) I.a1 I.a3 M.same M.after I.x1 I.x3 k) (trip_k0_t1.sl.r_230 (F := F) I.a1 I.a3 I.a5 M.i M.j M.l0 M.l1 M.l2 M.tri M.strict I.x1 I.x3 I.x5 k)) := rfl
  rw [e, w136 I M k, w230 I M k]
  generalize (I.at k 1) = A
  rfl

theorem w255 : trip_k0_t1.sl.r_255 (F := F) I.a1 I.a3 I.a5 M.i M.j M.same M.l0 M.l1 M.l2 M.tri M.strict M.after I.x1 I.x3 I.x5 k = matmul dot_S8x128_S8x128_S128x128_0_0_1_1_n_n none (headRows (kd (I.at k 1) M) 6) (headRows (vnew (I.at k 1) M) 6) (constant S128x128 .f32 0x00000000#32) := by
  have e : trip_k0_t1.sl.r_255 (F := F) I.a1 I.a3 I.a5 M.i M.j M.same M.l0 M.l1 M.l2 M.tri M.strict M.after I.x1 I.x3 I.x5 k = (k0_pay304 (trip_k0_t1.sl.r_136 (F := F) I.a1 I.a3 M.same M.after I.x1 I.x3 k) (trip_k0_t1.sl.r_230 (F := F) I.a1 I.a3 I.a5 M.i M.j M.l0 M.l1 M.l2 M.tri M.strict I.x1 I.x3 I.x5 k)) := rfl
  rw [e, w136 I M k, w230 I M k]
  generalize (I.at k 1) = A
  rfl

theorem w256 : trip_k0_t1.sl.r_256 (F := F) I.a1 I.a3 I.a5 M.i M.j M.same M.l0 M.l1 M.l2 M.tri M.strict M.after I.x1 I.x3 I.x5 k = matmul dot_S8x128_S8x128_S128x128_0_0_1_1_n_n none (headRows (kd (I.at k 1) M) 7) (headRows (vnew (I.at k 1) M) 7) (constant S128x128 .f32 0x00000000#32) := by
  have e : trip_k0_t1.sl.r_256 (F := F) I.a1 I.a3 I.a5 M.i M.j M.same M.l0 M.l1 M.l2 M.tri M.strict M.after I.x1 I.x3 I.x5 k = (k0_pay305 (trip_k0_t1.sl.r_136 (F := F) I.a1 I.a3 M.same M.after I.x1 I.x3 k) (trip_k0_t1.sl.r_230 (F := F) I.a1 I.a3 I.a5 M.i M.j M.l0 M.l1 M.l2 M.tri M.strict I.x1 I.x3 I.x5 k)) := rfl
  rw [e, w136 I M k, w230 I M k]
  generalize (I.at k 1) = A
  rfl

theorem w321 : trip_k0_t1.sl.r_321 (F := F) I.a2 I.x2 k = gate (I.at k 1) 0 := by
  have e : trip_k0_t1.sl.r_321 (F := F) I.a2 I.x2 k = (k0_pay402 (I.at k 1).z) := rfl
  rw [e]
  generalize (I.at k 1) = A
  rfl

theorem w149 : trip_k0_t1.sl.r_149 (F := F) I.a1 I.a3 I.x1 I.x3 k = products (I.at k 1) := by
  have e : trip_k0_t1.sl.r_149 (F := F) I.a1 I.a3 I.x1 I.x3 k = (k0_pay194 (k0_pay169 (trip_k0_t1.sl.r_74 (F := F) I.a3 I.x3 k) (trip_k0_t1.sl.r_128 (F := F) I.a1 I.x1 k) (trip_k0_t1.sl.r_129 (F := F) I.a1 I.x1 k)) (k0_pay170 (trip_k0_t1.sl.r_129 (F := F) I.a1 I.x1 k))) := rfl
  rw [e, w74 I M k, w128 I M k, w129 I M k]
  generalize (I.at k 1) = A
  rfl

theorem w158 : trip_k0_t1.sl.r_158 (F := F) I.a1 I.a3 M.tri I.x1 I.x3 k = qk (I.at k 1) M := by
  have e : trip_k0_t1.sl.r_158 (F := F) I.a1 I.a3 M.tri I.x1 I.x3 k = (k0_pay203 (trip_k0_t1.sl.r_131 (F := F) I.a3 M.tri I.x3 k) (trip_k0_t1.sl.r_149 (F := F) I.a1 I.a3 I.x1 I.x3 k)) := rfl
  rw [e, w131 I M k, w149 I M k]
  generalize (I.at k 1) = A
  rfl

theorem w236 : trip_k0_t1.sl.r_236 (F := F) I.a1 I.a3 I.a5 M.i M.j M.l0 M.l1 M.l2 M.tri M.strict I.x1 I.x3 I.x5 k = matmul dot_S64x64_S64x128_S64x128_1_0_0_1_n_n none (qk (I.at k 1) M) (vnew (I.at k 1) M) (constant S64x128 .f32 0x00000000#32) := by
  have e : trip_k0_t1.sl.r_236 (F := F) I.a1 I.a3 I.a5 M.i M.j M.l0 M.l1 M.l2 M.tri M.strict I.x1 I.x3 I.x5 k = (k0_pay285 (trip_k0_t1.sl.r_158 (F := F) I.a1 I.a3 M.tri I.x1 I.x3 k) (trip_k0_t1.sl.r_230 (F := F) I.a1 I.a3 I.a5 M.i M.j M.l0 M.l1 M.l2 M.tri M.strict I.x1 I.x3 I.x5 k)) := rfl
  rw [e, w158 I M k, w230 I M k]
  generalize (I.at k 1) = A
  rfl

theorem w324 : trip_k0_t1.sl.r_324 (F := F) I.a2 I.x2 k = gate (I.at k 1) 1 := by
  have e : trip_k0_t1.sl.r_324 (F := F) I.a2 I.x2 k = (k0_pay408 (k0_pay400 (I.at k 1).z)) := rfl
  rw [e]
  generalize (I.at k 1) = A
  rfl

theorem w327 : trip_k0_t1.sl.r_327 (F := F) I.a2 I.x2 k = gate (I.at k 1) 2 := by
  have e : trip_k0_t1.sl.r_327 (F := F) I.a2 I.x2 k = (k0_pay413 (k0_pay400 (I.at k 1).z)) := rfl
  rw [e]
  generalize (I.at k 1) = A
  rfl

theorem w329 : trip_k0_t1.sl.r_329 (F := F) I.a1 I.a3 I.a5 M.i M.j M.l0 M.l1 M.l2 M.tri M.strict I.x1 I.x3 I.x5 k = mixed (I.at k 1) M 3 := by
  have e : trip_k0_t1.sl.r_329 (F := F) I.a1 I.a3 I.a5 M.i M.j M.l0 M.l1 M.l2 M.tri M.strict I.x1 I.x3 I.x5 k = (k0_pay417 (trip_k0_t1.sl.r_203 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) := rfl
  rw [e, w203 I M k, w236 I M k]
  generalize (I.at k 1) = A
  rfl

theorem w330 : trip_k0_t1.sl.r_330 (F := F) I.a2 I.x2 k = gate (I.at k 1) 3 := by
  have e : trip_k0_t1.sl.r_330 (F := F) I.a2 I.x2 k = (k0_pay418 (k0_pay400 (I.at k 1).z)) := rfl
  rw [e]
  generalize (I.at k 1) = A
  rfl

theorem w333 : trip_k0_t1.sl.r_333 (F := F) I.a1 I.a3 I.a5 M.i M.j M.l0 M.l1 M.l2 M.tri M.strict I.x1 I.x3 I.x5 k = mixed (I.at k 1) M 4 := by
  have e : trip_k0_t1.sl.r_333 (F := F) I.a1 I.a3 I.a5 M.i M.j M.l0 M.l1 M.l2 M.tri M.strict I.x1 I.x3 I.x5 k = (k0_pay423 (trip_k0_t1.sl.r_204 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) := rfl
  rw [e, w204 I M k, w236 I M k]
  generalize (I.at k 1) = A
  rfl

theorem w334 : trip_k0_t1.sl.r_334 (F := F) I.a2 I.x2 k = gate (I.at k 1) 4 := by
  have e : trip_k0_t1.sl.r_334 (F := F) I.a2 I.x2 k = (k0_pay424 (k0_pay400 (I.at k 1).z)) := rfl
  rw [e]
  generalize (I.at k 1) = A
  rfl

theorem w337 : trip_k0_t1.sl.r_337 (F := F) I.a1 I.a3 I.a5 M.i M.j M.l0 M.l1 M.l2 M.tri M.strict I.x1 I.x3 I.x5 k = mixed (I.at k 1) M 5 := by
  have e : trip_k0_t1.sl.r_337 (F := F) I.a1 I.a3 I.a5 M.i M.j M.l0 M.l1 M.l2 M.tri M.strict I.x1 I.x3 I.x5 k = (k0_pay430 (trip_k0_t1.sl.r_205 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) := rfl
  rw [e, w205 I M k, w236 I M k]
  generalize (I.at k 1) = A
  rfl

theorem w338 : trip_k0_t1.sl.r_338 (F := F) I.a2 I.x2 k = gate (I.at k 1) 5 := by
  have e : trip_k0_t1.sl.r_338 (F := F) I.a2 I.x2 k = (k0_pay431 (k0_pay400 (I.at k 1).z)) := rfl
  rw [e]
  generalize (I.at k 1) = A
  rfl

theorem w341 : trip_k0_t1.sl.r_341 (F := F) I.a1 I.a3 I.a5 M.i M.j M.l0 M.l1 M.l2 M.tri M.strict I.x1 I.x3 I.x5 k = mixed (I.at k 1) M 6 := by
  have e : trip_k0_t1.sl.r_341 (F := F) I.a1 I.a3 I.a5 M.i M.j M.l0 M.l1 M.l2 M.tri M.strict I.x1 I.x3 I.x5 k = (k0_pay437 (trip_k0_t1.sl.r_206 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) := rfl
  rw [e, w206 I M k, w236 I M k]
  generalize (I.at k 1) = A
  rfl

theorem w342 : trip_k0_t1.sl.r_342 (F := F) I.a2 I.x2 k = gate (I.at k 1) 6 := by
  have e : trip_k0_t1.sl.r_342 (F := F) I.a2 I.x2 k = (k0_pay438 (k0_pay400 (I.at k 1).z)) := rfl
  rw [e]
  generalize (I.at k 1) = A
  rfl

theorem w345 : trip_k0_t1.sl.r_345 (F := F) I.a1 I.a3 I.a5 M.i M.j M.l0 M.l1 M.l2 M.tri M.strict I.x1 I.x3 I.x5 k = mixed (I.at k 1) M 7 := by
  have e : trip_k0_t1.sl.r_345 (F := F) I.a1 I.a3 I.a5 M.i M.j M.l0 M.l1 M.l2 M.tri M.strict I.x1 I.x3 I.x5 k = (k0_pay443 (trip_k0_t1.sl.r_207 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) := rfl
  rw [e, w207 I M k, w236 I M k]
  generalize (I.at k 1) = A
  rfl

theorem w346 : trip_k0_t1.sl.r_346 (F := F) I.a2 I.x2 k = gate (I.at k 1) 7 := by
  have e : trip_k0_t1.sl.r_346 (F := F) I.a2 I.x2 k = (k0_pay444 (k0_pay400 (I.at k 1).z)) := rfl
  rw [e]
  generalize (I.at k 1) = A
  rfl

theorem s10 : (k0_pay401 (trip_k0_t1.sl.r_81 (F := F) I.a3 M.tri I.x3 k) (trip_k0_t1.sl.r_247 (F := F) I.a1 I.a3 I.a5 M.i M.j M.same M.l0 M.l1 M.l2 M.tri M.strict M.after I.x1 I.x3 I.x5 k) ((I.at k 1).s0 0)) = stateOut (I.at k 1) M 0 := by
  rw [w81 I M k, w247 I M k]
  generalize (I.at k 1) = A
  rfl

theorem s11 : (k0_pay407 (trip_k0_t1.sl.r_81 (F := F) I.a3 M.tri I.x3 k) (trip_k0_t1.sl.r_248 (F := F) I.a1 I.a3 I.a5 M.i M.j M.same M.l0 M.l1 M.l2 M.tri M.strict M.after I.x1 I.x3 I.x5 k) ((I.at k 1).s0 1)) = stateOut (I.at k 1) M 1 := by
  rw [w81 I M k, w248 I M k]
  generalize (I.at k 1) = A
  rfl

theorem s12 : (k0_pay412 (trip_k0_t1.sl.r_81 (F := F) I.a3 M.tri I.x3 k) (trip_k0_t1.sl.r_251 (F := F) I.a1 I.a3 I.a5 M.i M.j M.same M.l0 M.l1 M.l2 M.tri M.strict M.after I.x1 I.x3 I.x5 k) ((I.at k 1).s0 2)) = stateOut (I.at k 1) M 2 := by
  rw [w81 I M k, w251 I M k]
  generalize (I.at k 1) = A
  rfl

theorem s13 : (k0_pay416 (trip_k0_t1.sl.r_81 (F := F) I.a3 M.tri I.x3 k) (trip_k0_t1.sl.r_252 (F := F) I.a1 I.a3 I.a5 M.i M.j M.same M.l0 M.l1 M.l2 M.tri M.strict M.after I.x1 I.x3 I.x5 k) ((I.at k 1).s0 3)) = stateOut (I.at k 1) M 3 := by
  rw [w81 I M k, w252 I M k]
  generalize (I.at k 1) = A
  rfl

theorem s14 : (k0_pay422 (trip_k0_t1.sl.r_81 (F := F) I.a3 M.tri I.x3 k) (trip_k0_t1.sl.r_253 (F := F) I.a1 I.a3 I.a5 M.i M.j M.same M.l0 M.l1 M.l2 M.tri M.strict M.after I.x1 I.x3 I.x5 k) ((I.at k 1).s0 4)) = stateOut (I.at k 1) M 4 := by
  rw [w81 I M k, w253 I M k]
  generalize (I.at k 1) = A
  rfl

theorem s15 : (k0_pay429 (trip_k0_t1.sl.r_81 (F := F) I.a3 M.tri I.x3 k) (trip_k0_t1.sl.r_254 (F := F) I.a1 I.a3 I.a5 M.i M.j M.same M.l0 M.l1 M.l2 M.tri M.strict M.after I.x1 I.x3 I.x5 k) ((I.at k 1).s0 5)) = stateOut (I.at k 1) M 5 := by
  rw [w81 I M k, w254 I M k]
  generalize (I.at k 1) = A
  rfl

theorem s16 : (k0_pay436 (trip_k0_t1.sl.r_81 (F := F) I.a3 M.tri I.x3 k) (trip_k0_t1.sl.r_255 (F := F) I.a1 I.a3 I.a5 M.i M.j M.same M.l0 M.l1 M.l2 M.tri M.strict M.after I.x1 I.x3 I.x5 k) ((I.at k 1).s0 6)) = stateOut (I.at k 1) M 6 := by
  rw [w81 I M k, w255 I M k]
  generalize (I.at k 1) = A
  rfl

theorem s17 : (k0_pay442 (trip_k0_t1.sl.r_81 (F := F) I.a3 M.tri I.x3 k) (trip_k0_t1.sl.r_256 (F := F) I.a1 I.a3 I.a5 M.i M.j M.same M.l0 M.l1 M.l2 M.tri M.strict M.after I.x1 I.x3 I.x5 k) ((I.at k 1).s0 7)) = stateOut (I.at k 1) M 7 := by
  rw [w81 I M k, w256 I M k]
  generalize (I.at k 1) = A
  rfl

theorem o10 : (k0_pay406 (trip_k0_t1.sl.r_321 (F := F) I.a2 I.x2 k) (k0_pay403 (trip_k0_t1.sl.r_199 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k) (I.at k 1).wn) (k0_pay404 (I.at k 1).z) k0_pay405) = mixOut (I.at k 1) M 0 := by
  rw [w321 I M k, w199 I M k, w236 I M k]
  generalize (I.at k 1) = A
  rfl

theorem o11 : (k0_pay411 (trip_k0_t1.sl.r_324 (F := F) I.a2 I.x2 k) (k0_pay409 (trip_k0_t1.sl.r_200 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k) (I.at k 1).wn) (k0_pay410 (k0_pay400 (I.at k 1).z))) = mixOut (I.at k 1) M 1 := by
  rw [w324 I M k, w200 I M k, w236 I M k]
  generalize (I.at k 1) = A
  rfl

theorem o12 : (k0_pay415 (trip_k0_t1.sl.r_327 (F := F) I.a2 I.x2 k) (k0_pay414 (trip_k0_t1.sl.r_201 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k) (I.at k 1).wn)) = mixOut (I.at k 1) M 2 := by
  rw [w327 I M k, w201 I M k, w236 I M k]
  generalize (I.at k 1) = A
  rfl

theorem o13 : (k0_pay421 (trip_k0_t1.sl.r_329 (F := F) I.a1 I.a3 I.a5 M.i M.j M.l0 M.l1 M.l2 M.tri M.strict I.x1 I.x3 I.x5 k) (trip_k0_t1.sl.r_330 (F := F) I.a2 I.x2 k) (k0_pay419 (I.at k 1).wn) (k0_pay420 (trip_k0_t1.sl.r_203 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k))) = mixOut (I.at k 1) M 3 := by
  rw [w329 I M k, w330 I M k, w203 I M k, w236 I M k]
  generalize (I.at k 1) = A
  rfl

theorem o14 : (k0_pay428 (trip_k0_t1.sl.r_333 (F := F) I.a1 I.a3 I.a5 M.i M.j M.l0 M.l1 M.l2 M.tri M.strict I.x1 I.x3 I.x5 k) (trip_k0_t1.sl.r_334 (F := F) I.a2 I.x2 k) (k0_pay425 (I.at k 1).wn) (k0_pay426 (trip_k0_t1.sl.r_204 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) k0_pay427) = mixOut (I.at k 1) M 4 := by
  rw [w333 I M k, w334 I M k, w204 I M k, w236 I M k]
  generalize (I.at k 1) = A
  rfl

theorem o15 : (k0_pay435 (trip_k0_t1.sl.r_337 (F := F) I.a1 I.a3 I.a5 M.i M.j M.l0 M.l1 M.l2 M.tri M.strict I.x1 I.x3 I.x5 k) (trip_k0_t1.sl.r_338 (F := F) I.a2 I.x2 k) (k0_pay432 (I.at k 1).wn) (k0_pay433 (trip_k0_t1.sl.r_205 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) k0_pay434) = mixOut (I.at k 1) M 5 := by
  rw [w337 I M k, w338 I M k, w205 I M k, w236 I M k]
  generalize (I.at k 1) = A
  rfl

theorem o16 : (k0_pay441 (trip_k0_t1.sl.r_341 (F := F) I.a1 I.a3 I.a5 M.i M.j M.l0 M.l1 M.l2 M.tri M.strict I.x1 I.x3 I.x5 k) (trip_k0_t1.sl.r_342 (F := F) I.a2 I.x2 k) (k0_pay439 (I.at k 1).wn) (k0_pay440 (trip_k0_t1.sl.r_206 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k))) = mixOut (I.at k 1) M 6 := by
  rw [w341 I M k, w342 I M k, w206 I M k, w236 I M k]
  generalize (I.at k 1) = A
  rfl

theorem o17 : (k0_pay446 (trip_k0_t1.sl.r_345 (F := F) I.a1 I.a3 I.a5 M.i M.j M.l0 M.l1 M.l2 M.tri M.strict I.x1 I.x3 I.x5 k) (trip_k0_t1.sl.r_346 (F := F) I.a2 I.x2 k) (k0_pay445 (I.at k 1).wn)) = mixOut (I.at k 1) M 7 := by
  rw [w345 I M k, w346 I M k]
  generalize (I.at k 1) = A
  rfl

end Cert.Mix
-- ==== Proof.MixerRow2.lean ====
/- Row 2 of a trip: each word that the trip shares is a stage of what it loads of the row, and so is each value that it stores. -/
module

public import proofs.«01_k».proof.Proof.MixerPieces

@[expose] public section

set_option maxRecDepth 16384

noncomputable section

namespace Cert.Mix

open Cert.MixerIdeal Cert.MixerIdeal.Facts Cert.MixerIdeal.Gen Idealize.ShloMosaic Idealize.SL.Sem

variable {F : FTy → Type} [FloatOps F]

variable (I : Ins F) (M : Masks) (k : Fin k0_t1_loop.trips)

include I M k

theorem w95 : trip_k0_t1.sl.r_95 (F := F) I.a3 M.tri I.x3 k = run (I.at k 2) M := by
  have e : trip_k0_t1.sl.r_95 (F := F) I.a3 M.tri I.x3 k = (k0_pay122 M.tri (k0_pay114 (I.at k 2).gb)) := rfl
  rw [e]
  generalize (I.at k 2) = A
  rfl

theorem w100 : trip_k0_t1.sl.r_100 (F := F) I.a3 M.tri I.x3 k = exp (run (I.at k 2) M) := by
  have e : trip_k0_t1.sl.r_100 (F := F) I.a3 M.tri I.x3 k = (k0_pay127 (trip_k0_t1.sl.r_95 (F := F) I.a3 M.tri I.x3 k)) := rfl
  rw [e, w95 I M k]
  generalize (I.at k 2) = A
  rfl

theorem w94 : trip_k0_t1.sl.r_94 (F := F) I.a3 I.x3 k = lanes (I.at k 2) 1 := by
  have e : trip_k0_t1.sl.r_94 (F := F) I.a3 I.x3 k = (k0_pay121 (k0_pay114 (I.at k 2).gb)) := rfl
  rw [e]
  generalize (I.at k 2) = A
  rfl

theorem w99 : trip_k0_t1.sl.r_99 (F := F) I.a3 M.same M.after I.x3 k = left (I.at k 2) M := by
  have e : trip_k0_t1.sl.r_99 (F := F) I.a3 M.same M.after I.x3 k = (k0_pay126 (trip_k0_t1.sl.r_94 (F := F) I.a3 I.x3 k) (k0_pay123 (k0_pay1 M.same M.after)) (k0_pay124 (k0_pay114 (I.at k 2).gb)) (k0_pay125 (k0_pay114 (I.at k 2).gb))) := rfl
  rw [e, w94 I M k]
  generalize (I.at k 2) = A
  rfl

theorem w102 : trip_k0_t1.sl.r_102 (F := F) I.a1 I.x1 k = stream (I.at k 2) 1 := by
  have e : trip_k0_t1.sl.r_102 (F := F) I.a1 I.x1 k = (k0_pay129 (k0_pay113 (I.at k 2).cs)) := rfl
  rw [e]
  generalize (I.at k 2) = A
  rfl

theorem w142 : trip_k0_t1.sl.r_142 (F := F) I.a1 I.a3 M.same M.after I.x1 I.x3 k = kd (I.at k 2) M := by
  have e : trip_k0_t1.sl.r_142 (F := F) I.a1 I.a3 M.same M.after I.x1 I.x3 k = (k0_pay183 (trip_k0_t1.sl.r_99 (F := F) I.a3 M.same M.after I.x3 k) (trip_k0_t1.sl.r_102 (F := F) I.a1 I.x1 k)) := rfl
  rw [e, w99 I M k, w102 I M k]
  generalize (I.at k 2) = A
  rfl

theorem w93 : trip_k0_t1.sl.r_93 (F := F) I.a3 I.x3 k = lanes (I.at k 2) 0 := by
  have e : trip_k0_t1.sl.r_93 (F := F) I.a3 I.x3 k = (k0_pay120 (k0_pay114 (I.at k 2).gb) (k0_pay115 (I.at k 2).gb) (k0_pay116 (I.at k 2).gb) (k0_pay117 (I.at k 2).gb) (k0_pay118 (I.at k 2).gb) (k0_pay119 (I.at k 2).gb)) := rfl
  rw [e]
  generalize (I.at k 2) = A
  rfl

theorem w103 : trip_k0_t1.sl.r_103 (F := F) I.a1 I.x1 k = stream (I.at k 2) 2 := by
  have e : trip_k0_t1.sl.r_103 (F := F) I.a1 I.x1 k = (k0_pay130 (k0_pay113 (I.at k 2).cs)) := rfl
  rw [e]
  generalize (I.at k 2) = A
  rfl

theorem w140 : trip_k0_t1.sl.r_140 (F := F) I.a1 I.a3 M.tri I.x1 I.x3 k = rhs (I.at k 2) M := by
  have e : trip_k0_t1.sl.r_140 (F := F) I.a1 I.a3 M.tri I.x1 I.x3 k = (k0_pay181 (trip_k0_t1.sl.r_93 (F := F) I.a3 I.x3 k) (trip_k0_t1.sl.r_95 (F := F) I.a3 M.tri I.x3 k) (trip_k0_t1.sl.r_102 (F := F) I.a1 I.x1 k) (trip_k0_t1.sl.r_103 (F := F) I.a1 I.x1 k)) := rfl
  rw [e, w93 I M k, w95 I M k, w102 I M k, w103 I M k]
  generalize (I.at k 2) = A
  rfl

theorem w137 : trip_k0_t1.sl.r_137 (F := F) I.a3 M.tri I.x3 k = decay (I.at k 2) M := by
  have e : trip_k0_t1.sl.r_137 (F := F) I.a3 M.tri I.x3 k = (k0_pay176 M.tri (trip_k0_t1.sl.r_95 (F := F) I.a3 M.tri I.x3 k) (k0_pay131 (trip_k0_t1.sl.r_95 (F := F) I.a3 M.tri I.x3 k))) := rfl
  rw [e, w95 I M k]
  generalize (I.at k 2) = A
  rfl

theorem w101 : trip_k0_t1.sl.r_101 (F := F) I.a1 I.x1 k = stream (I.at k 2) 0 := by
  have e : trip_k0_t1.sl.r_101 (F := F) I.a1 I.x1 k = (k0_pay128 (k0_pay113 (I.at k 2).cs)) := rfl
  rw [e]
  generalize (I.at k 2) = A
  rfl

theorem w163 : trip_k0_t1.sl.r_163 (F := F) I.a1 I.a3 M.i M.j M.l0 M.tri M.strict I.x1 I.x3 k = inv0 M (sys (I.at k 2) M) := by
  have e : trip_k0_t1.sl.r_163 (F := F) I.a1 I.a3 M.i M.j M.l0 M.tri M.strict I.x1 I.x3 k = (k0_pay208 M.l0 M.strict (k0_pay2 M.i M.j) (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k)))) := rfl
  rw [e, w137 I M k, w93 I M k, w101 I M k, w102 I M k]
  generalize (I.at k 2) = A
  rfl

theorem w175 : trip_k0_t1.sl.r_175 (F := F) I.a1 I.a3 M.i M.j M.l0 M.l1 M.tri M.strict I.x1 I.x3 k = level M.l1 (sys (I.at k 2) M) (inv0 M (sys (I.at k 2) M)) := by
  have e : trip_k0_t1.sl.r_175 (F := F) I.a1 I.a3 M.i M.j M.l0 M.l1 M.tri M.strict I.x1 I.x3 k = (k0_pay220 (trip_k0_t1.sl.r_163 (F := F) I.a1 I.a3 M.i M.j M.l0 M.tri M.strict I.x1 I.x3 k) (k0_pay212 M.l0 M.strict (k0_pay2 M.i M.j) (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k)))) (k0_pay215 M.l1 M.strict (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k))))) := rfl
  rw [e, w163 I M k, w137 I M k, w93 I M k, w101 I M k, w102 I M k]
  generalize (I.at k 2) = A
  rfl

theorem w155 : trip_k0_t1.sl.r_155 (F := F) I.a1 I.a3 M.tri M.strict I.x1 I.x3 k = sys (I.at k 2) M := by
  have e : trip_k0_t1.sl.r_155 (F := F) I.a1 I.a3 M.tri M.strict I.x1 I.x3 k = (k0_pay200 M.strict (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k)))) := rfl
  rw [e, w137 I M k, w93 I M k, w101 I M k, w102 I M k]
  generalize (I.at k 2) = A
  rfl

theorem w186 : trip_k0_t1.sl.r_186 (F := F) I.a1 I.a3 M.i M.j M.l0 M.l1 M.l2 M.tri M.strict I.x1 I.x3 k = extractStridedSlice S64x128 ![0, 0] (sol (I.at k 2) M) slices_S64x256_o0_0_S64x128 := by
  have e : trip_k0_t1.sl.r_186 (F := F) I.a1 I.a3 M.i M.j M.l0 M.l1 M.l2 M.tri M.strict I.x1 I.x3 k = (k0_pay235 (trip_k0_t1.sl.r_140 (F := F) I.a1 I.a3 M.tri I.x1 I.x3 k) (trip_k0_t1.sl.r_175 (F := F) I.a1 I.a3 M.i M.j M.l0 M.l1 M.tri M.strict I.x1 I.x3 k) (k0_pay226 M.l2 (trip_k0_t1.sl.r_155 (F := F) I.a1 I.a3 M.tri M.strict I.x1 I.x3 k) (trip_k0_t1.sl.r_163 (F := F) I.a1 I.a3 M.i M.j M.l0 M.tri M.strict I.x1 I.x3 k) (k0_pay212 M.l0 M.strict (k0_pay2 M.i M.j) (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k)))) (k0_pay215 M.l1 M.strict (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k)))))) := rfl
  rw [e, w140 I M k, w175 I M k, w155 I M k, w163 I M k, w137 I M k, w93 I M k, w101 I M k, w102 I M k]
  generalize (I.at k 2) = A
  rfl

theorem w141 : trip_k0_t1.sl.r_141 (F := F) I.a1 I.a3 M.tri I.x1 I.x3 k = qg (I.at k 2) M := by
  have e : trip_k0_t1.sl.r_141 (F := F) I.a1 I.a3 M.tri I.x1 I.x3 k = (k0_pay182 (trip_k0_t1.sl.r_95 (F := F) I.a3 M.tri I.x3 k) (trip_k0_t1.sl.r_101 (F := F) I.a1 I.x1 k)) := rfl
  rw [e, w95 I M k, w101 I M k]
  generalize (I.at k 2) = A
  rfl

theorem w187 : trip_k0_t1.sl.r_187 (F := F) I.a1 I.a3 M.i M.j M.l0 M.l1 M.l2 M.tri M.strict I.x1 I.x3 k = solW (I.at k 2) M := by
  have e : trip_k0_t1.sl.r_187 (F := F) I.a1 I.a3 M.i M.j M.l0 M.l1 M.l2 M.tri M.strict I.x1 I.x3 k = (k0_pay236 (trip_k0_t1.sl.r_140 (F := F) I.a1 I.a3 M.tri I.x1 I.x3 k) (trip_k0_t1.sl.r_175 (F := F) I.a1 I.a3 M.i M.j M.l0 M.l1 M.tri M.strict I.x1 I.x3 k) (k0_pay226 M.l2 (trip_k0_t1.sl.r_155 (F := F) I.a1 I.a3 M.tri M.strict I.x1 I.x3 k) (trip_k0_t1.sl.r_163 (F := F) I.a1 I.a3 M.i M.j M.l0 M.tri M.strict I.x1 I.x3 k) (k0_pay212 M.l0 M.strict (k0_pay2 M.i M.j) (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k)))) (k0_pay215 M.l1 M.strict (trip_k0_t1.sl.r_137 (F := F) I.a3 M.tri I.x3 k) (k0_pay199 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k)))))) := rfl
  rw [e, w140 I M k, w175 I M k, w155 I M k, w163 I M k, w137 I M k, w93 I M k, w101 I M k, w102 I M k]
  generalize (I.at k 2) = A
  rfl

theorem w209 : trip_k0_t1.sl.r_209 (F := F) I.a1 I.a3 I.a5 M.i M.j M.l0 M.l1 M.l2 M.tri M.strict I.x1 I.x3 I.x5 k = both (I.at k 2) M 0 := by
  have e : trip_k0_t1.sl.r_209 (F := F) I.a1 I.a3 I.a5 M.i M.j M.l0 M.l1 M.l2 M.tri M.strict I.x1 I.x3 I.x5 k = (k0_pay258 (k0_pay257 (trip_k0_t1.sl.r_141 (F := F) I.a1 I.a3 M.tri I.x1 I.x3 k) (trip_k0_t1.sl.r_187 (F := F) I.a1 I.a3 M.i M.j M.l0 M.l1 M.l2 M.tri M.strict I.x1 I.x3 k)) ((I.at k 2).s0 0)) := rfl
  rw [e, w141 I M k, w187 I M k]
  generalize (I.at k 2) = A
  rfl

theorem w210 : trip_k0_t1.sl.r_210 (F := F) I.a1 I.a3 I.a5 M.i M.j M.l0 M.l1 M.l2 M.tri M.strict I.x1 I.x3 I.x5 k = both (I.at k 2) M 1 := by
  have e : trip_k0_t1.sl.r_210 (F := F) I.a1 I.a3 I.a5 M.i M.j M.l0 M.l1 M.l2 M.tri M.strict I.x1 I.x3 I.x5 k = (k0_pay259 (trip_k0_t1.sl.r_141 (F := F) I.a1 I.a3 M.tri I.x1 I.x3 k) (trip_k0_t1.sl.r_187 (F := F) I.a1 I.a3 M.i M.j M.l0 M.l1 M.l2 M.tri M.strict I.x1 I.x3 k) ((I.at k 2).s0 1)) := rfl
  rw [e, w141 I M k, w187 I M k]
  generalize (I.at k 2) = A
  rfl

theorem w211 : trip_k0_t1.sl.r_211 (F := F) I.a1 I.a3 I.a5 M.i M.j M.l0 M.l1 M.l2 M.tri M.strict I.x1 I.x3 I.x5 k = both (I.at k 2) M 2 := by
  have e : trip_k0_t1.sl.r_211 (F := F) I.a1 I.a3 I.a5 M.i M.j M.l0 M.l1 M.l2 M.tri M.strict I.x1 I.x3 I.x5 k = (k0_pay260 (trip_k0_t1.sl.r_141 (F := F) I.a1 I.a3 M.tri I.x1 I.x3 k) (trip_k0_t1.sl.r_187 (F := F) I.a1 I.a3 M.i M.j M.l0 M.l1 M.l2 M.tri M.strict I.x1 I.x3 k) ((I.at k 2).s0 2)) := rfl
  rw [e, w141 I M k, w187 I M k]
  generalize (I.at k 2) = A
  rfl

theorem w212 : trip_k0_t1.sl.r_212 (F := F) I.a1 I.a3 I.a5 M.i M.j M.l0 M.l1 M.l2 M.tri M.strict I.x1 I.x3 I.x5 k = both (I.at k 2) M 3 := by
  have e : trip_k0_t1.sl.r_212 (F := F) I.a1 I.a3 I.a5 M.i M.j M.l0 M.l1 M.l2 M.tri M.strict I.x1 I.x3 I.x5 k = (k0_pay261 (trip_k0_t1.sl.r_141 (F := F) I.a1 I.a3 M.tri I.x1 I.x3 k) (trip_k0_t1.sl.r_187 (F := F) I.a1 I.a3 M.i M.j M.l0 M.l1 M.l2 M.tri M.strict I.x1 I.x3 k) ((I.at k 2).s0 3)) := rfl
  rw [e, w141 I M k, w187 I M k]
  generalize (I.at k 2) = A
  rfl

theorem w215 : trip_k0_t1.sl.r_215 (F := F) I.a1 I.a3 I.a5 M.i M.j M.l0 M.l1 M.l2 M.tri M.strict I.x1 I.x3 I.x5 k = both (I.at k 2) M 4 := by
  have e : trip_k0_t1.sl.r_215 (F := F) I.a1 I.a3 I.a5 M.i M.j M.l0 M.l1 M.l2 M.tri M.strict I.x1 I.x3 I.x5 k = (k0_pay264 (k0_pay262 (trip_k0_t1.sl.r_141 (F := F) I.a1 I.a3 M.tri I.x1 I.x3 k) (trip_k0_t1.sl.r_187 (F := F) I.a1 I.a3 M.i M.j M.l0 M.l1 M.l2 M.tri M.strict I.x1 I.x3 k)) (k0_pay263 ((I.at k 2).s0 4))) := rfl
  rw [e, w141 I M k, w187 I M k]
  generalize (I.at k 2) = A
  rfl

theorem w216 : trip_k0_t1.sl.r_216 (F := F) I.a1 I.a3 I.a5 M.i M.j M.l0 M.l1 M.l2 M.tri M.strict I.x1 I.x3 I.x5 k = both (I.at k 2) M 5 := by
  have e : trip_k0_t1.sl.r_216 (F := F) I.a1 I.a3 I.a5 M.i M.j M.l0 M.l1 M.l2 M.tri M.strict I.x1 I.x3 I.x5 k = (k0_pay265 (trip_k0_t1.sl.r_141 (F := F) I.a1 I.a3 M.tri I.x1 I.x3 k) (trip_k0_t1.sl.r_187 (F := F) I.a1 I.a3 M.i M.j M.l0 M.l1 M.l2 M.tri M.strict I.x1 I.x3 k) ((I.at k 2).s0 5)) := rfl
  rw [e, w141 I M k, w187 I M k]
  generalize (I.at k 2) = A
  rfl

theorem w217 : trip_k0_t1.sl.r_217 (F := F) I.a1 I.a3 I.a5 M.i M.j M.l0 M.l1 M.l2 M.tri M.strict I.x1 I.x3 I.x5 k = both (I.at k 2) M 6 := by
  have e : trip_k0_t1.sl.r_217 (F := F) I.a1 I.a3 I.a5 M.i M.j M.l0 M.l1 M.l2 M.tri M.strict I.x1 I.x3 I.x5 k = (k0_pay266 (trip_k0_t1.sl.r_141 (F := F) I.a1 I.a3 M.tri I.x1 I.x3 k) (trip_k0_t1.sl.r_187 (F := F) I.a1 I.a3 M.i M.j M.l0 M.l1 M.l2 M.tri M.strict I.x1 I.x3 k) ((I.at k 2).s0 6)) := rfl
  rw [e, w141 I M k, w187 I M k]
  generalize (I.at k 2) = A
  rfl

theorem w218 : trip_k0_t1.sl.r_218 (F := F) I.a1 I.a3 I.a5 M.i M.j M.l0 M.l1 M.l2 M.tri M.strict I.x1 I.x3 I.x5 k = both (I.at k 2) M 7 := by
  have e : trip_k0_t1.sl.r_218 (F := F) I.a1 I.a3 I.a5 M.i M.j M.l0 M.l1 M.l2 M.tri M.strict I.x1 I.x3 I.x5 k = (k0_pay267 (trip_k0_t1.sl.r_141 (F := F) I.a1 I.a3 M.tri I.x1 I.x3 k) (trip_k0_t1.sl.r_187 (F := F) I.a1 I.a3 M.i M.j M.l0 M.l1 M.l2 M.tri M.strict I.x1 I.x3 k) ((I.at k 2).s0 7)) := rfl
  rw [e, w141 I M k, w187 I M k]
  generalize (I.at k 2) = A
  rfl

theorem w231 : trip_k0_t1.sl.r_231 (F := F) I.a1 I.a3 I.a5 M.i M.j M.l0 M.l1 M.l2 M.tri M.strict I.x1 I.x3 I.x5 k = vnew (I.at k 2) M := by
  have e : trip_k0_t1.sl.r_231 (F := F) I.a1 I.a3 I.a5 M.i M.j M.l0 M.l1 M.l2 M.tri M.strict I.x1 I.x3 I.x5 k = (k0_pay280 (trip_k0_t1.sl.r_186 (F := F) I.a1 I.a3 M.i M.j M.l0 M.l1 M.l2 M.tri M.strict I.x1 I.x3 k) (trip_k0_t1.sl.r_209 (F := F) I.a1 I.a3 I.a5 M.i M.j M.l0 M.l1 M.l2 M.tri M.strict I.x1 I.x3 I.x5 k) (trip_k0_t1.sl.r_210 (F := F) I.a1 I.a3 I.a5 M.i M.j M.l0 M.l1 M.l2 M.tri M.strict I.x1 I.x3 I.x5 k) (trip_k0_t1.sl.r_211 (F := F) I.a1 I.a3 I.a5 M.i M.j M.l0 M.l1 M.l2 M.tri M.strict I.x1 I.x3 I.x5 k) (trip_k0_t1.sl.r_212 (F := F) I.a1 I.a3 I.a5 M.i M.j M.l0 M.l1 M.l2 M.tri M.strict I.x1 I.x3 I.x5 k) (trip_k0_t1.sl.r_215 (F := F) I.a1 I.a3 I.a5 M.i M.j M.l0 M.l1 M.l2 M.tri M.strict I.x1 I.x3 I.x5 k) (trip_k0_t1.sl.r_216 (F := F) I.a1 I.a3 I.a5 M.i M.j M.l0 M.l1 M.l2 M.tri M.strict I.x1 I.x3 I.x5 k) (trip_k0_t1.sl.r_217 (F := F) I.a1 I.a3 I.a5 M.i M.j M.l0 M.l1 M.l2 M.tri M.strict I.x1 I.x3 I.x5 k) (trip_k0_t1.sl.r_218 (F := F) I.a1 I.a3 I.a5 M.i M.j M.l0 M.l1 M.l2 M.tri M.strict I.x1 I.x3 I.x5 k)) := rfl
  rw [e, w186 I M k, w209 I M k, w210 I M k, w211 I M k, w212 I M k, w215 I M k, w216 I M k, w217 I M k, w218 I M k]
  generalize (I.at k 2) = A
  rfl

theorem w257 : trip_k0_t1.sl.r_257 (F := F) I.a1 I.a3 I.a5 M.i M.j M.same M.l0 M.l1 M.l2 M.tri M.strict M.after I.x1 I.x3 I.x5 k = matmul dot_S8x128_S8x128_S128x128_0_0_1_1_n_n none (headRows (kd (I.at k 2) M) 0) (headRows (vnew (I.at k 2) M) 0) (constant S128x128 .f32 0x00000000#32) := by
  have e : trip_k0_t1.sl.r_257 (F := F) I.a1 I.a3 I.a5 M.i M.j M.same M.l0 M.l1 M.l2 M.tri M.strict M.after I.x1 I.x3 I.x5 k = (k0_pay306 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w258 : trip_k0_t1.sl.r_258 (F := F) I.a1 I.a3 I.a5 M.i M.j M.same M.l0 M.l1 M.l2 M.tri M.strict M.after I.x1 I.x3 I.x5 k = matmul dot_S8x128_S8x128_S128x128_0_0_1_1_n_n none (headRows (kd (I.at k 2) M) 1) (headRows (vnew (I.at k 2) M) 1) (constant S128x128 .f32 0x00000000#32) := by
  have e : trip_k0_t1.sl.r_258 (F := F) I.a1 I.a3 I.a5 M.i M.j M.same M.l0 M.l1 M.l2 M.tri M.strict M.after I.x1 I.x3 I.x5 k = (k0_pay307 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w259 : trip_k0_t1.sl.r_259 (F := F) I.a1 I.a3 I.a5 M.i M.j M.same M.l0 M.l1 M.l2 M.tri M.strict M.after I.x1 I.x3 I.x5 k = matmul dot_S8x128_S8x128_S128x128_0_0_1_1_n_n none (headRows (kd (I.at k 2) M) 2) (headRows (vnew (I.at k 2) M) 2) (constant S128x128 .f32 0x00000000#32) := by
  have e : trip_k0_t1.sl.r_259 (F := F) I.a1 I.a3 I.a5 M.i M.j M.same M.l0 M.l1 M.l2 M.tri M.strict M.after I.x1 I.x3 I.x5 k = (k0_pay308 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w260 : trip_k0_t1.sl.r_260 (F := F) I.a1 I.a3 I.a5 M.i M.j M.same M.l0 M.l1 M.l2 M.tri M.strict M.after I.x1 I.x3 I.x5 k = matmul dot_S8x128_S8x128_S128x128_0_0_1_1_n_n none (headRows (kd (I.at k 2) M) 3) (headRows (vnew (I.at k 2) M) 3) (constant S128x128 .f32 0x00000000#32) := by
  have e : trip_k0_t1.sl.r_260 (F := F) I.a1 I.a3 I.a5 M.i M.j M.same M.l0 M.l1 M.l2 M.tri M.strict M.after I.x1 I.x3 I.x5 k = (k0_pay309 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w261 : trip_k0_t1.sl.r_261 (F := F) I.a1 I.a3 I.a5 M.i M.j M.same M.l0 M.l1 M.l2 M.tri M.strict M.after I.x1 I.x3 I.x5 k = matmul dot_S8x128_S8x128_S128x128_0_0_1_1_n_n none (headRows (kd (I.at k 2) M) 4) (headRows (vnew (I.at k 2) M) 4) (constant S128x128 .f32 0x00000000#32) := by
  have e : trip_k0_t1.sl.r_261 (F := F) I.a1 I.a3 I.a5 M.i M.j M.same M.l0 M.l1 M.l2 M.tri M.strict M.after I.x1 I.x3 I.x5 k = (k0_pay310 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w262 : trip_k0_t1.sl.r_262 (F := F) I.a1 I.a3 I.a5 M.i M.j M.same M.l0 M.l1 M.l2 M.tri M.strict M.after I.x1 I.x3 I.x5 k = matmul dot_S8x128_S8x128_S128x128_0_0_1_1_n_n none (headRows (kd (I.at k 2) M) 5) (headRows (vnew (I.at k 2) M) 5) (constant S128x128 .f32 0x00000000#32) := by
  have e : trip_k0_t1.sl.r_262 (F := F) I.a1 I.a3 I.a5 M.i M.j M.same M.l0 M.l1 M.l2 M.tri M.strict M.after I.x1 I.x3 I.x5 k = (k0_pay311 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w263 : trip_k0_t1.sl.r_263 (F := F) I.a1 I.a3 I.a5 M.i M.j M.same M.l0 M.l1 M.l2 M.tri M.strict M.after I.x1 I.x3 I.x5 k = matmul dot_S8x128_S8x128_S128x128_0_0_1_1_n_n none (headRows (kd (I.at k 2) M) 6) (headRows (vnew (I.at k 2) M) 6) (constant S128x128 .f32 0x00000000#32) := by
  have e : trip_k0_t1.sl.r_263 (F := F) I.a1 I.a3 I.a5 M.i M.j M.same M.l0 M.l1 M.l2 M.tri M.strict M.after I.x1 I.x3 I.x5 k = (k0_pay312 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w264 : trip_k0_t1.sl.r_264 (F := F) I.a1 I.a3 I.a5 M.i M.j M.same M.l0 M.l1 M.l2 M.tri M.strict M.after I.x1 I.x3 I.x5 k = matmul dot_S8x128_S8x128_S128x128_0_0_1_1_n_n none (headRows (kd (I.at k 2) M) 7) (headRows (vnew (I.at k 2) M) 7) (constant S128x128 .f32 0x00000000#32) := by
  have e : trip_k0_t1.sl.r_264 (F := F) I.a1 I.a3 I.a5 M.i M.j M.same M.l0 M.l1 M.l2 M.tri M.strict M.after I.x1 I.x3 I.x5 k = (k0_pay313 (trip_k0_t1.sl.r_142 (F := F) I.a1 I.a3 M.same M.after I.x1 I.x3 k) (trip_k0_t1.sl.r_231 (F := F) I.a1 I.a3 I.a5 M.i M.j M.l0 M.l1 M.l2 M.tri M.strict I.x1 I.x3 I.x5 k)) := rfl
  rw [e, w142 I M k, w231 I M k]
  generalize (I.at k 2) = A
  rfl

theorem w150 : trip_k0_t1.sl.r_150 (F := F) I.a1 I.a3 I.x1 I.x3 k = products (I.at k 2) := by
  have e : trip_k0_t1.sl.r_150 (F := F) I.a1 I.a3 I.x1 I.x3 k = (k0_pay195 (k0_pay179 (trip_k0_t1.sl.r_93 (F := F) I.a3 I.x3 k) (trip_k0_t1.sl.r_101 (F := F) I.a1 I.x1 k) (trip_k0_t1.sl.r_102 (F := F) I.a1 I.x1 k)) (k0_pay180 (trip_k0_t1.sl.r_102 (F := F) I.a1 I.x1 k))) := rfl
  rw [e, w93 I M k, w101 I M k, w102 I M k]
  generalize (I.at k 2) = A
  rfl

theorem w159 : trip_k0_t1.sl.r_159 (F := F) I.a1 I.a3 M.tri I.x1 I.x3 k = qk (I.at k 2) M := by
  have e : trip_k0_t1.sl.r_159 (F := F) I.a1 I.a3 M.tri I.x1 I.x3 k = (k0_pay204 (trip_k0_t1.sl.r_137 (F := F) I.a3 M.tri I.x3 k) (trip_k0_t1.sl.r_150 (F := F) I.a1 I.a3 I.x1 I.x3 k)) := rfl
  rw [e, w137 I M k, w150 I M k]
  generalize (I.at k 2) = A
  rfl

theorem w237 : trip_k0_t1.sl.r_237 (F := F) I.a1 I.a3 I.a5 M.i M.j M.l0 M.l1 M.l2 M.tri M.strict I.x1 I.x3 I.x5 k = matmul dot_S64x64_S64x128_S64x128_1_0_0_1_n_n none (qk (I.at k 2) M) (vnew (I.at k 2) M) (constant S64x128 .f32 0x00000000#32) := by
  have e : trip_k0_t1.sl.r_237 (F := F) I.a1 I.a3 I.a5 M.i M.j M.l0 M.l1 M.l2 M.tri M.strict I.x1 I.x3 I.x5 k = (k0_pay286 (trip_k0_t1.sl.r_159 (F := F) I.a1 I.a3 M.tri I.x1 I.x3 k) (trip_k0_t1.sl.r_231 (F := F) I.a1 I.a3 I.a5 M.i M.j M.l0 M.l1 M.l2 M.tri M.strict I.x1 I.x3 I.x5 k)) := rfl
  rw [e, w159 I M k, w231 I M k]
  generalize (I.at k 2) = A
  rfl

theorem w352 : trip_k0_t1.sl.r_352 (F := F) I.a2 I.x2 k = gate (I.at k 2) 1 := by
  have e : trip_k0_t1.sl.r_352 (F := F) I.a2 I.x2 k = (k0_pay470 (k0_pay465 (I.at k 2).z)) := rfl
  rw [e]
  generalize (I.at k 2) = A
  rfl

theorem w355 : trip_k0_t1.sl.r_355 (F := F) I.a2 I.x2 k = gate (I.at k 2) 2 := by
  have e : trip_k0_t1.sl.r_355 (F := F) I.a2 I.x2 k = (k0_pay475 (k0_pay465 (I.at k 2).z)) := rfl
  rw [e]
  generalize (I.at k 2) = A
  rfl

theorem w358 : trip_k0_t1.sl.r_358 (F := F) I.a2 I.x2 k = gate (I.at k 2) 3 := by
  have e : trip_k0_t1.sl.r_358 (F := F) I.a2 I.x2 k = (k0_pay480 (k0_pay465 (I.at k 2).z)) := rfl
  rw [e]
  generalize (I.at k 2) = A
  rfl

theorem w361 : trip_k0_t1.sl.r_361 (F := F) I.a2 I.x2 k = gate (I.at k 2) 4 := by
  have e : trip_k0_t1.sl.r_361 (F := F) I.a2 I.x2 k = (k0_pay485 (k0_pay465 (I.at k 2).z)) := rfl
  rw [e]
  generalize (I.at k 2) = A
  rfl

theorem w363 : trip_k0_t1.sl.r_363 (F := F) I.a2 I.x2 k = gate (I.at k 2) 5 := by
  have e : trip_k0_t1.sl.r_363 (F := F) I.a2 I.x2 k = (k0_pay489 (k0_pay465 (I.at k 2).z)) := rfl
  rw [e]
  generalize (I.at k 2) = A
  rfl

theorem w365 : trip_k0_t1.sl.r_365 (F := F) I.a1 I.a3 I.a5 M.i M.j M.l0 M.l1 M.l2 M.tri M.strict I.x1 I.x3 I.x5 k = rms (mixed (I.at k 2) M 5) := by
  have e : trip_k0_t1.sl.r_365 (F := F) I.a1 I.a3 I.a5 M.i M.j M.l0 M.l1 M.l2 M.tri M.strict I.x1 I.x3 I.x5 k = (k0_pay491 (trip_k0_t1.sl.r_216 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k)) := rfl
  rw [e, w216 I M k, w237 I M k]
  generalize (I.at k 2) = A
  rfl

theorem w366 : trip_k0_t1.sl.r_366 (F := F) I.a1 I.a3 I.a5 M.i M.j M.l0 M.l1 M.l2 M.tri M.strict I.x1 I.x3 I.x5 k = mixed (I.at k 2) M 6 := by
  have e : trip_k0_t1.sl.r_366 (F := F) I.a1 I.a3 I.a5 M.i M.j M.l0 M.l1 M.l2 M.tri M.strict I.x1 I.x3 I.x5 k = (k0_pay494 (trip_k0_t1.sl.r_217 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k)) := rfl
  rw [e, w217 I M k, w237 I M k]
  generalize (I.at k 2) = A
  rfl

theorem w367 : trip_k0_t1.sl.r_367 (F := F) I.a2 I.x2 k = gate (I.at k 2) 6 := by
  have e : trip_k0_t1.sl.r_367 (F := F) I.a2 I.x2 k = (k0_pay495 (k0_pay465 (I.at k 2).z)) := rfl
  rw [e]
  generalize (I.at k 2) = A
  rfl

theorem w370 : trip_k0_t1.sl.r_370 (F := F) I.a1 I.a3 I.a5 M.i M.j M.l0 M.l1 M.l2 M.tri M.strict I.x1 I.x3 I.x5 k = mixed (I.at k 2) M 7 := by
  have e : trip_k0_t1.sl.r_370 (F := F) I.a1 I.a3 I.a5 M.i M.j M.l0 M.l1 M.l2 M.tri M.strict I.x1 I.x3 I.x5 k = (k0_pay500 (trip_k0_t1.sl.r_218 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k)) := rfl
  rw [e, w218 I M k, w237 I M k]
  generalize (I.at k 2) = A
  rfl

theorem w371 : trip_k0_t1.sl.r_371 (F := F) I.a2 I.x2 k = gate (I.at k 2) 7 := by
  have e : trip_k0_t1.sl.r_371 (F := F) I.a2 I.x2 k = (k0_pay501 (k0_pay465 (I.at k 2).z)) := rfl
  rw [e]
  generalize (I.at k 2) = A
  rfl

theorem s20 : (k0_pay466 (trip_k0_t1.sl.r_100 (F := F) I.a3 M.tri I.x3 k) (trip_k0_t1.sl.r_257 (F := F) I.a1 I.a3 I.a5 M.i M.j M.same M.l0 M.l1 M.l2 M.tri M.strict M.after I.x1 I.x3 I.x5 k) ((I.at k 2).s0 0)) = stateOut (I.at k 2) M 0 := by
  rw [w100 I M k, w257 I M k]
  generalize (I.at k 2) = A
  rfl

theorem s21 : (k0_pay469 (trip_k0_t1.sl.r_100 (F := F) I.a3 M.tri I.x3 k) (trip_k0_t1.sl.r_258 (F := F) I.a1 I.a3 I.a5 M.i M.j M.same M.l0 M.l1 M.l2 M.tri M.strict M.after I.x1 I.x3 I.x5 k) ((I.at k 2).s0 1)) = stateOut (I.at k 2) M 1 := by
  rw [w100 I M k, w258 I M k]
  generalize (I.at k 2) = A
  rfl

theorem s22 : (k0_pay474 (trip_k0_t1.sl.r_100 (F := F) I.a3 M.tri I.x3 k) (trip_k0_t1.sl.r_259 (F := F) I.a1 I.a3 I.a5 M.i M.j M.same M.l0 M.l1 M.l2 M.tri M.strict M.after I.x1 I.x3 I.x5 k) ((I.at k 2).s0 2)) = stateOut (I.at k 2) M 2 := by
  rw [w100 I M k, w259 I M k]
  generalize (I.at k 2) = A
  rfl

theorem s23 : (k0_pay479 (trip_k0_t1.sl.r_100 (F := F) I.a3 M.tri I.x3 k) (trip_k0_t1.sl.r_260 (F := F) I.a1 I.a3 I.a5 M.i M.j M.same M.l0 M.l1 M.l2 M.tri M.strict M.after I.x1 I.x3 I.x5 k) ((I.at k 2).s0 3)) = stateOut (I.at k 2) M 3 := by
  rw [w100 I M k, w260 I M k]
  generalize (I.at k 2) = A
  rfl

theorem s24 : (k0_pay484 (trip_k0_t1.sl.r_100 (F := F) I.a3 M.tri I.x3 k) (trip_k0_t1.sl.r_261 (F := F) I.a1 I.a3 I.a5 M.i M.j M.same M.l0 M.l1 M.l2 M.tri M.strict M.after I.x1 I.x3 I.x5 k) ((I.at k 2).s0 4)) = stateOut (I.at k 2) M 4 := by
  rw [w100 I M k, w261 I M k]
  generalize (I.at k 2) = A
  rfl

theorem s25 : (k0_pay488 (trip_k0_t1.sl.r_100 (F := F) I.a3 M.tri I.x3 k) (trip_k0_t1.sl.r_262 (F := F) I.a1 I.a3 I.a5 M.i M.j M.same M.l0 M.l1 M.l2 M.tri M.strict M.after I.x1 I.x3 I.x5 k) ((I.at k 2).s0 5)) = stateOut (I.at k 2) M 5 := by
  rw [w100 I M k, w262 I M k]
  generalize (I.at k 2) = A
  rfl

theorem s26 : (k0_pay493 (trip_k0_t1.sl.r_100 (F := F) I.a3 M.tri I.x3 k) (trip_k0_t1.sl.r_263 (F := F) I.a1 I.a3 I.a5 M.i M.j M.same M.l0 M.l1 M.l2 M.tri M.strict M.after I.x1 I.x3 I.x5 k) ((I.at k 2).s0 6)) = stateOut (I.at k 2) M 6 := by
  rw [w100 I M k, w263 I M k]
  generalize (I.at k 2) = A
  rfl

theorem s27 : (k0_pay499 (trip_k0_t1.sl.r_100 (F := F) I.a3 M.tri I.x3 k) (trip_k0_t1.sl.r_264 (F := F) I.a1 I.a3 I.a5 M.i M.j M.same M.l0 M.l1 M.l2 M.tri M.strict M.after I.x1 I.x3 I.x5 k) ((I.at k 2).s0 7)) = stateOut (I.at k 2) M 7 := by
  rw [w100 I M k, w264 I M k]
  generalize (I.at k 2) = A
  rfl

theorem o20 : (k0_pay468 (k0_pay467 (trip_k0_t1.sl.r_209 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).z (I.at k 2).wn)) = mixOut (I.at k 2) M 0 := by
  rw [w209 I M k, w237 I M k]
  generalize (I.at k 2) = A
  rfl

theorem o21 : (k0_pay473 (trip_k0_t1.sl.r_352 (F := F) I.a2 I.x2 k) (k0_pay471 (trip_k0_t1.sl.r_210 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (k0_pay472 (k0_pay465 (I.at k 2).z))) = mixOut (I.at k 2) M 1 := by
  rw [w352 I M k, w210 I M k, w237 I M k]
  generalize (I.at k 2) = A
  rfl

theorem o22 : (k0_pay478 (trip_k0_t1.sl.r_355 (F := F) I.a2 I.x2 k) (k0_pay476 (trip_k0_t1.sl.r_211 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (k0_pay477 (k0_pay465 (I.at k 2).z))) = mixOut (I.at k 2) M 2 := by
  rw [w355 I M k, w211 I M k, w237 I M k]
  generalize (I.at k 2) = A
  rfl

theorem o23 : (k0_pay483 (trip_k0_t1.sl.r_358 (F := F) I.a2 I.x2 k) (k0_pay481 (trip_k0_t1.sl.r_212 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (k0_pay482 (k0_pay465 (I.at k 2).z))) = mixOut (I.at k 2) M 3 := by
  rw [w358 I M k, w212 I M k, w237 I M k]
  generalize (I.at k 2) = A
  rfl

theorem o24 : (k0_pay487 (trip_k0_t1.sl.r_361 (F := F) I.a2 I.x2 k) (k0_pay486 (trip_k0_t1.sl.r_215 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (trip_k0_t1.sl.cst_76 (F := F) )) = mixOut (I.at k 2) M 4 := by
  rw [w361 I M k, w215 I M k, w237 I M k]
  generalize (I.at k 2) = A
  rfl

theorem o25 : (k0_pay492 (trip_k0_t1.sl.r_363 (F := F) I.a2 I.x2 k) (k0_pay490 (I.at k 2).wn) (trip_k0_t1.sl.r_365 (F := F) I.a1 I.a3 I.a5 M.i M.j M.l0 M.l1 M.l2 M.tri M.strict I.x1 I.x3 I.x5 k)) = mixOut (I.at k 2) M 5 := by
  rw [w363 I M k, w365 I M k]
  generalize (I.at k 2) = A
  rfl

theorem o26 : (k0_pay498 (trip_k0_t1.sl.r_366 (F := F) I.a1 I.a3 I.a5 M.i M.j M.l0 M.l1 M.l2 M.tri M.strict I.x1 I.x3 I.x5 k) (trip_k0_t1.sl.r_367 (F := F) I.a2 I.x2 k) (k0_pay496 (I.at k 2).wn) (k0_pay497 (trip_k0_t1.sl.r_217 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k))) = mixOut (I.at k 2) M 6 := by
  rw [w366 I M k, w367 I M k, w217 I M k, w237 I M k]
  generalize (I.at k 2) = A
  rfl

theorem o27 : (k0_pay504 (trip_k0_t1.sl.r_370 (F := F) I.a1 I.a3 I.a5 M.i M.j M.l0 M.l1 M.l2 M.tri M.strict I.x1 I.x3 I.x5 k) (trip_k0_t1.sl.r_371 (F := F) I.a2 I.x2 k) (k0_pay502 (I.at k 2).wn) (k0_pay503 (trip_k0_t1.sl.r_218 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k))) = mixOut (I.at k 2) M 7 := by
  rw [w370 I M k, w371 I M k, w218 I M k, w237 I M k]
  generalize (I.at k 2) = A
  rfl

end Cert.Mix
-- ==== Proof.MixerRow3.lean ====
/- Row 3 of a trip: each word that the trip shares is a stage of what it loads of the row, and so is each value that it stores. -/
module

public import proofs.«01_k».proof.Proof.MixerPieces

@[expose] public section

set_option maxRecDepth 16384

noncomputable section

namespace Cert.Mix

open Cert.MixerIdeal Cert.MixerIdeal.Facts Cert.MixerIdeal.Gen Idealize.ShloMosaic Idealize.SL.Sem

variable {F : FTy → Type} [FloatOps F]

variable (I : Ins F) (M : Masks) (k : Fin k0_t1_loop.trips)

include I M k

theorem w116 : trip_k0_t1.sl.r_116 (F := F) I.a3 M.tri I.x3 k = exp (run (I.at k 3) M) := by
  have e : trip_k0_t1.sl.r_116 (F := F) I.a3 M.tri I.x3 k = (k0_pay147 (k0_pay143 M.tri (k0_pay133 (I.at k 3).gb)) (k0_pay144 M.tri (k0_pay133 (I.at k 3).gb))) := rfl
  rw [e]
  generalize (I.at k 3) = A
  rfl

theorem w111 : trip_k0_t1.sl.r_111 (F := F) I.a3 I.x3 k = lanes (I.at k 3) 1 := by
  have e : trip_k0_t1.sl.r_111 (F := F) I.a3 I.x3 k = (k0_pay138 (k0_pay133 (I.at k 3).gb)) := rfl
  rw [e]
  generalize (I.at k 3) = A
  rfl

theorem w115 : trip_k0_t1.sl.r_115 (F := F) I.a3 M.same M.after I.x3 k = left (I.at k 3) M := by
  have e : trip_k0_t1.sl.r_115 (F := F) I.a3 M.same M.after I.x3 k = (k0_pay146 (k0_pay1 M.same M.after) (trip_k0_t1.sl.r_111 (F := F) I.a3 I.x3 k)) := rfl
  rw [e, w111 I M k]
  generalize (I.at k 3) = A
  rfl

theorem w118 : trip_k0_t1.sl.r_118 (F := F) I.a1 I.x1 k = stream (I.at k 3) 1 := by
  have e : trip_k0_t1.sl.r_118 (F := F) I.a1 I.x1 k = (k0_pay149 (k0_pay132 (I.at k 3).cs)) := rfl
  rw [e]
  generalize (I.at k 3) = A
  rfl

theorem w147 : trip_k0_t1.sl.r_147 (F := F) I.a1 I.a3 M.same M.after I.x1 I.x3 k = kd (I.at k 3) M := by
  have e : trip_k0_t1.sl.r_147 (F := F) I.a1 I.a3 M.same M.after I.x1 I.x3 k = (k0_pay192 (trip_k0_t1.sl.r_115 (F := F) I.a3 M.same M.after I.x3 k) (trip_k0_t1.sl.r_118 (F := F) I.a1 I.x1 k)) := rfl
  rw [e, w115 I M k, w118 I M k]
  generalize (I.at k 3) = A
  rfl

theorem w110 : trip_k0_t1.sl.r_110 (F := F) I.a3 I.x3 k = lanes (I.at k 3) 0 := by
  have e : trip_k0_t1.sl.r_110 (F := F) I.a3 I.x3 k = (k0_pay137 (k0_pay133 (I.at k 3).gb) (k0_pay134 (I.at k 3).gb) (k0_pay135 (I.at k 3).gb) (k0_pay136 (I.at k 3).gb)) := rfl
  rw [e]
  generalize (I.at k 3) = A
  rfl

theorem w114 : trip_k0_t1.sl.r_114 (F := F) I.a3 M.tri I.x3 k = run (I.at k 3) M := by
  have e : trip_k0_t1.sl.r_114 (F := F) I.a3 M.tri I.x3 k = (k0_pay145 (k0_pay143 M.tri (k0_pay133 (I.at k 3).gb)) (k0_pay144 M.tri (k0_pay133 (I.at k 3).gb))) := rfl
  rw [e]
  generalize (I.at k 3) = A
  rfl

theorem w119 : trip_k0_t1.sl.r_119 (F := F) I.a1 I.x1 k = stream (I.at k 3) 2 := by
  have e : trip_k0_t1.sl.r_119 (F := F) I.a1 I.x1 k = (k0_pay150 (k0_pay132 (I.at k 3).cs)) := rfl
  rw [e]
  generalize (I.at k 3) = A
  rfl

theorem w145 : trip_k0_t1.sl.r_145 (F := F) I.a1 I.a3 M.tri I.x1 I.x3 k = rhs (I.at k 3) M := by
  have e : trip_k0_t1.sl.r_145 (F := F) I.a1 I.a3 M.tri I.x1 I.x3 k = (k0_pay190 (trip_k0_t1.sl.r_110 (F := F) I.a3 I.x3 k) (trip_k0_t1.sl.r_114 (F := F) I.a3 M.tri I.x3 k) (trip_k0_t1.sl.r_118 (F := F) I.a1 I.x1 k) (trip_k0_t1.sl.r_119 (F := F) I.a1 I.x1 k)) := rfl
  rw [e, w110 I M k, w114 I M k, w118 I M k, w119 I M k]
  generalize (I.at k 3) = A
  rfl

theorem w144 : trip_k0_t1.sl.r_144 (F := F) I.a3 M.tri I.x3 k = decay (I.at k 3) M := by
  have e : trip_k0_t1.sl.r_144 (F := F) I.a3 M.tri I.x3 k = (k0_pay187 M.tri (trip_k0_t1.sl.r_114 (F := F) I.a3 M.tri I.x3 k) (k0_pay151 (k0_pay143 M.tri (k0_pay133 (I.at k 3).gb)) (k0_pay144 M.tri (k0_pay133 (I.at k 3).gb)))) := rfl
  rw [e, w114 I M k]
  generalize (I.at k 3) = A
  rfl

theorem w117 : trip_k0_t1.sl.r_117 (F := F) I.a1 I.x1 k = stream (I.at k 3) 0 := by
  have e : trip_k0_t1.sl.r_117 (F := F) I.a1 I.x1 k = (k0_pay148 (k0_pay132 (I.at k 3).cs)) := rfl
  rw [e]
  generalize (I.at k 3) = A
  rfl

theorem w151 : trip_k0_t1.sl.r_151 (F := F) I.a1 I.a3 I.x1 I.x3 k = products (I.at k 3) := by
  have e : trip_k0_t1.sl.r_151 (F := F) I.a1 I.a3 I.x1 I.x3 k = (k0_pay196 (trip_k0_t1.sl.r_110 (F := F) I.a3 I.x3 k) (trip_k0_t1.sl.r_117 (F := F) I.a1 I.x1 k) (trip_k0_t1.sl.r_118 (F := F) I.a1 I.x1 k) (k0_pay184 (trip_k0_t1.sl.r_117 (F := F) I.a1 I.x1 k))) := rfl
  rw [e, w110 I M k, w117 I M k, w118 I M k]
  generalize (I.at k 3) = A
  rfl

theorem w164 : trip_k0_t1.sl.r_164 (F := F) I.a1 I.a3 M.i M.j M.l0 M.tri M.strict I.x1 I.x3 k = inv0 M (sys (I.at k 3) M) := by
  have e : trip_k0_t1.sl.r_164 (F := F) I.a1 I.a3 M.i M.j M.l0 M.tri M.strict I.x1 I.x3 k = (k0_pay209 M.l0 M.strict (k0_pay2 M.i M.j) (trip_k0_t1.sl.r_144 (F := F) I.a3 M.tri I.x3 k) (trip_k0_t1.sl.r_151 (F := F) I.a1 I.a3 I.x1 I.x3 k)) := rfl
  rw [e, w144 I M k, w151 I M k]
  generalize (I.at k 3) = A
  rfl

theorem w176 : trip_k0_t1.sl.r_176 (F := F) I.a1 I.a3 M.i M.j M.l0 M.l1 M.tri M.strict I.x1 I.x3 k = level M.l1 (sys (I.at k 3) M) (inv0 M (sys (I.at k 3) M)) := by
  have e : trip_k0_t1.sl.r_176 (F := F) I.a1 I.a3 M.i M.j M.l0 M.l1 M.tri M.strict I.x1 I.x3 k = (k0_pay221 (trip_k0_t1.sl.r_164 (F := F) I.a1 I.a3 M.i M.j M.l0 M.tri M.strict I.x1 I.x3 k) (k0_pay213 M.l0 M.strict (k0_pay2 M.i M.j) (trip_k0_t1.sl.r_144 (F := F) I.a3 M.tri I.x3 k) (trip_k0_t1.sl.r_151 (F := F) I.a1 I.a3 I.x1 I.x3 k)) (k0_pay216 M.l1 M.strict (trip_k0_t1.sl.r_144 (F := F) I.a3 M.tri I.x3 k) (trip_k0_t1.sl.r_151 (F := F) I.a1 I.a3 I.x1 I.x3 k))) := rfl
  rw [e, w164 I M k, w144 I M k, w151 I M k]
  generalize (I.at k 3) = A
  rfl

theorem w156 : trip_k0_t1.sl.r_156 (F := F) I.a1 I.a3 M.tri M.strict I.x1 I.x3 k = sys (I.at k 3) M := by
  have e : trip_k0_t1.sl.r_156 (F := F) I.a1 I.a3 M.tri M.strict I.x1 I.x3 k = (k0_pay201 M.strict (trip_k0_t1.sl.r_144 (F := F) I.a3 M.tri I.x3 k) (trip_k0_t1.sl.r_151 (F := F) I.a1 I.a3 I.x1 I.x3 k)) := rfl
  rw [e, w144 I M k, w151 I M k]
  generalize (I.at k 3) = A
  rfl

theorem w188 : trip_k0_t1.sl.r_188 (F := F) I.a1 I.a3 M.i M.j M.l0 M.l1 M.l2 M.tri M.strict I.x1 I.x3 k = extractStridedSlice S64x128 ![0, 0] (sol (I.at k 3) M) slices_S64x256_o0_0_S64x128 := by
  have e : trip_k0_t1.sl.r_188 (F := F) I.a1 I.a3 M.i M.j M.l0 M.l1 M.l2 M.tri M.strict I.x1 I.x3 k = (k0_pay237 (trip_k0_t1.sl.r_145 (F := F) I.a1 I.a3 M.tri I.x1 I.x3 k) (trip_k0_t1.sl.r_176 (F := F) I.a1 I.a3 M.i M.j M.l0 M.l1 M.tri M.strict I.x1 I.x3 k) (k0_pay222 (trip_k0_t1.sl.r_164 (F := F) I.a1 I.a3 M.i M.j M.l0 M.tri M.strict I.x1 I.x3 k) (k0_pay213 M.l0 M.strict (k0_pay2 M.i M.j) (trip_k0_t1.sl.r_144 (F := F) I.a3 M.tri I.x3 k) (trip_k0_t1.sl.r_151 (F := F) I.a1 I.a3 I.x1 I.x3 k)) (k0_pay216 M.l1 M.strict (trip_k0_t1.sl.r_144 (F := F) I.a3 M.tri I.x3 k) (trip_k0_t1.sl.r_151 (F := F) I.a1 I.a3 I.x1 I.x3 k))) (k0_pay223 M.l2 (trip_k0_t1.sl.r_156 (F := F) I.a1 I.a3 M.tri M.strict I.x1 I.x3 k) (trip_k0_t1.sl.r_164 (F := F) I.a1 I.a3 M.i M.j M.l0 M.tri M.strict I.x1 I.x3 k) (k0_pay213 M.l0 M.strict (k0_pay2 M.i M.j) (trip_k0_t1.sl.r_144 (F := F) I.a3 M.tri I.x3 k) (trip_k0_t1.sl.r_151 (F := F) I.a1 I.a3 I.x1 I.x3 k)) (k0_pay216 M.l1 M.strict (trip_k0_t1.sl.r_144 (F := F) I.a3 M.tri I.x3 k) (trip_k0_t1.sl.r_151 (F := F) I.a1 I.a3 I.x1 I.x3 k))) (trip_k0_t1.sl.cst_299 (F := F) )) := rfl
  rw [e, w145 I M k, w176 I M k, w164 I M k, w144 I M k, w151 I M k, w156 I M k]
  generalize (I.at k 3) = A
  rfl

theorem w146 : trip_k0_t1.sl.r_146 (F := F) I.a1 I.a3 M.tri I.x1 I.x3 k = qg (I.at k 3) M := by
  have e : trip_k0_t1.sl.r_146 (F := F) I.a1 I.a3 M.tri I.x1 I.x3 k = (k0_pay191 (trip_k0_t1.sl.r_114 (F := F) I.a3 M.tri I.x3 k) (trip_k0_t1.sl.r_117 (F := F) I.a1 I.x1 k) (k0_pay184 (trip_k0_t1.sl.r_117 (F := F) I.a1 I.x1 k))) := rfl
  rw [e, w114 I M k, w117 I M k]
  generalize (I.at k 3) = A
  rfl

theorem w189 : trip_k0_t1.sl.r_189 (F := F) I.a1 I.a3 M.i M.j M.l0 M.l1 M.l2 M.tri M.strict I.x1 I.x3 k = solW (I.at k 3) M := by
  have e : trip_k0_t1.sl.r_189 (F := F) I.a1 I.a3 M.i M.j M.l0 M.l1 M.l2 M.tri M.strict I.x1 I.x3 k = (k0_pay238 (trip_k0_t1.sl.r_145 (F := F) I.a1 I.a3 M.tri I.x1 I.x3 k) (trip_k0_t1.sl.r_176 (F := F) I.a1 I.a3 M.i M.j M.l0 M.l1 M.tri M.strict I.x1 I.x3 k) (k0_pay222 (trip_k0_t1.sl.r_164 (F := F) I.a1 I.a3 M.i M.j M.l0 M.tri M.strict I.x1 I.x3 k) (k0_pay213 M.l0 M.strict (k0_pay2 M.i M.j) (trip_k0_t1.sl.r_144 (F := F) I.a3 M.tri I.x3 k) (trip_k0_t1.sl.r_151 (F := F) I.a1 I.a3 I.x1 I.x3 k)) (k0_pay216 M.l1 M.strict (trip_k0_t1.sl.r_144 (F := F) I.a3 M.tri I.x3 k) (trip_k0_t1.sl.r_151 (F := F) I.a1 I.a3 I.x1 I.x3 k))) (k0_pay223 M.l2 (trip_k0_t1.sl.r_156 (F := F) I.a1 I.a3 M.tri M.strict I.x1 I.x3 k) (trip_k0_t1.sl.r_164 (F := F) I.a1 I.a3 M.i M.j M.l0 M.tri M.strict I.x1 I.x3 k) (k0_pay213 M.l0 M.strict (k0_pay2 M.i M.j) (trip_k0_t1.sl.r_144 (F := F) I.a3 M.tri I.x3 k) (trip_k0_t1.sl.r_151 (F := F) I.a1 I.a3 I.x1 I.x3 k)) (k0_pay216 M.l1 M.strict (trip_k0_t1.sl.r_144 (F := F) I.a3 M.tri I.x3 k) (trip_k0_t1.sl.r_151 (F := F) I.a1 I.a3 I.x1 I.x3 k))) (trip_k0_t1.sl.cst_299 (F := F) )) := rfl
  rw [e, w145 I M k, w176 I M k, w164 I M k, w144 I M k, w151 I M k, w156 I M k]
  generalize (I.at k 3) = A
  rfl

theorem w222 : trip_k0_t1.sl.r_222 (F := F) I.a1 I.a3 I.a5 M.i M.j M.l0 M.l1 M.l2 M.tri M.strict I.x1 I.x3 I.x5 k = both (I.at k 3) M 2 := by
  have e : trip_k0_t1.sl.r_222 (F := F) I.a1 I.a3 I.a5 M.i M.j M.l0 M.l1 M.l2 M.tri M.strict I.x1 I.x3 I.x5 k = (k0_pay271 (trip_k0_t1.sl.r_146 (F := F) I.a1 I.a3 M.tri I.x1 I.x3 k) (trip_k0_t1.sl.r_189 (F := F) I.a1 I.a3 M.i M.j M.l0 M.l1 M.l2 M.tri M.strict I.x1 I.x3 k) ((I.at k 3).s0 2)) := rfl
  rw [e, w146 I M k, w189 I M k]
  generalize (I.at k 3) = A
  rfl

theorem w223 : trip_k0_t1.sl.r_223 (F := F) I.a1 I.a3 I.a5 M.i M.j M.l0 M.l1 M.l2 M.tri M.strict I.x1 I.x3 I.x5 k = both (I.at k 3) M 3 := by
  have e : trip_k0_t1.sl.r_223 (F := F) I.a1 I.a3 I.a5 M.i M.j M.l0 M.l1 M.l2 M.tri M.strict I.x1 I.x3 I.x5 k = (k0_pay272 (trip_k0_t1.sl.r_146 (F := F) I.a1 I.a3 M.tri I.x1 I.x3 k) (trip_k0_t1.sl.r_189 (F := F) I.a1 I.a3 M.i M.j M.l0 M.l1 M.l2 M.tri M.strict I.x1 I.x3 k) ((I.at k 3).s0 3)) := rfl
  rw [e, w146 I M k, w189 I M k]
  generalize (I.at k 3) = A
  rfl

theorem w224 : trip_k0_t1.sl.r_224 (F := F) I.a1 I.a3 I.a5 M.i M.j M.l0 M.l1 M.l2 M.tri M.strict I.x1 I.x3 I.x5 k = both (I.at k 3) M 4 := by
  have e : trip_k0_t1.sl.r_224 (F := F) I.a1 I.a3 I.a5 M.i M.j M.l0 M.l1 M.l2 M.tri M.strict I.x1 I.x3 I.x5 k = (k0_pay273 (trip_k0_t1.sl.r_146 (F := F) I.a1 I.a3 M.tri I.x1 I.x3 k) (trip_k0_t1.sl.r_189 (F := F) I.a1 I.a3 M.i M.j M.l0 M.l1 M.l2 M.tri M.strict I.x1 I.x3 k) ((I.at k 3).s0 4)) := rfl
  rw [e, w146 I M k, w189 I M k]
  generalize (I.at k 3) = A
  rfl

theorem w225 : trip_k0_t1.sl.r_225 (F := F) I.a1 I.a3 I.a5 M.i M.j M.l0 M.l1 M.l2 M.tri M.strict I.x1 I.x3 I.x5 k = both (I.at k 3) M 5 := by
  have e : trip_k0_t1.sl.r_225 (F := F) I.a1 I.a3 I.a5 M.i M.j M.l0 M.l1 M.l2 M.tri M.strict I.x1 I.x3 I.x5 k = (k0_pay274 (trip_k0_t1.sl.r_146 (F := F) I.a1 I.a3 M.tri I.x1 I.x3 k) (trip_k0_t1.sl.r_189 (F := F) I.a1 I.a3 M.i M.j M.l0 M.l1 M.l2 M.tri M.strict I.x1 I.x3 k) ((I.at k 3).s0 5)) := rfl
  rw [e, w146 I M k, w189 I M k]
  generalize (I.at k 3) = A
  rfl

theorem w227 : trip_k0_t1.sl.r_227 (F := F) I.a1 I.a3 I.a5 M.i M.j M.l0 M.l1 M.l2 M.tri M.strict I.x1 I.x3 I.x5 k = both (I.at k 3) M 6 := by
  have e : trip_k0_t1.sl.r_227 (F := F) I.a1 I.a3 I.a5 M.i M.j M.l0 M.l1 M.l2 M.tri M.strict I.x1 I.x3 I.x5 k = (k0_pay276 (trip_k0_t1.sl.r_146 (F := F) I.a1 I.a3 M.tri I.x1 I.x3 k) (k0_pay275 (trip_k0_t1.sl.r_189 (F := F) I.a1 I.a3 M.i M.j M.l0 M.l1 M.l2 M.tri M.strict I.x1 I.x3 k)) ((I.at k 3).s0 6)) := rfl
  rw [e, w146 I M k, w189 I M k]
  generalize (I.at k 3) = A
  rfl

theorem w228 : trip_k0_t1.sl.r_228 (F := F) I.a1 I.a3 I.a5 M.i M.j M.l0 M.l1 M.l2 M.tri M.strict I.x1 I.x3 I.x5 k = both (I.at k 3) M 7 := by
  have e : trip_k0_t1.sl.r_228 (F := F) I.a1 I.a3 I.a5 M.i M.j M.l0 M.l1 M.l2 M.tri M.strict I.x1 I.x3 I.x5 k = (k0_pay277 (trip_k0_t1.sl.r_146 (F := F) I.a1 I.a3 M.tri I.x1 I.x3 k) (trip_k0_t1.sl.r_189 (F := F) I.a1 I.a3 M.i M.j M.l0 M.l1 M.l2 M.tri M.strict I.x1 I.x3 k) ((I.at k 3).s0 7)) := rfl
  rw [e, w146 I M k, w189 I M k]
  generalize (I.at k 3) = A
  rfl

theorem w219 : trip_k0_t1.sl.r_219 (F := F) I.a1 I.a3 I.a5 M.i M.j M.l0 M.l1 M.l2 M.tri M.strict I.x1 I.x3 I.x5 k = both (I.at k 3) M 0 := by
  have e : trip_k0_t1.sl.r_219 (F := F) I.a1 I.a3 I.a5 M.i M.j M.l0 M.l1 M.l2 M.tri M.strict I.x1 I.x3 I.x5 k = (k0_pay268 (trip_k0_t1.sl.r_146 (F := F) I.a1 I.a3 M.tri I.x1 I.x3 k) (trip_k0_t1.sl.r_189 (F := F) I.a1 I.a3 M.i M.j M.l0 M.l1 M.l2 M.tri M.strict I.x1 I.x3 k) ((I.at k 3).s0 0)) := rfl
  rw [e, w146 I M k, w189 I M k]
  generalize (I.at k 3) = A
  rfl

theorem w221 : trip_k0_t1.sl.r_221 (F := F) I.a1 I.a3 I.a5 M.i M.j M.l0 M.l1 M.l2 M.tri M.strict I.x1 I.x3 I.x5 k = both (I.at k 3) M 1 := by
  have e : trip_k0_t1.sl.r_221 (F := F) I.a1 I.a3 I.a5 M.i M.j M.l0 M.l1 M.l2 M.tri M.strict I.x1 I.x3 I.x5 k = (k0_pay270 (k0_pay269 (trip_k0_t1.sl.r_146 (F := F) I.a1 I.a3 M.tri I.x1 I.x3 k) (trip_k0_t1.sl.r_189 (F := F) I.a1 I.a3 M.i M.j M.l0 M.l1 M.l2 M.tri M.strict I.x1 I.x3 k)) ((I.at k 3).s0 1)) := rfl
  rw [e, w146 I M k, w189 I M k]
  generalize (I.at k 3) = A
  rfl

theorem w234 : trip_k0_t1.sl.r_234 (F := F) I.a1 I.a3 I.a5 M.i M.j M.l0 M.l1 M.l2 M.tri M.strict I.x1 I.x3 I.x5 k = vnew (I.at k 3) M := by
  have e : trip_k0_t1.sl.r_234 (F := F) I.a1 I.a3 I.a5 M.i M.j M.l0 M.l1 M.l2 M.tri M.strict I.x1 I.x3 I.x5 k = (k0_pay283 (trip_k0_t1.sl.r_188 (F := F) I.a1 I.a3 M.i M.j M.l0 M.l1 M.l2 M.tri M.strict I.x1 I.x3 k) (trip_k0_t1.sl.r_222 (F := F) I.a1 I.a3 I.a5 M.i M.j M.l0 M.l1 M.l2 M.tri M.strict I.x1 I.x3 I.x5 k) (trip_k0_t1.sl.r_223 (F := F) I.a1 I.a3 I.a5 M.i M.j M.l0 M.l1 M.l2 M.tri M.strict I.x1 I.x3 I.x5 k) (trip_k0_t1.sl.r_224 (F := F) I.a1 I.a3 I.a5 M.i M.j M.l0 M.l1 M.l2 M.tri M.strict I.x1 I.x3 I.x5 k) (trip_k0_t1.sl.r_225 (F := F) I.a1 I.a3 I.a5 M.i M.j M.l0 M.l1 M.l2 M.tri M.strict I.x1 I.x3 I.x5 k) (trip_k0_t1.sl.r_227 (F := F) I.a1 I.a3 I.a5 M.i M.j M.l0 M.l1 M.l2 M.tri M.strict I.x1 I.x3 I.x5 k) (trip_k0_t1.sl.r_228 (F := F) I.a1 I.a3 I.a5 M.i M.j M.l0 M.l1 M.l2 M.tri M.strict I.x1 I.x3 I.x5 k) (k0_pay281 (trip_k0_t1.sl.r_219 (F := F) I.a1 I.a3 I.a5 M.i M.j M.l0 M.l1 M.l2 M.tri M.strict I.x1 I.x3 I.x5 k)) (k0_pay282 (trip_k0_t1.sl.r_221 (F := F) I.a1 I.a3 I.a5 M.i M.j M.l0 M.l1 M.l2 M.tri M.strict I.x1 I.x3 I.x5 k))) := rfl
  rw [e, w188 I M k, w222 I M k, w223 I M k, w224 I M k, w225 I M k, w227 I M k, w228 I M k, w219 I M k, w221 I M k]
  generalize (I.at k 3) = A
  rfl

theorem w265 : trip_k0_t1.sl.r_265 (F := F) I.a1 I.a3 I.a5 M.i M.j M.same M.l0 M.l1 M.l2 M.tri M.strict M.after I.x1 I.x3 I.x5 k = matmul dot_S8x128_S8x128_S128x128_0_0_1_1_n_n none (headRows (kd (I.at k 3) M) 0) (headRows (vnew (I.at k 3) M) 0) (constant S128x128 .f32 0x00000000#32) := by
  have e : trip_k0_t1.sl.r_265 (F := F) I.a1 I.a3 I.a5 M.i M.j M.same M.l0 M.l1 M.l2 M.tri M.strict M.after I.x1 I.x3 I.x5 k = (k0_pay314 (trip_k0_t1.sl.r_147 (F := F) I.a1 I.a3 M.same M.after I.x1 I.x3 k) (trip_k0_t1.sl.r_234 (F := F) I.a1 I.a3 I.a5 M.i M.j M.l0 M.l1 M.l2 M.tri M.strict I.x1 I.x3 I.x5 k)) := rfl
  rw [e, w147 I M k, w234 I M k]
  generalize (I.at k 3) = A
  rfl

theorem w268 : trip_k0_t1.sl.r_268 (F := F) I.a1 I.a3 I.a5 M.i M.j M.same M.l0 M.l1 M.l2 M.tri M.strict M.after I.x1 I.x3 I.x5 k = matmul dot_S8x128_S8x128_S128x128_0_0_1_1_n_n none (headRows (kd (I.at k 3) M) 1) (headRows (vnew (I.at k 3) M) 1) (constant S128x128 .f32 0x00000000#32) := by
  have e : trip_k0_t1.sl.r_268 (F := F) I.a1 I.a3 I.a5 M.i M.j M.same M.l0 M.l1 M.l2 M.tri M.strict M.after I.x1 I.x3 I.x5 k = (k0_pay317 (k0_pay315 (trip_k0_t1.sl.r_147 (F := F) I.a1 I.a3 M.same M.after I.x1 I.x3 k)) (k0_pay316 (trip_k0_t1.sl.r_234 (F := F) I.a1 I.a3 I.a5 M.i M.j M.l0 M.l1 M.l2 M.tri M.strict I.x1 I.x3 I.x5 k)) (trip_k0_t1.sl.cst_474 (F := F) )) := rfl
  rw [e, w147 I M k, w234 I M k]
  generalize (I.at k 3) = A
  rfl

theorem w269 : trip_k0_t1.sl.r_269 (F := F) I.a1 I.a3 I.a5 M.i M.j M.same M.l0 M.l1 M.l2 M.tri M.strict M.after I.x1 I.x3 I.x5 k = matmul dot_S8x128_S8x128_S128x128_0_0_1_1_n_n none (headRows (kd (I.at k 3) M) 2) (headRows (vnew (I.at k 3) M) 2) (constant S128x128 .f32 0x00000000#32) := by
  have e : trip_k0_t1.sl.r_269 (F := F) I.a1 I.a3 I.a5 M.i M.j M.same M.l0 M.l1 M.l2 M.tri M.strict M.after I.x1 I.x3 I.x5 k = (k0_pay318 (trip_k0_t1.sl.r_147 (F := F) I.a1 I.a3 M.same M.after I.x1 I.x3 k) (trip_k0_t1.sl.r_234 (F := F) I.a1 I.a3 I.a5 M.i M.j M.l0 M.l1 M.l2 M.tri M.strict I.x1 I.x3 I.x5 k)) := rfl
  rw [e, w147 I M k, w234 I M k]
  generalize (I.at k 3) = A
  rfl

theorem w270 : trip_k0_t1.sl.r_270 (F := F) I.a1 I.a3 I.a5 M.i M.j M.same M.l0 M.l1 M.l2 M.tri M.strict M.after I.x1 I.x3 I.x5 k = matmul dot_S8x128_S8x128_S128x128_0_0_1_1_n_n none (headRows (kd (I.at k 3) M) 3) (headRows (vnew (I.at k 3) M) 3) (constant S128x128 .f32 0x00000000#32) := by
  have e : trip_k0_t1.sl.r_270 (F := F) I.a1 I.a3 I.a5 M.i M.j M.same M.l0 M.l1 M.l2 M.tri M.strict M.after I.x1 I.x3 I.x5 k = (k0_pay319 (trip_k0_t1.sl.r_147 (F := F) I.a1 I.a3 M.same M.after I.x1 I.x3 k) (trip_k0_t1.sl.r_234 (F := F) I.a1 I.a3 I.a5 M.i M.j M.l0 M.l1 M.l2 M.tri M.strict I.x1 I.x3 I.x5 k)) := rfl
  rw [e, w147 I M k, w234 I M k]
  generalize (I.at k 3) = A
  rfl

theorem w271 : trip_k0_t1.sl.r_271 (F := F) I.a1 I.a3 I.a5 M.i M.j M.same M.l0 M.l1 M.l2 M.tri M.strict M.after I.x1 I.x3 I.x5 k = matmul dot_S8x128_S8x128_S128x128_0_0_1_1_n_n none (headRows (kd (I.at k 3) M) 4) (headRows (vnew (I.at k 3) M) 4) (constant S128x128 .f32 0x00000000#32) := by
  have e : trip_k0_t1.sl.r_271 (F := F) I.a1 I.a3 I.a5 M.i M.j M.same M.l0 M.l1 M.l2 M.tri M.strict M.after I.x1 I.x3 I.x5 k = (k0_pay320 (trip_k0_t1.sl.r_147 (F := F) I.a1 I.a3 M.same M.after I.x1 I.x3 k) (trip_k0_t1.sl.r_234 (F := F) I.a1 I.a3 I.a5 M.i M.j M.l0 M.l1 M.l2 M.tri M.strict I.x1 I.x3 I.x5 k)) := rfl
  rw [e, w147 I M k, w234 I M k]
  generalize (I.at k 3) = A
  rfl

theorem w272 : trip_k0_t1.sl.r_272 (F := F) I.a1 I.a3 I.a5 M.i M.j M.same M.l0 M.l1 M.l2 M.tri M.strict M.after I.x1 I.x3 I.x5 k = matmul dot_S8x128_S8x128_S128x128_0_0_1_1_n_n none (headRows (kd (I.at k 3) M) 5) (headRows (vnew (I.at k 3) M) 5) (constant S128x128 .f32 0x00000000#32) := by
  have e : trip_k0_t1.sl.r_272 (F := F) I.a1 I.a3 I.a5 M.i M.j M.same M.l0 M.l1 M.l2 M.tri M.strict M.after I.x1 I.x3 I.x5 k = (k0_pay321 (trip_k0_t1.sl.r_147 (F := F) I.a1 I.a3 M.same M.after I.x1 I.x3 k) (trip_k0_t1.sl.r_234 (F := F) I.a1 I.a3 I.a5 M.i M.j M.l0 M.l1 M.l2 M.tri M.strict I.x1 I.x3 I.x5 k)) := rfl
  rw [e, w147 I M k, w234 I M k]
  generalize (I.at k 3) = A
  rfl

theorem w273 : trip_k0_t1.sl.r_273 (F := F) I.a1 I.a3 I.a5 M.i M.j M.same M.l0 M.l1 M.l2 M.tri M.strict M.after I.x1 I.x3 I.x5 k = matmul dot_S8x128_S8x128_S128x128_0_0_1_1_n_n none (headRows (kd (I.at k 3) M) 6) (headRows (vnew (I.at k 3) M) 6) (constant S128x128 .f32 0x00000000#32) := by
  have e : trip_k0_t1.sl.r_273 (F := F) I.a1 I.a3 I.a5 M.i M.j M.same M.l0 M.l1 M.l2 M.tri M.strict M.after I.x1 I.x3 I.x5 k = (k0_pay322 (trip_k0_t1.sl.r_147 (F := F) I.a1 I.a3 M.same M.after I.x1 I.x3 k) (trip_k0_t1.sl.r_234 (F := F) I.a1 I.a3 I.a5 M.i M.j M.l0 M.l1 M.l2 M.tri M.strict I.x1 I.x3 I.x5 k)) := rfl
  rw [e, w147 I M k, w234 I M k]
  generalize (I.at k 3) = A
  rfl

theorem w274 : trip_k0_t1.sl.r_274 (F := F) I.a1 I.a3 I.a5 M.i M.j M.same M.l0 M.l1 M.l2 M.tri M.strict M.after I.x1 I.x3 I.x5 k = matmul dot_S8x128_S8x128_S128x128_0_0_1_1_n_n none (headRows (kd (I.at k 3) M) 7) (headRows (vnew (I.at k 3) M) 7) (constant S128x128 .f32 0x00000000#32) := by
  have e : trip_k0_t1.sl.r_274 (F := F) I.a1 I.a3 I.a5 M.i M.j M.same M.l0 M.l1 M.l2 M.tri M.strict M.after I.x1 I.x3 I.x5 k = (k0_pay323 (trip_k0_t1.sl.r_147 (F := F) I.a1 I.a3 M.same M.after I.x1 I.x3 k) (trip_k0_t1.sl.r_234 (F := F) I.a1 I.a3 I.a5 M.i M.j M.l0 M.l1 M.l2 M.tri M.strict I.x1 I.x3 I.x5 k)) := rfl
  rw [e, w147 I M k, w234 I M k]
  generalize (I.at k 3) = A
  rfl

theorem w160 : trip_k0_t1.sl.r_160 (F := F) I.a1 I.a3 M.tri I.x1 I.x3 k = qk (I.at k 3) M := by
  have e : trip_k0_t1.sl.r_160 (F := F) I.a1 I.a3 M.tri I.x1 I.x3 k = (k0_pay205 (trip_k0_t1.sl.r_144 (F := F) I.a3 M.tri I.x3 k) (trip_k0_t1.sl.r_151 (F := F) I.a1 I.a3 I.x1 I.x3 k)) := rfl
  rw [e, w144 I M k, w151 I M k]
  generalize (I.at k 3) = A
  rfl

theorem w238 : trip_k0_t1.sl.r_238 (F := F) I.a1 I.a3 I.a5 M.i M.j M.l0 M.l1 M.l2 M.tri M.strict I.x1 I.x3 I.x5 k = matmul dot_S64x64_S64x128_S64x128_1_0_0_1_n_n none (qk (I.at k 3) M) (vnew (I.at k 3) M) (constant S64x128 .f32 0x00000000#32) := by
  have e : trip_k0_t1.sl.r_238 (F := F) I.a1 I.a3 I.a5 M.i M.j M.l0 M.l1 M.l2 M.tri M.strict I.x1 I.x3 I.x5 k = (k0_pay287 (trip_k0_t1.sl.r_160 (F := F) I.a1 I.a3 M.tri I.x1 I.x3 k) (trip_k0_t1.sl.r_188 (F := F) I.a1 I.a3 M.i M.j M.l0 M.l1 M.l2 M.tri M.strict I.x1 I.x3 k) (trip_k0_t1.sl.r_222 (F := F) I.a1 I.a3 I.a5 M.i M.j M.l0 M.l1 M.l2 M.tri M.strict I.x1 I.x3 I.x5 k) (trip_k0_t1.sl.r_223 (F := F) I.a1 I.a3 I.a5 M.i M.j M.l0 M.l1 M.l2 M.tri M.strict I.x1 I.x3 I.x5 k) (trip_k0_t1.sl.r_224 (F := F) I.a1 I.a3 I.a5 M.i M.j M.l0 M.l1 M.l2 M.tri M.strict I.x1 I.x3 I.x5 k) (trip_k0_t1.sl.r_225 (F := F) I.a1 I.a3 I.a5 M.i M.j M.l0 M.l1 M.l2 M.tri M.strict I.x1 I.x3 I.x5 k) (trip_k0_t1.sl.r_227 (F := F) I.a1 I.a3 I.a5 M.i M.j M.l0 M.l1 M.l2 M.tri M.strict I.x1 I.x3 I.x5 k) (trip_k0_t1.sl.r_228 (F := F) I.a1 I.a3 I.a5 M.i M.j M.l0 M.l1 M.l2 M.tri M.strict I.x1 I.x3 I.x5 k) (k0_pay281 (trip_k0_t1.sl.r_219 (F := F) I.a1 I.a3 I.a5 M.i M.j M.l0 M.l1 M.l2 M.tri M.strict I.x1 I.x3 I.x5 k)) (k0_pay282 (trip_k0_t1.sl.r_221 (F := F) I.a1 I.a3 I.a5 M.i M.j M.l0 M.l1 M.l2 M.tri M.strict I.x1 I.x3 I.x5 k))) := rfl
  rw [e, w160 I M k, w188 I M k, w222 I M k, w223 I M k, w224 I M k, w225 I M k, w227 I M k, w228 I M k, w219 I M k, w221 I M k]
  generalize (I.at k 3) = A
  rfl

theorem w380 : trip_k0_t1.sl.r_380 (F := F) I.a2 I.x2 k = silu (gate (I.at k 3) 3) := by
  have e : trip_k0_t1.sl.r_380 (F := F) I.a2 I.x2 k = (k0_pay534 (k0_pay523 (I.at k 3).z)) := rfl
  rw [e]
  generalize (I.at k 3) = A
  rfl

theorem w381 : trip_k0_t1.sl.r_381 (F := F) I.a2 I.x2 k = gate (I.at k 3) 4 := by
  have e : trip_k0_t1.sl.r_381 (F := F) I.a2 I.x2 k = (k0_pay537 (k0_pay523 (I.at k 3).z)) := rfl
  rw [e]
  generalize (I.at k 3) = A
  rfl

theorem w384 : trip_k0_t1.sl.r_384 (F := F) I.a2 I.x2 k = gate (I.at k 3) 5 := by
  have e : trip_k0_t1.sl.r_384 (F := F) I.a2 I.x2 k = (k0_pay542 (k0_pay523 (I.at k 3).z)) := rfl
  rw [e]
  generalize (I.at k 3) = A
  rfl

theorem w387 : trip_k0_t1.sl.r_387 (F := F) I.a2 I.x2 k = gate (I.at k 3) 6 := by
  have e : trip_k0_t1.sl.r_387 (F := F) I.a2 I.x2 k = (k0_pay547 (k0_pay523 (I.at k 3).z)) := rfl
  rw [e]
  generalize (I.at k 3) = A
  rfl

theorem w389 : trip_k0_t1.sl.r_389 (F := F) I.a2 I.x2 k = gate (I.at k 3) 7 := by
  have e : trip_k0_t1.sl.r_389 (F := F) I.a2 I.x2 k = (k0_pay552 (k0_pay523 (I.at k 3).z)) := rfl
  rw [e]
  generalize (I.at k 3) = A
  rfl

theorem w390 : trip_k0_t1.sl.r_390 (F := F) I.a1 I.a3 I.a5 M.i M.j M.l0 M.l1 M.l2 M.tri M.strict I.x1 I.x3 I.x5 k = rms (mixed (I.at k 3) M 7) := by
  have e : trip_k0_t1.sl.r_390 (F := F) I.a1 I.a3 I.a5 M.i M.j M.l0 M.l1 M.l2 M.tri M.strict I.x1 I.x3 I.x5 k = (k0_pay553 (trip_k0_t1.sl.r_228 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k)) := rfl
  rw [e, w228 I M k, w238 I M k]
  generalize (I.at k 3) = A
  rfl

theorem s30 : (k0_pay524 (trip_k0_t1.sl.r_116 (F := F) I.a3 M.tri I.x3 k) (trip_k0_t1.sl.r_265 (F := F) I.a1 I.a3 I.a5 M.i M.j M.same M.l0 M.l1 M.l2 M.tri M.strict M.after I.x1 I.x3 I.x5 k) ((I.at k 3).s0 0)) = stateOut (I.at k 3) M 0 := by
  rw [w116 I M k, w265 I M k]
  generalize (I.at k 3) = A
  rfl

theorem s31 : (k0_pay526 (trip_k0_t1.sl.r_116 (F := F) I.a3 M.tri I.x3 k) (trip_k0_t1.sl.r_268 (F := F) I.a1 I.a3 I.a5 M.i M.j M.same M.l0 M.l1 M.l2 M.tri M.strict M.after I.x1 I.x3 I.x5 k) ((I.at k 3).s0 1)) = stateOut (I.at k 3) M 1 := by
  rw [w116 I M k, w268 I M k]
  generalize (I.at k 3) = A
  rfl

theorem s32 : (k0_pay529 (trip_k0_t1.sl.r_116 (F := F) I.a3 M.tri I.x3 k) (trip_k0_t1.sl.r_269 (F := F) I.a1 I.a3 I.a5 M.i M.j M.same M.l0 M.l1 M.l2 M.tri M.strict M.after I.x1 I.x3 I.x5 k) ((I.at k 3).s0 2)) = stateOut (I.at k 3) M 2 := by
  rw [w116 I M k, w269 I M k]
  generalize (I.at k 3) = A
  rfl

theorem s33 : (k0_pay532 (trip_k0_t1.sl.r_116 (F := F) I.a3 M.tri I.x3 k) (trip_k0_t1.sl.r_270 (F := F) I.a1 I.a3 I.a5 M.i M.j M.same M.l0 M.l1 M.l2 M.tri M.strict M.after I.x1 I.x3 I.x5 k) ((I.at k 3).s0 3)) = stateOut (I.at k 3) M 3 := by
  rw [w116 I M k, w270 I M k]
  generalize (I.at k 3) = A
  rfl

theorem s34 : (k0_pay536 (trip_k0_t1.sl.r_116 (F := F) I.a3 M.tri I.x3 k) (trip_k0_t1.sl.r_271 (F := F) I.a1 I.a3 I.a5 M.i M.j M.same M.l0 M.l1 M.l2 M.tri M.strict M.after I.x1 I.x3 I.x5 k) ((I.at k 3).s0 4)) = stateOut (I.at k 3) M 4 := by
  rw [w116 I M k, w271 I M k]
  generalize (I.at k 3) = A
  rfl

theorem s35 : (k0_pay541 (trip_k0_t1.sl.r_116 (F := F) I.a3 M.tri I.x3 k) (trip_k0_t1.sl.r_272 (F := F) I.a1 I.a3 I.a5 M.i M.j M.same M.l0 M.l1 M.l2 M.tri M.strict M.after I.x1 I.x3 I.x5 k) ((I.at k 3).s0 5)) = stateOut (I.at k 3) M 5 := by
  rw [w116 I M k, w272 I M k]
  generalize (I.at k 3) = A
  rfl

theorem s36 : (k0_pay546 (trip_k0_t1.sl.r_116 (F := F) I.a3 M.tri I.x3 k) (trip_k0_t1.sl.r_273 (F := F) I.a1 I.a3 I.a5 M.i M.j M.same M.l0 M.l1 M.l2 M.tri M.strict M.after I.x1 I.x3 I.x5 k) ((I.at k 3).s0 6)) = stateOut (I.at k 3) M 6 := by
  rw [w116 I M k, w273 I M k]
  generalize (I.at k 3) = A
  rfl

theorem s37 : (k0_pay551 (trip_k0_t1.sl.r_116 (F := F) I.a3 M.tri I.x3 k) (trip_k0_t1.sl.r_274 (F := F) I.a1 I.a3 I.a5 M.i M.j M.same M.l0 M.l1 M.l2 M.tri M.strict M.after I.x1 I.x3 I.x5 k) ((I.at k 3).s0 7)) = stateOut (I.at k 3) M 7 := by
  rw [w116 I M k, w274 I M k]
  generalize (I.at k 3) = A
  rfl

theorem o30 : (k0_pay525 (trip_k0_t1.sl.r_219 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (k0_pay523 (I.at k 3).z) (I.at k 3).wn) = mixOut (I.at k 3) M 0 := by
  rw [w219 I M k, w238 I M k]
  generalize (I.at k 3) = A
  rfl

theorem o31 : (k0_pay528 (k0_pay527 (trip_k0_t1.sl.r_221 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (k0_pay523 (I.at k 3).z) (I.at k 3).wn)) = mixOut (I.at k 3) M 1 := by
  rw [w221 I M k, w238 I M k]
  generalize (I.at k 3) = A
  rfl

theorem o32 : (k0_pay531 (k0_pay530 (trip_k0_t1.sl.r_222 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (k0_pay523 (I.at k 3).z) (I.at k 3).wn)) = mixOut (I.at k 3) M 2 := by
  rw [w222 I M k, w238 I M k]
  generalize (I.at k 3) = A
  rfl

theorem o33 : (k0_pay535 (k0_pay533 (trip_k0_t1.sl.r_223 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) (trip_k0_t1.sl.r_380 (F := F) I.a2 I.x2 k)) = mixOut (I.at k 3) M 3 := by
  rw [w223 I M k, w238 I M k, w380 I M k]
  generalize (I.at k 3) = A
  rfl

theorem o34 : (k0_pay540 (trip_k0_t1.sl.r_381 (F := F) I.a2 I.x2 k) (k0_pay538 (trip_k0_t1.sl.r_224 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) (k0_pay539 (k0_pay523 (I.at k 3).z)) (trip_k0_t1.sl.cst_1120 (F := F) )) = mixOut (I.at k 3) M 4 := by
  rw [w381 I M k, w224 I M k, w238 I M k]
  generalize (I.at k 3) = A
  rfl

theorem o35 : (k0_pay545 (trip_k0_t1.sl.r_384 (F := F) I.a2 I.x2 k) (k0_pay543 (trip_k0_t1.sl.r_225 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) (k0_pay544 (k0_pay523 (I.at k 3).z)) (trip_k0_t1.sl.cst_1120 (F := F) )) = mixOut (I.at k 3) M 5 := by
  rw [w384 I M k, w225 I M k, w238 I M k]
  generalize (I.at k 3) = A
  rfl

theorem o36 : (k0_pay550 (trip_k0_t1.sl.r_387 (F := F) I.a2 I.x2 k) (k0_pay548 (trip_k0_t1.sl.r_227 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) k0_pay549) = mixOut (I.at k 3) M 6 := by
  rw [w387 I M k, w227 I M k, w238 I M k]
  generalize (I.at k 3) = A
  rfl

theorem o37 : (k0_pay555 (trip_k0_t1.sl.r_389 (F := F) I.a2 I.x2 k) (trip_k0_t1.sl.r_390 (F := F) I.a1 I.a3 I.a5 M.i M.j M.l0 M.l1 M.l2 M.tri M.strict I.x1 I.x3 I.x5 k) (k0_pay554 (I.at k 3).wn)) = mixOut (I.at k 3) M 7 := by
  rw [w389 I M k, w390 I M k]
  generalize (I.at k 3) = A
  rfl

end Cert.Mix
-- ==== Proof.MixerTrip.lean ====
/- A trip's five lists of pieces. -/
module

public import proofs.«01_k».proof.Proof.MixerRow0
public import proofs.«01_k».proof.Proof.MixerRow1
public import proofs.«01_k».proof.Proof.MixerRow2
public import proofs.«01_k».proof.Proof.MixerRow3

@[expose] public section

set_option maxRecDepth 16384

noncomputable section

namespace Cert.Mix

open Cert.MixerIdeal Cert.MixerIdeal.Facts Cert.MixerIdeal.Gen Idealize.ShloMosaic Idealize.SL.Sem

variable {F : FTy → Type} [FloatOps F]

variable (𝒱 : Variants) (c : Dev nD) (bd : Option 𝒱.V) (i : grid0.Coords) (I : Ins F) (M : Masks) (h1 : I.a1.IsWhole) (h2 : I.a2.IsWhole) (h3 : I.a3.IsWhole) (h4 : I.a4.IsWhole) (h5 : I.a5.IsWhole) (h6 : I.a6.IsWhole) (h7 : I.a7.IsWhole) (h8 : I.a8.IsWhole) (h9 : I.a9.IsWhole) (h10 : I.a10.IsWhole) (h11 : I.a11.IsWhole) (arg12 : Memref sig .tc .hbm S2x128x8x128x128 .f32) (h12 : arg12.IsWhole) (arg13 : Memref sig .tc .hbm S2x128x128x256 .f32) (h13 : arg13.IsWhole) (arg14 : Memref sig .tc .hbm S2x128x128x256 .f32) (h14 : arg14.IsWhole) (arg15 : Memref sig .tc .vmem S8x8x1024 .bf16) (h15 : arg15.IsWhole) (arg16 : Memref sig .tc .vmem S1x8x8x128x128 .f32) (h16 : arg16.IsWhole) (arg17 : Memref sig .tc .vmem S8x8x1024 .bf16) (h17 : arg17.IsWhole) (arg18 : Memref sig .tc .vmem S1x8x128x256 .f32) (h18 : arg18.IsWhole) (arg19 : Memref sig .tc .vmem S1x8x128x256 .f32) (h19 : arg19.IsWhole)
  (k : Fin k0_t1_loop.trips)

theorem trip_key : (tripL_k0_t1 (F := F) 𝒱 c bd i I.a1 h1 I.a2 h2 I.a3 h3 I.a4 h4 I.a5 h5 I.a6 h6 I.a7 h7 I.a8 h8 I.a9 h9 I.a10 h10 I.a11 h11 arg12 h12 arg13 h13 arg14 h14 arg15 h15 arg16 h16 arg17 h17 arg18 h18 arg19 h19 M.i M.j M.same M.l0 M.l1 M.l2 M.tri M.strict M.after I.x1 I.x2 I.x3 I.x4 I.x5 I.x6 I.x7 I.x8 I.x9 I.x10 I.x11 k).2.2.2.1 = keyPieces (I.at k) k := by
  sl_kernel_rfl

theorem trip_value : (tripL_k0_t1 (F := F) 𝒱 c bd i I.a1 h1 I.a2 h2 I.a3 h3 I.a4 h4 I.a5 h5 I.a6 h6 I.a7 h7 I.a8 h8 I.a9 h9 I.a10 h10 I.a11 h11 arg12 h12 arg13 h13 arg14 h14 arg15 h15 arg16 h16 arg17 h17 arg18 h18 arg19 h19 M.i M.j M.same M.l0 M.l1 M.l2 M.tri M.strict M.after I.x1 I.x2 I.x3 I.x4 I.x5 I.x6 I.x7 I.x8 I.x9 I.x10 I.x11 k).2.2.2.2 = valuePieces (I.at k) k := by
  sl_kernel_rfl

theorem trip_att : (tripL_k0_t1 (F := F) 𝒱 c bd i I.a1 h1 I.a2 h2 I.a3 h3 I.a4 h4 I.a5 h5 I.a6 h6 I.a7 h7 I.a8 h8 I.a9 h9 I.a10 h10 I.a11 h11 arg12 h12 arg13 h13 arg14 h14 arg15 h15 arg16 h16 arg17 h17 arg18 h18 arg19 h19 M.i M.j M.same M.l0 M.l1 M.l2 M.tri M.strict M.after I.x1 I.x2 I.x3 I.x4 I.x5 I.x6 I.x7 I.x8 I.x9 I.x10 I.x11 k).2.2.1 = attPieces (I.at k) k := by
  sl_kernel_rfl

theorem trip_state : (tripL_k0_t1 (F := F) 𝒱 c bd i I.a1 h1 I.a2 h2 I.a3 h3 I.a4 h4 I.a5 h5 I.a6 h6 I.a7 h7 I.a8 h8 I.a9 h9 I.a10 h10 I.a11 h11 arg12 h12 arg13 h13 arg14 h14 arg15 h15 arg16 h16 arg17 h17 arg18 h18 arg19 h19 M.i M.j M.same M.l0 M.l1 M.l2 M.tri M.strict M.after I.x1 I.x2 I.x3 I.x4 I.x5 I.x6 I.x7 I.x8 I.x9 I.x10 I.x11 k).2.1 = statePieces (I.at k) M k := by
  have e : (tripL_k0_t1 (F := F) 𝒱 c bd i I.a1 h1 I.a2 h2 I.a3 h3 I.a4 h4 I.a5 h5 I.a6 h6 I.a7 h7 I.a8 h8 I.a9 h9 I.a10 h10 I.a11 h11 arg12 h12 arg13 h13 arg14 h14 arg15 h15 arg16 h16 arg17 h17 arg18 h18 arg19 h19 M.i M.j M.same M.l0 M.l1 M.l2 M.tri M.strict M.after I.x1 I.x2 I.x3 I.x4 I.x5 I.x6 I.x7 I.x8 I.x9 I.x10 I.x11 k).2.1 = [⟨Rect.unit (offState k 3 7) S1x1x1x128x128.size (offState_inb k 3 7), (k0_pay551 (trip_k0_t1.sl.r_116 (F := F) I.a3 M.tri I.x3 k) (trip_k0_t1.sl.r_274 (F := F) I.a1 I.a3 I.a5 M.i M.j M.same M.l0 M.l1 M.l2 M.tri M.strict M.after I.x1 I.x3 I.x5 k) ((I.at k 3).s0 7))⟩, ⟨Rect.unit (offState k 3 6) S1x1x1x128x128.size (offState_inb k 3 6), (k0_pay546 (trip_k0_t1.sl.r_116 (F := F) I.a3 M.tri I.x3 k) (trip_k0_t1.sl.r_273 (F := F) I.a1 I.a3 I.a5 M.i M.j M.same M.l0 M.l1 M.l2 M.tri M.strict M.after I.x1 I.x3 I.x5 k) ((I.at k 3).s0 6))⟩, ⟨Rect.unit (offState k 3 5) S1x1x1x128x128.size (offState_inb k 3 5), (k0_pay541 (trip_k0_t1.sl.r_116 (F := F) I.a3 M.tri I.x3 k) (trip_k0_t1.sl.r_272 (F := F) I.a1 I.a3 I.a5 M.i M.j M.same M.l0 M.l1 M.l2 M.tri M.strict M.after I.x1 I.x3 I.x5 k) ((I.at k 3).s0 5))⟩, ⟨Rect.unit (offState k 3 4) S1x1x1x128x128.size (offState_inb k 3 4), (k0_pay536 (trip_k0_t1.sl.r_116 (F := F) I.a3 M.tri I.x3 k) (trip_k0_t1.sl.r_271 (F := F) I.a1 I.a3 I.a5 M.i M.j M.same M.l0 M.l1 M.l2 M.tri M.strict M.after I.x1 I.x3 I.x5 k) ((I.at k 3).s0 4))⟩, ⟨Rect.unit (offState k 3 3) S1x1x1x128x128.size (offState_inb k 3 3), (k0_pay532 (trip_k0_t1.sl.r_116 (F := F) I.a3 M.tri I.x3 k) (trip_k0_t1.sl.r_270 (F := F) I.a1 I.a3 I.a5 M.i M.j M.same M.l0 M.l1 M.l2 M.tri M.strict M.after I.x1 I.x3 I.x5 k) ((I.at k 3).s0 3))⟩, ⟨Rect.unit (offState k 3 2) S1x1x1x128x128.size (offState_inb k 3 2), (k0_pay529 (trip_k0_t1.sl.r_116 (F := F) I.a3 M.tri I.x3 k) (trip_k0_t1.sl.r_269 (F := F) I.a1 I.a3 I.a5 M.i M.j M.same M.l0 M.l1 M.l2 M.tri M.strict M.after I.x1 I.x3 I.x5 k) ((I.at k 3).s0 2))⟩, ⟨Rect.unit (offState k 3 1) S1x1x1x128x128.size (offState_inb k 3 1), (k0_pay526 (trip_k0_t1.sl.r_116 (F := F) I.a3 M.tri I.x3 k) (trip_k0_t1.sl.r_268 (F := F) I.a1 I.a3 I.a5 M.i M.j M.same M.l0 M.l1 M.l2 M.tri M.strict M.after I.x1 I.x3 I.x5 k) ((I.at k 3).s0 1))⟩, ⟨Rect.unit (offState k 3 0) S1x1x1x128x128.size (offState_inb k 3 0), (k0_pay524 (trip_k0_t1.sl.r_116 (F := F) I.a3 M.tri I.x3 k) (trip_k0_t1.sl.r_265 (F := F) I.a1 I.a3 I.a5 M.i M.j M.same M.l0 M.l1 M.l2 M.tri M.strict M.after I.x1 I.x3 I.x5 k) ((I.at k 3).s0 0))⟩, ⟨Rect.unit (offState k 2 7) S1x1x1x128x128.size (offState_inb k 2 7), (k0_pay499 (trip_k0_t1.sl.r_100 (F := F) I.a3 M.tri I.x3 k) (trip_k0_t1.sl.r_264 (F := F) I.a1 I.a3 I.a5 M.i M.j M.same M.l0 M.l1 M.l2 M.tri M.strict M.after I.x1 I.x3 I.x5 k) ((I.at k 2).s0 7))⟩, ⟨Rect.unit (offState k 2 6) S1x1x1x128x128.size (offState_inb k 2 6), (k0_pay493 (trip_k0_t1.sl.r_100 (F := F) I.a3 M.tri I.x3 k) (trip_k0_t1.sl.r_263 (F := F) I.a1 I.a3 I.a5 M.i M.j M.same M.l0 M.l1 M.l2 M.tri M.strict M.after I.x1 I.x3 I.x5 k) ((I.at k 2).s0 6))⟩, ⟨Rect.unit (offState k 2 5) S1x1x1x128x128.size (offState_inb k 2 5), (k0_pay488 (trip_k0_t1.sl.r_100 (F := F) I.a3 M.tri I.x3 k) (trip_k0_t1.sl.r_262 (F := F) I.a1 I.a3 I.a5 M.i M.j M.same M.l0 M.l1 M.l2 M.tri M.strict M.after I.x1 I.x3 I.x5 k) ((I.at k 2).s0 5))⟩, ⟨Rect.unit (offState k 2 4) S1x1x1x128x128.size (offState_inb k 2 4), (k0_pay484 (trip_k0_t1.sl.r_100 (F := F) I.a3 M.tri I.x3 k) (trip_k0_t1.sl.r_261 (F := F) I.a1 I.a3 I.a5 M.i M.j M.same M.l0 M.l1 M.l2 M.tri M.strict M.after I.x1 I.x3 I.x5 k) ((I.at k 2).s0 4))⟩, ⟨Rect.unit (offState k 2 3) S1x1x1x128x128.size (offState_inb k 2 3), (k0_pay479 (trip_k0_t1.sl.r_100 (F := F) I.a3 M.tri I.x3 k) (trip_k0_t1.sl.r_260 (F := F) I.a1 I.a3 I.a5 M.i M.j M.same M.l0 M.l1 M.l2 M.tri M.strict M.after I.x1 I.x3 I.x5 k) ((I.at k 2).s0 3))⟩, ⟨Rect.unit (offState k 2 2) S1x1x1x128x128.size (offState_inb k 2 2), (k0_pay474 (trip_k0_t1.sl.r_100 (F := F) I.a3 M.tri I.x3 k) (trip_k0_t1.sl.r_259 (F := F) I.a1 I.a3 I.a5 M.i M.j M.same M.l0 M.l1 M.l2 M.tri M.strict M.after I.x1 I.x3 I.x5 k) ((I.at k 2).s0 2))⟩, ⟨Rect.unit (offState k 2 1) S1x1x1x128x128.size (offState_inb k 2 1), (k0_pay469 (trip_k0_t1.sl.r_100 (F := F) I.a3 M.tri I.x3 k) (trip_k0_t1.sl.r_258 (F := F) I.a1 I.a3 I.a5 M.i M.j M.same M.l0 M.l1 M.l2 M.tri M.strict M.after I.x1 I.x3 I.x5 k) ((I.at k 2).s0 1))⟩, ⟨Rect.unit (offState k 2 0) S1x1x1x128x128.size (offState_inb k 2 0), (k0_pay466 (trip_k0_t1.sl.r_100 (F := F) I.a3 M.tri I.x3 k) (trip_k0_t1.sl.r_257 (F := F) I.a1 I.a3 I.a5 M.i M.j M.same M.l0 M.l1 M.l2 M.tri M.strict M.after I.x1 I.x3 I.x5 k) ((I.at k 2).s0 0))⟩, ⟨Rect.unit (offState k 1 7) S1x1x1x128x128.size (offState_inb k 1 7), (k0_pay442 (trip_k0_t1.sl.r_81 (F := F) I.a3 M.tri I.x3 k) (trip_k0_t1.sl.r_256 (F := F) I.a1 I.a3 I.a5 M.i M.j M.same M.l0 M.l1 M.l2 M.tri M.strict M.after I.x1 I.x3 I.x5 k) ((I.at k 1).s0 7))⟩, ⟨Rect.unit (offState k 1 6) S1x1x1x128x128.size (offState_inb k 1 6), (k0_pay436 (trip_k0_t1.sl.r_81 (F := F) I.a3 M.tri I.x3 k) (trip_k0_t1.sl.r_255 (F := F) I.a1 I.a3 I.a5 M.i M.j M.same M.l0 M.l1 M.l2 M.tri M.strict M.after I.x1 I.x3 I.x5 k) ((I.at k 1).s0 6))⟩, ⟨Rect.unit (offState k 1 5) S1x1x1x128x128.size (offState_inb k 1 5), (k0_pay429 (trip_k0_t1.sl.r_81 (F := F) I.a3 M.tri I.x3 k) (trip_k0_t1.sl.r_254 (F := F) I.a1 I.a3 I.a5 M.i M.j M.same M.l0 M.l1 M.l2 M.tri M.strict M.after I.x1 I.x3 I.x5 k) ((I.at k 1).s0 5))⟩, ⟨Rect.unit (offState k 1 4) S1x1x1x128x128.size (offState_inb k 1 4), (k0_pay422 (trip_k0_t1.sl.r_81 (F := F) I.a3 M.tri I.x3 k) (trip_k0_t1.sl.r_253 (F := F) I.a1 I.a3 I.a5 M.i M.j M.same M.l0 M.l1 M.l2 M.tri M.strict M.after I.x1 I.x3 I.x5 k) ((I.at k 1).s0 4))⟩, ⟨Rect.unit (offState k 1 3) S1x1x1x128x128.size (offState_inb k 1 3), (k0_pay416 (trip_k0_t1.sl.r_81 (F := F) I.a3 M.tri I.x3 k) (trip_k0_t1.sl.r_252 (F := F) I.a1 I.a3 I.a5 M.i M.j M.same M.l0 M.l1 M.l2 M.tri M.strict M.after I.x1 I.x3 I.x5 k) ((I.at k 1).s0 3))⟩, ⟨Rect.unit (offState k 1 2) S1x1x1x128x128.size (offState_inb k 1 2), (k0_pay412 (trip_k0_t1.sl.r_81 (F := F) I.a3 M.tri I.x3 k) (trip_k0_t1.sl.r_251 (F := F) I.a1 I.a3 I.a5 M.i M.j M.same M.l0 M.l1 M.l2 M.tri M.strict M.after I.x1 I.x3 I.x5 k) ((I.at k 1).s0 2))⟩, ⟨Rect.unit (offState k 1 1) S1x1x1x128x128.size (offState_inb k 1 1), (k0_pay407 (trip_k0_t1.sl.r_81 (F := F) I.a3 M.tri I.x3 k) (trip_k0_t1.sl.r_248 (F := F) I.a1 I.a3 I.a5 M.i M.j M.same M.l0 M.l1 M.l2 M.tri M.strict M.after I.x1 I.x3 I.x5 k) ((I.at k 1).s0 1))⟩, ⟨Rect.unit (offState k 1 0) S1x1x1x128x128.size (offState_inb k 1 0), (k0_pay401 (trip_k0_t1.sl.r_81 (F := F) I.a3 M.tri I.x3 k) (trip_k0_t1.sl.r_247 (F := F) I.a1 I.a3 I.a5 M.i M.j M.same M.l0 M.l1 M.l2 M.tri M.strict M.after I.x1 I.x3 I.x5 k) ((I.at k 1).s0 0))⟩, ⟨Rect.unit (offState k 0 7) S1x1x1x128x128.size (offState_inb k 0 7), (k0_pay379 (trip_k0_t1.sl.r_60 (F := F) I.a3 M.tri I.x3 k) (trip_k0_t1.sl.r_246 (F := F) I.a1 I.a3 I.a5 M.i M.j M.same M.l0 M.l1 M.l2 M.tri M.strict M.after I.x1 I.x3 I.x5 k) ((I.at k 0).s0 7))⟩, ⟨Rect.unit (offState k 0 6) S1x1x1x128x128.size (offState_inb k 0 6), (k0_pay375 (trip_k0_t1.sl.r_60 (F := F) I.a3 M.tri I.x3 k) (trip_k0_t1.sl.r_245 (F := F) I.a1 I.a3 I.a5 M.i M.j M.same M.l0 M.l1 M.l2 M.tri M.strict M.after I.x1 I.x3 I.x5 k) ((I.at k 0).s0 6))⟩, ⟨Rect.unit (offState k 0 5) S1x1x1x128x128.size (offState_inb k 0 5), (k0_pay371 (trip_k0_t1.sl.r_60 (F := F) I.a3 M.tri I.x3 k) (trip_k0_t1.sl.r_244 (F := F) I.a1 I.a3 I.a5 M.i M.j M.same M.l0 M.l1 M.l2 M.tri M.strict M.after I.x1 I.x3 I.x5 k) ((I.at k 0).s0 5))⟩, ⟨Rect.unit (offState k 0 4) S1x1x1x128x128.size (offState_inb k 0 4), (k0_pay365 (trip_k0_t1.sl.r_60 (F := F) I.a3 M.tri I.x3 k) (trip_k0_t1.sl.r_243 (F := F) I.a1 I.a3 I.a5 M.i M.j M.same M.l0 M.l1 M.l2 M.tri M.strict M.after I.x1 I.x3 I.x5 k) ((I.at k 0).s0 4))⟩, ⟨Rect.unit (offState k 0 3) S1x1x1x128x128.size (offState_inb k 0 3), (k0_pay359 (trip_k0_t1.sl.r_60 (F := F) I.a3 M.tri I.x3 k) (trip_k0_t1.sl.r_242 (F := F) I.a1 I.a3 I.a5 M.i M.j M.same M.l0 M.l1 M.l2 M.tri M.strict M.after I.x1 I.x3 I.x5 k) ((I.at k 0).s0 3))⟩, ⟨Rect.unit (offState k 0 2) S1x1x1x128x128.size (offState_inb k 0 2), (k0_pay353 (trip_k0_t1.sl.r_60 (F := F) I.a3 M.tri I.x3 k) (trip_k0_t1.sl.r_241 (F := F) I.a1 I.a3 I.a5 M.i M.j M.same M.l0 M.l1 M.l2 M.tri M.strict M.after I.x1 I.x3 I.x5 k) ((I.at k 0).s0 2))⟩, ⟨Rect.unit (offState k 0 1) S1x1x1x128x128.size (offState_inb k 0 1), (k0_pay347 (trip_k0_t1.sl.r_60 (F := F) I.a3 M.tri I.x3 k) (trip_k0_t1.sl.r_240 (F := F) I.a1 I.a3 I.a5 M.i M.j M.same M.l0 M.l1 M.l2 M.tri M.strict M.after I.x1 I.x3 I.x5 k) ((I.at k 0).s0 1))⟩, ⟨Rect.unit (offState k 0 0) S1x1x1x128x128.size (offState_inb k 0 0), (k0_pay342 (trip_k0_t1.sl.r_60 (F := F) I.a3 M.tri I.x3 k) (trip_k0_t1.sl.r_239 (F := F) I.a1 I.a3 I.a5 M.i M.j M.same M.l0 M.l1 M.l2 M.tri M.strict M.after I.x1 I.x3 I.x5 k) ((I.at k 0).s0 0))⟩] := by sl_kernel_rfl
  rw [e, s37 I M k, s36 I M k, s35 I M k, s34 I M k, s33 I M k, s32 I M k, s31 I M k, s30 I M k, s27 I M k, s26 I M k, s25 I M k, s24 I M k, s23 I M k, s22 I M k, s21 I M k, s20 I M k, s17 I M k, s16 I M k, s15 I M k, s14 I M k, s13 I M k, s12 I M k, s11 I M k, s10 I M k, s07 I M k, s06 I M k, s05 I M k, s04 I M k, s03 I M k, s02 I M k, s01 I M k, s00 I M k]
  rfl

theorem trip_mix : (tripL_k0_t1 (F := F) 𝒱 c bd i I.a1 h1 I.a2 h2 I.a3 h3 I.a4 h4 I.a5 h5 I.a6 h6 I.a7 h7 I.a8 h8 I.a9 h9 I.a10 h10 I.a11 h11 arg12 h12 arg13 h13 arg14 h14 arg15 h15 arg16 h16 arg17 h17 arg18 h18 arg19 h19 M.i M.j M.same M.l0 M.l1 M.l2 M.tri M.strict M.after I.x1 I.x2 I.x3 I.x4 I.x5 I.x6 I.x7 I.x8 I.x9 I.x10 I.x11 k).1 = mixPieces (I.at k) M k := by
  have e : (tripL_k0_t1 (F := F) 𝒱 c bd i I.a1 h1 I.a2 h2 I.a3 h3 I.a4 h4 I.a5 h5 I.a6 h6 I.a7 h7 I.a8 h8 I.a9 h9 I.a10 h10 I.a11 h11 arg12 h12 arg13 h13 arg14 h14 arg15 h15 arg16 h16 arg17 h17 arg18 h18 arg19 h19 M.i M.j M.same M.l0 M.l1 M.l2 M.tri M.strict M.after I.x1 I.x2 I.x3 I.x4 I.x5 I.x6 I.x7 I.x8 I.x9 I.x10 I.x11 k).1 = [⟨Rect.unit (offMix k 3 7) S1x8x128.size (offMix_inb k 3 7), (k0_pay555 (trip_k0_t1.sl.r_389 (F := F) I.a2 I.x2 k) (trip_k0_t1.sl.r_390 (F := F) I.a1 I.a3 I.a5 M.i M.j M.l0 M.l1 M.l2 M.tri M.strict I.x1 I.x3 I.x5 k) (k0_pay554 (I.at k 3).wn))⟩, ⟨Rect.unit (offMix k 3 6) S1x8x128.size (offMix_inb k 3 6), (k0_pay550 (trip_k0_t1.sl.r_387 (F := F) I.a2 I.x2 k) (k0_pay548 (trip_k0_t1.sl.r_227 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) k0_pay549)⟩, ⟨Rect.unit (offMix k 3 5) S1x8x128.size (offMix_inb k 3 5), (k0_pay545 (trip_k0_t1.sl.r_384 (F := F) I.a2 I.x2 k) (k0_pay543 (trip_k0_t1.sl.r_225 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) (k0_pay544 (k0_pay523 (I.at k 3).z)) (trip_k0_t1.sl.cst_1120 (F := F) ))⟩, ⟨Rect.unit (offMix k 3 4) S1x8x128.size (offMix_inb k 3 4), (k0_pay540 (trip_k0_t1.sl.r_381 (F := F) I.a2 I.x2 k) (k0_pay538 (trip_k0_t1.sl.r_224 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) (k0_pay539 (k0_pay523 (I.at k 3).z)) (trip_k0_t1.sl.cst_1120 (F := F) ))⟩, ⟨Rect.unit (offMix k 3 3) S1x8x128.size (offMix_inb k 3 3), (k0_pay535 (k0_pay533 (trip_k0_t1.sl.r_223 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (I.at k 3).wn) (trip_k0_t1.sl.r_380 (F := F) I.a2 I.x2 k))⟩, ⟨Rect.unit (offMix k 3 2) S1x8x128.size (offMix_inb k 3 2), (k0_pay531 (k0_pay530 (trip_k0_t1.sl.r_222 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (k0_pay523 (I.at k 3).z) (I.at k 3).wn))⟩, ⟨Rect.unit (offMix k 3 1) S1x8x128.size (offMix_inb k 3 1), (k0_pay528 (k0_pay527 (trip_k0_t1.sl.r_221 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (k0_pay523 (I.at k 3).z) (I.at k 3).wn))⟩, ⟨Rect.unit (offMix k 3 0) S1x8x128.size (offMix_inb k 3 0), (k0_pay525 (trip_k0_t1.sl.r_219 (F := F) I.a1 I.a3 I.a5 M.i M.j M.l0 M.l1 M.l2 M.tri M.strict I.x1 I.x3 I.x5 k) (trip_k0_t1.sl.r_238 (F := F) I.a1 I.a3 I.a5 M.i M.j M.l0 M.l1 M.l2 M.tri M.strict I.x1 I.x3 I.x5 k) (k0_pay523 (I.at k 3).z) (I.at k 3).wn)⟩, ⟨Rect.unit (offMix k 2 7) S1x8x128.size (offMix_inb k 2 7), (k0_pay504 (trip_k0_t1.sl.r_370 (F := F) I.a1 I.a3 I.a5 M.i M.j M.l0 M.l1 M.l2 M.tri M.strict I.x1 I.x3 I.x5 k) (trip_k0_t1.sl.r_371 (F := F) I.a2 I.x2 k) (k0_pay502 (I.at k 2).wn) (k0_pay503 (trip_k0_t1.sl.r_218 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k)))⟩, ⟨Rect.unit (offMix k 2 6) S1x8x128.size (offMix_inb k 2 6), (k0_pay498 (trip_k0_t1.sl.r_366 (F := F) I.a1 I.a3 I.a5 M.i M.j M.l0 M.l1 M.l2 M.tri M.strict I.x1 I.x3 I.x5 k) (trip_k0_t1.sl.r_367 (F := F) I.a2 I.x2 k) (k0_pay496 (I.at k 2).wn) (k0_pay497 (trip_k0_t1.sl.r_217 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k)))⟩, ⟨Rect.unit (offMix k 2 5) S1x8x128.size (offMix_inb k 2 5), (k0_pay492 (trip_k0_t1.sl.r_363 (F := F) I.a2 I.x2 k) (k0_pay490 (I.at k 2).wn) (trip_k0_t1.sl.r_365 (F := F) I.a1 I.a3 I.a5 M.i M.j M.l0 M.l1 M.l2 M.tri M.strict I.x1 I.x3 I.x5 k))⟩, ⟨Rect.unit (offMix k 2 4) S1x8x128.size (offMix_inb k 2 4), (k0_pay487 (trip_k0_t1.sl.r_361 (F := F) I.a2 I.x2 k) (k0_pay486 (trip_k0_t1.sl.r_215 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (trip_k0_t1.sl.cst_76 (F := F) ))⟩, ⟨Rect.unit (offMix k 2 3) S1x8x128.size (offMix_inb k 2 3), (k0_pay483 (trip_k0_t1.sl.r_358 (F := F) I.a2 I.x2 k) (k0_pay481 (trip_k0_t1.sl.r_212 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (k0_pay482 (k0_pay465 (I.at k 2).z)))⟩, ⟨Rect.unit (offMix k 2 2) S1x8x128.size (offMix_inb k 2 2), (k0_pay478 (trip_k0_t1.sl.r_355 (F := F) I.a2 I.x2 k) (k0_pay476 (trip_k0_t1.sl.r_211 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (k0_pay477 (k0_pay465 (I.at k 2).z)))⟩, ⟨Rect.unit (offMix k 2 1) S1x8x128.size (offMix_inb k 2 1), (k0_pay473 (trip_k0_t1.sl.r_352 (F := F) I.a2 I.x2 k) (k0_pay471 (trip_k0_t1.sl.r_210 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).wn) (k0_pay472 (k0_pay465 (I.at k 2).z)))⟩, ⟨Rect.unit (offMix k 2 0) S1x8x128.size (offMix_inb k 2 0), (k0_pay468 (k0_pay467 (trip_k0_t1.sl.r_209 (F := F) I.a1 I.a3 I.a5 M.i M.j M.l0 M.l1 M.l2 M.tri M.strict I.x1 I.x3 I.x5 k) (trip_k0_t1.sl.r_237 (F := F) I.a1 I.a3 I.a5 M.i M.j M.l0 M.l1 M.l2 M.tri M.strict I.x1 I.x3 I.x5 k) (I.at k 2).z (I.at k 2).wn))⟩, ⟨Rect.unit (offMix k 1 7) S1x8x128.size (offMix_inb k 1 7), (k0_pay446 (trip_k0_t1.sl.r_345 (F := F) I.a1 I.a3 I.a5 M.i M.j M.l0 M.l1 M.l2 M.tri M.strict I.x1 I.x3 I.x5 k) (trip_k0_t1.sl.r_346 (F := F) I.a2 I.x2 k) (k0_pay445 (I.at k 1).wn))⟩, ⟨Rect.unit (offMix k 1 6) S1x8x128.size (offMix_inb k 1 6), (k0_pay441 (trip_k0_t1.sl.r_341 (F := F) I.a1 I.a3 I.a5 M.i M.j M.l0 M.l1 M.l2 M.tri M.strict I.x1 I.x3 I.x5 k) (trip_k0_t1.sl.r_342 (F := F) I.a2 I.x2 k) (k0_pay439 (I.at k 1).wn) (k0_pay440 (trip_k0_t1.sl.r_206 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)))⟩, ⟨Rect.unit (offMix k 1 5) S1x8x128.size (offMix_inb k 1 5), (k0_pay435 (trip_k0_t1.sl.r_337 (F := F) I.a1 I.a3 I.a5 M.i M.j M.l0 M.l1 M.l2 M.tri M.strict I.x1 I.x3 I.x5 k) (trip_k0_t1.sl.r_338 (F := F) I.a2 I.x2 k) (k0_pay432 (I.at k 1).wn) (k0_pay433 (trip_k0_t1.sl.r_205 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) k0_pay434)⟩, ⟨Rect.unit (offMix k 1 4) S1x8x128.size (offMix_inb k 1 4), (k0_pay428 (trip_k0_t1.sl.r_333 (F := F) I.a1 I.a3 I.a5 M.i M.j M.l0 M.l1 M.l2 M.tri M.strict I.x1 I.x3 I.x5 k) (trip_k0_t1.sl.r_334 (F := F) I.a2 I.x2 k) (k0_pay425 (I.at k 1).wn) (k0_pay426 (trip_k0_t1.sl.r_204 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)) k0_pay427)⟩, ⟨Rect.unit (offMix k 1 3) S1x8x128.size (offMix_inb k 1 3), (k0_pay421 (trip_k0_t1.sl.r_329 (F := F) I.a1 I.a3 I.a5 M.i M.j M.l0 M.l1 M.l2 M.tri M.strict I.x1 I.x3 I.x5 k) (trip_k0_t1.sl.r_330 (F := F) I.a2 I.x2 k) (k0_pay419 (I.at k 1).wn) (k0_pay420 (trip_k0_t1.sl.r_203 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k)))⟩, ⟨Rect.unit (offMix k 1 2) S1x8x128.size (offMix_inb k 1 2), (k0_pay415 (trip_k0_t1.sl.r_327 (F := F) I.a2 I.x2 k) (k0_pay414 (trip_k0_t1.sl.r_201 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k) (I.at k 1).wn))⟩, ⟨Rect.unit (offMix k 1 1) S1x8x128.size (offMix_inb k 1 1), (k0_pay411 (trip_k0_t1.sl.r_324 (F := F) I.a2 I.x2 k) (k0_pay409 (trip_k0_t1.sl.r_200 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k) (I.at k 1).wn) (k0_pay410 (k0_pay400 (I.at k 1).z)))⟩, ⟨Rect.unit (offMix k 1 0) S1x8x128.size (offMix_inb k 1 0), (k0_pay406 (trip_k0_t1.sl.r_321 (F := F) I.a2 I.x2 k) (k0_pay403 (trip_k0_t1.sl.r_199 (F := F) I.a1 I.a3 I.a5 M.i M.j M.l0 M.l1 M.l2 M.tri M.strict I.x1 I.x3 I.x5 k) (trip_k0_t1.sl.r_236 (F := F) I.a1 I.a3 I.a5 M.i M.j M.l0 M.l1 M.l2 M.tri M.strict I.x1 I.x3 I.x5 k) (I.at k 1).wn) (k0_pay404 (I.at k 1).z) k0_pay405)⟩, ⟨Rect.unit (offMix k 0 7) S1x8x128.size (offMix_inb k 0 7), (k0_pay381 (trip_k0_t1.sl.r_235 (F := F) I.a1 I.a3 I.a5 M.i M.j M.l0 M.l1 M.l2 M.tri M.strict I.x1 I.x3 I.x5 k) (k0_pay341 (I.at k 0).z) (k0_pay380 (trip_k0_t1.sl.r_198 (F := F) I.a1 I.a3 I.a5 M.i M.j M.l0 M.l1 M.l2 M.tri M.strict I.x1 I.x3 I.x5 k)) (I.at k 0).wn)⟩, ⟨Rect.unit (offMix k 0 6) S1x8x128.size (offMix_inb k 0 6), (k0_pay378 (trip_k0_t1.sl.r_315 (F := F) I.a1 I.a3 I.a5 M.i M.j M.l0 M.l1 M.l2 M.tri M.strict I.x1 I.x3 I.x5 k) (trip_k0_t1.sl.r_316 (F := F) I.a2 I.x2 k) (I.at k 0).wn)⟩, ⟨Rect.unit (offMix k 0 5) S1x8x128.size (offMix_inb k 0 5), (k0_pay374 (trip_k0_t1.sl.r_312 (F := F) I.a1 I.a3 I.a5 M.i M.j M.l0 M.l1 M.l2 M.tri M.strict I.x1 I.x3 I.x5 k) (trip_k0_t1.sl.r_313 (F := F) I.a2 I.x2 k) (I.at k 0).wn)⟩, ⟨Rect.unit (offMix k 0 4) S1x8x128.size (offMix_inb k 0 4), (k0_pay370 (trip_k0_t1.sl.r_308 (F := F) I.a1 I.a3 I.a5 M.i M.j M.l0 M.l1 M.l2 M.tri M.strict I.x1 I.x3 I.x5 k) (trip_k0_t1.sl.r_309 (F := F) I.a2 I.x2 k) (k0_pay368 (I.at k 0).wn) (k0_pay369 (trip_k0_t1.sl.r_195 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)))⟩, ⟨Rect.unit (offMix k 0 3) S1x8x128.size (offMix_inb k 0 3), (k0_pay364 (trip_k0_t1.sl.r_304 (F := F) I.a1 I.a3 I.a5 M.i M.j M.l0 M.l1 M.l2 M.tri M.strict I.x1 I.x3 I.x5 k) (trip_k0_t1.sl.r_305 (F := F) I.a2 I.x2 k) (k0_pay362 (I.at k 0).wn) (k0_pay363 (trip_k0_t1.sl.r_194 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) (trip_k0_t1.sl.cst_577 (F := F) ))⟩, ⟨Rect.unit (offMix k 0 2) S1x8x128.size (offMix_inb k 0 2), (k0_pay358 (trip_k0_t1.sl.r_300 (F := F) I.a1 I.a3 I.a5 M.i M.j M.l0 M.l1 M.l2 M.tri M.strict I.x1 I.x3 I.x5 k) (trip_k0_t1.sl.r_301 (F := F) I.a2 I.x2 k) (k0_pay356 (I.at k 0).wn) (k0_pay357 (trip_k0_t1.sl.r_193 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)) (trip_k0_t1.sl.cst_561 (F := F) ))⟩, ⟨Rect.unit (offMix k 0 1) S1x8x128.size (offMix_inb k 0 1), (k0_pay352 (trip_k0_t1.sl.r_296 (F := F) I.a1 I.a3 I.a5 M.i M.j M.l0 M.l1 M.l2 M.tri M.strict I.x1 I.x3 I.x5 k) (trip_k0_t1.sl.r_297 (F := F) I.a2 I.x2 k) (k0_pay350 (I.at k 0).wn) (k0_pay351 (trip_k0_t1.sl.r_191 (F := F) I.a1 I.a3 I.a5 M.i M.j M.l0 M.l1 M.l2 M.tri M.strict I.x1 I.x3 I.x5 k) (trip_k0_t1.sl.r_235 (F := F) I.a1 I.a3 I.a5 M.i M.j M.l0 M.l1 M.l2 M.tri M.strict I.x1 I.x3 I.x5 k)))⟩, ⟨Rect.unit (offMix k 0 0) S1x8x128.size (offMix_inb k 0 0), (k0_pay346 (trip_k0_t1.sl.r_293 (F := F) I.a2 I.x2 k) (trip_k0_t1.sl.r_294 (F := F) I.a1 I.a3 I.a5 M.i M.j M.l0 M.l1 M.l2 M.tri M.strict I.x1 I.x3 I.x5 k) (k0_pay345 (I.at k 0).wn))⟩] := by sl_kernel_rfl
  rw [e, o37 I M k, o36 I M k, o35 I M k, o34 I M k, o33 I M k, o32 I M k, o31 I M k, o30 I M k, o27 I M k, o26 I M k, o25 I M k, o24 I M k, o23 I M k, o22 I M k, o21 I M k, o20 I M k, o17 I M k, o16 I M k, o15 I M k, o14 I M k, o13 I M k, o12 I M k, o11 I M k, o10 I M k, o07 I M k, o06 I M k, o05 I M k, o04 I M k, o03 I M k, o02 I M k, o01 I M k, o00 I M k]
  rfl

end Cert.Mix
-- ==== Proof.MixerBlock.lean ====
/- What the mixer kernel stores at a grid point: the rows of its blocks, each by MixerStage.lean's stages of what stands in the
   blocks of that row. -/
module

public import proofs.«01_k».proof.Proof.Gen.MixerIdeal.Frame
public import proofs.«01_k».proof.Proof.MixerTrip
public import Idealize.ShloMosaic.Lib.Pipeline.ValueKit

@[expose] public section

set_option maxRecDepth 16384

noncomputable section

namespace Cert.Mix

open Cert.MixerIdeal Cert.MixerIdeal.Facts Cert.MixerIdeal.Gen Idealize.ShloMosaic Idealize.SL.Sem

variable {F : FTy → Type} [FloatOps F]

/-- The masks the kernel builds. -/
def kernelMasks : Masks where
  i := iota .tc S64x64 32 [0] iota_S64x64_d0_w32
  j := iota .tc S64x64 32 [1] iota_S64x64_d1_w32
  same := k0_pay573
  l0 := k0_pay574
  l1 := k0_pay575
  l2 := k0_pay576
  tri := k0_pay577
  strict := k0_pay578
  after := k0_pay579

/-- The blocks a grid point reads. -/
structure Blocks (F : FTy → Type) [FloatOps F] where
  x0 : Vec F S8x8x3072 .f32
  x1 : Vec F S8x8x1024 .f32
  x2 : Vec F S8x8x128 .f32
  x3 : Vec F S1x128 .f32
  x4 : Vec F S1x8x8x128x128 .f32
  x5 : Vec F S8x8x1024 .bf16
  x6 : Vec F S8x8x256 .f32
  x7 : Vec F S8x8x256 .f32
  x8 : Vec F S1x8x128x256 .f32
  x9 : Vec F S1x8x128x256 .f32
  x10 : Vec F S4x136x32 .f32

/-- Row `r` of the blocks. -/
def Blocks.row (X : Blocks F) (r : Fin 8) : Loads F where
  cs i := X.x0 (ix3 r (i 1) (i 2))
  z i := X.x1 (ix3 r (i 1) (i 2))
  gb i := X.x2 (ix3 r (i 1) (i 2))
  wn := X.x3
  s0 h i := X.x4 (ix5 0 r h (i 3) (i 4))
  q i := X.x5 (ix3 r (i 1) (i 2))
  kn i := X.x6 (ix3 r (i 1) (i 2))
  vn i := X.x7 (ix3 r (i 1) (i 2))
  kc i := X.x8 (ix4 0 r (i 2) (i 3))
  vc i := X.x9 (ix4 0 r (i 2) (i 3))
  bias h i := X.x10 (ix3 h (i 1) (i 2))

/-- Buffers that hold the blocks. -/
def insOf (arg1 : Memref sig .tc .vmem S8x8x3072 .f32) (harg1 : arg1.IsWhole) (arg2 : Memref sig .tc .vmem S8x8x1024 .f32) (harg2 : arg2.IsWhole) (arg3 : Memref sig .tc .vmem S8x8x128 .f32) (harg3 : arg3.IsWhole) (arg4 : Memref sig .tc .vmem S1x128 .f32) (harg4 : arg4.IsWhole) (arg5 : Memref sig .tc .vmem S1x8x8x128x128 .f32) (harg5 : arg5.IsWhole) (arg6 : Memref sig .tc .vmem S8x8x1024 .bf16) (harg6 : arg6.IsWhole) (arg7 : Memref sig .tc .vmem S8x8x256 .f32) (harg7 : arg7.IsWhole) (arg8 : Memref sig .tc .vmem S8x8x256 .f32) (harg8 : arg8.IsWhole) (arg9 : Memref sig .tc .vmem S1x8x128x256 .f32) (harg9 : arg9.IsWhole) (arg10 : Memref sig .tc .vmem S1x8x128x256 .f32) (harg10 : arg10.IsWhole) (arg11 : Memref sig .tc .vmem S4x136x32 .f32) (harg11 : arg11.IsWhole) (X : Blocks F) : Ins F :=
  ⟨arg1, arg2, arg3, arg4, arg5, arg6, arg7, arg8, arg9, arg10, arg11, harg1.unread X.x0, harg2.unread X.x1, harg3.unread X.x2, harg4.unread X.x3, harg5.unread X.x4, harg6.unread X.x5, harg7.unread X.x6, harg8.unread X.x7, harg9.unread X.x8, harg10.unread X.x9, harg11.unread X.x10⟩

/-! ## Where a trip's rows stand -/

theorem off1_eq : ∀ (k : Fin k0_t1_loop.trips) (d : Fin 4), offWin k d = ![0, 4 * k.val + d.val, 0, 0] := by decide +kernel
theorem off2_eq : ∀ (k : Fin k0_t1_loop.trips) (d : Fin 4), k0_off2 k (BitVec.ofNat 32 d.val) = ![4 * k.val + d.val, 0, 0] := by decide +kernel
theorem off3_eq : ∀ (k : Fin k0_t1_loop.trips) (d : Fin 4), k0_off3 k (BitVec.ofNat 32 d.val) = ![4 * k.val + d.val, 0, 0] := by decide +kernel
theorem off4_eq : ∀ (k : Fin k0_t1_loop.trips) (d : Fin 4), k0_off4 k (BitVec.ofNat 32 d.val) = ![4 * k.val + d.val, 0, 0] := by decide +kernel
theorem off5_eq : ∀ (k : Fin k0_t1_loop.trips) (d : Fin 4), k0_off5 k (BitVec.ofNat 32 d.val) = ![4 * k.val + d.val, 0, 0] := by decide +kernel
theorem offState_eq : ∀ (k : Fin k0_t1_loop.trips) (d : Fin 4) (h : Fin 8), offState k d h = ![0, 4 * k.val + d.val, h.val, 0, 0] := by decide +kernel
theorem offMix_eq : ∀ (k : Fin k0_t1_loop.trips) (d : Fin 4) (h : Fin 8), offMix k d h = ![4 * k.val + d.val, 0, 128 * h.val] := by decide +kernel
theorem offAtt_eq : ∀ (k : Fin k0_t1_loop.trips) (d : Fin 4) (h : Fin 16), offAtt k d h = ![4 * k.val + d.val, 0, 64 * h.val] := by decide +kernel

/-- The first trip. -/
def trip0 : Fin k0_t1_loop.trips := ⟨0, by decide⟩
/-- The second trip. -/
def trip1 : Fin k0_t1_loop.trips := ⟨1, by decide⟩

/-- The row of the blocks that is row `d` of trip `k`. -/
def rowOf (k : Fin k0_t1_loop.trips) (d : Fin 4) : Fin 8 := ⟨4 * k.val + d.val, by have h : k.val < 2 := k.isLt; omega⟩

section
variable (c : Dev nD) (i : grid0.Coords) (arg1 : Memref sig .tc .vmem S8x8x3072 .f32) (harg1 : arg1.IsWhole) (arg2 : Memref sig .tc .vmem S8x8x1024 .f32) (harg2 : arg2.IsWhole) (arg3 : Memref sig .tc .vmem S8x8x128 .f32) (harg3 : arg3.IsWhole) (arg4 : Memref sig .tc .vmem S1x128 .f32) (harg4 : arg4.IsWhole) (arg5 : Memref sig .tc .vmem S1x8x8x128x128 .f32) (harg5 : arg5.IsWhole) (arg6 : Memref sig .tc .vmem S8x8x1024 .bf16) (harg6 : arg6.IsWhole) (arg7 : Memref sig .tc .vmem S8x8x256 .f32) (harg7 : arg7.IsWhole) (arg8 : Memref sig .tc .vmem S8x8x256 .f32) (harg8 : arg8.IsWhole) (arg9 : Memref sig .tc .vmem S1x8x128x256 .f32) (harg9 : arg9.IsWhole) (arg10 : Memref sig .tc .vmem S1x8x128x256 .f32) (harg10 : arg10.IsWhole) (arg11 : Memref sig .tc .vmem S4x136x32 .f32) (harg11 : arg11.IsWhole) (arg15 : Memref sig .tc .vmem S8x8x1024 .bf16) (harg15 : arg15.IsWhole) (arg16 : Memref sig .tc .vmem S1x8x8x128x128 .f32) (harg16 : arg16.IsWhole) (arg17 : Memref sig .tc .vmem S8x8x1024 .bf16) (harg17 : arg17.IsWhole) (arg18 : Memref sig .tc .vmem S1x8x128x256 .f32) (harg18 : arg18.IsWhole) (arg19 : Memref sig .tc .vmem S1x8x128x256 .f32) (harg19 : arg19.IsWhole) (X : Blocks F)

/-- A trip loads rows of the blocks. -/
theorem at_eq (k : Fin k0_t1_loop.trips) (d : Fin 4) : (insOf arg1 harg1 arg2 harg2 arg3 harg3 arg4 harg4 arg5 harg5 arg6 harg6 arg7 harg7 arg8 harg8 arg9 harg9 arg10 harg10 arg11 harg11 X).at k d = X.row (rowOf k d) := by
  unfold Ins.at Blocks.row insOf rowOf
  congr 1
  · funext x; dsimp only; rw [View.readAt_eq_ld, harg1.read_unread]; refine View.ld_unit_apply_of _ _ _ _ x _ fun a => ?_
    refine Eq.trans ?_ (congrArg (· + (x a).val) (congrFun (off4_eq k d) a).symm); have := (x 0).isLt; fin_cases a <;> simp [ix3]
  · funext x; dsimp only; rw [View.readAt_eq_ld, harg2.read_unread]; refine View.ld_unit_apply_of _ _ _ _ x _ fun a => ?_
    refine Eq.trans ?_ (congrArg (· + (x a).val) (congrFun (off3_eq k d) a).symm); have := (x 0).isLt; fin_cases a <;> simp [ix3]
  · funext x; dsimp only; rw [View.readAt_eq_ld, harg3.read_unread]; refine View.ld_unit_apply_of _ _ _ _ x _ fun a => ?_
    refine Eq.trans ?_ (congrArg (· + (x a).val) (congrFun (off5_eq k d) a).symm); have := (x 0).isLt; fin_cases a <;> simp [ix3]
  · funext x; dsimp only; rw [View.readAt_eq_ld, harg4.read_unread]; refine View.ld_unit_apply_of _ _ _ _ x _ fun a => ?_
    fin_cases a <;> simp
  · funext h x; dsimp only; rw [View.readAt_eq_ld, harg5.read_unread]; refine View.ld_unit_apply_of _ _ _ _ x _ fun a => ?_
    refine Eq.trans ?_ (congrArg (· + (x a).val) (congrFun (offState_eq k d h) a).symm); have := (x 0).isLt; have := (x 1).isLt; have := (x 2).isLt; fin_cases a <;> simp [ix5] <;> omega
  · funext x; dsimp only; rw [View.readAt_eq_ld, harg6.read_unread]; refine View.ld_unit_apply_of _ _ _ _ x _ fun a => ?_
    refine Eq.trans ?_ (congrArg (· + (x a).val) (congrFun (off3_eq k d) a).symm); have := (x 0).isLt; fin_cases a <;> simp [ix3]
  · funext x; dsimp only; rw [View.readAt_eq_ld, harg7.read_unread]; refine View.ld_unit_apply_of _ _ _ _ x _ fun a => ?_
    refine Eq.trans ?_ (congrArg (· + (x a).val) (congrFun (off2_eq k d) a).symm); have := (x 0).isLt; fin_cases a <;> simp [ix3]
  · funext x; dsimp only; rw [View.readAt_eq_ld, harg8.read_unread]; refine View.ld_unit_apply_of _ _ _ _ x _ fun a => ?_
    refine Eq.trans ?_ (congrArg (· + (x a).val) (congrFun (off2_eq k d) a).symm); have := (x 0).isLt; fin_cases a <;> simp [ix3]
  · funext x; dsimp only; rw [View.readAt_eq_ld, harg9.read_unread]; refine View.ld_unit_apply_of _ _ _ _ x _ fun a => ?_
    refine Eq.trans ?_ (congrArg (· + (x a).val) (congrFun (off1_eq k d) a).symm); have := (x 0).isLt; have := (x 1).isLt; fin_cases a <;> simp [ix4]
  · funext x; dsimp only; rw [View.readAt_eq_ld, harg10.read_unread]; refine View.ld_unit_apply_of _ _ _ _ x _ fun a => ?_
    refine Eq.trans ?_ (congrArg (· + (x a).val) (congrFun (off1_eq k d) a).symm); have := (x 0).isLt; have := (x 1).isLt; fin_cases a <;> simp [ix4]
  · funext h x; dsimp only; rw [View.readAt_eq_ld, harg11.read_unread]; refine View.ld_unit_apply_of _ _ _ _ x _ fun a => ?_
    have := (x 0).isLt; fin_cases a <;> simp [ix3]

/-- The pieces of output 11: the second trip's, then the first's. -/
theorem pieces11 : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).1
    = mixPieces ((insOf arg1 harg1 arg2 harg2 arg3 harg3 arg4 harg4 arg5 harg5 arg6 harg6 arg7 harg7 arg8 harg8 arg9 harg9 arg10 harg10 arg11 harg11 X).at trip1) kernelMasks trip1 ++ (mixPieces ((insOf arg1 harg1 arg2 harg2 arg3 harg3 arg4 harg4 arg5 harg5 arg6 harg6 arg7 harg7 arg8 harg8 arg9 harg9 arg10 harg10 arg11 harg11 X).at trip0) kernelMasks trip0 ++ []) := by
  have e : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).1 = (pb_k0_t1 (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) 2).1 := by sl_kernel_rfl
  rw [e]
  have e2 := congrArg (fun p => p.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip1)
  have e1 := congrArg (fun p => p.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip0)
  have t1 := trip_mix (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip1
  have t0 := trip_mix (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip0
  exact e2.trans (congrArg₂ (· ++ ·) t1 (e1.trans (congrArg₂ (· ++ ·) t0 rfl)))

/-- The pieces of output 12: the second trip's, then the first's. -/
theorem pieces12 : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.1
    = statePieces ((insOf arg1 harg1 arg2 harg2 arg3 harg3 arg4 harg4 arg5 harg5 arg6 harg6 arg7 harg7 arg8 harg8 arg9 harg9 arg10 harg10 arg11 harg11 X).at trip1) kernelMasks trip1 ++ (statePieces ((insOf arg1 harg1 arg2 harg2 arg3 harg3 arg4 harg4 arg5 harg5 arg6 harg6 arg7 harg7 arg8 harg8 arg9 harg9 arg10 harg10 arg11 harg11 X).at trip0) kernelMasks trip0 ++ []) := by
  have e : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.1 = (pb_k0_t1 (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) 2).2.1 := by sl_kernel_rfl
  rw [e]
  have e2 := congrArg (fun p => p.2.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip1)
  have e1 := congrArg (fun p => p.2.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip0)
  have t1 := trip_state (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip1
  have t0 := trip_state (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip0
  exact e2.trans (congrArg₂ (· ++ ·) t1 (e1.trans (congrArg₂ (· ++ ·) t0 rfl)))

/-- The pieces of output 13: the second trip's, then the first's. -/
theorem pieces13 : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.2.1
    = attPieces ((insOf arg1 harg1 arg2 harg2 arg3 harg3 arg4 harg4 arg5 harg5 arg6 harg6 arg7 harg7 arg8 harg8 arg9 harg9 arg10 harg10 arg11 harg11 X).at trip1) trip1 ++ (attPieces ((insOf arg1 harg1 arg2 harg2 arg3 harg3 arg4 harg4 arg5 harg5 arg6 harg6 arg7 harg7 arg8 harg8 arg9 harg9 arg10 harg10 arg11 harg11 X).at trip0) trip0 ++ []) := by
  have e : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.2.1 = (pb_k0_t1 (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) 2).2.2.1 := by sl_kernel_rfl
  rw [e]
  have e2 := congrArg (fun p => p.2.2.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip1)
  have e1 := congrArg (fun p => p.2.2.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip0)
  have t1 := trip_att (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip1
  have t0 := trip_att (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip0
  exact e2.trans (congrArg₂ (· ++ ·) t1 (e1.trans (congrArg₂ (· ++ ·) t0 rfl)))

/-- The pieces of output 14: the second trip's, then the first's. -/
theorem pieces14 : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.2.2.1
    = keyPieces ((insOf arg1 harg1 arg2 harg2 arg3 harg3 arg4 harg4 arg5 harg5 arg6 harg6 arg7 harg7 arg8 harg8 arg9 harg9 arg10 harg10 arg11 harg11 X).at trip1) trip1 ++ (keyPieces ((insOf arg1 harg1 arg2 harg2 arg3 harg3 arg4 harg4 arg5 harg5 arg6 harg6 arg7 harg7 arg8 harg8 arg9 harg9 arg10 harg10 arg11 harg11 X).at trip0) trip0 ++ []) := by
  have e : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.2.2.1 = (pb_k0_t1 (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) 2).2.2.2.1 := by sl_kernel_rfl
  rw [e]
  have e2 := congrArg (fun p => p.2.2.2.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip1)
  have e1 := congrArg (fun p => p.2.2.2.1) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip0)
  have t1 := trip_key (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip1
  have t0 := trip_key (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip0
  exact e2.trans (congrArg₂ (· ++ ·) t1 (e1.trans (congrArg₂ (· ++ ·) t0 rfl)))

/-- The pieces of output 15: the second trip's, then the first's. -/
theorem pieces15 : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.2.2.2.1
    = valuePieces ((insOf arg1 harg1 arg2 harg2 arg3 harg3 arg4 harg4 arg5 harg5 arg6 harg6 arg7 harg7 arg8 harg8 arg9 harg9 arg10 harg10 arg11 harg11 X).at trip1) trip1 ++ (valuePieces ((insOf arg1 harg1 arg2 harg2 arg3 harg3 arg4 harg4 arg5 harg5 arg6 harg6 arg7 harg7 arg8 harg8 arg9 harg9 arg10 harg10 arg11 harg11 X).at trip0) trip0 ++ []) := by
  have e : (kernelRun0_A c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10).2.2.2.2.1 = (pb_k0_t1 (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) 2).2.2.2.2 := by sl_kernel_rfl
  rw [e]
  have e2 := congrArg (fun p => p.2.2.2.2) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip1)
  have e1 := congrArg (fun p => p.2.2.2.2) (pb_k0_t1_succ (F := F) Variants.none c none i arg1 harg1 arg2 harg2 arg3 harg3 arg4 harg4 arg5 harg5 arg6 harg6 arg7 harg7 arg8 harg8 arg9 harg9 arg10 harg10 arg11 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 kernelMasks.i kernelMasks.j kernelMasks.same kernelMasks.l0 kernelMasks.l1 kernelMasks.l2 kernelMasks.tri kernelMasks.strict kernelMasks.after (harg1.unread X.x0) (harg2.unread X.x1) (harg3.unread X.x2) (harg4.unread X.x3) (harg5.unread X.x4) (harg6.unread X.x5) (harg7.unread X.x6) (harg8.unread X.x7) (harg9.unread X.x8) (harg10.unread X.x9) (harg11.unread X.x10) trip0)
  have t1 := trip_value (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip1
  have t0 := trip_value (F := F) Variants.none c none i (insOf arg1 harg1 arg2 harg2 arg3 harg3 arg4 harg4 arg5 harg5 arg6 harg6 arg7 harg7 arg8 harg8 arg9 harg9 arg10 harg10 arg11 harg11 X) kernelMasks harg1 harg2 harg3 harg4 harg5 harg6 harg7 harg8 harg9 harg10 harg11 (Memref.whole main_arg13) (Memref.isWhole_whole _) (Memref.whole main_arg14) (Memref.isWhole_whole _) (Memref.whole main_arg15) (Memref.isWhole_whole _) arg15 harg15 arg16 harg16 arg17 harg17 arg18 harg18 arg19 harg19 trip0
  exact e2.trans (congrArg₂ (· ++ ·) t1 (e1.trans (congrArg₂ (· ++ ·) t0 rfl)))

end

end Cert.Mix
-- ==== Proof.MixerOuts.lean ====
/- What the mixer kernel's blocks hold after a grid point: the attention's outputs and the shifted windows of every row. -/
module

public import proofs.«01_k».proof.Proof.MixerBlock
public import proofs.«01_k».proof.Proof.MixerAttend
public import Idealize.ShloMosaic.Lib.Pipeline.ValueKit

@[expose] public section

set_option maxRecDepth 16384

noncomputable section

namespace Cert.Mix

open Cert.MixerIdeal Cert.MixerIdeal.Facts Cert.MixerIdeal.Gen Idealize.ShloMosaic Idealize.SL.Sem

/-- The attention's block: row, position, and the lane, which holds a column of a head. -/
def attBlock (X : Blocks Ideal) (r : Fin 8) (t : Fin 8) (l : Fin 1024) : EReal :=
  attendAt (X.row r) ⟨l.val / 256, by omega⟩ ⟨l.val / 64 % 4, by omega⟩ t ⟨l.val % 64, by omega⟩

theorem att_piece (X : Blocks Ideal) (k : Fin k0_t1_loop.trips) (d h g : Fin 4) (x : S1x8x64.Idx) (y : S8x8x1024.Idx)
    (hx : ∀ a : Fin 3, offAtt k d (headOf h g) a + (x a).val = (y a).val) :
    attendOut (X.row (rowOf k d)) h g x = attBlock X (y 0) (y 1) (y 2) := by
  have h0 : 4 * k.val + d.val + (x 0).val = (y 0).val := (congrArg (· + (x 0).val) (congrFun (offAtt_eq k d (headOf h g)) 0)).symm.trans (hx 0)
  have h1 : 0 + (x 1).val = (y 1).val := (congrArg (· + (x 1).val) (congrFun (offAtt_eq k d (headOf h g)) 1)).symm.trans (hx 1)
  have h2 : 64 * (4 * h.val + g.val) + (x 2).val = (y 2).val := (congrArg (· + (x 2).val) (congrFun (offAtt_eq k d (headOf h g)) 2)).symm.trans (hx 2)
  have b0 : (x 0).val < 1 := (x 0).isLt
  have b2 : (x 2).val < 64 := (x 2).isLt
  have ex : x = ix3 (0 : Fin 1) (⟨(x 1).val, (x 1).isLt⟩ : Fin 8) (⟨(x 2).val, (x 2).isLt⟩ : Fin 64) := by
    funext a
    match a with
    | ⟨0, _⟩ => exact Fin.ext (by show (x 0).val = 0; omega)
    | ⟨1, _⟩ => rfl
    | ⟨2, _⟩ => rfl
  rw [ex, attendOut_apply]
  unfold attBlock
  congr 1
  · exact congrArg X.row (Fin.ext (by show 4 * k.val + d.val = (y 0).val; omega))
  · exact Fin.ext (by show h.val = (y 2).val / 256; omega)
  · exact Fin.ext (by show g.val = (y 2).val / 64 % 4; omega)
  · exact Fin.ext (by show (x 1).val = (y 1).val; omega)
  · exact Fin.ext (by show (x 2).val = (y 2).val % 64; omega)

/-- A window's block. -/
def winBlock (w : Fin 8 → Fin 136 → Fin 256 → EReal) (r : Fin 8) (k : Fin 128) (j : Fin 256) : EReal := w r ⟨8 + k.val, by omega⟩ j

theorem win_piece (w : Fin 8 → Fin 136 → Fin 256 → EReal) (c : Fin 8 → Vec Ideal S1x1x128x256 .f32) (n : Fin 8 → Vec Ideal S1x8x256 .f32)
    (hw : ∀ r, w r = windowAt (c r) (n r)) (k : Fin k0_t1_loop.trips) (d : Fin 4) (x : S1x1x128x256.Idx) (y : S1x8x128x256.Idx)
    (hx : ∀ a : Fin 4, offWin k d a + (x a).val = (y a).val) :
    windowOut (c (rowOf k d)) (n (rowOf k d)) x = winBlock w (y 1) (y 2) (y 3) := by
  have h1 : 4 * k.val + d.val + (x 1).val = (y 1).val := (congrArg (· + (x 1).val) (congrFun (off1_eq k d) 1)).symm.trans (hx 1)
  have h2 : 0 + (x 2).val = (y 2).val := (congrArg (· + (x 2).val) (congrFun (off1_eq k d) 2)).symm.trans (hx 2)
  have h3 : 0 + (x 3).val = (y 3).val := (congrArg (· + (x 3).val) (congrFun (off1_eq k d) 3)).symm.trans (hx 3)
  have b0 : (x 0).val < 1 := (x 0).isLt
  have b1 : (x 1).val < 1 := (x 1).isLt
  have ex : x = ix4 (0 : Fin 1) (0 : Fin 1) (⟨(x 2).val, (x 2).isLt⟩ : Fin 128) (⟨(x 3).val, (x 3).isLt⟩ : Fin 256) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  rw [ex, windowOut_apply]
  unfold winBlock
  rw [← hw]
  congr 1
  · exact Fin.ext (by show 4 * k.val + d.val = (y 1).val; omega)
  · exact Fin.ext (by show 8 + (x 2).val = 8 + (y 2).val; omega)
  · exact Fin.ext (by show (x 3).val = (y 3).val; omega)

section
variable (c : Dev nD) (i : grid0.Coords) (arg1 : Memref sig .tc .vmem S8x8x3072 .f32) (harg1 : arg1.IsWhole) (arg2 : Memref sig .tc .vmem S8x8x1024 .f32) (harg2 : arg2.IsWhole) (arg3 : Memref sig .tc .vmem S8x8x128 .f32) (harg3 : arg3.IsWhole) (arg4 : Memref sig .tc .vmem S1x128 .f32) (harg4 : arg4.IsWhole) (arg5 : Memref sig .tc .vmem S1x8x8x128x128 .f32) (harg5 : arg5.IsWhole) (arg6 : Memref sig .tc .vmem S8x8x1024 .bf16) (harg6 : arg6.IsWhole) (arg7 : Memref sig .tc .vmem S8x8x256 .f32) (harg7 : arg7.IsWhole) (arg8 : Memref sig .tc .vmem S8x8x256 .f32) (harg8 : arg8.IsWhole) (arg9 : Memref sig .tc .vmem S1x8x128x256 .f32) (harg9 : arg9.IsWhole) (arg10 : Memref sig .tc .vmem S1x8x128x256 .f32) (harg10 : arg10.IsWhole) (arg11 : Memref sig .tc .vmem S4x136x32 .f32) (harg11 : arg11.IsWhole) (arg15 : Memref sig .tc .vmem S8x8x1024 .bf16) (harg15 : arg15.IsWhole) (arg16 : Memref sig .tc .vmem S1x8x8x128x128 .f32) (harg16 : arg16.IsWhole) (arg17 : Memref sig .tc .vmem S8x8x1024 .bf16) (harg17 : arg17.IsWhole) (arg18 : Memref sig .tc .vmem S1x8x128x256 .f32) (harg18 : arg18.IsWhole) (arg19 : Memref sig .tc .vmem S1x8x128x256 .f32) (harg19 : arg19.IsWhole) (X : Blocks Ideal)

set_option maxHeartbeats 4000000 in
theorem out13_apply (y : S8x8x1024.Idx) : out0_A_13 c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10 y = attBlock X (y 0) (y 1) (y 2) := by
  unfold out0_A_13
  rw [View.read_writes_junk_eq_canon]
  refine View.canon_eq_of_allAt _ _ _ (cover0_A_13 c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10 y) ?_
  rw [pieces13]
  intro p hp x hx
  simp only [List.mem_append, List.not_mem_nil, or_false] at hp
  rcases hp with hp | hp
  all_goals
    obtain ⟨⟨d, h, g⟩, -, rfl⟩ := List.mem_map.1 hp
    refine Eq.trans (congrFun (congrArg (fun A => attendOut A h g) (at_eq arg1 harg1 arg2 harg2 arg3 harg3 arg4 harg4 arg5 harg5 arg6 harg6 arg7 harg7 arg8 harg8 arg9 harg9 arg10 harg10 arg11 harg11 X _ d)) x) (att_piece X _ d h g x y fun a => ?_)
    rw [← hx]
    exact (ValueKit.rect_emb_unit_val _ _ (offAtt_inb _ d (headOf h g)) x a).symm

set_option maxHeartbeats 4000000 in
theorem out14_apply (y : S1x8x128x256.Idx) :
    out0_A_14 c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10 y = winBlock (fun r => windowAt (X.row r).kc (X.row r).kn) (y 1) (y 2) (y 3) := by
  unfold out0_A_14
  rw [View.read_writes_junk_eq_canon]
  refine View.canon_eq_of_allAt _ _ _ (cover0_A_14 c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10 y) ?_
  rw [pieces14]
  intro p hp x hx
  simp only [List.mem_append, List.not_mem_nil, or_false] at hp
  rcases hp with hp | hp
  all_goals
    obtain ⟨d, -, rfl⟩ := List.mem_map.1 hp
    refine Eq.trans (congrFun (congrArg (fun A => windowOut A.kc A.kn) (at_eq arg1 harg1 arg2 harg2 arg3 harg3 arg4 harg4 arg5 harg5 arg6 harg6 arg7 harg7 arg8 harg8 arg9 harg9 arg10 harg10 arg11 harg11 X _ d)) x)
      (win_piece _ (fun r => (X.row r).kc) (fun r => (X.row r).kn) (fun r => rfl) _ d x y fun a => ?_)
    rw [← hx]
    exact (ValueKit.rect_emb_unit_val _ _ (k0_off1_inb _ d) x a).symm

set_option maxHeartbeats 4000000 in
theorem out15_apply (y : S1x8x128x256.Idx) :
    out0_A_15 c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10 y = winBlock (fun r => windowAt (X.row r).vc (X.row r).vn) (y 1) (y 2) (y 3) := by
  unfold out0_A_15
  rw [View.read_writes_junk_eq_canon]
  refine View.canon_eq_of_allAt _ _ _ (cover0_A_15 c i arg1 harg1 arg2 harg2 arg3 harg3 arg4 harg4 arg5 harg5 arg6 harg6 arg7 harg7 arg8 harg8 arg9 harg9 arg10 harg10 arg11 harg11 arg15 harg15 arg16 harg16 arg17 harg17 arg18 harg18 arg19 harg19 X.x0 X.x1 X.x2 X.x3 X.x4 X.x5 X.x6 X.x7 X.x8 X.x9 X.x10 y) ?_
  rw [pieces15]
  intro p hp x hx
  simp only [List.mem_append, List.not_mem_nil, or_false] at hp
  rcases hp with hp | hp
  all_goals
    obtain ⟨d, -, rfl⟩ := List.mem_map.1 hp
    refine Eq.trans (congrFun (congrArg (fun A => windowOut A.vc A.vn) (at_eq arg1 harg1 arg2 harg2 arg3 harg3 arg4 harg4 arg5 harg5 arg6 harg6 arg7 harg7 arg8 harg8 arg9 harg9 arg10 harg10 arg11 harg11 X _ d)) x)
      (win_piece _ (fun r => (X.row r).vc) (fun r => (X.row r).vn) (fun r => rfl) _ d x y fun a => ?_)
    rw [← hx]
    exact (ValueKit.rect_emb_unit_val _ _ (k0_off1_inb _ d) x a).symm

end

end Cert.Mix

end
-- ==== Proof.MixerArray.lean ====
/- The mixer kernel's result arrays of branch B: what the grid points write back, put together. -/
module

public import proofs.«01_k».proof.Proof.MixerHost
public import proofs.«01_k».proof.Proof.MixerSpec
public import proofs.«01_k».proof.Proof.MixerOuts

@[expose] public section

set_option maxRecDepth 16384

noncomputable section

namespace Cert.MixKernel

open Cert.MixerIdeal Cert.MixerIdeal.Facts Cert.MixerIdeal.Gen Idealize.ShloMosaic Idealize.ShloMosaic.TcCoe Cert.Mix

variable (m : (ℓ : Loc nD τ sig) → Buf (Elt Ideal) ℓ) (c : Dev nD)

/-- What the attention of sequence `b` reads, in the argument arrays. -/
def attArgs (b : Fin 128) : AttArgs where
  q t l := m ((c : Thread nD τ).loc main_arg6) (ix3 b t l)
  k k j := if h : k.val < 128 then m ((c : Thread nD τ).loc main_arg9) (ix5 1 b ⟨k.val, h⟩ ⟨j.val / 64, by omega⟩ ⟨j.val % 64, by omega⟩)
    else m ((c : Thread nD τ).loc main_arg7) (ix3 b ⟨k.val - 128, by omega⟩ j)
  v k j := if h : k.val < 128 then m ((c : Thread nD τ).loc main_arg10) (ix5 1 b ⟨k.val, h⟩ ⟨j.val / 64, by omega⟩ ⟨j.val % 64, by omega⟩)
    else m ((c : Thread nD τ).loc main_arg8) (ix3 b ⟨k.val - 128, by omega⟩ j)
  bias h t k := gathered m c (ix3 h t k)
  sink h := m ((c : Thread nD τ).loc main_arg12) (ix2 1 h)

/-- Where each window's block stands at a grid point. -/
theorem idx : ∀ t : Fin cfg0.N,
    win0_5.index t = ![t.val, 0, 0] ∧ win0_6.index t = ![t.val, 0, 0] ∧ win0_7.index t = ![t.val, 0, 0]
    ∧ win0_8.index t = ![1, t.val, 0, 0] ∧ win0_9.index t = ![1, t.val, 0, 0] ∧ win0_10.index t = ![0, 0, 0]
    ∧ win0_13.index t = ![t.val, 0, 0] ∧ win0_14.index t = ![1, t.val, 0, 0] ∧ win0_15.index t = ![1, t.val, 0, 0] :=
  (by decide +kernel : ∀ t : Fin grid0.N, _)

/-- The sequence that row `r` of a grid point's block is. -/
def batchOf (t : Fin cfg0.N) (r : Fin 8) : Fin 128 := ⟨t.val * 8 + r.val, by have := t.isLt; have : cfg0.N = 16 := rfl; omega⟩

/-- The blocks of a grid point. -/
def blocks (t : Fin cfg0.N) : Blocks Ideal :=
  ⟨iblk m c 0 t, iblk m c 1 t, iblk m c 2 t, iblk m c 3 t, iblk m c 4 t, iblk m c 5 t, iblk m c 6 t, iblk m c 7 t, iblk m c 8 t, iblk m c 9 t, iblk m c 10 t⟩

set_option maxHeartbeats 4000000 in
theorem holds (t : Fin cfg0.N) (r : Fin 8) : Holds ((blocks m c t).row r) (attArgs m c (batchOf t r)) where
  q p l := by
    have e : (win0_5.blk t).view.emb (ix3 r p l) = ix3 (batchOf t r) p l := by unfold batchOf; blk_ext [idx t]
    show V m c main_v24 ((win0_5.blk t).view.emb (ix3 r p l)) = _
    rw [e, v24_apply]
    rfl
  k k j := by
    unfold windowAt attArgs
    dsimp only
    by_cases h : k.val < 128
    · rw [dif_pos h, dif_pos h]
      have e : (win0_8.blk t).view.emb (ix4 0 r ⟨k.val, h⟩ j) = ix4 1 (batchOf t r) ⟨k.val, h⟩ j := by unfold batchOf; blk_ext [idx t]
      show V m c main_v25 ((win0_8.blk t).view.emb (ix4 0 r ⟨k.val, h⟩ j)) = _
      rw [e, v25_apply]
    · rw [dif_neg h, dif_neg h]
      have e : (win0_6.blk t).view.emb (ix3 r (⟨k.val - 128, by omega⟩ : Fin 8) j) = ix3 (batchOf t r) ⟨k.val - 128, by omega⟩ j := by unfold batchOf; blk_ext [idx t]
      show V m c main_arg7 ((win0_6.blk t).view.emb (ix3 r (⟨k.val - 128, by omega⟩ : Fin 8) j)) = _
      rw [e]
      rfl
  v k j := by
    unfold windowAt attArgs
    dsimp only
    by_cases h : k.val < 128
    · rw [dif_pos h, dif_pos h]
      have e : (win0_9.blk t).view.emb (ix4 0 r ⟨k.val, h⟩ j) = ix4 1 (batchOf t r) ⟨k.val, h⟩ j := by unfold batchOf; blk_ext [idx t]
      show V m c main_v26 ((win0_9.blk t).view.emb (ix4 0 r ⟨k.val, h⟩ j)) = _
      rw [e, v26_apply]
    · rw [dif_neg h, dif_neg h]
      have e : (win0_7.blk t).view.emb (ix3 r (⟨k.val - 128, by omega⟩ : Fin 8) j) = ix3 (batchOf t r) ⟨k.val - 128, by omega⟩ j := by unfold batchOf; blk_ext [idx t]
      show V m c main_arg8 ((win0_7.blk t).view.emb (ix3 r (⟨k.val - 128, by omega⟩ : Fin 8) j)) = _
      rw [e]
      rfl
  bias h g p k := by
    have e : (win0_10.blk t).view.emb (ix3 h k (⟨8 * g.val + p.val, by omega⟩ : Fin 32)) = ix3 h k ⟨8 * g.val + p.val, by omega⟩ := by blk_ext [idx t]
    show V m c main_v18 ((win0_10.blk t).view.emb (ix3 h k (⟨8 * g.val + p.val, by omega⟩ : Fin 32))) = _
    rw [e, v18_apply]
    have e1 : (⟨h.val * 4 + g.val, by omega⟩ : Fin 16) = headOf h g := Fin.ext (by show h.val * 4 + g.val = 4 * h.val + g.val; omega)
    simp only [e1]
    rfl

/-- The attention's result. -/
def res13 (b : Fin 128) (t : Fin 8) (l : Fin 1024) : EReal :=
  refAttend (attArgs m c b) ⟨l.val / 256, by omega⟩ ⟨l.val / 64 % 4, by omega⟩ t ⟨l.val % 64, by omega⟩

set_option maxHeartbeats 4000000 in
theorem array13 (hfin : ∀ b, (attArgs m c b).Finite) : (dats m 0 c).arrAt 13 cfg0.N = fun i : S128x8x1024.Idx => res13 m c (i 0) (i 1) (i 2) := by
  refine (dats m 0 c).arrAt_eq_of_covers 13 _ (by decide +kernel) fun t hf y => ?_
  blk_simp
  rw [after0_13]
  have hy : y = ix3 (⟨(y 0).val, (y 0).isLt⟩ : Fin 8) (⟨(y 1).val, (y 1).isLt⟩ : Fin 8) (⟨(y 2).val, (y 2).isLt⟩ : Fin 1024) := by blk_ext
  have e0 : (win0_13.blk t).view.emb (ix3 (⟨(y 0).val, (y 0).isLt⟩ : Fin 8) (⟨(y 1).val, (y 1).isLt⟩ : Fin 8) (⟨(y 2).val, (y 2).isLt⟩ : Fin 1024))
      = ix3 (batchOf t ⟨(y 0).val, (y 0).isLt⟩) (⟨(y 1).val, (y 1).isLt⟩ : Fin 8) (⟨(y 2).val, (y 2).isLt⟩ : Fin 1024) := by
    unfold batchOf
    blk_ext [idx t]
  rw [hy]
  simp only [outsAt0]
  rw [e0]
  refine (Mix.out13_apply _ _ _ _ _ _ _ _ _ _ _ _ _ _ _ _ _ _ _ _ _ _ _ _ _ _ _ _ _ _ _ _ _ _ (blocks m c t) _).trans ?_
  exact attend_eq _ _ (holds m c t _) (hfin _) _ _ _ _

/-- What is written of the keys: the window moved on by the new rows. -/
def res14 (b : Fin 128) (k : Fin 128) (j : Fin 256) : EReal := (attArgs m c b).k ⟨8 + k.val, by omega⟩ j

theorem v27_3_eq : V m c main_v27_3 = m ((c : Thread nD τ).loc main_arg14) := by
  simp only [V, List.flatten_cons, List.flatten_nil, List.append_nil, hostOps0, hostOps0_1, hostOps0_2, hostOps0_3, hostOps0_4, List.cons_append, List.nil_append]
  entry_read
  rfl

set_option maxHeartbeats 4000000 in
theorem array14 : (dats m 0 c).arrAt 14 cfg0.N
    = fun i : S2x128x128x256.Idx => if 1 ≤ (i 0).val then res14 m c (i 1) (i 2) (i 3) else (m ((c : Thread nD τ).loc main_arg14) i : EReal) := by
  refine Eq.trans ?_ (congrArg (fun (q : S2x128x128x256.Idx → EReal) => fun i : S2x128x128x256.Idx => if 1 ≤ (i 0).val then res14 m c (i 1) (i 2) (i 3) else q i) (v27_3_eq m c))
  refine (dats m 0 c).arrAt_eq_of_coversWhere 14 _ (fun β => 1 ≤ β (0 : Fin _)) (by decide +kernel) (fun t hf y => ?_) (fun j => by blk_simp [Pipeline.Window.cell_apply]; rw [Nat.div_one])
  blk_simp
  rw [after0_14]
  have hy : y = ix4 (0 : Fin 1) (⟨(y 1).val, (y 1).isLt⟩ : Fin 8) (⟨(y 2).val, (y 2).isLt⟩ : Fin 128) (⟨(y 3).val, (y 3).isLt⟩ : Fin 256) := by
    have := (y 0).isLt
    blk_ext
  have e0 : (win0_14.blk t).view.emb (ix4 (0 : Fin 1) (⟨(y 1).val, (y 1).isLt⟩ : Fin 8) (⟨(y 2).val, (y 2).isLt⟩ : Fin 128) (⟨(y 3).val, (y 3).isLt⟩ : Fin 256))
      = ix4 1 (batchOf t ⟨(y 1).val, (y 1).isLt⟩) (⟨(y 2).val, (y 2).isLt⟩ : Fin 128) (⟨(y 3).val, (y 3).isLt⟩ : Fin 256) := by
    unfold batchOf
    blk_ext [idx t]
  rw [hy]
  simp only [outsAt0]
  rw [e0]
  refine (Mix.out14_apply _ _ _ _ _ _ _ _ _ _ _ _ _ _ _ _ _ _ _ _ _ _ _ _ _ _ _ _ _ _ _ _ _ _ (blocks m c t) _).trans ?_
  exact (holds m c t _).k _ _

/-- What is written of the values: the window moved on by the new rows. -/
def res15 (b : Fin 128) (k : Fin 128) (j : Fin 256) : EReal := (attArgs m c b).v ⟨8 + k.val, by omega⟩ j

theorem v27_4_eq : V m c main_v27_4 = m ((c : Thread nD τ).loc main_arg15) := by
  simp only [V, List.flatten_cons, List.flatten_nil, List.append_nil, hostOps0, hostOps0_1, hostOps0_2, hostOps0_3, hostOps0_4, List.cons_append, List.nil_append]
  entry_read
  rfl

set_option maxHeartbeats 4000000 in
theorem array15 : (dats m 0 c).arrAt 15 cfg0.N
    = fun i : S2x128x128x256.Idx => if 1 ≤ (i 0).val then res15 m c (i 1) (i 2) (i 3) else (m ((c : Thread nD τ).loc main_arg15) i : EReal) := by
  refine Eq.trans ?_ (congrArg (fun (q : S2x128x128x256.Idx → EReal) => fun i : S2x128x128x256.Idx => if 1 ≤ (i 0).val then res15 m c (i 1) (i 2) (i 3) else q i) (v27_4_eq m c))
  refine (dats m 0 c).arrAt_eq_of_coversWhere 15 _ (fun β => 1 ≤ β (0 : Fin _)) (by decide +kernel) (fun t hf y => ?_) (fun j => by blk_simp [Pipeline.Window.cell_apply]; rw [Nat.div_one])
  blk_simp
  rw [after0_15]
  have hy : y = ix4 (0 : Fin 1) (⟨(y 1).val, (y 1).isLt⟩ : Fin 8) (⟨(y 2).val, (y 2).isLt⟩ : Fin 128) (⟨(y 3).val, (y 3).isLt⟩ : Fin 256) := by
    have := (y 0).isLt
    blk_ext
  have e0 : (win0_15.blk t).view.emb (ix4 (0 : Fin 1) (⟨(y 1).val, (y 1).isLt⟩ : Fin 8) (⟨(y 2).val, (y 2).isLt⟩ : Fin 128) (⟨(y 3).val, (y 3).isLt⟩ : Fin 256))
      = ix4 1 (batchOf t ⟨(y 1).val, (y 1).isLt⟩) (⟨(y 2).val, (y 2).isLt⟩ : Fin 128) (⟨(y 3).val, (y 3).isLt⟩ : Fin 256) := by
    unfold batchOf
    blk_ext [idx t]
  rw [hy]
  simp only [outsAt0]
  rw [e0]
  refine (Mix.out15_apply _ _ _ _ _ _ _ _ _ _ _ _ _ _ _ _ _ _ _ _ _ _ _ _ _ _ _ _ _ _ _ _ _ _ (blocks m c t) _).trans ?_
  exact (holds m c t _).v _ _

end Cert.MixKernel

end
-- ==== Proof.MixerFinite.lean ====
/- What the precondition says: the queries, keys, biases and sinks that the attention reads are real numbers. -/
module

public import proofs.«01_k».proof.Defs
public import proofs.«01_k».proof.Proof.Gen.Pre_scores_finite
public import proofs.«01_k».proof.Proof.MixerArray
public import Idealize.ShloMosaic.Lib.Affine
public import Idealize.ShloMosaic.Lib.ReduceAll

@[expose] public section

set_option maxRecDepth 16384

noncomputable section

namespace Cert.PreMix

open Cert.Pre_scores_finite Cert.Pre_scores_finite.Facts Idealize.ShloMosaic Idealize.ShloMosaic.TcCoe

theorem posInf : Ideal.ofBits .f32 0x7F800000#32 = ⊤ := by
  simp [Ideal.ofBits, Ideal.ieee]

instance : Subsingleton S_.Idx := ⟨fun a b => funext fun i => i.elim0⟩

/-- A value whose magnitude is below `+∞` is a real number. -/
theorem fin_of_abs (x : EReal) (h : max x (-x) < ⊤) : Mix.Fin' x :=
  ⟨fun e => by rw [e] at h; simp at h, fun e => by rw [e] at h; simp at h⟩

/-- An array whose magnitudes are all found below `+∞` holds real numbers. -/
theorem all_fin (s : Shape) (x : FVec Ideal s .f32) (hb : S_.BroadcastsInDim s (![] : Fin 0 → Fin s.rank)) {dims : List (Fin s.rank)} (hr : s.ReducesTo dims S_) (j : S_.Idx)
    (e : Host.reduce IntOp.andi (cmpf .olt (Host.absf x) (broadcastInDim s ![] hb (constant S_ .f32 0x7F800000#32))) (constantI S_ 1 1#1) hr h_S_ j = 1#1) (i : s.Idx) :
    Mix.Fin' (x i) := by
  have h := Host.reduce_andi_all _ _ _ _ j e i
  have h' : Ideal.cmp .olt (max (x i : EReal) (-(x i : EReal))) (Ideal.ofBits .f32 0x7F800000#32) = 1 := h
  rw [Ideal.cmp_olt_eq_one, posInf] at h'
  exact fin_of_abs _ h'

/-- Layer 1 of a pair of caches. -/
theorem layer_apply (x : FVec Ideal S2x128x128x4x64 .f32) (b k : Fin 128) (h : Fin 4) (d : Fin 64) :
    shapeCast S128x128x4x64 (extractStridedSlice S1x128x128x4x64 ![1, 0, 0, 0, 0] x slices_S2x128x128x4x64_S1x128x128x4x64_1_0_0_0_0) shapeCasts_S1x128x128x4x64_S128x128x4x64 (ix4 b k h d)
      = x (ix5 1 b k h d) := by pointwise

/-- Row 1 of the sinks. -/
theorem row_apply (x : FVec Ideal S2x16 .f32) (h : Fin 16) :
    shapeCast S16 (extractStridedSlice S1x16 ![1, 0] x slices_S2x16_S1x16_1_0) shapeCasts_S1x16_S16 (ix1 h) = x (ix2 1 h) := by pointwise

variable (m : (ℓ : Loc Cert.MixerIdeal.nD Cert.MixerIdeal.τ Cert.MixerIdeal.sig) → Buf (Elt Ideal) ℓ) (c : Dev Cert.MixerIdeal.nD)

set_option maxHeartbeats 4000000 in
/-- The attention's operands are real numbers under the precondition. -/
theorem finite (hpre : Cert.Pre_MixerIdeal_scores_finite m) (b : Fin 128) : (MixKernel.attArgs m c b).Finite := by
  have h := congrFun (hpre c) (fun i => i.elim0)
  dsimp only [fn, fn_part1] at h
  simp only [andi] at h
  rw [IntOp.andi_eq_one, IntOp.andi_eq_one, IntOp.andi_eq_one, IntOp.andi_eq_one] at h
  obtain ⟨⟨⟨⟨h6, h7⟩, h9⟩, h11⟩, h12⟩ := h
  have k6 := all_fin S128x8x1024 (m ((c.tc : Thread Cert.MixerIdeal.nD Cert.MixerIdeal.τ).loc Cert.MixerIdeal.main_arg6)) bcast_S_S128x8x1024 reducesTo_S128x8x1024_S_d0_1_2 _ h6
  have k7 := all_fin S128x8x256 (m ((c.tc : Thread Cert.MixerIdeal.nD Cert.MixerIdeal.τ).loc Cert.MixerIdeal.main_arg7)) bcast_S_S128x8x256 reducesTo_S128x8x256_S_d0_1_2 _ h7
  have k9 := all_fin S128x128x4x64 _ bcast_S_S128x128x4x64 reducesTo_S128x128x4x64_S_d0_1_2_3 _ h9
  have k11 := all_fin S32x16 (m ((c.tc : Thread Cert.MixerIdeal.nD Cert.MixerIdeal.τ).loc Cert.MixerIdeal.main_arg11)) bcast_S_S32x16 reducesTo_S32x16_S_d0_1 _ h11
  have k12 := all_fin S16 _ bcast_S_S16 reducesTo_S16_S_d0 _ h12
  refine ⟨fun t l => k6 _, fun k j => ?_, fun h t k => ?_, fun h => ?_⟩
  · unfold MixKernel.attArgs
    dsimp only
    split_ifs with hk
    · have e := k9 (ix4 b ⟨k.val, hk⟩ ⟨j.val / 64, by omega⟩ ⟨j.val % 64, by omega⟩)
      rw [layer_apply] at e
      exact e
    · exact k7 _
  · obtain ⟨x, hx⟩ : ∃ x, MixKernel.gathered m c (ix3 h t k) = transpose Cert.MixerIdeal.S16x32 [1, 0] (m ((c : Thread Cert.MixerIdeal.nD Cert.MixerIdeal.τ).loc Cert.MixerIdeal.main_arg11)) Cert.MixerIdeal.Gen.transposes_S32x16_S16x32_1_0 x := ⟨_, rfl⟩
    show Mix.Fin' (MixKernel.gathered m c (ix3 h t k))
    rw [hx]
    exact k11 _
  · have e := k12 (ix1 h)
    rw [row_apply] at e
    exact e

end Cert.PreMix

end
-- ==== Proof.MixerRef.lean ====
/- What the mixer reference's result arrays of branch B hold. -/
module

public import proofs.«01_k».proof.Proof.Gen.MixerRefIdeal.Run
public import proofs.«01_k».proof.Proof.MixerSpec

@[expose] public section

set_option maxRecDepth 16384

noncomputable section

namespace Cert.MixRef

open Cert.MixerRefIdeal Cert.MixerRefIdeal.Gen Cert.MixerRefIdeal.Value Idealize.ShloMosaic Idealize.ShloMosaic.TcCoe StableHlo

variable (m : (ℓ : Loc nD τ sig) → Buf (Elt Ideal) ℓ) (c : Dev nD)

/-- What the attention of sequence `b` reads, in the argument arrays, over a gathered bias. -/
def attArgs (bias : S16x8x136.Idx → EReal) (b : Fin 128) : Mix.AttArgs where
  q t l := m ((c : Thread nD τ).loc main_arg6) (ix3 b t l)
  k k j := if h : k.val < 128 then m ((c : Thread nD τ).loc main_arg9) (ix5 1 b ⟨k.val, h⟩ ⟨j.val / 64, by omega⟩ ⟨j.val % 64, by omega⟩)
    else m ((c : Thread nD τ).loc main_arg7) (ix3 b ⟨k.val - 128, by omega⟩ j)
  v k j := if h : k.val < 128 then m ((c : Thread nD τ).loc main_arg10) (ix5 1 b ⟨k.val, h⟩ ⟨j.val / 64, by omega⟩ ⟨j.val % 64, by omega⟩)
    else m ((c : Thread nD τ).loc main_arg8) (ix3 b ⟨k.val - 128, by omega⟩ j)
  bias h t k := bias (ix3 h t k)
  sink h := m ((c : Thread nD τ).loc main_arg12) (ix2 1 h)

/-- The window of keys. -/
def keys : FVec Ideal S128x136x4x64 .f32 :=
  (concatenate S128x136x4x64 1 [⟨S128x128x4x64, (shapeCast _ (extractStridedSlice S1x128x128x4x64 ![1, 0, 0, 0, 0] (m ((c.tc : Thread nD τ).loc main_arg9)) slices_S2x128x128x4x64_S1x128x128x4x64_1_0_0_0_0) shapeCasts_S1x128x128x4x64_S128x128x4x64)⟩, ⟨S128x8x4x64, (shapeCast _ (m ((c.tc : Thread nD τ).loc main_arg7)) shapeCasts_S128x8x256_S128x8x4x64)⟩] concatenates_S128x128x4x64_S128x8x4x64_S128x136x4x64_d1)

/-- The window of values. -/
def values : FVec Ideal S128x136x4x64 .f32 :=
  (concatenate S128x136x4x64 1 [⟨S128x128x4x64, (shapeCast _ (extractStridedSlice S1x128x128x4x64 ![1, 0, 0, 0, 0] (m ((c.tc : Thread nD τ).loc main_arg10)) slices_S2x128x128x4x64_S1x128x128x4x64_1_0_0_0_0) shapeCasts_S1x128x128x4x64_S128x128x4x64)⟩, ⟨S128x8x4x64, (shapeCast _ (m ((c.tc : Thread nD τ).loc main_arg8)) shapeCasts_S128x8x256_S128x8x4x64)⟩] concatenates_S128x128x4x64_S128x8x4x64_S128x136x4x64_d1)

/-- The position bias of every head, query and key, gathered from the table of buckets. -/
def gathered : FVec Ideal S16x8x136 .f32 :=
  (Host.gather gather_S16x32_S8x136x1_S16x8x136_0_1_n_n_1_2_161 (transpose S16x32 [1, 0] (m ((c.tc : Thread nD τ).loc main_arg11)) transposes_S32x16_S16x32_1_0) (broadcastInDim S8x136x1 ![0, 1] bcast_S8x136_S8x136x1_0_1 (select (constantI S8x136 1 0#1) (addi ((fun i => lit0 (S8x136.rowMajor i))) (broadcastInDim S8x136 ![] bcast_S_S8x136 (constantI S_ 32 32#32))) ((fun i => lit0 (S8x136.rowMajor i))))))

/-- The masked scores. -/
def masked : FVec Ideal S128x4x4x8x136 .f32 :=
  (select (broadcastInDim S128x4x4x8x136 ![3, 4] bcast_S8x136_S128x4x4x8x136_3_4 ((fun i => lit1 (S8x136.rowMajor i)))) (addf (mulf (transpose S128x4x4x8x136 [0, 1, 4, 3, 2] (Host.dotGeneral dot_S128x136x4x64_S128x8x4x4x64_S128x4x136x8x4_3_4_1_13_02_02 (φ₂ := .f32) none (keys m c) (shapeCast _ (m ((c.tc : Thread nD τ).loc main_arg6)) shapeCasts_S128x8x1024_S128x8x4x4x64)) transposes_S128x4x136x8x4_S128x4x4x8x136_0_1_4_3_2) (broadcastInDim S128x4x4x8x136 ![] bcast_S_S128x4x4x8x136 (constant (F := Ideal) S_ .f32 0x3E000000#32))) (broadcastInDim S128x4x4x8x136 ![0, 1, 2, 3, 4] bcast_S1x4x4x8x136_S128x4x4x8x136_0_1_2_3_4 (broadcastInDim S1x4x4x8x136 ![1, 2, 3, 4] bcast_S4x4x8x136_S1x4x4x8x136_1_2_3_4 (shapeCast _ (gathered m c) shapeCasts_S16x8x136_S4x4x8x136)))) (broadcastInDim S128x4x4x8x136 ![] bcast_S_S128x4x4x8x136 (id (constant (F := Ideal) S_ .f32 0xFF800000#32))))

/-- The greatest score of a query, the sink among them. -/
def greatest : FVec Ideal S128x4x4x8x1 .f32 :=
  (maximumf (broadcastInDim S128x4x4x8x1 ![0, 1, 2, 3] bcast_S128x4x4x8_S128x4x4x8x1_0_1_2_3 (Host.reduce FloatOps.maximumf (masked m c) (constant (F := Ideal) S_ .f32 0xFF800000#32) reducesTo_S128x4x4x8x136_S128x4x4x8_d4 h_S_)) (broadcastInDim S128x4x4x8x1 ![0, 1, 2, 3, 4] bcast_S1x4x4x1x1_S128x4x4x8x1_0_1_2_3_4 (broadcastInDim S1x4x4x1x1 ![1, 2, 3, 4] bcast_S4x4x1x1_S1x4x4x1x1_1_2_3_4 (shapeCast _ (shapeCast _ (extractStridedSlice S1x16 ![1, 0] (m ((c.tc : Thread nD τ).loc main_arg12)) slices_S2x16_S1x16_1_0) shapeCasts_S1x16_S16) shapeCasts_S16_S4x4x1x1))))

/-- The exponentials of the scores. -/
def expd : FVec Ideal S128x4x4x8x136 .f32 :=
  (Host.exp (subf (masked m c) (broadcastInDim S128x4x4x8x136 ![0, 1, 2, 3, 4] bcast_S128x4x4x8x1_S128x4x4x8x136_0_1_2_3_4 (greatest m c))))

/-- The softmax. -/
def weights : FVec Ideal S128x4x4x8x136 .f32 :=
  (Host.divf (expd m c) (broadcastInDim S128x4x4x8x136 ![0, 1, 2, 3, 4] bcast_S128x4x4x8x1_S128x4x4x8x136_0_1_2_3_4 (addf (broadcastInDim S128x4x4x8x1 ![0, 1, 2, 3] bcast_S128x4x4x8_S128x4x4x8x1_0_1_2_3 (Host.reduceAdd (expd m c) (constant (F := Ideal) S_ .f32 0x00000000#32) reducesTo_S128x4x4x8x136_S128x4x4x8_d4 h_S_)) (Host.exp (subf (broadcastInDim S128x4x4x8x1 ![0, 1, 2, 3, 4] bcast_S1x4x4x1x1_S128x4x4x8x1_0_1_2_3_4 (broadcastInDim S1x4x4x1x1 ![1, 2, 3, 4] bcast_S4x4x1x1_S1x4x4x1x1_1_2_3_4 (shapeCast _ (shapeCast _ (extractStridedSlice S1x16 ![1, 0] (m ((c.tc : Thread nD τ).loc main_arg12)) slices_S2x16_S1x16_1_0) shapeCasts_S1x16_S16) shapeCasts_S16_S4x4x1x1))) (greatest m c))))))

/-- The attention. -/
def final : FVec Ideal S128x8x1024 .bf16 :=
  truncf .bf16 (shapeCast _ (transpose S128x8x4x4x64 [0, 4, 1, 3, 2] (Host.dotGeneral dot_S128x136x4x64_S128x4x4x8x136_S128x4x64x4x8_1_4_3_23_02_01 (φ₂ := .f32) none (values m c) (weights m c)) transposes_S128x4x64x4x8_S128x8x4x4x64_0_4_1_3_2) shapeCasts_S128x8x4x4x64_S128x8x1024) bitsLt_bf16_f32

set_option maxHeartbeats 4000000 in
theorem final_eq : res_main_v47 m c = final m c := rfl

theorem lit1_eq : ∀ (t : Fin 8) (k : Fin 136), lit1 (S8x136.rowMajor (ix2 t k)) = if t.val < k.val ∧ k.val ≤ 128 + t.val then 1#1 else 0#1 := by decide +kernel

/-- What the attention of sequence `b` reads. -/
abbrev args (b : Fin 128) : Mix.AttArgs := attArgs m c (gathered m c) b

theorem keys_read (b : Fin 128) (k : Fin 136) (h : Fin 4) (d : Fin 64) :
    keys m c (ix4 b k h d) = if h' : k.val < 128 then m ((c : Thread nD τ).loc main_arg9) (ix5 1 b ⟨k.val, h'⟩ h d)
      else m ((c : Thread nD τ).loc main_arg7) (ix3 b ⟨k.val - 128, by omega⟩ ⟨h.val * 64 + d.val, by omega⟩) := by
  pointwise [keys]

theorem values_read (b : Fin 128) (k : Fin 136) (h : Fin 4) (d : Fin 64) :
    values m c (ix4 b k h d) = if h' : k.val < 128 then m ((c : Thread nD τ).loc main_arg10) (ix5 1 b ⟨k.val, h'⟩ h d)
      else m ((c : Thread nD τ).loc main_arg8) (ix3 b ⟨k.val - 128, by omega⟩ ⟨h.val * 64 + d.val, by omega⟩) := by
  pointwise [values]

theorem keys_apply (b : Fin 128) (k : Fin 136) (h : Fin 4) (d : Fin 64) :
    keys m c (ix4 b k h d) = (args m c b).k k ⟨64 * h.val + d.val, by omega⟩ := by
  rw [keys_read]
  unfold args attArgs
  dsimp only
  have e1 : (⟨(64 * h.val + d.val) / 64, by omega⟩ : Fin 4) = h := Fin.ext (by show (64 * h.val + d.val) / 64 = h.val; omega)
  have e2 : (⟨(64 * h.val + d.val) % 64, by omega⟩ : Fin 64) = d := Fin.ext (by show (64 * h.val + d.val) % 64 = d.val; omega)
  have e3 : (⟨h.val * 64 + d.val, by omega⟩ : Fin 256) = ⟨64 * h.val + d.val, by omega⟩ := Fin.ext (by show h.val * 64 + d.val = 64 * h.val + d.val; omega)
  rw [e1, e2, e3]

theorem values_apply (b : Fin 128) (k : Fin 136) (h : Fin 4) (d : Fin 64) :
    values m c (ix4 b k h d) = (args m c b).v k ⟨64 * h.val + d.val, by omega⟩ := by
  rw [values_read]
  unfold args attArgs
  dsimp only
  have e1 : (⟨(64 * h.val + d.val) / 64, by omega⟩ : Fin 4) = h := Fin.ext (by show (64 * h.val + d.val) / 64 = h.val; omega)
  have e2 : (⟨(64 * h.val + d.val) % 64, by omega⟩ : Fin 64) = d := Fin.ext (by show (64 * h.val + d.val) % 64 = d.val; omega)
  have e3 : (⟨h.val * 64 + d.val, by omega⟩ : Fin 256) = ⟨64 * h.val + d.val, by omega⟩ := Fin.ext (by show h.val * 64 + d.val = 64 * h.val + d.val; omega)
  rw [e1, e2, e3]

theorem head_eq (h g : Fin 4) : (⟨h.val * 4 + g.val, by omega⟩ : Fin 16) = Mix.headOf h g := Fin.ext (by show h.val * 4 + g.val = 4 * h.val + g.val; omega)

theorem masked_read (b : Fin 128) (h g : Fin 4) (t : Fin 8) (k : Fin 136) :
    masked m c (ix5 b h g t k) = Scalar.select (lit1 (S8x136.rowMajor (ix2 t k)))
      ((∑ x : Fin 64, keys m c (ix4 b k h x) * id (α := EReal) (m ((c : Thread nD τ).loc main_arg6) (ix3 b t ⟨h.val * 256 + g.val * 64 + x.val, by omega⟩)))
        * Ideal.ofBits .f32 0x3E000000#32 + gathered m c (ix3 ⟨h.val * 4 + g.val, by omega⟩ t k)) (Ideal.ofBits .f32 0xFF800000#32) := by
  pointwise [masked]
  rfl

theorem masked_apply (b : Fin 128) (h g : Fin 4) (t : Fin 8) (k : Fin 136) :
    masked m c (ix5 b h g t k) = Mix.refScore (args m c b) h g t k := by
  rw [masked_read, lit1_eq, Mix.negInf, head_eq]
  have e (x : Fin 64) : (⟨h.val * 256 + g.val * 64 + x.val, by omega⟩ : Fin 1024) = ⟨64 * (Mix.headOf h g).val + x.val, by have := (Mix.headOf h g).isLt; omega⟩ :=
    Fin.ext (by show h.val * 256 + g.val * 64 + x.val = 64 * (4 * h.val + g.val) + x.val; omega)
  simp only [keys_apply, e]
  unfold Mix.refScore
  split_ifs <;> rfl

theorem greatest_apply (b : Fin 128) (h g : Fin 4) (t : Fin 8) :
    greatest m c (ix5 b h g t 0) = max (Finset.univ.sup (Mix.refScore (args m c b) h g t)) ((args m c b).sink (Mix.headOf h g)) := by
  pointwise [greatest]
  simp only [masked_apply, Mix.fold_max_eq, head_eq]
  rfl

theorem expd_apply (b : Fin 128) (h g : Fin 4) (t : Fin 8) (k : Fin 136) :
    expd m c (ix5 b h g t k) = Ideal.exp (Mix.refScore (args m c b) h g t k
      - max (Finset.univ.sup (Mix.refScore (args m c b) h g t)) ((args m c b).sink (Mix.headOf h g))) := by
  pointwise [expd]
  rw [masked_apply, greatest_apply]

theorem weights_apply (b : Fin 128) (h g : Fin 4) (t : Fin 8) (k : Fin 136) :
    weights m c (ix5 b h g t k) = Ideal.div (expd m c (ix5 b h g t k)) ((∑ x : Fin 136, expd m c (ix5 b h g t x))
      + Ideal.exp ((args m c b).sink (Mix.headOf h g) - greatest m c (ix5 b h g t 0))) := by
  pointwise [weights]
  simp only [head_eq]
  rfl

/-- The attention's result. -/
def res13 (b : Fin 128) (t : Fin 8) (l : Fin 1024) : EReal :=
  Mix.refAttend (args m c b) ⟨l.val / 256, by omega⟩ ⟨l.val / 64 % 4, by omega⟩ t ⟨l.val % 64, by omega⟩

theorem final_apply (b : Fin 128) (t : Fin 8) (l : Fin 1024) : final m c (ix3 b t l) = res13 m c b t l := by
  pointwise [final]
  simp only [weights_apply, values_apply, expd_apply, greatest_apply]
  exact Finset.sum_congr rfl fun x _ => mul_comm _ _

/-- The windows that are written, over a window of 136 rows. -/
def moved (w : FVec Ideal S128x136x4x64 .f32) : FVec Ideal S1x128x128x256 .f32 :=
  broadcastInDim S1x128x128x256 ![1, 2, 3] bcast_S128x128x256_S1x128x128x256_1_2_3 (shapeCast _ (extractStridedSlice S128x128x4x64 ![0, 8, 0, 0] w slices_S128x136x4x64_S128x128x4x64_0_8_0_0) shapeCasts_S128x128x4x64_S128x128x256)

theorem moved_apply (w : FVec Ideal S128x136x4x64 .f32) (b k : Fin 128) (j : Fin 256) :
    moved w (ix4 0 b k j) = w (ix4 b ⟨8 + k.val, by omega⟩ ⟨j.val / 64, by omega⟩ ⟨j.val % 64, by omega⟩) := by
  pointwise [moved]

/-- A cache whose layer 1 is replaced. -/
def stored (p : FVec Ideal S2x128x128x256 .f32) (w : FVec Ideal S1x128x128x256 .f32) : FVec Ideal S2x128x128x256 .f32 :=
  concatenate S2x128x128x256 0 [⟨S1x128x128x256, (extractStridedSlice S1x128x128x256 ![0, 0, 0, 0] p slices_S2x128x128x256_S1x128x128x256_0_0_0_0)⟩, ⟨S1x128x128x256, w⟩] concatenates_S1x128x128x256_S1x128x128x256_S2x128x128x256_d0

theorem stored_read (p : FVec Ideal S2x128x128x256 .f32) (w : FVec Ideal S1x128x128x256 .f32) (l : Fin 2) (b k : Fin 128) (j : Fin 256) :
    stored p w (ix4 l b k j) = if h : l.val < 1 then p (ix4 ⟨l.val, by omega⟩ b k j) else w (ix4 ⟨l.val - 1, by omega⟩ b k j) := by
  pointwise [stored]

theorem stored_apply (p : FVec Ideal S2x128x128x256 .f32) (w : FVec Ideal S1x128x128x256 .f32) (l : Fin 2) (b k : Fin 128) (j : Fin 256) :
    stored p w (ix4 l b k j) = if 1 ≤ l.val then w (ix4 0 b k j) else p (ix4 l b k j) := by
  rw [stored_read]
  by_cases h : l.val < 1
  · rw [dif_pos h, if_neg (by omega)]
  · rw [dif_neg h, if_pos (by omega)]
    exact congrArg (fun q => w (ix4 q b k j)) (Fin.ext (by show l.val - 1 = 0; have := l.isLt; omega))

end Cert.MixRef

end
-- ==== Proof.MixerClaims.lean ====
/- The mixer claim: under finite scores the kernel and the reference leave the same attention and the same caches. -/
module

public import proofs.«01_k».proof.Defs
public import proofs.«01_k».proof.Proof.MixerFinite
public import proofs.«01_k».proof.Proof.MixerArray
public import proofs.«01_k».proof.Proof.MixerRef
public import Idealize.ShloMosaic.Adequacy
public import Idealize.ShloMosaic.Init

@[expose] public section

set_option maxRecDepth 16384

noncomputable section

namespace Cert.Proof.Mixer

open Idealize.ShloMosaic Idealize.ShloMosaic.TcCoe Idealize.SL.Sem

theorem buckets_eq : Cert.MixerRefIdeal.lit0 = Cert.MixerIdeal.lit0 :=
  funext (by decide +kernel : ∀ i, Cert.MixerRefIdeal.lit0 i = Cert.MixerIdeal.lit0 i)

section
variable (m : (ℓ : Loc Cert.MixerIdeal.nD Cert.MixerIdeal.τ Cert.MixerIdeal.sig) → Buf (Elt Ideal) ℓ)
  (m' : (ℓ : Loc Cert.MixerRefIdeal.nD Cert.MixerRefIdeal.τ Cert.MixerRefIdeal.sig) → Buf (Elt Ideal) ℓ) (c : Dev Cert.MixerIdeal.nD)

/-- One table of biases. -/
theorem gathered_eq (e : m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)) :
    MixRef.gathered m' c = MixKernel.gathered m c := by
  unfold MixRef.gathered MixKernel.gathered
  rw [e, buckets_eq]
  rfl

/-- One attention's operands. -/
theorem args_eq (b : Fin 128)
    (e6 : m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6))
    (e7 : m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7))
    (e8 : m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8))
    (e9 : m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9))
    (e10 : m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10))
    (e11 : m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11))
    (e12 : m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)) :
    MixRef.args m' c b = MixKernel.attArgs m c b := by
  have eb := gathered_eq m m' c e11
  unfold MixRef.args
  rw [eb]
  unfold MixRef.attArgs MixKernel.attArgs
  simp only [← e6, ← e7, ← e8, ← e9, ← e10, ← e12]

theorem lane_eq (j : Fin 256) : (⟨64 * (j.val / 64) + j.val % 64, by omega⟩ : Fin 256) = j := Fin.ext (by show 64 * (j.val / 64) + j.val % 64 = j.val; omega)
end

set_option maxHeartbeats 4000000 in
/-- The mixer kernel and the plain reference leave the same attention result and the same two caches. -/
theorem algebraic : Cert.algebraic_MixerIdeal_MixerRefIdeal_pre_scores_finite := by
  intro m ρ m' ρ' hpre hagree
  refine ⟨fun c i => MixKernel.res13 m c (i 0) (i 1) (i 2),
    fun c => fun i : Cert.MixerIdeal.S2x128x128x256.Idx => if 1 ≤ (i 0).val then MixKernel.res14 m c (i 1) (i 2) (i 3) else (m ((c : Thread Cert.MixerIdeal.nD Cert.MixerIdeal.τ).loc Cert.MixerIdeal.main_arg14) i : EReal),
    fun c => fun i : Cert.MixerIdeal.S2x128x128x256.Idx => if 1 ≤ (i 0).val then MixKernel.res15 m c (i 1) (i 2) (i 3) else (m ((c : Thread Cert.MixerIdeal.nD Cert.MixerIdeal.τ).loc Cert.MixerIdeal.main_arg15) i : EReal), ?_, ?_⟩
  · refine (θ_run Cert.MixerIdeal.defs _ _).mono (fun _ h c => ?_) (Cert.MixerIdeal.Value.run_blocks (F := Ideal) m ρ)
    obtain ⟨_, _, h13, h14, h15, hr⟩ := h c
    exact ⟨h13.trans (MixKernel.array13 m c fun b => PreMix.finite m c hpre b), h14.trans (MixKernel.array14 m c), h15.trans (MixKernel.array15 m c), hr⟩
  refine (θ_run Cert.MixerRefIdeal.defs _ _).mono (fun _ h c => ?_) (Cert.MixerRefIdeal.Value.run (F := Ideal) m' ρ')
  obtain ⟨e0, e1, e2, e3, e4, e5, e6, e7, e8, e9, e10, e11, e12, e13, e14, e15⟩ := hagree c
  have ha : ∀ b, MixRef.args m' c b = MixKernel.attArgs m c b := fun b => args_eq m m' c b e6 e7 e8 e9 e10 e11 e12
  obtain ⟨h13, h14, h15, hr⟩ := h c
  refine ⟨h13.trans ?_, h14.trans ?_, h15.trans ?_, hr⟩
  · rw [MixRef.final_eq]
    funext i
    obtain ⟨b, t, l, rfl⟩ : ∃ (b : Fin 128) (t : Fin 8) (l : Fin 1024), i = ix3 b t l := ⟨i 0, i 1, i 2, by blk_ext⟩
    refine (MixRef.final_apply m' c b t l).trans ?_
    unfold MixRef.res13
    rw [ha]
    rfl
  · show MixRef.stored (m' ((c.tc : Thread Cert.MixerRefIdeal.nD Cert.MixerRefIdeal.τ).loc Cert.MixerRefIdeal.main_arg14)) (MixRef.moved (MixRef.keys m' c)) = _
    funext i
    obtain ⟨l, b, k, j, rfl⟩ : ∃ (l : Fin 2) (b k : Fin 128) (j : Fin 256), i = ix4 l b k j := ⟨i 0, i 1, i 2, i 3, by blk_ext⟩
    rw [MixRef.stored_apply, MixRef.moved_apply, MixRef.keys_apply, lane_eq, ha, e14]
    rfl
  · show MixRef.stored (m' ((c.tc : Thread Cert.MixerRefIdeal.nD Cert.MixerRefIdeal.τ).loc Cert.MixerRefIdeal.main_arg15)) (MixRef.moved (MixRef.values m' c)) = _
    funext i
    obtain ⟨l, b, k, j, rfl⟩ : ∃ (l : Fin 2) (b k : Fin 128) (j : Fin 256), i = ix4 l b k j := ⟨i 0, i 1, i 2, i 3, by blk_ext⟩
    rw [MixRef.stored_apply, MixRef.moved_apply, MixRef.values_apply, lane_eq, ha, e15]
    rfl

/-- The reference's run leaves its arguments alone; it declares no semaphore. -/
theorem frame_reference : Cert.quiescent_MixerRefIdeal := fun m ρ _ =>
  (θ_run Cert.MixerRefIdeal.defs _ _).mono
    (fun r h => ⟨fun c => (h c).2.2.2, sem_eq_zero_of_no_sems (by decide) r.2⟩)
    (Cert.MixerRefIdeal.Value.run (F := Ideal) m ρ)

/-- The same under the precondition. -/
theorem frame_reference_pre : Cert.quiescent_MixerRefIdeal_pre_scores_finite := fun m ρ _ =>
  (θ_run Cert.MixerRefIdeal.defs _ _).mono
    (fun r h => ⟨fun c => (h c).2.2.2, sem_eq_zero_of_no_sems (by decide) r.2⟩)
    (Cert.MixerRefIdeal.Value.run (F := Ideal) m ρ)

end Cert.Proof.Mixer

end
-- ==== Proof.lean ====
module

public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.MixerIdeal.Value
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.TailSampleIdeal.Value
public import proofs.«01_k».proof.Proof.Gen.TailSample
public import proofs.«01_k».proof.Proof.Gen.TailSample.Skeleton
public import proofs.«01_k».proof.Proof.Gen.TailSample.Launch
public import proofs.«01_k».proof.Proof.Gen.TailSample.Points
public import proofs.«01_k».proof.Proof.Gen.TailSample.Frame
public import proofs.«01_k».proof.Proof.Gen.TailSampleIdeal
public import proofs.«01_k».proof.Proof.Gen.TailSampleIdeal.Skeleton
public import proofs.«01_k».proof.Proof.Gen.TailSampleIdeal.Launch
public import proofs.«01_k».proof.Proof.Gen.TailSampleIdeal.Points
public import proofs.«01_k».proof.Proof.Gen.TailSampleIdeal.Frame
public import proofs.«01_k».proof.Proof.Gen.FrontIdeal.Value
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontPromptIdeal.Value
public import proofs.«01_k».proof.Proof.Gen.FrontPrompt
public import proofs.«01_k».proof.Proof.Gen.FrontPrompt.Skeleton
public import proofs.«01_k».proof.Proof.Gen.FrontPrompt.Launch
public import proofs.«01_k».proof.Proof.Gen.FrontPrompt.Points
public import proofs.«01_k».proof.Proof.Gen.FrontPrompt.Frame
public import proofs.«01_k».proof.Proof.Gen.FrontPromptIdeal
public import proofs.«01_k».proof.Proof.Gen.FrontPromptIdeal.Skeleton
public import proofs.«01_k».proof.Proof.Gen.FrontPromptIdeal.Launch
public import proofs.«01_k».proof.Proof.Gen.FrontPromptIdeal.Points
public import proofs.«01_k».proof.Proof.Gen.FrontPromptIdeal.Frame
public import proofs.«01_k».proof.Proof.Gen.ReferenceIdeal.Run
public import proofs.«01_k».proof.Proof.Gen.ReferenceIdeal
public import proofs.«01_k».proof.Proof.Gen.MixerRefIdeal.Run
public import proofs.«01_k».proof.Proof.Gen.MixerRefIdeal
public import proofs.«01_k».proof.Proof.Gen.TailSampleRefIdeal.Run
public import proofs.«01_k».proof.Proof.Gen.TailSampleRefIdeal
public import proofs.«01_k».proof.Proof.Gen.FrontRefIdeal.Run
public import proofs.«01_k».proof.Proof.Gen.FrontRefIdeal
public import proofs.«01_k».proof.Proof.Gen.FrontPromptRefIdeal.Run
public import proofs.«01_k».proof.Proof.Gen.FrontPromptRefIdeal
public import proofs.«01_k».proof.Proof.FrontPromptClaims
public import proofs.«01_k».proof.Proof.TailClaims
public import proofs.«01_k».proof.Proof.TailSampleClaims
public import proofs.«01_k».proof.Proof.FrontClaims
public import proofs.«01_k».proof.Proof.MixerClaims
public import proofs.«01_k».proof.Proof.Gen.Pre_scores_finite
public import proofs.«01_k».proof.Defs
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Mixer.Gen.facts,
  Cert.MixerIdeal.Gen.facts,
  Cert.MixerRefIdeal.Gen.facts,
  Cert.TailSample.Gen.facts,
  Cert.TailSampleIdeal.Gen.facts,
  Cert.TailSampleRefIdeal.Gen.facts,
  Cert.Front.Gen.facts,
  Cert.FrontIdeal.Gen.facts,
  Cert.FrontRefIdeal.Gen.facts,
  Cert.FrontPrompt.Gen.facts,
  Cert.FrontPromptIdeal.Gen.facts,
  Cert.FrontPromptRefIdeal.Gen.facts,
  Cert.Pre_scores_finite.Gen.facts, by
  exact ⟨fun m ρ _ => Cert.Kernel.Gen.frame m ρ,
    fun m ρ _ => Cert.KernelIdeal.Gen.frame m ρ,
    Tail.frame_reference,
    fun m ρ _ => Cert.Mixer.Gen.frame m ρ,
    fun m ρ _ => Cert.MixerIdeal.Gen.frame m ρ,
    fun m ρ _ => Cert.MixerIdeal.Gen.frame m ρ,
    Mixer.frame_reference,
    Mixer.frame_reference_pre,
    fun m ρ _ => Cert.TailSample.Gen.frame m ρ,
    fun m ρ _ => Cert.TailSampleIdeal.Gen.frame m ρ,
    TailSample.frame_reference,
    fun m ρ _ => Cert.Front.Gen.frame m ρ,
    fun m ρ _ => Cert.FrontIdeal.Gen.frame m ρ,
    Front.frame_reference,
    fun m ρ _ => Cert.FrontPrompt.Gen.frame m ρ,
    fun m ρ _ => Cert.FrontPromptIdeal.Gen.frame m ρ,
    FrontPrompt.frame_reference,
    trivial,
    Tail.algebraic,
    trivial,
    Mixer.algebraic,
    trivial,
    TailSample.algebraic,
    trivial,
    Front.algebraic,
    trivial,
    FrontPrompt.algebraic⟩⟩

end Cert.Proof

end
